-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v24_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_v113) = v1 c
          ∧ r.2.mem ((c.tc : Thread Cert.Reference2Ideal.nD Cert.Reference2Ideal.τ).loc Cert.Reference2Ideal.main_v114) = v2 c
          ∧ r.2.mem ((c.tc : Thread Cert.Reference2Ideal.nD Cert.Reference2Ideal.τ).loc Cert.Reference2Ideal.main_v115) = v3 c
          ∧ r.2.mem ((c.tc : Thread Cert.Reference2Ideal.nD Cert.Reference2Ideal.τ).loc Cert.Reference2Ideal.main_v116) = v4 c
          ∧ r.2.mem ((c.tc : Thread Cert.Reference2Ideal.nD Cert.Reference2Ideal.τ).loc Cert.Reference2Ideal.main_v117) = v5 c
          ∧ r.2.mem ((c.tc : Thread Cert.Reference2Ideal.nD Cert.Reference2Ideal.τ).loc Cert.Reference2Ideal.main_v112) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)) (v7 : (c : Dev Cert.Kernel9Ideal.nD) → Buf (Elt Ideal) ((c.tc : Thread Cert.Kernel9Ideal.nD Cert.Kernel9Ideal.τ).loc Cert.Kernel9Ideal.main_v0_7)) (v8 : (c : Dev Cert.Kernel9Ideal.nD) → Buf (Elt Ideal) ((c.tc : Thread Cert.Kernel9Ideal.nD Cert.Kernel9Ideal.τ).loc Cert.Kernel9Ideal.main_v0_8)) (v9 : (c : Dev Cert.Kernel9Ideal.nD) → Buf (Elt Ideal) ((c.tc : Thread Cert.Kernel9Ideal.nD Cert.Kernel9Ideal.τ).loc Cert.Kernel9Ideal.main_v0_9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_v0_8) = v8 c
          ∧ r.2.mem ((c.tc : Thread Cert.Kernel9Ideal.nD Cert.Kernel9Ideal.τ).loc Cert.Kernel9Ideal.main_v0_9) = v9 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v105) = v0 c
          ∧ r.2.mem ((c.tc : Thread Cert.Reference9Ideal.nD Cert.Reference9Ideal.τ).loc Cert.Reference9Ideal.main_v87) = v1 c
          ∧ r.2.mem ((c.tc : Thread Cert.Reference9Ideal.nD Cert.Reference9Ideal.τ).loc Cert.Reference9Ideal.main_v106) = v2 c
          ∧ r.2.mem ((c.tc : Thread Cert.Reference9Ideal.nD Cert.Reference9Ideal.τ).loc Cert.Reference9Ideal.main_v107) = v3 c
          ∧ r.2.mem ((c.tc : Thread Cert.Reference9Ideal.nD Cert.Reference9Ideal.τ).loc Cert.Reference9Ideal.main_v108) = v4 c
          ∧ r.2.mem ((c.tc : Thread Cert.Reference9Ideal.nD Cert.Reference9Ideal.τ).loc Cert.Reference9Ideal.main_v109) = v5 c
          ∧ r.2.mem ((c.tc : Thread Cert.Reference9Ideal.nD Cert.Reference9Ideal.τ).loc Cert.Reference9Ideal.main_v110) = v6 c
          ∧ r.2.mem ((c.tc : Thread Cert.Reference9Ideal.nD Cert.Reference9Ideal.τ).loc Cert.Reference9Ideal.main_v111) = v7 c
          ∧ r.2.mem ((c.tc : Thread Cert.Reference9Ideal.nD Cert.Reference9Ideal.τ).loc Cert.Reference9Ideal.main_v112) = v8 c
          ∧ r.2.mem ((c.tc : Thread Cert.Reference9Ideal.nD Cert.Reference9Ideal.τ).loc Cert.Reference9Ideal.main_v104) = v9 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
-- ==== Pre_finite.lean ====
abbrev S4224x512 : Shape := ⟨2, ![4224, 512]⟩
abbrev S4224x256 : Shape := ⟨2, ![4224, 256]⟩
abbrev S66x1x128 : Shape := ⟨3, ![66, 1, 128]⟩
abbrev S_ : Shape := ⟨0, ![]⟩

class Facts : Prop where
  bcast_S_S4224x512 : S_.BroadcastsInDim S4224x512 (![] : Fin 0 → Fin S4224x512.rank)
  bitsLt_bf16_f32 : FTy.bits .bf16 < FTy.bits .f32
  bcast_S_S4224x256 : S_.BroadcastsInDim S4224x256 (![] : Fin 0 → Fin S4224x256.rank)
  bcast_S_S66x1x128 : S_.BroadcastsInDim S66x1x128 (![] : Fin 0 → Fin S66x1x128.rank)

variable [Facts]

def fn_part2 {F : FTy → Type} [FloatOps F] (main_arg5 : FVec F S66x1x128 .f32) (main_v4 : IVec S4224x512 1) (main_v11 : IVec S4224x512 1) (main_v18 : IVec S4224x512 1) (main_v25 : IVec S4224x512 1) (main_v32 : IVec S4224x256 1) (main_v34 : IVec S66x1x128 1) (main_v35 : FVec F S66x1x128 .f32) : IVec S4224x512 1 × IVec S4224x512 1 × IVec S4224x512 1 × IVec S4224x512 1 × IVec S4224x256 1 × IVec S66x1x128 1 :=
  let main_v36 : IVec S66x1x128 1 := cmpf .ogt main_arg5 main_v35
  let main_v37 : IVec S66x1x128 1 := andi main_v34 main_v36
  (main_v4, main_v11, main_v18, main_v25, main_v32, main_v37)

def fn_part1 {F : FTy → Type} [FloatOps F] (main_arg3 : FVec F S4224x512 .bf16) (main_arg4 : FVec F S4224x256 .bf16) (main_arg5 : FVec F S66x1x128 .f32) (main_v4 : IVec S4224x512 1) (main_v11 : IVec S4224x512 1) (main_v14 : IVec S4224x512 1) (main_v17 : IVec S4224x512 1) : IVec S4224x512 1 × IVec S4224x512 1 × IVec S4224x512 1 × IVec S4224x512 1 × IVec S4224x256 1 × IVec S66x1x128 1 :=
  let main_v18 : IVec S4224x512 1 := andi main_v14 main_v17
  let main_v19 : FVec F S4224x512 .f32 := (extf .f32 · bitsLt_bf16_f32) main_arg3
  let main_cst_5 : FVec F S_ .f32 := constant S_ .f32 0x7F800000#32
  let main_v20 : FVec F S4224x512 .f32 := broadcastInDim S4224x512 ![] bcast_S_S4224x512 main_cst_5
  let main_v21 : IVec S4224x512 1 := cmpf .olt main_v19 main_v20
  let main_v22 : FVec F S4224x512 .f32 := (extf .f32 · bitsLt_bf16_f32) main_arg3
  let main_cst_6 : FVec F S_ .f32 := constant S_ .f32 0xFF800000#32
  let main_v23 : FVec F S4224x512 .f32 := broadcastInDim S4224x512 ![] bcast_S_S4224x512 main_cst_6
  let main_v24 : IVec S4224x512 1 := cmpf .ogt main_v22 main_v23
  let main_v25 : IVec S4224x512 1 := andi main_v21 main_v24
  let main_v26 : FVec F S4224x256 .f32 := (extf .f32 · bitsLt_bf16_f32) main_arg4
  let main_cst_7 : FVec F S_ .f32 := constant S_ .f32 0x7F800000#32
  let main_v27 : FVec F S4224x256 .f32 := broadcastInDim S4224x256 ![] bcast_S_S4224x256 main_cst_7
  let main_v28 : IVec S4224x256 1 := cmpf .olt main_v26 main_v27
  let main_v29 : FVec F S4224x256 .f32 := (extf .f32 · bitsLt_bf16_f32) main_arg4
  let main_cst_8 : FVec F S_ .f32 := constant S_ .f32 0xFF800000#32
  let main_v30 : FVec F S4224x256 .f32 := broadcastInDim S4224x256 ![] bcast_S_S4224x256 main_cst_8
  let main_v31 : IVec S4224x256 1 := cmpf .ogt main_v29 main_v30
  let main_v32 : IVec S4224x256 1 := andi main_v28 main_v31
  let main_cst_9 : FVec F S_ .f32 := constant S_ .f32 0x7F800000#32
  let main_v33 : FVec F S66x1x128 .f32 := broadcastInDim S66x1x128 ![] bcast_S_S66x1x128 main_cst_9
  let main_v34 : IVec S66x1x128 1 := cmpf .olt main_arg5 main_v33
  let main_cst_10 : FVec F S_ .f32 := constant S_ .f32 0xFF800000#32
  let main_v35 : FVec F S66x1x128 .f32 := broadcastInDim S66x1x128 ![] bcast_S_S66x1x128 main_cst_10
  fn_part2 (F := F) main_arg5 main_v4 main_v11 main_v18 main_v25 main_v32 main_v34 main_v35

def fn {F : FTy → Type} [FloatOps F] (main_arg0 : FVec F S4224x512 .f32) (main_arg1 : FVec F S4224x512 .bf16) (main_arg2 : FVec F S4224x512 .bf16) (main_arg3 : FVec F S4224x512 .bf16) (main_arg4 : FVec F S4224x256 .bf16) (main_arg5 : FVec F S66x1x128 .f32) : IVec S4224x512 1 × IVec S4224x512 1 × IVec S4224x512 1 × IVec S4224x512 1 × IVec S4224x256 1 × IVec S66x1x128 1 :=
  let main_cst : FVec F S_ .f32 := constant S_ .f32 0x7F800000#32
  let main_v0 : FVec F S4224x512 .f32 := broadcastInDim S4224x512 ![] bcast_S_S4224x512 main_cst
  let main_v1 : IVec S4224x512 1 := cmpf .olt main_arg0 main_v0
  let main_cst_0 : FVec F S_ .f32 := constant S_ .f32 0xFF800000#32
  let main_v2 : FVec F S4224x512 .f32 := broadcastInDim S4224x512 ![] bcast_S_S4224x512 main_cst_0
  let main_v3 : IVec S4224x512 1 := cmpf .ogt main_arg0 main_v2
  let main_v4 : IVec S4224x512 1 := andi main_v1 main_v3
  let main_v5 : FVec F S4224x512 .f32 := (extf .f32 · bitsLt_bf16_f32) main_arg1
  let main_cst_1 : FVec F S_ .f32 := constant S_ .f32 0x7F800000#32
  let main_v6 : FVec F S4224x512 .f32 := broadcastInDim S4224x512 ![] bcast_S_S4224x512 main_cst_1
  let main_v7 : IVec S4224x512 1 := cmpf .olt main_v5 main_v6
  let main_v8 : FVec F S4224x512 .f32 := (extf .f32 · bitsLt_bf16_f32) main_arg1
  let main_cst_2 : FVec F S_ .f32 := constant S_ .f32 0xFF800000#32
  let main_v9 : FVec F S4224x512 .f32 := broadcastInDim S4224x512 ![] bcast_S_S4224x512 main_cst_2
  let main_v10 : IVec S4224x512 1 := cmpf .ogt main_v8 main_v9
  let main_v11 : IVec S4224x512 1 := andi main_v7 main_v10
  let main_v12 : FVec F S4224x512 .f32 := (extf .f32 · bitsLt_bf16_f32) main_arg2
  let main_cst_3 : FVec F S_ .f32 := constant S_ .f32 0x7F800000#32
  let main_v13 : FVec F S4224x512 .f32 := broadcastInDim S4224x512 ![] bcast_S_S4224x512 main_cst_3
  let main_v14 : IVec S4224x512 1 := cmpf .olt main_v12 main_v13
  let main_v15 : FVec F S4224x512 .f32 := (extf .f32 · bitsLt_bf16_f32) main_arg2
  let main_cst_4 : FVec F S_ .f32 := constant S_ .f32 0xFF800000#32
  let main_v16 : FVec F S4224x512 .f32 := broadcastInDim S4224x512 ![] bcast_S_S4224x512 main_cst_4
  let main_v17 : IVec S4224x512 1 := cmpf .ogt main_v15 main_v16
  fn_part1 (F := F) main_arg3 main_arg4 main_arg5 main_v4 main_v11 main_v14 main_v17
-- ==== Pre_finite2.lean ====
abbrev S4224x1024 : Shape := ⟨2, ![4224, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩

class Facts : Prop where
  bcast_S_S4224x1024 : S_.BroadcastsInDim S4224x1024 (![] : Fin 0 → Fin S4224x1024.rank)
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)

variable [Facts]

def fn_part2 {F : FTy → Type} [FloatOps F] (main_arg6 : FVec F S2816x1024 .bf16) (main_v4 : IVec S4224x1024 1) (main_v9 : IVec S4096x1024 1) (main_v14 : IVec S1x1024 1) (main_v19 : IVec S1x1024 1) (main_v26 : IVec S2816x1024 1) (main_v33 : IVec S2816x1024 1) (main_v34 : FVec F S2816x1024 .f32) (main_cst_11 : FVec F S_ .f32) : IVec S4224x1024 1 × IVec S4096x1024 1 × IVec S1x1024 1 × IVec S1x1024 1 × IVec S2816x1024 1 × IVec S2816x1024 1 × IVec S2816x1024 1 :=
  let main_v35 : FVec F S2816x1024 .f32 := broadcastInDim S2816x1024 ![] bcast_S_S2816x1024 main_cst_11
  let main_v36 : IVec S2816x1024 1 := cmpf .olt main_v34 main_v35
  let main_v37 : FVec F S2816x1024 .f32 := (extf .f32 · bitsLt_bf16_f32) main_arg6
  let main_cst_12 : FVec F S_ .f32 := constant S_ .f32 0xFF800000#32
  let main_v38 : FVec F S2816x1024 .f32 := broadcastInDim S2816x1024 ![] bcast_S_S2816x1024 main_cst_12
  let main_v39 : IVec S2816x1024 1 := cmpf .ogt main_v37 main_v38
  let main_v40 : IVec S2816x1024 1 := andi main_v36 main_v39
  (main_v4, main_v9, main_v14, main_v19, main_v26, main_v33, main_v40)

def fn_part1 {F : FTy → Type} [FloatOps F] (main_arg3 : FVec F S1x1024 .f32) (main_arg4 : FVec F S2816x1024 .bf16) (main_arg5 : FVec F S2816x1024 .bf16) (main_arg6 : FVec F S2816x1024 .bf16) (main_v4 : IVec S4224x1024 1) (main_v9 : IVec S4096x1024 1) (main_v14 : IVec S1x1024 1) (main_v16 : IVec S1x1024 1) : IVec S4224x1024 1 × IVec S4096x1024 1 × IVec S1x1024 1 × IVec S1x1024 1 × IVec S2816x1024 1 × IVec S2816x1024 1 × IVec S2816x1024 1 :=
  let main_cst_6 : FVec F S_ .f32 := constant S_ .f32 0xFF800000#32
  let main_v17 : FVec F S1x1024 .f32 := broadcastInDim S1x1024 ![] bcast_S_S1x1024 main_cst_6
  let main_v18 : IVec S1x1024 1 := cmpf .ogt main_arg3 main_v17
  let main_v19 : IVec S1x1024 1 := andi main_v16 main_v18
  let main_v20 : FVec F S2816x1024 .f32 := (extf .f32 · bitsLt_bf16_f32) main_arg4
  let main_cst_7 : FVec F S_ .f32 := constant S_ .f32 0x7F800000#32
  let main_v21 : FVec F S2816x1024 .f32 := broadcastInDim S2816x1024 ![] bcast_S_S2816x1024 main_cst_7
  let main_v22 : IVec S2816x1024 1 := cmpf .olt main_v20 main_v21
  let main_v23 : FVec F S2816x1024 .f32 := (extf .f32 · bitsLt_bf16_f32) main_arg4
  let main_cst_8 : FVec F S_ .f32 := constant S_ .f32 0xFF800000#32
  let main_v24 : FVec F S2816x1024 .f32 := broadcastInDim S2816x1024 ![] bcast_S_S2816x1024 main_cst_8
  let main_v25 : IVec S2816x1024 1 := cmpf .ogt main_v23 main_v24
  let main_v26 : IVec S2816x1024 1 := andi main_v22 main_v25
  let main_v27 : FVec F S2816x1024 .f32 := (extf .f32 · bitsLt_bf16_f32) main_arg5
  let main_cst_9 : FVec F S_ .f32 := constant S_ .f32 0x7F800000#32
  let main_v28 : FVec F S2816x1024 .f32 := broadcastInDim S2816x1024 ![] bcast_S_S2816x1024 main_cst_9
  let main_v29 : IVec S2816x1024 1 := cmpf .olt main_v27 main_v28
  let main_v30 : FVec F S2816x1024 .f32 := (extf .f32 · bitsLt_bf16_f32) main_arg5
  let main_cst_10 : FVec F S_ .f32 := constant S_ .f32 0xFF800000#32
  let main_v31 : FVec F S2816x1024 .f32 := broadcastInDim S2816x1024 ![] bcast_S_S2816x1024 main_cst_10
  let main_v32 : IVec S2816x1024 1 := cmpf .ogt main_v30 main_v31
  let main_v33 : IVec S2816x1024 1 := andi main_v29 main_v32
  let main_v34 : FVec F S2816x1024 .f32 := (extf .f32 · bitsLt_bf16_f32) main_arg6
  let main_cst_11 : FVec F S_ .f32 := constant S_ .f32 0x7F800000#32
  fn_part2 (F := F) main_arg6 main_v4 main_v9 main_v14 main_v19 main_v26 main_v33 main_v34 main_cst_11

def fn {F : FTy → Type} [FloatOps F] (main_arg0 : FVec F S4224x1024 .f32) (main_arg1 : FVec F S4096x1024 .f32) (main_arg2 : FVec F S1x1024 .f32) (main_arg3 : FVec F S1x1024 .f32) (main_arg4 : FVec F S2816x1024 .bf16) (main_arg5 : FVec F S2816x1024 .bf16) (main_arg6 : FVec F S2816x1024 .bf16) : IVec S4224x1024 1 × IVec S4096x1024 1 × IVec S1x1024 1 × IVec S1x1024 1 × IVec S2816x1024 1 × IVec S2816x1024 1 × IVec S2816x1024 1 :=
  let main_cst : FVec F S_ .f32 := constant S_ .f32 0x7F800000#32
  let main_v0 : FVec F S4224x1024 .f32 := broadcastInDim S4224x1024 ![] bcast_S_S4224x1024 main_cst
  let main_v1 : IVec S4224x1024 1 := cmpf .olt main_arg0 main_v0
  let main_cst_0 : FVec F S_ .f32 := constant S_ .f32 0xFF800000#32
  let main_v2 : FVec F S4224x1024 .f32 := broadcastInDim S4224x1024 ![] bcast_S_S4224x1024 main_cst_0
  let main_v3 : IVec S4224x1024 1 := cmpf .ogt main_arg0 main_v2
  let main_v4 : IVec S4224x1024 1 := andi main_v1 main_v3
  let main_cst_1 : FVec F S_ .f32 := constant S_ .f32 0x7F800000#32
  let main_v5 : FVec F S4096x1024 .f32 := broadcastInDim S4096x1024 ![] bcast_S_S4096x1024 main_cst_1
  let main_v6 : IVec S4096x1024 1 := cmpf .olt main_arg1 main_v5
  let main_cst_2 : FVec F S_ .f32 := constant S_ .f32 0xFF800000#32
  let main_v7 : FVec F S4096x1024 .f32 := broadcastInDim S4096x1024 ![] bcast_S_S4096x1024 main_cst_2
  let main_v8 : IVec S4096x1024 1 := cmpf .ogt main_arg1 main_v7
  let main_v9 : IVec S4096x1024 1 := andi main_v6 main_v8
  let main_cst_3 : FVec F S_ .f32 := constant S_ .f32 0x7F800000#32
  let main_v10 : FVec F S1x1024 .f32 := broadcastInDim S1x1024 ![] bcast_S_S1x1024 main_cst_3
  let main_v11 : IVec S1x1024 1 := cmpf .olt main_arg2 main_v10
  let main_cst_4 : FVec F S_ .f32 := constant S_ .f32 0xFF800000#32
  let main_v12 : FVec F S1x1024 .f32 := broadcastInDim S1x1024 ![] bcast_S_S1x1024 main_cst_4
  let main_v13 : IVec S1x1024 1 := cmpf .ogt main_arg2 main_v12
  let main_v14 : IVec S1x1024 1 := andi main_v11 main_v13
  let main_cst_5 : FVec F S_ .f32 := constant S_ .f32 0x7F800000#32
  let main_v15 : FVec F S1x1024 .f32 := broadcastInDim S1x1024 ![] bcast_S_S1x1024 main_cst_5
  let main_v16 : IVec S1x1024 1 := cmpf .olt main_arg3 main_v15
  fn_part1 (F := F) main_arg3 main_arg4 main_arg5 main_arg6 main_v4 main_v9 main_v14 main_v16
-- ==== Pre_finite9.lean ====
abbrev S4224x1024 : Shape := ⟨2, ![4224, 1024]⟩
abbrev S4224x512 : Shape := ⟨2, ![4224, 512]⟩
abbrev S1x128 : Shape := ⟨2, ![1, 128]⟩
abbrev S1024x1024 : Shape := ⟨2, ![1024, 1024]⟩
abbrev S512x1024 : Shape := ⟨2, ![512, 1024]⟩
abbrev S_ : Shape := ⟨0, ![]⟩

class Facts : Prop where
  bcast_S_S4224x1024 : S_.BroadcastsInDim S4224x1024 (![] : Fin 0 → Fin S4224x1024.rank)
  bitsLt_bf16_f32 : FTy.bits .bf16 < FTy.bits .f32
  bcast_S_S1024x1024 : S_.BroadcastsInDim S1024x1024 (![] : Fin 0 → Fin S1024x1024.rank)

variable [Facts]

def fn_part1 {F : FTy → Type} [FloatOps F] (main_arg9 : FVec F S1024x1024 .bf16) (main_v4 : IVec S4224x1024 1) (main_v9 : IVec S4224x1024 1) (main_v16 : IVec S1024x1024 1) (main_v17 : FVec F S1024x1024 .f32) : IVec S4224x1024 1 × IVec S4224x1024 1 × IVec S1024x1024 1 × IVec S1024x1024 1 :=
  let main_cst_5 : FVec F S_ .f32 := constant S_ .f32 0x7F800000#32
  let main_v18 : FVec F S1024x1024 .f32 := broadcastInDim S1024x1024 ![] bcast_S_S1024x1024 main_cst_5
  let main_v19 : IVec S1024x1024 1 := cmpf .olt main_v17 main_v18
  let main_v20 : FVec F S1024x1024 .f32 := (extf .f32 · bitsLt_bf16_f32) main_arg9
  let main_cst_6 : FVec F S_ .f32 := constant S_ .f32 0xFF800000#32
  let main_v21 : FVec F S1024x1024 .f32 := broadcastInDim S1024x1024 ![] bcast_S_S1024x1024 main_cst_6
  let main_v22 : IVec S1024x1024 1 := cmpf .ogt main_v20 main_v21
  let main_v23 : IVec S1024x1024 1 := andi main_v19 main_v22
  (main_v4, main_v9, main_v16, main_v23)

def fn {F : FTy → Type} [FloatOps F] (main_arg0 : FVec F S4224x1024 .f32) (main_arg1 : FVec F S4224x1024 .f32) (main_arg2 : FVec F S4224x512 .f32) (main_arg3 : FVec F S4224x512 .f32) (main_arg4 : FVec F S4224x1024 .f32) (main_arg5 : FVec F S4224x1024 .f32) (main_arg6 : FVec F S1x128 .f32) (main_arg7 : FVec F S1024x1024 .bf16) (main_arg8 : FVec F S512x1024 .bf16) (main_arg9 : FVec F S1024x1024 .bf16) : IVec S4224x1024 1 × IVec S4224x1024 1 × IVec S1024x1024 1 × IVec S1024x1024 1 :=
  let main_cst : FVec F S_ .f32 := constant S_ .f32 0x7F800000#32
  let main_v0 : FVec F S4224x1024 .f32 := broadcastInDim S4224x1024 ![] bcast_S_S4224x1024 main_cst
  let main_v1 : IVec S4224x1024 1 := cmpf .olt main_arg0 main_v0
  let main_cst_0 : FVec F S_ .f32 := constant S_ .f32 0xFF800000#32
  let main_v2 : FVec F S4224x1024 .f32 := broadcastInDim S4224x1024 ![] bcast_S_S4224x1024 main_cst_0
  let main_v3 : IVec S4224x1024 1 := cmpf .ogt main_arg0 main_v2
  let main_v4 : IVec S4224x1024 1 := andi main_v1 main_v3
  let main_cst_1 : FVec F S_ .f32 := constant S_ .f32 0x7F800000#32
  let main_v5 : FVec F S4224x1024 .f32 := broadcastInDim S4224x1024 ![] bcast_S_S4224x1024 main_cst_1
  let main_v6 : IVec S4224x1024 1 := cmpf .olt main_arg1 main_v5
  let main_cst_2 : FVec F S_ .f32 := constant S_ .f32 0xFF800000#32
  let main_v7 : FVec F S4224x1024 .f32 := broadcastInDim S4224x1024 ![] bcast_S_S4224x1024 main_cst_2
  let main_v8 : IVec S4224x1024 1 := cmpf .ogt main_arg1 main_v7
  let main_v9 : IVec S4224x1024 1 := andi main_v6 main_v8
  let main_v10 : FVec F S1024x1024 .f32 := (extf .f32 · bitsLt_bf16_f32) main_arg7
  let main_cst_3 : FVec F S_ .f32 := constant S_ .f32 0x7F800000#32
  let main_v11 : FVec F S1024x1024 .f32 := broadcastInDim S1024x1024 ![] bcast_S_S1024x1024 main_cst_3
  let main_v12 : IVec S1024x1024 1 := cmpf .olt main_v10 main_v11
  let main_v13 : FVec F S1024x1024 .f32 := (extf .f32 · bitsLt_bf16_f32) main_arg7
  let main_cst_4 : FVec F S_ .f32 := constant S_ .f32 0xFF800000#32
  let main_v14 : FVec F S1024x1024 .f32 := broadcastInDim S1024x1024 ![] bcast_S_S1024x1024 main_cst_4
  let main_v15 : IVec S1024x1024 1 := cmpf .ogt main_v13 main_v14
  let main_v16 : IVec S1024x1024 1 := andi main_v12 main_v15
  let main_v17 : FVec F S1024x1024 .f32 := (extf .f32 · bitsLt_bf16_f32) main_arg9
  fn_part1 (F := F) main_arg9 main_v4 main_v9 main_v16 main_v17
-- ==== Kernel.lean ====
abbrev S4224x512 : Shape := ⟨2, ![4224, 512]⟩
abbrev S4224x256 : Shape := ⟨2, ![4224, 256]⟩
abbrev S66x1x128 : Shape := ⟨3, ![66, 1, 128]⟩
abbrev S66x4x128x128 : Shape := ⟨4, ![66, 4, 128, 128]⟩
abbrev S384x512 : Shape := ⟨2, ![384, 512]⟩
abbrev S384x256 : Shape := ⟨2, ![384, 256]⟩
abbrev S6x1x128 : Shape := ⟨3, ![6, 1, 128]⟩
abbrev S6x4x128x128 : Shape := ⟨4, ![6, 4, 128, 128]⟩
abbrev S4x128x128 : Shape := ⟨3, ![4, 128, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S64x64 : Shape := ⟨2, ![64, 64]⟩
abbrev S1 : Shape := ⟨1, ![1]⟩
abbrev S1x1 : Shape := ⟨2, ![1, 1]⟩

abbrev nBuf : Space → Nat
  | .hbm => 8
  | .vmem => 17
  | .smem => 0
  | _ => 0

abbrev bufTy : (tb : Table) → Fin (tcTables nBuf tb) → BufTy
  | .hbm, ⟨0, _⟩ => ⟨S4224x512, .f32⟩
  | .hbm, ⟨1, _⟩ => ⟨S4224x512, .bf16⟩
  | .hbm, ⟨2, _⟩ => ⟨S4224x512, .bf16⟩
  | .hbm, ⟨3, _⟩ => ⟨S4224x512, .bf16⟩
  | .hbm, ⟨4, _⟩ => ⟨S4224x256, .bf16⟩
  | .hbm, ⟨5, _⟩ => ⟨S66x1x128, .f32⟩
  | .hbm, ⟨6, _⟩ => ⟨S4224x512, .f32⟩
  | .hbm, ⟨7, _⟩ => ⟨S66x4x128x128, .f32⟩
  | .local _ .vmem, ⟨0, _⟩ => ⟨S384x512, .f32⟩
  | .local _ .vmem, ⟨1, _⟩ => ⟨S384x512, .f32⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S384x256, .bf16⟩
  | .local _ .vmem, ⟨9, _⟩ => ⟨S384x256, .bf16⟩
  | .local _ .vmem, ⟨10, _⟩ => ⟨S6x1x128, .f32⟩
  | .local _ .vmem, ⟨11, _⟩ => ⟨S6x1x128, .f32⟩
  | .local _ .vmem, ⟨12, _⟩ => ⟨S384x512, .f32⟩
  | .local _ .vmem, ⟨13, _⟩ => ⟨S384x512, .f32⟩
  | .local _ .vmem, ⟨14, _⟩ => ⟨S6x4x128x128, .f32⟩
  | .local _ .vmem, ⟨15, _⟩ => ⟨S6x4x128x128, .f32⟩
  | .local _ .vmem, ⟨16, _⟩ => ⟨S4x128x128, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4224x512 : Shape := ⟨2, ![4224, 512]⟩
abbrev S4224x256 : Shape := ⟨2, ![4224, 256]⟩
abbrev S66x1x128 : Shape := ⟨3, ![66, 1, 128]⟩
abbrev S_ : Shape := ⟨0, ![]⟩
abbrev S66x4x128x128 : Shape := ⟨4, ![66, 4, 128, 128]⟩
abbrev S66x64x4x128 : Shape := ⟨4, ![66, 64, 4, 128]⟩
abbrev S66x4x64x128 : Shape := ⟨4, ![66, 4, 64, 128]⟩
abbrev S66x64x4x64 : Shape := ⟨4, ![66, 64, 4, 64]⟩
abbrev S66x4x64x64 : Shape := ⟨4, ![66, 4, 64, 64]⟩
abbrev S66x1x4 : Shape := ⟨3, ![66, 1, 4]⟩
abbrev S66x4 : Shape := ⟨2, ![66, 4]⟩
abbrev S66x4x1x1 : Shape := ⟨4, ![66, 4, 1, 1]⟩
abbrev S4x128x128 : Shape := ⟨3, ![4, 128, 128]⟩
abbrev S1x4x64x128 : Shape := ⟨4, ![1, 4, 64, 128]⟩
abbrev S4x64x128 : Shape := ⟨3, ![4, 64, 128]⟩
abbrev S1x4x1x1 : Shape := ⟨4, ![1, 4, 1, 1]⟩
abbrev S4x1x1 : Shape := ⟨3, ![4, 1, 1]⟩
abbrev S1x4x64x64 : Shape := ⟨4, ![1, 4, 64, 64]⟩
abbrev S4x64x64 : Shape := ⟨3, ![4, 64, 64]⟩
abbrev S4x128x64 : Shape := ⟨3, ![4, 128, 64]⟩
abbrev S1x4x128x128 : Shape := ⟨4, ![1, 4, 128, 128]⟩

abbrev nBuf : Space → Nat
  | .hbm => 111
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x512, .bf16⟩
  | .hbm, ⟨2, _⟩ => ⟨S4224x512, .bf16⟩
  | .hbm, ⟨3, _⟩ => ⟨S4224x512, .bf16⟩
  | .hbm, ⟨4, _⟩ => ⟨S4224x256, .bf16⟩
  | .hbm, ⟨5, _⟩ => ⟨S66x1x128, .f32⟩
  | .hbm, ⟨6, _⟩ => ⟨S_, .f32⟩
  | .hbm, ⟨7, _⟩ => ⟨S4224x512, .f32⟩
  | .hbm, ⟨8, _⟩ => ⟨S_, .f32⟩
  | .hbm, ⟨9, _⟩ => ⟨S66x4x128x128, .f32⟩
  | .hbm, ⟨10, _⟩ => ⟨S4224x512, .f32⟩
  | .hbm, ⟨11, _⟩ => ⟨S66x64x4x128, .f32⟩
  | .hbm, ⟨12, _⟩ => ⟨S66x4x64x128, .f32⟩
  | .hbm, ⟨13, _⟩ => ⟨S4224x512, .f32⟩
  | .hbm, ⟨14, _⟩ => ⟨S66x64x4x128, .f32⟩
  | .hbm, ⟨15, _⟩ => ⟨S66x4x64x128, .f32⟩
  | .hbm, ⟨16, _⟩ => ⟨S4224x512, .f32⟩
  | .hbm, ⟨17, _⟩ => ⟨S66x64x4x128, .f32⟩
  | .hbm, ⟨18, _⟩ => ⟨S66x4x64x128, .f32⟩
  | .hbm, ⟨19, _⟩ => ⟨S4224x256, .f32⟩
  | .hbm, ⟨20, _⟩ => ⟨S66x64x4x64, .f32⟩
  | .hbm, ⟨21, _⟩ => ⟨S66x4x64x64, .f32⟩
  | .hbm, ⟨22, _⟩ => ⟨S66x1x4, .f32⟩
  | .hbm, ⟨23, _⟩ => ⟨S66x4, .f32⟩
  | .hbm, ⟨24, _⟩ => ⟨S66x4, .f32⟩
  | .hbm, ⟨25, _⟩ => ⟨S66x4x1x1, .f32⟩
  | .hbm, ⟨26, _⟩ => ⟨S_, .f32⟩
  | .hbm, ⟨27, _⟩ => ⟨S4x128x128, .f32⟩
  | .hbm, ⟨28, _⟩ => ⟨S66x64x4x128, .f32⟩
  | .hbm, ⟨29, _⟩ => ⟨S66x4x64x128, .f32⟩
  | .hbm, ⟨30, _⟩ => ⟨S_, .f32⟩
  | .hbm, ⟨31, _⟩ => ⟨S4x128x128, .f32⟩
  | .hbm, ⟨32, _⟩ => ⟨S_, .f32⟩
  | .hbm, ⟨33, _⟩ => ⟨S66x4x64x128, .f32⟩
  | .hbm, ⟨34, _⟩ => ⟨S_, .f32⟩
  | .hbm, ⟨35, _⟩ => ⟨S66x4x128x128, .f32⟩
  | .hbm, ⟨36, _⟩ => ⟨S_, .i32⟩
  | .hbm, ⟨37, _⟩ => ⟨S66x4x64x128, .f32⟩
  | .hbm, ⟨38, _⟩ => ⟨S66x4x1x1, .f32⟩
  | .hbm, ⟨39, _⟩ => ⟨S66x4x64x128, .f32⟩
  | .hbm, ⟨40, _⟩ => ⟨S66x4x64x128, .f32⟩
  | .hbm, ⟨41, _⟩ => ⟨S66x4x64x128, .f32⟩
  | .hbm, ⟨42, _⟩ => ⟨S66x4x64x64, .f32⟩
  | .hbm, ⟨43, _⟩ => ⟨S_, .i32⟩
  | .hbm, ⟨44, _⟩ => ⟨S4x128x128, .f32⟩
  | .hbm, ⟨45, _⟩ => ⟨S66x4x64x128, .f32⟩
  | .hbm, ⟨46, _⟩ => ⟨S66x4x128x128, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x4x64x128, .f32⟩
  | .hbm, ⟨57, _⟩ => ⟨S4x64x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x4x1x1, .f32⟩
  | .hbm, ⟨62, _⟩ => ⟨S4x1x1, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x4x64x128, .f32⟩
  | .hbm, ⟨67, _⟩ => ⟨S4x64x128, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x4x64x128, .f32⟩
  | .hbm, ⟨72, _⟩ => ⟨S4x64x128, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x4x64x128, .f32⟩
  | .hbm, ⟨77, _⟩ => ⟨S4x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x4x64x64, .f32⟩
  | .hbm, ⟨82, _⟩ => ⟨S4x64x64, .f32⟩
  | .hbm, ⟨83, _⟩ => ⟨S4x128x64, .f32⟩
  | .hbm, ⟨84, _⟩ => ⟨S4x64x128, .f32⟩
  | .hbm, ⟨85, _⟩ => ⟨S4x128x128, .f32⟩
  | .hbm, ⟨86, _⟩ => ⟨S4x128x128, .f32⟩
  | .hbm, ⟨87, _⟩ => ⟨S4x128x64, .f32⟩
  | .hbm, ⟨88, _⟩ => ⟨S4x64x128, .f32⟩
  | .hbm, ⟨89, _⟩ => ⟨S4x64x128, .f32⟩
  | .hbm, ⟨90, _⟩ => ⟨S4x128x128, .f32⟩
  | .hbm, ⟨91, _⟩ => ⟨S4x128x128, .f32⟩
  | .hbm, ⟨92, _⟩ => ⟨S4x128x128, .f32⟩
  | .hbm, ⟨93, _⟩ => ⟨S4x64x128, .f32⟩
  | .hbm, ⟨94, _⟩ => ⟨S4x128x128, .f32⟩
  | .hbm, ⟨95, _⟩ => ⟨S4x128x128, .f32⟩
  | .hbm, ⟨96, _⟩ => ⟨S4x128x128, .f32⟩
  | .hbm, ⟨97, _⟩ => ⟨S1x4x64x128, .f32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S66x4x64x128, .f32⟩
  | .hbm, ⟨102, _⟩ => ⟨S1x4x128x128, .f32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S66x4x128x128, .f32⟩
  | .hbm, ⟨107, _⟩ => ⟨S_, .i32⟩
  | .hbm, ⟨108, _⟩ => ⟨S_, .i32⟩
  | .hbm, ⟨109, _⟩ => ⟨S66x64x4x128, .f32⟩
  | .hbm, ⟨110, _⟩ => ⟨S4224x512, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_c : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_v24_5 : Ref sig .tc := ⟨.hbm, 42, rfl⟩
abbrev main_v24_6 : Ref sig .tc := ⟨.hbm, 43, rfl⟩
abbrev main_v24_7 : Ref sig .tc := ⟨.hbm, 44, rfl⟩
abbrev main_v24_8 : Ref sig .tc := ⟨.hbm, 45, rfl⟩
abbrev main_v24_9 : Ref sig .tc := ⟨.hbm, 46, rfl⟩
abbrev main_while0c_c_14 : Ref sig .tc := ⟨.hbm, 47, rfl⟩
abbrev main_while0c_v27 : Ref sig .tc := ⟨.hbm, 48, rfl⟩
abbrev main_while0b_c_14 : Ref sig .tc := ⟨.hbm, 49, rfl⟩
abbrev main_while0b_v27 : Ref sig .tc := ⟨.hbm, 50, rfl⟩
abbrev main_while0b_c_15 : Ref sig .tc := ⟨.hbm, 51, rfl⟩
abbrev main_while0b_v28 : Ref sig .tc := ⟨.hbm, 52, rfl⟩
abbrev main_while0b_call0_c : Ref sig .tc := ⟨.hbm, 53, rfl⟩
abbrev main_while0b_call0_c_0 : Ref sig .tc := ⟨.hbm, 54, rfl⟩
abbrev main_while0b_call0_c_1 : Ref sig .tc := ⟨.hbm, 55, rfl⟩
abbrev main_while0b_call0_v0 : Ref sig .tc := ⟨.hbm, 56, rfl⟩
abbrev main_while0b_v29 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_call1_c_1 : Ref sig .tc := ⟨.hbm, 60, rfl⟩
abbrev main_while0b_call1_v0 : Ref sig .tc := ⟨.hbm, 61, rfl⟩
abbrev main_while0b_v30 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_call2_v0 : Ref sig .tc := ⟨.hbm, 66, rfl⟩
abbrev main_while0b_v31 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_call3_v0 : Ref sig .tc := ⟨.hbm, 71, rfl⟩
abbrev main_while0b_v32 : Ref sig .tc := ⟨.hbm, 72, rfl⟩
abbrev main_while0b_call4_c : Ref sig .tc := ⟨.hbm, 73, rfl⟩
abbrev main_while0b_call4_c_0 : Ref sig .tc := ⟨.hbm, 74, rfl⟩
abbrev main_while0b_call4_c_1 : Ref sig .tc := ⟨.hbm, 75, rfl⟩
abbrev main_while0b_call4_v0 : Ref sig .tc := ⟨.hbm, 76, rfl⟩
abbrev main_while0b_v33 : Ref sig .tc := ⟨.hbm, 77, rfl⟩
abbrev main_while0b_call5_c : Ref sig .tc := ⟨.hbm, 78, rfl⟩
abbrev main_while0b_call5_c_0 : Ref sig .tc := ⟨.hbm, 79, rfl⟩
abbrev main_while0b_call5_c_1 : Ref sig .tc := ⟨.hbm, 80, rfl⟩
abbrev main_while0b_call5_v0 : Ref sig .tc := ⟨.hbm, 81, rfl⟩
abbrev main_while0b_v34 : Ref sig .tc := ⟨.hbm, 82, rfl⟩
abbrev main_while0b_v35 : Ref sig .tc := ⟨.hbm, 83, rfl⟩
abbrev main_while0b_v36 : Ref sig .tc := ⟨.hbm, 84, rfl⟩
abbrev main_while0b_v37 : Ref sig .tc := ⟨.hbm, 85, rfl⟩
abbrev main_while0b_v38 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_call6_v0 : Ref sig .tc := ⟨.hbm, 97, rfl⟩
abbrev main_while0b_call6_c : Ref sig .tc := ⟨.hbm, 98, rfl⟩
abbrev main_while0b_call6_c_0 : Ref sig .tc := ⟨.hbm, 99, rfl⟩
abbrev main_while0b_call6_c_1 : Ref sig .tc := ⟨.hbm, 100, rfl⟩
abbrev main_while0b_v49 : Ref sig .tc := ⟨.hbm, 101, rfl⟩
abbrev main_while0b_call7_v0 : Ref sig .tc := ⟨.hbm, 102, rfl⟩
abbrev main_while0b_call7_c : Ref sig .tc := ⟨.hbm, 103, rfl⟩
abbrev main_while0b_call7_c_0 : Ref sig .tc := ⟨.hbm, 104, rfl⟩
abbrev main_while0b_call7_c_1 : Ref sig .tc := ⟨.hbm, 105, rfl⟩
abbrev main_while0b_v50 : Ref sig .tc := ⟨.hbm, 106, rfl⟩
abbrev main_while0b_c_16 : Ref sig .tc := ⟨.hbm, 107, rfl⟩
abbrev main_while0b_v51 : Ref sig .tc := ⟨.hbm, 108, rfl⟩
abbrev main_v25 : Ref sig .tc := ⟨.hbm, 109, rfl⟩
abbrev main_v26 : Ref sig .tc := ⟨.hbm, 110, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S4224x1024 : Shape := ⟨2, ![4224, 1024]⟩
abbrev S4096x1024 : Shape := ⟨2, ![4096, 1024]⟩
abbrev S1x1024 : Shape := ⟨2, ![1, 1024]⟩
abbrev S2816x1024 : Shape := ⟨2, ![2816, 1024]⟩
abbrev S4224x2816 : Shape := ⟨2, ![4224, 2816]⟩
abbrev S8x1024 : Shape := ⟨2, ![8, 1024]⟩
abbrev S384x1024 : Shape := ⟨2, ![384, 1024]⟩
abbrev S128x1024 : Shape := ⟨2, ![128, 1024]⟩
abbrev S384x2816 : Shape := ⟨2, ![384, 2816]⟩
abbrev S3 : Shape := ⟨1, ![3]⟩
abbrev S1 : Shape := ⟨1, ![1]⟩
abbrev S_ : Shape := ⟨0, ![]⟩
abbrev S384 : Shape := ⟨1, ![384]⟩
abbrev S384x1 : Shape := ⟨2, ![384, 1]⟩
abbrev S256x1024 : Shape := ⟨2, ![256, 1024]⟩
abbrev S384x256 : Shape := ⟨2, ![384, 256]⟩
abbrev S1x1 : Shape := ⟨2, ![1, 1]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S4224x1024, .f32⟩
  | .hbm, ⟨8, _⟩ => ⟨S4224x1024, .bf16⟩
  | .hbm, ⟨9, _⟩ => ⟨S4224x2816, .bf16⟩
  | .hbm, ⟨10, _⟩ => ⟨S4224x2816, .bf16⟩
  | .hbm, ⟨11, _⟩ => ⟨S4224x2816, .bf16⟩
  | .hbm, ⟨12, _⟩ => ⟨S4224x1024, .bf16⟩
  | .hbm, ⟨13, _⟩ => ⟨S8x1024, .f32⟩
  | .local _ .vmem, ⟨0, _⟩ => ⟨S384x1024, .f32⟩
  | .local _ .vmem, ⟨1, _⟩ => ⟨S384x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S384x1024, .f32⟩
  | .local _ .vmem, ⟨11, _⟩ => ⟨S384x1024, .bf16⟩
  | .local _ .vmem, ⟨12, _⟩ => ⟨S384x2816, .bf16⟩
  | .local _ .vmem, ⟨13, _⟩ => ⟨S384x2816, .bf16⟩
  | .local _ .vmem, ⟨14, _⟩ => ⟨S384x2816, .bf16⟩
  | .local _ .vmem, ⟨15, _⟩ => ⟨S384x1024, .bf16⟩
  | .local _ .vmem, ⟨16, _⟩ => ⟨S8x1024, .f32⟩
  | .local _ .vmem, ⟨17, _⟩ => ⟨S2816x1024, .bf16⟩
  | .local _ .vmem, ⟨18, _⟩ => ⟨S2816x1024, .bf16⟩
  | .local _ .vmem, ⟨19, _⟩ => ⟨S2816x1024, .bf16⟩
  | .local _ .vmem, ⟨20, _⟩ => ⟨S384x2816, .f32⟩
  | .local _ .vmem, ⟨21, _⟩ => ⟨S384x2816, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S384x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S384x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S384x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4224x1024 : Shape := ⟨2, ![4224, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4224x2816 : Shape := ⟨2, ![4224, 2816]⟩
abbrev S1024x2816 : Shape := ⟨2, ![1024, 2816]⟩
abbrev S4224 : Shape := ⟨1, ![4224]⟩
abbrev S4224x1 : Shape := ⟨2, ![4224, 1]⟩
abbrev S4096 : Shape := ⟨1, ![4096]⟩
abbrev S1024 : Shape := ⟨1, ![1024]⟩
abbrev S5x1024 : Shape := ⟨2, ![5, 1024]⟩
abbrev S8x1024 : Shape := ⟨2, ![8, 1024]⟩

abbrev nBuf : Space → Nat
  | .hbm => 169
  | .vmem => 0
  | .smem => 0
  | _ => 0

abbrev hbmTy0_0 (i : Nat) : BufTy := match i % 128 with
  | 0 => ⟨S4224x1024, .f32⟩
  | 1 => ⟨S4096x1024, .f32⟩
  | 2 => ⟨S1x1024, .f32⟩
  | 3 => ⟨S1x1024, .f32⟩
  | 4 => ⟨S2816x1024, .bf16⟩
  | 5 => ⟨S2816x1024, .bf16⟩
  | 6 => ⟨S2816x1024, .bf16⟩
  | 7 => ⟨S_, .f32⟩
  | 8 => ⟨S4224x2816, .f32⟩
  | 9 => ⟨S_, .f32⟩
  | 10 => ⟨S4224x2816, .f32⟩
  | 11 => ⟨S_, .f32⟩
  | 12 => ⟨S4224x1024, .f32⟩
  | 13 => ⟨S2816x1024, .f32⟩
  | 14 => ⟨S1024x2816, .f32⟩
  | 15 => ⟨S2816x1024, .f32⟩
  | 16 => ⟨S1024x2816, .f32⟩
  | 17 => ⟨S2816x1024, .f32⟩
  | 18 => ⟨S4224x1024, .f32⟩
  | 19 => ⟨S_, .f32⟩
  | 20 => ⟨S4224, .f32⟩
  | 21 => ⟨S4224x1, .f32⟩
  | 22 => ⟨S_, .f32⟩
  | 23 => ⟨S4224x1, .f32⟩
  | 24 => ⟨S4224x1, .f32⟩
  | 25 => ⟨S_, .f32⟩
  | 26 => ⟨S4224x1, .f32⟩
  | 27 => ⟨S4224x1, .f32⟩
  | 28 => ⟨S4224x1, .f32⟩
  | 29 => ⟨S4224x1, .f32⟩
  | 30 => ⟨S_, .f32⟩
  | 31 => ⟨S4224x1, .f32⟩
  | 32 => ⟨S4224x1, .f32⟩
  | 33 => ⟨S4224x1024, .f32⟩
  | 34 => ⟨S4224x1024, .f32⟩
  | 35 => ⟨S4224x1024, .f32⟩
  | 36 => ⟨S4224x1024, .f32⟩
  | 37 => ⟨S4224x2816, .f32⟩
  | 38 => ⟨S4224x2816, .f32⟩
  | 39 => ⟨S4224x2816, .f32⟩
  | 40 => ⟨S4224x2816, .f32⟩
  | 41 => ⟨S_, .f32⟩
  | 42 => ⟨S4224x2816, .f32⟩
  | 43 => ⟨S4224x2816, .f32⟩
  | 44 => ⟨S_, .f32⟩
  | 45 => ⟨S4224x2816, .f32⟩
  | 46 => ⟨S4224x2816, .f32⟩
  | 47 => ⟨S_, .f32⟩
  | 48 => ⟨S4224x2816, .f32⟩
  | 49 => ⟨S4224x2816, .f32⟩
  | 50 => ⟨S4224x2816, .f32⟩
  | 51 => ⟨S4224x2816, .f32⟩
  | 52 => ⟨S4224x2816, .f32⟩
  | 53 => ⟨S4224x2816, .f32⟩
  | 54 => ⟨S4224x2816, .f32⟩
  | 55 => ⟨S4224x1024, .f32⟩
  | 56 => ⟨S4224x1024, .f32⟩
  | 57 => ⟨S4224x1024, .f32⟩
  | 58 => ⟨S4224x1024, .f32⟩
  | 59 => ⟨S_, .f32⟩
  | 60 => ⟨S4224, .f32⟩
  | 61 => ⟨S4224x1, .f32⟩
  | 62 => ⟨S_, .f32⟩
  | 63 => ⟨S4224x1, .f32⟩
  | 64 => ⟨S4224x1, .f32⟩
  | 65 => ⟨S_, .f32⟩
  | 66 => ⟨S4224x1, .f32⟩
  | 67 => ⟨S4224x1, .f32⟩
  | 68 => ⟨S4224x1, .f32⟩
  | 69 => ⟨S4224x1, .f32⟩
  | 70 => ⟨S_, .f32⟩
  | 71 => ⟨S4224x1, .f32⟩
  | 72 => ⟨S4224x1, .f32⟩
  | 73 => ⟨S4224x1024, .f32⟩
  | 74 => ⟨S4224x1024, .f32⟩
  | 75 => ⟨S4224x1024, .f32⟩
  | 76 => ⟨S4224x1024, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096, .f32⟩
  | 85 => ⟨S_, .f32⟩
  | 86 => ⟨S4096, .f32⟩
  | 87 => ⟨S4096, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S4096, .f32⟩
  | 96 => ⟨S_, .f32⟩
  | 97 => ⟨S4096, .f32⟩
  | 98 => ⟨S4096, .f32⟩
  | 99 => ⟨S4096x1024, .f32⟩
  | 100 => ⟨S4096x1024, .f32⟩
  | 101 => ⟨S_, .f32⟩
  | 102 => ⟨S4224x1024, .f32⟩
  | 103 => ⟨S4224x1024, .f32⟩
  | 104 => ⟨S_, .f32⟩
  | 105 => ⟨S1024, .f32⟩
  | 106 => ⟨S1x1024, .f32⟩
  | 107 => ⟨S4224x1024, .f32⟩
  | 108 => ⟨S4224x1024, .f32⟩
  | 109 => ⟨S4224x1024, .f32⟩
  | 110 => ⟨S_, .f32⟩
  | 111 => ⟨S4224, .f32⟩
  | 112 => ⟨S4224x1, .f32⟩
  | 113 => ⟨S4224x1024, .f32⟩
  | 114 => ⟨S4224x1024, .f32⟩
  | 115 => ⟨S4224x1, .f32⟩
  | 116 => ⟨S_, .f32⟩
  | 117 => ⟨S4224x1, .f32⟩
  | 118 => ⟨S4224x1, .f32⟩
  | 119 => ⟨S_, .f32⟩
  | 120 => ⟨S4224, .f32⟩
  | 121 => ⟨S4224x1024, .f32⟩
  | 122 => ⟨S4224x1024, .f32⟩
  | 123 => ⟨S4224x1024, .f32⟩
  | 124 => ⟨S4224x1024, .f32⟩
  | 125 => ⟨S4224x1024, .f32⟩
  | 126 => ⟨S4224x2816, .f32⟩
  | 127 => ⟨S4224x2816, .f32⟩
  | _ => ⟨S4224x1024, .f32⟩

abbrev hbmTy0_1 (i : Nat) : BufTy := match i % 128 with
  | 0 => ⟨S4224x2816, .f32⟩
  | 1 => ⟨S4224x1024, .f32⟩
  | 2 => ⟨S4224x2816, .f32⟩
  | 3 => ⟨S4224x2816, .f32⟩
  | 4 => ⟨S4224x2816, .f32⟩
  | 5 => ⟨S4224x2816, .f32⟩
  | 6 => ⟨S4224x1024, .f32⟩
  | 7 => ⟨S4224x1024, .f32⟩
  | 8 => ⟨S4224x1024, .f32⟩
  | 9 => ⟨S_, .f32⟩
  | 10 => ⟨S1024, .f32⟩
  | 11 => ⟨S1x1024, .f32⟩
  | 12 => ⟨S4224x1024, .f32⟩
  | 13 => ⟨S4224x1024, .f32⟩
  | 14 => ⟨S4224x1024, .f32⟩
  | 15 => ⟨S_, .f32⟩
  | 16 => ⟨S4224, .f32⟩
  | 17 => ⟨S4224x1, .f32⟩
  | 18 => ⟨S4224x1024, .f32⟩
  | 19 => ⟨S4224x1024, .f32⟩
  | 20 => ⟨S4224x1024, .f32⟩
  | 21 => ⟨S4224x1, .f32⟩
  | 22 => ⟨S_, .f32⟩
  | 23 => ⟨S4224x1, .f32⟩
  | 24 => ⟨S4224x1, .f32⟩
  | 25 => ⟨S_, .f32⟩
  | 26 => ⟨S4224, .f32⟩
  | 27 => ⟨S4224x1024, .f32⟩
  | 28 => ⟨S4224x1024, .f32⟩
  | 29 => ⟨S4224x1024, .f32⟩
  | 30 => ⟨S4224x1024, .f32⟩
  | 31 => ⟨S4224x1024, .f32⟩
  | 32 => ⟨S1x1024, .f32⟩
  | 33 => ⟨S_, .f32⟩
  | 34 => ⟨S5x1024, .f32⟩
  | 35 => ⟨S8x1024, .f32⟩
  | 36 => ⟨S4224x1024, .bf16⟩
  | 37 => ⟨S4224x2816, .bf16⟩
  | 38 => ⟨S4224x2816, .bf16⟩
  | 39 => ⟨S4224x2816, .bf16⟩
  | 40 => ⟨S4224x1024, .bf16⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v25_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v25_1 : Ref sig .tc := ⟨.hbm, 50, rfl⟩
abbrev main_v25_0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_cst_15 : Ref sig .tc := ⟨.hbm, 92, rfl⟩
abbrev main_cst_16 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_cst_19 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_20 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_21 : Ref sig .tc := ⟨.hbm, 116, rfl⟩
abbrev main_v75 : Ref sig .tc := ⟨.hbm, 117, rfl⟩
abbrev main_v76 : Ref sig .tc := ⟨.hbm, 118, rfl⟩
abbrev main_cst_22 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_23 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_24 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_25 : Ref sig .tc := ⟨.hbm, 150, rfl⟩
abbrev main_v102 : Ref sig .tc := ⟨.hbm, 151, rfl⟩
abbrev main_v103 : Ref sig .tc := ⟨.hbm, 152, rfl⟩
abbrev main_cst_26 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_27 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩

abbrev nD : Nat := 1
abbrev τ : Topo := Topo.v7x

variable {F : FTy → Type} [FloatOps F]
-- ==== Kernel3.lean ====
abbrev S4224x2816 : Shape := ⟨2, ![4224, 2816]⟩
abbrev S4224x1024 : Shape := ⟨2, ![4224, 1024]⟩
abbrev S2816x1024 : Shape := ⟨2, ![2816, 1024]⟩
abbrev S4224x1408 : Shape := ⟨2, ![4224, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .bf16⟩
  | .local _ .vmem, ⟨0, _⟩ => ⟨S4224x1408, .bf16⟩
  | .local _ .vmem, ⟨1, _⟩ => ⟨S4224x1408, .bf16⟩
  | .local _ .vmem, ⟨2, _⟩ => ⟨S4224x1024, .bf16⟩
  | .local _ .vmem, ⟨3, _⟩ => ⟨S1408x1024, .bf16⟩
  | .local _ .vmem, ⟨4, _⟩ => ⟨S1408x1024, .bf16⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel3Ideal.lean ====
abbrev S4224x2816 : Shape := ⟨2, ![4224, 2816]⟩
abbrev S4224x1024 : Shape := ⟨2, ![4224, 1024]⟩
abbrev S2816x1024 : Shape := ⟨2, ![2816, 1024]⟩
abbrev S4224x1408 : Shape := ⟨2, ![4224, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .bf16⟩
  | .local _ .vmem, ⟨0, _⟩ => ⟨S4224x1408, .bf16⟩
  | .local _ .vmem, ⟨1, _⟩ => ⟨S4224x1408, .bf16⟩
  | .local _ .vmem, ⟨2, _⟩ => ⟨S4224x1024, .bf16⟩
  | .local _ .vmem, ⟨3, _⟩ => ⟨S1408x1024, .bf16⟩
  | .local _ .vmem, ⟨4, _⟩ => ⟨S1408x1024, .bf16⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S_, .f32⟩
  | .hbm, ⟨3, _⟩ => ⟨S2816x1024, .f32⟩
  | .hbm, ⟨4, _⟩ => ⟨S4224x1024, .f32⟩
  | .hbm, ⟨5, _⟩ => ⟨S4224x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4224x2304 : Shape := ⟨2, ![4224, 2304]⟩
abbrev S4224x1024 : Shape := ⟨2, ![4224, 1024]⟩
abbrev S2304x1024 : Shape := ⟨2, ![2304, 1024]⟩
abbrev S4224x1152 : Shape := ⟨2, ![4224, 1152]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2304, .bf16⟩
  | .hbm, ⟨1, _⟩ => ⟨S4224x1024, .bf16⟩
  | .hbm, ⟨2, _⟩ => ⟨S2304x1024, .bf16⟩
  | .local _ .vmem, ⟨0, _⟩ => ⟨S4224x1152, .bf16⟩
  | .local _ .vmem, ⟨1, _⟩ => ⟨S4224x1152, .bf16⟩
  | .local _ .vmem, ⟨2, _⟩ => ⟨S4224x1024, .bf16⟩
  | .local _ .vmem, ⟨3, _⟩ => ⟨S1152x1024, .bf16⟩
  | .local _ .vmem, ⟨4, _⟩ => ⟨S1152x1024, .bf16⟩
  | _, _ => ⟨S4224x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel4Ideal.lean ====
abbrev S4224x2304 : Shape := ⟨2, ![4224, 2304]⟩
abbrev S4224x1024 : Shape := ⟨2, ![4224, 1024]⟩
abbrev S2304x1024 : Shape := ⟨2, ![2304, 1024]⟩
abbrev S4224x1152 : Shape := ⟨2, ![4224, 1152]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2304, .bf16⟩
  | .hbm, ⟨1, _⟩ => ⟨S4224x1024, .bf16⟩
  | .hbm, ⟨2, _⟩ => ⟨S2304x1024, .bf16⟩
  | .local _ .vmem, ⟨0, _⟩ => ⟨S4224x1152, .bf16⟩
  | .local _ .vmem, ⟨1, _⟩ => ⟨S4224x1152, .bf16⟩
  | .local _ .vmem, ⟨2, _⟩ => ⟨S4224x1024, .bf16⟩
  | .local _ .vmem, ⟨3, _⟩ => ⟨S1152x1024, .bf16⟩
  | .local _ .vmem, ⟨4, _⟩ => ⟨S1152x1024, .bf16⟩
  | _, _ => ⟨S4224x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4224x2304 : Shape := ⟨2, ![4224, 2304]⟩
abbrev S4224x1024 : Shape := ⟨2, ![4224, 1024]⟩
abbrev S_ : Shape := ⟨0, ![]⟩
abbrev S2304x1024 : Shape := ⟨2, ![2304, 1024]⟩
abbrev S1024x2304 : Shape := ⟨2, ![1024, 2304]⟩

abbrev nBuf : Space → Nat
  | .hbm => 10
  | .vmem => 0
  | .smem => 0
  | _ => 0

abbrev bufTy : (tb : Table) → Fin (tcTables nBuf tb) → BufTy
  | .hbm, ⟨0, _⟩ => ⟨S4224x2304, .bf16⟩
  | .hbm, ⟨1, _⟩ => ⟨S4224x1024, .bf16⟩
  | .hbm, ⟨2, _⟩ => ⟨S_, .f32⟩
  | .hbm, ⟨3, _⟩ => ⟨S2304x1024, .f32⟩
  | .hbm, ⟨4, _⟩ => ⟨S4224x1024, .f32⟩
  | .hbm, ⟨5, _⟩ => ⟨S4224x2304, .f32⟩
  | .hbm, ⟨6, _⟩ => ⟨S2304x1024, .f32⟩
  | .hbm, ⟨7, _⟩ => ⟨S1024x2304, .f32⟩
  | .hbm, ⟨8, _⟩ => ⟨S2304x1024, .f32⟩
  | .hbm, ⟨9, _⟩ => ⟨S2304x1024, .bf16⟩
  | _, _ => ⟨S4224x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4224x1792 : Shape := ⟨2, ![4224, 1792]⟩
abbrev S4224x1024 : Shape := ⟨2, ![4224, 1024]⟩
abbrev S1792x1024 : Shape := ⟨2, ![1792, 1024]⟩
abbrev S4224x896 : Shape := ⟨2, ![4224, 896]⟩
abbrev S896x1024 : Shape := ⟨2, ![896, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1792, .bf16⟩
  | .hbm, ⟨1, _⟩ => ⟨S4224x1024, .bf16⟩
  | .hbm, ⟨2, _⟩ => ⟨S1792x1024, .bf16⟩
  | .local _ .vmem, ⟨0, _⟩ => ⟨S4224x896, .bf16⟩
  | .local _ .vmem, ⟨1, _⟩ => ⟨S4224x896, .bf16⟩
  | .local _ .vmem, ⟨2, _⟩ => ⟨S4224x1024, .bf16⟩
  | .local _ .vmem, ⟨3, _⟩ => ⟨S896x1024, .bf16⟩
  | .local _ .vmem, ⟨4, _⟩ => ⟨S896x1024, .bf16⟩
  | _, _ => ⟨S4224x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel5Ideal.lean ====
abbrev S4224x1792 : Shape := ⟨2, ![4224, 1792]⟩
abbrev S4224x1024 : Shape := ⟨2, ![4224, 1024]⟩
abbrev S1792x1024 : Shape := ⟨2, ![1792, 1024]⟩
abbrev S4224x896 : Shape := ⟨2, ![4224, 896]⟩
abbrev S896x1024 : Shape := ⟨2, ![896, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1792, .bf16⟩
  | .hbm, ⟨1, _⟩ => ⟨S4224x1024, .bf16⟩
  | .hbm, ⟨2, _⟩ => ⟨S1792x1024, .bf16⟩
  | .local _ .vmem, ⟨0, _⟩ => ⟨S4224x896, .bf16⟩
  | .local _ .vmem, ⟨1, _⟩ => ⟨S4224x896, .bf16⟩
  | .local _ .vmem, ⟨2, _⟩ => ⟨S4224x1024, .bf16⟩
  | .local _ .vmem, ⟨3, _⟩ => ⟨S896x1024, .bf16⟩
  | .local _ .vmem, ⟨4, _⟩ => ⟨S896x1024, .bf16⟩
  | _, _ => ⟨S4224x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4224x1792 : Shape := ⟨2, ![4224, 1792]⟩
abbrev S4224x1024 : Shape := ⟨2, ![4224, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 10
  | .vmem => 0
  | .smem => 0
  | _ => 0

abbrev bufTy : (tb : Table) → Fin (tcTables nBuf tb) → BufTy
  | .hbm, ⟨0, _⟩ => ⟨S4224x1792, .bf16⟩
  | .hbm, ⟨1, _⟩ => ⟨S4224x1024, .bf16⟩
  | .hbm, ⟨2, _⟩ => ⟨S_, .f32⟩
  | .hbm, ⟨3, _⟩ => ⟨S1792x1024, .f32⟩
  | .hbm, ⟨4, _⟩ => ⟨S4224x1024, .f32⟩
  | .hbm, ⟨5, _⟩ => ⟨S4224x1792, .f32⟩
  | .hbm, ⟨6, _⟩ => ⟨S1792x1024, .f32⟩
  | .hbm, ⟨7, _⟩ => ⟨S1024x1792, .f32⟩
  | .hbm, ⟨8, _⟩ => ⟨S1792x1024, .f32⟩
  | .hbm, ⟨9, _⟩ => ⟨S1792x1024, .bf16⟩
  | _, _ => ⟨S4224x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4224x2560 : Shape := ⟨2, ![4224, 2560]⟩
abbrev S4224x1024 : Shape := ⟨2, ![4224, 1024]⟩
abbrev S2560x1024 : Shape := ⟨2, ![2560, 1024]⟩
abbrev S4224x1280 : Shape := ⟨2, ![4224, 1280]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2560, .bf16⟩
  | .hbm, ⟨1, _⟩ => ⟨S4224x1024, .bf16⟩
  | .hbm, ⟨2, _⟩ => ⟨S2560x1024, .bf16⟩
  | .local _ .vmem, ⟨0, _⟩ => ⟨S4224x1280, .bf16⟩
  | .local _ .vmem, ⟨1, _⟩ => ⟨S4224x1280, .bf16⟩
  | .local _ .vmem, ⟨2, _⟩ => ⟨S4224x1024, .bf16⟩
  | .local _ .vmem, ⟨3, _⟩ => ⟨S1280x1024, .bf16⟩
  | .local _ .vmem, ⟨4, _⟩ => ⟨S1280x1024, .bf16⟩
  | _, _ => ⟨S4224x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel6Ideal.lean ====
abbrev S4224x2560 : Shape := ⟨2, ![4224, 2560]⟩
abbrev S4224x1024 : Shape := ⟨2, ![4224, 1024]⟩
abbrev S2560x1024 : Shape := ⟨2, ![2560, 1024]⟩
abbrev S4224x1280 : Shape := ⟨2, ![4224, 1280]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x2560, .bf16⟩
  | .hbm, ⟨1, _⟩ => ⟨S4224x1024, .bf16⟩
  | .hbm, ⟨2, _⟩ => ⟨S2560x1024, .bf16⟩
  | .local _ .vmem, ⟨0, _⟩ => ⟨S4224x1280, .bf16⟩
  | .local _ .vmem, ⟨1, _⟩ => ⟨S4224x1280, .bf16⟩
  | .local _ .vmem, ⟨2, _⟩ => ⟨S4224x1024, .bf16⟩
  | .local _ .vmem, ⟨3, _⟩ => ⟨S1280x1024, .bf16⟩
  | .local _ .vmem, ⟨4, _⟩ => ⟨S1280x1024, .bf16⟩
  | _, _ => ⟨S4224x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4224x2560 : Shape := ⟨2, ![4224, 2560]⟩
abbrev S4224x1024 : Shape := ⟨2, ![4224, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 10
  | .vmem => 0
  | .smem => 0
  | _ => 0

abbrev bufTy : (tb : Table) → Fin (tcTables nBuf tb) → BufTy
  | .hbm, ⟨0, _⟩ => ⟨S4224x2560, .bf16⟩
  | .hbm, ⟨1, _⟩ => ⟨S4224x1024, .bf16⟩
  | .hbm, ⟨2, _⟩ => ⟨S_, .f32⟩
  | .hbm, ⟨3, _⟩ => ⟨S2560x1024, .f32⟩
  | .hbm, ⟨4, _⟩ => ⟨S4224x1024, .f32⟩
  | .hbm, ⟨5, _⟩ => ⟨S4224x2560, .f32⟩
  | .hbm, ⟨6, _⟩ => ⟨S2560x1024, .f32⟩
  | .hbm, ⟨7, _⟩ => ⟨S1024x2560, .f32⟩
  | .hbm, ⟨8, _⟩ => ⟨S2560x1024, .f32⟩
  | .hbm, ⟨9, _⟩ => ⟨S2560x1024, .bf16⟩
  | _, _ => ⟨S4224x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4224x1024 : Shape := ⟨2, ![4224, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .bf16⟩
  | .local _ .vmem, ⟨0, _⟩ => ⟨S4224x1024, .bf16⟩
  | .local _ .vmem, ⟨1, _⟩ => ⟨S4224x1024, .bf16⟩
  | .local _ .vmem, ⟨2, _⟩ => ⟨S1024x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Kernel7Ideal.lean ====
abbrev S4224x1024 : Shape := ⟨2, ![4224, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .bf16⟩
  | .local _ .vmem, ⟨0, _⟩ => ⟨S4224x1024, .bf16⟩
  | .local _ .vmem, ⟨1, _⟩ => ⟨S4224x1024, .bf16⟩
  | .local _ .vmem, ⟨2, _⟩ => ⟨S1024x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference7Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S512x1024, .bf16⟩
  | .local _ .vmem, ⟨0, _⟩ => ⟨S4224x512, .bf16⟩
  | .local _ .vmem, ⟨1, _⟩ => ⟨S4224x1024, .bf16⟩
  | .local _ .vmem, ⟨2, _⟩ => ⟨S512x1024, .bf16⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4224x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference8Ideal.lean ====
abbrev S4224x512 : Shape := ⟨2, ![4224, 512]⟩
abbrev S4224x1024 : Shape := ⟨2, ![4224, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S_, .f32⟩
  | .hbm, ⟨3, _⟩ => ⟨S512x1024, .f32⟩
  | .hbm, ⟨4, _⟩ => ⟨S4224x1024, .f32⟩
  | .hbm, ⟨5, _⟩ => ⟨S4224x512, .f32⟩
  | .hbm, ⟨6, _⟩ => ⟨S512x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4224x1024 : Shape := ⟨2, ![4224, 1024]⟩
abbrev S4224x512 : Shape := ⟨2, ![4224, 512]⟩
abbrev S1x128 : Shape := ⟨2, ![1, 128]⟩
abbrev S1024x1024 : Shape := ⟨2, ![1024, 1024]⟩
abbrev S512x1024 : Shape := ⟨2, ![512, 1024]⟩
abbrev S4224x2560 : Shape := ⟨2, ![4224, 2560]⟩
abbrev S8x128 : Shape := ⟨2, ![8, 128]⟩
abbrev S384x1024 : Shape := ⟨2, ![384, 1024]⟩
abbrev S384x512 : Shape := ⟨2, ![384, 512]⟩
abbrev S384x2560 : Shape := ⟨2, ![384, 2560]⟩
abbrev S384x128 : Shape := ⟨2, ![384, 128]⟩
abbrev S384 : Shape := ⟨1, ![384]⟩
abbrev S384x1 : Shape := ⟨2, ![384, 1]⟩
abbrev S128 : Shape := ⟨1, ![128]⟩
abbrev S384x384 : Shape := ⟨2, ![384, 384]⟩
abbrev S384x256 : Shape := ⟨2, ![384, 256]⟩

abbrev nBuf : Space → Nat
  | .hbm => 20
  | .vmem => 35
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x512, .f32⟩
  | .hbm, ⟨3, _⟩ => ⟨S4224x512, .f32⟩
  | .hbm, ⟨4, _⟩ => ⟨S4224x1024, .f32⟩
  | .hbm, ⟨5, _⟩ => ⟨S4224x1024, .f32⟩
  | .hbm, ⟨6, _⟩ => ⟨S1x128, .f32⟩
  | .hbm, ⟨7, _⟩ => ⟨S1024x1024, .bf16⟩
  | .hbm, ⟨8, _⟩ => ⟨S512x1024, .bf16⟩
  | .hbm, ⟨9, _⟩ => ⟨S1024x1024, .bf16⟩
  | .hbm, ⟨10, _⟩ => ⟨S4224x1024, .bf16⟩
  | .hbm, ⟨11, _⟩ => ⟨S4224x512, .f32⟩
  | .hbm, ⟨12, _⟩ => ⟨S4224x2560, .bf16⟩
  | .hbm, ⟨13, _⟩ => ⟨S4224x1024, .bf16⟩
  | .hbm, ⟨14, _⟩ => ⟨S4224x512, .bf16⟩
  | .hbm, ⟨15, _⟩ => ⟨S4224x1024, .bf16⟩
  | .hbm, ⟨16, _⟩ => ⟨S4224x1024, .bf16⟩
  | .hbm, ⟨17, _⟩ => ⟨S4224x1024, .bf16⟩
  | .hbm, ⟨18, _⟩ => ⟨S4224x1024, .bf16⟩
  | .hbm, ⟨19, _⟩ => ⟨S8x128, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1x128, .f32⟩
  | .local _ .vmem, ⟨13, _⟩ => ⟨S1024x1024, .bf16⟩
  | .local _ .vmem, ⟨14, _⟩ => ⟨S512x1024, .bf16⟩
  | .local _ .vmem, ⟨15, _⟩ => ⟨S1024x1024, .bf16⟩
  | .local _ .vmem, ⟨16, _⟩ => ⟨S384x1024, .bf16⟩
  | .local _ .vmem, ⟨17, _⟩ => ⟨S384x1024, .bf16⟩
  | .local _ .vmem, ⟨18, _⟩ => ⟨S384x512, .f32⟩
  | .local _ .vmem, ⟨19, _⟩ => ⟨S384x512, .f32⟩
  | .local _ .vmem, ⟨20, _⟩ => ⟨S384x2560, .bf16⟩
  | .local _ .vmem, ⟨21, _⟩ => ⟨S384x2560, .bf16⟩
  | .local _ .vmem, ⟨22, _⟩ => ⟨S384x1024, .bf16⟩
  | .local _ .vmem, ⟨23, _⟩ => ⟨S384x1024, .bf16⟩
  | .local _ .vmem, ⟨24, _⟩ => ⟨S384x512, .bf16⟩
  | .local _ .vmem, ⟨25, _⟩ => ⟨S384x512, .bf16⟩
  | .local _ .vmem, ⟨26, _⟩ => ⟨S384x1024, .bf16⟩
  | .local _ .vmem, ⟨27, _⟩ => ⟨S384x1024, .bf16⟩
  | .local _ .vmem, ⟨28, _⟩ => ⟨S384x1024, .bf16⟩
  | .local _ .vmem, ⟨29, _⟩ => ⟨S384x1024, .bf16⟩
  | .local _ .vmem, ⟨30, _⟩ => ⟨S384x1024, .bf16⟩
  | .local _ .vmem, ⟨31, _⟩ => ⟨S384x1024, .bf16⟩
  | .local _ .vmem, ⟨32, _⟩ => ⟨S384x1024, .bf16⟩
  | .local _ .vmem, ⟨33, _⟩ => ⟨S384x1024, .bf16⟩
  | .local _ .vmem, ⟨34, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference9Ideal.lean ====
abbrev S4224x1024 : Shape := ⟨2, ![4224, 1024]⟩
abbrev S4224x512 : Shape := ⟨2, ![4224, 512]⟩
abbrev S1x128 : Shape := ⟨2, ![1, 128]⟩
abbrev S1024x1024 : Shape := ⟨2, ![1024, 1024]⟩
abbrev S512x1024 : Shape := ⟨2, ![512, 1024]⟩
abbrev S_ : Shape := ⟨0, ![]⟩
abbrev S4224x4x128 : Shape := ⟨3, ![4224, 4, 128]⟩
abbrev S128 : Shape := ⟨1, ![128]⟩
abbrev S4224x4 : Shape := ⟨2, ![4224, 4]⟩
abbrev S4224x4x1 : Shape := ⟨3, ![4224, 4, 1]⟩
abbrev S1x1x128 : Shape := ⟨3, ![1, 1, 128]⟩
abbrev S4224x8x128 : Shape := ⟨3, ![4224, 8, 128]⟩
abbrev S4224x8 : Shape := ⟨2, ![4224, 8]⟩
abbrev S4224x8x1 : Shape := ⟨3, ![4224, 8, 1]⟩
abbrev S4224x2560 : Shape := ⟨2, ![4224, 2560]⟩
abbrev S7x128 : Shape := ⟨2, ![7, 128]⟩
abbrev S8x128 : Shape := ⟨2, ![8, 128]⟩

abbrev nBuf : Space → Nat
  | .hbm => 167
  | .vmem => 0
  | .smem => 0
  | _ => 0

abbrev hbmTy0_0 (i : Nat) : BufTy := match i % 128 with
  | 0 => ⟨S4224x1024, .f32⟩
  | 1 => ⟨S4224x1024, .f32⟩
  | 2 => ⟨S4224x512, .f32⟩
  | 3 => ⟨S4224x512, .f32⟩
  | 4 => ⟨S4224x1024, .f32⟩
  | 5 => ⟨S4224x1024, .f32⟩
  | 6 => ⟨S1x128, .f32⟩
  | 7 => ⟨S1024x1024, .bf16⟩
  | 8 => ⟨S512x1024, .bf16⟩
  | 9 => ⟨S1024x1024, .bf16⟩
  | 10 => ⟨S_, .f32⟩
  | 11 => ⟨S4224x1024, .f32⟩
  | 12 => ⟨S1024x1024, .f32⟩
  | 13 => ⟨S512x1024, .f32⟩
  | 14 => ⟨S1024x1024, .f32⟩
  | 15 => ⟨S4224x4x128, .f32⟩
  | 16 => ⟨S128, .f32⟩
  | 17 => ⟨S4224x4x128, .f32⟩
  | 18 => ⟨S_, .f32⟩
  | 19 => ⟨S4224x4, .f32⟩
  | 20 => ⟨S4224x4x1, .f32⟩
  | 21 => ⟨S_, .f32⟩
  | 22 => ⟨S4224x4x1, .f32⟩
  | 23 => ⟨S4224x4x1, .f32⟩
  | 24 => ⟨S_, .f32⟩
  | 25 => ⟨S4224x4x1, .f32⟩
  | 26 => ⟨S4224x4x1, .f32⟩
  | 27 => ⟨S4224x4x1, .f32⟩
  | 28 => ⟨S4224x4x1, .f32⟩
  | 29 => ⟨S_, .f32⟩
  | 30 => ⟨S4224x4x1, .f32⟩
  | 31 => ⟨S4224x4x1, .f32⟩
  | 32 => ⟨S4224x4x128, .f32⟩
  | 33 => ⟨S4224x4x128, .f32⟩
  | 34 => ⟨S1x1x128, .f32⟩
  | 35 => ⟨S4224x4x128, .f32⟩
  | 36 => ⟨S4224x4x128, .f32⟩
  | 37 => ⟨S4224x4x128, .f32⟩
  | 38 => ⟨S4224x4x128, .f32⟩
  | 39 => ⟨S4224x4x128, .f32⟩
  | 40 => ⟨S_, .f32⟩
  | 41 => ⟨S4224x4x128, .f32⟩
  | 42 => ⟨S4224x4x128, .f32⟩
  | 43 => ⟨S_, .f32⟩
  | 44 => ⟨S4224x4x128, .f32⟩
  | 45 => ⟨S4224x4x128, .f32⟩
  | 46 => ⟨S_, .f32⟩
  | 47 => ⟨S4224x4x128, .f32⟩
  | 48 => ⟨S4224x4x128, .f32⟩
  | 49 => ⟨S4224x4x128, .f32⟩
  | 50 => ⟨S4224x4x128, .f32⟩
  | 51 => ⟨S4224x4x128, .f32⟩
  | 52 => ⟨S4224x512, .f32⟩
  | 53 => ⟨S4224x1024, .f32⟩
  | 54 => ⟨S4224x1024, .f32⟩
  | 55 => ⟨S_, .f32⟩
  | 56 => ⟨S4224x1024, .f32⟩
  | 57 => ⟨S4224x1024, .f32⟩
  | 58 => ⟨S_, .f32⟩
  | 59 => ⟨S4224x1024, .f32⟩
  | 60 => ⟨S4224x1024, .f32⟩
  | 61 => ⟨S_, .f32⟩
  | 62 => ⟨S4224x1024, .f32⟩
  | 63 => ⟨S4224x1024, .f32⟩
  | 64 => ⟨S4224x1024, .f32⟩
  | 65 => ⟨S4224x1024, .f32⟩
  | 66 => ⟨S4224x1024, .f32⟩
  | 67 => ⟨S4224x1024, .f32⟩
  | 68 => ⟨S4224x1024, .f32⟩
  | 69 => ⟨S4224x1024, .f32⟩
  | 70 => ⟨S_, .f32⟩
  | 71 => ⟨S4224x1024, .f32⟩
  | 72 => ⟨S4224x1024, .f32⟩
  | 73 => ⟨S_, .f32⟩
  | 74 => ⟨S4224x1024, .f32⟩
  | 75 => ⟨S4224x1024, .f32⟩
  | 76 => ⟨S_, .f32⟩
  | 77 => ⟨S4224x1024, .f32⟩
  | 78 => ⟨S4224x1024, .f32⟩
  | 79 => ⟨S4224x1024, .f32⟩
  | 80 => ⟨S4224x1024, .f32⟩
  | 81 => ⟨S4224x1024, .f32⟩
  | 82 => ⟨S4224x1024, .f32⟩
  | 83 => ⟨S4224x1024, .f32⟩
  | 84 => ⟨S4224x1024, .f32⟩
  | 85 => ⟨S4224x1024, .f32⟩
  | 86 => ⟨S4224x1024, .f32⟩
  | 87 => ⟨S4224x1024, .f32⟩
  | 88 => ⟨S4224x512, .f32⟩
  | 89 => ⟨S4224x1024, .f32⟩
  | 90 => ⟨S4224x1024, .f32⟩
  | 91 => ⟨S4224x1024, .f32⟩
  | 92 => ⟨S4224x1024, .f32⟩
  | 93 => ⟨S4224x1024, .f32⟩
  | 94 => ⟨S4224x4x128, .f32⟩
  | 95 => ⟨S4224x4x128, .f32⟩
  | 96 => ⟨S4224x4x128, .f32⟩
  | 97 => ⟨S4224x4x128, .f32⟩
  | 98 => ⟨S4224x4x128, .f32⟩
  | 99 => ⟨S4224x4x128, .f32⟩
  | 100 => ⟨S4224x4x128, .f32⟩
  | 101 => ⟨S4224x512, .f32⟩
  | 102 => ⟨S4224x4x128, .f32⟩
  | 103 => ⟨S_, .f32⟩
  | 104 => ⟨S128, .f32⟩
  | 105 => ⟨S1x1x128, .f32⟩
  | 106 => ⟨S4224x4x128, .f32⟩
  | 107 => ⟨S4224x4x128, .f32⟩
  | 108 => ⟨S_, .f32⟩
  | 109 => ⟨S128, .f32⟩
  | 110 => ⟨S4224x4x128, .f32⟩
  | 111 => ⟨S_, .f32⟩
  | 112 => ⟨S4224x4, .f32⟩
  | 113 => ⟨S4224x4x1, .f32⟩
  | 114 => ⟨S4224x4x128, .f32⟩
  | 115 => ⟨S4224x4x128, .f32⟩
  | 116 => ⟨S4224x4x1, .f32⟩
  | 117 => ⟨S_, .f32⟩
  | 118 => ⟨S4224x4x1, .f32⟩
  | 119 => ⟨S4224x4x1, .f32⟩
  | 120 => ⟨S_, .f32⟩
  | 121 => ⟨S4224x4, .f32⟩
  | 122 => ⟨S4224x4x128, .f32⟩
  | 123 => ⟨S4224x4x128, .f32⟩
  | 124 => ⟨S4224x4x128, .f32⟩
  | 125 => ⟨S4224x4x128, .f32⟩
  | 126 => ⟨S4224x4x128, .f32⟩
  | 127 => ⟨S1x128, .f32⟩
  | _ => ⟨S4224x1024, .f32⟩

abbrev hbmTy0_1 (i : Nat) : BufTy := match i % 128 with
  | 0 => ⟨S4224x512, .f32⟩
  | 1 => ⟨S128, .i32⟩
  | 2 => ⟨S_, .i32⟩
  | 3 => ⟨S128, .i32⟩
  | 4 => ⟨S128, .i1⟩
  | 5 => ⟨S4224x1024, .f32⟩
  | 6 => ⟨S4224x8x128, .f32⟩
  | 7 => ⟨S_, .f32⟩
  | 8 => ⟨S_, .f32⟩
  | 9 => ⟨S4224x8x128, .i1⟩
  | 10 => ⟨S4224x8x128, .f32⟩
  | 11 => ⟨S4224x8x128, .f32⟩
  | 12 => ⟨S_, .f32⟩
  | 13 => ⟨S4224x8, .f32⟩
  | 14 => ⟨S4224x8x1, .f32⟩
  | 15 => ⟨S4224x8x128, .f32⟩
  | 16 => ⟨S_, .i32⟩
  | 17 => ⟨S128, .i32⟩
  | 18 => ⟨S128, .i1⟩
  | 19 => ⟨S_, .f32⟩
  | 20 => ⟨S_, .f32⟩
  | 21 => ⟨S4224x8x128, .i1⟩
  | 22 => ⟨S4224x8x128, .f32⟩
  | 23 => ⟨S4224x8x128, .f32⟩
  | 24 => ⟨S4224x8x128, .f32⟩
  | 25 => ⟨S4224x8x128, .f32⟩
  | 26 => ⟨S4224x1024, .f32⟩
  | 27 => ⟨S4224x2560, .f32⟩
  | 28 => ⟨S_, .f32⟩
  | 29 => ⟨S7x128, .f32⟩
  | 30 => ⟨S8x128, .f32⟩
  | 31 => ⟨S4224x1024, .bf16⟩
  | 32 => ⟨S4224x2560, .bf16⟩
  | 33 => ⟨S4224x1024, .bf16⟩
  | 34 => ⟨S4224x512, .bf16⟩
  | 35 => ⟨S4224x1024, .bf16⟩
  | 36 => ⟨S4224x1024, .bf16⟩
  | 37 => ⟨S4224x1024, .bf16⟩
  | 38 => ⟨S4224x1024, .bf16⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v23_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v23_1 : Ref sig .tc := ⟨.hbm, 49, rfl⟩
abbrev main_v23_0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_11 : Ref sig .tc := ⟨.hbm, 108, rfl⟩
abbrev main_v71 : Ref sig .tc := ⟨.hbm, 109, rfl⟩
abbrev main_v72 : Ref sig .tc := ⟨.hbm, 110, rfl⟩
abbrev main_cst_12 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_13 : Ref sig .tc := ⟨.hbm, 117, rfl⟩
abbrev main_v78 : Ref sig .tc := ⟨.hbm, 118, rfl⟩
abbrev main_v79 : Ref sig .tc := ⟨.hbm, 119, rfl⟩
abbrev main_cst_14 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_15 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v93 : Ref sig .tc := ⟨.hbm, 139, rfl⟩
abbrev main_cst_16 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_c_17 : Ref sig .tc := ⟨.hbm, 144, rfl⟩
abbrev main_v97 : Ref sig .tc := ⟨.hbm, 145, rfl⟩
abbrev main_v98 : Ref sig .tc := ⟨.hbm, 146, rfl⟩
abbrev main_cst_18 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_19 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩

abbrev nD : Nat := 1
abbrev τ : Topo := Topo.v7x

variable {F : FTy → Type} [FloatOps F]
-- ==== Kernel10.lean ====
abbrev S4224x1024 : Shape := ⟨2, ![4224, 1024]⟩
abbrev S4224x512 : Shape := ⟨2, ![4224, 512]⟩
abbrev S1x128 : Shape := ⟨2, ![1, 128]⟩
abbrev S1024x1024 : Shape := ⟨2, ![1024, 1024]⟩
abbrev S512x1024 : Shape := ⟨2, ![512, 1024]⟩
abbrev S384x1024 : Shape := ⟨2, ![384, 1024]⟩
abbrev S384x512 : Shape := ⟨2, ![384, 512]⟩
abbrev S384x128 : Shape := ⟨2, ![384, 128]⟩
abbrev S384 : Shape := ⟨1, ![384]⟩
abbrev S384x1 : Shape := ⟨2, ![384, 1]⟩

abbrev nBuf : Space → Nat
  | .hbm => 11
  | .vmem => 18
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S1x128, .f32⟩
  | .hbm, ⟨7, _⟩ => ⟨S1024x1024, .bf16⟩
  | .hbm, ⟨8, _⟩ => ⟨S512x1024, .bf16⟩
  | .hbm, ⟨9, _⟩ => ⟨S1024x1024, .bf16⟩
  | .hbm, ⟨10, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1x128, .f32⟩
  | .local _ .vmem, ⟨13, _⟩ => ⟨S1024x1024, .bf16⟩
  | .local _ .vmem, ⟨14, _⟩ => ⟨S512x1024, .bf16⟩
  | .local _ .vmem, ⟨15, _⟩ => ⟨S1024x1024, .bf16⟩
  | .local _ .vmem, ⟨16, _⟩ => ⟨S384x1024, .f32⟩
  | .local _ .vmem, ⟨17, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S4224x1024 : Shape := ⟨2, ![4224, 1024]⟩
abbrev S4224x512 : Shape := ⟨2, ![4224, 512]⟩
abbrev S1x128 : Shape := ⟨2, ![1, 128]⟩
abbrev S1024x1024 : Shape := ⟨2, ![1024, 1024]⟩
abbrev S512x1024 : Shape := ⟨2, ![512, 1024]⟩
abbrev S_ : Shape := ⟨0, ![]⟩
abbrev S4224x4x128 : Shape := ⟨3, ![4224, 4, 128]⟩
abbrev S128 : Shape := ⟨1, ![128]⟩
abbrev S4224x4 : Shape := ⟨2, ![4224, 4]⟩
abbrev S4224x4x1 : Shape := ⟨3, ![4224, 4, 1]⟩
abbrev S1x1x128 : Shape := ⟨3, ![1, 1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S1x128, .f32⟩
  | .hbm, ⟨7, _⟩ => ⟨S1024x1024, .bf16⟩
  | .hbm, ⟨8, _⟩ => ⟨S512x1024, .bf16⟩
  | .hbm, ⟨9, _⟩ => ⟨S1024x1024, .bf16⟩
  | .hbm, ⟨10, _⟩ => ⟨S_, .f32⟩
  | .hbm, ⟨11, _⟩ => ⟨S4224x1024, .f32⟩
  | .hbm, ⟨12, _⟩ => ⟨S1024x1024, .f32⟩
  | .hbm, ⟨13, _⟩ => ⟨S512x1024, .f32⟩
  | .hbm, ⟨14, _⟩ => ⟨S1024x1024, .f32⟩
  | .hbm, ⟨15, _⟩ => ⟨S4224x4x128, .f32⟩
  | .hbm, ⟨16, _⟩ => ⟨S128, .f32⟩
  | .hbm, ⟨17, _⟩ => ⟨S4224x4x128, .f32⟩
  | .hbm, ⟨18, _⟩ => ⟨S_, .f32⟩
  | .hbm, ⟨19, _⟩ => ⟨S4224x4, .f32⟩
  | .hbm, ⟨20, _⟩ => ⟨S4224x4x1, .f32⟩
  | .hbm, ⟨21, _⟩ => ⟨S_, .f32⟩
  | .hbm, ⟨22, _⟩ => ⟨S4224x4x1, .f32⟩
  | .hbm, ⟨23, _⟩ => ⟨S4224x4x1, .f32⟩
  | .hbm, ⟨24, _⟩ => ⟨S_, .f32⟩
  | .hbm, ⟨25, _⟩ => ⟨S4224x4x1, .f32⟩
  | .hbm, ⟨26, _⟩ => ⟨S4224x4x1, .f32⟩
  | .hbm, ⟨27, _⟩ => ⟨S4224x4x1, .f32⟩
  | .hbm, ⟨28, _⟩ => ⟨S4224x4x128, .f32⟩
  | .hbm, ⟨29, _⟩ => ⟨S4224x4x128, .f32⟩
  | .hbm, ⟨30, _⟩ => ⟨S1x1x128, .f32⟩
  | .hbm, ⟨31, _⟩ => ⟨S4224x4x128, .f32⟩
  | .hbm, ⟨32, _⟩ => ⟨S4224x4x128, .f32⟩
  | .hbm, ⟨33, _⟩ => ⟨S4224x4x128, .f32⟩
  | .hbm, ⟨34, _⟩ => ⟨S4224x4x128, .f32⟩
  | .hbm, ⟨35, _⟩ => ⟨S4224x4x128, .f32⟩
  | .hbm, ⟨36, _⟩ => ⟨S_, .f32⟩
  | .hbm, ⟨37, _⟩ => ⟨S4224x4x128, .f32⟩
  | .hbm, ⟨38, _⟩ => ⟨S4224x4x128, .f32⟩
  | .hbm, ⟨39, _⟩ => ⟨S_, .f32⟩
  | .hbm, ⟨40, _⟩ => ⟨S4224x4x128, .f32⟩
  | .hbm, ⟨41, _⟩ => ⟨S4224x4x128, .f32⟩
  | .hbm, ⟨42, _⟩ => ⟨S4224x4x128, .f32⟩
  | .hbm, ⟨43, _⟩ => ⟨S4224x4x128, .f32⟩
  | .hbm, ⟨44, _⟩ => ⟨S4224x512, .f32⟩
  | .hbm, ⟨45, _⟩ => ⟨S4224x1024, .f32⟩
  | .hbm, ⟨46, _⟩ => ⟨S4224x1024, .f32⟩
  | .hbm, ⟨47, _⟩ => ⟨S_, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S_, .f32⟩
  | .hbm, ⟨59, _⟩ => ⟨S4224x1024, .f32⟩
  | .hbm, ⟨60, _⟩ => ⟨S4224x1024, .f32⟩
  | .hbm, ⟨61, _⟩ => ⟨S_, .f32⟩
  | .hbm, ⟨62, _⟩ => ⟨S4224x1024, .f32⟩
  | .hbm, ⟨63, _⟩ => ⟨S4224x1024, .f32⟩
  | .hbm, ⟨64, _⟩ => ⟨S4224x1024, .f32⟩
  | .hbm, ⟨65, _⟩ => ⟨S4224x1024, .f32⟩
  | .hbm, ⟨66, _⟩ => ⟨S4224x1024, .f32⟩
  | .hbm, ⟨67, _⟩ => ⟨S4224x1024, .f32⟩
  | .hbm, ⟨68, _⟩ => ⟨S4224x1024, .f32⟩
  | .hbm, ⟨69, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Proof.Step.lean ====
/- The vocabulary of the backward scan: the rectangles a chunk and a head are read and written through, what
   the kernel computes at one chunk of one head, and the carried cotangent state as a recursion over the chunks of
   one grid point. -/
module

public import proofs.«01_k».proof.Proof.Gen.KernelIdeal.Value

@[expose] public section

set_option maxRecDepth 16384

noncomputable section

namespace Cert.ScanBwd

open Idealize.ShloMosaic Idealize.ShloMosaic.TcCoe
open Cert.KernelIdeal Cert.KernelIdeal.Gen

variable {F : FTy → Type} [FloatOps F]

/-- Chunk `j`, head `h` of a block of six chunks of four heads of width 128. -/
abbrev rX (j : Fin 6) (h : Fin 4) : Rect S384x512 := Rect.unit (s := S384x512) ![64 * j.val, 128 * h.val] ![64, 128]
  (fun a => by
    have hj := j.isLt; have hh := h.isLt
    match a with
    | ⟨0, _⟩ => show 64 * j.val + 64 ≤ 384; omega
    | ⟨1, _⟩ => show 128 * h.val + 128 ≤ 512; omega)

/-- Chunk `j`, head `h` of a block of the intra-chunk matrices. -/
abbrev rA (j : Fin 6) (h : Fin 4) : Rect S384x256 := Rect.unit (s := S384x256) ![64 * j.val, 64 * h.val] ![64, 64]
  (fun a => by
    have hj := j.isLt; have hh := h.isLt
    match a with
    | ⟨0, _⟩ => show 64 * j.val + 64 ≤ 384; omega
    | ⟨1, _⟩ => show 64 * h.val + 64 ≤ 256; omega)

/-- The log decay row of chunk `j`. -/
abbrev rG (j : Fin 6) : Rect S6x1x128 := Rect.unit (s := S6x1x128) ![j.val, 0, 0] ![1, 1, 128]
  (fun a => by
    have hj := j.isLt
    match a with
    | ⟨0, _⟩ => show j.val + 1 ≤ 6; omega
    | ⟨1, _⟩ => show 0 + 1 ≤ 1; omega
    | ⟨2, _⟩ => show 0 + 128 ≤ 128; omega)

/-- Head `h` of the carried state. -/
abbrev rS (h : Fin 4) : Rect S4x128x128 := Rect.unit (s := S4x128x128) ![h.val, 0, 0] ![1, 128, 128]
  (fun a => by
    have hh := h.isLt
    match a with
    | ⟨0, _⟩ => show h.val + 1 ≤ 4; omega
    | ⟨1, _⟩ => show 0 + 128 ≤ 128; omega
    | ⟨2, _⟩ => show 0 + 128 ≤ 128; omega)

/-- Chunk `j`, head `h` of the block of saved cotangent states. -/
abbrev rD (j : Fin 6) (h : Fin 4) : Rect S6x4x128x128 := Rect.unit (s := S6x4x128x128) ![j.val, h.val, 0, 0] ![1, 1, 128, 128]
  (fun a => by
    have hj := j.isLt; have hh := h.isLt
    match a with
    | ⟨0, _⟩ => show j.val + 1 ≤ 6; omega
    | ⟨1, _⟩ => show h.val + 1 ≤ 4; omega
    | ⟨2, _⟩ => show 0 + 128 ≤ 128; omega
    | ⟨3, _⟩ => show 0 + 128 ≤ 128; omega)

/-- The state of one head without its leading unit axis. -/
def sqV (S : Vec F S1x128x128 .f32) : FVec F S128x128 .f32 := shapeCast S128x128 S shapeCasts_S1x128x128_S128x128

/-- The cotangent of `v_new` at one chunk of one head: `atᵀ·do + kd·dS`. -/
def dvnV (S : Vec F S1x128x128 .f32) (d : Vec F S64x128 .f32) (a : Vec F S64x64 .bf16) (k : Vec F S64x128 .bf16) :
    FVec F S64x128 .f32 :=
  addf (matmul dot_S64x64_S64x128_S64x128_0_0_1_1_n_n none a (truncf .bf16 d bitsLt_bf16_f32) (constant S64x128 .f32 0x00000000#32))
    (matmul dot_S64x128_S128x128_S64x128_1_0_0_1_n_n none k (truncf .bf16 (sqV S) bitsLt_bf16_f32) (constant S64x128 .f32 0x00000000#32))

/-- The log decay of head `h`, picked from its row, exponentiated. -/
def decV (h : BitVec 32) (g : Vec F S1x1x128 .f32) : FVec F S1x1 .f32 :=
  exp (shapeCast S1x1 (multiReduction .add [1] S1
    (select (cmpi .eq (iota .tc S1x128 32 [1] iota_S1x128_d1_w32) (broadcast S1x128 h))
      (shapeCast S1x128 g shapeCasts_S1x1x128_S1x128) (broadcast S1x128 (Scalar.ofBits .f32 0x00000000#32)))
    0x00000000#32 reduces_S1x128_S1 (.inl rfl) rfl) shapeCasts_S1_S1x1)

/-- The state's cotangent one chunk further back: `qdᵀ·do + dS·exp(gl) − wᵀ·dvn`. -/
def stM (h : BitVec 32) (g : Vec F S1x1x128 .f32) (S : Vec F S1x128x128 .f32) (d : Vec F S64x128 .f32) (a : Vec F S64x64 .bf16)
    (k q w : Vec F S64x128 .bf16) : FVec F S128x128 .f32 :=
  subf (addf (matmul dot_S64x128_S64x128_S128x128_0_0_1_1_n_n none q (truncf .bf16 d bitsLt_bf16_f32) (constant S128x128 .f32 0x00000000#32))
      (mulf (sqV S) (broadcastTo S128x128 (decV h g) broadcasts_S1x1_S128x128)))
    (matmul dot_S64x128_S64x128_S128x128_0_0_1_1_n_n none w (truncf .bf16 (dvnV S d a k) bitsLt_bf16_f32) (constant S128x128 .f32 0x00000000#32))

/-- … with its leading unit axis. -/
def stV (h : BitVec 32) (g : Vec F S1x1x128 .f32) (S : Vec F S1x128x128 .f32) (d : Vec F S64x128 .f32) (a : Vec F S64x64 .bf16)
    (k q w : Vec F S64x128 .bf16) : FVec F S1x128x128 .f32 :=
  shapeCast S1x128x128 (stM h g S d a k q w) shapeCasts_S128x128_S1x128x128

/-- Chunk number after `k` steps back within a block of six. -/
abbrev jk (k : ℕ) : Fin 6 := ⟨5 - k, by omega⟩

/-- Head `h`'s carried cotangent after `k` chunks of the block, from the state `s` the point starts with. -/
def Sv (x0 : Vec F S384x512 .f32) (x1 x2 x3 : Vec F S384x512 .bf16) (x4 : Vec F S384x256 .bf16) (x5 : Vec F S6x1x128 .f32)
    (s : Vec F S4x128x128 .f32) : ℕ → Fin 4 → Vec F S1x128x128 .f32
  | 0, h => View.ld s (rS h)
  | k + 1, h => stV (BitVec.ofNat 32 h.val) (View.ld x5 (rG (jk k))) (Sv x0 x1 x2 x3 x4 x5 s k h) (View.ld x0 (rX (jk k) h))
      (View.ld x4 (rA (jk k) h)) (View.ld x3 (rX (jk k) h)) (View.ld x2 (rX (jk k) h)) (View.ld x1 (rX (jk k) h))

/-- The `dvn` piece `k` chunks back. -/
def Dv (x0 : Vec F S384x512 .f32) (x1 x2 x3 : Vec F S384x512 .bf16) (x4 : Vec F S384x256 .bf16) (x5 : Vec F S6x1x128 .f32)
    (s : Vec F S4x128x128 .f32) (k : ℕ) (h : Fin 4) : Vec F S64x128 .f32 :=
  dvnV (Sv x0 x1 x2 x3 x4 x5 s k h) (View.ld x0 (rX (jk k) h)) (View.ld x4 (rA (jk k) h)) (View.ld x3 (rX (jk k) h))

/-- The saved-state piece `k` chunks back. -/
def Pv (x0 : Vec F S384x512 .f32) (x1 x2 x3 : Vec F S384x512 .bf16) (x4 : Vec F S384x256 .bf16) (x5 : Vec F S6x1x128 .f32)
    (s : Vec F S4x128x128 .f32) (k : ℕ) (h : Fin 4) : Vec F S1x1x128x128 .f32 :=
  shapeCast S1x1x128x128 (sqV (Sv x0 x1 x2 x3 x4 x5 s k h)) shapeCasts_S128x128_S1x1x128x128

/-- Two heads' parts of the carried state share no index. -/
theorem rS_disjoint (h h' : Fin 4) (hne : h' ≠ h) : Disjoint (rS h').set (rS h).set := by
  rw [Finset.disjoint_left]
  intro i h1 h2
  rw [Rect.mem_set_unit] at h1 h2
  have a1 := h1 0; have a2 := h2 0
  have e1 : h'.val ≤ (i 0).val ∧ (i 0).val < h'.val + 1 := a1
  have e2 : h.val ≤ (i 0).val ∧ (i 0).val < h.val + 1 := a2
  exact hne (Fin.ext (by omega))

variable {sp : Space} (v : View sig .tc sp S4x128x128 .f32)

/-- A load of head `h` passes over a store of another head. -/
theorem rd_skip (h h' : Fin 4) (hne : h' ≠ h) (w : (rS h').shape.Idx → Elt F .f32) (L : List (View.Piece (Elt F) S4x128x128 .f32)) :
    v.readCov ((⟨rS h', w⟩ : View.Piece (Elt F) S4x128x128 .f32) :: L) (rS h).toLoadRect = v.readCov L (rS h).toLoadRect :=
  View.readCov_cons_of_disjoint v _ L _ (by
    have := rS_disjoint h h' hne
    exact this)

/-- A load of head `h` reads the last store of head `h`. -/
theorem rd_hit (h : Fin 4) (w : (rS h).shape.Idx → Elt F .f32) (L : List (View.Piece (Elt F) S4x128x128 .f32)) :
    v.readCov ((⟨rS h, w⟩ : View.Piece (Elt F) S4x128x128 .f32) :: L) (rS h).toLoadRect = w :=
  View.readCov_cons_toLoadRect v (rS h) w L

theorem rd_whole (h : Fin 4) (inb : ∀ a, (![0, 0, 0] : Fin 3 → ℕ) a + S4x128x128.size a ≤ S4x128x128.size a) (Z : S4x128x128.Idx → Elt F .f32) :
    v.readCov [(⟨Rect.unit (s := S4x128x128) ![0, 0, 0] S4x128x128.size inb, Z⟩ : View.Piece (Elt F) S4x128x128 .f32)] (rS h).toLoadRect
      = View.ld Z (rS h) := by
  have hz : (![0, 0, 0] : Fin 3 → ℕ) = fun _ => 0 := funext fun a => by fin_cases a <;> rfl
  rw [View.readCov_eq_canon_ld _ _ _ (fun y => ⟨_, List.mem_singleton_self _, View.mem_set_unit_zero hz inb y⟩)]
  rw [View.canon_unit_zero hz]

end Cert.ScanBwd

end
-- ==== Proof.Real.lean ====
/- The recursion over ℝ that both programs compute from finite arguments, and one grid point of the kernel as six
   steps of it. -/
module

public import proofs.«01_k».proof.Proof.Step
public import Idealize.ShloMosaic.Lib.Pointwise

@[expose] public section

set_option maxRecDepth 16384

noncomputable section

namespace Cert.ScanBwd

open Idealize.ShloMosaic Idealize.ShloMosaic.TcCoe
open Cert.KernelIdeal Cert.KernelIdeal.Gen

/-- A finite sum of reals, in the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The arguments' real entries, at natural indices: `d` the cotangent of the output, `w`, `q`, `k` the chunk factors,
    `a` the intra-chunk matrices, `g` the log decays by chunk and head. -/
structure Args where
  d : ℕ → ℕ → ℝ
  w : ℕ → ℕ → ℝ
  q : ℕ → ℕ → ℝ
  k : ℕ → ℕ → ℝ
  a : ℕ → ℕ → ℝ
  g : ℕ → ℕ → ℝ

/-- The cotangent of `v_new` at chunk `n`, head `h`, from the state's cotangent `S` after the chunk. -/
def mid (A : Args) (S : ℕ → ℕ → ℝ) (n h c e : ℕ) : ℝ :=
  ∑ x : Fin 64, A.a (64 * n + x.val) (64 * h + c) * A.d (64 * n + x.val) (128 * h + e)
    + ∑ x : Fin 128, A.k (64 * n + c) (128 * h + x.val) * S x.val e

/-- The state's cotangent `s` chunks back from the last of 66. -/
def T (A : Args) : ℕ → ℕ → ℕ → ℕ → ℝ
  | 0, _, _, _ => 0
  | s + 1, h, i, e =>
    ∑ x : Fin 64, A.q (64 * (65 - s) + x.val) (128 * h + i) * A.d (64 * (65 - s) + x.val) (128 * h + e)
      + T A s h i e * Real.exp (A.g (65 - s) h)
      - ∑ x : Fin 64, A.w (64 * (65 - s) + x.val) (128 * h + i) * mid A (T A s h) (65 - s) h x.val e

theorem dvnV_apply (S : Vec Ideal S1x128x128 .f32) (d : Vec Ideal S64x128 .f32) (a : Vec Ideal S64x64 .bf16) (k : Vec Ideal S64x128 .bf16)
    (c : Fin 64) (e : Fin 128) : dvnV S d a k (ix2 c e) = ∑ x : Fin 64, a (ix2 x c) * d (ix2 x e) + ∑ x : Fin 128, k (ix2 c x) * S (ix3 0 x e) := by
  unfold dvnV sqV
  pointwise

theorem decV_apply (h : Fin 4) (g : Vec Ideal S1x1x128 .f32) :
    decV (BitVec.ofNat 32 h.val) g (ix2 0 0) = Ideal.exp (g (ix3 0 0 ⟨h.val, by omega⟩)) := by
  unfold decV
  pointwise
  congr 1
  rw [Finset.sum_eq_single (⟨h.val, by omega⟩ : Fin 128)]
  · simp only [IntOp.cmpi, Scalar.select]
    simp
  · intro b _ hb
    have : ¬ (BitVec.ofNat 32 b.val = BitVec.ofNat 32 h.val) := fun e => hb (Fin.ext (by
      have := congrArg BitVec.toNat e
      have hh := h.isLt
      have hb' := b.isLt
      simp only [BitVec.toNat_ofNat] at this
      show b.val = h.val
      omega))
    rw [show IntOp.cmpi .eq (BitVec.ofNat 32 b.val) (BitVec.ofNat 32 h.val) = 0#1 by
      show BitVec.ofBool (BitVec.ofNat 32 b.val == BitVec.ofNat 32 h.val) = 0#1
      rw [beq_eq_false_iff_ne.mpr this]
      rfl]
    rfl
  · simp

theorem stV_apply (h : BitVec 32) (g : Vec Ideal S1x1x128 .f32) (S : Vec Ideal S1x128x128 .f32) (d : Vec Ideal S64x128 .f32) (a : Vec Ideal S64x64 .bf16) (k q w : Vec Ideal S64x128 .bf16)
    (c : Fin 128) (e : Fin 128) : stV h g S d a k q w (ix3 0 c e)
      = ∑ x : Fin 64, q (ix2 x c) * d (ix2 x e) + S (ix3 0 c e) * decV h g (ix2 0 0) - ∑ x : Fin 64, w (ix2 x c) * dvnV S d a k (ix2 x e) := by
  unfold stV stM sqV
  pointwise

/-- What a block of six chunks holds, in real entries: chunk `b` is its first. -/
structure Blk (A : Args) (b : ℕ) (x0 : Vec Ideal S384x512 .f32) (x1 x2 x3 : Vec Ideal S384x512 .bf16) (x4 : Vec Ideal S384x256 .bf16)
    (x5 : Vec Ideal S6x1x128 .f32) : Prop where
  h0 : ∀ (r : Fin 384) (e : Fin 512), x0 (ix2 r e) = ((A.d (64 * b + r.val) e.val : ℝ) : EReal)
  h1 : ∀ (r : Fin 384) (e : Fin 512), x1 (ix2 r e) = ((A.w (64 * b + r.val) e.val : ℝ) : EReal)
  h2 : ∀ (r : Fin 384) (e : Fin 512), x2 (ix2 r e) = ((A.q (64 * b + r.val) e.val : ℝ) : EReal)
  h3 : ∀ (r : Fin 384) (e : Fin 512), x3 (ix2 r e) = ((A.k (64 * b + r.val) e.val : ℝ) : EReal)
  h4 : ∀ (r : Fin 384) (e : Fin 256), x4 (ix2 r e) = ((A.a (64 * b + r.val) e.val : ℝ) : EReal)
  h5 : ∀ (r : Fin 6) (e : Fin 128), x5 (ix3 r 0 e) = ((A.g (b + r.val) e.val : ℝ) : EReal)

variable {A : Args} {b : ℕ} {x0 : Vec Ideal S384x512 .f32} {x1 x2 x3 : Vec Ideal S384x512 .bf16} {x4 : Vec Ideal S384x256 .bf16}
  {x5 : Vec Ideal S6x1x128 .f32}

/-! Loads of a chunk's head from a block whose entries are real. -/

theorem ld_x32 (x : Vec Ideal S384x512 .f32) (f : ℕ → ℕ → ℝ) (hx : ∀ (r : Fin 384) (e : Fin 512), x (ix2 r e) = ((f (64 * b + r.val) e.val : ℝ) : EReal))
    (j : Fin 6) (h : Fin 4) (c : Fin 64) (e : Fin 128) :
    View.ld x (rX j h) (ix2 c e) = ((f (64 * (b + j.val) + c.val) (128 * h.val + e.val) : ℝ) : EReal) := by
  pointwise
  rw [hx]
  congr 2
  dsimp only
  omega

theorem ld_x16 (x : Vec Ideal S384x512 .bf16) (f : ℕ → ℕ → ℝ) (hx : ∀ (r : Fin 384) (e : Fin 512), x (ix2 r e) = ((f (64 * b + r.val) e.val : ℝ) : EReal))
    (j : Fin 6) (h : Fin 4) (c : Fin 64) (e : Fin 128) :
    View.ld x (rX j h) (ix2 c e) = ((f (64 * (b + j.val) + c.val) (128 * h.val + e.val) : ℝ) : EReal) := by
  pointwise
  rw [hx]
  congr 2
  dsimp only
  omega

theorem ld_a16 (x : Vec Ideal S384x256 .bf16) (f : ℕ → ℕ → ℝ) (hx : ∀ (r : Fin 384) (e : Fin 256), x (ix2 r e) = ((f (64 * b + r.val) e.val : ℝ) : EReal))
    (j : Fin 6) (h : Fin 4) (c : Fin 64) (e : Fin 64) :
    View.ld x (rA j h) (ix2 c e) = ((f (64 * (b + j.val) + c.val) (64 * h.val + e.val) : ℝ) : EReal) := by
  pointwise
  rw [hx]
  congr 2
  dsimp only
  omega

theorem ld_g (x : Vec Ideal S6x1x128 .f32) (f : ℕ → ℕ → ℝ) (hx : ∀ (r : Fin 6) (e : Fin 128), x (ix3 r 0 e) = ((f (b + r.val) e.val : ℝ) : EReal))
    (j : Fin 6) (e : Fin 128) : View.ld x (rG j) (ix3 0 0 e) = ((f (b + j.val) e.val : ℝ) : EReal) := by
  pointwise
  rw [hx]

/-- One chunk's `dvn` from real entries. -/
theorem dvn_real (H : Blk A b x0 x1 x2 x3 x4 x5) (j : Fin 6) (h : Fin 4) (S : Vec Ideal S1x128x128 .f32) (U : ℕ → ℕ → ℝ)
    (hS : ∀ (i e : Fin 128), S (ix3 0 i e) = ((U i.val e.val : ℝ) : EReal)) (c : Fin 64) (e : Fin 128) :
    dvnV S (View.ld x0 (rX j h)) (View.ld x4 (rA j h)) (View.ld x3 (rX j h)) (ix2 c e)
      = ((mid A U (b + j.val) h.val c.val e.val : ℝ) : EReal) := by
  rw [dvnV_apply]
  simp only [ld_x32 x0 A.d H.h0, ld_x16 x3 A.k H.h3, ld_a16 x4 A.a H.h4, hS]
  unfold mid
  simp only [EReal.coe_add, coe_sum, EReal.coe_mul]

/-- One chunk's step of the state's cotangent from real entries. -/
theorem st_real (H : Blk A b x0 x1 x2 x3 x4 x5) (j : Fin 6) (h : Fin 4) (s : ℕ) (hs : b + j.val + s = 65) (S : Vec Ideal S1x128x128 .f32)
    (hS : ∀ (i e : Fin 128), S (ix3 0 i e) = ((T A s h.val i.val e.val : ℝ) : EReal)) (i e : Fin 128) :
    stV (BitVec.ofNat 32 h.val) (View.ld x5 (rG j)) S (View.ld x0 (rX j h)) (View.ld x4 (rA j h)) (View.ld x3 (rX j h))
      (View.ld x2 (rX j h)) (View.ld x1 (rX j h)) (ix3 0 i e) = ((T A (s + 1) h.val i.val e.val : ℝ) : EReal) := by
  rw [stV_apply, decV_apply]
  simp only [dvn_real H j h S (T A s h.val) hS, ld_x32 x0 A.d H.h0, ld_x16 x2 A.q H.h2, ld_x16 x1 A.w H.h1, ld_g x5 A.g H.h5, hS]
  rw [T, show 65 - s = b + j.val by omega]
  simp only [EReal.coe_add, EReal.coe_sub, coe_sum, EReal.coe_mul]
  rfl

/-- The carried cotangent after `k` chunks of the block: `k` steps on. -/
theorem Sv_real (H : Blk A b x0 x1 x2 x3 x4 x5) (s : ℕ) (hs : b + s = 60) (z : Vec Ideal S4x128x128 .f32)
    (hz : ∀ (h : Fin 4) (i e : Fin 128), z (ix3 h i e) = ((T A s h.val i.val e.val : ℝ) : EReal)) :
    ∀ (k : ℕ) (_ : k ≤ 6) (h : Fin 4) (i e : Fin 128), Sv x0 x1 x2 x3 x4 x5 z k h (ix3 0 i e) = ((T A (s + k) h.val i.val e.val : ℝ) : EReal)
  | 0, _, h, i, e => by
    show View.ld z (rS h) (ix3 0 i e) = _
    pointwise
    rw [hz]
  | k + 1, hk, h, i, e => st_real H (jk k) h (s + k) (by show b + (5 - k) + (s + k) = 65; omega) _
      (fun i e => Sv_real H s hs z hz k (by omega) h i e) i e

theorem Dv_real (H : Blk A b x0 x1 x2 x3 x4 x5) (s : ℕ) (hs : b + s = 60) (z : Vec Ideal S4x128x128 .f32)
    (hz : ∀ (h : Fin 4) (i e : Fin 128), z (ix3 h i e) = ((T A s h.val i.val e.val : ℝ) : EReal)) (k : ℕ) (hk : k ≤ 5) (h : Fin 4) (c : Fin 64) (e : Fin 128) :
    Dv x0 x1 x2 x3 x4 x5 z k h (ix2 c e) = ((mid A (T A (s + k) h.val) (b + (5 - k)) h.val c.val e.val : ℝ) : EReal) :=
  dvn_real H (jk k) h _ _ (fun i e => Sv_real H s hs z hz k (by omega) h i e) c e

theorem Pv_real (H : Blk A b x0 x1 x2 x3 x4 x5) (s : ℕ) (hs : b + s = 60) (z : Vec Ideal S4x128x128 .f32)
    (hz : ∀ (h : Fin 4) (i e : Fin 128), z (ix3 h i e) = ((T A s h.val i.val e.val : ℝ) : EReal)) (k : ℕ) (hk : k ≤ 5) (h : Fin 4) (i e : Fin 128) :
    Pv x0 x1 x2 x3 x4 x5 z k h (ix4 0 0 i e) = ((T A (s + k) h.val i.val e.val : ℝ) : EReal) := by
  unfold Pv sqV
  pointwise
  exact Sv_real H s hs z hz k (by omega) h i e

end Cert.ScanBwd

end
-- ==== Proof.WordsA.lean ====
/- What each named intermediate of the body is, in case A of the frame: the carried state's parts and the lists of stores. -/
module

public import proofs.«01_k».proof.Proof.Step

@[expose] public section

set_option maxRecDepth 16384

noncomputable section

namespace Cert.ScanBwd

open Idealize.ShloMosaic Idealize.ShloMosaic.TcCoe
open Cert.KernelIdeal Cert.KernelIdeal.Gen

variable {F : FTy → Type} [FloatOps F]

variable (c : Dev nD) (arg1 : Memref sig .tc .vmem S384x512 .f32) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x512 .bf16) (harg4 : arg4.IsWhole) (arg5 : Memref sig .tc .vmem S384x256 .bf16) (harg5 : arg5.IsWhole) (arg6 : Memref sig .tc .vmem S6x1x128 .f32) (harg6 : arg6.IsWhole) (arg7 : Memref sig .tc .vmem S384x512 .f32) (harg7 : arg7.IsWhole) (arg8 : Memref sig .tc .vmem S6x4x128x128 .f32) (harg8 : arg8.IsWhole) (arg9 : Memref sig .tc .vmem S4x128x128 .f32) (harg9 : arg9.IsWhole)
variable (x0 : Vec F S384x512 .f32) (x1 : Vec F S384x512 .bf16) (x2 : Vec F S384x512 .bf16) (x3 : Vec F S384x512 .bf16) (x4 : Vec F S384x256 .bf16) (x5 : Vec F S6x1x128 .f32) (xs0 : Vec F S4x128x128 .f32)

theorem a_v5 : kernelRun0_A.sl.v5 (F := F) c arg9 = (Sv x0 x1 x2 x3 x4 x5 (k0_pay1 (F := F)) 0 ⟨0, by decide⟩) := by
  unfold kernelRun0_A.sl.v5
  unfold kernelRun0_A.sl.HS0_1
  exact rd_whole _ ⟨0, by decide⟩ _ _

theorem a_HS0_2 : kernelRun0_A.sl.HS0_2 (F := F) c arg1 harg1 arg2 harg2 arg3 harg3 arg4 harg4 arg5 harg5 arg6 harg6 arg9 x0 x1 x2 x3 x4 x5 = (⟨rS ⟨0, by decide⟩, (Sv x0 x1 x2 x3 x4 x5 (k0_pay1 (F := F)) 1 ⟨0, by decide⟩)⟩ : View.Piece (Elt F) S4x128x128 .f32) :: kernelRun0_A.sl.HS0_1 (F := F) := by
  unfold kernelRun0_A.sl.HS0_2
  unfold kernelRun0_A.sl.r_1 kernelRun0_A.sl.r_2 kernelRun0_A.sl.r_3 kernelRun0_A.sl.r_4
  simp only [a_v5 c arg9 x0 x1 x2 x3 x4 x5, View.readAt_eq_ld, harg1.read_unread, harg2.read_unread, harg3.read_unread, harg4.read_unread, harg5.read_unread, harg6.read_unread]
  rfl

theorem a_v39 : kernelRun0_A.sl.v39 (F := F) c arg1 harg1 arg2 harg2 arg3 harg3 arg4 harg4 arg5 harg5 arg6 harg6 arg9 x0 x1 x2 x3 x4 x5 = (Sv x0 x1 x2 x3 x4 x5 (k0_pay1 (F := F)) 0 ⟨1, by decide⟩) := by
  unfold kernelRun0_A.sl.v39
  rw [a_HS0_2 ]
  unfold kernelRun0_A.sl.HS0_1
  exact (rd_skip _ ⟨1, by decide⟩ ⟨0, by decide⟩ (by decide) _ _).trans (rd_whole _ ⟨1, by decide⟩ _ _)

theorem a_HS0_3 : kernelRun0_A.sl.HS0_3 (F := F) c arg1 harg1 arg2 harg2 arg3 harg3 arg4 harg4 arg5 harg5 arg6 harg6 arg9 x0 x1 x2 x3 x4 x5 = (⟨rS ⟨1, by decide⟩, (Sv x0 x1 x2 x3 x4 x5 (k0_pay1 (F := F)) 1 ⟨1, by decide⟩)⟩ : View.Piece (Elt F) S4x128x128 .f32) :: kernelRun0_A.sl.HS0_2 (F := F) c arg1 harg1 arg2 harg2 arg3 harg3 arg4 harg4 arg5 harg5 arg6 harg6 arg9 x0 x1 x2 x3 x4 x5 := by
  unfold kernelRun0_A.sl.HS0_3
  unfold kernelRun0_A.sl.r kernelRun0_A.sl.r_5 kernelRun0_A.sl.r_6 kernelRun0_A.sl.r_7
  simp only [a_v39, View.readAt_eq_ld, harg1.read_unread, harg2.read_unread, harg3.read_unread, harg4.read_unread, harg5.read_unread, harg6.read_unread]
  rfl

theorem a_v73 : kernelRun0_A.sl.v73 (F := F) c arg1 harg1 arg2 harg2 arg3 harg3 arg4 harg4 arg5 harg5 arg6 harg6 arg9 x0 x1 x2 x3 x4 x5 = (Sv x0 x1 x2 x3 x4 x5 (k0_pay1 (F := F)) 0 ⟨2, by decide⟩) := by
  unfold kernelRun0_A.sl.v73
  rw [a_HS0_3 , a_HS0_2 ]
  unfold kernelRun0_A.sl.HS0_1
  exact (rd_skip _ ⟨2, by decide⟩ ⟨1, by decide⟩ (by decide) _ _).trans ((rd_skip _ ⟨2, by decide⟩ ⟨0, by decide⟩ (by decide) _ _).trans (rd_whole _ ⟨2, by decide⟩ _ _))

theorem a_HS0_4 : kernelRun0_A.sl.HS0_4 (F := F) c arg1 harg1 arg2 harg2 arg3 harg3 arg4 harg4 arg5 harg5 arg6 harg6 arg9 x0 x1 x2 x3 x4 x5 = (⟨rS ⟨2, by decide⟩, (Sv x0 x1 x2 x3 x4 x5 (k0_pay1 (F := F)) 1 ⟨2, by decide⟩)⟩ : View.Piece (Elt F) S4x128x128 .f32) :: kernelRun0_A.sl.HS0_3 (F := F) c arg1 harg1 arg2 harg2 arg3 harg3 arg4 harg4 arg5 harg5 arg6 harg6 arg9 x0 x1 x2 x3 x4 x5 := by
  unfold kernelRun0_A.sl.HS0_4
  unfold kernelRun0_A.sl.r kernelRun0_A.sl.r_8 kernelRun0_A.sl.r_9 kernelRun0_A.sl.r_10 kernelRun0_A.sl.r_11
  simp only [a_v73, View.readAt_eq_ld, harg1.read_unread, harg2.read_unread, harg3.read_unread, harg4.read_unread, harg5.read_unread, harg6.read_unread]
  rfl

theorem a_v107 : kernelRun0_A.sl.v107 (F := F) c arg1 harg1 arg2 harg2 arg3 harg3 arg4 harg4 arg5 harg5 arg6 harg6 arg9 x0 x1 x2 x3 x4 x5 = (Sv x0 x1 x2 x3 x4 x5 (k0_pay1 (F := F)) 0 ⟨3, by decide⟩) := by
  unfold kernelRun0_A.sl.v107
  rw [a_HS0_4 , a_HS0_3 , a_HS0_2 ]
  unfold kernelRun0_A.sl.HS0_1
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_whole _ ⟨3, by decide⟩ _ _)))

theorem a_HS0_5 : kernelRun0_A.sl.HS0_5 (F := F) c arg1 harg1 arg2 harg2 arg3 harg3 arg4 harg4 arg5 harg5 arg6 harg6 arg9 x0 x1 x2 x3 x4 x5 = (⟨rS ⟨3, by decide⟩, (Sv x0 x1 x2 x3 x4 x5 (k0_pay1 (F := F)) 1 ⟨3, by decide⟩)⟩ : View.Piece (Elt F) S4x128x128 .f32) :: kernelRun0_A.sl.HS0_4 (F := F) c arg1 harg1 arg2 harg2 arg3 harg3 arg4 harg4 arg5 harg5 arg6 harg6 arg9 x0 x1 x2 x3 x4 x5 := by
  unfold kernelRun0_A.sl.HS0_5
  unfold kernelRun0_A.sl.r kernelRun0_A.sl.r_12 kernelRun0_A.sl.r_13 kernelRun0_A.sl.r_14
  simp only [a_v107, View.readAt_eq_ld, harg1.read_unread, harg2.read_unread, harg3.read_unread, harg4.read_unread, harg5.read_unread, harg6.read_unread]
  rfl

theorem a_v143 : kernelRun0_A.sl.v143 (F := F) c arg1 harg1 arg2 harg2 arg3 harg3 arg4 harg4 arg5 harg5 arg6 harg6 arg9 x0 x1 x2 x3 x4 x5 = (Sv x0 x1 x2 x3 x4 x5 (k0_pay1 (F := F)) 1 ⟨0, by decide⟩) := by
  unfold kernelRun0_A.sl.v143
  rw [a_HS0_5 , a_HS0_4 , a_HS0_3 , a_HS0_2 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem a_HS0_6 : kernelRun0_A.sl.HS0_6 (F := F) c arg1 harg1 arg2 harg2 arg3 harg3 arg4 harg4 arg5 harg5 arg6 harg6 arg9 x0 x1 x2 x3 x4 x5 = (⟨rS ⟨0, by decide⟩, (Sv x0 x1 x2 x3 x4 x5 (k0_pay1 (F := F)) 2 ⟨0, by decide⟩)⟩ : View.Piece (Elt F) S4x128x128 .f32) :: kernelRun0_A.sl.HS0_5 (F := F) c arg1 harg1 arg2 harg2 arg3 harg3 arg4 harg4 arg5 harg5 arg6 harg6 arg9 x0 x1 x2 x3 x4 x5 := by
  unfold kernelRun0_A.sl.HS0_6
  unfold kernelRun0_A.sl.r_15 kernelRun0_A.sl.r_16 kernelRun0_A.sl.r_17
  simp only [a_v143, View.readAt_eq_ld, harg1.read_unread, harg2.read_unread, harg3.read_unread, harg4.read_unread, harg5.read_unread, harg6.read_unread]
  rfl

theorem a_v177 : kernelRun0_A.sl.v177 (F := F) c arg1 harg1 arg2 harg2 arg3 harg3 arg4 harg4 arg5 harg5 arg6 harg6 arg9 x0 x1 x2 x3 x4 x5 = (Sv x0 x1 x2 x3 x4 x5 (k0_pay1 (F := F)) 1 ⟨1, by decide⟩) := by
  unfold kernelRun0_A.sl.v177
  rw [a_HS0_6 , a_HS0_5 , a_HS0_4 , a_HS0_3 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem a_HS0_7 : kernelRun0_A.sl.HS0_7 (F := F) c arg1 harg1 arg2 harg2 arg3 harg3 arg4 harg4 arg5 harg5 arg6 harg6 arg9 x0 x1 x2 x3 x4 x5 = (⟨rS ⟨1, by decide⟩, (Sv x0 x1 x2 x3 x4 x5 (k0_pay1 (F := F)) 2 ⟨1, by decide⟩)⟩ : View.Piece (Elt F) S4x128x128 .f32) :: kernelRun0_A.sl.HS0_6 (F := F) c arg1 harg1 arg2 harg2 arg3 harg3 arg4 harg4 arg5 harg5 arg6 harg6 arg9 x0 x1 x2 x3 x4 x5 := by
  unfold kernelRun0_A.sl.HS0_7
  unfold kernelRun0_A.sl.r_15 kernelRun0_A.sl.r_18
  simp only [a_v177, View.readAt_eq_ld, harg1.read_unread, harg2.read_unread, harg3.read_unread, harg4.read_unread, harg5.read_unread, harg6.read_unread]
  rfl

theorem a_v211 : kernelRun0_A.sl.v211 (F := F) c arg1 harg1 arg2 harg2 arg3 harg3 arg4 harg4 arg5 harg5 arg6 harg6 arg9 x0 x1 x2 x3 x4 x5 = (Sv x0 x1 x2 x3 x4 x5 (k0_pay1 (F := F)) 1 ⟨2, by decide⟩) := by
  unfold kernelRun0_A.sl.v211
  rw [a_HS0_7 , a_HS0_6 , a_HS0_5 , a_HS0_4 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem a_HS0_8 : kernelRun0_A.sl.HS0_8 (F := F) c arg1 harg1 arg2 harg2 arg3 harg3 arg4 harg4 arg5 harg5 arg6 harg6 arg9 x0 x1 x2 x3 x4 x5 = (⟨rS ⟨2, by decide⟩, (Sv x0 x1 x2 x3 x4 x5 (k0_pay1 (F := F)) 2 ⟨2, by decide⟩)⟩ : View.Piece (Elt F) S4x128x128 .f32) :: kernelRun0_A.sl.HS0_7 (F := F) c arg1 harg1 arg2 harg2 arg3 harg3 arg4 harg4 arg5 harg5 arg6 harg6 arg9 x0 x1 x2 x3 x4 x5 := by
  unfold kernelRun0_A.sl.HS0_8
  unfold kernelRun0_A.sl.r_15 kernelRun0_A.sl.r_19
  simp only [a_v211, View.readAt_eq_ld, harg1.read_unread, harg2.read_unread, harg3.read_unread, harg4.read_unread, harg5.read_unread, harg6.read_unread]
  rfl

theorem a_v245 : kernelRun0_A.sl.v245 (F := F) c arg1 harg1 arg2 harg2 arg3 harg3 arg4 harg4 arg5 harg5 arg6 harg6 arg9 x0 x1 x2 x3 x4 x5 = (Sv x0 x1 x2 x3 x4 x5 (k0_pay1 (F := F)) 1 ⟨3, by decide⟩) := by
  unfold kernelRun0_A.sl.v245
  rw [a_HS0_8 , a_HS0_7 , a_HS0_6 , a_HS0_5 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem a_HS0_9 : kernelRun0_A.sl.HS0_9 (F := F) c arg1 harg1 arg2 harg2 arg3 harg3 arg4 harg4 arg5 harg5 arg6 harg6 arg9 x0 x1 x2 x3 x4 x5 = (⟨rS ⟨3, by decide⟩, (Sv x0 x1 x2 x3 x4 x5 (k0_pay1 (F := F)) 2 ⟨3, by decide⟩)⟩ : View.Piece (Elt F) S4x128x128 .f32) :: kernelRun0_A.sl.HS0_8 (F := F) c arg1 harg1 arg2 harg2 arg3 harg3 arg4 harg4 arg5 harg5 arg6 harg6 arg9 x0 x1 x2 x3 x4 x5 := by
  unfold kernelRun0_A.sl.HS0_9
  unfold kernelRun0_A.sl.r_20 kernelRun0_A.sl.r_15
  simp only [a_v245, View.readAt_eq_ld, harg1.read_unread, harg2.read_unread, harg3.read_unread, harg4.read_unread, harg5.read_unread, harg6.read_unread]
  rfl

theorem a_v281 : kernelRun0_A.sl.v281 (F := F) c arg1 harg1 arg2 harg2 arg3 harg3 arg4 harg4 arg5 harg5 arg6 harg6 arg9 x0 x1 x2 x3 x4 x5 = (Sv x0 x1 x2 x3 x4 x5 (k0_pay1 (F := F)) 2 ⟨0, by decide⟩) := by
  unfold kernelRun0_A.sl.v281
  rw [a_HS0_9 , a_HS0_8 , a_HS0_7 , a_HS0_6 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem a_HS0_10 : kernelRun0_A.sl.HS0_10 (F := F) c arg1 harg1 arg2 harg2 arg3 harg3 arg4 harg4 arg5 harg5 arg6 harg6 arg9 x0 x1 x2 x3 x4 x5 = (⟨rS ⟨0, by decide⟩, (Sv x0 x1 x2 x3 x4 x5 (k0_pay1 (F := F)) 3 ⟨0, by decide⟩)⟩ : View.Piece (Elt F) S4x128x128 .f32) :: kernelRun0_A.sl.HS0_9 (F := F) c arg1 harg1 arg2 harg2 arg3 harg3 arg4 harg4 arg5 harg5 arg6 harg6 arg9 x0 x1 x2 x3 x4 x5 := by
  unfold kernelRun0_A.sl.HS0_10
  unfold kernelRun0_A.sl.r_22 kernelRun0_A.sl.r_23 kernelRun0_A.sl.r_24 kernelRun0_A.sl.r_25
  simp only [a_v281, View.readAt_eq_ld, harg1.read_unread, harg2.read_unread, harg3.read_unread, harg4.read_unread, harg5.read_unread, harg6.read_unread]
  rfl

theorem a_v315 : kernelRun0_A.sl.v315 (F := F) c arg1 harg1 arg2 harg2 arg3 harg3 arg4 harg4 arg5 harg5 arg6 harg6 arg9 x0 x1 x2 x3 x4 x5 = (Sv x0 x1 x2 x3 x4 x5 (k0_pay1 (F := F)) 2 ⟨1, by decide⟩) := by
  unfold kernelRun0_A.sl.v315
  rw [a_HS0_10 , a_HS0_9 , a_HS0_8 , a_HS0_7 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem a_HS0_11 : kernelRun0_A.sl.HS0_11 (F := F) c arg1 harg1 arg2 harg2 arg3 harg3 arg4 harg4 arg5 harg5 arg6 harg6 arg9 x0 x1 x2 x3 x4 x5 = (⟨rS ⟨1, by decide⟩, (Sv x0 x1 x2 x3 x4 x5 (k0_pay1 (F := F)) 3 ⟨1, by decide⟩)⟩ : View.Piece (Elt F) S4x128x128 .f32) :: kernelRun0_A.sl.HS0_10 (F := F) c arg1 harg1 arg2 harg2 arg3 harg3 arg4 harg4 arg5 harg5 arg6 harg6 arg9 x0 x1 x2 x3 x4 x5 := by
  unfold kernelRun0_A.sl.HS0_11
  unfold kernelRun0_A.sl.r_21 kernelRun0_A.sl.r_26 kernelRun0_A.sl.r_27 kernelRun0_A.sl.r_28
  simp only [a_v315, View.readAt_eq_ld, harg1.read_unread, harg2.read_unread, harg3.read_unread, harg4.read_unread, harg5.read_unread, harg6.read_unread]
  rfl

theorem a_v349 : kernelRun0_A.sl.v349 (F := F) c arg1 harg1 arg2 harg2 arg3 harg3 arg4 harg4 arg5 harg5 arg6 harg6 arg9 x0 x1 x2 x3 x4 x5 = (Sv x0 x1 x2 x3 x4 x5 (k0_pay1 (F := F)) 2 ⟨2, by decide⟩) := by
  unfold kernelRun0_A.sl.v349
  rw [a_HS0_11 , a_HS0_10 , a_HS0_9 , a_HS0_8 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem a_HS0_12 : kernelRun0_A.sl.HS0_12 (F := F) c arg1 harg1 arg2 harg2 arg3 harg3 arg4 harg4 arg5 harg5 arg6 harg6 arg9 x0 x1 x2 x3 x4 x5 = (⟨rS ⟨2, by decide⟩, (Sv x0 x1 x2 x3 x4 x5 (k0_pay1 (F := F)) 3 ⟨2, by decide⟩)⟩ : View.Piece (Elt F) S4x128x128 .f32) :: kernelRun0_A.sl.HS0_11 (F := F) c arg1 harg1 arg2 harg2 arg3 harg3 arg4 harg4 arg5 harg5 arg6 harg6 arg9 x0 x1 x2 x3 x4 x5 := by
  unfold kernelRun0_A.sl.HS0_12
  unfold kernelRun0_A.sl.r_21 kernelRun0_A.sl.r_29 kernelRun0_A.sl.r_30 kernelRun0_A.sl.r_31
  simp only [a_v349, View.readAt_eq_ld, harg1.read_unread, harg2.read_unread, harg3.read_unread, harg4.read_unread, harg5.read_unread, harg6.read_unread]
  rfl

theorem a_v383 : kernelRun0_A.sl.v383 (F := F) c arg1 harg1 arg2 harg2 arg3 harg3 arg4 harg4 arg5 harg5 arg6 harg6 arg9 x0 x1 x2 x3 x4 x5 = (Sv x0 x1 x2 x3 x4 x5 (k0_pay1 (F := F)) 2 ⟨3, by decide⟩) := by
  unfold kernelRun0_A.sl.v383
  rw [a_HS0_12 , a_HS0_11 , a_HS0_10 , a_HS0_9 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem a_HS0_13 : kernelRun0_A.sl.HS0_13 (F := F) c arg1 harg1 arg2 harg2 arg3 harg3 arg4 harg4 arg5 harg5 arg6 harg6 arg9 x0 x1 x2 x3 x4 x5 = (⟨rS ⟨3, by decide⟩, (Sv x0 x1 x2 x3 x4 x5 (k0_pay1 (F := F)) 3 ⟨3, by decide⟩)⟩ : View.Piece (Elt F) S4x128x128 .f32) :: kernelRun0_A.sl.HS0_12 (F := F) c arg1 harg1 arg2 harg2 arg3 harg3 arg4 harg4 arg5 harg5 arg6 harg6 arg9 x0 x1 x2 x3 x4 x5 := by
  unfold kernelRun0_A.sl.HS0_13
  unfold kernelRun0_A.sl.r_21 kernelRun0_A.sl.r_32 kernelRun0_A.sl.r_33 kernelRun0_A.sl.r_34
  simp only [a_v383, View.readAt_eq_ld, harg1.read_unread, harg2.read_unread, harg3.read_unread, harg4.read_unread, harg5.read_unread, harg6.read_unread]
  rfl

theorem a_v419 : kernelRun0_A.sl.v419 (F := F) c arg1 harg1 arg2 harg2 arg3 harg3 arg4 harg4 arg5 harg5 arg6 harg6 arg9 x0 x1 x2 x3 x4 x5 = (Sv x0 x1 x2 x3 x4 x5 (k0_pay1 (F := F)) 3 ⟨0, by decide⟩) := by
  unfold kernelRun0_A.sl.v419
  rw [a_HS0_13 , a_HS0_12 , a_HS0_11 , a_HS0_10 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem a_HS0_14 : kernelRun0_A.sl.HS0_14 (F := F) c arg1 harg1 arg2 harg2 arg3 harg3 arg4 harg4 arg5 harg5 arg6 harg6 arg9 x0 x1 x2 x3 x4 x5 = (⟨rS ⟨0, by decide⟩, (Sv x0 x1 x2 x3 x4 x5 (k0_pay1 (F := F)) 4 ⟨0, by decide⟩)⟩ : View.Piece (Elt F) S4x128x128 .f32) :: kernelRun0_A.sl.HS0_13 (F := F) c arg1 harg1 arg2 harg2 arg3 harg3 arg4 harg4 arg5 harg5 arg6 harg6 arg9 x0 x1 x2 x3 x4 x5 := by
  unfold kernelRun0_A.sl.HS0_14
  unfold kernelRun0_A.sl.r_35 kernelRun0_A.sl.r_36 kernelRun0_A.sl.r_37 kernelRun0_A.sl.r_38 kernelRun0_A.sl.cst_356
  simp only [a_v419, View.readAt_eq_ld, harg1.read_unread, harg2.read_unread, harg3.read_unread, harg4.read_unread, harg5.read_unread, harg6.read_unread]
  rfl

theorem a_v453 : kernelRun0_A.sl.v453 (F := F) c arg1 harg1 arg2 harg2 arg3 harg3 arg4 harg4 arg5 harg5 arg6 harg6 arg9 x0 x1 x2 x3 x4 x5 = (Sv x0 x1 x2 x3 x4 x5 (k0_pay1 (F := F)) 3 ⟨1, by decide⟩) := by
  unfold kernelRun0_A.sl.v453
  rw [a_HS0_14 , a_HS0_13 , a_HS0_12 , a_HS0_11 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem a_HS0_15 : kernelRun0_A.sl.HS0_15 (F := F) c arg1 harg1 arg2 harg2 arg3 harg3 arg4 harg4 arg5 harg5 arg6 harg6 arg9 x0 x1 x2 x3 x4 x5 = (⟨rS ⟨1, by decide⟩, (Sv x0 x1 x2 x3 x4 x5 (k0_pay1 (F := F)) 4 ⟨1, by decide⟩)⟩ : View.Piece (Elt F) S4x128x128 .f32) :: kernelRun0_A.sl.HS0_14 (F := F) c arg1 harg1 arg2 harg2 arg3 harg3 arg4 harg4 arg5 harg5 arg6 harg6 arg9 x0 x1 x2 x3 x4 x5 := by
  unfold kernelRun0_A.sl.HS0_15
  unfold kernelRun0_A.sl.r_35 kernelRun0_A.sl.r_39
  simp only [a_v453, View.readAt_eq_ld, harg1.read_unread, harg2.read_unread, harg3.read_unread, harg4.read_unread, harg5.read_unread, harg6.read_unread]
  rfl

theorem a_v487 : kernelRun0_A.sl.v487 (F := F) c arg1 harg1 arg2 harg2 arg3 harg3 arg4 harg4 arg5 harg5 arg6 harg6 arg9 x0 x1 x2 x3 x4 x5 = (Sv x0 x1 x2 x3 x4 x5 (k0_pay1 (F := F)) 3 ⟨2, by decide⟩) := by
  unfold kernelRun0_A.sl.v487
  rw [a_HS0_15 , a_HS0_14 , a_HS0_13 , a_HS0_12 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem a_HS0_16 : kernelRun0_A.sl.HS0_16 (F := F) c arg1 harg1 arg2 harg2 arg3 harg3 arg4 harg4 arg5 harg5 arg6 harg6 arg9 x0 x1 x2 x3 x4 x5 = (⟨rS ⟨2, by decide⟩, (Sv x0 x1 x2 x3 x4 x5 (k0_pay1 (F := F)) 4 ⟨2, by decide⟩)⟩ : View.Piece (Elt F) S4x128x128 .f32) :: kernelRun0_A.sl.HS0_15 (F := F) c arg1 harg1 arg2 harg2 arg3 harg3 arg4 harg4 arg5 harg5 arg6 harg6 arg9 x0 x1 x2 x3 x4 x5 := by
  unfold kernelRun0_A.sl.HS0_16
  unfold kernelRun0_A.sl.r_35 kernelRun0_A.sl.r_40
  simp only [a_v487, View.readAt_eq_ld, harg1.read_unread, harg2.read_unread, harg3.read_unread, harg4.read_unread, harg5.read_unread, harg6.read_unread]
  rfl

theorem a_v521 : kernelRun0_A.sl.v521 (F := F) c arg1 harg1 arg2 harg2 arg3 harg3 arg4 harg4 arg5 harg5 arg6 harg6 arg9 x0 x1 x2 x3 x4 x5 = (Sv x0 x1 x2 x3 x4 x5 (k0_pay1 (F := F)) 3 ⟨3, by decide⟩) := by
  unfold kernelRun0_A.sl.v521
  rw [a_HS0_16 , a_HS0_15 , a_HS0_14 , a_HS0_13 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem a_HS0_17 : kernelRun0_A.sl.HS0_17 (F := F) c arg1 harg1 arg2 harg2 arg3 harg3 arg4 harg4 arg5 harg5 arg6 harg6 arg9 x0 x1 x2 x3 x4 x5 = (⟨rS ⟨3, by decide⟩, (Sv x0 x1 x2 x3 x4 x5 (k0_pay1 (F := F)) 4 ⟨3, by decide⟩)⟩ : View.Piece (Elt F) S4x128x128 .f32) :: kernelRun0_A.sl.HS0_16 (F := F) c arg1 harg1 arg2 harg2 arg3 harg3 arg4 harg4 arg5 harg5 arg6 harg6 arg9 x0 x1 x2 x3 x4 x5 := by
  unfold kernelRun0_A.sl.HS0_17
  unfold kernelRun0_A.sl.r_41 kernelRun0_A.sl.r_35
  simp only [a_v521, View.readAt_eq_ld, harg1.read_unread, harg2.read_unread, harg3.read_unread, harg4.read_unread, harg5.read_unread, harg6.read_unread]
  rfl

theorem a_v557 : kernelRun0_A.sl.v557 (F := F) c arg1 harg1 arg2 harg2 arg3 harg3 arg4 harg4 arg5 harg5 arg6 harg6 arg9 x0 x1 x2 x3 x4 x5 = (Sv x0 x1 x2 x3 x4 x5 (k0_pay1 (F := F)) 4 ⟨0, by decide⟩) := by
  unfold kernelRun0_A.sl.v557
  rw [a_HS0_17 , a_HS0_16 , a_HS0_15 , a_HS0_14 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem a_HS0_18 : kernelRun0_A.sl.HS0_18 (F := F) c arg1 harg1 arg2 harg2 arg3 harg3 arg4 harg4 arg5 harg5 arg6 harg6 arg9 x0 x1 x2 x3 x4 x5 = (⟨rS ⟨0, by decide⟩, (Sv x0 x1 x2 x3 x4 x5 (k0_pay1 (F := F)) 5 ⟨0, by decide⟩)⟩ : View.Piece (Elt F) S4x128x128 .f32) :: kernelRun0_A.sl.HS0_17 (F := F) c arg1 harg1 arg2 harg2 arg3 harg3 arg4 harg4 arg5 harg5 arg6 harg6 arg9 x0 x1 x2 x3 x4 x5 := by
  unfold kernelRun0_A.sl.HS0_18
  unfold kernelRun0_A.sl.r_43 kernelRun0_A.sl.r_44
  simp only [a_v557, View.readAt_eq_ld, harg1.read_unread, harg2.read_unread, harg3.read_unread, harg4.read_unread, harg5.read_unread, harg6.read_unread]
  rfl

theorem a_v591 : kernelRun0_A.sl.v591 (F := F) c arg1 harg1 arg2 harg2 arg3 harg3 arg4 harg4 arg5 harg5 arg6 harg6 arg9 x0 x1 x2 x3 x4 x5 = (Sv x0 x1 x2 x3 x4 x5 (k0_pay1 (F := F)) 4 ⟨1, by decide⟩) := by
  unfold kernelRun0_A.sl.v591
  rw [a_HS0_18 , a_HS0_17 , a_HS0_16 , a_HS0_15 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem a_HS0_19 : kernelRun0_A.sl.HS0_19 (F := F) c arg1 harg1 arg2 harg2 arg3 harg3 arg4 harg4 arg5 harg5 arg6 harg6 arg9 x0 x1 x2 x3 x4 x5 = (⟨rS ⟨1, by decide⟩, (Sv x0 x1 x2 x3 x4 x5 (k0_pay1 (F := F)) 5 ⟨1, by decide⟩)⟩ : View.Piece (Elt F) S4x128x128 .f32) :: kernelRun0_A.sl.HS0_18 (F := F) c arg1 harg1 arg2 harg2 arg3 harg3 arg4 harg4 arg5 harg5 arg6 harg6 arg9 x0 x1 x2 x3 x4 x5 := by
  unfold kernelRun0_A.sl.HS0_19
  unfold kernelRun0_A.sl.r_45 kernelRun0_A.sl.r_46 kernelRun0_A.sl.r_47 kernelRun0_A.sl.r_48 kernelRun0_A.sl.r_42
  simp only [a_v591, View.readAt_eq_ld, harg1.read_unread, harg2.read_unread, harg3.read_unread, harg4.read_unread, harg5.read_unread, harg6.read_unread]
  rfl

theorem a_v625 : kernelRun0_A.sl.v625 (F := F) c arg1 harg1 arg2 harg2 arg3 harg3 arg4 harg4 arg5 harg5 arg6 harg6 arg9 x0 x1 x2 x3 x4 x5 = (Sv x0 x1 x2 x3 x4 x5 (k0_pay1 (F := F)) 4 ⟨2, by decide⟩) := by
  unfold kernelRun0_A.sl.v625
  rw [a_HS0_19 , a_HS0_18 , a_HS0_17 , a_HS0_16 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem a_HS0_20 : kernelRun0_A.sl.HS0_20 (F := F) c arg1 harg1 arg2 harg2 arg3 harg3 arg4 harg4 arg5 harg5 arg6 harg6 arg9 x0 x1 x2 x3 x4 x5 = (⟨rS ⟨2, by decide⟩, (Sv x0 x1 x2 x3 x4 x5 (k0_pay1 (F := F)) 5 ⟨2, by decide⟩)⟩ : View.Piece (Elt F) S4x128x128 .f32) :: kernelRun0_A.sl.HS0_19 (F := F) c arg1 harg1 arg2 harg2 arg3 harg3 arg4 harg4 arg5 harg5 arg6 harg6 arg9 x0 x1 x2 x3 x4 x5 := by
  unfold kernelRun0_A.sl.HS0_20
  unfold kernelRun0_A.sl.r_42 kernelRun0_A.sl.r_49 kernelRun0_A.sl.r_50 kernelRun0_A.sl.r_51 kernelRun0_A.sl.v641
  simp only [a_v625, View.readAt_eq_ld, harg1.read_unread, harg2.read_unread, harg3.read_unread, harg4.read_unread, harg5.read_unread, harg6.read_unread]
  rfl

theorem a_v659 : kernelRun0_A.sl.v659 (F := F) c arg1 harg1 arg2 harg2 arg3 harg3 arg4 harg4 arg5 harg5 arg6 harg6 arg9 x0 x1 x2 x3 x4 x5 = (Sv x0 x1 x2 x3 x4 x5 (k0_pay1 (F := F)) 4 ⟨3, by decide⟩) := by
  unfold kernelRun0_A.sl.v659
  rw [a_HS0_20 , a_HS0_19 , a_HS0_18 , a_HS0_17 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem a_HS0_21 : kernelRun0_A.sl.HS0_21 (F := F) c arg1 harg1 arg2 harg2 arg3 harg3 arg4 harg4 arg5 harg5 arg6 harg6 arg9 x0 x1 x2 x3 x4 x5 = (⟨rS ⟨3, by decide⟩, (Sv x0 x1 x2 x3 x4 x5 (k0_pay1 (F := F)) 5 ⟨3, by decide⟩)⟩ : View.Piece (Elt F) S4x128x128 .f32) :: kernelRun0_A.sl.HS0_20 (F := F) c arg1 harg1 arg2 harg2 arg3 harg3 arg4 harg4 arg5 harg5 arg6 harg6 arg9 x0 x1 x2 x3 x4 x5 := by
  unfold kernelRun0_A.sl.HS0_21
  unfold kernelRun0_A.sl.r_42 kernelRun0_A.sl.r_52 kernelRun0_A.sl.r_53 kernelRun0_A.sl.r_54
  simp only [a_v659, View.readAt_eq_ld, harg1.read_unread, harg2.read_unread, harg3.read_unread, harg4.read_unread, harg5.read_unread, harg6.read_unread]
  rfl

theorem a_v695 : kernelRun0_A.sl.v695 (F := F) c arg1 harg1 arg2 harg2 arg3 harg3 arg4 harg4 arg5 harg5 arg6 harg6 arg9 x0 x1 x2 x3 x4 x5 = (Sv x0 x1 x2 x3 x4 x5 (k0_pay1 (F := F)) 5 ⟨0, by decide⟩) := by
  unfold kernelRun0_A.sl.v695
  rw [a_HS0_21 , a_HS0_20 , a_HS0_19 , a_HS0_18 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem a_HS0_22 : kernelRun0_A.sl.HS0_22 (F := F) c arg1 harg1 arg2 harg2 arg3 harg3 arg4 harg4 arg5 harg5 arg6 harg6 arg9 x0 x1 x2 x3 x4 x5 = (⟨rS ⟨0, by decide⟩, (Sv x0 x1 x2 x3 x4 x5 (k0_pay1 (F := F)) 6 ⟨0, by decide⟩)⟩ : View.Piece (Elt F) S4x128x128 .f32) :: kernelRun0_A.sl.HS0_21 (F := F) c arg1 harg1 arg2 harg2 arg3 harg3 arg4 harg4 arg5 harg5 arg6 harg6 arg9 x0 x1 x2 x3 x4 x5 := by
  unfold kernelRun0_A.sl.HS0_22
  unfold kernelRun0_A.sl.r_55 kernelRun0_A.sl.r_56 kernelRun0_A.sl.r_57 kernelRun0_A.sl.r_58
  simp only [a_v695, View.readAt_eq_ld, harg1.read_unread, harg2.read_unread, harg3.read_unread, harg4.read_unread, harg5.read_unread, harg6.read_unread]
  rfl

theorem a_v729 : kernelRun0_A.sl.v729 (F := F) c arg1 harg1 arg2 harg2 arg3 harg3 arg4 harg4 arg5 harg5 arg6 harg6 arg9 x0 x1 x2 x3 x4 x5 = (Sv x0 x1 x2 x3 x4 x5 (k0_pay1 (F := F)) 5 ⟨1, by decide⟩) := by
  unfold kernelRun0_A.sl.v729
  rw [a_HS0_22 , a_HS0_21 , a_HS0_20 , a_HS0_19 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem a_HS0_23 : kernelRun0_A.sl.HS0_23 (F := F) c arg1 harg1 arg2 harg2 arg3 harg3 arg4 harg4 arg5 harg5 arg6 harg6 arg9 x0 x1 x2 x3 x4 x5 = (⟨rS ⟨1, by decide⟩, (Sv x0 x1 x2 x3 x4 x5 (k0_pay1 (F := F)) 6 ⟨1, by decide⟩)⟩ : View.Piece (Elt F) S4x128x128 .f32) :: kernelRun0_A.sl.HS0_22 (F := F) c arg1 harg1 arg2 harg2 arg3 harg3 arg4 harg4 arg5 harg5 arg6 harg6 arg9 x0 x1 x2 x3 x4 x5 := by
  unfold kernelRun0_A.sl.HS0_23
  unfold kernelRun0_A.sl.r_55 kernelRun0_A.sl.r_59 kernelRun0_A.sl.r_60
  simp only [a_v729, View.readAt_eq_ld, harg1.read_unread, harg2.read_unread, harg3.read_unread, harg4.read_unread, harg5.read_unread, harg6.read_unread]
  rfl

theorem a_v763 : kernelRun0_A.sl.v763 (F := F) c arg1 harg1 arg2 harg2 arg3 harg3 arg4 harg4 arg5 harg5 arg6 harg6 arg9 x0 x1 x2 x3 x4 x5 = (Sv x0 x1 x2 x3 x4 x5 (k0_pay1 (F := F)) 5 ⟨2, by decide⟩) := by
  unfold kernelRun0_A.sl.v763
  rw [a_HS0_23 , a_HS0_22 , a_HS0_21 , a_HS0_20 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem a_HS0_24 : kernelRun0_A.sl.HS0_24 (F := F) c arg1 harg1 arg2 harg2 arg3 harg3 arg4 harg4 arg5 harg5 arg6 harg6 arg9 x0 x1 x2 x3 x4 x5 = (⟨rS ⟨2, by decide⟩, (Sv x0 x1 x2 x3 x4 x5 (k0_pay1 (F := F)) 6 ⟨2, by decide⟩)⟩ : View.Piece (Elt F) S4x128x128 .f32) :: kernelRun0_A.sl.HS0_23 (F := F) c arg1 harg1 arg2 harg2 arg3 harg3 arg4 harg4 arg5 harg5 arg6 harg6 arg9 x0 x1 x2 x3 x4 x5 := by
  unfold kernelRun0_A.sl.HS0_24
  unfold kernelRun0_A.sl.r_55 kernelRun0_A.sl.r_61
  simp only [a_v763, View.readAt_eq_ld, harg1.read_unread, harg2.read_unread, harg3.read_unread, harg4.read_unread, harg5.read_unread, harg6.read_unread]
  rfl

theorem a_v797 : kernelRun0_A.sl.v797 (F := F) c arg1 harg1 arg2 harg2 arg3 harg3 arg4 harg4 arg5 harg5 arg6 harg6 arg9 x0 x1 x2 x3 x4 x5 = (Sv x0 x1 x2 x3 x4 x5 (k0_pay1 (F := F)) 5 ⟨3, by decide⟩) := by
  unfold kernelRun0_A.sl.v797
  rw [a_HS0_24 , a_HS0_23 , a_HS0_22 , a_HS0_21 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem a_pieces6 (i : grid0.Coords) (hc0 : cond0_0 i) : (kernelRun0_A c i arg1 harg1 arg2 harg2 arg3 harg3 arg4 harg4 arg5 harg5 arg6 harg6 arg7 harg7 arg8 harg8 arg9 harg9 hc0 x0 x1 x2 x3 x4 x5).1 = [(⟨rX (jk 5) ⟨3, by decide⟩, Dv x0 x1 x2 x3 x4 x5 (k0_pay1 (F := F)) 5 ⟨3, by decide⟩⟩ : View.Piece (Elt F) S384x512 .f32),
    (⟨rX (jk 5) ⟨2, by decide⟩, Dv x0 x1 x2 x3 x4 x5 (k0_pay1 (F := F)) 5 ⟨2, by decide⟩⟩ : View.Piece (Elt F) S384x512 .f32),
    (⟨rX (jk 5) ⟨1, by decide⟩, Dv x0 x1 x2 x3 x4 x5 (k0_pay1 (F := F)) 5 ⟨1, by decide⟩⟩ : View.Piece (Elt F) S384x512 .f32),
    (⟨rX (jk 5) ⟨0, by decide⟩, Dv x0 x1 x2 x3 x4 x5 (k0_pay1 (F := F)) 5 ⟨0, by decide⟩⟩ : View.Piece (Elt F) S384x512 .f32),
    (⟨rX (jk 4) ⟨3, by decide⟩, Dv x0 x1 x2 x3 x4 x5 (k0_pay1 (F := F)) 4 ⟨3, by decide⟩⟩ : View.Piece (Elt F) S384x512 .f32),
    (⟨rX (jk 4) ⟨2, by decide⟩, Dv x0 x1 x2 x3 x4 x5 (k0_pay1 (F := F)) 4 ⟨2, by decide⟩⟩ : View.Piece (Elt F) S384x512 .f32),
    (⟨rX (jk 4) ⟨1, by decide⟩, Dv x0 x1 x2 x3 x4 x5 (k0_pay1 (F := F)) 4 ⟨1, by decide⟩⟩ : View.Piece (Elt F) S384x512 .f32),
    (⟨rX (jk 4) ⟨0, by decide⟩, Dv x0 x1 x2 x3 x4 x5 (k0_pay1 (F := F)) 4 ⟨0, by decide⟩⟩ : View.Piece (Elt F) S384x512 .f32),
    (⟨rX (jk 3) ⟨3, by decide⟩, Dv x0 x1 x2 x3 x4 x5 (k0_pay1 (F := F)) 3 ⟨3, by decide⟩⟩ : View.Piece (Elt F) S384x512 .f32),
    (⟨rX (jk 3) ⟨2, by decide⟩, Dv x0 x1 x2 x3 x4 x5 (k0_pay1 (F := F)) 3 ⟨2, by decide⟩⟩ : View.Piece (Elt F) S384x512 .f32),
    (⟨rX (jk 3) ⟨1, by decide⟩, Dv x0 x1 x2 x3 x4 x5 (k0_pay1 (F := F)) 3 ⟨1, by decide⟩⟩ : View.Piece (Elt F) S384x512 .f32),
    (⟨rX (jk 3) ⟨0, by decide⟩, Dv x0 x1 x2 x3 x4 x5 (k0_pay1 (F := F)) 3 ⟨0, by decide⟩⟩ : View.Piece (Elt F) S384x512 .f32),
    (⟨rX (jk 2) ⟨3, by decide⟩, Dv x0 x1 x2 x3 x4 x5 (k0_pay1 (F := F)) 2 ⟨3, by decide⟩⟩ : View.Piece (Elt F) S384x512 .f32),
    (⟨rX (jk 2) ⟨2, by decide⟩, Dv x0 x1 x2 x3 x4 x5 (k0_pay1 (F := F)) 2 ⟨2, by decide⟩⟩ : View.Piece (Elt F) S384x512 .f32),
    (⟨rX (jk 2) ⟨1, by decide⟩, Dv x0 x1 x2 x3 x4 x5 (k0_pay1 (F := F)) 2 ⟨1, by decide⟩⟩ : View.Piece (Elt F) S384x512 .f32),
    (⟨rX (jk 2) ⟨0, by decide⟩, Dv x0 x1 x2 x3 x4 x5 (k0_pay1 (F := F)) 2 ⟨0, by decide⟩⟩ : View.Piece (Elt F) S384x512 .f32),
    (⟨rX (jk 1) ⟨3, by decide⟩, Dv x0 x1 x2 x3 x4 x5 (k0_pay1 (F := F)) 1 ⟨3, by decide⟩⟩ : View.Piece (Elt F) S384x512 .f32),
    (⟨rX (jk 1) ⟨2, by decide⟩, Dv x0 x1 x2 x3 x4 x5 (k0_pay1 (F := F)) 1 ⟨2, by decide⟩⟩ : View.Piece (Elt F) S384x512 .f32),
    (⟨rX (jk 1) ⟨1, by decide⟩, Dv x0 x1 x2 x3 x4 x5 (k0_pay1 (F := F)) 1 ⟨1, by decide⟩⟩ : View.Piece (Elt F) S384x512 .f32),
    (⟨rX (jk 1) ⟨0, by decide⟩, Dv x0 x1 x2 x3 x4 x5 (k0_pay1 (F := F)) 1 ⟨0, by decide⟩⟩ : View.Piece (Elt F) S384x512 .f32),
    (⟨rX (jk 0) ⟨3, by decide⟩, Dv x0 x1 x2 x3 x4 x5 (k0_pay1 (F := F)) 0 ⟨3, by decide⟩⟩ : View.Piece (Elt F) S384x512 .f32),
    (⟨rX (jk 0) ⟨2, by decide⟩, Dv x0 x1 x2 x3 x4 x5 (k0_pay1 (F := F)) 0 ⟨2, by decide⟩⟩ : View.Piece (Elt F) S384x512 .f32),
    (⟨rX (jk 0) ⟨1, by decide⟩, Dv x0 x1 x2 x3 x4 x5 (k0_pay1 (F := F)) 0 ⟨1, by decide⟩⟩ : View.Piece (Elt F) S384x512 .f32),
    (⟨rX (jk 0) ⟨0, by decide⟩, Dv x0 x1 x2 x3 x4 x5 (k0_pay1 (F := F)) 0 ⟨0, by decide⟩⟩ : View.Piece (Elt F) S384x512 .f32)] := by
  unfold kernelRun0_A
  dsimp only
  simp only [kernelRun0_A.sl.cst_356, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_7, kernelRun0_A.sl.r_8, kernelRun0_A.sl.r_9, kernelRun0_A.sl.v641]
  simp only [a_v5 c arg9 x0 x1 x2 x3 x4 x5, a_v39, a_v73, a_v107, a_v143, a_v177, a_v211, a_v245, a_v281, a_v315, a_v349, a_v383, a_v419, a_v453, a_v487, a_v521, a_v557, a_v591, a_v625, a_v659, a_v695, a_v729, a_v763, a_v797, View.readAt_eq_ld, harg1.read_unread, harg2.read_unread, harg3.read_unread, harg4.read_unread, harg5.read_unread, harg6.read_unread]
  rfl

theorem a_pieces7 (i : grid0.Coords) (hc0 : cond0_0 i) : (kernelRun0_A c i arg1 harg1 arg2 harg2 arg3 harg3 arg4 harg4 arg5 harg5 arg6 harg6 arg7 harg7 arg8 harg8 arg9 harg9 hc0 x0 x1 x2 x3 x4 x5).2.1 = [(⟨rD (jk 5) ⟨3, by decide⟩, Pv x0 x1 x2 x3 x4 x5 (k0_pay1 (F := F)) 5 ⟨3, by decide⟩⟩ : View.Piece (Elt F) S6x4x128x128 .f32),
    (⟨rD (jk 5) ⟨2, by decide⟩, Pv x0 x1 x2 x3 x4 x5 (k0_pay1 (F := F)) 5 ⟨2, by decide⟩⟩ : View.Piece (Elt F) S6x4x128x128 .f32),
    (⟨rD (jk 5) ⟨1, by decide⟩, Pv x0 x1 x2 x3 x4 x5 (k0_pay1 (F := F)) 5 ⟨1, by decide⟩⟩ : View.Piece (Elt F) S6x4x128x128 .f32),
    (⟨rD (jk 5) ⟨0, by decide⟩, Pv x0 x1 x2 x3 x4 x5 (k0_pay1 (F := F)) 5 ⟨0, by decide⟩⟩ : View.Piece (Elt F) S6x4x128x128 .f32),
    (⟨rD (jk 4) ⟨3, by decide⟩, Pv x0 x1 x2 x3 x4 x5 (k0_pay1 (F := F)) 4 ⟨3, by decide⟩⟩ : View.Piece (Elt F) S6x4x128x128 .f32),
    (⟨rD (jk 4) ⟨2, by decide⟩, Pv x0 x1 x2 x3 x4 x5 (k0_pay1 (F := F)) 4 ⟨2, by decide⟩⟩ : View.Piece (Elt F) S6x4x128x128 .f32),
    (⟨rD (jk 4) ⟨1, by decide⟩, Pv x0 x1 x2 x3 x4 x5 (k0_pay1 (F := F)) 4 ⟨1, by decide⟩⟩ : View.Piece (Elt F) S6x4x128x128 .f32),
    (⟨rD (jk 4) ⟨0, by decide⟩, Pv x0 x1 x2 x3 x4 x5 (k0_pay1 (F := F)) 4 ⟨0, by decide⟩⟩ : View.Piece (Elt F) S6x4x128x128 .f32),
    (⟨rD (jk 3) ⟨3, by decide⟩, Pv x0 x1 x2 x3 x4 x5 (k0_pay1 (F := F)) 3 ⟨3, by decide⟩⟩ : View.Piece (Elt F) S6x4x128x128 .f32),
    (⟨rD (jk 3) ⟨2, by decide⟩, Pv x0 x1 x2 x3 x4 x5 (k0_pay1 (F := F)) 3 ⟨2, by decide⟩⟩ : View.Piece (Elt F) S6x4x128x128 .f32),
    (⟨rD (jk 3) ⟨1, by decide⟩, Pv x0 x1 x2 x3 x4 x5 (k0_pay1 (F := F)) 3 ⟨1, by decide⟩⟩ : View.Piece (Elt F) S6x4x128x128 .f32),
    (⟨rD (jk 3) ⟨0, by decide⟩, Pv x0 x1 x2 x3 x4 x5 (k0_pay1 (F := F)) 3 ⟨0, by decide⟩⟩ : View.Piece (Elt F) S6x4x128x128 .f32),
    (⟨rD (jk 2) ⟨3, by decide⟩, Pv x0 x1 x2 x3 x4 x5 (k0_pay1 (F := F)) 2 ⟨3, by decide⟩⟩ : View.Piece (Elt F) S6x4x128x128 .f32),
    (⟨rD (jk 2) ⟨2, by decide⟩, Pv x0 x1 x2 x3 x4 x5 (k0_pay1 (F := F)) 2 ⟨2, by decide⟩⟩ : View.Piece (Elt F) S6x4x128x128 .f32),
    (⟨rD (jk 2) ⟨1, by decide⟩, Pv x0 x1 x2 x3 x4 x5 (k0_pay1 (F := F)) 2 ⟨1, by decide⟩⟩ : View.Piece (Elt F) S6x4x128x128 .f32),
    (⟨rD (jk 2) ⟨0, by decide⟩, Pv x0 x1 x2 x3 x4 x5 (k0_pay1 (F := F)) 2 ⟨0, by decide⟩⟩ : View.Piece (Elt F) S6x4x128x128 .f32),
    (⟨rD (jk 1) ⟨3, by decide⟩, Pv x0 x1 x2 x3 x4 x5 (k0_pay1 (F := F)) 1 ⟨3, by decide⟩⟩ : View.Piece (Elt F) S6x4x128x128 .f32),
    (⟨rD (jk 1) ⟨2, by decide⟩, Pv x0 x1 x2 x3 x4 x5 (k0_pay1 (F := F)) 1 ⟨2, by decide⟩⟩ : View.Piece (Elt F) S6x4x128x128 .f32),
    (⟨rD (jk 1) ⟨1, by decide⟩, Pv x0 x1 x2 x3 x4 x5 (k0_pay1 (F := F)) 1 ⟨1, by decide⟩⟩ : View.Piece (Elt F) S6x4x128x128 .f32),
    (⟨rD (jk 1) ⟨0, by decide⟩, Pv x0 x1 x2 x3 x4 x5 (k0_pay1 (F := F)) 1 ⟨0, by decide⟩⟩ : View.Piece (Elt F) S6x4x128x128 .f32),
    (⟨rD (jk 0) ⟨3, by decide⟩, Pv x0 x1 x2 x3 x4 x5 (k0_pay1 (F := F)) 0 ⟨3, by decide⟩⟩ : View.Piece (Elt F) S6x4x128x128 .f32),
    (⟨rD (jk 0) ⟨2, by decide⟩, Pv x0 x1 x2 x3 x4 x5 (k0_pay1 (F := F)) 0 ⟨2, by decide⟩⟩ : View.Piece (Elt F) S6x4x128x128 .f32),
    (⟨rD (jk 0) ⟨1, by decide⟩, Pv x0 x1 x2 x3 x4 x5 (k0_pay1 (F := F)) 0 ⟨1, by decide⟩⟩ : View.Piece (Elt F) S6x4x128x128 .f32),
    (⟨rD (jk 0) ⟨0, by decide⟩, Pv x0 x1 x2 x3 x4 x5 (k0_pay1 (F := F)) 0 ⟨0, by decide⟩⟩ : View.Piece (Elt F) S6x4x128x128 .f32)] := by
  unfold kernelRun0_A
  dsimp only
  simp only [kernelRun0_A.sl.cst_356, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_7, kernelRun0_A.sl.r_8, kernelRun0_A.sl.r_9, kernelRun0_A.sl.v641]
  simp only [a_v5 c arg9 x0 x1 x2 x3 x4 x5, a_v39, a_v73, a_v107, a_v143, a_v177, a_v211, a_v245, a_v281, a_v315, a_v349, a_v383, a_v419, a_v453, a_v487, a_v521, a_v557, a_v591, a_v625, a_v659, a_v695, a_v729, a_v763, a_v797, View.readAt_eq_ld, harg1.read_unread, harg2.read_unread, harg3.read_unread, harg4.read_unread, harg5.read_unread, harg6.read_unread]
  rfl

theorem a_piecesS (i : grid0.Coords) (hc0 : cond0_0 i) : ∃ L, (kernelRun0_A c i arg1 harg1 arg2 harg2 arg3 harg3 arg4 harg4 arg5 harg5 arg6 harg6 arg7 harg7 arg8 harg8 arg9 harg9 hc0 x0 x1 x2 x3 x4 x5).2.2.1 = [(⟨rS ⟨3, by decide⟩, (Sv x0 x1 x2 x3 x4 x5 (k0_pay1 (F := F)) 6 ⟨3, by decide⟩)⟩ : View.Piece (Elt F) S4x128x128 .f32), ⟨rS ⟨2, by decide⟩, (Sv x0 x1 x2 x3 x4 x5 (k0_pay1 (F := F)) 6 ⟨2, by decide⟩)⟩, ⟨rS ⟨1, by decide⟩, (Sv x0 x1 x2 x3 x4 x5 (k0_pay1 (F := F)) 6 ⟨1, by decide⟩)⟩, ⟨rS ⟨0, by decide⟩, (Sv x0 x1 x2 x3 x4 x5 (k0_pay1 (F := F)) 6 ⟨0, by decide⟩)⟩] ++ L := by
  refine ⟨kernelRun0_A.sl.HS0_21 (F := F) c arg1 harg1 arg2 harg2 arg3 harg3 arg4 harg4 arg5 harg5 arg6 harg6 arg9 x0 x1 x2 x3 x4 x5, ?_⟩
  unfold kernelRun0_A
  dsimp only
  rw [a_HS0_24, a_HS0_23, a_HS0_22]
  simp only [kernelRun0_A.sl.cst_356, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_7, kernelRun0_A.sl.r_8, kernelRun0_A.sl.r_9, kernelRun0_A.sl.v641]
  simp only [a_v5 c arg9 x0 x1 x2 x3 x4 x5, a_v39, a_v73, a_v107, a_v143, a_v177, a_v211, a_v245, a_v281, a_v315, a_v349, a_v383, a_v419, a_v453, a_v487, a_v521, a_v557, a_v591, a_v625, a_v659, a_v695, a_v729, a_v763, a_v797, View.readAt_eq_ld, harg1.read_unread, harg2.read_unread, harg3.read_unread, harg4.read_unread, harg5.read_unread, harg6.read_unread]
  rfl

end Cert.ScanBwd

end
-- ==== Proof.WordsB.lean ====
/- What each named intermediate of the body is, in case B of the frame: the carried state's parts and the lists of stores. -/
module

public import proofs.«01_k».proof.Proof.WordsA

@[expose] public section

set_option maxRecDepth 16384

noncomputable section

namespace Cert.ScanBwd

open Idealize.ShloMosaic Idealize.ShloMosaic.TcCoe
open Cert.KernelIdeal Cert.KernelIdeal.Gen

variable {F : FTy → Type} [FloatOps F]

variable (c : Dev nD) (arg1 : Memref sig .tc .vmem S384x512 .f32) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x512 .bf16) (harg4 : arg4.IsWhole) (arg5 : Memref sig .tc .vmem S384x256 .bf16) (harg5 : arg5.IsWhole) (arg6 : Memref sig .tc .vmem S6x1x128 .f32) (harg6 : arg6.IsWhole) (arg7 : Memref sig .tc .vmem S384x512 .f32) (harg7 : arg7.IsWhole) (arg8 : Memref sig .tc .vmem S6x4x128x128 .f32) (harg8 : arg8.IsWhole) (arg9 : Memref sig .tc .vmem S4x128x128 .f32) (harg9 : arg9.IsWhole)
variable (x0 : Vec F S384x512 .f32) (x1 : Vec F S384x512 .bf16) (x2 : Vec F S384x512 .bf16) (x3 : Vec F S384x512 .bf16) (x4 : Vec F S384x256 .bf16) (x5 : Vec F S6x1x128 .f32) (xs0 : Vec F S4x128x128 .f32)

theorem b_v39 : kernelRun0_B.sl.v39 (F := F) c arg9 harg9 xs0 = (Sv x0 x1 x2 x3 x4 x5 xs0 0 ⟨1, by decide⟩) := by
  unfold kernelRun0_B.sl.v39
  simp only [View.readAt_eq_ld, harg9.read_unread]
  rfl

theorem b_v73 : kernelRun0_B.sl.v73 (F := F) c arg9 harg9 xs0 = (Sv x0 x1 x2 x3 x4 x5 xs0 0 ⟨2, by decide⟩) := by
  unfold kernelRun0_B.sl.v73
  simp only [View.readAt_eq_ld, harg9.read_unread]
  rfl

theorem b_v107 : kernelRun0_B.sl.v107 (F := F) c arg9 harg9 xs0 = (Sv x0 x1 x2 x3 x4 x5 xs0 0 ⟨3, by decide⟩) := by
  unfold kernelRun0_B.sl.v107
  simp only [View.readAt_eq_ld, harg9.read_unread]
  rfl

theorem b_HS0_4 : kernelRun0_B.sl.HS0_4 (F := F) c arg1 harg1 arg2 harg2 arg3 harg3 arg4 harg4 arg5 harg5 arg6 harg6 arg9 harg9 x0 x1 x2 x3 x4 x5 xs0 = [(⟨rS ⟨3, by decide⟩, (Sv x0 x1 x2 x3 x4 x5 xs0 1 ⟨3, by decide⟩)⟩ : View.Piece (Elt F) S4x128x128 .f32), (⟨rS ⟨2, by decide⟩, (Sv x0 x1 x2 x3 x4 x5 xs0 1 ⟨2, by decide⟩)⟩ : View.Piece (Elt F) S4x128x128 .f32), (⟨rS ⟨1, by decide⟩, (Sv x0 x1 x2 x3 x4 x5 xs0 1 ⟨1, by decide⟩)⟩ : View.Piece (Elt F) S4x128x128 .f32), (⟨rS ⟨0, by decide⟩, (Sv x0 x1 x2 x3 x4 x5 xs0 1 ⟨0, by decide⟩)⟩ : View.Piece (Elt F) S4x128x128 .f32)] := by
  unfold kernelRun0_B.sl.HS0_4
  unfold kernelRun0_B.sl.r kernelRun0_B.sl.r_12 kernelRun0_B.sl.r_13 kernelRun0_B.sl.r_14 kernelRun0_B.sl.r_8 kernelRun0_B.sl.r_9 kernelRun0_B.sl.r_10 kernelRun0_B.sl.r_11 kernelRun0_B.sl.r_5 kernelRun0_B.sl.r_6 kernelRun0_B.sl.r_7 kernelRun0_B.sl.r_1 kernelRun0_B.sl.r_2 kernelRun0_B.sl.r_3 kernelRun0_B.sl.r_4
  simp only [b_v39 c arg9 harg9 x0 x1 x2 x3 x4 x5 xs0, b_v73 c arg9 harg9 x0 x1 x2 x3 x4 x5 xs0, b_v107 c arg9 harg9 x0 x1 x2 x3 x4 x5 xs0, View.readAt_eq_ld, harg1.read_unread, harg2.read_unread, harg3.read_unread, harg4.read_unread, harg5.read_unread, harg6.read_unread, harg9.read_unread]
  rfl

theorem b_v143 : kernelRun0_B.sl.v143 (F := F) c arg1 harg1 arg2 harg2 arg3 harg3 arg4 harg4 arg5 harg5 arg6 harg6 arg9 harg9 x0 x1 x2 x3 x4 x5 xs0 = (Sv x0 x1 x2 x3 x4 x5 xs0 1 ⟨0, by decide⟩) := by
  unfold kernelRun0_B.sl.v143
  rw [b_HS0_4 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem b_HS0_5 : kernelRun0_B.sl.HS0_5 (F := F) c arg1 harg1 arg2 harg2 arg3 harg3 arg4 harg4 arg5 harg5 arg6 harg6 arg9 harg9 x0 x1 x2 x3 x4 x5 xs0 = (⟨rS ⟨0, by decide⟩, (Sv x0 x1 x2 x3 x4 x5 xs0 2 ⟨0, by decide⟩)⟩ : View.Piece (Elt F) S4x128x128 .f32) :: kernelRun0_B.sl.HS0_4 (F := F) c arg1 harg1 arg2 harg2 arg3 harg3 arg4 harg4 arg5 harg5 arg6 harg6 arg9 harg9 x0 x1 x2 x3 x4 x5 xs0 := by
  unfold kernelRun0_B.sl.HS0_5
  unfold kernelRun0_B.sl.r_15 kernelRun0_B.sl.r_16 kernelRun0_B.sl.r_17
  simp only [b_v143, View.readAt_eq_ld, harg1.read_unread, harg2.read_unread, harg3.read_unread, harg4.read_unread, harg5.read_unread, harg6.read_unread, harg9.read_unread]
  rfl

theorem b_v177 : kernelRun0_B.sl.v177 (F := F) c arg1 harg1 arg2 harg2 arg3 harg3 arg4 harg4 arg5 harg5 arg6 harg6 arg9 harg9 x0 x1 x2 x3 x4 x5 xs0 = (Sv x0 x1 x2 x3 x4 x5 xs0 1 ⟨1, by decide⟩) := by
  unfold kernelRun0_B.sl.v177
  rw [b_HS0_5 , b_HS0_4 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem b_HS0_6 : kernelRun0_B.sl.HS0_6 (F := F) c arg1 harg1 arg2 harg2 arg3 harg3 arg4 harg4 arg5 harg5 arg6 harg6 arg9 harg9 x0 x1 x2 x3 x4 x5 xs0 = (⟨rS ⟨1, by decide⟩, (Sv x0 x1 x2 x3 x4 x5 xs0 2 ⟨1, by decide⟩)⟩ : View.Piece (Elt F) S4x128x128 .f32) :: kernelRun0_B.sl.HS0_5 (F := F) c arg1 harg1 arg2 harg2 arg3 harg3 arg4 harg4 arg5 harg5 arg6 harg6 arg9 harg9 x0 x1 x2 x3 x4 x5 xs0 := by
  unfold kernelRun0_B.sl.HS0_6
  unfold kernelRun0_B.sl.r_15 kernelRun0_B.sl.r_18
  simp only [b_v177, View.readAt_eq_ld, harg1.read_unread, harg2.read_unread, harg3.read_unread, harg4.read_unread, harg5.read_unread, harg6.read_unread, harg9.read_unread]
  rfl

theorem b_v211 : kernelRun0_B.sl.v211 (F := F) c arg1 harg1 arg2 harg2 arg3 harg3 arg4 harg4 arg5 harg5 arg6 harg6 arg9 harg9 x0 x1 x2 x3 x4 x5 xs0 = (Sv x0 x1 x2 x3 x4 x5 xs0 1 ⟨2, by decide⟩) := by
  unfold kernelRun0_B.sl.v211
  rw [b_HS0_6 , b_HS0_5 , b_HS0_4 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem b_HS0_7 : kernelRun0_B.sl.HS0_7 (F := F) c arg1 harg1 arg2 harg2 arg3 harg3 arg4 harg4 arg5 harg5 arg6 harg6 arg9 harg9 x0 x1 x2 x3 x4 x5 xs0 = (⟨rS ⟨2, by decide⟩, (Sv x0 x1 x2 x3 x4 x5 xs0 2 ⟨2, by decide⟩)⟩ : View.Piece (Elt F) S4x128x128 .f32) :: kernelRun0_B.sl.HS0_6 (F := F) c arg1 harg1 arg2 harg2 arg3 harg3 arg4 harg4 arg5 harg5 arg6 harg6 arg9 harg9 x0 x1 x2 x3 x4 x5 xs0 := by
  unfold kernelRun0_B.sl.HS0_7
  unfold kernelRun0_B.sl.r_15 kernelRun0_B.sl.r_19
  simp only [b_v211, View.readAt_eq_ld, harg1.read_unread, harg2.read_unread, harg3.read_unread, harg4.read_unread, harg5.read_unread, harg6.read_unread, harg9.read_unread]
  rfl

theorem b_v245 : kernelRun0_B.sl.v245 (F := F) c arg1 harg1 arg2 harg2 arg3 harg3 arg4 harg4 arg5 harg5 arg6 harg6 arg9 harg9 x0 x1 x2 x3 x4 x5 xs0 = (Sv x0 x1 x2 x3 x4 x5 xs0 1 ⟨3, by decide⟩) := by
  unfold kernelRun0_B.sl.v245
  rw [b_HS0_7 , b_HS0_6 , b_HS0_5 , b_HS0_4 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem b_HS0_8 : kernelRun0_B.sl.HS0_8 (F := F) c arg1 harg1 arg2 harg2 arg3 harg3 arg4 harg4 arg5 harg5 arg6 harg6 arg9 harg9 x0 x1 x2 x3 x4 x5 xs0 = (⟨rS ⟨3, by decide⟩, (Sv x0 x1 x2 x3 x4 x5 xs0 2 ⟨3, by decide⟩)⟩ : View.Piece (Elt F) S4x128x128 .f32) :: kernelRun0_B.sl.HS0_7 (F := F) c arg1 harg1 arg2 harg2 arg3 harg3 arg4 harg4 arg5 harg5 arg6 harg6 arg9 harg9 x0 x1 x2 x3 x4 x5 xs0 := by
  unfold kernelRun0_B.sl.HS0_8
  unfold kernelRun0_B.sl.r_20 kernelRun0_B.sl.r_15
  simp only [b_v245, View.readAt_eq_ld, harg1.read_unread, harg2.read_unread, harg3.read_unread, harg4.read_unread, harg5.read_unread, harg6.read_unread, harg9.read_unread]
  rfl

theorem b_v281 : kernelRun0_B.sl.v281 (F := F) c arg1 harg1 arg2 harg2 arg3 harg3 arg4 harg4 arg5 harg5 arg6 harg6 arg9 harg9 x0 x1 x2 x3 x4 x5 xs0 = (Sv x0 x1 x2 x3 x4 x5 xs0 2 ⟨0, by decide⟩) := by
  unfold kernelRun0_B.sl.v281
  rw [b_HS0_8 , b_HS0_7 , b_HS0_6 , b_HS0_5 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem b_HS0_9 : kernelRun0_B.sl.HS0_9 (F := F) c arg1 harg1 arg2 harg2 arg3 harg3 arg4 harg4 arg5 harg5 arg6 harg6 arg9 harg9 x0 x1 x2 x3 x4 x5 xs0 = (⟨rS ⟨0, by decide⟩, (Sv x0 x1 x2 x3 x4 x5 xs0 3 ⟨0, by decide⟩)⟩ : View.Piece (Elt F) S4x128x128 .f32) :: kernelRun0_B.sl.HS0_8 (F := F) c arg1 harg1 arg2 harg2 arg3 harg3 arg4 harg4 arg5 harg5 arg6 harg6 arg9 harg9 x0 x1 x2 x3 x4 x5 xs0 := by
  unfold kernelRun0_B.sl.HS0_9
  unfold kernelRun0_B.sl.r_22 kernelRun0_B.sl.r_23 kernelRun0_B.sl.r_24 kernelRun0_B.sl.r_25
  simp only [b_v281, View.readAt_eq_ld, harg1.read_unread, harg2.read_unread, harg3.read_unread, harg4.read_unread, harg5.read_unread, harg6.read_unread, harg9.read_unread]
  rfl

theorem b_v315 : kernelRun0_B.sl.v315 (F := F) c arg1 harg1 arg2 harg2 arg3 harg3 arg4 harg4 arg5 harg5 arg6 harg6 arg9 harg9 x0 x1 x2 x3 x4 x5 xs0 = (Sv x0 x1 x2 x3 x4 x5 xs0 2 ⟨1, by decide⟩) := by
  unfold kernelRun0_B.sl.v315
  rw [b_HS0_9 , b_HS0_8 , b_HS0_7 , b_HS0_6 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem b_HS0_10 : kernelRun0_B.sl.HS0_10 (F := F) c arg1 harg1 arg2 harg2 arg3 harg3 arg4 harg4 arg5 harg5 arg6 harg6 arg9 harg9 x0 x1 x2 x3 x4 x5 xs0 = (⟨rS ⟨1, by decide⟩, (Sv x0 x1 x2 x3 x4 x5 xs0 3 ⟨1, by decide⟩)⟩ : View.Piece (Elt F) S4x128x128 .f32) :: kernelRun0_B.sl.HS0_9 (F := F) c arg1 harg1 arg2 harg2 arg3 harg3 arg4 harg4 arg5 harg5 arg6 harg6 arg9 harg9 x0 x1 x2 x3 x4 x5 xs0 := by
  unfold kernelRun0_B.sl.HS0_10
  unfold kernelRun0_B.sl.r_21 kernelRun0_B.sl.r_26 kernelRun0_B.sl.r_27 kernelRun0_B.sl.r_28
  simp only [b_v315, View.readAt_eq_ld, harg1.read_unread, harg2.read_unread, harg3.read_unread, harg4.read_unread, harg5.read_unread, harg6.read_unread, harg9.read_unread]
  rfl

theorem b_v349 : kernelRun0_B.sl.v349 (F := F) c arg1 harg1 arg2 harg2 arg3 harg3 arg4 harg4 arg5 harg5 arg6 harg6 arg9 harg9 x0 x1 x2 x3 x4 x5 xs0 = (Sv x0 x1 x2 x3 x4 x5 xs0 2 ⟨2, by decide⟩) := by
  unfold kernelRun0_B.sl.v349
  rw [b_HS0_10 , b_HS0_9 , b_HS0_8 , b_HS0_7 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem b_HS0_11 : kernelRun0_B.sl.HS0_11 (F := F) c arg1 harg1 arg2 harg2 arg3 harg3 arg4 harg4 arg5 harg5 arg6 harg6 arg9 harg9 x0 x1 x2 x3 x4 x5 xs0 = (⟨rS ⟨2, by decide⟩, (Sv x0 x1 x2 x3 x4 x5 xs0 3 ⟨2, by decide⟩)⟩ : View.Piece (Elt F) S4x128x128 .f32) :: kernelRun0_B.sl.HS0_10 (F := F) c arg1 harg1 arg2 harg2 arg3 harg3 arg4 harg4 arg5 harg5 arg6 harg6 arg9 harg9 x0 x1 x2 x3 x4 x5 xs0 := by
  unfold kernelRun0_B.sl.HS0_11
  unfold kernelRun0_B.sl.r_21 kernelRun0_B.sl.r_29 kernelRun0_B.sl.r_30 kernelRun0_B.sl.r_31
  simp only [b_v349, View.readAt_eq_ld, harg1.read_unread, harg2.read_unread, harg3.read_unread, harg4.read_unread, harg5.read_unread, harg6.read_unread, harg9.read_unread]
  rfl

theorem b_v383 : kernelRun0_B.sl.v383 (F := F) c arg1 harg1 arg2 harg2 arg3 harg3 arg4 harg4 arg5 harg5 arg6 harg6 arg9 harg9 x0 x1 x2 x3 x4 x5 xs0 = (Sv x0 x1 x2 x3 x4 x5 xs0 2 ⟨3, by decide⟩) := by
  unfold kernelRun0_B.sl.v383
  rw [b_HS0_11 , b_HS0_10 , b_HS0_9 , b_HS0_8 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem b_HS0_12 : kernelRun0_B.sl.HS0_12 (F := F) c arg1 harg1 arg2 harg2 arg3 harg3 arg4 harg4 arg5 harg5 arg6 harg6 arg9 harg9 x0 x1 x2 x3 x4 x5 xs0 = (⟨rS ⟨3, by decide⟩, (Sv x0 x1 x2 x3 x4 x5 xs0 3 ⟨3, by decide⟩)⟩ : View.Piece (Elt F) S4x128x128 .f32) :: kernelRun0_B.sl.HS0_11 (F := F) c arg1 harg1 arg2 harg2 arg3 harg3 arg4 harg4 arg5 harg5 arg6 harg6 arg9 harg9 x0 x1 x2 x3 x4 x5 xs0 := by
  unfold kernelRun0_B.sl.HS0_12
  unfold kernelRun0_B.sl.r_21 kernelRun0_B.sl.r_32 kernelRun0_B.sl.r_33 kernelRun0_B.sl.r_34
  simp only [b_v383, View.readAt_eq_ld, harg1.read_unread, harg2.read_unread, harg3.read_unread, harg4.read_unread, harg5.read_unread, harg6.read_unread, harg9.read_unread]
  rfl

theorem b_v419 : kernelRun0_B.sl.v419 (F := F) c arg1 harg1 arg2 harg2 arg3 harg3 arg4 harg4 arg5 harg5 arg6 harg6 arg9 harg9 x0 x1 x2 x3 x4 x5 xs0 = (Sv x0 x1 x2 x3 x4 x5 xs0 3 ⟨0, by decide⟩) := by
  unfold kernelRun0_B.sl.v419
  rw [b_HS0_12 , b_HS0_11 , b_HS0_10 , b_HS0_9 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem b_HS0_13 : kernelRun0_B.sl.HS0_13 (F := F) c arg1 harg1 arg2 harg2 arg3 harg3 arg4 harg4 arg5 harg5 arg6 harg6 arg9 harg9 x0 x1 x2 x3 x4 x5 xs0 = (⟨rS ⟨0, by decide⟩, (Sv x0 x1 x2 x3 x4 x5 xs0 4 ⟨0, by decide⟩)⟩ : View.Piece (Elt F) S4x128x128 .f32) :: kernelRun0_B.sl.HS0_12 (F := F) c arg1 harg1 arg2 harg2 arg3 harg3 arg4 harg4 arg5 harg5 arg6 harg6 arg9 harg9 x0 x1 x2 x3 x4 x5 xs0 := by
  unfold kernelRun0_B.sl.HS0_13
  unfold kernelRun0_B.sl.r_35 kernelRun0_B.sl.r_36 kernelRun0_B.sl.r_37 kernelRun0_B.sl.r_38 kernelRun0_B.sl.cst_356
  simp only [b_v419, View.readAt_eq_ld, harg1.read_unread, harg2.read_unread, harg3.read_unread, harg4.read_unread, harg5.read_unread, harg6.read_unread, harg9.read_unread]
  rfl

theorem b_v453 : kernelRun0_B.sl.v453 (F := F) c arg1 harg1 arg2 harg2 arg3 harg3 arg4 harg4 arg5 harg5 arg6 harg6 arg9 harg9 x0 x1 x2 x3 x4 x5 xs0 = (Sv x0 x1 x2 x3 x4 x5 xs0 3 ⟨1, by decide⟩) := by
  unfold kernelRun0_B.sl.v453
  rw [b_HS0_13 , b_HS0_12 , b_HS0_11 , b_HS0_10 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem b_HS0_14 : kernelRun0_B.sl.HS0_14 (F := F) c arg1 harg1 arg2 harg2 arg3 harg3 arg4 harg4 arg5 harg5 arg6 harg6 arg9 harg9 x0 x1 x2 x3 x4 x5 xs0 = (⟨rS ⟨1, by decide⟩, (Sv x0 x1 x2 x3 x4 x5 xs0 4 ⟨1, by decide⟩)⟩ : View.Piece (Elt F) S4x128x128 .f32) :: kernelRun0_B.sl.HS0_13 (F := F) c arg1 harg1 arg2 harg2 arg3 harg3 arg4 harg4 arg5 harg5 arg6 harg6 arg9 harg9 x0 x1 x2 x3 x4 x5 xs0 := by
  unfold kernelRun0_B.sl.HS0_14
  unfold kernelRun0_B.sl.r_35 kernelRun0_B.sl.r_39
  simp only [b_v453, View.readAt_eq_ld, harg1.read_unread, harg2.read_unread, harg3.read_unread, harg4.read_unread, harg5.read_unread, harg6.read_unread, harg9.read_unread]
  rfl

theorem b_v487 : kernelRun0_B.sl.v487 (F := F) c arg1 harg1 arg2 harg2 arg3 harg3 arg4 harg4 arg5 harg5 arg6 harg6 arg9 harg9 x0 x1 x2 x3 x4 x5 xs0 = (Sv x0 x1 x2 x3 x4 x5 xs0 3 ⟨2, by decide⟩) := by
  unfold kernelRun0_B.sl.v487
  rw [b_HS0_14 , b_HS0_13 , b_HS0_12 , b_HS0_11 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem b_HS0_15 : kernelRun0_B.sl.HS0_15 (F := F) c arg1 harg1 arg2 harg2 arg3 harg3 arg4 harg4 arg5 harg5 arg6 harg6 arg9 harg9 x0 x1 x2 x3 x4 x5 xs0 = (⟨rS ⟨2, by decide⟩, (Sv x0 x1 x2 x3 x4 x5 xs0 4 ⟨2, by decide⟩)⟩ : View.Piece (Elt F) S4x128x128 .f32) :: kernelRun0_B.sl.HS0_14 (F := F) c arg1 harg1 arg2 harg2 arg3 harg3 arg4 harg4 arg5 harg5 arg6 harg6 arg9 harg9 x0 x1 x2 x3 x4 x5 xs0 := by
  unfold kernelRun0_B.sl.HS0_15
  unfold kernelRun0_B.sl.r_35 kernelRun0_B.sl.r_40
  simp only [b_v487, View.readAt_eq_ld, harg1.read_unread, harg2.read_unread, harg3.read_unread, harg4.read_unread, harg5.read_unread, harg6.read_unread, harg9.read_unread]
  rfl

theorem b_v521 : kernelRun0_B.sl.v521 (F := F) c arg1 harg1 arg2 harg2 arg3 harg3 arg4 harg4 arg5 harg5 arg6 harg6 arg9 harg9 x0 x1 x2 x3 x4 x5 xs0 = (Sv x0 x1 x2 x3 x4 x5 xs0 3 ⟨3, by decide⟩) := by
  unfold kernelRun0_B.sl.v521
  rw [b_HS0_15 , b_HS0_14 , b_HS0_13 , b_HS0_12 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem b_HS0_16 : kernelRun0_B.sl.HS0_16 (F := F) c arg1 harg1 arg2 harg2 arg3 harg3 arg4 harg4 arg5 harg5 arg6 harg6 arg9 harg9 x0 x1 x2 x3 x4 x5 xs0 = (⟨rS ⟨3, by decide⟩, (Sv x0 x1 x2 x3 x4 x5 xs0 4 ⟨3, by decide⟩)⟩ : View.Piece (Elt F) S4x128x128 .f32) :: kernelRun0_B.sl.HS0_15 (F := F) c arg1 harg1 arg2 harg2 arg3 harg3 arg4 harg4 arg5 harg5 arg6 harg6 arg9 harg9 x0 x1 x2 x3 x4 x5 xs0 := by
  unfold kernelRun0_B.sl.HS0_16
  unfold kernelRun0_B.sl.r_41 kernelRun0_B.sl.r_35
  simp only [b_v521, View.readAt_eq_ld, harg1.read_unread, harg2.read_unread, harg3.read_unread, harg4.read_unread, harg5.read_unread, harg6.read_unread, harg9.read_unread]
  rfl

theorem b_v557 : kernelRun0_B.sl.v557 (F := F) c arg1 harg1 arg2 harg2 arg3 harg3 arg4 harg4 arg5 harg5 arg6 harg6 arg9 harg9 x0 x1 x2 x3 x4 x5 xs0 = (Sv x0 x1 x2 x3 x4 x5 xs0 4 ⟨0, by decide⟩) := by
  unfold kernelRun0_B.sl.v557
  rw [b_HS0_16 , b_HS0_15 , b_HS0_14 , b_HS0_13 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem b_HS0_17 : kernelRun0_B.sl.HS0_17 (F := F) c arg1 harg1 arg2 harg2 arg3 harg3 arg4 harg4 arg5 harg5 arg6 harg6 arg9 harg9 x0 x1 x2 x3 x4 x5 xs0 = (⟨rS ⟨0, by decide⟩, (Sv x0 x1 x2 x3 x4 x5 xs0 5 ⟨0, by decide⟩)⟩ : View.Piece (Elt F) S4x128x128 .f32) :: kernelRun0_B.sl.HS0_16 (F := F) c arg1 harg1 arg2 harg2 arg3 harg3 arg4 harg4 arg5 harg5 arg6 harg6 arg9 harg9 x0 x1 x2 x3 x4 x5 xs0 := by
  unfold kernelRun0_B.sl.HS0_17
  unfold kernelRun0_B.sl.r_43 kernelRun0_B.sl.r_44
  simp only [b_v557, View.readAt_eq_ld, harg1.read_unread, harg2.read_unread, harg3.read_unread, harg4.read_unread, harg5.read_unread, harg6.read_unread, harg9.read_unread]
  rfl

theorem b_v591 : kernelRun0_B.sl.v591 (F := F) c arg1 harg1 arg2 harg2 arg3 harg3 arg4 harg4 arg5 harg5 arg6 harg6 arg9 harg9 x0 x1 x2 x3 x4 x5 xs0 = (Sv x0 x1 x2 x3 x4 x5 xs0 4 ⟨1, by decide⟩) := by
  unfold kernelRun0_B.sl.v591
  rw [b_HS0_17 , b_HS0_16 , b_HS0_15 , b_HS0_14 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem b_HS0_18 : kernelRun0_B.sl.HS0_18 (F := F) c arg1 harg1 arg2 harg2 arg3 harg3 arg4 harg4 arg5 harg5 arg6 harg6 arg9 harg9 x0 x1 x2 x3 x4 x5 xs0 = (⟨rS ⟨1, by decide⟩, (Sv x0 x1 x2 x3 x4 x5 xs0 5 ⟨1, by decide⟩)⟩ : View.Piece (Elt F) S4x128x128 .f32) :: kernelRun0_B.sl.HS0_17 (F := F) c arg1 harg1 arg2 harg2 arg3 harg3 arg4 harg4 arg5 harg5 arg6 harg6 arg9 harg9 x0 x1 x2 x3 x4 x5 xs0 := by
  unfold kernelRun0_B.sl.HS0_18
  unfold kernelRun0_B.sl.r_45 kernelRun0_B.sl.r_46 kernelRun0_B.sl.r_47 kernelRun0_B.sl.r_48 kernelRun0_B.sl.r_42
  simp only [b_v591, View.readAt_eq_ld, harg1.read_unread, harg2.read_unread, harg3.read_unread, harg4.read_unread, harg5.read_unread, harg6.read_unread, harg9.read_unread]
  rfl

theorem b_v625 : kernelRun0_B.sl.v625 (F := F) c arg1 harg1 arg2 harg2 arg3 harg3 arg4 harg4 arg5 harg5 arg6 harg6 arg9 harg9 x0 x1 x2 x3 x4 x5 xs0 = (Sv x0 x1 x2 x3 x4 x5 xs0 4 ⟨2, by decide⟩) := by
  unfold kernelRun0_B.sl.v625
  rw [b_HS0_18 , b_HS0_17 , b_HS0_16 , b_HS0_15 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem b_HS0_19 : kernelRun0_B.sl.HS0_19 (F := F) c arg1 harg1 arg2 harg2 arg3 harg3 arg4 harg4 arg5 harg5 arg6 harg6 arg9 harg9 x0 x1 x2 x3 x4 x5 xs0 = (⟨rS ⟨2, by decide⟩, (Sv x0 x1 x2 x3 x4 x5 xs0 5 ⟨2, by decide⟩)⟩ : View.Piece (Elt F) S4x128x128 .f32) :: kernelRun0_B.sl.HS0_18 (F := F) c arg1 harg1 arg2 harg2 arg3 harg3 arg4 harg4 arg5 harg5 arg6 harg6 arg9 harg9 x0 x1 x2 x3 x4 x5 xs0 := by
  unfold kernelRun0_B.sl.HS0_19
  unfold kernelRun0_B.sl.r_42 kernelRun0_B.sl.r_49 kernelRun0_B.sl.r_50 kernelRun0_B.sl.r_51 kernelRun0_B.sl.v641
  simp only [b_v625, View.readAt_eq_ld, harg1.read_unread, harg2.read_unread, harg3.read_unread, harg4.read_unread, harg5.read_unread, harg6.read_unread, harg9.read_unread]
  rfl

theorem b_v659 : kernelRun0_B.sl.v659 (F := F) c arg1 harg1 arg2 harg2 arg3 harg3 arg4 harg4 arg5 harg5 arg6 harg6 arg9 harg9 x0 x1 x2 x3 x4 x5 xs0 = (Sv x0 x1 x2 x3 x4 x5 xs0 4 ⟨3, by decide⟩) := by
  unfold kernelRun0_B.sl.v659
  rw [b_HS0_19 , b_HS0_18 , b_HS0_17 , b_HS0_16 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem b_HS0_20 : kernelRun0_B.sl.HS0_20 (F := F) c arg1 harg1 arg2 harg2 arg3 harg3 arg4 harg4 arg5 harg5 arg6 harg6 arg9 harg9 x0 x1 x2 x3 x4 x5 xs0 = (⟨rS ⟨3, by decide⟩, (Sv x0 x1 x2 x3 x4 x5 xs0 5 ⟨3, by decide⟩)⟩ : View.Piece (Elt F) S4x128x128 .f32) :: kernelRun0_B.sl.HS0_19 (F := F) c arg1 harg1 arg2 harg2 arg3 harg3 arg4 harg4 arg5 harg5 arg6 harg6 arg9 harg9 x0 x1 x2 x3 x4 x5 xs0 := by
  unfold kernelRun0_B.sl.HS0_20
  unfold kernelRun0_B.sl.r_42 kernelRun0_B.sl.r_52 kernelRun0_B.sl.r_53 kernelRun0_B.sl.r_54
  simp only [b_v659, View.readAt_eq_ld, harg1.read_unread, harg2.read_unread, harg3.read_unread, harg4.read_unread, harg5.read_unread, harg6.read_unread, harg9.read_unread]
  rfl

theorem b_v695 : kernelRun0_B.sl.v695 (F := F) c arg1 harg1 arg2 harg2 arg3 harg3 arg4 harg4 arg5 harg5 arg6 harg6 arg9 harg9 x0 x1 x2 x3 x4 x5 xs0 = (Sv x0 x1 x2 x3 x4 x5 xs0 5 ⟨0, by decide⟩) := by
  unfold kernelRun0_B.sl.v695
  rw [b_HS0_20 , b_HS0_19 , b_HS0_18 , b_HS0_17 ]
  exact (rd_skip _ ⟨0, by decide⟩ ⟨3, by decide⟩ (by decide) _ _).trans ((rd_skip _ ⟨0, by decide⟩ ⟨2, by decide⟩ (by decide) _ _).trans ((rd_skip _ ⟨0, by decide⟩ ⟨1, by decide⟩ (by decide) _ _).trans (rd_hit _ ⟨0, by decide⟩ _ _)))

theorem b_HS0_21 : kernelRun0_B.sl.HS0_21 (F := F) c arg1 harg1 arg2 harg2 arg3 harg3 arg4 harg4 arg5 harg5 arg6 harg6 arg9 harg9 x0 x1 x2 x3 x4 x5 xs0 = (⟨rS ⟨0, by decide⟩, (Sv x0 x1 x2 x3 x4 x5 xs0 6 ⟨0, by decide⟩)⟩ : View.Piece (Elt F) S4x128x128 .f32) :: kernelRun0_B.sl.HS0_20 (F := F) c arg1 harg1 arg2 harg2 arg3 harg3 arg4 harg4 arg5 harg5 arg6 harg6 arg9 harg9 x0 x1 x2 x3 x4 x5 xs0 := by
  unfold kernelRun0_B.sl.HS0_21
  unfold kernelRun0_B.sl.r_55 kernelRun0_B.sl.r_56 kernelRun0_B.sl.r_57 kernelRun0_B.sl.r_58
  simp only [b_v695, View.readAt_eq_ld, harg1.read_unread, harg2.read_unread, harg3.read_unread, harg4.read_unread, harg5.read_unread, harg6.read_unread, harg9.read_unread]
  rfl

theorem b_v729 : kernelRun0_B.sl.v729 (F := F) c arg1 harg1 arg2 harg2 arg3 harg3 arg4 harg4 arg5 harg5 arg6 harg6 arg9 harg9 x0 x1 x2 x3 x4 x5 xs0 = (Sv x0 x1 x2 x3 x4 x5 xs0 5 ⟨1, by decide⟩) := by
  unfold kernelRun0_B.sl.v729
  rw [b_HS0_21 , b_HS0_20 , b_HS0_19 , b_HS0_18 ]
  exact (rd_skip _ ⟨1, by decide⟩ ⟨0, by decide⟩ (by decide) _ _).trans ((rd_skip _ ⟨1, by decide⟩ ⟨3, by decide⟩ (by decide) _ _).trans ((rd_skip _ ⟨1, by decide⟩ ⟨2, by decide⟩ (by decide) _ _).trans (rd_hit _ ⟨1, by decide⟩ _ _)))

theorem b_HS0_22 : kernelRun0_B.sl.HS0_22 (F := F) c arg1 harg1 arg2 harg2 arg3 harg3 arg4 harg4 arg5 harg5 arg6 harg6 arg9 harg9 x0 x1 x2 x3 x4 x5 xs0 = (⟨rS ⟨1, by decide⟩, (Sv x0 x1 x2 x3 x4 x5 xs0 6 ⟨1, by decide⟩)⟩ : View.Piece (Elt F) S4x128x128 .f32) :: kernelRun0_B.sl.HS0_21 (F := F) c arg1 harg1 arg2 harg2 arg3 harg3 arg4 harg4 arg5 harg5 arg6 harg6 arg9 harg9 x0 x1 x2 x3 x4 x5 xs0 := by
  unfold kernelRun0_B.sl.HS0_22
  unfold kernelRun0_B.sl.r_55 kernelRun0_B.sl.r_59 kernelRun0_B.sl.r_60
  simp only [b_v729, View.readAt_eq_ld, harg1.read_unread, harg2.read_unread, harg3.read_unread, harg4.read_unread, harg5.read_unread, harg6.read_unread, harg9.read_unread]
  rfl

theorem b_v763 : kernelRun0_B.sl.v763 (F := F) c arg1 harg1 arg2 harg2 arg3 harg3 arg4 harg4 arg5 harg5 arg6 harg6 arg9 harg9 x0 x1 x2 x3 x4 x5 xs0 = (Sv x0 x1 x2 x3 x4 x5 xs0 5 ⟨2, by decide⟩) := by
  unfold kernelRun0_B.sl.v763
  rw [b_HS0_22 , b_HS0_21 , b_HS0_20 , b_HS0_19 ]
  exact (rd_skip _ ⟨2, by decide⟩ ⟨1, by decide⟩ (by decide) _ _).trans ((rd_skip _ ⟨2, by decide⟩ ⟨0, by decide⟩ (by decide) _ _).trans ((rd_skip _ ⟨2, by decide⟩ ⟨3, by decide⟩ (by decide) _ _).trans (rd_hit _ ⟨2, by decide⟩ _ _)))

theorem b_HS0_23 : kernelRun0_B.sl.HS0_23 (F := F) c arg1 harg1 arg2 harg2 arg3 harg3 arg4 harg4 arg5 harg5 arg6 harg6 arg9 harg9 x0 x1 x2 x3 x4 x5 xs0 = (⟨rS ⟨2, by decide⟩, (Sv x0 x1 x2 x3 x4 x5 xs0 6 ⟨2, by decide⟩)⟩ : View.Piece (Elt F) S4x128x128 .f32) :: kernelRun0_B.sl.HS0_22 (F := F) c arg1 harg1 arg2 harg2 arg3 harg3 arg4 harg4 arg5 harg5 arg6 harg6 arg9 harg9 x0 x1 x2 x3 x4 x5 xs0 := by
  unfold kernelRun0_B.sl.HS0_23
  unfold kernelRun0_B.sl.r_55 kernelRun0_B.sl.r_61
  simp only [b_v763, View.readAt_eq_ld, harg1.read_unread, harg2.read_unread, harg3.read_unread, harg4.read_unread, harg5.read_unread, harg6.read_unread, harg9.read_unread]
  rfl

theorem b_v797 : kernelRun0_B.sl.v797 (F := F) c arg1 harg1 arg2 harg2 arg3 harg3 arg4 harg4 arg5 harg5 arg6 harg6 arg9 harg9 x0 x1 x2 x3 x4 x5 xs0 = (Sv x0 x1 x2 x3 x4 x5 xs0 5 ⟨3, by decide⟩) := by
  unfold kernelRun0_B.sl.v797
  rw [b_HS0_23 , b_HS0_22 , b_HS0_21 , b_HS0_20 ]
  exact (rd_skip _ ⟨3, by decide⟩ ⟨2, by decide⟩ (by decide) _ _).trans ((rd_skip _ ⟨3, by decide⟩ ⟨1, by decide⟩ (by decide) _ _).trans ((rd_skip _ ⟨3, by decide⟩ ⟨0, by decide⟩ (by decide) _ _).trans (rd_hit _ ⟨3, by decide⟩ _ _)))

theorem b_pieces6 (i : grid0.Coords) (hc0 : ¬cond0_0 i) : (kernelRun0_B c i arg1 harg1 arg2 harg2 arg3 harg3 arg4 harg4 arg5 harg5 arg6 harg6 arg7 harg7 arg8 harg8 arg9 harg9 hc0 x0 x1 x2 x3 x4 x5 xs0).1 = [(⟨rX (jk 5) ⟨3, by decide⟩, Dv x0 x1 x2 x3 x4 x5 xs0 5 ⟨3, by decide⟩⟩ : View.Piece (Elt F) S384x512 .f32),
    (⟨rX (jk 5) ⟨2, by decide⟩, Dv x0 x1 x2 x3 x4 x5 xs0 5 ⟨2, by decide⟩⟩ : View.Piece (Elt F) S384x512 .f32),
    (⟨rX (jk 5) ⟨1, by decide⟩, Dv x0 x1 x2 x3 x4 x5 xs0 5 ⟨1, by decide⟩⟩ : View.Piece (Elt F) S384x512 .f32),
    (⟨rX (jk 5) ⟨0, by decide⟩, Dv x0 x1 x2 x3 x4 x5 xs0 5 ⟨0, by decide⟩⟩ : View.Piece (Elt F) S384x512 .f32),
    (⟨rX (jk 4) ⟨3, by decide⟩, Dv x0 x1 x2 x3 x4 x5 xs0 4 ⟨3, by decide⟩⟩ : View.Piece (Elt F) S384x512 .f32),
    (⟨rX (jk 4) ⟨2, by decide⟩, Dv x0 x1 x2 x3 x4 x5 xs0 4 ⟨2, by decide⟩⟩ : View.Piece (Elt F) S384x512 .f32),
    (⟨rX (jk 4) ⟨1, by decide⟩, Dv x0 x1 x2 x3 x4 x5 xs0 4 ⟨1, by decide⟩⟩ : View.Piece (Elt F) S384x512 .f32),
    (⟨rX (jk 4) ⟨0, by decide⟩, Dv x0 x1 x2 x3 x4 x5 xs0 4 ⟨0, by decide⟩⟩ : View.Piece (Elt F) S384x512 .f32),
    (⟨rX (jk 3) ⟨3, by decide⟩, Dv x0 x1 x2 x3 x4 x5 xs0 3 ⟨3, by decide⟩⟩ : View.Piece (Elt F) S384x512 .f32),
    (⟨rX (jk 3) ⟨2, by decide⟩, Dv x0 x1 x2 x3 x4 x5 xs0 3 ⟨2, by decide⟩⟩ : View.Piece (Elt F) S384x512 .f32),
    (⟨rX (jk 3) ⟨1, by decide⟩, Dv x0 x1 x2 x3 x4 x5 xs0 3 ⟨1, by decide⟩⟩ : View.Piece (Elt F) S384x512 .f32),
    (⟨rX (jk 3) ⟨0, by decide⟩, Dv x0 x1 x2 x3 x4 x5 xs0 3 ⟨0, by decide⟩⟩ : View.Piece (Elt F) S384x512 .f32),
    (⟨rX (jk 2) ⟨3, by decide⟩, Dv x0 x1 x2 x3 x4 x5 xs0 2 ⟨3, by decide⟩⟩ : View.Piece (Elt F) S384x512 .f32),
    (⟨rX (jk 2) ⟨2, by decide⟩, Dv x0 x1 x2 x3 x4 x5 xs0 2 ⟨2, by decide⟩⟩ : View.Piece (Elt F) S384x512 .f32),
    (⟨rX (jk 2) ⟨1, by decide⟩, Dv x0 x1 x2 x3 x4 x5 xs0 2 ⟨1, by decide⟩⟩ : View.Piece (Elt F) S384x512 .f32),
    (⟨rX (jk 2) ⟨0, by decide⟩, Dv x0 x1 x2 x3 x4 x5 xs0 2 ⟨0, by decide⟩⟩ : View.Piece (Elt F) S384x512 .f32),
    (⟨rX (jk 1) ⟨3, by decide⟩, Dv x0 x1 x2 x3 x4 x5 xs0 1 ⟨3, by decide⟩⟩ : View.Piece (Elt F) S384x512 .f32),
    (⟨rX (jk 1) ⟨2, by decide⟩, Dv x0 x1 x2 x3 x4 x5 xs0 1 ⟨2, by decide⟩⟩ : View.Piece (Elt F) S384x512 .f32),
    (⟨rX (jk 1) ⟨1, by decide⟩, Dv x0 x1 x2 x3 x4 x5 xs0 1 ⟨1, by decide⟩⟩ : View.Piece (Elt F) S384x512 .f32),
    (⟨rX (jk 1) ⟨0, by decide⟩, Dv x0 x1 x2 x3 x4 x5 xs0 1 ⟨0, by decide⟩⟩ : View.Piece (Elt F) S384x512 .f32),
    (⟨rX (jk 0) ⟨3, by decide⟩, Dv x0 x1 x2 x3 x4 x5 xs0 0 ⟨3, by decide⟩⟩ : View.Piece (Elt F) S384x512 .f32),
    (⟨rX (jk 0) ⟨2, by decide⟩, Dv x0 x1 x2 x3 x4 x5 xs0 0 ⟨2, by decide⟩⟩ : View.Piece (Elt F) S384x512 .f32),
    (⟨rX (jk 0) ⟨1, by decide⟩, Dv x0 x1 x2 x3 x4 x5 xs0 0 ⟨1, by decide⟩⟩ : View.Piece (Elt F) S384x512 .f32),
    (⟨rX (jk 0) ⟨0, by decide⟩, Dv x0 x1 x2 x3 x4 x5 xs0 0 ⟨0, by decide⟩⟩ : View.Piece (Elt F) S384x512 .f32)] := by
  unfold kernelRun0_B
  dsimp only
  simp only [kernelRun0_B.sl.cst_356, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_7, kernelRun0_B.sl.r_8, kernelRun0_B.sl.r_9, kernelRun0_B.sl.v641]
  simp only [b_v39 c arg9 harg9 x0 x1 x2 x3 x4 x5 xs0, b_v73 c arg9 harg9 x0 x1 x2 x3 x4 x5 xs0, b_v107 c arg9 harg9 x0 x1 x2 x3 x4 x5 xs0, b_v143, b_v177, b_v211, b_v245, b_v281, b_v315, b_v349, b_v383, b_v419, b_v453, b_v487, b_v521, b_v557, b_v591, b_v625, b_v659, b_v695, b_v729, b_v763, b_v797, View.readAt_eq_ld, harg1.read_unread, harg2.read_unread, harg3.read_unread, harg4.read_unread, harg5.read_unread, harg6.read_unread, harg9.read_unread]
  rfl

theorem b_pieces7 (i : grid0.Coords) (hc0 : ¬cond0_0 i) : (kernelRun0_B c i arg1 harg1 arg2 harg2 arg3 harg3 arg4 harg4 arg5 harg5 arg6 harg6 arg7 harg7 arg8 harg8 arg9 harg9 hc0 x0 x1 x2 x3 x4 x5 xs0).2.1 = [(⟨rD (jk 5) ⟨3, by decide⟩, Pv x0 x1 x2 x3 x4 x5 xs0 5 ⟨3, by decide⟩⟩ : View.Piece (Elt F) S6x4x128x128 .f32),
    (⟨rD (jk 5) ⟨2, by decide⟩, Pv x0 x1 x2 x3 x4 x5 xs0 5 ⟨2, by decide⟩⟩ : View.Piece (Elt F) S6x4x128x128 .f32),
    (⟨rD (jk 5) ⟨1, by decide⟩, Pv x0 x1 x2 x3 x4 x5 xs0 5 ⟨1, by decide⟩⟩ : View.Piece (Elt F) S6x4x128x128 .f32),
    (⟨rD (jk 5) ⟨0, by decide⟩, Pv x0 x1 x2 x3 x4 x5 xs0 5 ⟨0, by decide⟩⟩ : View.Piece (Elt F) S6x4x128x128 .f32),
    (⟨rD (jk 4) ⟨3, by decide⟩, Pv x0 x1 x2 x3 x4 x5 xs0 4 ⟨3, by decide⟩⟩ : View.Piece (Elt F) S6x4x128x128 .f32),
    (⟨rD (jk 4) ⟨2, by decide⟩, Pv x0 x1 x2 x3 x4 x5 xs0 4 ⟨2, by decide⟩⟩ : View.Piece (Elt F) S6x4x128x128 .f32),
    (⟨rD (jk 4) ⟨1, by decide⟩, Pv x0 x1 x2 x3 x4 x5 xs0 4 ⟨1, by decide⟩⟩ : View.Piece (Elt F) S6x4x128x128 .f32),
    (⟨rD (jk 4) ⟨0, by decide⟩, Pv x0 x1 x2 x3 x4 x5 xs0 4 ⟨0, by decide⟩⟩ : View.Piece (Elt F) S6x4x128x128 .f32),
    (⟨rD (jk 3) ⟨3, by decide⟩, Pv x0 x1 x2 x3 x4 x5 xs0 3 ⟨3, by decide⟩⟩ : View.Piece (Elt F) S6x4x128x128 .f32),
    (⟨rD (jk 3) ⟨2, by decide⟩, Pv x0 x1 x2 x3 x4 x5 xs0 3 ⟨2, by decide⟩⟩ : View.Piece (Elt F) S6x4x128x128 .f32),
    (⟨rD (jk 3) ⟨1, by decide⟩, Pv x0 x1 x2 x3 x4 x5 xs0 3 ⟨1, by decide⟩⟩ : View.Piece (Elt F) S6x4x128x128 .f32),
    (⟨rD (jk 3) ⟨0, by decide⟩, Pv x0 x1 x2 x3 x4 x5 xs0 3 ⟨0, by decide⟩⟩ : View.Piece (Elt F) S6x4x128x128 .f32),
    (⟨rD (jk 2) ⟨3, by decide⟩, Pv x0 x1 x2 x3 x4 x5 xs0 2 ⟨3, by decide⟩⟩ : View.Piece (Elt F) S6x4x128x128 .f32),
    (⟨rD (jk 2) ⟨2, by decide⟩, Pv x0 x1 x2 x3 x4 x5 xs0 2 ⟨2, by decide⟩⟩ : View.Piece (Elt F) S6x4x128x128 .f32),
    (⟨rD (jk 2) ⟨1, by decide⟩, Pv x0 x1 x2 x3 x4 x5 xs0 2 ⟨1, by decide⟩⟩ : View.Piece (Elt F) S6x4x128x128 .f32),
    (⟨rD (jk 2) ⟨0, by decide⟩, Pv x0 x1 x2 x3 x4 x5 xs0 2 ⟨0, by decide⟩⟩ : View.Piece (Elt F) S6x4x128x128 .f32),
    (⟨rD (jk 1) ⟨3, by decide⟩, Pv x0 x1 x2 x3 x4 x5 xs0 1 ⟨3, by decide⟩⟩ : View.Piece (Elt F) S6x4x128x128 .f32),
    (⟨rD (jk 1) ⟨2, by decide⟩, Pv x0 x1 x2 x3 x4 x5 xs0 1 ⟨2, by decide⟩⟩ : View.Piece (Elt F) S6x4x128x128 .f32),
    (⟨rD (jk 1) ⟨1, by decide⟩, Pv x0 x1 x2 x3 x4 x5 xs0 1 ⟨1, by decide⟩⟩ : View.Piece (Elt F) S6x4x128x128 .f32),
    (⟨rD (jk 1) ⟨0, by decide⟩, Pv x0 x1 x2 x3 x4 x5 xs0 1 ⟨0, by decide⟩⟩ : View.Piece (Elt F) S6x4x128x128 .f32),
    (⟨rD (jk 0) ⟨3, by decide⟩, Pv x0 x1 x2 x3 x4 x5 xs0 0 ⟨3, by decide⟩⟩ : View.Piece (Elt F) S6x4x128x128 .f32),
    (⟨rD (jk 0) ⟨2, by decide⟩, Pv x0 x1 x2 x3 x4 x5 xs0 0 ⟨2, by decide⟩⟩ : View.Piece (Elt F) S6x4x128x128 .f32),
    (⟨rD (jk 0) ⟨1, by decide⟩, Pv x0 x1 x2 x3 x4 x5 xs0 0 ⟨1, by decide⟩⟩ : View.Piece (Elt F) S6x4x128x128 .f32),
    (⟨rD (jk 0) ⟨0, by decide⟩, Pv x0 x1 x2 x3 x4 x5 xs0 0 ⟨0, by decide⟩⟩ : View.Piece (Elt F) S6x4x128x128 .f32)] := by
  unfold kernelRun0_B
  dsimp only
  simp only [kernelRun0_B.sl.cst_356, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_7, kernelRun0_B.sl.r_8, kernelRun0_B.sl.r_9, kernelRun0_B.sl.v641]
  simp only [b_v39 c arg9 harg9 x0 x1 x2 x3 x4 x5 xs0, b_v73 c arg9 harg9 x0 x1 x2 x3 x4 x5 xs0, b_v107 c arg9 harg9 x0 x1 x2 x3 x4 x5 xs0, b_v143, b_v177, b_v211, b_v245, b_v281, b_v315, b_v349, b_v383, b_v419, b_v453, b_v487, b_v521, b_v557, b_v591, b_v625, b_v659, b_v695, b_v729, b_v763, b_v797, View.readAt_eq_ld, harg1.read_unread, harg2.read_unread, harg3.read_unread, harg4.read_unread, harg5.read_unread, harg6.read_unread, harg9.read_unread]
  rfl

theorem b_piecesS (i : grid0.Coords) (hc0 : ¬cond0_0 i) : ∃ L, (kernelRun0_B c i arg1 harg1 arg2 harg2 arg3 harg3 arg4 harg4 arg5 harg5 arg6 harg6 arg7 harg7 arg8 harg8 arg9 harg9 hc0 x0 x1 x2 x3 x4 x5 xs0).2.2.1 = [(⟨rS ⟨3, by decide⟩, (Sv x0 x1 x2 x3 x4 x5 xs0 6 ⟨3, by decide⟩)⟩ : View.Piece (Elt F) S4x128x128 .f32), ⟨rS ⟨2, by decide⟩, (Sv x0 x1 x2 x3 x4 x5 xs0 6 ⟨2, by decide⟩)⟩, ⟨rS ⟨1, by decide⟩, (Sv x0 x1 x2 x3 x4 x5 xs0 6 ⟨1, by decide⟩)⟩, ⟨rS ⟨0, by decide⟩, (Sv x0 x1 x2 x3 x4 x5 xs0 6 ⟨0, by decide⟩)⟩] ++ L := by
  refine ⟨kernelRun0_B.sl.HS0_20 (F := F) c arg1 harg1 arg2 harg2 arg3 harg3 arg4 harg4 arg5 harg5 arg6 harg6 arg9 harg9 x0 x1 x2 x3 x4 x5 xs0, ?_⟩
  unfold kernelRun0_B
  dsimp only
  rw [b_HS0_23, b_HS0_22, b_HS0_21]
  simp only [kernelRun0_B.sl.cst_356, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_7, kernelRun0_B.sl.r_8, kernelRun0_B.sl.r_9, kernelRun0_B.sl.v641]
  simp only [b_v39 c arg9 harg9 x0 x1 x2 x3 x4 x5 xs0, b_v73 c arg9 harg9 x0 x1 x2 x3 x4 x5 xs0, b_v107 c arg9 harg9 x0 x1 x2 x3 x4 x5 xs0, b_v143, b_v177, b_v211, b_v245, b_v281, b_v315, b_v349, b_v383, b_v419, b_v453, b_v487, b_v521, b_v557, b_v591, b_v625, b_v659, b_v695, b_v729, b_v763, b_v797, View.readAt_eq_ld, harg1.read_unread, harg2.read_unread, harg3.read_unread, harg4.read_unread, harg5.read_unread, harg6.read_unread, harg9.read_unread]
  rfl

end Cert.ScanBwd

end
-- ==== Proof.Block.lean ====
/- The kernel's outputs from finite arguments: what one grid point leaves, the carried state over the 11 points, and the
   two result arrays. -/
module

public import proofs.«01_k».proof.Proof.Real
public import proofs.«01_k».proof.Proof.WordsB
public import Idealize.ShloMosaic.Lib.Pipeline.ValueKit

@[expose] public section

set_option maxRecDepth 16384

noncomputable section

namespace Cert.ScanBwd

open Idealize.ShloMosaic Idealize.ShloMosaic.TcCoe
open Cert.KernelIdeal Cert.KernelIdeal.Gen

variable {A : Args} {b : ℕ} {x0 : Vec Ideal S384x512 .f32} {x1 x2 x3 : Vec Ideal S384x512 .bf16} {x4 : Vec Ideal S384x256 .bf16}
  {x5 : Vec Ideal S6x1x128 .f32} {z : Vec Ideal S4x128x128 .f32}

/-- The zeros the first point starts from are the recursion's start. -/
theorem zero_start (A : Args) (h : Fin 4) (i e : Fin 128) : (k0_pay1 (F := Ideal)) (ix3 h i e) = ((T A 0 h.val i.val e.val : ℝ) : EReal) := by
  unfold k0_pay1
  pointwise
  rfl

/-- A list of stores of `dvn` pieces that covers the block leaves `mid` at every element. -/
theorem canon6 (H : Blk A b x0 x1 x2 x3 x4 x5) (s : ℕ) (hs : b + s = 60)
    (hz : ∀ (h : Fin 4) (i e : Fin 128), z (ix3 h i e) = ((T A s h.val i.val e.val : ℝ) : EReal))
    (L : List (View.Piece (Elt Ideal) S384x512 .f32))
    (hL : ∀ p ∈ L, ∃ (k : ℕ) (h : Fin 4), k ≤ 5 ∧ p = ⟨rX (jk k) h, Dv x0 x1 x2 x3 x4 x5 z k h⟩)
    (hc : ∀ y, ∃ p ∈ L, y ∈ p.1.set) (r : Fin 384) (e : Fin 512) :
    View.canon L (ix2 r e) = ((mid A (T A (65 - (b + r.val / 64)) (e.val / 128)) (b + r.val / 64) (e.val / 128) (r.val % 64) (e.val % 128) : ℝ) : EReal) := by
  refine View.canon_apply_of_pieces (fun y : S384x512.Idx => ((mid A (T A (65 - (b + (y 0).val / 64)) ((y 1).val / 128)) (b + (y 0).val / 64)
    ((y 1).val / 128) ((y 0).val % 64) ((y 1).val % 128) : ℝ) : EReal)) L ?_ (ix2 r e) (hc _)
  intro p hp x
  obtain ⟨k, h, hk, rfl⟩ := hL p hp
  have hx0 : (x 0).val < 64 := (x 0).isLt
  have hx1 : (x 1).val < 128 := (x 1).isLt
  have e0 : (((rX (jk k) h).emb x 0 : Fin _) : ℕ) = 64 * (5 - k) + (x 0).val := ValueKit.rect_emb_unit_val _ _ _ x 0
  have e1 : (((rX (jk k) h).emb x 1 : Fin _) : ℕ) = 128 * h.val + (x 1).val := ValueKit.rect_emb_unit_val _ _ _ x 1
  have e := Dv_real H s hs z hz k hk h (x 0) (x 1)
  have ex : x = ix2 (x 0) (x 1) := eq_ix2 x
  dsimp only
  rw [e0, e1, show (64 * (5 - k) + (x 0).val) / 64 = 5 - k by omega, show (128 * h.val + (x 1).val) / 128 = h.val by omega,
    show (64 * (5 - k) + (x 0).val) % 64 = (x 0).val by omega, show (128 * h.val + (x 1).val) % 128 = (x 1).val by omega,
    show 65 - (b + (5 - k)) = s + k by omega]
  rw [← e]
  exact congrArg _ ex

/-- The same for the saved states. -/
theorem canon7 (H : Blk A b x0 x1 x2 x3 x4 x5) (s : ℕ) (hs : b + s = 60)
    (hz : ∀ (h : Fin 4) (i e : Fin 128), z (ix3 h i e) = ((T A s h.val i.val e.val : ℝ) : EReal))
    (L : List (View.Piece (Elt Ideal) S6x4x128x128 .f32))
    (hL : ∀ p ∈ L, ∃ (k : ℕ) (h : Fin 4), k ≤ 5 ∧ p = ⟨rD (jk k) h, Pv x0 x1 x2 x3 x4 x5 z k h⟩)
    (hc : ∀ y, ∃ p ∈ L, y ∈ p.1.set) (j : Fin 6) (h : Fin 4) (i e : Fin 128) :
    View.canon L (ix4 j h i e) = ((T A (65 - (b + j.val)) h.val i.val e.val : ℝ) : EReal) := by
  refine View.canon_apply_of_pieces (fun y : S6x4x128x128.Idx => ((T A (65 - (b + (y 0).val)) (y 1).val (y 2).val (y 3).val : ℝ) : EReal)) L ?_ (ix4 j h i e) (hc _)
  intro p hp x
  obtain ⟨k, h, hk, rfl⟩ := hL p hp
  have hx0 : (x 0).val < 1 := (x 0).isLt
  have hx1 : (x 1).val < 1 := (x 1).isLt
  have e0 : (((rD (jk k) h).emb x 0 : Fin _) : ℕ) = 5 - k + (x 0).val := ValueKit.rect_emb_unit_val _ _ _ x 0
  have e1 : (((rD (jk k) h).emb x 1 : Fin _) : ℕ) = h.val + (x 1).val := ValueKit.rect_emb_unit_val _ _ _ x 1
  have e2 : (((rD (jk k) h).emb x 2 : Fin _) : ℕ) = 0 + (x 2).val := ValueKit.rect_emb_unit_val _ _ _ x 2
  have e3 : (((rD (jk k) h).emb x 3 : Fin _) : ℕ) = 0 + (x 3).val := ValueKit.rect_emb_unit_val _ _ _ x 3
  have e := Pv_real H s hs z hz k hk h (x 2) (x 3)
  have ex : x = ix4 0 0 (x 2) (x 3) := by
    have := eq_ix4 x
    rwa [show x 0 = (0 : Fin 1) from Fin.ext (show (x 0).val = 0 by omega), show x 1 = (0 : Fin 1) from Fin.ext (show (x 1).val = 0 by omega)] at this
  dsimp only
  rw [e0, e1, e2, e3, show 5 - k + (x 0).val = 5 - k by omega, show h.val + (x 1).val = h.val by omega, Nat.zero_add, Nat.zero_add,
    show 65 - (b + (5 - k)) = s + k by omega]
  rw [← e]
  exact congrArg _ ex

theorem canon_hit (h : Fin 4) (w : Vec Ideal S1x128x128 .f32) (L : List (View.Piece (Elt Ideal) S4x128x128 .f32)) (i e : Fin 128) :
    View.canon ((⟨rS h, w⟩ : View.Piece (Elt Ideal) S4x128x128 .f32) :: L) (ix3 h i e) = w (ix3 0 i e) := by
  have key : ix3 h i e = (rS h).emb (ix3 0 i e) := by
    funext a
    apply Fin.ext
    rw [ValueKit.rect_emb_unit_val]
    match a with
    | ⟨0, _⟩ => rfl
    | ⟨1, _⟩ => exact (Nat.zero_add _).symm
    | ⟨2, _⟩ => exact (Nat.zero_add _).symm
  rw [key]
  exact View.canon_cons_emb _ _ _ _

theorem canon_skip (h h' : Fin 4) (hne : h' ≠ h) (w : Vec Ideal S1x128x128 .f32) (L : List (View.Piece (Elt Ideal) S4x128x128 .f32)) (i e : Fin 128) :
    View.canon ((⟨rS h', w⟩ : View.Piece (Elt Ideal) S4x128x128 .f32) :: L) (ix3 h i e) = View.canon L (ix3 h i e) :=
  View.canon_cons_of_not_mem _ _ (fun hm => by
    rw [Rect.mem_set_unit] at hm
    have e1 : h'.val ≤ h.val ∧ h.val < h'.val + 1 := hm 0
    exact hne (Fin.ext (by omega)))

/-- Four last stores, one per head, over anything: each head reads its own. -/
theorem canonS (w : Fin 4 → Vec Ideal S1x128x128 .f32) (L : List (View.Piece (Elt Ideal) S4x128x128 .f32)) (i e : Fin 128) : ∀ h : Fin 4,
    View.canon ((⟨rS 3, w 3⟩ : View.Piece (Elt Ideal) S4x128x128 .f32) :: ⟨rS 2, w 2⟩ :: ⟨rS 1, w 1⟩ :: ⟨rS 0, w 0⟩ :: L) (ix3 h i e) = w h (ix3 0 i e)
  | 0 => ((canon_skip 0 3 (by decide) _ _ i e).trans (canon_skip 0 2 (by decide) _ _ i e)).trans
      ((canon_skip 0 1 (by decide) _ _ i e).trans (canon_hit 0 _ _ i e))
  | 1 => ((canon_skip 1 3 (by decide) _ _ i e).trans (canon_skip 1 2 (by decide) _ _ i e)).trans (canon_hit 1 _ _ i e)
  | 2 => (canon_skip 2 3 (by decide) _ _ i e).trans (canon_hit 2 _ _ i e)
  | 3 => canon_hit 3 _ _ i e

variable (c : Dev nD) (i : grid0.Coords) (arg1 : Memref sig .tc .vmem S384x512 .f32) (harg1 : arg1.IsWhole) (arg2 : Memref sig .tc .vmem S384x512 .bf16) (harg2 : arg2.IsWhole) (arg3 : Memref sig .tc .vmem S384x512 .bf16) (harg3 : arg3.IsWhole) (arg4 : Memref sig .tc .vmem S384x512 .bf16) (harg4 : arg4.IsWhole) (arg5 : Memref sig .tc .vmem S384x256 .bf16) (harg5 : arg5.IsWhole) (arg6 : Memref sig .tc .vmem S6x1x128 .f32) (harg6 : arg6.IsWhole) (arg7 : Memref sig .tc .vmem S384x512 .f32) (harg7 : arg7.IsWhole) (arg8 : Memref sig .tc .vmem S6x4x128x128 .f32) (harg8 : arg8.IsWhole) (arg9 : Memref sig .tc .vmem S4x128x128 .f32) (harg9 : arg9.IsWhole)

theorem out6_a (H : Blk A b x0 x1 x2 x3 x4 x5) (hs : b = 60) (hc0 : cond0_0 i) (r : Fin 384) (e : Fin 512) :
    out0_A_6 c i arg1 harg1 arg2 harg2 arg3 harg3 arg4 harg4 arg5 harg5 arg6 harg6 arg7 harg7 arg8 harg8 arg9 harg9 hc0 x0 x1 x2 x3 x4 x5 (ix2 r e) = ((mid A (T A (65 - (b + r.val / 64)) (e.val / 128)) (b + r.val / 64) (e.val / 128) (r.val % 64) (e.val % 128) : ℝ) : EReal) := by
  unfold out0_A_6
  rw [View.read_writes_junk_eq_canon]
  refine canon6 H 0 (by omega) (zero_start A) _ ?_ (cover0_A_6 c i arg1 harg1 arg2 harg2 arg3 harg3 arg4 harg4 arg5 harg5 arg6 harg6 arg7 harg7 arg8 harg8 arg9 harg9 hc0 x0 x1 x2 x3 x4 x5) r e
  rw [a_pieces6]
  intro p hp
  simp only [List.mem_cons, List.not_mem_nil, or_false] at hp
  rcases hp with hp | hp | hp | hp | hp | hp | hp | hp | hp | hp | hp | hp | hp | hp | hp | hp | hp | hp | hp | hp | hp | hp | hp | hp <;> exact ⟨_, _, by decide, hp⟩

theorem out7_a (H : Blk A b x0 x1 x2 x3 x4 x5) (hs : b = 60) (hc0 : cond0_0 i) (j : Fin 6) (h : Fin 4) (i' e : Fin 128) :
    out0_A_7 c i arg1 harg1 arg2 harg2 arg3 harg3 arg4 harg4 arg5 harg5 arg6 harg6 arg7 harg7 arg8 harg8 arg9 harg9 hc0 x0 x1 x2 x3 x4 x5 (ix4 j h i' e) = ((T A (65 - (b + j.val)) h.val i'.val e.val : ℝ) : EReal) := by
  unfold out0_A_7
  rw [View.read_writes_junk_eq_canon]
  refine canon7 H 0 (by omega) (zero_start A) _ ?_ (cover0_A_7 c i arg1 harg1 arg2 harg2 arg3 harg3 arg4 harg4 arg5 harg5 arg6 harg6 arg7 harg7 arg8 harg8 arg9 harg9 hc0 x0 x1 x2 x3 x4 x5) j h i' e
  rw [a_pieces7]
  intro p hp
  simp only [List.mem_cons, List.not_mem_nil, or_false] at hp
  rcases hp with hp | hp | hp | hp | hp | hp | hp | hp | hp | hp | hp | hp | hp | hp | hp | hp | hp | hp | hp | hp | hp | hp | hp | hp <;> exact ⟨_, _, by decide, hp⟩

theorem outS_a (H : Blk A b x0 x1 x2 x3 x4 x5) (hs : b = 60) (hc0 : cond0_0 i) (h : Fin 4) (i' e : Fin 128) :
    sout0_A_0 c i arg1 harg1 arg2 harg2 arg3 harg3 arg4 harg4 arg5 harg5 arg6 harg6 arg7 harg7 arg8 harg8 arg9 harg9 hc0 x0 x1 x2 x3 x4 x5 (ix3 h i' e) = ((T A (6) h.val i'.val e.val : ℝ) : EReal) := by
  unfold sout0_A_0
  rw [View.read_writes_junk_eq_canon]
  obtain ⟨L, hL⟩ := a_piecesS c arg1 harg1 arg2 harg2 arg3 harg3 arg4 harg4 arg5 harg5 arg6 harg6 arg7 harg7 arg8 harg8 arg9 harg9 x0 x1 x2 x3 x4 x5 i hc0
  rw [hL]
  refine (canonS (fun h => Sv x0 x1 x2 x3 x4 x5 (k0_pay1 (F := Ideal)) 6 h) L i' e h).trans ?_
  rw [Sv_real H 0 (by omega) _ (zero_start A) 6 (by omega) h i' e]

theorem out6_b (H : Blk A b x0 x1 x2 x3 x4 x5) (s : ℕ) (hs : b + s = 60)
    (hz : ∀ (h : Fin 4) (i e : Fin 128), z (ix3 h i e) = ((T A s h.val i.val e.val : ℝ) : EReal)) (hc0 : ¬cond0_0 i) (r : Fin 384) (e : Fin 512) :
    out0_B_6 c i arg1 harg1 arg2 harg2 arg3 harg3 arg4 harg4 arg5 harg5 arg6 harg6 arg7 harg7 arg8 harg8 arg9 harg9 hc0 x0 x1 x2 x3 x4 x5 z (ix2 r e) = ((mid A (T A (65 - (b + r.val / 64)) (e.val / 128)) (b + r.val / 64) (e.val / 128) (r.val % 64) (e.val % 128) : ℝ) : EReal) := by
  unfold out0_B_6
  rw [View.read_writes_junk_eq_canon]
  refine canon6 H s hs hz _ ?_ (cover0_B_6 c i arg1 harg1 arg2 harg2 arg3 harg3 arg4 harg4 arg5 harg5 arg6 harg6 arg7 harg7 arg8 harg8 arg9 harg9 hc0 x0 x1 x2 x3 x4 x5 z) r e
  rw [b_pieces6]
  intro p hp
  simp only [List.mem_cons, List.not_mem_nil, or_false] at hp
  rcases hp with hp | hp | hp | hp | hp | hp | hp | hp | hp | hp | hp | hp | hp | hp | hp | hp | hp | hp | hp | hp | hp | hp | hp | hp <;> exact ⟨_, _, by decide, hp⟩

theorem out7_b (H : Blk A b x0 x1 x2 x3 x4 x5) (s : ℕ) (hs : b + s = 60)
    (hz : ∀ (h : Fin 4) (i e : Fin 128), z (ix3 h i e) = ((T A s h.val i.val e.val : ℝ) : EReal)) (hc0 : ¬cond0_0 i) (j : Fin 6) (h : Fin 4) (i' e : Fin 128) :
    out0_B_7 c i arg1 harg1 arg2 harg2 arg3 harg3 arg4 harg4 arg5 harg5 arg6 harg6 arg7 harg7 arg8 harg8 arg9 harg9 hc0 x0 x1 x2 x3 x4 x5 z (ix4 j h i' e) = ((T A (65 - (b + j.val)) h.val i'.val e.val : ℝ) : EReal) := by
  unfold out0_B_7
  rw [View.read_writes_junk_eq_canon]
  refine canon7 H s hs hz _ ?_ (cover0_B_7 c i arg1 harg1 arg2 harg2 arg3 harg3 arg4 harg4 arg5 harg5 arg6 harg6 arg7 harg7 arg8 harg8 arg9 harg9 hc0 x0 x1 x2 x3 x4 x5 z) j h i' e
  rw [b_pieces7]
  intro p hp
  simp only [List.mem_cons, List.not_mem_nil, or_false] at hp
  rcases hp with hp | hp | hp | hp | hp | hp | hp | hp | hp | hp | hp | hp | hp | hp | hp | hp | hp | hp | hp | hp | hp | hp | hp | hp <;> exact ⟨_, _, by decide, hp⟩

theorem outS_b (H : Blk A b x0 x1 x2 x3 x4 x5) (s : ℕ) (hs : b + s = 60)
    (hz : ∀ (h : Fin 4) (i e : Fin 128), z (ix3 h i e) = ((T A s h.val i.val e.val : ℝ) : EReal)) (hc0 : ¬cond0_0 i) (h : Fin 4) (i' e : Fin 128) :
    sout0_B_0 c i arg1 harg1 arg2 harg2 arg3 harg3 arg4 harg4 arg5 harg5 arg6 harg6 arg7 harg7 arg8 harg8 arg9 harg9 hc0 x0 x1 x2 x3 x4 x5 z (ix3 h i' e) = ((T A (s + 6) h.val i'.val e.val : ℝ) : EReal) := by
  unfold sout0_B_0
  rw [View.read_writes_junk_eq_canon]
  obtain ⟨L, hL⟩ := b_piecesS c arg1 harg1 arg2 harg2 arg3 harg3 arg4 harg4 arg5 harg5 arg6 harg6 arg7 harg7 arg8 harg8 arg9 harg9 x0 x1 x2 x3 x4 x5 z i hc0
  rw [hL]
  refine (canonS (fun h => Sv x0 x1 x2 x3 x4 x5 z 6 h) L i' e h).trans ?_
  rw [Sv_real H s hs _ hz 6 (by omega) h i' e]

end Cert.ScanBwd

end
-- ==== Proof.Sweep.lean ====
/- The eleven grid points in order: the carried state, and the two result arrays as functions of real arguments. -/
module

public import proofs.«01_k».proof.Proof.Block

@[expose] public section

set_option maxRecDepth 16384

noncomputable section

namespace Cert.ScanBwd

open Idealize.ShloMosaic Idealize.ShloMosaic.TcCoe Idealize.ShloMosaic.ValueKit
open Cert.KernelIdeal Cert.KernelIdeal.Gen

variable (m : (ℓ : Loc nD τ sig) → Buf (Elt Ideal) ℓ) (c : Dev nD) {A : Args}

/-- The six argument arrays have real entries, those of `A`. -/
structure ArgsReal (A : Args) : Prop where
  h0 : ∀ (r : Fin 4224) (e : Fin 512), (m ((c : Thread nD τ).loc main_arg0) : Vec Ideal S4224x512 .f32) (ix2 r e) = ((A.d r.val e.val : ℝ) : EReal)
  h1 : ∀ (r : Fin 4224) (e : Fin 512), (m ((c : Thread nD τ).loc main_arg1) : Vec Ideal S4224x512 .bf16) (ix2 r e) = ((A.w r.val e.val : ℝ) : EReal)
  h2 : ∀ (r : Fin 4224) (e : Fin 512), (m ((c : Thread nD τ).loc main_arg2) : Vec Ideal S4224x512 .bf16) (ix2 r e) = ((A.q r.val e.val : ℝ) : EReal)
  h3 : ∀ (r : Fin 4224) (e : Fin 512), (m ((c : Thread nD τ).loc main_arg3) : Vec Ideal S4224x512 .bf16) (ix2 r e) = ((A.k r.val e.val : ℝ) : EReal)
  h4 : ∀ (r : Fin 4224) (e : Fin 256), (m ((c : Thread nD τ).loc main_arg4) : Vec Ideal S4224x256 .bf16) (ix2 r e) = ((A.a r.val e.val : ℝ) : EReal)
  h5 : ∀ (r : Fin 66) (e : Fin 128), (m ((c : Thread nD τ).loc main_arg5) : Vec Ideal S66x1x128 .f32) (ix3 r 0 e) = ((A.g r.val e.val : ℝ) : EReal)

theorem idx0 : ∀ t : Fin cfg0.N, win0_0.index t = ![10 - t.val, 0] := (by decide +kernel : ∀ t : Fin grid0.N, win0_0.index t = ![10 - t.val, 0])
theorem idx1 : ∀ t : Fin cfg0.N, win0_1.index t = ![10 - t.val, 0] := (by decide +kernel : ∀ t : Fin grid0.N, win0_1.index t = ![10 - t.val, 0])
theorem idx2 : ∀ t : Fin cfg0.N, win0_2.index t = ![10 - t.val, 0] := (by decide +kernel : ∀ t : Fin grid0.N, win0_2.index t = ![10 - t.val, 0])
theorem idx3 : ∀ t : Fin cfg0.N, win0_3.index t = ![10 - t.val, 0] := (by decide +kernel : ∀ t : Fin grid0.N, win0_3.index t = ![10 - t.val, 0])
theorem idx4 : ∀ t : Fin cfg0.N, win0_4.index t = ![10 - t.val, 0] := (by decide +kernel : ∀ t : Fin grid0.N, win0_4.index t = ![10 - t.val, 0])
theorem idx5 : ∀ t : Fin cfg0.N, win0_5.index t = ![10 - t.val, 0, 0] := (by decide +kernel : ∀ t : Fin grid0.N, win0_5.index t = ![10 - t.val, 0, 0])
theorem idx6 : ∀ t : Fin cfg0.N, win0_6.index t = ![10 - t.val, 0] := (by decide +kernel : ∀ t : Fin grid0.N, win0_6.index t = ![10 - t.val, 0])
theorem idx7 : ∀ t : Fin cfg0.N, win0_7.index t = ![10 - t.val, 0, 0, 0] := (by decide +kernel : ∀ t : Fin grid0.N, win0_7.index t = ![10 - t.val, 0, 0, 0])

theorem fst_of {α β γ : Type} {p : α × β × γ} {x : α} {y : β} {z : γ} (h : p = (x, y, z)) : p.1 = x := by rw [h]

theorem mid_of {α β γ : Type} {p : α × β × γ} {x : α} {y : β} {z : γ} (h : p = (x, y, z)) : p.2.1 = y := by rw [h]

/-- Point `t`'s input blocks are the six chunks from `6·(10 − t)`. -/
theorem blk_real (H : ArgsReal m c A) (t : Fin cfg0.N) :
    Blk A (6 * (10 - t.val)) (iblk m c 0 t) (iblk m c 1 t) (iblk m c 2 t) (iblk m c 3 t) (iblk m c 4 t) (iblk m c 5 t) where
  h0 r e := by
    have ht : t.val < 11 := lt_of_lt_of_eq t.isLt N_0
    refine Eq.trans ?_ (H.h0 ⟨64 * (6 * (10 - t.val)) + r.val, by omega⟩ e)
    blk_ext! [iblk, V, idx0 t]
  h1 r e := by
    have ht : t.val < 11 := lt_of_lt_of_eq t.isLt N_0
    refine Eq.trans ?_ (H.h1 ⟨64 * (6 * (10 - t.val)) + r.val, by omega⟩ e)
    blk_ext! [iblk, V, idx1 t]
  h2 r e := by
    have ht : t.val < 11 := lt_of_lt_of_eq t.isLt N_0
    refine Eq.trans ?_ (H.h2 ⟨64 * (6 * (10 - t.val)) + r.val, by omega⟩ e)
    blk_ext! [iblk, V, idx2 t]
  h3 r e := by
    have ht : t.val < 11 := lt_of_lt_of_eq t.isLt N_0
    refine Eq.trans ?_ (H.h3 ⟨64 * (6 * (10 - t.val)) + r.val, by omega⟩ e)
    blk_ext! [iblk, V, idx3 t]
  h4 r e := by
    have ht : t.val < 11 := lt_of_lt_of_eq t.isLt N_0
    refine Eq.trans ?_ (H.h4 ⟨64 * (6 * (10 - t.val)) + r.val, by omega⟩ e)
    blk_ext! [iblk, V, idx4 t]
  h5 r e := by
    have ht : t.val < 11 := lt_of_lt_of_eq t.isLt N_0
    refine Eq.trans ?_ (H.h5 ⟨6 * (10 - t.val) + r.val, by omega⟩ e)
    blk_ext! [iblk, V, idx5 t]

/-- The carried state after point `t`: the cotangent `6·(t + 1)` chunks back. -/
theorem state (H : ArgsReal m c A) : ∀ (n : ℕ) (hn : n < cfg0.N) (h : Fin 4) (i e : Fin 128),
    (outsAt0 m c n hn).2.2 (ix3 h i e) = ((T A (6 * (n + 1)) h.val i.val e.val : ℝ) : EReal)
  | 0, hn, h, i, e => by
    rw [outsAt0_A m c ⟨0, hn⟩ (Nat.zero_mod _)]
    dsimp only
    exact outS_a c _ _ _ _ _ _ _ _ _ _ _ _ _ _ _ _ _ _ _ (blk_real m c H ⟨0, hn⟩) rfl _ h i e
  | n + 1, hn, h, i, e => by
    have ht : n + 1 < 11 := lt_of_lt_of_eq hn N_0
    rw [outsAt0_B m c ⟨n + 1, hn⟩ (by show ¬(n + 1) % 11 = 0; omega)]
    dsimp only
    have := outS_b c (grid0.coords (⟨n + 1, hn⟩ : Fin cfg0.N)) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _)
      (blk_real m c H ⟨n + 1, hn⟩) (6 * (n + 1)) (by show 6 * (10 - (n + 1)) + 6 * (n + 1) = 60; omega)
      (z := (outsAt0 m c n (Nat.lt_of_succ_lt hn)).2.2) (fun h i e => state H n (Nat.lt_of_succ_lt hn) h i e)
      (fun h0 => (show ¬(n + 1) % 11 = 0 by omega) ((hcond0_0 ⟨n + 1, hn⟩).mp h0)) h i e
    exact this

/-- What point `t` leaves in output 6's block. -/
theorem after6_real (H : ArgsReal m c A) (t : Fin cfg0.N) (r : Fin 384) (e : Fin 512) :
    (outsAt0 m c t.val t.isLt).1 (ix2 r e) = ((mid A (T A (65 - (6 * (10 - t.val) + r.val / 64)) (e.val / 128)) (6 * (10 - t.val) + r.val / 64) (e.val / 128) (r.val % 64) (e.val % 128) : ℝ) : EReal) := by
  have ht : t.val < 11 := lt_of_lt_of_eq t.isLt N_0
  by_cases h0 : t.val % 11 = 0
  · have := out6_a c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (blk_real m c H t) (by omega) ((hcond0_0 t).mpr h0) r e
    exact (congrFun (fst_of (outsAt0_A m c t h0)) _).trans this
  · have hp : t.val - 1 < cfg0.N := Nat.lt_of_le_of_lt (Nat.sub_le _ _) t.isLt
    have := out6_b c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (blk_real m c H t) (6 * t.val) (by omega)
      (z := (outsAt0 m c (t.val - 1) hp).2.2) (fun h i e => (state m c H (t.val - 1) hp h i e).trans (by rw [show 6 * (t.val - 1 + 1) = 6 * t.val by omega]))
      (fun h => h0 ((hcond0_0 t).mp h)) r e
    exact (congrFun (fst_of (outsAt0_B m c t h0)) _).trans this

/-- What point `t` leaves in output 7's block. -/
theorem after7_real (H : ArgsReal m c A) (t : Fin cfg0.N) (j : Fin 6) (h : Fin 4) (i e : Fin 128) :
    (outsAt0 m c t.val t.isLt).2.1 (ix4 j h i e) = ((T A (65 - (6 * (10 - t.val) + j.val)) h.val i.val e.val : ℝ) : EReal) := by
  have ht : t.val < 11 := lt_of_lt_of_eq t.isLt N_0
  by_cases h0 : t.val % 11 = 0
  · have := out7_a c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (blk_real m c H t) (by omega) ((hcond0_0 t).mpr h0) j h i e
    exact (congrFun (mid_of (outsAt0_A m c t h0)) _).trans this
  · have hp : t.val - 1 < cfg0.N := Nat.lt_of_le_of_lt (Nat.sub_le _ _) t.isLt
    have := out7_b c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (blk_real m c H t) (6 * t.val) (by omega)
      (z := (outsAt0 m c (t.val - 1) hp).2.2) (fun h i e => (state m c H (t.val - 1) hp h i e).trans (by rw [show 6 * (t.val - 1 + 1) = 6 * t.val by omega]))
      (fun h => h0 ((hcond0_0 t).mp h)) j h i e
    exact (congrFun (mid_of (outsAt0_B m c t h0)) _).trans this

/-- The cotangent of `v_new`, as an array. -/
def dvnArr (A : Args) : Vec Ideal S4224x512 .f32 := fun y =>
  ((mid A (T A (65 - (y 0).val / 64) ((y 1).val / 128)) ((y 0).val / 64) ((y 1).val / 128) ((y 0).val % 64) ((y 1).val % 128) : ℝ) : EReal)

/-- The state's cotangent after each chunk, as an array. -/
def dsArr (A : Args) : Vec Ideal S66x4x128x128 .f32 := fun y => ((T A (65 - (y 0).val) (y 1).val (y 2).val (y 3).val : ℝ) : EReal)

theorem final6 (H : ArgsReal m c A) : (dats m 0 c).arrAt 6 cfg0.N = dvnArr A := by
  refine (dats m 0 c).arrAt_eq_of_covers 6 _ (by decide +kernel) fun t hf y => ?_
  have ht : t.val < 11 := lt_of_lt_of_eq t.isLt N_0
  blk_simp
  rw [after0_6]
  refine ((congrArg _ (eq_ix2 (n0 := 384) (n1 := 512) y)).trans (after6_real m c H t (y 0) (y 1))).trans ?_
  unfold dvnArr
  blk_simp [idx6 t]
  have hy := (y 0).isLt
  rw [show (10 - t.val) * 384 + (y 0).val = 64 * (6 * (10 - t.val)) + (y 0).val by omega, Nat.mul_add_div (by norm_num), Nat.mul_add_mod]

theorem final7 (H : ArgsReal m c A) : (dats m 0 c).arrAt 7 cfg0.N = dsArr A := by
  refine (dats m 0 c).arrAt_eq_of_covers 7 _ (by decide +kernel) fun t hf y => ?_
  have ht : t.val < 11 := lt_of_lt_of_eq t.isLt N_0
  blk_simp
  rw [after0_7]
  refine ((congrArg _ (eq_ix4 y)).trans (after7_real m c H t (y 0) (y 1) (y 2) (y 3))).trans ?_
  unfold dsArr
  blk_simp [idx7 t]
  rw [Nat.mul_comm 6]

end Cert.ScanBwd

end
-- ==== Proof.Ref.lean ====
/- The reference's loop over the chunks, last to first: the contents after `k` trips as functions of real arguments. -/
module

public import proofs.«01_k».proof.Proof.Real
public import proofs.«01_k».proof.Proof.Gen.ReferenceIdeal.Run
public import Idealize.ShloMosaic.Lib.DynamicIndex
public import Idealize.ShloMosaic.Lib.Pointwise

@[expose] public section

set_option maxRecDepth 16384

noncomputable section

namespace Cert.ScanBwd

open Idealize.ShloMosaic Idealize.ShloMosaic.TcCoe
open Idealize.ShloMosaic.StableHlo
open Cert.ReferenceIdeal Cert.ReferenceIdeal.Gen Cert.ReferenceIdeal.Value

variable {A : Args} {k : ℕ} {V : Valuation τ sig (Elt Ideal)}

/-- What the loop carries after `k` trips. -/
structure Carried (A : Args) (k : ℕ) (V : Valuation τ sig (Elt Ideal)) : Prop where
  rd : ∀ (n : Fin 66) (h : Fin 4) (c : Fin 64) (e : Fin 128), (V (Proc.devRef .tc main_v24_0) : Vec Ideal S66x4x64x128 .f32) (ix4 n h c e) = ((A.d (64 * n.val + c.val) (128 * h.val + e.val) : ℝ) : EReal)
  rg : ∀ (n : Fin 66) (h : Fin 4), (V (Proc.devRef .tc main_v24_1) : Vec Ideal S66x4x1x1 .f32) (ix4 n h 0 0) = ((Real.exp (A.g n.val h.val) : ℝ) : EReal)
  rk : ∀ (n : Fin 66) (h : Fin 4) (c : Fin 64) (e : Fin 128), (V (Proc.devRef .tc main_v24_2) : Vec Ideal S66x4x64x128 .f32) (ix4 n h c e) = ((A.k (64 * n.val + c.val) (128 * h.val + e.val) : ℝ) : EReal)
  rw : ∀ (n : Fin 66) (h : Fin 4) (c : Fin 64) (e : Fin 128), (V (Proc.devRef .tc main_v24_3) : Vec Ideal S66x4x64x128 .f32) (ix4 n h c e) = ((A.w (64 * n.val + c.val) (128 * h.val + e.val) : ℝ) : EReal)
  rq : ∀ (n : Fin 66) (h : Fin 4) (c : Fin 64) (e : Fin 128), (V (Proc.devRef .tc main_v24_4) : Vec Ideal S66x4x64x128 .f32) (ix4 n h c e) = ((A.q (64 * n.val + c.val) (128 * h.val + e.val) : ℝ) : EReal)
  ra : ∀ (n : Fin 66) (h : Fin 4) (c : Fin 64) (e : Fin 64), (V (Proc.devRef .tc main_v24_5) : Vec Ideal S66x4x64x64 .f32) (ix4 n h c e) = ((A.a (64 * n.val + c.val) (64 * h.val + e.val) : ℝ) : EReal)
  ctr : (V (Proc.devRef .tc main_v24_6) : Vec Ideal S_ .i32) = fun _ => BitVec.ofNat 32 k
  st : ∀ (h : Fin 4) (i e : Fin 128), (V (Proc.devRef .tc main_v24_7) : Vec Ideal S4x128x128 .f32) (ix3 h i e) = ((T A k h.val i.val e.val : ℝ) : EReal)
  du : ∀ (n : Fin 66) (h : Fin 4) (c : Fin 64) (e : Fin 128), 66 ≤ n.val + k → (V (Proc.devRef .tc main_v24_8) : Vec Ideal S66x4x64x128 .f32) (ix4 n h c e)
    = ((mid A (T A (65 - n.val) h.val) n.val h.val c.val e.val : ℝ) : EReal)
  ds : ∀ (n : Fin 66) (h : Fin 4) (i e : Fin 128), 66 ≤ n.val + k → (V (Proc.devRef .tc main_v24_9) : Vec Ideal S66x4x128x128 .f32) (ix4 n h i e)
    = ((T A (65 - n.val) h.val i.val e.val : ℝ) : EReal)

/-- The trip's slice starts at chunk `65 − k`. -/
theorem start_eq (H : Carried A k V) (hk : k < 66) (a : Fin 4) :
    ((![res_main_while0b_v28 V, constantI S_ 32 0#32, constantI S_ 32 0#32, constantI S_ 32 0#32] : Fin 4 → (⟨S_, .i32⟩ : BufTy).Contents (Elt Ideal)) a (Shape.Idx.first h_S_)).toInt
      = (((![65 - k, 0, 0, 0] : Fin 4 → ℕ) a : ℕ) : Int) := by
  have e : res_main_while0b_v28 V = fun _ => BitVec.ofNat 32 (65 - k) := by
    unfold res_main_while0b_v28
    rw [show V (Proc.devRef .tc main_v24_6) = _ from H.ctr]
    funext j
    show (66#32 - BitVec.ofNat 32 k) - 1#32 = _
    apply BitVec.eq_of_toNat_eq
    simp only [BitVec.toNat_sub, BitVec.toNat_ofNat]
    omega
  rw [e]
  match a with
  | 0 =>
    show (BitVec.ofNat 32 (65 - k)).toInt = ((65 - k : ℕ) : Int)
    rw [BitVec.toInt_eq_toNat_cond, BitVec.toNat_ofNat]
    omega
  | 1 => rfl
  | 2 => rfl
  | 3 => rfl

/-! One chunk's rows cut out of an array by chunk and head. -/

theorem cut128 (x : Vec Ideal S66x4x64x128 .f32) (start : Fin 4 → Int) {n : ℕ} (hn : n < 66) (hs : ∀ a, start a = (((![n, 0, 0, 0] : Fin 4 → ℕ) a : ℕ) : Int)) (h : Fin 4) (c : Fin 64) (e : Fin 128) :
    shapeCast S4x64x128 (Host.dynamicSlice S1x4x64x128 x start sliceFits_S66x4x64x128_S1x4x64x128) shapeCasts_S1x4x64x128_S4x64x128 (ix3 h c e) = x (ix4 ⟨n, hn⟩ h c e) := by
  rw [Host.dynamicSlice_eq_extractStridedSlice (s := S66x4x64x128) S1x4x64x128 x start ![n, 0, 0, 0] _
    ⟨rfl, fun a => by match a with | 0 => exact hn | 1 => exact Nat.le_refl _ | 2 => exact Nat.le_refl _ | 3 => exact Nat.le_refl _⟩ hs]
  pointwise

theorem cut64 (x : Vec Ideal S66x4x64x64 .f32) (start : Fin 4 → Int) {n : ℕ} (hn : n < 66) (hs : ∀ a, start a = (((![n, 0, 0, 0] : Fin 4 → ℕ) a : ℕ) : Int)) (h : Fin 4) (c : Fin 64) (e : Fin 64) :
    shapeCast S4x64x64 (Host.dynamicSlice S1x4x64x64 x start sliceFits_S66x4x64x64_S1x4x64x64) shapeCasts_S1x4x64x64_S4x64x64 (ix3 h c e) = x (ix4 ⟨n, hn⟩ h c e) := by
  rw [Host.dynamicSlice_eq_extractStridedSlice (s := S66x4x64x64) S1x4x64x64 x start ![n, 0, 0, 0] _
    ⟨rfl, fun a => by match a with | 0 => exact hn | 1 => exact Nat.le_refl _ | 2 => exact Nat.le_refl _ | 3 => exact Nat.le_refl _⟩ hs]
  pointwise

theorem cut1 (x : Vec Ideal S66x4x1x1 .f32) (start : Fin 4 → Int) {n : ℕ} (hn : n < 66) (hs : ∀ a, start a = (((![n, 0, 0, 0] : Fin 4 → ℕ) a : ℕ) : Int)) (h : Fin 4) :
    shapeCast S4x1x1 (Host.dynamicSlice S1x4x1x1 x start sliceFits_S66x4x1x1_S1x4x1x1) shapeCasts_S1x4x1x1_S4x1x1 (ix3 h 0 0) = x (ix4 ⟨n, hn⟩ h 0 0) := by
  rw [Host.dynamicSlice_eq_extractStridedSlice (s := S66x4x1x1) S1x4x1x1 x start ![n, 0, 0, 0] _
    ⟨rfl, fun a => by match a with | 0 => exact hn | 1 => exact Nat.le_refl _ | 2 => exact Nat.le_refl _ | 3 => exact Nat.le_refl _⟩ hs]
  pointwise

/-- The trip's slice of the output's cotangent. -/
theorem v29_real (H : Carried A k V) (hk : k < 66) (h : Fin 4) (c : Fin 64) (e : Fin 128) :
    (res_main_while0b_v29 V : Vec Ideal S4x64x128 .f32) (ix3 h c e) = ((A.d (64 * (65 - k) + c.val) (128 * h.val + e.val) : ℝ) : EReal) :=
  (cut128 _ _ (by omega) (start_eq H hk) h c e).trans (H.rd _ h c e)

/-- The trip's cotangent of `v_new`. -/
theorem v41_real (H : Carried A k V) (hk : k < 66) (h : Fin 4) (c : Fin 64) (e : Fin 128) :
    (res_main_while0b_v41 V : Vec Ideal S4x64x128 .f32) (ix3 h c e) = ((mid A (T A k h.val) (65 - k) h.val c.val e.val : ℝ) : EReal) := by
  unfold res_main_while0b_v41 mid
  have h2 := cut128 (V (Proc.devRef .tc main_v24_2)) _ (by omega) (start_eq H hk)
  have h5 := cut64 (V (Proc.devRef .tc main_v24_5)) _ (by omega) (start_eq H hk)
  generalize shapeCast S4x64x128 (Host.dynamicSlice S1x4x64x128 (V (Proc.devRef .tc main_v24_2)) _ _) _ = K at h2 ⊢
  generalize shapeCast S4x64x64 (Host.dynamicSlice S1x4x64x64 (V (Proc.devRef .tc main_v24_5)) _ _) _ = Q at h5 ⊢
  have h0 := v29_real H hk
  have hs := H.st
  generalize res_main_while0b_v29 V = D at h0 ⊢
  generalize V (Proc.devRef .tc main_v24_7) = S at hs ⊢
  pointwise
  simp only [h2, h5, h0, hs, H.rk, H.ra, ← EReal.coe_mul, ← coe_sum, ← EReal.coe_add]
  rw [add_comm]
  congr 2 <;> exact Finset.sum_congr rfl fun x _ => mul_comm _ _

/-- The trip's new state cotangent. -/
theorem step_real (H : Carried A k V) (hk : k < 66) (h : Fin 4) (i e : Fin 128) :
    (step_main_v24_7 V : Vec Ideal S4x128x128 .f32) (ix3 h i e) = ((T A (k + 1) h.val i.val e.val : ℝ) : EReal) := by
  unfold step_main_v24_7
  have h1 := cut1 (V (Proc.devRef .tc main_v24_1)) _ (by omega) (start_eq H hk)
  have h3 := cut128 (V (Proc.devRef .tc main_v24_3)) _ (by omega) (start_eq H hk)
  have h4 := cut128 (V (Proc.devRef .tc main_v24_4)) _ (by omega) (start_eq H hk)
  generalize shapeCast S4x1x1 (Host.dynamicSlice S1x4x1x1 (V (Proc.devRef .tc main_v24_1)) _ _) _ = G at h1 ⊢
  generalize shapeCast S4x64x128 (Host.dynamicSlice S1x4x64x128 (V (Proc.devRef .tc main_v24_3)) _ _) _ = K at h3 ⊢
  generalize shapeCast S4x64x128 (Host.dynamicSlice S1x4x64x128 (V (Proc.devRef .tc main_v24_4)) _ _) _ = Q at h4 ⊢
  have h0 := v29_real H hk
  have hm := v41_real H hk
  have hs := H.st
  generalize res_main_while0b_v29 V = D at h0 ⊢
  generalize res_main_while0b_v41 V = M at hm ⊢
  generalize V (Proc.devRef .tc main_v24_7) = S at hs ⊢
  simp only [id_eq]
  pointwise
  simp only [h1, h3, h4, h0, hm, hs, H.rw, H.rq, H.rg, ← EReal.coe_mul, ← EReal.coe_neg, ← coe_sum, ← EReal.coe_add]
  refine congrArg _ ?_
  rw [T, sub_eq_add_neg, ← Finset.sum_neg_distrib, add_comm (T A k h.val i.val e.val * _)]
  congr 2
  · exact Finset.sum_congr rfl fun x _ => mul_comm _ _
  · funext x
    ring

theorem put64 (x : Vec Ideal S66x4x64x128 .f32) (u : Vec Ideal S1x4x64x128 .f32) (start : Fin 4 → Int) {n : ℕ} (hn : n < 66)
    (hs : ∀ a, start a = (((![n, 0, 0, 0] : Fin 4 → ℕ) a : ℕ) : Int)) (l : Fin 66) (h : Fin 4) (c : Fin 64) (e : Fin 128) :
    Host.dynamicUpdateSlice x u start updateFits_S66x4x64x128_S1x4x64x128 (ix4 l h c e) = if l.val = n then u (ix4 0 h c e) else x (ix4 l h c e) := by
  have hf : S66x4x64x128.Slices ![n, 0, 0, 0] S1x4x64x128 :=
    ⟨rfl, fun a => by match a with | 0 => exact hn | 1 => exact Nat.le_refl _ | 2 => exact Nat.le_refl _ | 3 => exact Nat.le_refl _⟩
  rw [Host.dynamicUpdateSlice_eq_updateSlice (s := S66x4x64x128) x u start _ ![n, 0, 0, 0] (fun a => by have := hf.2 a; rw [hs a]; omega) hf, updateSlice_apply]
  by_cases hl : l.val = n
  · rw [if_pos hl, dif_pos (fun a => by match a with | 0 => exact ⟨hl.ge, Nat.lt_succ_of_le hl.le⟩ | 1 => exact ⟨Nat.zero_le _, h.isLt.trans_eq (Nat.zero_add _).symm⟩ | 2 => exact ⟨Nat.zero_le _, c.isLt.trans_eq (Nat.zero_add _).symm⟩ | 3 => exact ⟨Nat.zero_le _, e.isLt.trans_eq (Nat.zero_add _).symm⟩)]
    congr 1
    refine (eq_ix4 _).trans ?_
    congr 1
    exact Fin.ext (show l.val - n = 0 by omega)
  · rw [if_neg hl, dif_neg fun hin => hl (by have := hin 0; have h1 : n ≤ l.val := this.1; have h2 : l.val < n + 1 := this.2; omega)]

theorem put128 (x : Vec Ideal S66x4x128x128 .f32) (u : Vec Ideal S1x4x128x128 .f32) (start : Fin 4 → Int) {n : ℕ} (hn : n < 66)
    (hs : ∀ a, start a = (((![n, 0, 0, 0] : Fin 4 → ℕ) a : ℕ) : Int)) (l : Fin 66) (h : Fin 4) (c : Fin 128) (e : Fin 128) :
    Host.dynamicUpdateSlice x u start updateFits_S66x4x128x128_S1x4x128x128 (ix4 l h c e) = if l.val = n then u (ix4 0 h c e) else x (ix4 l h c e) := by
  have hf : S66x4x128x128.Slices ![n, 0, 0, 0] S1x4x128x128 :=
    ⟨rfl, fun a => by match a with | 0 => exact hn | 1 => exact Nat.le_refl _ | 2 => exact Nat.le_refl _ | 3 => exact Nat.le_refl _⟩
  rw [Host.dynamicUpdateSlice_eq_updateSlice (s := S66x4x128x128) x u start _ ![n, 0, 0, 0] (fun a => by have := hf.2 a; rw [hs a]; omega) hf, updateSlice_apply]
  by_cases hl : l.val = n
  · rw [if_pos hl, dif_pos (fun a => by match a with | 0 => exact ⟨hl.ge, Nat.lt_succ_of_le hl.le⟩ | 1 => exact ⟨Nat.zero_le _, h.isLt.trans_eq (Nat.zero_add _).symm⟩ | 2 => exact ⟨Nat.zero_le _, c.isLt.trans_eq (Nat.zero_add _).symm⟩ | 3 => exact ⟨Nat.zero_le _, e.isLt.trans_eq (Nat.zero_add _).symm⟩)]
    congr 1
    refine (eq_ix4 _).trans ?_
    congr 1
    exact Fin.ext (show l.val - n = 0 by omega)
  · rw [if_neg hl, dif_neg fun hin => hl (by have := hin 0; have h1 : n ≤ l.val := this.1; have h2 : l.val < n + 1 := this.2; omega)]

/-- One trip more. -/
theorem carried_step (H : Carried A k V) (hk : k < 66) : Carried A (k + 1) (STEP V) where
  rd := by rw [STEP_main_v24_0]; exact H.rd
  rg := by rw [STEP_main_v24_1]; exact H.rg
  rk := by rw [STEP_main_v24_2]; exact H.rk
  rw := by rw [STEP_main_v24_3]; exact H.rw
  rq := by rw [STEP_main_v24_4]; exact H.rq
  ra := by rw [STEP_main_v24_5]; exact H.ra
  ctr := by
    rw [STEP_main_v24_6]
    unfold step_main_v24_6
    rw [show V (Proc.devRef .tc main_v24_6) = _ from H.ctr]
    funext j
    exact (BitVec.ofNat_add k 1).symm
  st := by rw [STEP_main_v24_7]; exact step_real H hk
  du n h c e hn := by
    rw [STEP_main_v24_8]
    unfold step_main_v24_8
    refine (put64 _ _ _ (n := 65 - k) (by omega) (start_eq H hk) n h c e).trans ?_
    have hm := v41_real H hk h c e
    generalize res_main_while0b_v41 V = M at hm ⊢
    split
    · rename_i hl
      rw [show T A (65 - n.val) = T A k by rw [show 65 - n.val = k by omega], hl, ← hm]
      pointwise
    · exact H.du n h c e (by omega)
  ds n h i e hn := by
    rw [STEP_main_v24_9]
    unfold step_main_v24_9
    refine (put128 _ _ _ (n := 65 - k) (by omega) (start_eq H hk) n h i e).trans ?_
    have hm := H.st h i e
    generalize V (Proc.devRef .tc main_v24_7) = M at hm ⊢
    split
    · rename_i hl
      rw [show T A (65 - n.val) = T A k by rw [show 65 - n.val = k by omega], ← hm]
      pointwise
    · exact H.ds n h i e (by omega)

/-- After `k` trips from an entry that carries the arguments. -/
theorem carried_iter (H : Carried A 0 V) : ∀ k, k ≤ 66 → Carried A k (STEP^[k] V)
  | 0, _ => H
  | k + 1, hk => by
    rw [Function.iterate_succ_apply']
    exact carried_step (carried_iter H k (by omega)) (by omega)

variable (m : (ℓ : Loc nD τ sig) → Buf (Elt Ideal) ℓ) (c : Dev nD)

/-- The reference's six argument arrays have real entries, those of `A`. -/
structure RefReal (A : Args) : Prop where
  h0 : ∀ (r : Fin 4224) (e : Fin 512), (m ((c.tc : Thread nD τ).loc main_arg0) : Vec Ideal S4224x512 .f32) (ix2 r e) = ((A.d r.val e.val : ℝ) : EReal)
  h1 : ∀ (r : Fin 4224) (e : Fin 512), (m ((c.tc : Thread nD τ).loc main_arg1) : Vec Ideal S4224x512 .bf16) (ix2 r e) = ((A.w r.val e.val : ℝ) : EReal)
  h2 : ∀ (r : Fin 4224) (e : Fin 512), (m ((c.tc : Thread nD τ).loc main_arg2) : Vec Ideal S4224x512 .bf16) (ix2 r e) = ((A.q r.val e.val : ℝ) : EReal)
  h3 : ∀ (r : Fin 4224) (e : Fin 512), (m ((c.tc : Thread nD τ).loc main_arg3) : Vec Ideal S4224x512 .bf16) (ix2 r e) = ((A.k r.val e.val : ℝ) : EReal)
  h4 : ∀ (r : Fin 4224) (e : Fin 256), (m ((c.tc : Thread nD τ).loc main_arg4) : Vec Ideal S4224x256 .bf16) (ix2 r e) = ((A.a r.val e.val : ℝ) : EReal)
  h5 : ∀ (r : Fin 66) (e : Fin 128), (m ((c.tc : Thread nD τ).loc main_arg5) : Vec Ideal S66x1x128 .f32) (ix3 r 0 e) = ((A.g r.val e.val : ℝ) : EReal)

set_option maxHeartbeats 2000000 in
/-- The loop's entry carries the arguments. -/
theorem carried_entry (H : RefReal m c A) : Carried A 0 (entryContents preI m c) where
  rd n h r e := by
    simp only [entryContents, afterL_cons, afterL_nil]
    after_reads_simp
    have h0 := H.h0
    change ∀ (r : Fin 4224) (e : Fin 512), (launchContents m c (Proc.devRef .tc main_arg0) : Vec Ideal S4224x512 .f32) (ix2 r e) = _ at h0
    generalize launchContents m c (Proc.devRef .tc main_arg0) = X at h0 ⊢
    change (transpose S66x4x64x128 [0, 2, 1, 3] (shapeCast S66x64x4x128 X shapeCasts_S4224x512_S66x64x4x128 : Vec Ideal S66x64x4x128 .f32) transposes_S66x64x4x128_S66x4x64x128_0_2_1_3) (ix4 n h r e) = _
    pointwise
    exact (h0 _ _).trans (by show ((A.d (n.val * 64 + r.val) (h.val * 128 + e.val) : ℝ) : EReal) = _; rw [Nat.mul_comm n.val, Nat.mul_comm h.val])
  rk n h r e := by
    simp only [entryContents, afterL_cons, afterL_nil]
    after_reads_simp
    have h3 := H.h3
    change ∀ (r : Fin 4224) (e : Fin 512), (launchContents m c (Proc.devRef .tc main_arg3) : Vec Ideal S4224x512 .bf16) (ix2 r e) = _ at h3
    generalize launchContents m c (Proc.devRef .tc main_arg3) = X at h3 ⊢
    change (transpose S66x4x64x128 [0, 2, 1, 3] (shapeCast S66x64x4x128 (extf (F := Ideal) .f32 X bitsLt_bf16_f32) shapeCasts_S4224x512_S66x64x4x128 : Vec Ideal S66x64x4x128 .f32) transposes_S66x64x4x128_S66x4x64x128_0_2_1_3) (ix4 n h r e) = _
    pointwise
    exact (h3 _ _).trans (by show ((A.k (n.val * 64 + r.val) (h.val * 128 + e.val) : ℝ) : EReal) = _; rw [Nat.mul_comm n.val, Nat.mul_comm h.val])
  rw n h r e := by
    simp only [entryContents, afterL_cons, afterL_nil]
    after_reads_simp
    have h1 := H.h1
    change ∀ (r : Fin 4224) (e : Fin 512), (launchContents m c (Proc.devRef .tc main_arg1) : Vec Ideal S4224x512 .bf16) (ix2 r e) = _ at h1
    generalize launchContents m c (Proc.devRef .tc main_arg1) = X at h1 ⊢
    change (transpose S66x4x64x128 [0, 2, 1, 3] (shapeCast S66x64x4x128 (extf (F := Ideal) .f32 X bitsLt_bf16_f32) shapeCasts_S4224x512_S66x64x4x128 : Vec Ideal S66x64x4x128 .f32) transposes_S66x64x4x128_S66x4x64x128_0_2_1_3) (ix4 n h r e) = _
    pointwise
    exact (h1 _ _).trans (by show ((A.w (n.val * 64 + r.val) (h.val * 128 + e.val) : ℝ) : EReal) = _; rw [Nat.mul_comm n.val, Nat.mul_comm h.val])
  rq n h r e := by
    simp only [entryContents, afterL_cons, afterL_nil]
    after_reads_simp
    have h2 := H.h2
    change ∀ (r : Fin 4224) (e : Fin 512), (launchContents m c (Proc.devRef .tc main_arg2) : Vec Ideal S4224x512 .bf16) (ix2 r e) = _ at h2
    generalize launchContents m c (Proc.devRef .tc main_arg2) = X at h2 ⊢
    change (transpose S66x4x64x128 [0, 2, 1, 3] (shapeCast S66x64x4x128 (extf (F := Ideal) .f32 X bitsLt_bf16_f32) shapeCasts_S4224x512_S66x64x4x128 : Vec Ideal S66x64x4x128 .f32) transposes_S66x64x4x128_S66x4x64x128_0_2_1_3) (ix4 n h r e) = _
    pointwise
    exact (h2 _ _).trans (by show ((A.q (n.val * 64 + r.val) (h.val * 128 + e.val) : ℝ) : EReal) = _; rw [Nat.mul_comm n.val, Nat.mul_comm h.val])
  ra n h r e := by
    simp only [entryContents, afterL_cons, afterL_nil]
    after_reads_simp
    have h4 := H.h4
    change ∀ (r : Fin 4224) (e : Fin 256), (launchContents m c (Proc.devRef .tc main_arg4) : Vec Ideal S4224x256 .bf16) (ix2 r e) = _ at h4
    generalize launchContents m c (Proc.devRef .tc main_arg4) = X at h4 ⊢
    change (transpose S66x4x64x64 [0, 2, 1, 3] (shapeCast S66x64x4x64 (extf (F := Ideal) .f32 X bitsLt_bf16_f32) shapeCasts_S4224x256_S66x64x4x64 : Vec Ideal S66x64x4x64 .f32) transposes_S66x64x4x64_S66x4x64x64_0_2_1_3) (ix4 n h r e) = _
    pointwise
    exact (h4 _ _).trans (by show ((A.a (n.val * 64 + r.val) (h.val * 64 + e.val) : ℝ) : EReal) = _; rw [Nat.mul_comm n.val, Nat.mul_comm h.val])
  rg n h := by
    simp only [entryContents, afterL_cons, afterL_nil]
    after_reads_simp
    have h5 := H.h5
    change ∀ (r : Fin 66) (e : Fin 128), (launchContents m c (Proc.devRef .tc main_arg5) : Vec Ideal S66x1x128 .f32) (ix3 r 0 e) = _ at h5
    generalize launchContents m c (Proc.devRef .tc main_arg5) = X at h5 ⊢
    change (broadcastInDim S66x4x1x1 ![0, 1] bcast_S66x4_S66x4x1x1_0_1 (Host.exp (F := Ideal) (φ := .f32) (shapeCast S66x4 (extractStridedSlice S66x1x4 ![0, 0, 0] X slices_S66x1x128_S66x1x4_0_0_0) shapeCasts_S66x1x4_S66x4) : Vec Ideal S66x4 .f32)) (ix4 n h 0 0) = _
    pointwise
    exact (congrArg Ideal.exp (h5 n ⟨h.val, by omega⟩)).trans rfl
  ctr := ctr_entry m c
  st h i e := by
    simp only [entryContents, afterL_cons, afterL_nil]
    after_reads_simp
    change (broadcastInDim S4x128x128 ![] bcast_S_S4x128x128 (constant (F := Ideal) S_ FTy.f32 0#32) : Vec Ideal S4x128x128 .f32) (ix3 h i e) = _
    pointwise
    exact EReal.coe_zero.symm
  du n h c e hn := absurd hn (by omega)
  ds n h i e hn := absurd hn (by omega)

end Cert.ScanBwd

end
-- ==== Proof.Finish.lean ====
/- Finite arguments as real ones, the reference's two results, and the comparison of the two programs. -/
module

public import proofs.«01_k».proof.Defs
public import proofs.«01_k».proof.Proof.Sweep
public import proofs.«01_k».proof.Proof.Ref

@[expose] public section

set_option maxRecDepth 16384

noncomputable section

namespace Cert.ScanBwd

open Idealize.ShloMosaic Idealize.ShloMosaic.TcCoe

/-- An extended real strictly between the two infinities is the real it reads as. -/
theorem coe_of_tests {x : EReal}
    (h : IntOp.andi (BitVec.ofBool (decide (x < Ideal.ofBits FTy.f32 2139095040#32))) (BitVec.ofBool (decide (Ideal.ofBits FTy.f32 4286578688#32 < x))) = 1#1) :
    x = ((x.toReal : ℝ) : EReal) := by
  have ht : Ideal.ofBits FTy.f32 2139095040#32 = (⊤ : EReal) := by simp [Ideal.ofBits, Ideal.ieee]
  have hb : Ideal.ofBits FTy.f32 4286578688#32 = (⊥ : EReal) := by simp [Ideal.ofBits, Ideal.ieee]
  rw [ht, hb] at h
  have h1 : x < ⊤ := by
    by_contra hx
    rw [decide_eq_false hx] at h
    revert h
    generalize decide (⊥ < x) = b
    cases b <;> decide
  have h2 : ⊥ < x := by
    by_contra hx
    rw [decide_eq_false hx] at h
    revert h
    generalize decide (x < ⊤) = b
    cases b <;> decide
  exact (EReal.coe_toReal h1.ne h2.ne').symm

section
variable [Cert.Pre_finite.Facts] (X0 : Vec Ideal Cert.Pre_finite.S4224x512 .f32) (X1 X2 X3 : Vec Ideal Cert.Pre_finite.S4224x512 .bf16)
  (X4 : Vec Ideal Cert.Pre_finite.S4224x256 .bf16) (X5 : Vec Ideal Cert.Pre_finite.S66x1x128 .f32)

theorem fin0 (h : (Cert.Pre_finite.fn (F := Ideal) X0 X1 X2 X3 X4 X5).1 = fun _ => 1#1) (r : Fin 4224) (e : Fin 512) :
    X0 (ix2 r e) = (((X0 (ix2 r e) : EReal).toReal : ℝ) : EReal) := by
  have h := congrFun h (ix2 r e)
  simp only [Cert.Pre_finite.fn, Cert.Pre_finite.fn_part1, Cert.Pre_finite.fn_part2] at h
  pointwise at h
  exact coe_of_tests h

theorem fin1 (h : (Cert.Pre_finite.fn (F := Ideal) X0 X1 X2 X3 X4 X5).2.1 = fun _ => 1#1) (r : Fin 4224) (e : Fin 512) :
    X1 (ix2 r e) = (((X1 (ix2 r e) : EReal).toReal : ℝ) : EReal) := by
  have h := congrFun h (ix2 r e)
  simp only [Cert.Pre_finite.fn, Cert.Pre_finite.fn_part1, Cert.Pre_finite.fn_part2] at h
  pointwise at h
  exact coe_of_tests h

theorem fin2 (h : (Cert.Pre_finite.fn (F := Ideal) X0 X1 X2 X3 X4 X5).2.2.1 = fun _ => 1#1) (r : Fin 4224) (e : Fin 512) :
    X2 (ix2 r e) = (((X2 (ix2 r e) : EReal).toReal : ℝ) : EReal) := by
  have h := congrFun h (ix2 r e)
  simp only [Cert.Pre_finite.fn, Cert.Pre_finite.fn_part1, Cert.Pre_finite.fn_part2] at h
  pointwise at h
  exact coe_of_tests h

theorem fin3 (h : (Cert.Pre_finite.fn (F := Ideal) X0 X1 X2 X3 X4 X5).2.2.2.1 = fun _ => 1#1) (r : Fin 4224) (e : Fin 512) :
    X3 (ix2 r e) = (((X3 (ix2 r e) : EReal).toReal : ℝ) : EReal) := by
  have h := congrFun h (ix2 r e)
  simp only [Cert.Pre_finite.fn, Cert.Pre_finite.fn_part1, Cert.Pre_finite.fn_part2] at h
  pointwise at h
  exact coe_of_tests h

theorem fin4 (h : (Cert.Pre_finite.fn (F := Ideal) X0 X1 X2 X3 X4 X5).2.2.2.2.1 = fun _ => 1#1) (r : Fin 4224) (e : Fin 256) :
    X4 (ix2 r e) = (((X4 (ix2 r e) : EReal).toReal : ℝ) : EReal) := by
  have h := congrFun h (ix2 r e)
  simp only [Cert.Pre_finite.fn, Cert.Pre_finite.fn_part1, Cert.Pre_finite.fn_part2] at h
  pointwise at h
  exact coe_of_tests h

theorem fin5 (h : (Cert.Pre_finite.fn (F := Ideal) X0 X1 X2 X3 X4 X5).2.2.2.2.2 = fun _ => 1#1) (r : Fin 66) (e : Fin 128) :
    X5 (ix3 r 0 e) = (((X5 (ix3 r 0 e) : EReal).toReal : ℝ) : EReal) := by
  have h := congrFun h (ix3 r 0 e)
  simp only [Cert.Pre_finite.fn, Cert.Pre_finite.fn_part1, Cert.Pre_finite.fn_part2] at h
  pointwise at h
  exact coe_of_tests h

end

/-- The real arguments of finite arrays. -/
def argsOf (X0 : Vec Ideal Cert.Pre_finite.S4224x512 .f32) (X1 X2 X3 : Vec Ideal Cert.Pre_finite.S4224x512 .bf16)
    (X4 : Vec Ideal Cert.Pre_finite.S4224x256 .bf16) (X5 : Vec Ideal Cert.Pre_finite.S66x1x128 .f32) : Args where
  d a b := if h : a < 4224 ∧ b < 512 then (X0 (ix2 ⟨a, h.1⟩ ⟨b, h.2⟩) : EReal).toReal else 0
  w a b := if h : a < 4224 ∧ b < 512 then (X1 (ix2 ⟨a, h.1⟩ ⟨b, h.2⟩) : EReal).toReal else 0
  q a b := if h : a < 4224 ∧ b < 512 then (X2 (ix2 ⟨a, h.1⟩ ⟨b, h.2⟩) : EReal).toReal else 0
  k a b := if h : a < 4224 ∧ b < 512 then (X3 (ix2 ⟨a, h.1⟩ ⟨b, h.2⟩) : EReal).toReal else 0
  a a b := if h : a < 4224 ∧ b < 256 then (X4 (ix2 ⟨a, h.1⟩ ⟨b, h.2⟩) : EReal).toReal else 0
  g a b := if h : a < 66 ∧ b < 128 then (X5 (ix3 ⟨a, h.1⟩ 0 ⟨b, h.2⟩) : EReal).toReal else 0

theorem argsOf_d (X0 : Vec Ideal Cert.Pre_finite.S4224x512 .f32) (X1 X2 X3 : Vec Ideal Cert.Pre_finite.S4224x512 .bf16)
    (X4 : Vec Ideal Cert.Pre_finite.S4224x256 .bf16) (X5 : Vec Ideal Cert.Pre_finite.S66x1x128 .f32) (r : Fin 4224) (e : Fin 512) :
    (argsOf X0 X1 X2 X3 X4 X5).d r.val e.val = (X0 (ix2 r e) : EReal).toReal := dif_pos ⟨r.isLt, e.isLt⟩

theorem argsOf_w (X0 : Vec Ideal Cert.Pre_finite.S4224x512 .f32) (X1 X2 X3 : Vec Ideal Cert.Pre_finite.S4224x512 .bf16)
    (X4 : Vec Ideal Cert.Pre_finite.S4224x256 .bf16) (X5 : Vec Ideal Cert.Pre_finite.S66x1x128 .f32) (r : Fin 4224) (e : Fin 512) :
    (argsOf X0 X1 X2 X3 X4 X5).w r.val e.val = (X1 (ix2 r e) : EReal).toReal := dif_pos ⟨r.isLt, e.isLt⟩

theorem argsOf_q (X0 : Vec Ideal Cert.Pre_finite.S4224x512 .f32) (X1 X2 X3 : Vec Ideal Cert.Pre_finite.S4224x512 .bf16)
    (X4 : Vec Ideal Cert.Pre_finite.S4224x256 .bf16) (X5 : Vec Ideal Cert.Pre_finite.S66x1x128 .f32) (r : Fin 4224) (e : Fin 512) :
    (argsOf X0 X1 X2 X3 X4 X5).q r.val e.val = (X2 (ix2 r e) : EReal).toReal := dif_pos ⟨r.isLt, e.isLt⟩

theorem argsOf_k (X0 : Vec Ideal Cert.Pre_finite.S4224x512 .f32) (X1 X2 X3 : Vec Ideal Cert.Pre_finite.S4224x512 .bf16)
    (X4 : Vec Ideal Cert.Pre_finite.S4224x256 .bf16) (X5 : Vec Ideal Cert.Pre_finite.S66x1x128 .f32) (r : Fin 4224) (e : Fin 512) :
    (argsOf X0 X1 X2 X3 X4 X5).k r.val e.val = (X3 (ix2 r e) : EReal).toReal := dif_pos ⟨r.isLt, e.isLt⟩

theorem argsOf_a (X0 : Vec Ideal Cert.Pre_finite.S4224x512 .f32) (X1 X2 X3 : Vec Ideal Cert.Pre_finite.S4224x512 .bf16)
    (X4 : Vec Ideal Cert.Pre_finite.S4224x256 .bf16) (X5 : Vec Ideal Cert.Pre_finite.S66x1x128 .f32) (r : Fin 4224) (e : Fin 256) :
    (argsOf X0 X1 X2 X3 X4 X5).a r.val e.val = (X4 (ix2 r e) : EReal).toReal := dif_pos ⟨r.isLt, e.isLt⟩

theorem argsOf_g (X0 : Vec Ideal Cert.Pre_finite.S4224x512 .f32) (X1 X2 X3 : Vec Ideal Cert.Pre_finite.S4224x512 .bf16)
    (X4 : Vec Ideal Cert.Pre_finite.S4224x256 .bf16) (X5 : Vec Ideal Cert.Pre_finite.S66x1x128 .f32) (r : Fin 66) (e : Fin 128) :
    (argsOf X0 X1 X2 X3 X4 X5).g r.val e.val = (X5 (ix3 r 0 e) : EReal).toReal := dif_pos ⟨r.isLt, e.isLt⟩

section
open Cert.ReferenceIdeal Cert.ReferenceIdeal.Gen Cert.ReferenceIdeal.Value Idealize.ShloMosaic.StableHlo

variable {A : Args} (m : (ℓ : Loc nD τ sig) → Buf (Elt Ideal) ℓ) (c : Dev nD)

theorem ref_dvn (H : RefReal m c A) : out_main_v26 (STEP^[66] (entryContents preI m c)) = dvnArr A := by
  have hd := (carried_iter (carried_entry m c H) 66 le_rfl).du
  unfold out_main_v26
  generalize (STEP^[66] (entryContents preI m c)) (Proc.devRef .tc main_v24_8) = X at hd ⊢
  change (shapeCast S4224x512 (transpose S66x64x4x128 [0, 2, 1, 3] (X : Vec Ideal S66x4x64x128 .f32) transposes_S66x4x64x128_S66x64x4x128_0_2_1_3) shapeCasts_S66x64x4x128_S4224x512 : Vec Ideal S4224x512 .f32) = _
  funext y
  obtain ⟨r, e, rfl⟩ : ∃ (r : Fin 4224) (e : Fin 512), y = ix2 r e := ⟨y 0, y 1, eq_ix2 y⟩
  pointwise
  exact hd _ _ _ _ (Nat.le_add_left _ _)

theorem ref_ds (H : RefReal m c A) : (STEP^[66] (entryContents preI m c)) (Proc.devRef .tc main_v24_9) = dsArr A := by
  have hd := (carried_iter (carried_entry m c H) 66 le_rfl).ds
  funext y
  exact (congrArg _ (eq_ix4 y)).trans (hd (y 0) (y 1) (y 2) (y 3) (by omega))
end

/-- The real arguments of the kernel's memory on core `c`. -/
abbrev argsAt (m : (ℓ : Loc Cert.KernelIdeal.nD Cert.KernelIdeal.τ Cert.KernelIdeal.sig) → Buf (Elt Ideal) ℓ) (c : Dev Cert.KernelIdeal.nD) : Args :=
  argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

theorem kernel_real [Cert.Pre_finite.Facts] (m : (ℓ : Loc Cert.KernelIdeal.nD Cert.KernelIdeal.τ Cert.KernelIdeal.sig) → Buf (Elt Ideal) ℓ) (c : Dev Cert.KernelIdeal.nD)
    (hp : Cert.Pre_KernelIdeal_finite m) : ArgsReal m c (argsAt m c) := by
  obtain ⟨p0, p1, p2, p3, p4, p5⟩ := hp c
  exact ⟨fun r e => (fin0 _ _ _ _ _ _ p0 r e).trans (congrArg _ (argsOf_d _ _ _ _ _ _ r e).symm),
    fun r e => (fin1 _ _ _ _ _ _ p1 r e).trans (congrArg _ (argsOf_w _ _ _ _ _ _ r e).symm),
    fun r e => (fin2 _ _ _ _ _ _ p2 r e).trans (congrArg _ (argsOf_q _ _ _ _ _ _ r e).symm),
    fun r e => (fin3 _ _ _ _ _ _ p3 r e).trans (congrArg _ (argsOf_k _ _ _ _ _ _ r e).symm),
    fun r e => (fin4 _ _ _ _ _ _ p4 r e).trans (congrArg _ (argsOf_a _ _ _ _ _ _ r e).symm),
    fun r e => (fin5 _ _ _ _ _ _ p5 r e).trans (congrArg _ (argsOf_g _ _ _ _ _ _ r e).symm)⟩

theorem ref_real [Cert.Pre_finite.Facts] (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (hp : Cert.Pre_KernelIdeal_finite m)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    RefReal m' c (argsAt m c) := by
  have H := kernel_real m c hp
  obtain ⟨e0, e1, e2, e3, e4, e5⟩ := hm
  exact ⟨fun r e => (congrFun e0 _).trans (H.h0 r e),
    fun r e => (congrFun e1 _).trans (H.h1 r e),
    fun r e => (congrFun e2 _).trans (H.h2 r e),
    fun r e => (congrFun e3 _).trans (H.h3 r e),
    fun r e => (congrFun e4 _).trans (H.h4 r e),
    fun r e => (congrFun e5 _).trans (H.h5 r e)⟩

end Cert.ScanBwd

end
-- ==== Proof.Ffn.lean ====
/- The vocabulary of the feed-forward network's forward and backward pass at one grid point: the chunks of 256 hidden
   columns, and what the kernel computes from a block of 384 rows and the three weight matrices. -/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Ffn

open Idealize.ShloMosaic Idealize.ShloMosaic.TcCoe
open Cert.Kernel2Ideal Cert.Kernel2Ideal.Gen

variable {F : FTy → Type} [FloatOps F]

/-- Rows `256 c …` of a weight matrix. -/
abbrev rW (c : Fin 11) : Rect S2816x1024 := Rect.unit (s := S2816x1024) ![256 * c.val, 0] ![256, 1024]
  (fun a => by
    have hc := c.isLt
    match a with
    | ⟨0, _⟩ => show 256 * c.val + 256 ≤ 2816; omega
    | ⟨1, _⟩ => show 0 + 1024 ≤ 1024; omega)

/-- Columns `256 c …` of a hidden block. -/
abbrev rT (c : Fin 11) : Rect S384x2816 := Rect.unit (s := S384x2816) ![0, 256 * c.val] ![384, 256]
  (fun a => by
    have hc := c.isLt
    match a with
    | ⟨0, _⟩ => show 0 + 384 ≤ 384; omega
    | ⟨1, _⟩ => show 256 * c.val + 256 ≤ 2816; omega)

/-- Row `r` of the block of sums. -/
abbrev rA (r : Fin 8) : Rect S8x1024 := Rect.unit (s := S8x1024) ![r.val, 0] ![1, 1024]
  (fun a => by
    have hr := r.isLt
    match a with
    | ⟨0, _⟩ => show r.val + 1 ≤ 8; omega
    | ⟨1, _⟩ => show 0 + 1024 ≤ 1024; omega)

/-- The number `k` as a chunk. -/
abbrev fk (k : ℕ) : Fin 11 := ⟨k % 11, Nat.mod_lt _ (by decide)⟩

/-- One chunk of a hidden product: the normalised rows against 256 weight rows. -/
def Gc (x0 : Vec F S384x1024 .f32) (x4 : Vec F S1x1024 .f32) (W : Vec F S2816x1024 .bf16) (c : Fin 11) : FVec F S384x256 .f32 :=
  k0_pay16 (k0_pay7 x0 x4) (View.ld W (rW c))

/-- … as it comes back from the scratch it was kept in. -/
def GLc (x0 : Vec F S384x1024 .f32) (x4 : Vec F S1x1024 .f32) (W : Vec F S2816x1024 .bf16) (c : Fin 11) : FVec F S384x256 .f32 :=
  shapeCast S384x256 (Gc x0 x4 W c) shapeCasts_S384x256_S384x256

/-- The residual rows after `k` chunks of the down projection. -/
def Hc (x0 : Vec F S384x1024 .f32) (x4 : Vec F S1x1024 .f32) (W0 W1 W2 : Vec F S2816x1024 .bf16) : ℕ → FVec F S384x1024 .f32
  | 0 => x0
  | k + 1 => k0_pay15 (Hc x0 x4 W0 W1 W2 k) (Gc x0 x4 W0 (fk k)) (Gc x0 x4 W1 (fk k)) (View.ld W2 (rW (fk k)))

/-- The normalised output rows less the target rows. -/
def odV (h2 : FVec F S384x1024 .f32) (x5 : Vec F S1x1024 .f32) (x1 x2 x3 : Vec F S128x1024 .f32) : FVec F S384x1024 .f32 :=
  subf (mulf (k0_pay6 h2) (broadcastTo S384x1024 x5 broadcasts_S1x1024_S384x1024))
    (concatenate S384x1024 0 [⟨S128x1024, x1⟩, ⟨S128x1024, x2⟩, ⟨S128x1024, x3⟩] concatenates_S128x1024_S128x1024_S128x1024_S384x1024_d0)

section
variable (x0 : Vec F S384x1024 .f32) (x1 x2 x3 : Vec F S128x1024 .f32) (x4 x5 : Vec F S1x1024 .f32) (W0 W1 W2 : Vec F S2816x1024 .bf16) (w : BitVec 32)

/-- The cotangent of the residual rows. -/
def D2v : FVec F S384x1024 .f32 :=
  k0_pay85 (Hc x0 x4 W0 W1 W2 11) x5 (k0_pay4 (Hc x0 x4 W0 W1 W2 11)) (k0_pay5 (Hc x0 x4 W0 W1 W2 11))
    (odV (Hc x0 x4 W0 W1 W2 11) x5 x1 x2 x3) (k0_pay79 w) k0_pay80

/-- … rounded. -/
def D2b : FVec F S384x1024 .bf16 := truncf .bf16 (D2v x0 x1 x2 x3 x4 x5 W0 W1 W2 w) bitsLt_bf16_f32

/-- One chunk of the activation's cotangent. -/
def DAc (c : Fin 11) : FVec F S384x256 .f32 := k0_pay94 (D2b x0 x1 x2 x3 x4 x5 W0 W1 W2 w) (View.ld W2 (rW c))

/-- One chunk of the gate's cotangent. -/
def DGc (c : Fin 11) : FVec F S384x256 .bf16 :=
  k0_pay91 (GLc x0 x4 W0 c) (logistic (GLc x0 x4 W0 c)) (mulf (DAc x0 x1 x2 x3 x4 x5 W0 W1 W2 w c) (GLc x0 x4 W1 c))

/-- One chunk of the other factor's cotangent. -/
def DUc (c : Fin 11) : FVec F S384x256 .bf16 :=
  k0_pay92 (DAc x0 x1 x2 x3 x4 x5 W0 W1 W2 w c) (GLc x0 x4 W0 c) (logistic (GLc x0 x4 W0 c))

/-- One chunk's part of the cotangent of the normalised rows. -/
def dxS (c : Fin 11) : FVec F S384x1024 .f32 :=
  k0_pay93 (DAc x0 x1 x2 x3 x4 x5 W0 W1 W2 w c) (GLc x0 x4 W0 c) (logistic (GLc x0 x4 W0 c))
    (mulf (DAc x0 x1 x2 x3 x4 x5 W0 W1 W2 w c) (GLc x0 x4 W1 c)) (View.ld W0 (rW c)) (View.ld W1 (rW c))

/-- The cotangent of the normalised rows after `k + 1` chunks. -/
def Pc : ℕ → FVec F S384x1024 .f32
  | 0 => dxS x0 x1 x2 x3 x4 x5 W0 W1 W2 w (fk 0)
  | k + 1 => addf (Pc k) (dxS x0 x1 x2 x3 x4 x5 W0 W1 W2 w (fk (k + 1)))

end

/-- `1 + g (1 − σ(g))`. -/
def gp (g : FVec F S384x256 .f32) : FVec F S384x256 .f32 := k0_pay137 g

/-- The cotangent of the input rows, from the residual's cotangent and the normalised rows'. -/
def backV (x0 : Vec F S384x1024 .f32) (x4 : Vec F S1x1024 .f32) (rs q : FVec F S384x1 .f32) (dh2 d : FVec F S384x1024 .f32) : FVec F S384x1024 .f32 :=
  addf dh2 (addf (addf (mulf (mulf d (broadcastTo S384x1024 x4 broadcasts_S1x1024_S384x1024)) (broadcastTo S384x1024 rs broadcasts_S384x1_S384x1024))
      (mulf x0 (broadcastTo S384x1024 (shapeCast S384x1 (multiReduction .add [1] S384 (divf (mulf (shapeCast S384x1 (multiReduction .add [1] S384
        (mulf x0 (mulf d (broadcastTo S384x1024 x4 broadcasts_S1x1024_S384x1024))) 0x00000000#32 reduces_S384x1024_S384 (.inl rfl) rfl) shapeCasts_S384_S384x1) q)
        (broadcast S384x1 (Scalar.ofBits .f32 0x44800000#32))) 0x00000000#32 reduces_S384x1_S384 (.inl rfl) rfl) shapeCasts_S384_S384x1) broadcasts_S384x1_S384x1024)))
    (mulf (broadcastTo S384x1024 (shapeCast S384x1 (multiReduction .add [1] S384 (divf (mulf (shapeCast S384x1 (multiReduction .add [1] S384
        (mulf x0 (mulf d (broadcastTo S384x1024 x4 broadcasts_S1x1024_S384x1024))) 0x00000000#32 reduces_S384x1024_S384 (.inl rfl) rfl) shapeCasts_S384_S384x1) q)
        (broadcast S384x1 (Scalar.ofBits .f32 0x44800000#32))) 0x00000000#32 reduces_S384x1_S384 (.inl rfl) rfl) shapeCasts_S384_S384x1) broadcasts_S384x1_S384x1024) x0))

/-- A row of sums with this point's sum over its rows added. -/
def rowV (n d : FVec F S384x1024 .f32) (a : Vec F S1x1024 .f32) : FVec F S1x1024 .f32 :=
  addf (shapeCast S1x1024 a shapeCasts_S1x1024_S1x1024)
    (shapeCast S1x1024 (multiReduction .add [0] S1024 (mulf n d) 0x00000000#32 reduces_S384x1024_S1024 (.inl rfl) rfl) shapeCasts_S1024_S1x1024)

/-- Eleven stores, one for each chunk of columns. -/
def tiles {e : EltTy} (f : Fin 11 → S384x256.Idx → Elt F e) : List (View.Piece (Elt F) S384x2816 e) :=
  [⟨rT (fk 10), f (fk 10)⟩, ⟨rT (fk 9), f (fk 9)⟩, ⟨rT (fk 8), f (fk 8)⟩, ⟨rT (fk 7), f (fk 7)⟩, ⟨rT (fk 6), f (fk 6)⟩, ⟨rT (fk 5), f (fk 5)⟩,
    ⟨rT (fk 4), f (fk 4)⟩, ⟨rT (fk 3), f (fk 3)⟩, ⟨rT (fk 2), f (fk 2)⟩, ⟨rT (fk 1), f (fk 1)⟩, ⟨rT (fk 0), f (fk 0)⟩]

theorem rT_disjoint (c c' : Fin 11) (hne : c' ≠ c) : Disjoint (rT c').set (rT c).set := by
  rw [Finset.disjoint_left]
  intro i h1 h2
  rw [Rect.mem_set_unit] at h1 h2
  have a1 := h1 1; have a2 := h2 1
  have e1 : 256 * c'.val ≤ (i 1).val ∧ (i 1).val < 256 * c'.val + 256 := a1
  have e2 : 256 * c.val ≤ (i 1).val ∧ (i 1).val < 256 * c.val + 256 := a2
  exact hne (Fin.ext (by omega))

theorem rA_disjoint (c c' : Fin 8) (hne : c' ≠ c) : Disjoint (rA c').set (rA c).set := by
  rw [Finset.disjoint_left]
  intro i h1 h2
  rw [Rect.mem_set_unit] at h1 h2
  have a1 := h1 0; have a2 := h2 0
  have e1 : c'.val ≤ (i 0).val ∧ (i 0).val < c'.val + 1 := a1
  have e2 : c.val ≤ (i 0).val ∧ (i 0).val < c.val + 1 := a2
  exact hne (Fin.ext (by omega))

section
variable {sp : Space} {e : EltTy}

theorem rd_skip (v : View sig .tc sp S384x2816 e) (c c' : Fin 11) (hne : c' ≠ c) (w : S384x256.Idx → Elt F e) (L : List (View.Piece (Elt F) S384x2816 e)) :
    v.readCov ((⟨rT c', w⟩ : View.Piece (Elt F) S384x2816 e) :: L) (rT c).toLoadRect = v.readCov L (rT c).toLoadRect :=
  View.readCov_cons_of_disjoint v _ L _ (by
    have := rT_disjoint c c' hne
    exact this)

theorem rd_hit (v : View sig .tc sp S384x2816 e) (c : Fin 11) (w : S384x256.Idx → Elt F e) (L : List (View.Piece (Elt F) S384x2816 e)) :
    v.readCov ((⟨rT c, w⟩ : View.Piece (Elt F) S384x2816 e) :: L) (rT c).toLoadRect = w :=
  View.readCov_cons_toLoadRect v (rT c) w L

theorem rd_step (v : View sig .tc sp S384x2816 e) (c c' : Fin 11) (f : Fin 11 → S384x256.Idx → Elt F e) (L : List (View.Piece (Elt F) S384x2816 e))
    (h : c' ≠ c → v.readCov L (rT c).toLoadRect = f c) :
    v.readCov ((⟨rT c', f c'⟩ : View.Piece (Elt F) S384x2816 e) :: L) (rT c).toLoadRect = f c := by
  by_cases hc : c' = c
  · subst hc; exact rd_hit v c' (f c') L
  · exact (rd_skip v c c' hc (f c') L).trans (h hc)

/-- A load of one chunk reads that chunk's store. -/
theorem rd_tiles (v : View sig .tc sp S384x2816 e) (f : Fin 11 → S384x256.Idx → Elt F e) (c : Fin 11) :
    v.readCov (tiles f) (rT c).toLoadRect = f c := by
  unfold tiles
  refine rd_step v c _ f _ fun h10 => ?_
  refine rd_step v c _ f _ fun h9 => ?_
  refine rd_step v c _ f _ fun h8 => ?_
  refine rd_step v c _ f _ fun h7 => ?_
  refine rd_step v c _ f _ fun h6 => ?_
  refine rd_step v c _ f _ fun h5 => ?_
  refine rd_step v c _ f _ fun h4 => ?_
  refine rd_step v c _ f _ fun h3 => ?_
  refine rd_step v c _ f _ fun h2 => ?_
  refine rd_step v c _ f _ fun h1 => ?_
  refine rd_step v c _ f _ fun h0 => ?_
  exfalso
  have e : ∀ k : ℕ, k < 11 → fk k ≠ c → k ≠ c.val := fun k hk hne he => hne (Fin.ext (by show k % 11 = c.val; omega))
  have := e 10 (by decide) h10; have := e 9 (by decide) h9; have := e 8 (by decide) h8; have := e 7 (by decide) h7
  have := e 6 (by decide) h6; have := e 5 (by decide) h5; have := e 4 (by decide) h4; have := e 3 (by decide) h3
  have := e 2 (by decide) h2; have := e 1 (by decide) h1; have := e 0 (by decide) h0
  have := c.isLt
  omega

theorem rd_wholeW (v : View sig .tc sp S2816x1024 e) (c : Fin 11) (Z : S2816x1024.Idx → Elt F e) :
    v.readCov [(⟨Rect.whole S2816x1024, Z⟩ : View.Piece (Elt F) S2816x1024 e)] (rW c).toLoadRect = View.ld Z (rW c) := by
  have hm : ∀ y, y ∈ (Rect.whole S2816x1024).set := fun y => by rw [Rect.set_whole]; exact Finset.mem_univ y
  have hc : View.canon [(⟨Rect.whole S2816x1024, Z⟩ : View.Piece (Elt F) S2816x1024 e)] = Z :=
    View.canon_unit_zero (S := S2816x1024) rfl _ Z
  have hr := View.readCov_eq_canon_ld v [(⟨Rect.whole S2816x1024, Z⟩ : View.Piece (Elt F) S2816x1024 e)] (rW c)
    (fun y => ⟨_, List.mem_singleton_self _, hm _⟩)
  rw [hc] at hr
  exact hr

theorem rdA_skip (v : View sig .tc sp S8x1024 e) (c c' : Fin 8) (hne : c' ≠ c) (w : S1x1024.Idx → Elt F e) (L : List (View.Piece (Elt F) S8x1024 e)) :
    v.readCov ((⟨rA c', w⟩ : View.Piece (Elt F) S8x1024 e) :: L) (rA c).toLoadRect = v.readCov L (rA c).toLoadRect :=
  View.readCov_cons_of_disjoint v _ L _ (by
    have := rA_disjoint c c' hne
    exact this)

theorem hz2 : (![0, 0] : Fin 2 → ℕ) = fun _ => 0 := funext fun a => by fin_cases a <;> rfl

theorem rdA_whole (v : View sig .tc sp S8x1024 e) (c : Fin 8) (inb : ∀ a, (![0, 0] : Fin 2 → ℕ) a + S8x1024.size a ≤ S8x1024.size a) (Z : S8x1024.Idx → Elt F e) :
    v.readCov [(⟨Rect.unit (s := S8x1024) ![0, 0] S8x1024.size inb, Z⟩ : View.Piece (Elt F) S8x1024 e)] (rA c).toLoadRect = View.ld Z (rA c) := by
  rw [View.readCov_eq_canon_ld _ _ _ (fun y => ⟨_, List.mem_singleton_self _, View.mem_set_unit_zero hz2 inb y⟩)]
  rw [View.canon_unit_zero hz2]

theorem ldX (X : S384x1024.Idx → Elt F e) (inb : ∀ a, (![0, 0] : Fin 2 → ℕ) a + S384x1024.size a ≤ S384x1024.size a) :
    View.ld X (Rect.unit (s := S384x1024) ![0, 0] S384x1024.size inb) = X := View.ld_unit_zero hz2 inb X
theorem ldT (X : S128x1024.Idx → Elt F e) (inb : ∀ a, (![0, 0] : Fin 2 → ℕ) a + S128x1024.size a ≤ S128x1024.size a) :
    View.ld X (Rect.unit (s := S128x1024) ![0, 0] S128x1024.size inb) = X := View.ld_unit_zero hz2 inb X
theorem ldV (X : S1x1024.Idx → Elt F e) (inb : ∀ a, (![0, 0] : Fin 2 → ℕ) a + S1x1024.size a ≤ S1x1024.size a) :
    View.ld X (Rect.unit (s := S1x1024) ![0, 0] S1x1024.size inb) = X := View.ld_unit_zero hz2 inb X

theorem ldX' (X : S384x1024.Idx → Elt F e) (inb : ∀ a, (![0, 0] : Fin 2 → ℕ) a + (![384, 1024] : Fin 2 → ℕ) a ≤ S384x1024.size a) :
    View.ld X (Rect.unit (s := S384x1024) ![0, 0] ![384, 1024] inb) = X := View.ld_unit_zero (S := S384x1024) hz2 inb X
theorem ldT' (X : S128x1024.Idx → Elt F e) (inb : ∀ a, (![0, 0] : Fin 2 → ℕ) a + (![128, 1024] : Fin 2 → ℕ) a ≤ S128x1024.size a) :
    View.ld X (Rect.unit (s := S128x1024) ![0, 0] ![128, 1024] inb) = X := View.ld_unit_zero (S := S128x1024) hz2 inb X
theorem ldV' (X : S1x1024.Idx → Elt F e) (inb : ∀ a, (![0, 0] : Fin 2 → ℕ) a + (![1, 1024] : Fin 2 → ℕ) a ≤ S1x1024.size a) :
    View.ld X (Rect.unit (s := S1x1024) ![0, 0] ![1, 1024] inb) = X := View.ld_unit_zero (S := S1x1024) hz2 inb X

end

/-- The block of sums with its first three rows replaced. -/
def accV (Z : Vec F S8x1024 .f32) (p0 p1 p2 : FVec F S1x1024 .f32) : Vec F S8x1024 .f32 := fun y =>
  if (y 0).val = 2 then p2 (ix2 0 (y 1)) else if (y 0).val = 1 then p1 (ix2 0 (y 1))
    else if (y 0).val = 0 then p0 (ix2 0 (y 1)) else Z y

theorem acc_writes {sp : Space} (v : View sig .tc sp S8x1024 .f32) (f : v.ty.Contents (Elt F)) (L : List (View.Piece (Elt F) S8x1024 .f32))
    (Z : Vec F S8x1024 .f32) (hZ : v.read (Elt F) (v.writes (Elt F) f L) = Z) (p0 p1 p2 : FVec F S1x1024 .f32) :
    v.read (Elt F) (v.writes (Elt F) f ((⟨rA 2, p2⟩ : View.Piece (Elt F) S8x1024 .f32) :: (⟨rA 1, p1⟩ : View.Piece (Elt F) S8x1024 .f32) ::
      (⟨rA 0, p0⟩ : View.Piece (Elt F) S8x1024 .f32) :: L)) = accV Z p0 p1 p2 := by
  have hit : ∀ (r : Fin 8) (p : FVec F S1x1024 .f32) (L : List (View.Piece (Elt F) S8x1024 .f32)) (y : S8x1024.Idx), (y 0).val = r.val →
      v.read (Elt F) (v.writes (Elt F) f ((⟨rA r, p⟩ : View.Piece (Elt F) S8x1024 .f32) :: L)) y = p (ix2 0 (y 1)) := fun r p L y hy =>
    View.read_writes_cons_hit_of_coords v f (rA r) p L (ix2 0 (y 1)) y (fun a => by
      match a with
      | ⟨0, _⟩ => show (y 0).val = r.val + 1 * 0; omega
      | ⟨1, _⟩ => show (y 1).val = 0 + 1 * (y 1).val; omega)
  have miss : ∀ (r : Fin 8) (p : FVec F S1x1024 .f32) (L : List (View.Piece (Elt F) S8x1024 .f32)) (y : S8x1024.Idx), (y 0).val ≠ r.val →
      v.read (Elt F) (v.writes (Elt F) f ((⟨rA r, p⟩ : View.Piece (Elt F) S8x1024 .f32) :: L)) y = v.read (Elt F) (v.writes (Elt F) f L) y := fun r p L y hy =>
    View.read_writes_cons_miss_of_axis v f ⟨rA r, p⟩ L y 0 r.val 1 rfl rfl rfl (by omega)
  funext y
  unfold accV
  split_ifs with h2 h1 h0
  · exact hit 2 p2 _ y h2
  · exact (miss 2 p2 _ y h2).trans (hit 1 p1 _ y h1)
  · exact (miss 2 p2 _ y h2).trans ((miss 1 p1 _ y h1).trans (hit 0 p0 _ y h0))
  · exact (miss 2 p2 _ y h2).trans ((miss 1 p1 _ y h1).trans ((miss 0 p0 _ y h0).trans (congrFun hZ y)))

section
variable (x0 : Vec F S384x1024 .f32) (x1 x2 x3 : Vec F S128x1024 .f32) (x4 x5 : Vec F S1x1024 .f32) (W0 W1 W2 : Vec F S2816x1024 .bf16) (w : BitVec 32)

/-- The cotangent of the input rows. -/
def o6V : FVec F S384x1024 .f32 :=
  backV x0 x4 (k0_pay4 x0) (k0_pay5 x0) (D2v x0 x1 x2 x3 x4 x5 W0 W1 W2 w) (Pc x0 x1 x2 x3 x4 x5 W0 W1 W2 w 10)

/-- The block of sums after this point. -/
def o12V (Z : Vec F S8x1024 .f32) : Vec F S8x1024 .f32 :=
  accV Z (rowV (k0_pay6 x0) (Pc x0 x1 x2 x3 x4 x5 W0 W1 W2 w 10) (View.ld Z (rA 0)))
    (k0_pay148 (k0_pay84 (k0_pay6 (Hc x0 x4 W0 W1 W2 11)) (odV (Hc x0 x4 W0 W1 W2 11) x5 x1 x2 x3) (k0_pay79 w) k0_pay80) (View.ld Z (rA 1)))
    (k0_pay1 (k0_pay82 (odV (Hc x0 x4 W0 W1 W2 11) x5 x1 x2 x3) (k0_pay79 w) k0_pay80) (View.ld Z (rA 2)))

end

end Cert.Ffn

end
-- ==== Proof.FfnRows.lean ====
/- One row of the feed-forward network's forward and backward pass over the extended reals, and the kernel's block
   functions read at an entry. -/
module

public import proofs.«01_k».proof.Proof.Ffn

@[expose] public section

set_option maxRecDepth 16384

noncomputable section

namespace Cert.Ffn

open Idealize.ShloMosaic Idealize.ShloMosaic.TcCoe

/-- A row of 1024 entries; a weight matrix. -/
abbrev Row := Fin 1024 → EReal
abbrev Mat := Fin 2816 → Fin 1024 → EReal

/-- The mean of the squares, with the small summand; its inverse root; the factor of that root's derivative. -/
def ms (h : Row) : EReal := Ideal.div (∑ d, h d * h d) (Ideal.ofBits .f32 0x44800000#32) + Ideal.ofBits .f32 0x358637BD#32
def rs (h : Row) : EReal := Ideal.rsqrt (ms h)
def qq (h : Row) : EReal := Ideal.ofBits .f32 0xBF000000#32 * Ideal.div (rs h) (ms h)
/-- The normalised row, and with its weight. -/
def nrm (h : Row) : Row := fun d => h d * rs h
def xnr (h w : Row) : Row := fun d => nrm h d * w d
/-- A row against one row of a weight. -/
def hid (x : Row) (W : Mat) (f : Fin 2816) : EReal := ∑ d, x d * W f d
def sg (g : EReal) : EReal := Ideal.logistic g
def actv (g u : EReal) : EReal := g * sg g * u
/-- The backward pass of the normalisation: from the cotangent `a` of the normalised row. -/
def nbk (h a : Row) : EReal := Ideal.div ((∑ d, h d * a d) * qq h) (Ideal.ofBits .f32 0x44800000#32)

section
open Cert.Kernel2Ideal Cert.Kernel2Ideal.Gen

variable (x : Vec Ideal S384x1024 .f32) (v : Vec Ideal S1x1024 .f32)

theorem pay3_at (r : Fin 384) : k0_pay3 x (ix2 r 0) = ms (fun d => x (ix2 r d)) := by
  pointwise [k0_pay3, ms]
theorem pay4_at (r : Fin 384) : k0_pay4 x (ix2 r 0) = rs (fun d => x (ix2 r d)) := by
  pointwise [k0_pay4, pay3_at, rs]
theorem pay5_at (r : Fin 384) (k : Fin 1) : k0_pay5 x (ix2 r k) = qq (fun d => x (ix2 r d)) := by
  obtain rfl : k = 0 := Subsingleton.elim _ _
  pointwise [k0_pay5, pay4_at, pay3_at, qq]
theorem pay6_at (r : Fin 384) (d : Fin 1024) : k0_pay6 x (ix2 r d) = nrm (fun d => x (ix2 r d)) d := by
  pointwise [k0_pay6, pay4_at, nrm]
theorem pay7_at (r : Fin 384) (d : Fin 1024) : k0_pay7 x v (ix2 r d) = xnr (fun d => x (ix2 r d)) (fun d => v (ix2 0 d)) d := by
  pointwise [k0_pay7, pay6_at, xnr]
theorem pay16_at (a : FVec Ideal S384x1024 .bf16) (b : FVec Ideal S256x1024 .bf16) (r : Fin 384) (k : Fin 256) :
    k0_pay16 a b (ix2 r k) = ∑ d : Fin 1024, a (ix2 r d) * b (ix2 k d) := by
  pointwise [k0_pay16]
theorem pay94_at (a : FVec Ideal S384x1024 .bf16) (b : FVec Ideal S256x1024 .bf16) (r : Fin 384) (k : Fin 256) :
    k0_pay94 a b (ix2 r k) = ∑ d : Fin 1024, a (ix2 r d) * b (ix2 k d) := by
  pointwise [k0_pay94]
theorem pay14_at (g u : FVec Ideal S384x256 .f32) (r : Fin 384) (k : Fin 256) :
    k0_pay14 g u (ix2 r k) = actv (g (ix2 r k)) (u (ix2 r k)) := by
  pointwise [k0_pay14, actv, sg]
theorem pay15_at (h : FVec Ideal S384x1024 .f32) (g u : FVec Ideal S384x256 .f32) (b : FVec Ideal S256x1024 .bf16) (r : Fin 384) (d : Fin 1024) :
    k0_pay15 h g u b (ix2 r d) = h (ix2 r d) + ∑ k : Fin 256, actv (g (ix2 r k)) (u (ix2 r k)) * b (ix2 k d) := by
  pointwise [k0_pay15, pay14_at]
theorem pay91_at (g s y : FVec Ideal S384x256 .f32) (r : Fin 384) (k : Fin 256) :
    k0_pay91 g s y (ix2 r k) = y (ix2 r k) * (s (ix2 r k) * (1 + g (ix2 r k) * (1 - s (ix2 r k)))) := by
  pointwise [k0_pay91]
theorem pay92_at (y g s : FVec Ideal S384x256 .f32) (r : Fin 384) (k : Fin 256) :
    k0_pay92 y g s (ix2 r k) = y (ix2 r k) * (g (ix2 r k) * s (ix2 r k)) := by
  pointwise [k0_pay92]
theorem pay93_at (y g s z : FVec Ideal S384x256 .f32) (a b : FVec Ideal S256x1024 .bf16) (r : Fin 384) (d : Fin 1024) :
    k0_pay93 y g s z a b (ix2 r d) = (∑ k : Fin 256, k0_pay91 g s z (ix2 r k) * a (ix2 k d)) + ∑ k : Fin 256, k0_pay92 y g s (ix2 r k) * b (ix2 k d) := by
  pointwise [k0_pay93]
theorem pay81_at (o : FVec Ideal S384x1024 .f32) (b : IVec S384x1024 1) (r : Fin 384) (d : Fin 1024) :
    k0_pay81 o b k0_pay80 (ix2 r d) = Scalar.select (b (ix2 r d)) (o (ix2 r d)) 0 := by
  pointwise [k0_pay81, k0_pay80]
theorem pay83_at (o : FVec Ideal S384x1024 .f32) (b : IVec S384x1024 1) (r : Fin 384) (d : Fin 1024) :
    k0_pay83 o b k0_pay80 (ix2 r d) = k0_pay81 o b k0_pay80 (ix2 r d) * Ideal.ofBits .f32 0x3A800000#32 := by
  pointwise [k0_pay83]
theorem pay84_at (n o : FVec Ideal S384x1024 .f32) (b : IVec S384x1024 1) (d : Fin 1024) :
    k0_pay84 n o b k0_pay80 (ix2 0 d) = ∑ r : Fin 384, n (ix2 r d) * k0_pay83 o b k0_pay80 (ix2 r d) := by
  pointwise [k0_pay84]
theorem pay82_at (o : FVec Ideal S384x1024 .f32) (b : IVec S384x1024 1) :
    k0_pay82 o b k0_pay80 (ix2 0 0) = Ideal.div (Ideal.ofBits .f32 0x3F000000#32 * ∑ r : Fin 384, ∑ d : Fin 1024, k0_pay81 o b k0_pay80 (ix2 r d) * k0_pay81 o b k0_pay80 (ix2 r d))
      (Ideal.ofBits .f32 0x44800000#32) := by
  pointwise [k0_pay82]
theorem pay85_at (h : FVec Ideal S384x1024 .f32) (w : FVec Ideal S1x1024 .f32) (o : FVec Ideal S384x1024 .f32) (b : IVec S384x1024 1) (r : Fin 384) (d : Fin 1024) :
    k0_pay85 h w (k0_pay4 h) (k0_pay5 h) o b k0_pay80 (ix2 r d) =
      (k0_pay83 o b k0_pay80 (ix2 r d) * w (ix2 0 d)) * rs (fun d => h (ix2 r d))
        + h (ix2 r d) * nbk (fun d => h (ix2 r d)) (fun d => k0_pay83 o b k0_pay80 (ix2 r d) * w (ix2 0 d))
        + nbk (fun d => h (ix2 r d)) (fun d => k0_pay83 o b k0_pay80 (ix2 r d) * w (ix2 0 d)) * h (ix2 r d) := by
  pointwise [k0_pay85, pay4_at, pay5_at, nbk, Finset.univ_unique, Finset.sum_singleton]
theorem backV_at (w : FVec Ideal S1x1024 .f32) (h2 d' : FVec Ideal S384x1024 .f32) (r : Fin 384) (d : Fin 1024) :
    backV x w (k0_pay4 x) (k0_pay5 x) h2 d' (ix2 r d) =
      h2 (ix2 r d) + ((d' (ix2 r d) * w (ix2 0 d)) * rs (fun d => x (ix2 r d))
        + x (ix2 r d) * nbk (fun d => x (ix2 r d)) (fun d => d' (ix2 r d) * w (ix2 0 d))
        + nbk (fun d => x (ix2 r d)) (fun d => d' (ix2 r d) * w (ix2 0 d)) * x (ix2 r d)) := by
  pointwise [backV, pay4_at, pay5_at, nbk, Finset.univ_unique, Finset.sum_singleton]
theorem rowV_at (n d' : FVec Ideal S384x1024 .f32) (a : Vec Ideal S1x1024 .f32) (d : Fin 1024) :
    rowV n d' a (ix2 0 d) = a (ix2 0 d) + ∑ r : Fin 384, n (ix2 r d) * d' (ix2 r d) := by
  pointwise [rowV]
theorem pay148_at (p : FVec Ideal S1x1024 .f32) (a : Vec Ideal S1x1024 .f32) (d : Fin 1024) :
    k0_pay148 p a (ix2 0 d) = a (ix2 0 d) + p (ix2 0 d) := by
  pointwise [k0_pay148]
theorem pay1_at (p : FVec Ideal S1x1 .f32) (a : Vec Ideal S1x1024 .f32) (d : Fin 1024) :
    k0_pay1 p a (ix2 0 d) = a (ix2 0 d) + p (ix2 0 0) := by
  pointwise [k0_pay1]
theorem pay2_at (r : Fin 8) (d : Fin 1024) : (k0_pay2 (F := Ideal)) (ix2 r d) = 0 := by
  pointwise [k0_pay2]
end

/-- The three weight matrices and the two weights of the normalisations. -/
structure Par where
  WG : Mat
  WU : Mat
  WD : Mat
  w2 : Row
  wf : Row

namespace Par
variable (A : Par)

/-- The hidden products of a row, and the row after the network. -/
def g (h : Row) (f : Fin 2816) : EReal := hid (xnr h A.w2) A.WG f
def u (h : Row) (f : Fin 2816) : EReal := hid (xnr h A.w2) A.WU f
def h2 (h : Row) : Row := fun d => h d + ∑ f, actv (A.g h f) (A.u h f) * A.WD f d
/-- The difference to the target row where it counts; its cotangent. -/
def df (h t : Row) (ok : BitVec 1) : Row := fun d => Scalar.select ok (nrm (A.h2 h) d * A.wf d - t d) 0
def ct (h t : Row) (ok : BitVec 1) : Row := fun d => A.df h t ok d * Ideal.ofBits .f32 0x3A800000#32
/-- Backwards through the last normalisation. -/
def dh2 (h t : Row) (ok : BitVec 1) : Row := fun d =>
  (A.ct h t ok d * A.wf d) * rs (A.h2 h) + A.h2 h d * nbk (A.h2 h) (fun d => A.ct h t ok d * A.wf d)
    + nbk (A.h2 h) (fun d => A.ct h t ok d * A.wf d) * A.h2 h d
/-- Backwards through the network. -/
def da (h t : Row) (ok : BitVec 1) (f : Fin 2816) : EReal := hid (A.dh2 h t ok) A.WD f
def dg (h t : Row) (ok : BitVec 1) (f : Fin 2816) : EReal :=
  (A.da h t ok f * A.u h f) * (sg (A.g h f) * (1 + A.g h f * (1 - sg (A.g h f))))
def du (h t : Row) (ok : BitVec 1) (f : Fin 2816) : EReal := A.da h t ok f * (A.g h f * sg (A.g h f))
def dx (h t : Row) (ok : BitVec 1) : Row := fun d => (∑ f, A.dg h t ok f * A.WG f d) + ∑ f, A.du h t ok f * A.WU f d
/-- Backwards through the first normalisation, and the residual's cotangent. -/
def dh1 (h t : Row) (ok : BitVec 1) : Row := fun d =>
  A.dh2 h t ok d + ((A.dx h t ok d * A.w2 d) * rs h + h d * nbk h (fun d => A.dx h t ok d * A.w2 d)
    + nbk h (fun d => A.dx h t ok d * A.w2 d) * h d)

end Par

/-- Hidden column `256 c + k`. -/
abbrev fi (c : Fin 11) (k : Fin 256) : Fin 2816 := ⟨256 * c.val + k.val, by omega⟩

theorem sum_chunks (F : Fin 2816 → EReal) : ∑ j ∈ Finset.range 11, ∑ k : Fin 256, F (fi (fk j) k) = ∑ f, F f := by
  rw [Finset.sum_range, ← Fintype.sum_prod_type']
  refine Fintype.sum_equiv (finProdFinEquiv (m := 11) (n := 256)) _ _ fun p => congrArg F (Fin.ext ?_)
  show 256 * (p.1.val % 11) + p.2.val = p.2.val + 256 * p.1.val
  rw [Nat.mod_eq_of_lt p.1.isLt, Nat.add_comm]

section
open Cert.Kernel2Ideal Cert.Kernel2Ideal.Gen

/-- A weight array as a matrix, a row of a block as a row. -/
def mat (W : Vec Ideal S2816x1024 .bf16) : Mat := fun f d => W (ix2 f d)
def bpar (x4 x5 : Vec Ideal S1x1024 .f32) (W0 W1 W2 : Vec Ideal S2816x1024 .bf16) : Par :=
  ⟨mat W0, mat W1, mat W2, fun d => x4 (ix2 0 d), fun d => x5 (ix2 0 d)⟩
/-- The three target blocks one after the other. -/
def catV (x1 x2 x3 : Vec Ideal S128x1024 .f32) : Vec Ideal S384x1024 .f32 :=
  concatenate S384x1024 0 [⟨S128x1024, x1⟩, ⟨S128x1024, x2⟩, ⟨S128x1024, x3⟩] concatenates_S128x1024_S128x1024_S128x1024_S384x1024_d0

variable (x0 : Vec Ideal S384x1024 .f32) (x1 x2 x3 : Vec Ideal S128x1024 .f32) (x4 x5 : Vec Ideal S1x1024 .f32) (W0 W1 W2 W : Vec Ideal S2816x1024 .bf16) (w : BitVec 32)

theorem ldW_at (c : Fin 11) (k : Fin 256) (d : Fin 1024) : View.ld W (rW c) (ix2 k d) = mat W (fi c k) d :=
  congrArg W (funext fun a => Fin.ext (by
    match a with
    | ⟨0, _⟩ => show 256 * c.val + 1 * k.val = 256 * c.val + k.val; omega
    | ⟨1, _⟩ => show 0 + 1 * d.val = d.val; omega))

theorem ldA_at (Z : Vec Ideal S8x1024 .f32) (c : Fin 8) (d : Fin 1024) : View.ld Z (rA c) (ix2 0 d) = Z (ix2 c d) :=
  congrArg Z (funext fun a => Fin.ext (by
    match a with
    | ⟨0, _⟩ => show c.val + 1 * 0 = c.val; omega
    | ⟨1, _⟩ => show 0 + 1 * d.val = d.val; omega))

theorem Gc_at (c : Fin 11) (r : Fin 384) (k : Fin 256) :
    Gc x0 x4 W c (ix2 r k) = hid (xnr (fun d => x0 (ix2 r d)) (fun d => x4 (ix2 0 d))) (mat W) (fi c k) := by
  unfold Gc hid
  rw [pay16_at]
  exact Finset.sum_congr rfl fun d _ => by rw [pay7_at, ldW_at]

theorem GLc_at (c : Fin 11) (r : Fin 384) (k : Fin 256) :
    GLc x0 x4 W c (ix2 r k) = hid (xnr (fun d => x0 (ix2 r d)) (fun d => x4 (ix2 0 d))) (mat W) (fi c k) := by
  unfold GLc
  rw [shapeCast_self]
  exact Gc_at x0 x4 W c r k

theorem Hc_at (r : Fin 384) (d : Fin 1024) : ∀ n : ℕ, Hc x0 x4 W0 W1 W2 n (ix2 r d) = x0 (ix2 r d) + ∑ j ∈ Finset.range n, ∑ k : Fin 256,
    actv ((bpar x4 x5 W0 W1 W2).g (fun d => x0 (ix2 r d)) (fi (fk j) k)) ((bpar x4 x5 W0 W1 W2).u (fun d => x0 (ix2 r d)) (fi (fk j) k)) * mat W2 (fi (fk j) k) d
  | 0 => by rw [Finset.sum_range_zero, add_zero]; rfl
  | n + 1 => by
    rw [Finset.sum_range_succ, ← add_assoc, ← Hc_at r d n]
    show k0_pay15 _ _ _ _ (ix2 r d) = _
    rw [pay15_at]
    refine congrArg (_ + ·) (Finset.sum_congr rfl fun k _ => ?_)
    rw [Gc_at, Gc_at, ldW_at]
    rfl

theorem H_at (r : Fin 384) (d : Fin 1024) : Hc x0 x4 W0 W1 W2 11 (ix2 r d) = (bpar x4 x5 W0 W1 W2).h2 (fun d => x0 (ix2 r d)) d := by
  rw [Hc_at x0 x4 x5 W0 W1 W2 r d 11]
  exact congrArg (_ + ·) (sum_chunks fun f => actv ((bpar x4 x5 W0 W1 W2).g (fun d => x0 (ix2 r d)) f) ((bpar x4 x5 W0 W1 W2).u (fun d => x0 (ix2 r d)) f) * mat W2 f d)

theorem odV_at (h2 : FVec Ideal S384x1024 .f32) (r : Fin 384) (d : Fin 1024) :
    odV h2 x5 x1 x2 x3 (ix2 r d) = nrm (fun d => h2 (ix2 r d)) d * x5 (ix2 0 d) - catV x1 x2 x3 (ix2 r d) := by
  pointwise [odV, pay6_at, catV]

theorem df_at (r : Fin 384) (d : Fin 1024) : k0_pay81 (odV (Hc x0 x4 W0 W1 W2 11) x5 x1 x2 x3) (k0_pay79 w) k0_pay80 (ix2 r d) =
    (bpar x4 x5 W0 W1 W2).df (fun d => x0 (ix2 r d)) (fun d => catV x1 x2 x3 (ix2 r d)) (k0_pay79 w (ix2 r 0)) d := by
  rw [pay81_at, odV_at]
  have e : k0_pay79 w (ix2 r d) = k0_pay79 w (ix2 r 0) := by pointwise [k0_pay79]
  rw [e]
  simp only [H_at x0 x4 x5 W0 W1 W2]
  rfl

theorem ct_at (r : Fin 384) (d : Fin 1024) : k0_pay83 (odV (Hc x0 x4 W0 W1 W2 11) x5 x1 x2 x3) (k0_pay79 w) k0_pay80 (ix2 r d) =
    (bpar x4 x5 W0 W1 W2).ct (fun d => x0 (ix2 r d)) (fun d => catV x1 x2 x3 (ix2 r d)) (k0_pay79 w (ix2 r 0)) d := by
  rw [pay83_at, df_at]
  rfl

theorem D2v_at (r : Fin 384) (d : Fin 1024) : D2v x0 x1 x2 x3 x4 x5 W0 W1 W2 w (ix2 r d) =
    (bpar x4 x5 W0 W1 W2).dh2 (fun d => x0 (ix2 r d)) (fun d => catV x1 x2 x3 (ix2 r d)) (k0_pay79 w (ix2 r 0)) d := by
  unfold D2v
  rw [pay85_at]
  simp only [ct_at, H_at x0 x4 x5 W0 W1 W2]
  rfl

theorem D2b_at (r : Fin 384) (d : Fin 1024) : D2b x0 x1 x2 x3 x4 x5 W0 W1 W2 w (ix2 r d) =
    (bpar x4 x5 W0 W1 W2).dh2 (fun d => x0 (ix2 r d)) (fun d => catV x1 x2 x3 (ix2 r d)) (k0_pay79 w (ix2 r 0)) d :=
  D2v_at x0 x1 x2 x3 x4 x5 W0 W1 W2 w r d

theorem DAc_at (c : Fin 11) (r : Fin 384) (k : Fin 256) : DAc x0 x1 x2 x3 x4 x5 W0 W1 W2 w c (ix2 r k) =
    (bpar x4 x5 W0 W1 W2).da (fun d => x0 (ix2 r d)) (fun d => catV x1 x2 x3 (ix2 r d)) (k0_pay79 w (ix2 r 0)) (fi c k) := by
  unfold DAc Par.da hid
  rw [pay94_at]
  exact Finset.sum_congr rfl fun d _ => by rw [D2b_at, ldW_at]; rfl

theorem DGc_at (c : Fin 11) (r : Fin 384) (k : Fin 256) : DGc x0 x1 x2 x3 x4 x5 W0 W1 W2 w c (ix2 r k) =
    (bpar x4 x5 W0 W1 W2).dg (fun d => x0 (ix2 r d)) (fun d => catV x1 x2 x3 (ix2 r d)) (k0_pay79 w (ix2 r 0)) (fi c k) := by
  unfold DGc
  rw [pay91_at]
  show DAc x0 x1 x2 x3 x4 x5 W0 W1 W2 w c (ix2 r k) * GLc x0 x4 W1 c (ix2 r k) * (sg (GLc x0 x4 W0 c (ix2 r k)) * (1 + GLc x0 x4 W0 c (ix2 r k) * (1 - sg (GLc x0 x4 W0 c (ix2 r k))))) = _
  rw [DAc_at, GLc_at, GLc_at]
  rfl

theorem DUc_at (c : Fin 11) (r : Fin 384) (k : Fin 256) : DUc x0 x1 x2 x3 x4 x5 W0 W1 W2 w c (ix2 r k) =
    (bpar x4 x5 W0 W1 W2).du (fun d => x0 (ix2 r d)) (fun d => catV x1 x2 x3 (ix2 r d)) (k0_pay79 w (ix2 r 0)) (fi c k) := by
  unfold DUc
  rw [pay92_at]
  show DAc x0 x1 x2 x3 x4 x5 W0 W1 W2 w c (ix2 r k) * (GLc x0 x4 W0 c (ix2 r k) * sg (GLc x0 x4 W0 c (ix2 r k))) = _
  rw [DAc_at, GLc_at]
  rfl

theorem Act_at (c : Fin 11) (r : Fin 384) (k : Fin 256) : k0_pay14 (Gc x0 x4 W0 c) (Gc x0 x4 W1 c) (ix2 r k) =
    actv ((bpar x4 x5 W0 W1 W2).g (fun d => x0 (ix2 r d)) (fi c k)) ((bpar x4 x5 W0 W1 W2).u (fun d => x0 (ix2 r d)) (fi c k)) := by
  rw [pay14_at, Gc_at, Gc_at]
  rfl

theorem dxS_at (c : Fin 11) (r : Fin 384) (d : Fin 1024) : dxS x0 x1 x2 x3 x4 x5 W0 W1 W2 w c (ix2 r d) =
    (∑ k : Fin 256, (bpar x4 x5 W0 W1 W2).dg (fun d => x0 (ix2 r d)) (fun d => catV x1 x2 x3 (ix2 r d)) (k0_pay79 w (ix2 r 0)) (fi c k) * mat W0 (fi c k) d)
      + ∑ k : Fin 256, (bpar x4 x5 W0 W1 W2).du (fun d => x0 (ix2 r d)) (fun d => catV x1 x2 x3 (ix2 r d)) (k0_pay79 w (ix2 r 0)) (fi c k) * mat W1 (fi c k) d := by
  unfold dxS
  rw [pay93_at]
  refine congr (congrArg HAdd.hAdd (Finset.sum_congr rfl fun k _ => ?_)) (Finset.sum_congr rfl fun k _ => ?_)
  · rw [← DGc_at, ldW_at]; rfl
  · rw [← DUc_at, ldW_at]; rfl

theorem Pc_at (r : Fin 384) (d : Fin 1024) : ∀ n : ℕ, Pc x0 x1 x2 x3 x4 x5 W0 W1 W2 w n (ix2 r d) =
    ∑ j ∈ Finset.range (n + 1), dxS x0 x1 x2 x3 x4 x5 W0 W1 W2 w (fk j) (ix2 r d)
  | 0 => by rw [Finset.sum_range_one]; rfl
  | n + 1 => by
    rw [Finset.sum_range_succ, ← Pc_at r d n]
    rfl

theorem P_at (r : Fin 384) (d : Fin 1024) : Pc x0 x1 x2 x3 x4 x5 W0 W1 W2 w 10 (ix2 r d) =
    (bpar x4 x5 W0 W1 W2).dx (fun d => x0 (ix2 r d)) (fun d => catV x1 x2 x3 (ix2 r d)) (k0_pay79 w (ix2 r 0)) d := by
  rw [Pc_at]
  simp only [dxS_at]
  rw [Finset.sum_add_distrib,
    sum_chunks fun f => (bpar x4 x5 W0 W1 W2).dg (fun d => x0 (ix2 r d)) (fun d => catV x1 x2 x3 (ix2 r d)) (k0_pay79 w (ix2 r 0)) f * mat W0 f d,
    sum_chunks fun f => (bpar x4 x5 W0 W1 W2).du (fun d => x0 (ix2 r d)) (fun d => catV x1 x2 x3 (ix2 r d)) (k0_pay79 w (ix2 r 0)) f * mat W1 f d]
  rfl

theorem o6V_at (r : Fin 384) (d : Fin 1024) : o6V x0 x1 x2 x3 x4 x5 W0 W1 W2 w (ix2 r d) =
    (bpar x4 x5 W0 W1 W2).dh1 (fun d => x0 (ix2 r d)) (fun d => catV x1 x2 x3 (ix2 r d)) (k0_pay79 w (ix2 r 0)) d := by
  unfold o6V
  rw [backV_at]
  simp only [D2v_at, P_at]
  rfl

/-- The three rows of sums after this point. -/
theorem o12V_0 (Z : Vec Ideal S8x1024 .f32) (d : Fin 1024) : o12V x0 x1 x2 x3 x4 x5 W0 W1 W2 w Z (ix2 0 d) = Z (ix2 0 d) + ∑ r : Fin 384,
    nrm (fun d => x0 (ix2 r d)) d * (bpar x4 x5 W0 W1 W2).dx (fun d => x0 (ix2 r d)) (fun d => catV x1 x2 x3 (ix2 r d)) (k0_pay79 w (ix2 r 0)) d := by
  show rowV _ _ _ (ix2 0 d) = _
  rw [rowV_at, ldA_at]
  exact congrArg (_ + ·) (Finset.sum_congr rfl fun r _ => by rw [pay6_at, P_at])

theorem o12V_1 (Z : Vec Ideal S8x1024 .f32) (d : Fin 1024) : o12V x0 x1 x2 x3 x4 x5 W0 W1 W2 w Z (ix2 1 d) = Z (ix2 1 d) + ∑ r : Fin 384,
    nrm ((bpar x4 x5 W0 W1 W2).h2 fun d => x0 (ix2 r d)) d * (bpar x4 x5 W0 W1 W2).ct (fun d => x0 (ix2 r d)) (fun d => catV x1 x2 x3 (ix2 r d)) (k0_pay79 w (ix2 r 0)) d := by
  show k0_pay148 _ _ (ix2 0 d) = _
  rw [pay148_at, ldA_at, pay84_at]
  refine congrArg (_ + ·) (Finset.sum_congr rfl fun r _ => ?_)
  rw [pay6_at, ct_at]
  simp only [H_at x0 x4 x5 W0 W1 W2]

theorem o12V_2 (Z : Vec Ideal S8x1024 .f32) (d : Fin 1024) : o12V x0 x1 x2 x3 x4 x5 W0 W1 W2 w Z (ix2 2 d) = Z (ix2 2 d) + Ideal.div (Ideal.ofBits .f32 0x3F000000#32 * ∑ r : Fin 384, ∑ d : Fin 1024,
    (bpar x4 x5 W0 W1 W2).df (fun d => x0 (ix2 r d)) (fun d => catV x1 x2 x3 (ix2 r d)) (k0_pay79 w (ix2 r 0)) d
      * (bpar x4 x5 W0 W1 W2).df (fun d => x0 (ix2 r d)) (fun d => catV x1 x2 x3 (ix2 r d)) (k0_pay79 w (ix2 r 0)) d) (Ideal.ofBits .f32 0x44800000#32) := by
  show k0_pay1 _ _ (ix2 0 d) = _
  rw [pay1_at, ldA_at, pay82_at]
  simp only [df_at]

theorem o12V_3 (Z : Vec Ideal S8x1024 .f32) (k : Fin 8) (hk : 3 ≤ k.val) (d : Fin 1024) : o12V x0 x1 x2 x3 x4 x5 W0 W1 W2 w Z (ix2 k d) = Z (ix2 k d) := by
  unfold o12V accV
  rw [if_neg (by show k.val ≠ 2; omega), if_neg (by show k.val ≠ 1; omega), if_neg (by show k.val ≠ 0; omega)]

end

end Cert.Ffn

end
-- ==== Proof.FfnWordsA.lean ====
/- The words of the feed-forward kernel's body in the case of the first grid point: each named intermediate is a piece of the vocabulary
   of `Proof/Ffn.lean`. -/
module

public import proofs.«01_k».proof.Proof.Ffn

@[expose] public section

set_option maxRecDepth 65536
set_option maxHeartbeats 1000000

noncomputable section

namespace Cert.Ffn

open Idealize.ShloMosaic Idealize.ShloMosaic.TcCoe
open Cert.Kernel2Ideal Cert.Kernel2Ideal.Gen

variable {F : FTy → Type} [FloatOps F]
variable (c : Dev nD) (i : grid0.Coords) (arg1 : Memref sig .tc .vmem S384x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S384x1024 .f32) (harg10 : arg10.IsWhole) (arg11 : Memref sig .tc .vmem S384x1024 .bf16) (harg11 : arg11.IsWhole) (arg12 : Memref sig .tc .vmem S384x2816 .bf16) (harg12 : arg12.IsWhole) (arg13 : Memref sig .tc .vmem S384x2816 .bf16) (harg13 : arg13.IsWhole) (arg14 : Memref sig .tc .vmem S384x2816 .bf16) (harg14 : arg14.IsWhole) (arg15 : Memref sig .tc .vmem S384x1024 .bf16) (harg15 : arg15.IsWhole) (arg16 : Memref sig .tc .vmem S8x1024 .f32) (harg16 : arg16.IsWhole) (arg17 : Memref sig .tc .vmem S2816x1024 .bf16) (harg17 : arg17.IsWhole) (arg18 : Memref sig .tc .vmem S2816x1024 .bf16) (harg18 : arg18.IsWhole) (arg19 : Memref sig .tc .vmem S2816x1024 .bf16) (harg19 : arg19.IsWhole) (arg21 : Memref sig .tc .vmem S384x2816 .f32) (harg21 : arg21.IsWhole) (arg22 : Memref sig .tc .vmem S384x2816 .f32) (harg22 : arg22.IsWhole) (x0 : Vec F S384x1024 .f32) (x1 : Vec F S128x1024 .f32) (x2 : Vec F S128x1024 .f32) (x3 : Vec F S128x1024 .f32) (x4 : Vec F S1x1024 .f32) (x5 : Vec F S1x1024 .f32) (fh0 : HbBuf0 (F := F) c hbM0_0) (fh1 : HbBuf0 (F := F) c hbM0_1) (fh2 : HbBuf0 (F := F) c hbM0_2)

theorem a_r_5 : kernelRun0_A.sl.r_5 (F := F) c arg1 harg1 arg5 harg5 x0 x4 = k0_pay7 x0 x4 := by
  unfold kernelRun0_A.sl.r_5
  simp only [View.readAt_eq_ld, ldX, ldT, ldV, ldX', ldT', ldV', harg1.read_unread, harg5.read_unread] <;> rfl

theorem a_v190 : kernelRun0_A.sl.v190 (F := F) c arg17 fh0 = View.ld (kernelRun0_A.sl.dma0 c fh0) (rW (fk 10)) := by
  unfold kernelRun0_A.sl.v190
  exact rd_wholeW _ (fk 10) _

theorem a_v172 : kernelRun0_A.sl.v172 (F := F) c arg17 fh0 = View.ld (kernelRun0_A.sl.dma0 c fh0) (rW (fk 9)) := by
  unfold kernelRun0_A.sl.v172
  exact rd_wholeW _ (fk 9) _

theorem a_r_32 : kernelRun0_A.sl.r_32 (F := F) c arg1 harg1 arg5 harg5 arg17 x0 x4 fh0 = Gc x0 x4 (kernelRun0_A.sl.dma0 c fh0) (fk 9) := by
  unfold kernelRun0_A.sl.r_32
  simp only [a_r_5, a_v172] <;> rfl

theorem a_v154 : kernelRun0_A.sl.v154 (F := F) c arg17 fh0 = View.ld (kernelRun0_A.sl.dma0 c fh0) (rW (fk 8)) := by
  unfold kernelRun0_A.sl.v154
  exact rd_wholeW _ (fk 8) _

theorem a_v136 : kernelRun0_A.sl.v136 (F := F) c arg17 fh0 = View.ld (kernelRun0_A.sl.dma0 c fh0) (rW (fk 7)) := by
  unfold kernelRun0_A.sl.v136
  exact rd_wholeW _ (fk 7) _

theorem a_r_26 : kernelRun0_A.sl.r_26 (F := F) c arg1 harg1 arg5 harg5 arg17 x0 x4 fh0 = Gc x0 x4 (kernelRun0_A.sl.dma0 c fh0) (fk 7) := by
  unfold kernelRun0_A.sl.r_26
  simp only [a_r_5, a_v136] <;> rfl

theorem a_v118 : kernelRun0_A.sl.v118 (F := F) c arg17 fh0 = View.ld (kernelRun0_A.sl.dma0 c fh0) (rW (fk 6)) := by
  unfold kernelRun0_A.sl.v118
  exact rd_wholeW _ (fk 6) _

theorem a_r_23 : kernelRun0_A.sl.r_23 (F := F) c arg1 harg1 arg5 harg5 arg17 x0 x4 fh0 = Gc x0 x4 (kernelRun0_A.sl.dma0 c fh0) (fk 6) := by
  unfold kernelRun0_A.sl.r_23
  simp only [a_r_5, a_v118] <;> rfl

theorem a_v100 : kernelRun0_A.sl.v100 (F := F) c arg17 fh0 = View.ld (kernelRun0_A.sl.dma0 c fh0) (rW (fk 5)) := by
  unfold kernelRun0_A.sl.v100
  exact rd_wholeW _ (fk 5) _

theorem a_r_20 : kernelRun0_A.sl.r_20 (F := F) c arg1 harg1 arg5 harg5 arg17 x0 x4 fh0 = Gc x0 x4 (kernelRun0_A.sl.dma0 c fh0) (fk 5) := by
  unfold kernelRun0_A.sl.r_20
  simp only [a_r_5, a_v100] <;> rfl

theorem a_v82 : kernelRun0_A.sl.v82 (F := F) c arg17 fh0 = View.ld (kernelRun0_A.sl.dma0 c fh0) (rW (fk 4)) := by
  unfold kernelRun0_A.sl.v82
  exact rd_wholeW _ (fk 4) _

theorem a_r_17 : kernelRun0_A.sl.r_17 (F := F) c arg1 harg1 arg5 harg5 arg17 x0 x4 fh0 = Gc x0 x4 (kernelRun0_A.sl.dma0 c fh0) (fk 4) := by
  unfold kernelRun0_A.sl.r_17
  simp only [a_r_5, a_v82] <;> rfl

theorem a_v64 : kernelRun0_A.sl.v64 (F := F) c arg17 fh0 = View.ld (kernelRun0_A.sl.dma0 c fh0) (rW (fk 3)) := by
  unfold kernelRun0_A.sl.v64
  exact rd_wholeW _ (fk 3) _

theorem a_v46 : kernelRun0_A.sl.v46 (F := F) c arg17 fh0 = View.ld (kernelRun0_A.sl.dma0 c fh0) (rW (fk 2)) := by
  unfold kernelRun0_A.sl.v46
  exact rd_wholeW _ (fk 2) _

theorem a_r_11 : kernelRun0_A.sl.r_11 (F := F) c arg1 harg1 arg5 harg5 arg17 x0 x4 fh0 = Gc x0 x4 (kernelRun0_A.sl.dma0 c fh0) (fk 2) := by
  unfold kernelRun0_A.sl.r_11
  simp only [a_r_5, a_v46] <;> rfl

theorem a_v28 : kernelRun0_A.sl.v28 (F := F) c arg17 fh0 = View.ld (kernelRun0_A.sl.dma0 c fh0) (rW (fk 1)) := by
  unfold kernelRun0_A.sl.v28
  exact rd_wholeW _ (fk 1) _

theorem a_r_8 : kernelRun0_A.sl.r_8 (F := F) c arg1 harg1 arg5 harg5 arg17 x0 x4 fh0 = Gc x0 x4 (kernelRun0_A.sl.dma0 c fh0) (fk 1) := by
  unfold kernelRun0_A.sl.r_8
  simp only [a_v28, View.readAt_eq_ld, ldX, ldT, ldV, ldX', ldT', ldV', harg1.read_unread, harg5.read_unread] <;> rfl

theorem a_v24 : kernelRun0_A.sl.v24 (F := F) c arg17 fh0 = View.ld (kernelRun0_A.sl.dma0 c fh0) (rW (fk 0)) := by
  unfold kernelRun0_A.sl.v24
  exact rd_wholeW _ (fk 0) _

theorem a_r_6 : kernelRun0_A.sl.r_6 (F := F) c arg1 harg1 arg5 harg5 arg17 x0 x4 fh0 = Gc x0 x4 (kernelRun0_A.sl.dma0 c fh0) (fk 0) := by
  unfold kernelRun0_A.sl.r_6
  simp only [a_v24, View.readAt_eq_ld, ldX, ldT, ldV, ldX', ldT', ldV', harg1.read_unread, harg5.read_unread] <;> rfl

theorem a_HS3_11 : kernelRun0_A.sl.HS3_11 (F := F) c arg1 harg1 arg5 harg5 arg17 x0 x4 fh0 = tiles (GLc x0 x4 (kernelRun0_A.sl.dma0 c fh0)) := by
  unfold kernelRun0_A.sl.HS3_11
  simp only [a_r_5, a_v190, a_r_32, a_v154, a_r_26, a_r_23, a_r_20, a_r_17, a_v64, a_r_11, a_r_8, a_r_6] <;> rfl

theorem a_v513 : kernelRun0_A.sl.v513 (F := F) c arg1 harg1 arg5 harg5 arg17 arg21 x0 x4 fh0 = GLc x0 x4 (kernelRun0_A.sl.dma0 c fh0) (fk 9) := by
  unfold kernelRun0_A.sl.v513
  rw [a_HS3_11]
  exact rd_tiles _ _ (fk 9)

theorem a_r_78 : kernelRun0_A.sl.r_78 (F := F) c arg1 harg1 arg5 harg5 arg17 arg21 x0 x4 fh0 = logistic (GLc x0 x4 (kernelRun0_A.sl.dma0 c fh0) (fk 9)) := by
  unfold kernelRun0_A.sl.r_78
  simp only [a_v513] <;> rfl

theorem a_v219 : kernelRun0_A.sl.v219 (F := F) c arg19 fh2 = View.ld (kernelRun0_A.sl.dma0_2 c fh2) (rW (fk 10)) := by
  unfold kernelRun0_A.sl.v219
  exact rd_wholeW _ (fk 10) _

theorem a_r_35 : kernelRun0_A.sl.r_35 (F := F) c arg1 harg1 arg5 harg5 arg17 x0 x4 fh0 = Gc x0 x4 (kernelRun0_A.sl.dma0 c fh0) (fk 10) := by
  unfold kernelRun0_A.sl.r_35
  simp only [a_r_5, a_v190] <;> rfl

theorem a_v192 : kernelRun0_A.sl.v192 (F := F) c arg18 fh1 = View.ld (kernelRun0_A.sl.dma0_1 c fh1) (rW (fk 10)) := by
  unfold kernelRun0_A.sl.v192
  exact rd_wholeW _ (fk 10) _

theorem a_r_36 : kernelRun0_A.sl.r_36 (F := F) c arg1 harg1 arg5 harg5 arg18 x0 x4 fh1 = Gc x0 x4 (kernelRun0_A.sl.dma0_1 c fh1) (fk 10) := by
  unfold kernelRun0_A.sl.r_36
  simp only [a_r_5, a_v192] <;> rfl

theorem a_r_29 : kernelRun0_A.sl.r_29 (F := F) c arg1 harg1 arg5 harg5 arg17 x0 x4 fh0 = Gc x0 x4 (kernelRun0_A.sl.dma0 c fh0) (fk 8) := by
  unfold kernelRun0_A.sl.r_29
  simp only [a_r_5, a_v154] <;> rfl

theorem a_v156 : kernelRun0_A.sl.v156 (F := F) c arg18 fh1 = View.ld (kernelRun0_A.sl.dma0_1 c fh1) (rW (fk 8)) := by
  unfold kernelRun0_A.sl.v156
  exact rd_wholeW _ (fk 8) _

theorem a_r_30 : kernelRun0_A.sl.r_30 (F := F) c arg1 harg1 arg5 harg5 arg18 x0 x4 fh1 = Gc x0 x4 (kernelRun0_A.sl.dma0_1 c fh1) (fk 8) := by
  unfold kernelRun0_A.sl.r_30
  simp only [a_r_5, a_v156] <;> rfl

theorem a_v102 : kernelRun0_A.sl.v102 (F := F) c arg18 fh1 = View.ld (kernelRun0_A.sl.dma0_1 c fh1) (rW (fk 5)) := by
  unfold kernelRun0_A.sl.v102
  exact rd_wholeW _ (fk 5) _

theorem a_r_21 : kernelRun0_A.sl.r_21 (F := F) c arg1 harg1 arg5 harg5 arg18 x0 x4 fh1 = Gc x0 x4 (kernelRun0_A.sl.dma0_1 c fh1) (fk 5) := by
  unfold kernelRun0_A.sl.r_21
  simp only [a_r_5, a_v102] <;> rfl

theorem a_r_14 : kernelRun0_A.sl.r_14 (F := F) c arg1 harg1 arg5 harg5 arg17 x0 x4 fh0 = Gc x0 x4 (kernelRun0_A.sl.dma0 c fh0) (fk 3) := by
  unfold kernelRun0_A.sl.r_14
  simp only [a_r_5, a_v64] <;> rfl

theorem a_v66 : kernelRun0_A.sl.v66 (F := F) c arg18 fh1 = View.ld (kernelRun0_A.sl.dma0_1 c fh1) (rW (fk 3)) := by
  unfold kernelRun0_A.sl.v66
  exact rd_wholeW _ (fk 3) _

theorem a_r_15 : kernelRun0_A.sl.r_15 (F := F) c arg1 harg1 arg5 harg5 arg18 x0 x4 fh1 = Gc x0 x4 (kernelRun0_A.sl.dma0_1 c fh1) (fk 3) := by
  unfold kernelRun0_A.sl.r_15
  simp only [a_r_5, a_v66] <;> rfl

theorem a_r : kernelRun0_A.sl.r (F := F) c arg1 harg1 x0 = x0 := by
  unfold kernelRun0_A.sl.r
  simp only [View.readAt_eq_ld, ldX, ldT, ldV, ldX', ldT', ldV', harg1.read_unread] <;> rfl

theorem a_v26 : kernelRun0_A.sl.v26 (F := F) c arg18 fh1 = View.ld (kernelRun0_A.sl.dma0_1 c fh1) (rW (fk 0)) := by
  unfold kernelRun0_A.sl.v26
  exact rd_wholeW _ (fk 0) _

theorem a_r_7 : kernelRun0_A.sl.r_7 (F := F) c arg1 harg1 arg5 harg5 arg18 x0 x4 fh1 = Gc x0 x4 (kernelRun0_A.sl.dma0_1 c fh1) (fk 0) := by
  unfold kernelRun0_A.sl.r_7
  simp only [a_v26, View.readAt_eq_ld, ldX, ldT, ldV, ldX', ldT', ldV', harg1.read_unread, harg5.read_unread] <;> rfl

theorem a_v43 : kernelRun0_A.sl.v43 (F := F) c arg19 fh2 = View.ld (kernelRun0_A.sl.dma0_2 c fh2) (rW (fk 0)) := by
  unfold kernelRun0_A.sl.v43
  exact rd_wholeW _ (fk 0) _

theorem a_r_10 : kernelRun0_A.sl.r_10 (F := F) c arg1 harg1 arg5 harg5 arg17 arg18 arg19 x0 x4 fh0 fh1 fh2 = Hc x0 x4 (kernelRun0_A.sl.dma0 c fh0) (kernelRun0_A.sl.dma0_1 c fh1) (kernelRun0_A.sl.dma0_2 c fh2) 1 := by
  unfold kernelRun0_A.sl.r_10
  simp only [a_r, a_r_6, a_r_7, a_v43] <;> rfl

theorem a_v48 : kernelRun0_A.sl.v48 (F := F) c arg18 fh1 = View.ld (kernelRun0_A.sl.dma0_1 c fh1) (rW (fk 2)) := by
  unfold kernelRun0_A.sl.v48
  exact rd_wholeW _ (fk 2) _

theorem a_r_12 : kernelRun0_A.sl.r_12 (F := F) c arg1 harg1 arg5 harg5 arg18 x0 x4 fh1 = Gc x0 x4 (kernelRun0_A.sl.dma0_1 c fh1) (fk 2) := by
  unfold kernelRun0_A.sl.r_12
  simp only [a_r_5, a_v48] <;> rfl

theorem a_v30 : kernelRun0_A.sl.v30 (F := F) c arg18 fh1 = View.ld (kernelRun0_A.sl.dma0_1 c fh1) (rW (fk 1)) := by
  unfold kernelRun0_A.sl.v30
  exact rd_wholeW _ (fk 1) _

theorem a_r_9 : kernelRun0_A.sl.r_9 (F := F) c arg1 harg1 arg5 harg5 arg18 x0 x4 fh1 = Gc x0 x4 (kernelRun0_A.sl.dma0_1 c fh1) (fk 1) := by
  unfold kernelRun0_A.sl.r_9
  simp only [a_v30, View.readAt_eq_ld, ldX, ldT, ldV, ldX', ldT', ldV', harg1.read_unread, harg5.read_unread] <;> rfl

theorem a_v61 : kernelRun0_A.sl.v61 (F := F) c arg19 fh2 = View.ld (kernelRun0_A.sl.dma0_2 c fh2) (rW (fk 1)) := by
  unfold kernelRun0_A.sl.v61
  exact rd_wholeW _ (fk 1) _

theorem a_r_13 : kernelRun0_A.sl.r_13 (F := F) c arg1 harg1 arg5 harg5 arg17 arg18 arg19 x0 x4 fh0 fh1 fh2 = k0_pay21 (Gc x0 x4 (kernelRun0_A.sl.dma0 c fh0) (fk 1)) (Gc x0 x4 (kernelRun0_A.sl.dma0_1 c fh1) (fk 1)) (View.ld (kernelRun0_A.sl.dma0_2 c fh2) (rW (fk 1))) := by
  unfold kernelRun0_A.sl.r_13
  simp only [a_r_8, a_r_9, a_v61] <;> rfl

theorem a_v79 : kernelRun0_A.sl.v79 (F := F) c arg19 fh2 = View.ld (kernelRun0_A.sl.dma0_2 c fh2) (rW (fk 2)) := by
  unfold kernelRun0_A.sl.v79
  exact rd_wholeW _ (fk 2) _

theorem a_r_16 : kernelRun0_A.sl.r_16 (F := F) c arg1 harg1 arg5 harg5 arg17 arg18 arg19 x0 x4 fh0 fh1 fh2 = Hc x0 x4 (kernelRun0_A.sl.dma0 c fh0) (kernelRun0_A.sl.dma0_1 c fh1) (kernelRun0_A.sl.dma0_2 c fh2) 3 := by
  unfold kernelRun0_A.sl.r_16
  simp only [a_r_10, a_r_11, a_r_12, a_r_13, a_v79] <;> rfl

theorem a_v84 : kernelRun0_A.sl.v84 (F := F) c arg18 fh1 = View.ld (kernelRun0_A.sl.dma0_1 c fh1) (rW (fk 4)) := by
  unfold kernelRun0_A.sl.v84
  exact rd_wholeW _ (fk 4) _

theorem a_r_18 : kernelRun0_A.sl.r_18 (F := F) c arg1 harg1 arg5 harg5 arg18 x0 x4 fh1 = Gc x0 x4 (kernelRun0_A.sl.dma0_1 c fh1) (fk 4) := by
  unfold kernelRun0_A.sl.r_18
  simp only [a_r_5, a_v84] <;> rfl

theorem a_r_19 : kernelRun0_A.sl.r_19 (F := F) c arg1 harg1 arg5 harg5 arg17 x0 x4 fh0 = logistic (Gc x0 x4 (kernelRun0_A.sl.dma0 c fh0) (fk 3)) := by
  unfold kernelRun0_A.sl.r_19
  simp only [a_r_5, a_v64] <;> rfl

theorem a_v97 : kernelRun0_A.sl.v97 (F := F) c arg19 fh2 = View.ld (kernelRun0_A.sl.dma0_2 c fh2) (rW (fk 3)) := by
  unfold kernelRun0_A.sl.v97
  exact rd_wholeW _ (fk 3) _

theorem a_v115 : kernelRun0_A.sl.v115 (F := F) c arg19 fh2 = View.ld (kernelRun0_A.sl.dma0_2 c fh2) (rW (fk 4)) := by
  unfold kernelRun0_A.sl.v115
  exact rd_wholeW _ (fk 4) _

theorem a_r_22 : kernelRun0_A.sl.r_22 (F := F) c arg1 harg1 arg5 harg5 arg17 arg18 arg19 x0 x4 fh0 fh1 fh2 = Hc x0 x4 (kernelRun0_A.sl.dma0 c fh0) (kernelRun0_A.sl.dma0_1 c fh1) (kernelRun0_A.sl.dma0_2 c fh2) 5 := by
  unfold kernelRun0_A.sl.r_22
  simp only [a_r_14, a_r_15, a_r_16, a_r_17, a_r_18, a_r_19, a_v97, a_v115] <;> rfl

theorem a_v133 : kernelRun0_A.sl.v133 (F := F) c arg19 fh2 = View.ld (kernelRun0_A.sl.dma0_2 c fh2) (rW (fk 5)) := by
  unfold kernelRun0_A.sl.v133
  exact rd_wholeW _ (fk 5) _

theorem a_r_25 : kernelRun0_A.sl.r_25 (F := F) c arg1 harg1 arg5 harg5 arg17 arg18 arg19 x0 x4 fh0 fh1 fh2 = Hc x0 x4 (kernelRun0_A.sl.dma0 c fh0) (kernelRun0_A.sl.dma0_1 c fh1) (kernelRun0_A.sl.dma0_2 c fh2) 6 := by
  unfold kernelRun0_A.sl.r_25
  simp only [a_r_20, a_r_21, a_r_22, a_v133] <;> rfl

theorem a_v138 : kernelRun0_A.sl.v138 (F := F) c arg18 fh1 = View.ld (kernelRun0_A.sl.dma0_1 c fh1) (rW (fk 7)) := by
  unfold kernelRun0_A.sl.v138
  exact rd_wholeW _ (fk 7) _

theorem a_r_27 : kernelRun0_A.sl.r_27 (F := F) c arg1 harg1 arg5 harg5 arg18 x0 x4 fh1 = Gc x0 x4 (kernelRun0_A.sl.dma0_1 c fh1) (fk 7) := by
  unfold kernelRun0_A.sl.r_27
  simp only [a_r_5, a_v138] <;> rfl

theorem a_v120 : kernelRun0_A.sl.v120 (F := F) c arg18 fh1 = View.ld (kernelRun0_A.sl.dma0_1 c fh1) (rW (fk 6)) := by
  unfold kernelRun0_A.sl.v120
  exact rd_wholeW _ (fk 6) _

theorem a_r_24 : kernelRun0_A.sl.r_24 (F := F) c arg1 harg1 arg5 harg5 arg18 x0 x4 fh1 = Gc x0 x4 (kernelRun0_A.sl.dma0_1 c fh1) (fk 6) := by
  unfold kernelRun0_A.sl.r_24
  simp only [a_r_5, a_v120] <;> rfl

theorem a_v151 : kernelRun0_A.sl.v151 (F := F) c arg19 fh2 = View.ld (kernelRun0_A.sl.dma0_2 c fh2) (rW (fk 6)) := by
  unfold kernelRun0_A.sl.v151
  exact rd_wholeW _ (fk 6) _

theorem a_r_28 : kernelRun0_A.sl.r_28 (F := F) c arg1 harg1 arg5 harg5 arg17 arg18 arg19 x0 x4 fh0 fh1 fh2 = k0_pay21 (Gc x0 x4 (kernelRun0_A.sl.dma0 c fh0) (fk 6)) (Gc x0 x4 (kernelRun0_A.sl.dma0_1 c fh1) (fk 6)) (View.ld (kernelRun0_A.sl.dma0_2 c fh2) (rW (fk 6))) := by
  unfold kernelRun0_A.sl.r_28
  simp only [a_r_23, a_r_24, a_v151] <;> rfl

theorem a_v169 : kernelRun0_A.sl.v169 (F := F) c arg19 fh2 = View.ld (kernelRun0_A.sl.dma0_2 c fh2) (rW (fk 7)) := by
  unfold kernelRun0_A.sl.v169
  exact rd_wholeW _ (fk 7) _

theorem a_r_31 : kernelRun0_A.sl.r_31 (F := F) c arg1 harg1 arg5 harg5 arg17 arg18 arg19 x0 x4 fh0 fh1 fh2 = Hc x0 x4 (kernelRun0_A.sl.dma0 c fh0) (kernelRun0_A.sl.dma0_1 c fh1) (kernelRun0_A.sl.dma0_2 c fh2) 8 := by
  unfold kernelRun0_A.sl.r_31
  simp only [a_r_25, a_r_26, a_r_27, a_r_28, a_v169] <;> rfl

theorem a_v174 : kernelRun0_A.sl.v174 (F := F) c arg18 fh1 = View.ld (kernelRun0_A.sl.dma0_1 c fh1) (rW (fk 9)) := by
  unfold kernelRun0_A.sl.v174
  exact rd_wholeW _ (fk 9) _

theorem a_r_33 : kernelRun0_A.sl.r_33 (F := F) c arg1 harg1 arg5 harg5 arg18 x0 x4 fh1 = Gc x0 x4 (kernelRun0_A.sl.dma0_1 c fh1) (fk 9) := by
  unfold kernelRun0_A.sl.r_33
  simp only [a_r_5, a_v174] <;> rfl

theorem a_r_34 : kernelRun0_A.sl.r_34 (F := F) c arg1 harg1 arg5 harg5 arg17 x0 x4 fh0 = logistic (Gc x0 x4 (kernelRun0_A.sl.dma0 c fh0) (fk 8)) := by
  unfold kernelRun0_A.sl.r_34
  simp only [a_r_5, a_v154] <;> rfl

theorem a_v187 : kernelRun0_A.sl.v187 (F := F) c arg19 fh2 = View.ld (kernelRun0_A.sl.dma0_2 c fh2) (rW (fk 8)) := by
  unfold kernelRun0_A.sl.v187
  exact rd_wholeW _ (fk 8) _

theorem a_v205 : kernelRun0_A.sl.v205 (F := F) c arg19 fh2 = View.ld (kernelRun0_A.sl.dma0_2 c fh2) (rW (fk 9)) := by
  unfold kernelRun0_A.sl.v205
  exact rd_wholeW _ (fk 9) _

theorem a_r_37 : kernelRun0_A.sl.r_37 (F := F) c arg1 harg1 arg5 harg5 arg17 arg18 arg19 x0 x4 fh0 fh1 fh2 = Hc x0 x4 (kernelRun0_A.sl.dma0 c fh0) (kernelRun0_A.sl.dma0_1 c fh1) (kernelRun0_A.sl.dma0_2 c fh2) 10 := by
  unfold kernelRun0_A.sl.r_37
  simp only [a_r_29, a_r_30, a_r_31, a_r_32, a_r_33, a_r_34, a_v187, a_v205] <;> rfl

theorem a_r_39 : kernelRun0_A.sl.r_39 (F := F) c arg1 harg1 arg5 harg5 arg17 arg18 arg19 x0 x4 fh0 fh1 fh2 = Hc x0 x4 (kernelRun0_A.sl.dma0 c fh0) (kernelRun0_A.sl.dma0_1 c fh1) (kernelRun0_A.sl.dma0_2 c fh2) 11 := by
  unfold kernelRun0_A.sl.r_39
  simp only [a_r_35, a_r_36, a_r_37, a_v219] <;> rfl

theorem a_r_40 : kernelRun0_A.sl.r_40 (F := F) c arg6 harg6 x5 = x5 := by
  unfold kernelRun0_A.sl.r_40
  simp only [View.readAt_eq_ld, ldX, ldT, ldV, ldX', ldT', ldV', harg6.read_unread] <;> rfl

theorem a_r_41 : kernelRun0_A.sl.r_41 (F := F) c arg1 harg1 arg5 harg5 arg17 arg18 arg19 x0 x4 fh0 fh1 fh2 = k0_pay4 (Hc x0 x4 (kernelRun0_A.sl.dma0 c fh0) (kernelRun0_A.sl.dma0_1 c fh1) (kernelRun0_A.sl.dma0_2 c fh2) 11) := by
  unfold kernelRun0_A.sl.r_41
  simp only [a_r_35, a_r_36, a_r_37, a_v219] <;> rfl

theorem a_r_42 : kernelRun0_A.sl.r_42 (F := F) c arg1 harg1 arg5 harg5 arg17 arg18 arg19 x0 x4 fh0 fh1 fh2 = k0_pay5 (Hc x0 x4 (kernelRun0_A.sl.dma0 c fh0) (kernelRun0_A.sl.dma0_1 c fh1) (kernelRun0_A.sl.dma0_2 c fh2) 11) := by
  unfold kernelRun0_A.sl.r_42
  simp only [a_r_35, a_r_36, a_r_37, a_v219] <;> rfl

theorem a_r_44 : kernelRun0_A.sl.r_44 (F := F) c arg1 harg1 arg2 harg2 arg3 harg3 arg4 harg4 arg5 harg5 arg6 harg6 arg17 arg18 arg19 x0 x1 x2 x3 x4 x5 fh0 fh1 fh2 = odV (Hc x0 x4 (kernelRun0_A.sl.dma0 c fh0) (kernelRun0_A.sl.dma0_1 c fh1) (kernelRun0_A.sl.dma0_2 c fh2) 11) x5 x1 x2 x3 := by
  unfold kernelRun0_A.sl.r_44
  simp only [a_r_35, a_r_36, a_r_37, a_v219, View.readAt_eq_ld, ldX, ldT, ldV, ldX', ldT', ldV', harg6.read_unread, harg2.read_unread, harg3.read_unread, harg4.read_unread] <;> rfl

theorem a_r_45 : kernelRun0_A.sl.r_45 i = k0_pay79 (BitVec.ofNat 32 (i 0)) := by
  unfold kernelRun0_A.sl.r_45
  rfl

theorem a_r_50 : kernelRun0_A.sl.r_50 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 0) := by
  unfold kernelRun0_A.sl.r_50
  simp only [a_r_39, a_r_40, a_r_41, a_r_42, a_r_44, a_r_45, a_v43] <;> rfl

theorem a_v289 : kernelRun0_A.sl.v289 (F := F) c arg1 harg1 arg5 harg5 arg17 arg21 x0 x4 fh0 = GLc x0 x4 (kernelRun0_A.sl.dma0 c fh0) (fk 0) := by
  unfold kernelRun0_A.sl.v289
  rw [a_HS3_11]
  exact rd_tiles _ _ (fk 0)

theorem a_r_52 : kernelRun0_A.sl.r_52 (F := F) c arg1 harg1 arg5 harg5 arg17 arg21 x0 x4 fh0 = logistic (GLc x0 x4 (kernelRun0_A.sl.dma0 c fh0) (fk 0)) := by
  unfold kernelRun0_A.sl.r_52
  simp only [a_v289] <;> rfl

theorem a_r_38 : kernelRun0_A.sl.r_38 (F := F) c arg1 harg1 arg5 harg5 arg18 x0 x4 fh1 = GLc x0 x4 (kernelRun0_A.sl.dma0_1 c fh1) (fk 10) := by
  unfold kernelRun0_A.sl.r_38
  simp only [a_r_5, a_v192] <;> rfl

theorem a_HS4_11 : kernelRun0_A.sl.HS4_11 (F := F) c arg1 harg1 arg5 harg5 arg18 x0 x4 fh1 = tiles (GLc x0 x4 (kernelRun0_A.sl.dma0_1 c fh1)) := by
  unfold kernelRun0_A.sl.HS4_11
  simp only [a_r_38, a_r_33, a_r_5, a_v156, a_r_27, a_r_24, a_r_21, a_r_18, a_v66, a_r_12, a_r_9, a_r_7] <;> rfl

theorem a_v290 : kernelRun0_A.sl.v290 (F := F) c arg1 harg1 arg5 harg5 arg18 arg22 x0 x4 fh1 = GLc x0 x4 (kernelRun0_A.sl.dma0_1 c fh1) (fk 0) := by
  unfold kernelRun0_A.sl.v290
  rw [a_HS4_11]
  exact rd_tiles _ _ (fk 0)

theorem a_r_53 : kernelRun0_A.sl.r_53 (F := F) c i arg1 harg1 arg2 harg2 arg3 harg3 arg4 harg4 arg5 harg5 arg6 harg6 arg17 arg18 arg19 arg22 x0 x1 x2 x3 x4 x5 fh0 fh1 fh2 = mulf (DAc x0 x1 x2 x3 x4 x5 (kernelRun0_A.sl.dma0 c fh0) (kernelRun0_A.sl.dma0_1 c fh1) (kernelRun0_A.sl.dma0_2 c fh2) (BitVec.ofNat 32 (i 0)) (fk 0)) (GLc x0 x4 (kernelRun0_A.sl.dma0_1 c fh1) (fk 0)) := by
  unfold kernelRun0_A.sl.r_53
  simp only [a_r_39, a_r_40, a_r_41, a_r_42, a_r_44, a_r_45, a_v43, a_v290] <;> rfl

theorem a_r_54 : kernelRun0_A.sl.r_54 (F := F) c i arg1 harg1 arg2 harg2 arg3 harg3 arg4 harg4 arg5 harg5 arg6 harg6 arg17 arg18 arg19 arg21 arg22 x0 x1 x2 x3 x4 x5 fh0 fh1 fh2 = dxS x0 x1 x2 x3 x4 x5 (kernelRun0_A.sl.dma0 c fh0) (kernelRun0_A.sl.dma0_1 c fh1) (kernelRun0_A.sl.dma0_2 c fh2) (BitVec.ofNat 32 (i 0)) (fk 0) := by
  unfold kernelRun0_A.sl.r_54
  simp only [a_r_50, a_v289, a_r_52, a_r_53, a_v24, a_v26] <;> rfl

theorem a_r_51 : kernelRun0_A.sl.r_51 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 1) := by
  unfold kernelRun0_A.sl.r_51
  simp only [a_r_39, a_r_40, a_r_41, a_r_42, a_r_44, a_r_45, a_v61] <;> rfl

theorem a_v313 : kernelRun0_A.sl.v313 (F := F) c arg1 harg1 arg5 harg5 arg17 arg21 x0 x4 fh0 = GLc x0 x4 (kernelRun0_A.sl.dma0 c fh0) (fk 1) := by
  unfold kernelRun0_A.sl.v313
  rw [a_HS3_11]
  exact rd_tiles _ _ (fk 1)

theorem a_v314 : kernelRun0_A.sl.v314 (F := F) c arg1 harg1 arg5 harg5 arg18 arg22 x0 x4 fh1 = GLc x0 x4 (kernelRun0_A.sl.dma0_1 c fh1) (fk 1) := by
  unfold kernelRun0_A.sl.v314
  rw [a_HS4_11]
  exact rd_tiles _ _ (fk 1)

theorem a_r_56 : kernelRun0_A.sl.r_56 (F := F) c i arg1 harg1 arg2 harg2 arg3 harg3 arg4 harg4 arg5 harg5 arg6 harg6 arg17 arg18 arg19 arg21 arg22 x0 x1 x2 x3 x4 x5 fh0 fh1 fh2 = DGc x0 x1 x2 x3 x4 x5 (kernelRun0_A.sl.dma0 c fh0) (kernelRun0_A.sl.dma0_1 c fh1) (kernelRun0_A.sl.dma0_2 c fh2) (BitVec.ofNat 32 (i 0)) (fk 1) := by
  unfold kernelRun0_A.sl.r_56
  simp only [a_r_51, a_v313, a_v314] <;> rfl

theorem a_r_57 : kernelRun0_A.sl.r_57 (F := F) c i arg1 harg1 arg2 harg2 arg3 harg3 arg4 harg4 arg5 harg5 arg6 harg6 arg17 arg18 arg19 arg21 x0 x1 x2 x3 x4 x5 fh0 fh1 fh2 = DUc x0 x1 x2 x3 x4 x5 (kernelRun0_A.sl.dma0 c fh0) (kernelRun0_A.sl.dma0_1 c fh1) (kernelRun0_A.sl.dma0_2 c fh2) (BitVec.ofNat 32 (i 0)) (fk 1) := by
  unfold kernelRun0_A.sl.r_57
  simp only [a_r_51, a_v313] <;> rfl

theorem a_r_58 : kernelRun0_A.sl.r_58 (F := F) c i arg1 harg1 arg2 harg2 arg3 harg3 arg4 harg4 arg5 harg5 arg6 harg6 arg17 arg18 arg19 arg21 arg22 x0 x1 x2 x3 x4 x5 fh0 fh1 fh2 = Pc x0 x1 x2 x3 x4 x5 (kernelRun0_A.sl.dma0 c fh0) (kernelRun0_A.sl.dma0_1 c fh1) (kernelRun0_A.sl.dma0_2 c fh2) (BitVec.ofNat 32 (i 0)) 1 := by
  unfold kernelRun0_A.sl.r_58
  simp only [a_r_54, a_r_56, a_r_57, a_v28, a_v30] <;> rfl

theorem a_r_49 : kernelRun0_A.sl.r_49 (F := F) c i arg1 harg1 arg2 harg2 arg3 harg3 arg4 harg4 arg5 harg5 arg6 harg6 arg17 arg18 arg19 x0 x1 x2 x3 x4 x5 fh0 fh1 fh2 = D2b x0 x1 x2 x3 x4 x5 (kernelRun0_A.sl.dma0 c fh0) (kernelRun0_A.sl.dma0_1 c fh1) (kernelRun0_A.sl.dma0_2 c fh2) (BitVec.ofNat 32 (i 0)) := by
  unfold kernelRun0_A.sl.r_49
  simp only [a_r_39, a_r_40, a_r_41, a_r_42, a_r_44, a_r_45] <;> rfl

theorem a_r_59 : kernelRun0_A.sl.r_59 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 3) := by
  unfold kernelRun0_A.sl.r_59
  simp only [a_r_49, a_v97] <;> rfl

theorem a_r_55 : kernelRun0_A.sl.r_55 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 2) := by
  unfold kernelRun0_A.sl.r_55
  simp only [a_r_49, a_v79] <;> rfl

theorem a_v338 : kernelRun0_A.sl.v338 (F := F) c arg1 harg1 arg5 harg5 arg17 arg21 x0 x4 fh0 = GLc x0 x4 (kernelRun0_A.sl.dma0 c fh0) (fk 2) := by
  unfold kernelRun0_A.sl.v338
  rw [a_HS3_11]
  exact rd_tiles _ _ (fk 2)

theorem a_r_60 : kernelRun0_A.sl.r_60 (F := F) c i arg1 harg1 arg2 harg2 arg3 harg3 arg4 harg4 arg5 harg5 arg6 harg6 arg17 arg18 arg19 arg21 x0 x1 x2 x3 x4 x5 fh0 fh1 fh2 = DUc x0 x1 x2 x3 x4 x5 (kernelRun0_A.sl.dma0 c fh0) (kernelRun0_A.sl.dma0_1 c fh1) (kernelRun0_A.sl.dma0_2 c fh2) (BitVec.ofNat 32 (i 0)) (fk 2) := by
  unfold kernelRun0_A.sl.r_60
  simp only [a_r_55, a_v338] <;> rfl

theorem a_v339 : kernelRun0_A.sl.v339 (F := F) c arg1 harg1 arg5 harg5 arg18 arg22 x0 x4 fh1 = GLc x0 x4 (kernelRun0_A.sl.dma0_1 c fh1) (fk 2) := by
  unfold kernelRun0_A.sl.v339
  rw [a_HS4_11]
  exact rd_tiles _ _ (fk 2)

theorem a_r_61 : kernelRun0_A.sl.r_61 (F := F) c i arg1 harg1 arg2 harg2 arg3 harg3 arg4 harg4 arg5 harg5 arg6 harg6 arg17 arg18 arg19 arg21 arg22 x0 x1 x2 x3 x4 x5 fh0 fh1 fh2 = matmul dot_S384x256_S256x1024_S384x1024_1_0_0_1_n_n none (DGc x0 x1 x2 x3 x4 x5 (kernelRun0_A.sl.dma0 c fh0) (kernelRun0_A.sl.dma0_1 c fh1) (kernelRun0_A.sl.dma0_2 c fh2) (BitVec.ofNat 32 (i 0)) (fk 2)) (View.ld (kernelRun0_A.sl.dma0 c fh0) (rW (fk 2))) (constant S384x1024 .f32 0x00000000#32) := by
  unfold kernelRun0_A.sl.r_61
  simp only [a_r_55, a_v338, a_v339, a_v46] <;> rfl

theorem a_v363 : kernelRun0_A.sl.v363 (F := F) c arg1 harg1 arg5 harg5 arg17 arg21 x0 x4 fh0 = GLc x0 x4 (kernelRun0_A.sl.dma0 c fh0) (fk 3) := by
  unfold kernelRun0_A.sl.v363
  rw [a_HS3_11]
  exact rd_tiles _ _ (fk 3)

theorem a_v364 : kernelRun0_A.sl.v364 (F := F) c arg1 harg1 arg5 harg5 arg18 arg22 x0 x4 fh1 = GLc x0 x4 (kernelRun0_A.sl.dma0_1 c fh1) (fk 3) := by
  unfold kernelRun0_A.sl.v364
  rw [a_HS4_11]
  exact rd_tiles _ _ (fk 3)

theorem a_r_63 : kernelRun0_A.sl.r_63 (F := F) c i arg1 harg1 arg2 harg2 arg3 harg3 arg4 harg4 arg5 harg5 arg6 harg6 arg17 arg18 arg19 arg21 arg22 x0 x1 x2 x3 x4 x5 fh0 fh1 fh2 = Pc x0 x1 x2 x3 x4 x5 (kernelRun0_A.sl.dma0 c fh0) (kernelRun0_A.sl.dma0_1 c fh1) (kernelRun0_A.sl.dma0_2 c fh2) (BitVec.ofNat 32 (i 0)) 3 := by
  unfold kernelRun0_A.sl.r_63
  simp only [a_r_58, a_r_59, a_r_60, a_r_61, a_v48, a_v363, a_v364, a_v64, a_v66] <;> rfl

theorem a_r_4 : kernelRun0_A.sl.r_4 (F := F) c arg1 harg1 x0 = k0_pay6 x0 := by
  unfold kernelRun0_A.sl.r_4
  simp only [View.readAt_eq_ld, ldX, ldT, ldV, ldX', ldT', ldV', harg1.read_unread] <;> rfl

theorem a_v489 : kernelRun0_A.sl.v489 (F := F) c arg1 harg1 arg5 harg5 arg18 arg22 x0 x4 fh1 = GLc x0 x4 (kernelRun0_A.sl.dma0_1 c fh1) (fk 8) := by
  unfold kernelRun0_A.sl.v489
  rw [a_HS4_11]
  exact rd_tiles _ _ (fk 8)

theorem a_v536 : kernelRun0_A.sl.v536 (F := F) c arg1 harg1 arg5 harg5 arg17 arg21 x0 x4 fh0 = GLc x0 x4 (kernelRun0_A.sl.dma0 c fh0) (fk 10) := by
  unfold kernelRun0_A.sl.v536
  rw [a_HS3_11]
  exact rd_tiles _ _ (fk 10)

theorem a_r_43 : kernelRun0_A.sl.r_43 (F := F) c arg1 harg1 arg5 harg5 arg17 arg18 arg19 x0 x4 fh0 fh1 fh2 = k0_pay6 (Hc x0 x4 (kernelRun0_A.sl.dma0 c fh0) (kernelRun0_A.sl.dma0_1 c fh1) (kernelRun0_A.sl.dma0_2 c fh2) 11) := by
  unfold kernelRun0_A.sl.r_43
  simp only [a_r_35, a_r_36, a_r_37, a_v219] <;> rfl

theorem a_r_47 : kernelRun0_A.sl.r_47 (F := F) c i arg1 harg1 arg2 harg2 arg3 harg3 arg4 harg4 arg5 harg5 arg6 harg6 arg17 arg18 arg19 x0 x1 x2 x3 x4 x5 fh0 fh1 fh2 = k0_pay84 (k0_pay6 (Hc x0 x4 (kernelRun0_A.sl.dma0 c fh0) (kernelRun0_A.sl.dma0_1 c fh1) (kernelRun0_A.sl.dma0_2 c fh2) 11)) (odV (Hc x0 x4 (kernelRun0_A.sl.dma0 c fh0) (kernelRun0_A.sl.dma0_1 c fh1) (kernelRun0_A.sl.dma0_2 c fh2) 11) x5 x1 x2 x3) (k0_pay79 (BitVec.ofNat 32 (i 0))) k0_pay80 := by
  unfold kernelRun0_A.sl.r_47
  simp only [a_r_43, a_r_44, a_r_45] <;> rfl

theorem a_v587 : kernelRun0_A.sl.v587 (F := F) c i arg1 harg1 arg2 harg2 arg3 harg3 arg4 harg4 arg5 harg5 arg6 harg6 arg16 arg17 arg18 arg19 arg21 arg22 x0 x1 x2 x3 x4 x5 fh0 fh1 fh2 = View.ld (k0_pay2 (F := F)) (rA 1) := by
  unfold kernelRun0_A.sl.v587
  unfold kernelRun0_A.sl.H12_2 kernelRun0_A.sl.H12_1
  exact (rdA_skip _ 1 0 (by decide) _ _).trans (rdA_whole _ 1 _ _)

theorem a_r_84 : kernelRun0_A.sl.r_84 (F := F) c i arg1 harg1 arg2 harg2 arg3 harg3 arg4 harg4 arg5 harg5 arg6 harg6 arg16 arg17 arg18 arg19 arg21 arg22 x0 x1 x2 x3 x4 x5 fh0 fh1 fh2 = k0_pay148 (k0_pay84 (k0_pay6 (Hc x0 x4 (kernelRun0_A.sl.dma0 c fh0) (kernelRun0_A.sl.dma0_1 c fh1) (kernelRun0_A.sl.dma0_2 c fh2) 11)) (odV (Hc x0 x4 (kernelRun0_A.sl.dma0 c fh0) (kernelRun0_A.sl.dma0_1 c fh1) (kernelRun0_A.sl.dma0_2 c fh2) 11) x5 x1 x2 x3) (k0_pay79 (BitVec.ofNat 32 (i 0))) k0_pay80) (View.ld (k0_pay2 (F := F)) (rA 1)) := by
  unfold kernelRun0_A.sl.r_84
  simp only [a_r_47, a_v587] <;> rfl

theorem a_r_64 : kernelRun0_A.sl.r_64 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 5) := by
  unfold kernelRun0_A.sl.r_64
  simp only [a_r_49, a_v133] <;> rfl

theorem a_r_66 : kernelRun0_A.sl.r_66 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 6) := by
  unfold kernelRun0_A.sl.r_66
  simp only [a_r_49, a_v151] <;> rfl

theorem a_v438 : kernelRun0_A.sl.v438 (F := F) c arg1 harg1 arg5 harg5 arg17 arg21 x0 x4 fh0 = GLc x0 x4 (kernelRun0_A.sl.dma0 c fh0) (fk 6) := by
  unfold kernelRun0_A.sl.v438
  rw [a_HS3_11]
  exact rd_tiles _ _ (fk 6)

theorem a_v439 : kernelRun0_A.sl.v439 (F := F) c arg1 harg1 arg5 harg5 arg18 arg22 x0 x4 fh1 = GLc x0 x4 (kernelRun0_A.sl.dma0_1 c fh1) (fk 6) := by
  unfold kernelRun0_A.sl.v439
  rw [a_HS4_11]
  exact rd_tiles _ _ (fk 6)

theorem a_r_71 : kernelRun0_A.sl.r_71 (F := F) c i arg1 harg1 arg2 harg2 arg3 harg3 arg4 harg4 arg5 harg5 arg6 harg6 arg17 arg18 arg19 arg21 arg22 x0 x1 x2 x3 x4 x5 fh0 fh1 fh2 = DGc x0 x1 x2 x3 x4 x5 (kernelRun0_A.sl.dma0 c fh0) (kernelRun0_A.sl.dma0_1 c fh1) (kernelRun0_A.sl.dma0_2 c fh2) (BitVec.ofNat 32 (i 0)) (fk 6) := by
  unfold kernelRun0_A.sl.r_71
  simp only [a_r_66, a_v438, a_v439] <;> rfl

theorem a_r_3 : kernelRun0_A.sl.r_3 (F := F) c arg1 harg1 x0 = k0_pay5 x0 := by
  unfold kernelRun0_A.sl.r_3
  simp only [View.readAt_eq_ld, ldX, ldT, ldV, ldX', ldT', ldV', harg1.read_unread] <;> rfl

theorem a_r_1 : kernelRun0_A.sl.r_1 (F := F) c arg5 harg5 x4 = x4 := by
  unfold kernelRun0_A.sl.r_1
  simp only [View.readAt_eq_ld, ldX, ldT, ldV, ldX', ldT', ldV', harg5.read_unread] <;> rfl

theorem a_v537 : kernelRun0_A.sl.v537 (F := F) c arg1 harg1 arg5 harg5 arg18 arg22 x0 x4 fh1 = GLc x0 x4 (kernelRun0_A.sl.dma0_1 c fh1) (fk 10) := by
  unfold kernelRun0_A.sl.v537
  rw [a_HS4_11]
  exact rd_tiles _ _ (fk 10)

theorem a_v488 : kernelRun0_A.sl.v488 (F := F) c arg1 harg1 arg5 harg5 arg17 arg21 x0 x4 fh0 = GLc x0 x4 (kernelRun0_A.sl.dma0 c fh0) (fk 8) := by
  unfold kernelRun0_A.sl.v488
  rw [a_HS3_11]
  exact rd_tiles _ _ (fk 8)

theorem a_r_62 : kernelRun0_A.sl.r_62 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 4) := by
  unfold kernelRun0_A.sl.r_62
  simp only [a_r_49, a_v115] <;> rfl

theorem a_v388 : kernelRun0_A.sl.v388 (F := F) c arg1 harg1 arg5 harg5 arg17 arg21 x0 x4 fh0 = GLc x0 x4 (kernelRun0_A.sl.dma0 c fh0) (fk 4) := by
  unfold kernelRun0_A.sl.v388
  rw [a_HS3_11]
  exact rd_tiles _ _ (fk 4)

theorem a_v389 : kernelRun0_A.sl.v389 (F := F) c arg1 harg1 arg5 harg5 arg18 arg22 x0 x4 fh1 = GLc x0 x4 (kernelRun0_A.sl.dma0_1 c fh1) (fk 4) := by
  unfold kernelRun0_A.sl.v389
  rw [a_HS4_11]
  exact rd_tiles _ _ (fk 4)

theorem a_r_65 : kernelRun0_A.sl.r_65 (F := F) c i arg1 harg1 arg2 harg2 arg3 harg3 arg4 harg4 arg5 harg5 arg6 harg6 arg17 arg18 arg19 arg21 arg22 x0 x1 x2 x3 x4 x5 fh0 fh1 fh2 = Pc x0 x1 x2 x3 x4 x5 (kernelRun0_A.sl.dma0 c fh0) (kernelRun0_A.sl.dma0_1 c fh1) (kernelRun0_A.sl.dma0_2 c fh2) (BitVec.ofNat 32 (i 0)) 4 := by
  unfold kernelRun0_A.sl.r_65
  simp only [a_r_62, a_r_63, a_v388, a_v389, a_v82, a_v84] <;> rfl

theorem a_v413 : kernelRun0_A.sl.v413 (F := F) c arg1 harg1 arg5 harg5 arg17 arg21 x0 x4 fh0 = GLc x0 x4 (kernelRun0_A.sl.dma0 c fh0) (fk 5) := by
  unfold kernelRun0_A.sl.v413
  rw [a_HS3_11]
  exact rd_tiles _ _ (fk 5)

theorem a_v414 : kernelRun0_A.sl.v414 (F := F) c arg1 harg1 arg5 harg5 arg18 arg22 x0 x4 fh1 = GLc x0 x4 (kernelRun0_A.sl.dma0_1 c fh1) (fk 5) := by
  unfold kernelRun0_A.sl.v414
  rw [a_HS4_11]
  exact rd_tiles _ _ (fk 5)

theorem a_r_67 : kernelRun0_A.sl.r_67 (F := F) c i arg1 harg1 arg2 harg2 arg3 harg3 arg4 harg4 arg5 harg5 arg6 harg6 arg17 arg18 arg19 arg21 arg22 x0 x1 x2 x3 x4 x5 fh0 fh1 fh2 = DGc x0 x1 x2 x3 x4 x5 (kernelRun0_A.sl.dma0 c fh0) (kernelRun0_A.sl.dma0_1 c fh1) (kernelRun0_A.sl.dma0_2 c fh2) (BitVec.ofNat 32 (i 0)) (fk 5) := by
  unfold kernelRun0_A.sl.r_67
  simp only [a_r_64, a_v413, a_v414] <;> rfl

theorem a_r_68 : kernelRun0_A.sl.r_68 (F := F) c arg1 harg1 arg5 harg5 arg17 arg21 x0 x4 fh0 = mulf (GLc x0 x4 (kernelRun0_A.sl.dma0 c fh0) (fk 5)) (logistic (GLc x0 x4 (kernelRun0_A.sl.dma0 c fh0) (fk 5))) := by
  unfold kernelRun0_A.sl.r_68
  simp only [a_v413] <;> rfl

theorem a_r_69 : kernelRun0_A.sl.r_69 (F := F) c i arg1 harg1 arg2 harg2 arg3 harg3 arg4 harg4 arg5 harg5 arg6 harg6 arg17 arg18 arg19 arg21 arg22 x0 x1 x2 x3 x4 x5 fh0 fh1 fh2 = Pc x0 x1 x2 x3 x4 x5 (kernelRun0_A.sl.dma0 c fh0) (kernelRun0_A.sl.dma0_1 c fh1) (kernelRun0_A.sl.dma0_2 c fh2) (BitVec.ofNat 32 (i 0)) 5 := by
  unfold kernelRun0_A.sl.r_69
  simp only [a_r_64, a_r_65, a_r_67, a_r_68, a_v100, a_v102] <;> rfl

theorem a_r_70 : kernelRun0_A.sl.r_70 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 7) := by
  unfold kernelRun0_A.sl.r_70
  simp only [a_r_49, a_v169] <;> rfl

theorem a_r_72 : kernelRun0_A.sl.r_72 (F := F) c i arg1 harg1 arg2 harg2 arg3 harg3 arg4 harg4 arg5 harg5 arg6 harg6 arg17 arg18 arg19 arg21 x0 x1 x2 x3 x4 x5 fh0 fh1 fh2 = DUc x0 x1 x2 x3 x4 x5 (kernelRun0_A.sl.dma0 c fh0) (kernelRun0_A.sl.dma0_1 c fh1) (kernelRun0_A.sl.dma0_2 c fh2) (BitVec.ofNat 32 (i 0)) (fk 6) := by
  unfold kernelRun0_A.sl.r_72
  simp only [a_r_66, a_v438] <;> rfl

theorem a_v463 : kernelRun0_A.sl.v463 (F := F) c arg1 harg1 arg5 harg5 arg17 arg21 x0 x4 fh0 = GLc x0 x4 (kernelRun0_A.sl.dma0 c fh0) (fk 7) := by
  unfold kernelRun0_A.sl.v463
  rw [a_HS3_11]
  exact rd_tiles _ _ (fk 7)

theorem a_v464 : kernelRun0_A.sl.v464 (F := F) c arg1 harg1 arg5 harg5 arg18 arg22 x0 x4 fh1 = GLc x0 x4 (kernelRun0_A.sl.dma0_1 c fh1) (fk 7) := by
  unfold kernelRun0_A.sl.v464
  rw [a_HS4_11]
  exact rd_tiles _ _ (fk 7)

theorem a_r_74 : kernelRun0_A.sl.r_74 (F := F) c i arg1 harg1 arg2 harg2 arg3 harg3 arg4 harg4 arg5 harg5 arg6 harg6 arg17 arg18 arg19 arg21 arg22 x0 x1 x2 x3 x4 x5 fh0 fh1 fh2 = Pc x0 x1 x2 x3 x4 x5 (kernelRun0_A.sl.dma0 c fh0) (kernelRun0_A.sl.dma0_1 c fh1) (kernelRun0_A.sl.dma0_2 c fh2) (BitVec.ofNat 32 (i 0)) 7 := by
  unfold kernelRun0_A.sl.r_74 kernelRun0_A.sl.cst_318
  simp only [a_r_69, a_r_70, a_r_71, a_r_72, a_v118, a_v120, a_v463, a_v464, a_v136, a_v138] <;> rfl

theorem a_r_75 : kernelRun0_A.sl.r_75 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 9) := by
  unfold kernelRun0_A.sl.r_75
  simp only [a_r_49, a_v205] <;> rfl

theorem a_v514 : kernelRun0_A.sl.v514 (F := F) c arg1 harg1 arg5 harg5 arg18 arg22 x0 x4 fh1 = GLc x0 x4 (kernelRun0_A.sl.dma0_1 c fh1) (fk 9) := by
  unfold kernelRun0_A.sl.v514
  rw [a_HS4_11]
  exact rd_tiles _ _ (fk 9)

theorem a_r_79 : kernelRun0_A.sl.r_79 (F := F) c i arg1 harg1 arg2 harg2 arg3 harg3 arg4 harg4 arg5 harg5 arg6 harg6 arg17 arg18 arg19 arg22 x0 x1 x2 x3 x4 x5 fh0 fh1 fh2 = mulf (DAc x0 x1 x2 x3 x4 x5 (kernelRun0_A.sl.dma0 c fh0) (kernelRun0_A.sl.dma0_1 c fh1) (kernelRun0_A.sl.dma0_2 c fh2) (BitVec.ofNat 32 (i 0)) (fk 9)) (GLc x0 x4 (kernelRun0_A.sl.dma0_1 c fh1) (fk 9)) := by
  unfold kernelRun0_A.sl.r_79
  simp only [a_r_75, a_v514] <;> rfl

theorem a_r_73 : kernelRun0_A.sl.r_73 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 8) := by
  unfold kernelRun0_A.sl.r_73
  simp only [a_r_49, a_v187] <;> rfl

theorem a_r_76 : kernelRun0_A.sl.r_76 (F := F) c i arg1 harg1 arg2 harg2 arg3 harg3 arg4 harg4 arg5 harg5 arg6 harg6 arg17 arg18 arg19 arg21 arg22 x0 x1 x2 x3 x4 x5 fh0 fh1 fh2 = Pc x0 x1 x2 x3 x4 x5 (kernelRun0_A.sl.dma0 c fh0) (kernelRun0_A.sl.dma0_1 c fh1) (kernelRun0_A.sl.dma0_2 c fh2) (BitVec.ofNat 32 (i 0)) 8 := by
  unfold kernelRun0_A.sl.r_76
  simp only [a_r_73, a_r_74, a_v488, a_v489, a_v154, a_v156] <;> rfl

theorem a_r_80 : kernelRun0_A.sl.r_80 (F := F) c arg1 harg1 arg5 harg5 arg17 arg21 x0 x4 fh0 = gp (GLc x0 x4 (kernelRun0_A.sl.dma0 c fh0) (fk 9)) := by
  unfold kernelRun0_A.sl.r_80
  simp only [a_v513] <;> rfl

theorem a_r_81 : kernelRun0_A.sl.r_81 (F := F) c i arg1 harg1 arg2 harg2 arg3 harg3 arg4 harg4 arg5 harg5 arg6 harg6 arg17 arg18 arg19 arg21 arg22 x0 x1 x2 x3 x4 x5 fh0 fh1 fh2 = Pc x0 x1 x2 x3 x4 x5 (kernelRun0_A.sl.dma0 c fh0) (kernelRun0_A.sl.dma0_1 c fh1) (kernelRun0_A.sl.dma0_2 c fh2) (BitVec.ofNat 32 (i 0)) 9 := by
  unfold kernelRun0_A.sl.r_81
  simp only [a_r_75, a_r_76, a_v513, a_r_78, a_r_79, a_r_80, a_v172, a_v174] <;> rfl

theorem a_r_46 : kernelRun0_A.sl.r_46 (F := F) c i arg1 harg1 arg2 harg2 arg3 harg3 arg4 harg4 arg5 harg5 arg6 harg6 arg17 arg18 arg19 x0 x1 x2 x3 x4 x5 fh0 fh1 fh2 = k0_pay82 (odV (Hc x0 x4 (kernelRun0_A.sl.dma0 c fh0) (kernelRun0_A.sl.dma0_1 c fh1) (kernelRun0_A.sl.dma0_2 c fh2) 11) x5 x1 x2 x3) (k0_pay79 (BitVec.ofNat 32 (i 0))) k0_pay80 := by
  unfold kernelRun0_A.sl.r_46
  simp only [a_r_44, a_r_45] <;> rfl

theorem a_r_2 : kernelRun0_A.sl.r_2 (F := F) c arg1 harg1 x0 = k0_pay4 x0 := by
  unfold kernelRun0_A.sl.r_2
  simp only [View.readAt_eq_ld, ldX, ldT, ldV, ldX', ldT', ldV', harg1.read_unread] <;> rfl

theorem a_r_48 : kernelRun0_A.sl.r_48 (F := F) c i arg1 harg1 arg2 harg2 arg3 harg3 arg4 harg4 arg5 harg5 arg6 harg6 arg17 arg18 arg19 x0 x1 x2 x3 x4 x5 fh0 fh1 fh2 = D2v x0 x1 x2 x3 x4 x5 (kernelRun0_A.sl.dma0 c fh0) (kernelRun0_A.sl.dma0_1 c fh1) (kernelRun0_A.sl.dma0_2 c fh2) (BitVec.ofNat 32 (i 0)) := by
  unfold kernelRun0_A.sl.r_48
  simp only [a_r_39, a_r_40, a_r_41, a_r_42, a_r_44, a_r_45] <;> rfl

theorem a_r_77 : kernelRun0_A.sl.r_77 (F := F) c i arg1 harg1 arg2 harg2 arg3 harg3 arg4 harg4 arg5 harg5 arg6 harg6 arg17 arg18 arg19 x0 x1 x2 x3 x4 x5 fh0 fh1 fh2 = DAc x0 x1 x2 x3 x4 x5 (kernelRun0_A.sl.dma0 c fh0) (kernelRun0_A.sl.dma0_1 c fh1) (kernelRun0_A.sl.dma0_2 c fh2) (BitVec.ofNat 32 (i 0)) (fk 10) := by
  unfold kernelRun0_A.sl.r_77
  simp only [a_r_49, a_v219] <;> rfl

theorem a_r_82 : kernelRun0_A.sl.r_82 (F := F) c i arg1 harg1 arg2 harg2 arg3 harg3 arg4 harg4 arg5 harg5 arg6 harg6 arg17 arg18 arg19 arg21 x0 x1 x2 x3 x4 x5 fh0 fh1 fh2 = DUc x0 x1 x2 x3 x4 x5 (kernelRun0_A.sl.dma0 c fh0) (kernelRun0_A.sl.dma0_1 c fh1) (kernelRun0_A.sl.dma0_2 c fh2) (BitVec.ofNat 32 (i 0)) (fk 10) := by
  unfold kernelRun0_A.sl.r_82
  simp only [a_r_77, a_v536] <;> rfl

theorem a_v591 : kernelRun0_A.sl.v591 (F := F) c i arg1 harg1 arg2 harg2 arg3 harg3 arg4 harg4 arg5 harg5 arg6 harg6 arg16 arg17 arg18 arg19 arg21 arg22 x0 x1 x2 x3 x4 x5 fh0 fh1 fh2 = View.ld (k0_pay2 (F := F)) (rA 2) := by
  unfold kernelRun0_A.sl.v591
  unfold kernelRun0_A.sl.H12_3 kernelRun0_A.sl.H12_2 kernelRun0_A.sl.H12_1
  exact (rdA_skip _ 2 1 (by decide) _ _).trans ((rdA_skip _ 2 0 (by decide) _ _).trans (rdA_whole _ 2 _ _))

theorem a_v583 : kernelRun0_A.sl.v583 (F := F) c arg16 = View.ld (k0_pay2 (F := F)) (rA 0) := by
  unfold kernelRun0_A.sl.v583
  unfold kernelRun0_A.sl.H12_1
  exact rdA_whole _ 0 _ _

theorem a_r_83 : kernelRun0_A.sl.r_83 (F := F) c i arg1 harg1 arg2 harg2 arg3 harg3 arg4 harg4 arg5 harg5 arg6 harg6 arg17 arg18 arg19 arg21 arg22 x0 x1 x2 x3 x4 x5 fh0 fh1 fh2 = matmul dot_S384x256_S256x1024_S384x1024_1_0_0_1_n_n none (DGc x0 x1 x2 x3 x4 x5 (kernelRun0_A.sl.dma0 c fh0) (kernelRun0_A.sl.dma0_1 c fh1) (kernelRun0_A.sl.dma0_2 c fh2) (BitVec.ofNat 32 (i 0)) (fk 10)) (View.ld (kernelRun0_A.sl.dma0 c fh0) (rW (fk 10))) (constant S384x1024 .f32 0x00000000#32) := by
  unfold kernelRun0_A.sl.r_83
  simp only [a_r_77, a_v536, a_v537, a_v190] <;> rfl

end Cert.Ffn

end
-- ==== Proof.FfnOutA.lean ====
/- The stores of the feed-forward kernel in the case of the first grid point, in the vocabulary of `Proof/Ffn.lean`. -/
module

public import proofs.«01_k».proof.Proof.FfnWordsA
public import Idealize.ShloMosaic.Lib.VecWindow

@[expose] public section

set_option maxRecDepth 65536
set_option maxHeartbeats 2000000

noncomputable section

namespace Cert.Ffn

open Idealize.ShloMosaic Idealize.ShloMosaic.TcCoe
open Cert.Kernel2Ideal Cert.Kernel2Ideal.Gen

variable {F : FTy → Type} [FloatOps F]
variable {c : Dev nD} {i : grid0.Coords} {arg1 : Memref sig .tc .vmem S384x1024 .f32} {harg1 : arg1.IsWhole} {arg2 : Memref sig .tc .vmem S128x1024 .f32} {harg2 : arg2.IsWhole} {arg3 : Memref sig .tc .vmem S128x1024 .f32} {harg3 : arg3.IsWhole} {arg4 : Memref sig .tc .vmem S128x1024 .f32} {harg4 : arg4.IsWhole} {arg5 : Memref sig .tc .vmem S1x1024 .f32} {harg5 : arg5.IsWhole} {arg6 : Memref sig .tc .vmem S1x1024 .f32} {harg6 : arg6.IsWhole} {arg10 : Memref sig .tc .vmem S384x1024 .f32} {harg10 : arg10.IsWhole} {arg11 : Memref sig .tc .vmem S384x1024 .bf16} {harg11 : arg11.IsWhole} {arg12 : Memref sig .tc .vmem S384x2816 .bf16} {harg12 : arg12.IsWhole} {arg13 : Memref sig .tc .vmem S384x2816 .bf16} {harg13 : arg13.IsWhole} {arg14 : Memref sig .tc .vmem S384x2816 .bf16} {harg14 : arg14.IsWhole} {arg15 : Memref sig .tc .vmem S384x1024 .bf16} {harg15 : arg15.IsWhole} {arg16 : Memref sig .tc .vmem S8x1024 .f32} {harg16 : arg16.IsWhole} {arg17 : Memref sig .tc .vmem S2816x1024 .bf16} {harg17 : arg17.IsWhole} {arg18 : Memref sig .tc .vmem S2816x1024 .bf16} {harg18 : arg18.IsWhole} {arg19 : Memref sig .tc .vmem S2816x1024 .bf16} {harg19 : arg19.IsWhole} {arg21 : Memref sig .tc .vmem S384x2816 .f32} {harg21 : arg21.IsWhole} {arg22 : Memref sig .tc .vmem S384x2816 .f32} {harg22 : arg22.IsWhole} {hc0 : cond0_0 i} {hc1 : cond0_1 i} {x0 : Vec F S384x1024 .f32} {x1 : Vec F S128x1024 .f32} {x2 : Vec F S128x1024 .f32} {x3 : Vec F S128x1024 .f32} {x4 : Vec F S1x1024 .f32} {x5 : Vec F S1x1024 .f32} {fh0 : HbBuf0 (F := F) c hbM0_0} {fh1 : HbBuf0 (F := F) c hbM0_1} {fh2 : HbBuf0 (F := F) c hbM0_2}

theorem out_a_6 : out0_A_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = o6V x0 x1 x2 x3 x4 x5 (kernelRun0_A.sl.dma0 c fh0) (kernelRun0_A.sl.dma0_1 c fh1) (kernelRun0_A.sl.dma0_2 c fh2) (BitVec.ofNat 32 (i 0)) := by
  unfold out0_A_6
  rw [View.read_writes_junk_eq_canon]
  unfold kernelRun0_A
  dsimp only
  simp only [a_r, a_r_1, a_r_2, a_r_3, a_r_48, a_r_81, a_r_82, a_r_83, a_v192]
  exact View.canon_unit_zero hz2 _ _

theorem out_a_7 : out0_A_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = k0_pay7 x0 x4 := by
  unfold out0_A_7
  rw [View.read_writes_junk_eq_canon]
  unfold kernelRun0_A
  dsimp only
  simp only [a_r_5]
  exact View.canon_unit_zero hz2 _ _

theorem out_a_8 : out0_A_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = View.canon (tiles (DGc x0 x1 x2 x3 x4 x5 (kernelRun0_A.sl.dma0 c fh0) (kernelRun0_A.sl.dma0_1 c fh1) (kernelRun0_A.sl.dma0_2 c fh2) (BitVec.ofNat 32 (i 0)))) := by
  unfold out0_A_8
  rw [View.read_writes_junk_eq_canon]
  unfold kernelRun0_A
  dsimp only
  simp only [a_r_77, a_v536, a_v537, a_r_78, a_r_79, a_r_80, a_r_73, a_v488, a_v489, a_r_70, a_v463, a_v464, a_r_66, a_v438, a_v439, a_r_67, a_r_62, a_v388, a_v389, a_r_59, a_v363, a_v364, a_r_55, a_v338, a_v339, a_r_56, a_v289, a_r_52, a_r_53]
  rfl

theorem out_a_9 : out0_A_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = View.canon (tiles (DUc x0 x1 x2 x3 x4 x5 (kernelRun0_A.sl.dma0 c fh0) (kernelRun0_A.sl.dma0_1 c fh1) (kernelRun0_A.sl.dma0_2 c fh2) (BitVec.ofNat 32 (i 0)))) := by
  unfold out0_A_9
  rw [View.read_writes_junk_eq_canon]
  unfold kernelRun0_A
  dsimp only
  simp only [a_r_77, a_v536, a_r_75, a_v513, a_r_78, a_r_73, a_v488, a_r_70, a_v463, a_r_66, a_v438, a_r_64, a_r_68, a_r_62, a_v388, a_r_59, a_v363, a_r_55, a_v338, a_r_57, a_r_50, a_v289, a_r_52]
  rfl

theorem out_a_10 : out0_A_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = View.canon (tiles (fun k => k0_pay14 (Gc x0 x4 (kernelRun0_A.sl.dma0 c fh0) k) (Gc x0 x4 (kernelRun0_A.sl.dma0_1 c fh1) k))) := by
  unfold out0_A_10
  rw [View.read_writes_junk_eq_canon]
  unfold kernelRun0_A
  dsimp only
  simp only [a_r_35, a_r_36, a_r_32, a_r_33, a_r_29, a_r_30, a_r_34, a_r_26, a_r_27, a_r_23, a_r_24, a_r_20, a_r_21, a_r_17, a_r_18, a_r_14, a_r_15, a_r_19, a_r_11, a_r_12, a_r_8, a_r_9, a_r_6, a_r_7]
  rfl

theorem out_a_11 : out0_A_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = D2b x0 x1 x2 x3 x4 x5 (kernelRun0_A.sl.dma0 c fh0) (kernelRun0_A.sl.dma0_1 c fh1) (kernelRun0_A.sl.dma0_2 c fh2) (BitVec.ofNat 32 (i 0)) := by
  unfold out0_A_11
  rw [View.read_writes_junk_eq_canon]
  unfold kernelRun0_A
  dsimp only
  simp only [a_r_49]
  exact View.canon_unit_zero hz2 _ _

theorem out_a_12 : out0_A_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = o12V x0 x1 x2 x3 x4 x5 (kernelRun0_A.sl.dma0 c fh0) (kernelRun0_A.sl.dma0_1 c fh1) (kernelRun0_A.sl.dma0_2 c fh2) (BitVec.ofNat 32 (i 0)) (k0_pay2 (F := F)) := by
  unfold out0_A_12
  unfold kernelRun0_A
  dsimp only
  unfold kernelRun0_A.sl.H12_3 kernelRun0_A.sl.H12_2 kernelRun0_A.sl.H12_1
  simp only [a_r_46, a_v591, a_r_84, a_r_4, a_r_81, a_r_82, a_r_83, a_v192, a_v583]
  exact acc_writes _ _ _ _ (View.read_writes_full _ _ _ _ _) _ _ _

theorem sout_a_0 : sout0_A_0 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = (kernelRun0_A.sl.dma0 c fh0) := by
  unfold sout0_A_0
  unfold kernelRun0_A
  dsimp only
  exact View.read_writes_whole _ _ _

theorem sout_a_1 : sout0_A_1 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = (kernelRun0_A.sl.dma0_1 c fh1) := by
  unfold sout0_A_1
  unfold kernelRun0_A
  dsimp only
  exact View.read_writes_whole _ _ _

theorem sout_a_2 : sout0_A_2 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 fh0 fh1 fh2 = (kernelRun0_A.sl.dma0_2 c fh2) := by
  unfold sout0_A_2
  unfold kernelRun0_A
  dsimp only
  exact View.read_writes_whole _ _ _

end Cert.Ffn

end
-- ==== Proof.FfnWordsB.lean ====
/- The words of the feed-forward kernel's body in the case of the later grid points: each named intermediate is a piece of the vocabulary
   of `Proof/Ffn.lean`. -/
module

public import proofs.«01_k».proof.Proof.Ffn

@[expose] public section

set_option maxRecDepth 65536
set_option maxHeartbeats 1000000

noncomputable section

namespace Cert.Ffn

open Idealize.ShloMosaic Idealize.ShloMosaic.TcCoe
open Cert.Kernel2Ideal Cert.Kernel2Ideal.Gen

variable {F : FTy → Type} [FloatOps F]
variable (c : Dev nD) (i : grid0.Coords) (arg1 : Memref sig .tc .vmem S384x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S1x1024 .f32) (harg6 : arg6.IsWhole) (arg10 : Memref sig .tc .vmem S384x1024 .f32) (harg10 : arg10.IsWhole) (arg11 : Memref sig .tc .vmem S384x1024 .bf16) (harg11 : arg11.IsWhole) (arg12 : Memref sig .tc .vmem S384x2816 .bf16) (harg12 : arg12.IsWhole) (arg13 : Memref sig .tc .vmem S384x2816 .bf16) (harg13 : arg13.IsWhole) (arg14 : Memref sig .tc .vmem S384x2816 .bf16) (harg14 : arg14.IsWhole) (arg15 : Memref sig .tc .vmem S384x1024 .bf16) (harg15 : arg15.IsWhole) (arg16 : Memref sig .tc .vmem S8x1024 .f32) (harg16 : arg16.IsWhole) (arg17 : Memref sig .tc .vmem S2816x1024 .bf16) (harg17 : arg17.IsWhole) (arg18 : Memref sig .tc .vmem S2816x1024 .bf16) (harg18 : arg18.IsWhole) (arg19 : Memref sig .tc .vmem S2816x1024 .bf16) (harg19 : arg19.IsWhole) (arg21 : Memref sig .tc .vmem S384x2816 .f32) (harg21 : arg21.IsWhole) (arg22 : Memref sig .tc .vmem S384x2816 .f32) (harg22 : arg22.IsWhole) (x0 : Vec F S384x1024 .f32) (x1 : Vec F S128x1024 .f32) (x2 : Vec F S128x1024 .f32) (x3 : Vec F S128x1024 .f32) (x4 : Vec F S1x1024 .f32) (x5 : Vec F S1x1024 .f32) (xo12 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2)

theorem b_r_5 : kernelRun0_B.sl.r_5 (F := F) c arg1 harg1 arg5 harg5 x0 x4 = k0_pay7 x0 x4 := by
  unfold kernelRun0_B.sl.r_5
  simp only [View.readAt_eq_ld, ldX, ldT, ldV, ldX', ldT', ldV', harg1.read_unread, harg5.read_unread] <;> rfl

theorem b_r_35 : kernelRun0_B.sl.r_35 (F := F) c arg1 harg1 arg5 harg5 arg17 harg17 x0 x4 xs0 = Gc x0 x4 xs0 (fk 10) := by
  unfold kernelRun0_B.sl.r_35
  simp only [b_r_5, View.readAt_eq_ld, ldX, ldT, ldV, ldX', ldT', ldV', harg17.read_unread] <;> rfl

theorem b_r_36 : kernelRun0_B.sl.r_36 (F := F) c arg1 harg1 arg5 harg5 arg18 harg18 x0 x4 xs1 = Gc x0 x4 xs1 (fk 10) := by
  unfold kernelRun0_B.sl.r_36
  simp only [b_r_5, View.readAt_eq_ld, ldX, ldT, ldV, ldX', ldT', ldV', harg18.read_unread] <;> rfl

theorem b_r_29 : kernelRun0_B.sl.r_29 (F := F) c arg1 harg1 arg5 harg5 arg17 harg17 x0 x4 xs0 = Gc x0 x4 xs0 (fk 8) := by
  unfold kernelRun0_B.sl.r_29
  simp only [b_r_5, View.readAt_eq_ld, ldX, ldT, ldV, ldX', ldT', ldV', harg17.read_unread] <;> rfl

theorem b_r_30 : kernelRun0_B.sl.r_30 (F := F) c arg1 harg1 arg5 harg5 arg18 harg18 x0 x4 xs1 = Gc x0 x4 xs1 (fk 8) := by
  unfold kernelRun0_B.sl.r_30
  simp only [b_r_5, View.readAt_eq_ld, ldX, ldT, ldV, ldX', ldT', ldV', harg18.read_unread] <;> rfl

theorem b_r_20 : kernelRun0_B.sl.r_20 (F := F) c arg1 harg1 arg5 harg5 arg17 harg17 x0 x4 xs0 = Gc x0 x4 xs0 (fk 5) := by
  unfold kernelRun0_B.sl.r_20
  simp only [b_r_5, View.readAt_eq_ld, ldX, ldT, ldV, ldX', ldT', ldV', harg17.read_unread] <;> rfl

theorem b_r_21 : kernelRun0_B.sl.r_21 (F := F) c arg1 harg1 arg5 harg5 arg18 harg18 x0 x4 xs1 = Gc x0 x4 xs1 (fk 5) := by
  unfold kernelRun0_B.sl.r_21
  simp only [b_r_5, View.readAt_eq_ld, ldX, ldT, ldV, ldX', ldT', ldV', harg18.read_unread] <;> rfl

theorem b_r_14 : kernelRun0_B.sl.r_14 (F := F) c arg1 harg1 arg5 harg5 arg17 harg17 x0 x4 xs0 = Gc x0 x4 xs0 (fk 3) := by
  unfold kernelRun0_B.sl.r_14
  simp only [b_r_5, View.readAt_eq_ld, ldX, ldT, ldV, ldX', ldT', ldV', harg17.read_unread] <;> rfl

theorem b_r_15 : kernelRun0_B.sl.r_15 (F := F) c arg1 harg1 arg5 harg5 arg18 harg18 x0 x4 xs1 = Gc x0 x4 xs1 (fk 3) := by
  unfold kernelRun0_B.sl.r_15
  simp only [b_r_5, View.readAt_eq_ld, ldX, ldT, ldV, ldX', ldT', ldV', harg18.read_unread] <;> rfl

theorem b_r : kernelRun0_B.sl.r (F := F) c arg1 harg1 x0 = x0 := by
  unfold kernelRun0_B.sl.r
  simp only [View.readAt_eq_ld, ldX, ldT, ldV, ldX', ldT', ldV', harg1.read_unread] <;> rfl

theorem b_r_6 : kernelRun0_B.sl.r_6 (F := F) c arg1 harg1 arg5 harg5 arg17 harg17 x0 x4 xs0 = Gc x0 x4 xs0 (fk 0) := by
  unfold kernelRun0_B.sl.r_6
  simp only [View.readAt_eq_ld, ldX, ldT, ldV, ldX', ldT', ldV', harg1.read_unread, harg5.read_unread, harg17.read_unread] <;> rfl

theorem b_r_7 : kernelRun0_B.sl.r_7 (F := F) c arg1 harg1 arg5 harg5 arg18 harg18 x0 x4 xs1 = Gc x0 x4 xs1 (fk 0) := by
  unfold kernelRun0_B.sl.r_7
  simp only [View.readAt_eq_ld, ldX, ldT, ldV, ldX', ldT', ldV', harg1.read_unread, harg5.read_unread, harg18.read_unread] <;> rfl

theorem b_r_10 : kernelRun0_B.sl.r_10 (F := F) c arg1 harg1 arg5 harg5 arg17 harg17 arg18 harg18 arg19 harg19 x0 x4 xs0 xs1 xs2 = Hc x0 x4 xs0 xs1 xs2 1 := by
  unfold kernelRun0_B.sl.r_10
  simp only [b_r, b_r_6, b_r_7, View.readAt_eq_ld, ldX, ldT, ldV, ldX', ldT', ldV', harg19.read_unread] <;> rfl

theorem b_r_11 : kernelRun0_B.sl.r_11 (F := F) c arg1 harg1 arg5 harg5 arg17 harg17 x0 x4 xs0 = Gc x0 x4 xs0 (fk 2) := by
  unfold kernelRun0_B.sl.r_11
  simp only [b_r_5, View.readAt_eq_ld, ldX, ldT, ldV, ldX', ldT', ldV', harg17.read_unread] <;> rfl

theorem b_r_12 : kernelRun0_B.sl.r_12 (F := F) c arg1 harg1 arg5 harg5 arg18 harg18 x0 x4 xs1 = Gc x0 x4 xs1 (fk 2) := by
  unfold kernelRun0_B.sl.r_12
  simp only [b_r_5, View.readAt_eq_ld, ldX, ldT, ldV, ldX', ldT', ldV', harg18.read_unread] <;> rfl

theorem b_r_8 : kernelRun0_B.sl.r_8 (F := F) c arg1 harg1 arg5 harg5 arg17 harg17 x0 x4 xs0 = Gc x0 x4 xs0 (fk 1) := by
  unfold kernelRun0_B.sl.r_8
  simp only [View.readAt_eq_ld, ldX, ldT, ldV, ldX', ldT', ldV', harg1.read_unread, harg5.read_unread, harg17.read_unread] <;> rfl

theorem b_r_9 : kernelRun0_B.sl.r_9 (F := F) c arg1 harg1 arg5 harg5 arg18 harg18 x0 x4 xs1 = Gc x0 x4 xs1 (fk 1) := by
  unfold kernelRun0_B.sl.r_9
  simp only [View.readAt_eq_ld, ldX, ldT, ldV, ldX', ldT', ldV', harg1.read_unread, harg5.read_unread, harg18.read_unread] <;> rfl

theorem b_r_13 : kernelRun0_B.sl.r_13 (F := F) c arg1 harg1 arg5 harg5 arg17 harg17 arg18 harg18 arg19 harg19 x0 x4 xs0 xs1 xs2 = k0_pay21 (Gc x0 x4 xs0 (fk 1)) (Gc x0 x4 xs1 (fk 1)) (View.ld xs2 (rW (fk 1))) := by
  unfold kernelRun0_B.sl.r_13
  simp only [b_r_8, b_r_9, View.readAt_eq_ld, ldX, ldT, ldV, ldX', ldT', ldV', harg19.read_unread] <;> rfl

theorem b_r_16 : kernelRun0_B.sl.r_16 (F := F) c arg1 harg1 arg5 harg5 arg17 harg17 arg18 harg18 arg19 harg19 x0 x4 xs0 xs1 xs2 = Hc x0 x4 xs0 xs1 xs2 3 := by
  unfold kernelRun0_B.sl.r_16
  simp only [b_r_10, b_r_11, b_r_12, b_r_13, View.readAt_eq_ld, ldX, ldT, ldV, ldX', ldT', ldV', harg19.read_unread] <;> rfl

theorem b_r_17 : kernelRun0_B.sl.r_17 (F := F) c arg1 harg1 arg5 harg5 arg17 harg17 x0 x4 xs0 = Gc x0 x4 xs0 (fk 4) := by
  unfold kernelRun0_B.sl.r_17
  simp only [b_r_5, View.readAt_eq_ld, ldX, ldT, ldV, ldX', ldT', ldV', harg17.read_unread] <;> rfl

theorem b_r_18 : kernelRun0_B.sl.r_18 (F := F) c arg1 harg1 arg5 harg5 arg18 harg18 x0 x4 xs1 = Gc x0 x4 xs1 (fk 4) := by
  unfold kernelRun0_B.sl.r_18
  simp only [b_r_5, View.readAt_eq_ld, ldX, ldT, ldV, ldX', ldT', ldV', harg18.read_unread] <;> rfl

theorem b_r_19 : kernelRun0_B.sl.r_19 (F := F) c arg1 harg1 arg5 harg5 arg17 harg17 x0 x4 xs0 = logistic (Gc x0 x4 xs0 (fk 3)) := by
  unfold kernelRun0_B.sl.r_19
  simp only [b_r_5, View.readAt_eq_ld, ldX, ldT, ldV, ldX', ldT', ldV', harg17.read_unread] <;> rfl

theorem b_r_22 : kernelRun0_B.sl.r_22 (F := F) c arg1 harg1 arg5 harg5 arg17 harg17 arg18 harg18 arg19 harg19 x0 x4 xs0 xs1 xs2 = Hc x0 x4 xs0 xs1 xs2 5 := by
  unfold kernelRun0_B.sl.r_22
  simp only [b_r_14, b_r_15, b_r_16, b_r_17, b_r_18, b_r_19, View.readAt_eq_ld, ldX, ldT, ldV, ldX', ldT', ldV', harg19.read_unread] <;> rfl

theorem b_r_25 : kernelRun0_B.sl.r_25 (F := F) c arg1 harg1 arg5 harg5 arg17 harg17 arg18 harg18 arg19 harg19 x0 x4 xs0 xs1 xs2 = Hc x0 x4 xs0 xs1 xs2 6 := by
  unfold kernelRun0_B.sl.r_25
  simp only [b_r_20, b_r_21, b_r_22, View.readAt_eq_ld, ldX, ldT, ldV, ldX', ldT', ldV', harg19.read_unread] <;> rfl

theorem b_r_26 : kernelRun0_B.sl.r_26 (F := F) c arg1 harg1 arg5 harg5 arg17 harg17 x0 x4 xs0 = Gc x0 x4 xs0 (fk 7) := by
  unfold kernelRun0_B.sl.r_26
  simp only [b_r_5, View.readAt_eq_ld, ldX, ldT, ldV, ldX', ldT', ldV', harg17.read_unread] <;> rfl

theorem b_r_27 : kernelRun0_B.sl.r_27 (F := F) c arg1 harg1 arg5 harg5 arg18 harg18 x0 x4 xs1 = Gc x0 x4 xs1 (fk 7) := by
  unfold kernelRun0_B.sl.r_27
  simp only [b_r_5, View.readAt_eq_ld, ldX, ldT, ldV, ldX', ldT', ldV', harg18.read_unread] <;> rfl

theorem b_r_23 : kernelRun0_B.sl.r_23 (F := F) c arg1 harg1 arg5 harg5 arg17 harg17 x0 x4 xs0 = Gc x0 x4 xs0 (fk 6) := by
  unfold kernelRun0_B.sl.r_23
  simp only [b_r_5, View.readAt_eq_ld, ldX, ldT, ldV, ldX', ldT', ldV', harg17.read_unread] <;> rfl

theorem b_r_24 : kernelRun0_B.sl.r_24 (F := F) c arg1 harg1 arg5 harg5 arg18 harg18 x0 x4 xs1 = Gc x0 x4 xs1 (fk 6) := by
  unfold kernelRun0_B.sl.r_24
  simp only [b_r_5, View.readAt_eq_ld, ldX, ldT, ldV, ldX', ldT', ldV', harg18.read_unread] <;> rfl

theorem b_r_28 : kernelRun0_B.sl.r_28 (F := F) c arg1 harg1 arg5 harg5 arg17 harg17 arg18 harg18 arg19 harg19 x0 x4 xs0 xs1 xs2 = k0_pay21 (Gc x0 x4 xs0 (fk 6)) (Gc x0 x4 xs1 (fk 6)) (View.ld xs2 (rW (fk 6))) := by
  unfold kernelRun0_B.sl.r_28
  simp only [b_r_23, b_r_24, View.readAt_eq_ld, ldX, ldT, ldV, ldX', ldT', ldV', harg19.read_unread] <;> rfl

theorem b_r_31 : kernelRun0_B.sl.r_31 (F := F) c arg1 harg1 arg5 harg5 arg17 harg17 arg18 harg18 arg19 harg19 x0 x4 xs0 xs1 xs2 = Hc x0 x4 xs0 xs1 xs2 8 := by
  unfold kernelRun0_B.sl.r_31
  simp only [b_r_25, b_r_26, b_r_27, b_r_28, View.readAt_eq_ld, ldX, ldT, ldV, ldX', ldT', ldV', harg19.read_unread] <;> rfl

theorem b_r_32 : kernelRun0_B.sl.r_32 (F := F) c arg1 harg1 arg5 harg5 arg17 harg17 x0 x4 xs0 = Gc x0 x4 xs0 (fk 9) := by
  unfold kernelRun0_B.sl.r_32
  simp only [b_r_5, View.readAt_eq_ld, ldX, ldT, ldV, ldX', ldT', ldV', harg17.read_unread] <;> rfl

theorem b_r_33 : kernelRun0_B.sl.r_33 (F := F) c arg1 harg1 arg5 harg5 arg18 harg18 x0 x4 xs1 = Gc x0 x4 xs1 (fk 9) := by
  unfold kernelRun0_B.sl.r_33
  simp only [b_r_5, View.readAt_eq_ld, ldX, ldT, ldV, ldX', ldT', ldV', harg18.read_unread] <;> rfl

theorem b_r_34 : kernelRun0_B.sl.r_34 (F := F) c arg1 harg1 arg5 harg5 arg17 harg17 x0 x4 xs0 = logistic (Gc x0 x4 xs0 (fk 8)) := by
  unfold kernelRun0_B.sl.r_34
  simp only [b_r_5, View.readAt_eq_ld, ldX, ldT, ldV, ldX', ldT', ldV', harg17.read_unread] <;> rfl

theorem b_r_37 : kernelRun0_B.sl.r_37 (F := F) c arg1 harg1 arg5 harg5 arg17 harg17 arg18 harg18 arg19 harg19 x0 x4 xs0 xs1 xs2 = Hc x0 x4 xs0 xs1 xs2 10 := by
  unfold kernelRun0_B.sl.r_37
  simp only [b_r_29, b_r_30, b_r_31, b_r_32, b_r_33, b_r_34, View.readAt_eq_ld, ldX, ldT, ldV, ldX', ldT', ldV', harg19.read_unread] <;> rfl

theorem b_r_42 : kernelRun0_B.sl.r_42 (F := F) c arg1 harg1 arg5 harg5 arg17 harg17 arg18 harg18 arg19 harg19 x0 x4 xs0 xs1 xs2 = k0_pay5 (Hc x0 x4 xs0 xs1 xs2 11) := by
  unfold kernelRun0_B.sl.r_42
  simp only [b_r_35, b_r_36, b_r_37, View.readAt_eq_ld, ldX, ldT, ldV, ldX', ldT', ldV', harg19.read_unread] <;> rfl

theorem b_r_44 : kernelRun0_B.sl.r_44 (F := F) c arg1 harg1 arg2 harg2 arg3 harg3 arg4 harg4 arg5 harg5 arg6 harg6 arg17 harg17 arg18 harg18 arg19 harg19 x0 x1 x2 x3 x4 x5 xs0 xs1 xs2 = odV (Hc x0 x4 xs0 xs1 xs2 11) x5 x1 x2 x3 := by
  unfold kernelRun0_B.sl.r_44
  simp only [b_r_35, b_r_36, b_r_37, View.readAt_eq_ld, ldX, ldT, ldV, ldX', ldT', ldV', harg19.read_unread, harg6.read_unread, harg2.read_unread, harg3.read_unread, harg4.read_unread] <;> rfl

theorem b_r_45 : kernelRun0_B.sl.r_45 i = k0_pay79 (BitVec.ofNat 32 (i 0)) := by
  unfold kernelRun0_B.sl.r_45
  rfl

theorem b_r_46 : kernelRun0_B.sl.r_46 (F := F) c i arg1 harg1 arg2 harg2 arg3 harg3 arg4 harg4 arg5 harg5 arg6 harg6 arg17 harg17 arg18 harg18 arg19 harg19 x0 x1 x2 x3 x4 x5 xs0 xs1 xs2 = k0_pay82 (odV (Hc x0 x4 xs0 xs1 xs2 11) x5 x1 x2 x3) (k0_pay79 (BitVec.ofNat 32 (i 0))) k0_pay80 := by
  unfold kernelRun0_B.sl.r_46
  simp only [b_r_44, b_r_45] <;> rfl

theorem b_r_39 : kernelRun0_B.sl.r_39 (F := F) c arg1 harg1 arg5 harg5 arg17 harg17 arg18 harg18 arg19 harg19 x0 x4 xs0 xs1 xs2 = Hc x0 x4 xs0 xs1 xs2 11 := by
  unfold kernelRun0_B.sl.r_39
  simp only [b_r_35, b_r_36, b_r_37, View.readAt_eq_ld, ldX, ldT, ldV, ldX', ldT', ldV', harg19.read_unread] <;> rfl

theorem b_r_40 : kernelRun0_B.sl.r_40 (F := F) c arg6 harg6 x5 = x5 := by
  unfold kernelRun0_B.sl.r_40
  simp only [View.readAt_eq_ld, ldX, ldT, ldV, ldX', ldT', ldV', harg6.read_unread] <;> rfl

theorem b_r_41 : kernelRun0_B.sl.r_41 (F := F) c arg1 harg1 arg5 harg5 arg17 harg17 arg18 harg18 arg19 harg19 x0 x4 xs0 xs1 xs2 = k0_pay4 (Hc x0 x4 xs0 xs1 xs2 11) := by
  unfold kernelRun0_B.sl.r_41
  simp only [b_r_35, b_r_36, b_r_37, View.readAt_eq_ld, ldX, ldT, ldV, ldX', ldT', ldV', harg19.read_unread] <;> rfl

theorem b_r_49 : kernelRun0_B.sl.r_49 (F := F) c i arg1 harg1 arg2 harg2 arg3 harg3 arg4 harg4 arg5 harg5 arg6 harg6 arg17 harg17 arg18 harg18 arg19 harg19 x0 x1 x2 x3 x4 x5 xs0 xs1 xs2 = D2b x0 x1 x2 x3 x4 x5 xs0 xs1 xs2 (BitVec.ofNat 32 (i 0)) := by
  unfold kernelRun0_B.sl.r_49
  simp only [b_r_39, b_r_40, b_r_41, b_r_42, b_r_44, b_r_45] <;> rfl

theorem b_r_65 : kernelRun0_B.sl.r_65 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 5) := by
  unfold kernelRun0_B.sl.r_65
  simp only [b_r_49, View.readAt_eq_ld, ldX, ldT, ldV, ldX', ldT', ldV', harg19.read_unread] <;> rfl

theorem b_HS3_11 : kernelRun0_B.sl.HS3_11 (F := F) c arg1 harg1 arg5 harg5 arg17 harg17 x0 x4 xs0 = tiles (GLc x0 x4 xs0) := by
  unfold kernelRun0_B.sl.HS3_11
  simp only [b_r_5, b_r_32, b_r_26, b_r_23, b_r_20, b_r_17, b_r_11, b_r_8, b_r_6, View.readAt_eq_ld, ldX, ldT, ldV, ldX', ldT', ldV', harg17.read_unread] <;> rfl

theorem b_v413 : kernelRun0_B.sl.v413 (F := F) c arg1 harg1 arg5 harg5 arg17 harg17 arg21 x0 x4 xs0 = GLc x0 x4 xs0 (fk 5) := by
  unfold kernelRun0_B.sl.v413
  rw [b_HS3_11]
  exact rd_tiles _ _ (fk 5)

theorem b_r_38 : kernelRun0_B.sl.r_38 (F := F) c arg1 harg1 arg5 harg5 arg18 harg18 x0 x4 xs1 = GLc x0 x4 xs1 (fk 10) := by
  unfold kernelRun0_B.sl.r_38
  simp only [b_r_5, View.readAt_eq_ld, ldX, ldT, ldV, ldX', ldT', ldV', harg18.read_unread] <;> rfl

theorem b_HS4_11 : kernelRun0_B.sl.HS4_11 (F := F) c arg1 harg1 arg5 harg5 arg18 harg18 x0 x4 xs1 = tiles (GLc x0 x4 xs1) := by
  unfold kernelRun0_B.sl.HS4_11
  simp only [b_r_38, b_r_33, b_r_5, b_r_27, b_r_24, b_r_21, b_r_18, b_r_12, b_r_9, b_r_7, View.readAt_eq_ld, ldX, ldT, ldV, ldX', ldT', ldV', harg18.read_unread] <;> rfl

theorem b_v414 : kernelRun0_B.sl.v414 (F := F) c arg1 harg1 arg5 harg5 arg18 harg18 arg22 x0 x4 xs1 = GLc x0 x4 xs1 (fk 5) := by
  unfold kernelRun0_B.sl.v414
  rw [b_HS4_11]
  exact rd_tiles _ _ (fk 5)

theorem b_r_68 : kernelRun0_B.sl.r_68 (F := F) c i arg1 harg1 arg2 harg2 arg3 harg3 arg4 harg4 arg5 harg5 arg6 harg6 arg17 harg17 arg18 harg18 arg19 harg19 arg21 arg22 x0 x1 x2 x3 x4 x5 xs0 xs1 xs2 = DGc x0 x1 x2 x3 x4 x5 xs0 xs1 xs2 (BitVec.ofNat 32 (i 0)) (fk 5) := by
  unfold kernelRun0_B.sl.r_68
  simp only [b_r_65, b_v413, b_v414] <;> rfl

theorem b_v339 : kernelRun0_B.sl.v339 (F := F) c arg1 harg1 arg5 harg5 arg18 harg18 arg22 x0 x4 xs1 = GLc x0 x4 xs1 (fk 2) := by
  unfold kernelRun0_B.sl.v339
  rw [b_HS4_11]
  exact rd_tiles _ _ (fk 2)

theorem b_v289 : kernelRun0_B.sl.v289 (F := F) c arg1 harg1 arg5 harg5 arg17 harg17 arg21 x0 x4 xs0 = GLc x0 x4 xs0 (fk 0) := by
  unfold kernelRun0_B.sl.v289
  rw [b_HS3_11]
  exact rd_tiles _ _ (fk 0)

theorem b_r_67 : kernelRun0_B.sl.r_67 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 6) := by
  unfold kernelRun0_B.sl.r_67
  simp only [b_r_49, View.readAt_eq_ld, ldX, ldT, ldV, ldX', ldT', ldV', harg19.read_unread] <;> rfl

theorem b_v438 : kernelRun0_B.sl.v438 (F := F) c arg1 harg1 arg5 harg5 arg17 harg17 arg21 x0 x4 xs0 = GLc x0 x4 xs0 (fk 6) := by
  unfold kernelRun0_B.sl.v438
  rw [b_HS3_11]
  exact rd_tiles _ _ (fk 6)

theorem b_v439 : kernelRun0_B.sl.v439 (F := F) c arg1 harg1 arg5 harg5 arg18 harg18 arg22 x0 x4 xs1 = GLc x0 x4 xs1 (fk 6) := by
  unfold kernelRun0_B.sl.v439
  rw [b_HS4_11]
  exact rd_tiles _ _ (fk 6)

theorem b_r_72 : kernelRun0_B.sl.r_72 (F := F) c i arg1 harg1 arg2 harg2 arg3 harg3 arg4 harg4 arg5 harg5 arg6 harg6 arg17 harg17 arg18 harg18 arg19 harg19 arg21 arg22 x0 x1 x2 x3 x4 x5 xs0 xs1 xs2 = DGc x0 x1 x2 x3 x4 x5 xs0 xs1 xs2 (BitVec.ofNat 32 (i 0)) (fk 6) := by
  unfold kernelRun0_B.sl.r_72
  simp only [b_r_67, b_v438, b_v439] <;> rfl

theorem b_r_50 : kernelRun0_B.sl.r_50 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 0) := by
  unfold kernelRun0_B.sl.r_50
  simp only [b_r_39, b_r_40, b_r_41, b_r_42, b_r_44, b_r_45, View.readAt_eq_ld, ldX, ldT, ldV, ldX', ldT', ldV', harg19.read_unread] <;> rfl

theorem b_r_52 : kernelRun0_B.sl.r_52 (F := F) c arg1 harg1 arg5 harg5 arg17 harg17 arg21 x0 x4 xs0 = logistic (GLc x0 x4 xs0 (fk 0)) := by
  unfold kernelRun0_B.sl.r_52
  simp only [b_v289] <;> rfl

theorem b_v290 : kernelRun0_B.sl.v290 (F := F) c arg1 harg1 arg5 harg5 arg18 harg18 arg22 x0 x4 xs1 = GLc x0 x4 xs1 (fk 0) := by
  unfold kernelRun0_B.sl.v290
  rw [b_HS4_11]
  exact rd_tiles _ _ (fk 0)

theorem b_r_53 : kernelRun0_B.sl.r_53 (F := F) c i arg1 harg1 arg2 harg2 arg3 harg3 arg4 harg4 arg5 harg5 arg6 harg6 arg17 harg17 arg18 harg18 arg19 harg19 arg22 x0 x1 x2 x3 x4 x5 xs0 xs1 xs2 = mulf (DAc x0 x1 x2 x3 x4 x5 xs0 xs1 xs2 (BitVec.ofNat 32 (i 0)) (fk 0)) (GLc x0 x4 xs1 (fk 0)) := by
  unfold kernelRun0_B.sl.r_53
  simp only [b_r_39, b_r_40, b_r_41, b_r_42, b_r_44, b_r_45, b_v290, View.readAt_eq_ld, ldX, ldT, ldV, ldX', ldT', ldV', harg19.read_unread] <;> rfl

theorem b_r_54 : kernelRun0_B.sl.r_54 (F := F) c i arg1 harg1 arg2 harg2 arg3 harg3 arg4 harg4 arg5 harg5 arg6 harg6 arg17 harg17 arg18 harg18 arg19 harg19 arg21 arg22 x0 x1 x2 x3 x4 x5 xs0 xs1 xs2 = dxS x0 x1 x2 x3 x4 x5 xs0 xs1 xs2 (BitVec.ofNat 32 (i 0)) (fk 0) := by
  unfold kernelRun0_B.sl.r_54
  simp only [b_r_50, b_v289, b_r_52, b_r_53, View.readAt_eq_ld, ldX, ldT, ldV, ldX', ldT', ldV', harg17.read_unread, harg18.read_unread] <;> rfl

theorem b_r_51 : kernelRun0_B.sl.r_51 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 1) := by
  unfold kernelRun0_B.sl.r_51
  simp only [b_r_39, b_r_40, b_r_41, b_r_42, b_r_44, b_r_45, View.readAt_eq_ld, ldX, ldT, ldV, ldX', ldT', ldV', harg19.read_unread] <;> rfl

theorem b_v313 : kernelRun0_B.sl.v313 (F := F) c arg1 harg1 arg5 harg5 arg17 harg17 arg21 x0 x4 xs0 = GLc x0 x4 xs0 (fk 1) := by
  unfold kernelRun0_B.sl.v313
  rw [b_HS3_11]
  exact rd_tiles _ _ (fk 1)

theorem b_v314 : kernelRun0_B.sl.v314 (F := F) c arg1 harg1 arg5 harg5 arg18 harg18 arg22 x0 x4 xs1 = GLc x0 x4 xs1 (fk 1) := by
  unfold kernelRun0_B.sl.v314
  rw [b_HS4_11]
  exact rd_tiles _ _ (fk 1)

theorem b_r_56 : kernelRun0_B.sl.r_56 (F := F) c i arg1 harg1 arg2 harg2 arg3 harg3 arg4 harg4 arg5 harg5 arg6 harg6 arg17 harg17 arg18 harg18 arg19 harg19 arg21 arg22 x0 x1 x2 x3 x4 x5 xs0 xs1 xs2 = DGc x0 x1 x2 x3 x4 x5 xs0 xs1 xs2 (BitVec.ofNat 32 (i 0)) (fk 1) := by
  unfold kernelRun0_B.sl.r_56
  simp only [b_r_51, b_v313, b_v314] <;> rfl

theorem b_r_57 : kernelRun0_B.sl.r_57 (F := F) c i arg1 harg1 arg2 harg2 arg3 harg3 arg4 harg4 arg5 harg5 arg6 harg6 arg17 harg17 arg18 harg18 arg19 harg19 arg21 x0 x1 x2 x3 x4 x5 xs0 xs1 xs2 = DUc x0 x1 x2 x3 x4 x5 xs0 xs1 xs2 (BitVec.ofNat 32 (i 0)) (fk 1) := by
  unfold kernelRun0_B.sl.r_57
  simp only [b_r_51, b_v313] <;> rfl

theorem b_r_58 : kernelRun0_B.sl.r_58 (F := F) c i arg1 harg1 arg2 harg2 arg3 harg3 arg4 harg4 arg5 harg5 arg6 harg6 arg17 harg17 arg18 harg18 arg19 harg19 arg21 arg22 x0 x1 x2 x3 x4 x5 xs0 xs1 xs2 = Pc x0 x1 x2 x3 x4 x5 xs0 xs1 xs2 (BitVec.ofNat 32 (i 0)) 1 := by
  unfold kernelRun0_B.sl.r_58
  simp only [b_r_54, b_r_56, b_r_57, View.readAt_eq_ld, ldX, ldT, ldV, ldX', ldT', ldV', harg17.read_unread, harg18.read_unread] <;> rfl

theorem b_r_59 : kernelRun0_B.sl.r_59 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 3) := by
  unfold kernelRun0_B.sl.r_59
  simp only [b_r_49, View.readAt_eq_ld, ldX, ldT, ldV, ldX', ldT', ldV', harg19.read_unread] <;> rfl

theorem b_r_55 : kernelRun0_B.sl.r_55 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 2) := by
  unfold kernelRun0_B.sl.r_55
  simp only [b_r_49, View.readAt_eq_ld, ldX, ldT, ldV, ldX', ldT', ldV', harg19.read_unread] <;> rfl

theorem b_v338 : kernelRun0_B.sl.v338 (F := F) c arg1 harg1 arg5 harg5 arg17 harg17 arg21 x0 x4 xs0 = GLc x0 x4 xs0 (fk 2) := by
  unfold kernelRun0_B.sl.v338
  rw [b_HS3_11]
  exact rd_tiles _ _ (fk 2)

theorem b_r_60 : kernelRun0_B.sl.r_60 (F := F) c i arg1 harg1 arg2 harg2 arg3 harg3 arg4 harg4 arg5 harg5 arg6 harg6 arg17 harg17 arg18 harg18 arg19 harg19 arg21 x0 x1 x2 x3 x4 x5 xs0 xs1 xs2 = DUc x0 x1 x2 x3 x4 x5 xs0 xs1 xs2 (BitVec.ofNat 32 (i 0)) (fk 2) := by
  unfold kernelRun0_B.sl.r_60
  simp only [b_r_55, b_v338] <;> rfl

theorem b_r_61 : kernelRun0_B.sl.r_61 (F := F) c i arg1 harg1 arg2 harg2 arg3 harg3 arg4 harg4 arg5 harg5 arg6 harg6 arg17 harg17 arg18 harg18 arg19 harg19 arg21 arg22 x0 x1 x2 x3 x4 x5 xs0 xs1 xs2 = matmul dot_S384x256_S256x1024_S384x1024_1_0_0_1_n_n none (DGc x0 x1 x2 x3 x4 x5 xs0 xs1 xs2 (BitVec.ofNat 32 (i 0)) (fk 2)) (View.ld xs0 (rW (fk 2))) (constant S384x1024 .f32 0x00000000#32) := by
  unfold kernelRun0_B.sl.r_61
  simp only [b_r_55, b_v338, b_v339, View.readAt_eq_ld, ldX, ldT, ldV, ldX', ldT', ldV', harg17.read_unread] <;> rfl

theorem b_r_62 : kernelRun0_B.sl.r_62 (F := F) c arg18 harg18 xs1 = View.ld xs1 (rW (fk 2)) := by
  unfold kernelRun0_B.sl.r_62
  simp only [View.readAt_eq_ld, ldX, ldT, ldV, ldX', ldT', ldV', harg18.read_unread] <;> rfl

theorem b_v363 : kernelRun0_B.sl.v363 (F := F) c arg1 harg1 arg5 harg5 arg17 harg17 arg21 x0 x4 xs0 = GLc x0 x4 xs0 (fk 3) := by
  unfold kernelRun0_B.sl.v363
  rw [b_HS3_11]
  exact rd_tiles _ _ (fk 3)

theorem b_v364 : kernelRun0_B.sl.v364 (F := F) c arg1 harg1 arg5 harg5 arg18 harg18 arg22 x0 x4 xs1 = GLc x0 x4 xs1 (fk 3) := by
  unfold kernelRun0_B.sl.v364
  rw [b_HS4_11]
  exact rd_tiles _ _ (fk 3)

theorem b_r_64 : kernelRun0_B.sl.r_64 (F := F) c i arg1 harg1 arg2 harg2 arg3 harg3 arg4 harg4 arg5 harg5 arg6 harg6 arg17 harg17 arg18 harg18 arg19 harg19 arg21 arg22 x0 x1 x2 x3 x4 x5 xs0 xs1 xs2 = Pc x0 x1 x2 x3 x4 x5 xs0 xs1 xs2 (BitVec.ofNat 32 (i 0)) 3 := by
  unfold kernelRun0_B.sl.r_64
  simp only [b_r_58, b_r_59, b_r_60, b_r_61, b_r_62, b_v363, b_v364, View.readAt_eq_ld, ldX, ldT, ldV, ldX', ldT', ldV', harg17.read_unread, harg18.read_unread] <;> rfl

theorem b_r_79 : kernelRun0_B.sl.r_79 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 10) := by
  unfold kernelRun0_B.sl.r_79
  simp only [b_r_49, View.readAt_eq_ld, ldX, ldT, ldV, ldX', ldT', ldV', harg19.read_unread] <;> rfl

theorem b_r_2 : kernelRun0_B.sl.r_2 (F := F) c arg1 harg1 x0 = k0_pay4 x0 := by
  unfold kernelRun0_B.sl.r_2
  simp only [View.readAt_eq_ld, ldX, ldT, ldV, ldX', ldT', ldV', harg1.read_unread] <;> rfl

theorem b_v489 : kernelRun0_B.sl.v489 (F := F) c arg1 harg1 arg5 harg5 arg18 harg18 arg22 x0 x4 xs1 = GLc x0 x4 xs1 (fk 8) := by
  unfold kernelRun0_B.sl.v489
  rw [b_HS4_11]
  exact rd_tiles _ _ (fk 8)

theorem b_v388 : kernelRun0_B.sl.v388 (F := F) c arg1 harg1 arg5 harg5 arg17 harg17 arg21 x0 x4 xs0 = GLc x0 x4 xs0 (fk 4) := by
  unfold kernelRun0_B.sl.v388
  rw [b_HS3_11]
  exact rd_tiles _ _ (fk 4)

theorem b_r_43 : kernelRun0_B.sl.r_43 (F := F) c arg1 harg1 arg5 harg5 arg17 harg17 arg18 harg18 arg19 harg19 x0 x4 xs0 xs1 xs2 = k0_pay6 (Hc x0 x4 xs0 xs1 xs2 11) := by
  unfold kernelRun0_B.sl.r_43
  simp only [b_r_35, b_r_36, b_r_37, View.readAt_eq_ld, ldX, ldT, ldV, ldX', ldT', ldV', harg19.read_unread] <;> rfl

theorem b_r_47 : kernelRun0_B.sl.r_47 (F := F) c i arg1 harg1 arg2 harg2 arg3 harg3 arg4 harg4 arg5 harg5 arg6 harg6 arg17 harg17 arg18 harg18 arg19 harg19 x0 x1 x2 x3 x4 x5 xs0 xs1 xs2 = k0_pay84 (k0_pay6 (Hc x0 x4 xs0 xs1 xs2 11)) (odV (Hc x0 x4 xs0 xs1 xs2 11) x5 x1 x2 x3) (k0_pay79 (BitVec.ofNat 32 (i 0))) k0_pay80 := by
  unfold kernelRun0_B.sl.r_47
  simp only [b_r_43, b_r_44, b_r_45] <;> rfl

theorem b_r_48 : kernelRun0_B.sl.r_48 (F := F) c i arg1 harg1 arg2 harg2 arg3 harg3 arg4 harg4 arg5 harg5 arg6 harg6 arg17 harg17 arg18 harg18 arg19 harg19 x0 x1 x2 x3 x4 x5 xs0 xs1 xs2 = D2v x0 x1 x2 x3 x4 x5 xs0 xs1 xs2 (BitVec.ofNat 32 (i 0)) := by
  unfold kernelRun0_B.sl.r_48
  simp only [b_r_39, b_r_40, b_r_41, b_r_42, b_r_44, b_r_45] <;> rfl

theorem b_r_77 : kernelRun0_B.sl.r_77 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 9) := by
  unfold kernelRun0_B.sl.r_77
  simp only [b_r_49, View.readAt_eq_ld, ldX, ldT, ldV, ldX', ldT', ldV', harg19.read_unread] <;> rfl

theorem b_v389 : kernelRun0_B.sl.v389 (F := F) c arg1 harg1 arg5 harg5 arg18 harg18 arg22 x0 x4 xs1 = GLc x0 x4 xs1 (fk 4) := by
  unfold kernelRun0_B.sl.v389
  rw [b_HS4_11]
  exact rd_tiles _ _ (fk 4)

theorem b_v513 : kernelRun0_B.sl.v513 (F := F) c arg1 harg1 arg5 harg5 arg17 harg17 arg21 x0 x4 xs0 = GLc x0 x4 xs0 (fk 9) := by
  unfold kernelRun0_B.sl.v513
  rw [b_HS3_11]
  exact rd_tiles _ _ (fk 9)

theorem b_v587 : kernelRun0_B.sl.v587 (F := F) c arg16 harg16 xo12 = View.ld xo12 (rA 1) := by
  unfold kernelRun0_B.sl.v587
  simp only [View.readAt_eq_ld, ldX, ldT, ldV, ldX', ldT', ldV', harg16.read_unread] <;> rfl

theorem b_r_86 : kernelRun0_B.sl.r_86 (F := F) c i arg1 harg1 arg2 harg2 arg3 harg3 arg4 harg4 arg5 harg5 arg6 harg6 arg16 harg16 arg17 harg17 arg18 harg18 arg19 harg19 x0 x1 x2 x3 x4 x5 xo12 xs0 xs1 xs2 = k0_pay148 (k0_pay84 (k0_pay6 (Hc x0 x4 xs0 xs1 xs2 11)) (odV (Hc x0 x4 xs0 xs1 xs2 11) x5 x1 x2 x3) (k0_pay79 (BitVec.ofNat 32 (i 0))) k0_pay80) (View.ld xo12 (rA 1)) := by
  unfold kernelRun0_B.sl.r_86
  simp only [b_r_47, b_v587] <;> rfl

theorem b_v488 : kernelRun0_B.sl.v488 (F := F) c arg1 harg1 arg5 harg5 arg17 harg17 arg21 x0 x4 xs0 = GLc x0 x4 xs0 (fk 8) := by
  unfold kernelRun0_B.sl.v488
  rw [b_HS3_11]
  exact rd_tiles _ _ (fk 8)

theorem b_r_63 : kernelRun0_B.sl.r_63 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 4) := by
  unfold kernelRun0_B.sl.r_63
  simp only [b_r_49, View.readAt_eq_ld, ldX, ldT, ldV, ldX', ldT', ldV', harg19.read_unread] <;> rfl

theorem b_r_66 : kernelRun0_B.sl.r_66 (F := F) c i arg1 harg1 arg2 harg2 arg3 harg3 arg4 harg4 arg5 harg5 arg6 harg6 arg17 harg17 arg18 harg18 arg19 harg19 arg21 arg22 x0 x1 x2 x3 x4 x5 xs0 xs1 xs2 = Pc x0 x1 x2 x3 x4 x5 xs0 xs1 xs2 (BitVec.ofNat 32 (i 0)) 4 := by
  unfold kernelRun0_B.sl.r_66
  simp only [b_r_63, b_r_64, b_v388, b_v389, View.readAt_eq_ld, ldX, ldT, ldV, ldX', ldT', ldV', harg17.read_unread, harg18.read_unread] <;> rfl

theorem b_r_3 : kernelRun0_B.sl.r_3 (F := F) c arg1 harg1 x0 = k0_pay5 x0 := by
  unfold kernelRun0_B.sl.r_3
  simp only [View.readAt_eq_ld, ldX, ldT, ldV, ldX', ldT', ldV', harg1.read_unread] <;> rfl

theorem b_v514 : kernelRun0_B.sl.v514 (F := F) c arg1 harg1 arg5 harg5 arg18 harg18 arg22 x0 x4 xs1 = GLc x0 x4 xs1 (fk 9) := by
  unfold kernelRun0_B.sl.v514
  rw [b_HS4_11]
  exact rd_tiles _ _ (fk 9)

theorem b_r_81 : kernelRun0_B.sl.r_81 (F := F) c i arg1 harg1 arg2 harg2 arg3 harg3 arg4 harg4 arg5 harg5 arg6 harg6 arg17 harg17 arg18 harg18 arg19 harg19 arg22 x0 x1 x2 x3 x4 x5 xs0 xs1 xs2 = mulf (DAc x0 x1 x2 x3 x4 x5 xs0 xs1 xs2 (BitVec.ofNat 32 (i 0)) (fk 9)) (GLc x0 x4 xs1 (fk 9)) := by
  unfold kernelRun0_B.sl.r_81
  simp only [b_r_77, b_v514] <;> rfl

theorem b_v464 : kernelRun0_B.sl.v464 (F := F) c arg1 harg1 arg5 harg5 arg18 harg18 arg22 x0 x4 xs1 = GLc x0 x4 xs1 (fk 7) := by
  unfold kernelRun0_B.sl.v464
  rw [b_HS4_11]
  exact rd_tiles _ _ (fk 7)

theorem b_r_1 : kernelRun0_B.sl.r_1 (F := F) c arg5 harg5 x4 = x4 := by
  unfold kernelRun0_B.sl.r_1
  simp only [View.readAt_eq_ld, ldX, ldT, ldV, ldX', ldT', ldV', harg5.read_unread] <;> rfl

theorem b_r_69 : kernelRun0_B.sl.r_69 (F := F) c arg1 harg1 arg5 harg5 arg17 harg17 arg21 x0 x4 xs0 = mulf (GLc x0 x4 xs0 (fk 5)) (logistic (GLc x0 x4 xs0 (fk 5))) := by
  unfold kernelRun0_B.sl.r_69
  simp only [b_v413] <;> rfl

theorem b_r_70 : kernelRun0_B.sl.r_70 (F := F) c i arg1 harg1 arg2 harg2 arg3 harg3 arg4 harg4 arg5 harg5 arg6 harg6 arg17 harg17 arg18 harg18 arg19 harg19 arg21 arg22 x0 x1 x2 x3 x4 x5 xs0 xs1 xs2 = Pc x0 x1 x2 x3 x4 x5 xs0 xs1 xs2 (BitVec.ofNat 32 (i 0)) 5 := by
  unfold kernelRun0_B.sl.r_70
  simp only [b_r_65, b_r_66, b_r_68, b_r_69, View.readAt_eq_ld, ldX, ldT, ldV, ldX', ldT', ldV', harg17.read_unread, harg18.read_unread] <;> rfl

theorem b_r_71 : kernelRun0_B.sl.r_71 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 7) := by
  unfold kernelRun0_B.sl.r_71
  simp only [b_r_49, View.readAt_eq_ld, ldX, ldT, ldV, ldX', ldT', ldV', harg19.read_unread] <;> rfl

theorem b_r_73 : kernelRun0_B.sl.r_73 (F := F) c i arg1 harg1 arg2 harg2 arg3 harg3 arg4 harg4 arg5 harg5 arg6 harg6 arg17 harg17 arg18 harg18 arg19 harg19 arg21 x0 x1 x2 x3 x4 x5 xs0 xs1 xs2 = DUc x0 x1 x2 x3 x4 x5 xs0 xs1 xs2 (BitVec.ofNat 32 (i 0)) (fk 6) := by
  unfold kernelRun0_B.sl.r_73
  simp only [b_r_67, b_v438] <;> rfl

theorem b_r_74 : kernelRun0_B.sl.r_74 (F := F) c arg17 harg17 xs0 = View.ld xs0 (rW (fk 6)) := by
  unfold kernelRun0_B.sl.r_74
  simp only [View.readAt_eq_ld, ldX, ldT, ldV, ldX', ldT', ldV', harg17.read_unread] <;> rfl

theorem b_v463 : kernelRun0_B.sl.v463 (F := F) c arg1 harg1 arg5 harg5 arg17 harg17 arg21 x0 x4 xs0 = GLc x0 x4 xs0 (fk 7) := by
  unfold kernelRun0_B.sl.v463
  rw [b_HS3_11]
  exact rd_tiles _ _ (fk 7)

theorem b_r_76 : kernelRun0_B.sl.r_76 (F := F) c i arg1 harg1 arg2 harg2 arg3 harg3 arg4 harg4 arg5 harg5 arg6 harg6 arg17 harg17 arg18 harg18 arg19 harg19 arg21 arg22 x0 x1 x2 x3 x4 x5 xs0 xs1 xs2 = Pc x0 x1 x2 x3 x4 x5 xs0 xs1 xs2 (BitVec.ofNat 32 (i 0)) 7 := by
  unfold kernelRun0_B.sl.r_76 kernelRun0_B.sl.cst_318
  simp only [b_r_70, b_r_71, b_r_72, b_r_73, b_r_74, b_v463, b_v464, View.readAt_eq_ld, ldX, ldT, ldV, ldX', ldT', ldV', harg18.read_unread, harg17.read_unread] <;> rfl

theorem b_r_80 : kernelRun0_B.sl.r_80 (F := F) c arg1 harg1 arg5 harg5 arg17 harg17 arg21 x0 x4 xs0 = logistic (GLc x0 x4 xs0 (fk 9)) := by
  unfold kernelRun0_B.sl.r_80
  simp only [b_v513] <;> rfl

theorem b_r_75 : kernelRun0_B.sl.r_75 (F := F) c i arg1 harg1 arg2 harg2 arg3 harg3 arg4 harg4 arg5 harg5 arg6 harg6 arg17 harg17 arg18 harg18 arg19 harg19 x0 x1 x2 x3 x4 x5 xs0 xs1 xs2 = DAc x0 x1 x2 x3 x4 x5 xs0 xs1 xs2 (BitVec.ofNat 32 (i 0)) (fk 8) := by
  unfold kernelRun0_B.sl.r_75
  simp only [b_r_49, View.readAt_eq_ld, ldX, ldT, ldV, ldX', ldT', ldV', harg19.read_unread] <;> rfl

theorem b_v537 : kernelRun0_B.sl.v537 (F := F) c arg1 harg1 arg5 harg5 arg18 harg18 arg22 x0 x4 xs1 = GLc x0 x4 xs1 (fk 10) := by
  unfold kernelRun0_B.sl.v537
  rw [b_HS4_11]
  exact rd_tiles _ _ (fk 10)

theorem b_r_82 : kernelRun0_B.sl.r_82 (F := F) c arg1 harg1 arg5 harg5 arg17 harg17 arg21 x0 x4 xs0 = gp (GLc x0 x4 xs0 (fk 9)) := by
  unfold kernelRun0_B.sl.r_82
  simp only [b_v513] <;> rfl

theorem b_v536 : kernelRun0_B.sl.v536 (F := F) c arg1 harg1 arg5 harg5 arg17 harg17 arg21 x0 x4 xs0 = GLc x0 x4 xs0 (fk 10) := by
  unfold kernelRun0_B.sl.v536
  rw [b_HS3_11]
  exact rd_tiles _ _ (fk 10)

theorem b_r_84 : kernelRun0_B.sl.r_84 (F := F) c i arg1 harg1 arg2 harg2 arg3 harg3 arg4 harg4 arg5 harg5 arg6 harg6 arg17 harg17 arg18 harg18 arg19 harg19 arg21 x0 x1 x2 x3 x4 x5 xs0 xs1 xs2 = DUc x0 x1 x2 x3 x4 x5 xs0 xs1 xs2 (BitVec.ofNat 32 (i 0)) (fk 10) := by
  unfold kernelRun0_B.sl.r_84
  simp only [b_r_79, b_v536] <;> rfl

theorem b_r_78 : kernelRun0_B.sl.r_78 (F := F) c i arg1 harg1 arg2 harg2 arg3 harg3 arg4 harg4 arg5 harg5 arg6 harg6 arg17 harg17 arg18 harg18 arg19 harg19 arg21 arg22 x0 x1 x2 x3 x4 x5 xs0 xs1 xs2 = Pc x0 x1 x2 x3 x4 x5 xs0 xs1 xs2 (BitVec.ofNat 32 (i 0)) 8 := by
  unfold kernelRun0_B.sl.r_78
  simp only [b_r_75, b_r_76, b_v488, b_v489, View.readAt_eq_ld, ldX, ldT, ldV, ldX', ldT', ldV', harg17.read_unread, harg18.read_unread] <;> rfl

theorem b_r_83 : kernelRun0_B.sl.r_83 (F := F) c i arg1 harg1 arg2 harg2 arg3 harg3 arg4 harg4 arg5 harg5 arg6 harg6 arg17 harg17 arg18 harg18 arg19 harg19 arg21 arg22 x0 x1 x2 x3 x4 x5 xs0 xs1 xs2 = Pc x0 x1 x2 x3 x4 x5 xs0 xs1 xs2 (BitVec.ofNat 32 (i 0)) 9 := by
  unfold kernelRun0_B.sl.r_83
  simp only [b_r_77, b_r_78, b_v513, b_r_80, b_r_81, b_r_82, View.readAt_eq_ld, ldX, ldT, ldV, ldX', ldT', ldV', harg17.read_unread, harg18.read_unread] <;> rfl

theorem b_v591 : kernelRun0_B.sl.v591 (F := F) c arg16 harg16 xo12 = View.ld xo12 (rA 2) := by
  unfold kernelRun0_B.sl.v591
  simp only [View.readAt_eq_ld, ldX, ldT, ldV, ldX', ldT', ldV', harg16.read_unread] <;> rfl

theorem b_r_4 : kernelRun0_B.sl.r_4 (F := F) c arg1 harg1 x0 = k0_pay6 x0 := by
  unfold kernelRun0_B.sl.r_4
  simp only [View.readAt_eq_ld, ldX, ldT, ldV, ldX', ldT', ldV', harg1.read_unread] <;> rfl

theorem b_r_85 : kernelRun0_B.sl.r_85 (F := F) c i arg1 harg1 arg2 harg2 arg3 harg3 arg4 harg4 arg5 harg5 arg6 harg6 arg17 harg17 arg18 harg18 arg19 harg19 arg21 arg22 x0 x1 x2 x3 x4 x5 xs0 xs1 xs2 = matmul dot_S384x256_S256x1024_S384x1024_1_0_0_1_n_n none (DGc x0 x1 x2 x3 x4 x5 xs0 xs1 xs2 (BitVec.ofNat 32 (i 0)) (fk 10)) (View.ld xs0 (rW (fk 10))) (constant S384x1024 .f32 0x00000000#32) := by
  unfold kernelRun0_B.sl.r_85
  simp only [b_r_79, b_v536, b_v537, View.readAt_eq_ld, ldX, ldT, ldV, ldX', ldT', ldV', harg17.read_unread] <;> rfl

end Cert.Ffn

end
-- ==== Proof.FfnOutB.lean ====
/- The stores of the feed-forward kernel in the case of the later grid points, in the vocabulary of `Proof/Ffn.lean`. -/
module

public import proofs.«01_k».proof.Proof.FfnWordsB
public import Idealize.ShloMosaic.Lib.VecWindow

@[expose] public section

set_option maxRecDepth 65536
set_option maxHeartbeats 2000000

noncomputable section

namespace Cert.Ffn

open Idealize.ShloMosaic Idealize.ShloMosaic.TcCoe
open Cert.Kernel2Ideal Cert.Kernel2Ideal.Gen

variable {F : FTy → Type} [FloatOps F]
variable {c : Dev nD} {i : grid0.Coords} {arg1 : Memref sig .tc .vmem S384x1024 .f32} {harg1 : arg1.IsWhole} {arg2 : Memref sig .tc .vmem S128x1024 .f32} {harg2 : arg2.IsWhole} {arg3 : Memref sig .tc .vmem S128x1024 .f32} {harg3 : arg3.IsWhole} {arg4 : Memref sig .tc .vmem S128x1024 .f32} {harg4 : arg4.IsWhole} {arg5 : Memref sig .tc .vmem S1x1024 .f32} {harg5 : arg5.IsWhole} {arg6 : Memref sig .tc .vmem S1x1024 .f32} {harg6 : arg6.IsWhole} {arg10 : Memref sig .tc .vmem S384x1024 .f32} {harg10 : arg10.IsWhole} {arg11 : Memref sig .tc .vmem S384x1024 .bf16} {harg11 : arg11.IsWhole} {arg12 : Memref sig .tc .vmem S384x2816 .bf16} {harg12 : arg12.IsWhole} {arg13 : Memref sig .tc .vmem S384x2816 .bf16} {harg13 : arg13.IsWhole} {arg14 : Memref sig .tc .vmem S384x2816 .bf16} {harg14 : arg14.IsWhole} {arg15 : Memref sig .tc .vmem S384x1024 .bf16} {harg15 : arg15.IsWhole} {arg16 : Memref sig .tc .vmem S8x1024 .f32} {harg16 : arg16.IsWhole} {arg17 : Memref sig .tc .vmem S2816x1024 .bf16} {harg17 : arg17.IsWhole} {arg18 : Memref sig .tc .vmem S2816x1024 .bf16} {harg18 : arg18.IsWhole} {arg19 : Memref sig .tc .vmem S2816x1024 .bf16} {harg19 : arg19.IsWhole} {arg21 : Memref sig .tc .vmem S384x2816 .f32} {harg21 : arg21.IsWhole} {arg22 : Memref sig .tc .vmem S384x2816 .f32} {harg22 : arg22.IsWhole} {hc0 : ¬cond0_0 i} {hc1 : ¬cond0_1 i} {x0 : Vec F S384x1024 .f32} {x1 : Vec F S128x1024 .f32} {x2 : Vec F S128x1024 .f32} {x3 : Vec F S128x1024 .f32} {x4 : Vec F S1x1024 .f32} {x5 : Vec F S1x1024 .f32} {xo12 : Vec F S8x1024 .f32} {xs0 : Vec F S2816x1024 .bf16} {xs1 : Vec F S2816x1024 .bf16} {xs2 : Vec F S2816x1024 .bf16} {fh0 : HbBuf0 (F := F) c hbM0_0} {fh1 : HbBuf0 (F := F) c hbM0_1} {fh2 : HbBuf0 (F := F) c hbM0_2}

theorem out_b_6 : out0_B_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 xo12 xs0 xs1 xs2 fh0 fh1 fh2 = o6V x0 x1 x2 x3 x4 x5 xs0 xs1 xs2 (BitVec.ofNat 32 (i 0)) := by
  unfold out0_B_6
  rw [View.read_writes_junk_eq_canon]
  unfold kernelRun0_B
  dsimp only
  simp only [b_r, b_r_1, b_r_2, b_r_3, b_r_48, b_r_83, b_r_84, b_r_85, View.readAt_eq_ld, ldX, ldT, ldV, ldX', ldT', ldV', harg1.read_unread, harg2.read_unread, harg3.read_unread, harg4.read_unread, harg5.read_unread, harg6.read_unread, harg16.read_unread, harg17.read_unread, harg18.read_unread, harg19.read_unread]
  exact View.canon_unit_zero hz2 _ _

theorem out_b_7 : out0_B_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 xo12 xs0 xs1 xs2 fh0 fh1 fh2 = k0_pay7 x0 x4 := by
  unfold out0_B_7
  rw [View.read_writes_junk_eq_canon]
  unfold kernelRun0_B
  dsimp only
  simp only [b_r_5]
  exact View.canon_unit_zero hz2 _ _

theorem out_b_8 : out0_B_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 xo12 xs0 xs1 xs2 fh0 fh1 fh2 = View.canon (tiles (DGc x0 x1 x2 x3 x4 x5 xs0 xs1 xs2 (BitVec.ofNat 32 (i 0)))) := by
  unfold out0_B_8
  rw [View.read_writes_junk_eq_canon]
  unfold kernelRun0_B
  dsimp only
  simp only [b_r_79, b_v536, b_v537, b_r_80, b_r_81, b_r_82, b_r_75, b_v488, b_v489, b_r_71, b_v463, b_v464, b_r_67, b_v438, b_v439, b_r_68, b_r_63, b_v388, b_v389, b_r_59, b_v363, b_v364, b_r_55, b_v338, b_v339, b_r_56, b_v289, b_r_52, b_r_53]
  rfl

theorem out_b_9 : out0_B_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 xo12 xs0 xs1 xs2 fh0 fh1 fh2 = View.canon (tiles (DUc x0 x1 x2 x3 x4 x5 xs0 xs1 xs2 (BitVec.ofNat 32 (i 0)))) := by
  unfold out0_B_9
  rw [View.read_writes_junk_eq_canon]
  unfold kernelRun0_B
  dsimp only
  simp only [b_r_79, b_v536, b_r_77, b_v513, b_r_80, b_r_75, b_v488, b_r_71, b_v463, b_r_67, b_v438, b_r_65, b_r_69, b_r_63, b_v388, b_r_59, b_v363, b_r_55, b_v338, b_r_57, b_r_50, b_v289, b_r_52]
  rfl

theorem out_b_10 : out0_B_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 xo12 xs0 xs1 xs2 fh0 fh1 fh2 = View.canon (tiles (fun k => k0_pay14 (Gc x0 x4 xs0 k) (Gc x0 x4 xs1 k))) := by
  unfold out0_B_10
  rw [View.read_writes_junk_eq_canon]
  unfold kernelRun0_B
  dsimp only
  simp only [b_r_35, b_r_36, b_r_32, b_r_33, b_r_29, b_r_30, b_r_34, b_r_26, b_r_27, b_r_23, b_r_24, b_r_20, b_r_21, b_r_17, b_r_18, b_r_14, b_r_15, b_r_19, b_r_11, b_r_12, b_r_8, b_r_9, b_r_6, b_r_7]
  rfl

theorem out_b_11 : out0_B_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 xo12 xs0 xs1 xs2 fh0 fh1 fh2 = D2b x0 x1 x2 x3 x4 x5 xs0 xs1 xs2 (BitVec.ofNat 32 (i 0)) := by
  unfold out0_B_11
  rw [View.read_writes_junk_eq_canon]
  unfold kernelRun0_B
  dsimp only
  simp only [b_r_49]
  exact View.canon_unit_zero hz2 _ _

theorem out_b_12 : out0_B_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg21 harg21 arg22 harg22 hc0 hc1 x0 x1 x2 x3 x4 x5 xo12 xs0 xs1 xs2 fh0 fh1 fh2 = o12V x0 x1 x2 x3 x4 x5 xs0 xs1 xs2 (BitVec.ofNat 32 (i 0)) xo12 := by
  unfold out0_B_12
  unfold kernelRun0_B
  dsimp only
  simp only [b_r_46, b_v591, b_r_86, b_r_4, b_r_83, b_r_84, b_r_85, View.readAt_eq_ld, ldX, ldT, ldV, ldX', ldT', ldV', harg1.read_unread, harg2.read_unread, harg3.read_unread, harg4.read_unread, harg5.read_unread, harg6.read_unread, harg16.read_unread, harg17.read_unread, harg18.read_unread, harg19.read_unread]
  exact acc_writes _ _ _ _ (harg16.read_unread xo12) _ _ _

end Cert.Ffn

end
-- ==== Proof.FfnSweep.lean ====
/- The eleven grid points of the feed-forward kernel in order: the weights stay in the scratches, each point handles its
   384 rows, and the block of sums collects all of them. -/
module

public import proofs.«01_k».proof.Proof.FfnRows
public import proofs.«01_k».proof.Proof.FfnOutA
public import proofs.«01_k».proof.Proof.FfnOutB

@[expose] public section

set_option maxRecDepth 16384

noncomputable section

namespace Cert.Ffn

open Idealize.ShloMosaic Idealize.ShloMosaic.TcCoe Idealize.ShloMosaic.ValueKit
open Cert.Kernel2Ideal Cert.Kernel2Ideal.Gen

variable (m : (ℓ : Loc nD τ sig) → Buf (Elt Ideal) ℓ) (c : Dev nD)

theorem pr1 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.1 = a1 := by rw [h]
theorem pr2 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.1 = a2 := by rw [h]
theorem pr3 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.1 = a3 := by rw [h]
theorem pr4 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.1 = a4 := by rw [h]
theorem pr5 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.1 = a5 := by rw [h]
theorem pr6 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.1 = a6 := by rw [h]
theorem pr7 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.2.1 = a7 := by rw [h]
theorem pr8 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.2.2.1 = a8 := by rw [h]
theorem pr9 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.2.2.2.1 = a9 := by rw [h]
theorem pr10 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.2.2.2.2 = a10 := by rw [h]

/-- The three weight matrices. -/
abbrev wA : Vec Ideal S2816x1024 .bf16 := m ((c : Thread nD τ).loc main_arg4)
abbrev wB : Vec Ideal S2816x1024 .bf16 := m ((c : Thread nD τ).loc main_arg5)
abbrev wC : Vec Ideal S2816x1024 .bf16 := m ((c : Thread nD τ).loc main_arg6)

/-- Every point leaves the weight matrices in the scratches. -/
theorem scr : ∀ (n : ℕ) (hn : n < cfg0.N), (outsAt0 m c n hn).2.2.2.2.2.2.2.1 = wA m c ∧ (outsAt0 m c n hn).2.2.2.2.2.2.2.2.1 = wB m c ∧ (outsAt0 m c n hn).2.2.2.2.2.2.2.2.2 = wC m c
  | 0, hn => ⟨(pr8 (outsAt0_A m c ⟨0, hn⟩ (Nat.zero_mod _) (Nat.zero_mod _))).trans sout_a_0,
      (pr9 (outsAt0_A m c ⟨0, hn⟩ (Nat.zero_mod _) (Nat.zero_mod _))).trans sout_a_1,
      (pr10 (outsAt0_A m c ⟨0, hn⟩ (Nat.zero_mod _) (Nat.zero_mod _))).trans sout_a_2⟩
  | n + 1, hn => by
    have ht : n + 1 < 11 := lt_of_lt_of_eq hn N_0
    have h0 : ¬(n + 1) % 11 = 0 := by omega
    have s := scr n (Nat.lt_of_succ_lt hn)
    exact ⟨(pr8 (outsAt0_B m c ⟨n + 1, hn⟩ h0 h0)).trans s.1, (pr9 (outsAt0_B m c ⟨n + 1, hn⟩ h0 h0)).trans s.2.1,
      (pr10 (outsAt0_B m c ⟨n + 1, hn⟩ h0 h0)).trans s.2.2⟩

theorem pt6 (t : Fin cfg0.N) : (outsAt0 m c t.val t.isLt).1 = o6V (iblk m c 0 t) (iblk m c 1 t) (iblk m c 2 t) (iblk m c 3 t) (iblk m c 4 t) (iblk m c 5 t) (wA m c) (wB m c) (wC m c) (BitVec.ofNat 32 (grid0.coords t 0)) := by
  by_cases h0 : t.val % 11 = 0
  · exact (pr1 (outsAt0_A m c t h0 h0)).trans out_a_6
  · refine (pr1 (outsAt0_B m c t h0 h0)).trans (out_b_6.trans ?_)
    have s := scr m c (t.val - 1) (Nat.lt_of_le_of_lt (Nat.sub_le _ _) t.isLt)
    rw [s.1, s.2.1, s.2.2]

theorem pt7 (t : Fin cfg0.N) : (outsAt0 m c t.val t.isLt).2.1 = k0_pay7 (iblk m c 0 t) (iblk m c 4 t) := by
  by_cases h0 : t.val % 11 = 0
  · exact (pr2 (outsAt0_A m c t h0 h0)).trans out_a_7
  · refine (pr2 (outsAt0_B m c t h0 h0)).trans (out_b_7.trans ?_)
    have s := scr m c (t.val - 1) (Nat.lt_of_le_of_lt (Nat.sub_le _ _) t.isLt)
    rfl

theorem pt8 (t : Fin cfg0.N) : (outsAt0 m c t.val t.isLt).2.2.1 = View.canon (tiles (DGc (iblk m c 0 t) (iblk m c 1 t) (iblk m c 2 t) (iblk m c 3 t) (iblk m c 4 t) (iblk m c 5 t) (wA m c) (wB m c) (wC m c) (BitVec.ofNat 32 (grid0.coords t 0)))) := by
  by_cases h0 : t.val % 11 = 0
  · exact (pr3 (outsAt0_A m c t h0 h0)).trans out_a_8
  · refine (pr3 (outsAt0_B m c t h0 h0)).trans (out_b_8.trans ?_)
    have s := scr m c (t.val - 1) (Nat.lt_of_le_of_lt (Nat.sub_le _ _) t.isLt)
    rw [s.1, s.2.1, s.2.2]

theorem pt9 (t : Fin cfg0.N) : (outsAt0 m c t.val t.isLt).2.2.2.1 = View.canon (tiles (DUc (iblk m c 0 t) (iblk m c 1 t) (iblk m c 2 t) (iblk m c 3 t) (iblk m c 4 t) (iblk m c 5 t) (wA m c) (wB m c) (wC m c) (BitVec.ofNat 32 (grid0.coords t 0)))) := by
  by_cases h0 : t.val % 11 = 0
  · exact (pr4 (outsAt0_A m c t h0 h0)).trans out_a_9
  · refine (pr4 (outsAt0_B m c t h0 h0)).trans (out_b_9.trans ?_)
    have s := scr m c (t.val - 1) (Nat.lt_of_le_of_lt (Nat.sub_le _ _) t.isLt)
    rw [s.1, s.2.1, s.2.2]

theorem pt10 (t : Fin cfg0.N) : (outsAt0 m c t.val t.isLt).2.2.2.2.1 = View.canon (tiles (fun k => k0_pay14 (Gc (iblk m c 0 t) (iblk m c 4 t) (wA m c) k) (Gc (iblk m c 0 t) (iblk m c 4 t) (wB m c) k))) := by
  by_cases h0 : t.val % 11 = 0
  · exact (pr5 (outsAt0_A m c t h0 h0)).trans out_a_10
  · refine (pr5 (outsAt0_B m c t h0 h0)).trans (out_b_10.trans ?_)
    have s := scr m c (t.val - 1) (Nat.lt_of_le_of_lt (Nat.sub_le _ _) t.isLt)
    rw [s.1, s.2.1]

theorem pt11 (t : Fin cfg0.N) : (outsAt0 m c t.val t.isLt).2.2.2.2.2.1 = D2b (iblk m c 0 t) (iblk m c 1 t) (iblk m c 2 t) (iblk m c 3 t) (iblk m c 4 t) (iblk m c 5 t) (wA m c) (wB m c) (wC m c) (BitVec.ofNat 32 (grid0.coords t 0)) := by
  by_cases h0 : t.val % 11 = 0
  · exact (pr6 (outsAt0_A m c t h0 h0)).trans out_a_11
  · refine (pr6 (outsAt0_B m c t h0 h0)).trans (out_b_11.trans ?_)
    have s := scr m c (t.val - 1) (Nat.lt_of_le_of_lt (Nat.sub_le _ _) t.isLt)
    rw [s.1, s.2.1, s.2.2]

theorem pt12_first (hn : 0 < cfg0.N) (t : Fin cfg0.N) (ht : t = ⟨0, hn⟩) : (outsAt0 m c 0 hn).2.2.2.2.2.2.1 = o12V (iblk m c 0 t) (iblk m c 1 t) (iblk m c 2 t) (iblk m c 3 t) (iblk m c 4 t) (iblk m c 5 t) (wA m c) (wB m c) (wC m c) (BitVec.ofNat 32 (grid0.coords t 0)) (k0_pay2 (F := Ideal)) := by
  subst ht
  exact (pr7 (outsAt0_A m c ⟨0, hn⟩ (Nat.zero_mod _) (Nat.zero_mod _))).trans out_a_12

theorem pt12_next (n : ℕ) (hn : n + 1 < cfg0.N) (t : Fin cfg0.N) (ht : t = ⟨n + 1, hn⟩) :
    (outsAt0 m c (n + 1) hn).2.2.2.2.2.2.1 = o12V (iblk m c 0 t) (iblk m c 1 t) (iblk m c 2 t) (iblk m c 3 t) (iblk m c 4 t) (iblk m c 5 t) (wA m c) (wB m c) (wC m c) (BitVec.ofNat 32 (grid0.coords t 0)) ((outsAt0 m c n (Nat.lt_of_succ_lt hn)).2.2.2.2.2.2.1) := by
  subst ht
  have h11 : n + 1 < 11 := lt_of_lt_of_eq hn N_0
  have h0 : ¬(n + 1) % 11 = 0 := by omega
  refine (pr7 (outsAt0_B m c ⟨n + 1, hn⟩ h0 h0)).trans (out_b_12.trans ?_)
  have s := scr m c (n + 1 - 1) (Nat.lt_of_le_of_lt (Nat.sub_le _ _) hn)
  dsimp only
  rw [s.1, s.2.1, s.2.2]
  rfl

end Cert.Ffn

end
-- ==== Proof.FfnKernel.lean ====
/- The seven result arrays of the feed-forward kernel, row by row. -/
module

public import proofs.«01_k».proof.Proof.FfnSweep

@[expose] public section

set_option maxRecDepth 2048

noncomputable section

namespace Cert.Ffn

open Idealize.ShloMosaic Idealize.ShloMosaic.TcCoe Idealize.ShloMosaic.ValueKit
open Cert.Kernel2Ideal Cert.Kernel2Ideal.Gen

/-- Which rows count in the loss: those from 128 on. -/
def okb (i : Fin 4224) : BitVec 1 := if 128 ≤ i.val then 1#1 else 0#1

/-- The target row of a row: the one 128 rows back (of the first 128 rows, which do not count, the row itself). -/
def trow (T : Vec Ideal S4096x1024 .f32) (i : Fin 4224) : Row := fun d => T (ix2 (⟨if i.val < 128 then i.val else i.val - 128, by have := i.isLt; split <;> omega⟩ : Fin 4096) d)

/-- Row `r` of point `t`. -/
abbrev ri (t : Fin cfg0.N) (r : Fin 384) : Fin 4224 := ⟨384 * t.val + r.val, by have := lt_of_lt_of_eq t.isLt N_0; omega⟩

section
variable (m : (ℓ : Loc nD τ sig) → Buf (Elt Ideal) ℓ) (c : Dev nD)

abbrev aX : Vec Ideal S4224x1024 .f32 := m ((c : Thread nD τ).loc main_arg0)
abbrev aT : Vec Ideal S4096x1024 .f32 := m ((c : Thread nD τ).loc main_arg1)
abbrev aV : Vec Ideal S1x1024 .f32 := m ((c : Thread nD τ).loc main_arg2)
abbrev aW : Vec Ideal S1x1024 .f32 := m ((c : Thread nD τ).loc main_arg3)

theorem idx0 : ∀ t : Fin cfg0.N, win0_0.index t = ![t.val, 0] := (by decide +kernel : ∀ t : Fin grid0.N, win0_0.index t = ![t.val, 0])
theorem idx1 : ∀ t : Fin cfg0.N, win0_1.index t = ![3 * t.val - 1, 0] := (by decide +kernel : ∀ t : Fin grid0.N, win0_1.index t = ![3 * t.val - 1, 0])
theorem idx2 : ∀ t : Fin cfg0.N, win0_2.index t = ![3 * t.val, 0] := (by decide +kernel : ∀ t : Fin grid0.N, win0_2.index t = ![3 * t.val, 0])
theorem idx3 : ∀ t : Fin cfg0.N, win0_3.index t = ![3 * t.val + 1, 0] := (by decide +kernel : ∀ t : Fin grid0.N, win0_3.index t = ![3 * t.val + 1, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![0, 0] := (by decide +kernel : ∀ t : Fin grid0.N, win0_12.index t = ![0, 0])

theorem x0_at (t : Fin cfg0.N) (r : Fin 384) (d : Fin 1024) : iblk m c 0 t (ix2 r d) = aX m c (ix2 (ri t r) d) := by
  blk_ext! [iblk, V, idx0 t]
theorem x1_at (t : Fin cfg0.N) (r : Fin 128) (d : Fin 1024) : iblk m c 1 t (ix2 r d) = aT m c (ix2 (⟨128 * (3 * t.val - 1) + r.val, by have := lt_of_lt_of_eq t.isLt N_0; omega⟩ : Fin 4096) d) := by
  blk_ext! [iblk, V, idx1 t]
theorem x2_at (t : Fin cfg0.N) (r : Fin 128) (d : Fin 1024) : iblk m c 2 t (ix2 r d) = aT m c (ix2 (⟨128 * (3 * t.val) + r.val, by have := lt_of_lt_of_eq t.isLt N_0; omega⟩ : Fin 4096) d) := by
  blk_ext! [iblk, V, idx2 t]
theorem x3_at (t : Fin cfg0.N) (r : Fin 128) (d : Fin 1024) : iblk m c 3 t (ix2 r d) = aT m c (ix2 (⟨128 * (3 * t.val + 1) + r.val, by have := lt_of_lt_of_eq t.isLt N_0; omega⟩ : Fin 4096) d) := by
  blk_ext! [iblk, V, idx3 t]
theorem x4_at (t : Fin cfg0.N) (d : Fin 1024) : iblk m c 4 t (ix2 0 d) = aV m c (ix2 0 d) := by
  blk_ext! [iblk, V, idx4 t]
theorem x5_at (t : Fin cfg0.N) (d : Fin 1024) : iblk m c 5 t (ix2 0 d) = aW m c (ix2 0 d) := by
  blk_ext! [iblk, V, idx5 t]

/-- The weights as the network's parameters. -/
def par : Par := bpar (aV m c) (aW m c) (wA m c) (wB m c) (wC m c)

theorem bpar_eq (t : Fin cfg0.N) : bpar (iblk m c 4 t) (iblk m c 5 t) (wA m c) (wB m c) (wC m c) = par m c := by
  unfold par bpar
  simp only [x4_at, x5_at]

theorem ok_w (w : BitVec 32) (r : Fin 384) : k0_pay79 w (ix2 r 0) = Scalar.cmpi .sge (Scalar.addi (Scalar.muli w 384#32) (BitVec.ofNat 32 r.val)) 128#32 := by
  pointwise [k0_pay79]
  rfl

theorem ok_n : ∀ t : Fin 11, ∀ r : Fin 384, Scalar.cmpi .sge (Scalar.addi (Scalar.muli (BitVec.ofNat 32 t.val) 384#32) (BitVec.ofNat 32 r.val)) 128#32 = if 128 ≤ 384 * t.val + r.val then 1#1 else 0#1 := by
  decide +kernel

theorem ok_at (t : Fin cfg0.N) (r : Fin 384) : k0_pay79 (BitVec.ofNat 32 (grid0.coords t 0)) (ix2 r 0) = okb (ri t r) := by
  have hw : (grid0.coords t 0).val = t.val := (by decide +kernel : ∀ t : Fin grid0.N, (grid0.coords t 0).val = t.val) t
  rw [hw, ok_w]
  exact ok_n ⟨t.val, lt_of_lt_of_eq t.isLt N_0⟩ r

theorem cat_r (x1 x2 x3 : Vec Ideal S128x1024 .f32) (r : Fin 384) (d : Fin 1024) : catV x1 x2 x3 (ix2 r d) = if h1 : r.val < 128 then x1 (ix2 ⟨r.val, h1⟩ d) else if h2 : r.val - 128 < 128 then x2 (ix2 ⟨r.val - 128, h2⟩ d) else x3 (ix2 ⟨r.val - 128 - 128, by omega⟩ d) := by
  pointwise [catV]

theorem cat_at (t : Fin cfg0.N) (r : Fin 384) (d : Fin 1024) : catV (iblk m c 1 t) (iblk m c 2 t) (iblk m c 3 t) (ix2 r d) = trow (aT m c) (ri t r) d := by
  have ht := lt_of_lt_of_eq t.isLt N_0
  have hr := r.isLt
  rw [cat_r]
  unfold trow
  have key : ∀ (a b : Nat) (ha : a < 4096) (hb : b < 4096), a = b → aT m c (ix2 (⟨a, ha⟩ : Fin 4096) d) = aT m c (ix2 (⟨b, hb⟩ : Fin 4096) d) := by
    intro a b ha hb h; subst h; rfl
  have hv : (ri t r).val = 384 * t.val + r.val := rfl
  by_cases h1 : r.val < 128
  · rw [dif_pos h1]
    exact (x1_at m c t ⟨r.val, h1⟩ d).trans (key _ _ _ _ (by simp only [hv]; split <;> omega))
  · rw [dif_neg h1]
    by_cases h2 : r.val - 128 < 128
    · rw [dif_pos h2]
      exact (x2_at m c t ⟨r.val - 128, h2⟩ d).trans (key _ _ _ _ (by simp only [hv]; split <;> omega))
    · rw [dif_neg h2]
      exact (x3_at m c t ⟨r.val - 128 - 128, by omega⟩ d).trans (key _ _ _ _ (by simp only [hv]; split <;> omega))

/-- Row `i` of the residual, as the network's input. -/
abbrev hrow (i : Fin 4224) : Row := fun d => aX m c (ix2 i d)

theorem xrow (t : Fin cfg0.N) (r : Fin 384) : (fun d => iblk m c 0 t (ix2 r d)) = hrow m c (ri t r) := funext fun d => x0_at m c t r d
theorem crow (t : Fin cfg0.N) (r : Fin 384) : (fun d => catV (iblk m c 1 t) (iblk m c 2 t) (iblk m c 3 t) (ix2 r d)) = trow (aT m c) (ri t r) := funext fun d => cat_at m c t r d

theorem at6 (t : Fin cfg0.N) (r : Fin 384) (d : Fin 1024) : (outsAt0 m c t.val t.isLt).1 (ix2 r d) =
    (par m c).dh1 (hrow m c (ri t r)) (trow (aT m c) (ri t r)) (okb (ri t r)) d := by
  rw [pt6, o6V_at, bpar_eq, xrow, crow, ok_at]

theorem at11 (t : Fin cfg0.N) (r : Fin 384) (d : Fin 1024) : (outsAt0 m c t.val t.isLt).2.2.2.2.2.1 (ix2 r d) =
    (par m c).dh2 (hrow m c (ri t r)) (trow (aT m c) (ri t r)) (okb (ri t r)) d := by
  rw [pt11, D2b_at, bpar_eq, xrow, crow, ok_at]

theorem at7 (t : Fin cfg0.N) (r : Fin 384) (d : Fin 1024) : (outsAt0 m c t.val t.isLt).2.1 (ix2 r d) =
    xnr (hrow m c (ri t r)) (par m c).w2 d := by
  rw [pt7, pay7_at, xrow]
  simp only [x4_at]
  rfl

/-- The eleven column tiles of a hidden array, read at an entry. -/
theorem tiles_at {e : EltTy} (f : Fin 11 → S384x256.Idx → Elt Ideal e) (r : Fin 384) (j : Fin 2816) :
    View.canon (tiles f) (ix2 r j) = f ⟨j.val / 256, by omega⟩ (ix2 r ⟨j.val % 256, Nat.mod_lt _ (by decide)⟩) := by
  have hj := j.isLt
  have hm : tiles f = [10, 9, 8, 7, 6, 5, 4, 3, 2, 1, 0].map fun n => (⟨rT (fk n), f (fk n)⟩ : View.Piece (Elt Ideal) S384x2816 e) := rfl
  refine View.canon_apply_of_pieces (fun y : S384x2816.Idx => f ⟨(y 1).val / 256, by have := (y 1).isLt; have h : (y 1).val < 2816 := this; omega⟩ (ix2 (⟨(y 0).val, (y 0).isLt⟩ : Fin 384) ⟨(y 1).val % 256, Nat.mod_lt _ (by decide)⟩)) _ ?_ _ ?_
  · intro p hp x
    rw [hm] at hp
    obtain ⟨n, -, rfl⟩ := List.mem_map.mp hp
    have h1 : (x 1).val < 256 := (x 1).isLt
    have e1 : ((rT (fk n)).emb x 1).val = 256 * (n % 11) + 1 * (x 1).val := rfl
    have e0 : ((rT (fk n)).emb x 0).val = 0 + 1 * (x 0).val := rfl
    have a1 : (fk n) = ⟨((rT (fk n)).emb x 1).val / 256, by rw [e1]; have := Nat.mod_lt n (show 0 < 11 by decide); omega⟩ := Fin.ext (by show n % 11 = ((rT (fk n)).emb x 1).val / 256; rw [e1]; omega)
    have a2 : x = ix2 (⟨((rT (fk n)).emb x 0).val, by rw [e0]; have h0 : (x 0).val < 384 := (x 0).isLt; omega⟩ : Fin 384) (⟨((rT (fk n)).emb x 1).val % 256, Nat.mod_lt _ (by decide)⟩ : Fin 256) :=
      funext fun a => Fin.ext (by
        match a with
        | ⟨0, _⟩ => show (x 0).val = ((rT (fk n)).emb x 0).val; omega
        | ⟨1, _⟩ => show (x 1).val = ((rT (fk n)).emb x 1).val % 256; omega)
    exact congr (congrArg f a1) a2
  · have hc : fk (j.val / 256) = ⟨j.val / 256, by omega⟩ := Fin.ext (Nat.mod_eq_of_lt (by omega))
    refine ⟨⟨rT (fk (j.val / 256)), f (fk (j.val / 256))⟩, ?_, ?_⟩
    · rw [hm]
      refine List.mem_map.mpr ⟨j.val / 256, ?_, rfl⟩
      simp only [List.mem_cons, List.not_mem_nil, or_false]
      omega
    · rw [Rect.mem_set_unit]
      intro a
      match a with
      | ⟨0, _⟩ => exact ⟨Nat.zero_le _, by show r.val < 0 + 384; omega⟩
      | ⟨1, _⟩ => exact ⟨by show 256 * (j.val / 256 % 11) ≤ j.val; omega, by show j.val < 256 * (j.val / 256 % 11) + 256; omega⟩

theorem fi_split (j : Fin 2816) : fi ⟨j.val / 256, by omega⟩ ⟨j.val % 256, Nat.mod_lt _ (by decide)⟩ = j := Fin.ext (Nat.div_add_mod _ _)

theorem at8 (t : Fin cfg0.N) (r : Fin 384) (j : Fin 2816) : (outsAt0 m c t.val t.isLt).2.2.1 (ix2 r j) =
    (par m c).dg (hrow m c (ri t r)) (trow (aT m c) (ri t r)) (okb (ri t r)) j := by
  rw [pt8, tiles_at, DGc_at, bpar_eq, xrow, crow, ok_at, fi_split]

theorem at9 (t : Fin cfg0.N) (r : Fin 384) (j : Fin 2816) : (outsAt0 m c t.val t.isLt).2.2.2.1 (ix2 r j) =
    (par m c).du (hrow m c (ri t r)) (trow (aT m c) (ri t r)) (okb (ri t r)) j := by
  rw [pt9, tiles_at, DUc_at, bpar_eq, xrow, crow, ok_at, fi_split]

theorem at10 (t : Fin cfg0.N) (r : Fin 384) (j : Fin 2816) : (outsAt0 m c t.val t.isLt).2.2.2.2.1 (ix2 r j) =
    actv ((par m c).g (hrow m c (ri t r)) j) ((par m c).u (hrow m c (ri t r)) j) := by
  rw [pt10, tiles_at, Act_at (iblk m c 0 t) (iblk m c 4 t) (iblk m c 5 t) (wA m c) (wB m c) (wC m c), bpar_eq, xrow, fi_split]

/-- The cotangent of the residual, row by row. -/
def row6 (i : Fin 4224) (d : Fin 1024) : EReal := (par m c).dh1 (hrow m c i) (trow (aT m c) i) (okb i) d
def arr6 : Vec Ideal S4224x1024 .f32 := fun y => row6 m c (y 0) (y 1)

theorem final6 : (dats m 0 c).arrAt 6 cfg0.N = arr6 m c := by
  refine (dats m 0 c).arrAt_eq_of_covers 6 _ (by decide +kernel) fun t hf y => ?_
  rw [after0_6]
  refine ((congrArg _ (eq_ix2 (n0 := 384) (n1 := 1024) y)).trans (at6 m c t (y 0) (y 1))).trans ?_
  refine congrArg₂ (row6 m c) (Fin.ext ?_) (Fin.ext ?_)
  · blk_simp [idx6 t]
    exact congrArg (· + (y 0).val) (Nat.mul_comm 384 t.val)
  · blk_simp [idx6 t]

/-- The normalised rows. -/
def row7 (i : Fin 4224) (d : Fin 1024) : EReal := xnr (hrow m c i) (par m c).w2 d
def arr7 : Vec Ideal S4224x1024 .bf16 := fun y => row7 m c (y 0) (y 1)

theorem final7 : (dats m 0 c).arrAt 7 cfg0.N = arr7 m c := by
  refine (dats m 0 c).arrAt_eq_of_covers 7 _ (by decide +kernel) fun t hf y => ?_
  rw [after0_7]
  refine ((congrArg _ (eq_ix2 (n0 := 384) (n1 := 1024) y)).trans (at7 m c t (y 0) (y 1))).trans ?_
  refine congrArg₂ (row7 m c) (Fin.ext ?_) (Fin.ext ?_)
  · blk_simp [idx7 t]
    exact congrArg (· + (y 0).val) (Nat.mul_comm 384 t.val)
  · blk_simp [idx7 t]

/-- The cotangent of the gate's product. -/
def row8 (i : Fin 4224) (d : Fin 2816) : EReal := (par m c).dg (hrow m c i) (trow (aT m c) i) (okb i) d
def arr8 : Vec Ideal S4224x2816 .bf16 := fun y => row8 m c (y 0) (y 1)

theorem final8 : (dats m 0 c).arrAt 8 cfg0.N = arr8 m c := by
  refine (dats m 0 c).arrAt_eq_of_covers 8 _ (by decide +kernel) fun t hf y => ?_
  rw [after0_8]
  refine ((congrArg _ (eq_ix2 (n0 := 384) (n1 := 2816) y)).trans (at8 m c t (y 0) (y 1))).trans ?_
  refine congrArg₂ (row8 m c) (Fin.ext ?_) (Fin.ext ?_)
  · blk_simp [idx8 t]
    exact congrArg (· + (y 0).val) (Nat.mul_comm 384 t.val)
  · blk_simp [idx8 t]

/-- The cotangent of the second product. -/
def row9 (i : Fin 4224) (d : Fin 2816) : EReal := (par m c).du (hrow m c i) (trow (aT m c) i) (okb i) d
def arr9 : Vec Ideal S4224x2816 .bf16 := fun y => row9 m c (y 0) (y 1)

theorem final9 : (dats m 0 c).arrAt 9 cfg0.N = arr9 m c := by
  refine (dats m 0 c).arrAt_eq_of_covers 9 _ (by decide +kernel) fun t hf y => ?_
  rw [after0_9]
  refine ((congrArg _ (eq_ix2 (n0 := 384) (n1 := 2816) y)).trans (at9 m c t (y 0) (y 1))).trans ?_
  refine congrArg₂ (row9 m c) (Fin.ext ?_) (Fin.ext ?_)
  · blk_simp [idx9 t]
    exact congrArg (· + (y 0).val) (Nat.mul_comm 384 t.val)
  · blk_simp [idx9 t]

/-- The hidden activation. -/
def row10 (i : Fin 4224) (d : Fin 2816) : EReal := actv ((par m c).g (hrow m c i) d) ((par m c).u (hrow m c i) d)
def arr10 : Vec Ideal S4224x2816 .bf16 := fun y => row10 m c (y 0) (y 1)

theorem final10 : (dats m 0 c).arrAt 10 cfg0.N = arr10 m c := by
  refine (dats m 0 c).arrAt_eq_of_covers 10 _ (by decide +kernel) fun t hf y => ?_
  rw [after0_10]
  refine ((congrArg _ (eq_ix2 (n0 := 384) (n1 := 2816) y)).trans (at10 m c t (y 0) (y 1))).trans ?_
  refine congrArg₂ (row10 m c) (Fin.ext ?_) (Fin.ext ?_)
  · blk_simp [idx10 t]
    exact congrArg (· + (y 0).val) (Nat.mul_comm 384 t.val)
  · blk_simp [idx10 t]

/-- The cotangent of the row after the network. -/
def row11 (i : Fin 4224) (d : Fin 1024) : EReal := (par m c).dh2 (hrow m c i) (trow (aT m c) i) (okb i) d
def arr11 : Vec Ideal S4224x1024 .bf16 := fun y => row11 m c (y 0) (y 1)

theorem final11 : (dats m 0 c).arrAt 11 cfg0.N = arr11 m c := by
  refine (dats m 0 c).arrAt_eq_of_covers 11 _ (by decide +kernel) fun t hf y => ?_
  rw [after0_11]
  refine ((congrArg _ (eq_ix2 (n0 := 384) (n1 := 1024) y)).trans (at11 m c t (y 0) (y 1))).trans ?_
  refine congrArg₂ (row11 m c) (Fin.ext ?_) (Fin.ext ?_)
  · blk_simp [idx11 t]
    exact congrArg (· + (y 0).val) (Nat.mul_comm 384 t.val)
  · blk_simp [idx11 t]

/-- The summands of the three rows of sums. -/
def s0 (d : Fin 1024) (i : Fin 4224) : EReal := nrm (hrow m c i) d * (par m c).dx (hrow m c i) (trow (aT m c) i) (okb i) d
def s1 (d : Fin 1024) (i : Fin 4224) : EReal := nrm ((par m c).h2 (hrow m c i)) d * (par m c).ct (hrow m c i) (trow (aT m c) i) (okb i) d
def s2 (i : Fin 4224) : EReal := ∑ d : Fin 1024, (par m c).df (hrow m c i) (trow (aT m c) i) (okb i) d * (par m c).df (hrow m c i) (trow (aT m c) i) (okb i) d

/-- The part of a sum over all rows that point `n` adds. -/
def cs (F : Fin 4224 → EReal) (n : ℕ) : EReal := ∑ r : Fin 384, F ⟨384 * (n % 11) + r.val, by have := Nat.mod_lt n (show 0 < 11 by decide); omega⟩

theorem cs_ri (F : Fin 4224 → EReal) (t : Fin cfg0.N) : ∑ r : Fin 384, F (ri t r) = cs F t.val :=
  Finset.sum_congr rfl fun r _ => congrArg F (Fin.ext (by
    show 384 * t.val + r.val = 384 * (t.val % 11) + r.val
    rw [Nat.mod_eq_of_lt (lt_of_lt_of_eq t.isLt N_0)]))

theorem cs_sum (F : Fin 4224 → EReal) : ∑ j ∈ Finset.range 11, cs F j = ∑ i, F i := by
  unfold cs
  rw [Finset.sum_range, ← Fintype.sum_prod_type']
  refine Fintype.sum_equiv (finProdFinEquiv (m := 11) (n := 384)) _ _ fun p => congrArg F (Fin.ext ?_)
  show 384 * (p.1.val % 11) + p.2.val = p.2.val + 384 * p.1.val
  rw [Nat.mod_eq_of_lt p.1.isLt, Nat.add_comm]

/-- What point `n` adds to row `k` of the sums. -/
def add12 (k : Fin 8) (d : Fin 1024) (n : ℕ) : EReal :=
  if k.val = 0 then cs (s0 m c d) n else if k.val = 1 then cs (s1 m c d) n
  else if k.val = 2 then Ideal.div (Ideal.ofBits .f32 0x3F000000#32 * cs (s2 m c) n) (Ideal.ofBits .f32 0x44800000#32) else 0

theorem step12 (t : Fin cfg0.N) (Z : Vec Ideal S8x1024 .f32) (k : Fin 8) (d : Fin 1024) :
    o12V (iblk m c 0 t) (iblk m c 1 t) (iblk m c 2 t) (iblk m c 3 t) (iblk m c 4 t) (iblk m c 5 t) (wA m c) (wB m c) (wC m c) (BitVec.ofNat 32 (grid0.coords t 0)) Z (ix2 k d)
      = Z (ix2 k d) + add12 m c k d t.val := by
  unfold add12
  by_cases h0 : k.val = 0
  · obtain rfl : k = 0 := Fin.ext h0
    rw [if_pos h0, o12V_0, ← cs_ri]
    simp only [bpar_eq, xrow, crow, ok_at]
    rfl
  rw [if_neg h0]
  by_cases h1 : k.val = 1
  · obtain rfl : k = 1 := Fin.ext h1
    rw [if_pos h1, o12V_1, ← cs_ri]
    simp only [bpar_eq, xrow, crow, ok_at]
    rfl
  rw [if_neg h1]
  by_cases h2 : k.val = 2
  · obtain rfl : k = 2 := Fin.ext h2
    rw [if_pos h2, o12V_2, ← cs_ri]
    simp only [bpar_eq, xrow, crow, ok_at]
    rfl
  rw [if_neg h2, o12V_3 _ _ _ _ _ _ _ _ _ _ _ k (by omega), add_zero]

theorem acc12 (k : Fin 8) (d : Fin 1024) : ∀ (n : ℕ) (hn : n < cfg0.N), (outsAt0 m c n hn).2.2.2.2.2.2.1 (ix2 k d) = ∑ j ∈ Finset.range (n + 1), add12 m c k d j
  | 0, hn => by
    rw [pt12_first m c hn ⟨0, hn⟩ rfl, step12, pay2_at, zero_add, Finset.sum_range_one]
  | n + 1, hn => by
    rw [pt12_next m c n hn ⟨n + 1, hn⟩ rfl, step12, acc12 k d n (Nat.lt_of_succ_lt hn), Finset.sum_range_succ _ (n + 1)]

/-- The three rows of sums. -/
def row12 (k : Fin 8) (d : Fin 1024) : EReal := ∑ j ∈ Finset.range 11, add12 m c k d j
def arr12 : Vec Ideal S8x1024 .f32 := fun y => row12 m c (y 0) (y 1)

theorem at12 (t : Fin cfg0.N) (ht : t.val = 10) (k : Fin 8) (d : Fin 1024) : (outsAt0 m c t.val t.isLt).2.2.2.2.2.2.1 (ix2 k d) = row12 m c k d := by
  rw [acc12, ht]
  rfl

theorem final12 : (dats m 0 c).arrAt 12 cfg0.N = arr12 m c := by
  refine (dats m 0 c).arrAt_eq_of_covers 12 _ (by decide +kernel) fun t hf y => ?_
  have h10 : t.val = 10 := (by decide +kernel : ∀ t : Fin cfg0.grid.N, (cfg0.win 12).flush t = true → t.val = 10) t hf
  rw [after0_12]
  refine ((congrArg _ (eq_ix2 (n0 := 8) (n1 := 1024) y)).trans (at12 m c t h10 (y 0) (y 1))).trans ?_
  refine congrArg₂ (row12 m c) (Fin.ext ?_) (Fin.ext ?_)
  · blk_simp [idx12 t]
  · blk_simp [idx12 t]

end

end Cert.Ffn

end
-- ==== Proof.FfnReal.lean ====
/- Finite rows: every quantity of the network on real rows and weights is real, and the two places where the kernel and
   the reference differ by a law that holds among reals. -/
module

public import proofs.«01_k».proof.Proof.FfnKernel

@[expose] public section

set_option maxRecDepth 16384

noncomputable section

namespace Cert.Ffn

open Idealize.ShloMosaic Idealize.ShloMosaic.TcCoe

/-- An extended real that is a real number. -/
def IsRe (x : EReal) : Prop := ∃ r : ℝ, x = (r : EReal)

namespace IsRe
variable {x y : EReal}

theorem add : IsRe x → IsRe y → IsRe (x + y) := fun ⟨a, ha⟩ ⟨b, hb⟩ => ⟨a + b, by rw [ha, hb, EReal.coe_add]⟩
theorem mul : IsRe x → IsRe y → IsRe (x * y) := fun ⟨a, ha⟩ ⟨b, hb⟩ => ⟨a * b, by rw [ha, hb, EReal.coe_mul]⟩
theorem sub : IsRe x → IsRe y → IsRe (x - y) := fun ⟨a, ha⟩ ⟨b, hb⟩ => ⟨a - b, by rw [ha, hb, EReal.coe_sub]⟩
theorem zero : IsRe 0 := ⟨0, rfl⟩
theorem one : IsRe 1 := ⟨1, rfl⟩
theorem sum {ι : Type} (s : Finset ι) (f : ι → EReal) (h : ∀ i, IsRe (f i)) : IsRe (∑ i ∈ s, f i) := by
  classical
  induction s using Finset.induction_on with
  | empty => exact zero
  | insert a s ha ih => rw [Finset.sum_insert ha]; exact (h a).add ih

end IsRe

theorem coeSum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-! The literals. -/

theorem lit_1024 : Ideal.ofBits .f32 0x44800000#32 = ((1024 : ℝ) : EReal) := by
  simp [Ideal.ofBits, Ideal.ieee]
  rw [← EReal.coe_mul]
  norm_num
theorem lit_half : Ideal.ofBits .f32 0x3F000000#32 = ((1 / 2 : ℝ) : EReal) := by
  simp [Ideal.ofBits, Ideal.ieee]
  rw [← EReal.coe_mul]
  norm_num
theorem lit_nhalf : Ideal.ofBits .f32 0xBF000000#32 = ((-(1 / 2) : ℝ) : EReal) := by
  simp [Ideal.ofBits, Ideal.ieee]
  rw [← EReal.coe_mul]
  norm_num
theorem lit_inv : Ideal.ofBits .f32 0x3A800000#32 = ((1 / 1024 : ℝ) : EReal) := by
  simp [Ideal.ofBits, Ideal.ieee]
  rw [← EReal.coe_mul]
  norm_num
theorem lit_two : Ideal.ofBits .f32 0x40000000#32 = ((2 : ℝ) : EReal) := by
  simp [Ideal.ofBits, Ideal.ieee]
  rw [← EReal.coe_mul]
  norm_num
theorem lit_eps : ∃ e : ℝ, 0 < e ∧ Ideal.ofBits .f32 0x358637BD#32 = (e : EReal) := by
  refine ⟨8796093 * (1 / 8796093022208), by norm_num, ?_⟩
  simp [Ideal.ofBits, Ideal.ieee]
  norm_num

theorem div_1024 (x : EReal) : Ideal.div x (Ideal.ofBits .f32 0x44800000#32) = x * ((1 / 1024 : ℝ) : EReal) := by
  rw [lit_1024, Ideal.div_coe (by norm_num)]

theorem IsRe.div_1024 {x : EReal} (h : IsRe x) : IsRe (Ideal.div x (Ideal.ofBits .f32 0x44800000#32)) := by
  rw [Cert.Ffn.div_1024]
  exact h.mul ⟨_, rfl⟩

/-- A real row's mean of squares is positive, so its inverse root is real. -/
theorem ms_pos {h : Row} (hh : ∀ d, IsRe (h d)) : ∃ r : ℝ, 0 < r ∧ ms h = (r : EReal) := by
  choose a ha using hh
  obtain ⟨e, he, hv⟩ := lit_eps
  refine ⟨(∑ d, a d * a d) * (1 / 1024) + e, by have : 0 ≤ ∑ d, a d * a d := Finset.sum_nonneg fun d _ => mul_self_nonneg _; positivity, ?_⟩
  unfold ms
  rw [div_1024, hv, EReal.coe_add, EReal.coe_mul, coeSum]
  simp only [ha, EReal.coe_mul]

theorem rs_re {h : Row} (hh : ∀ d, IsRe (h d)) : IsRe (rs h) := by
  obtain ⟨r, hr, e⟩ := ms_pos hh
  refine ⟨(Real.sqrt r)⁻¹, ?_⟩
  unfold rs
  rw [e, Ideal.rsqrt_coe, if_neg (not_lt.mpr hr.le), if_neg hr.ne']

theorem qq_re {h : Row} (hh : ∀ d, IsRe (h d)) : IsRe (qq h) := by
  obtain ⟨r, hr, e⟩ := ms_pos hh
  unfold qq
  rw [e, Ideal.div_coe hr.ne', lit_nhalf]
  exact IsRe.mul ⟨_, rfl⟩ ((rs_re hh).mul ⟨_, rfl⟩)

theorem nrm_re {h : Row} (hh : ∀ d, IsRe (h d)) (d : Fin 1024) : IsRe (nrm h d) := (hh d).mul (rs_re hh)

theorem nbk_re {h a : Row} (hh : ∀ d, IsRe (h d)) (ha : ∀ d, IsRe (a d)) : IsRe (nbk h a) :=
  ((IsRe.sum _ _ fun d => (hh d).mul (ha d)).mul (qq_re hh)).div_1024

theorem sg_re {g : EReal} : IsRe g → IsRe (sg g) := fun ⟨a, ha⟩ => ⟨(1 + Real.exp (-a))⁻¹, by unfold sg; rw [ha, Ideal.logistic_coe]⟩

/-- The derivative of `g · σ(g)`, expanded. -/
theorem silu_back {g y : EReal} (hg : IsRe g) (hy : IsRe y) :
    y * sg g + (g * y) * (sg g * (1 - sg g)) = y * (sg g * (1 + g * (1 - sg g))) := by
  obtain ⟨s, hs⟩ := sg_re hg
  obtain ⟨a, rfl⟩ := hg
  obtain ⟨b, rfl⟩ := hy
  rw [hs]
  have e : b * s + (a * b) * (s * (1 - s)) = b * (s * (1 + a * (1 - s))) := by ring
  exact_mod_cast congrArg ((↑) : ℝ → EReal) e

/-- The cotangent of a difference, as the reference and as the kernel scale it. -/
theorem ct_scale (x : EReal) : Ideal.div (Ideal.ofBits .f32 0x3F000000#32) (Ideal.ofBits .f32 0x44800000#32) * (Ideal.ofBits .f32 0x40000000#32 * x)
    = x * Ideal.ofBits .f32 0x3A800000#32 := by
  rw [div_1024, lit_half, lit_two, lit_inv, ← mul_assoc, ← EReal.coe_mul, ← EReal.coe_mul, mul_comm]
  norm_num

/-- Real parameters. -/
structure Par.Re (A : Par) : Prop where
  WG : ∀ f d, IsRe (A.WG f d)
  WU : ∀ f d, IsRe (A.WU f d)
  WD : ∀ f d, IsRe (A.WD f d)
  w2 : ∀ d, IsRe (A.w2 d)
  wf : ∀ d, IsRe (A.wf d)

namespace Par
variable {A : Par} (H : A.Re) {h t : Row} (hh : ∀ d, IsRe (h d)) (ht : ∀ d, IsRe (t d)) (ok : BitVec 1)
include H hh

theorem g_re (f : Fin 2816) : IsRe (A.g h f) := by
  unfold Par.g hid xnr
  exact IsRe.sum _ _ fun d => ((nrm_re hh d).mul (H.w2 d)).mul (H.WG f d)
theorem u_re (f : Fin 2816) : IsRe (A.u h f) := by
  unfold Par.u hid xnr
  exact IsRe.sum _ _ fun d => ((nrm_re hh d).mul (H.w2 d)).mul (H.WU f d)
theorem h2_re (d : Fin 1024) : IsRe (A.h2 h d) :=
  (hh d).add (IsRe.sum _ _ fun f => (((g_re H hh f).mul (sg_re (g_re H hh f))).mul (u_re H hh f)).mul (H.WD f d))

include ht
theorem df_re (d : Fin 1024) : IsRe (A.df h t ok d) := by
  unfold Par.df Scalar.select
  split
  · exact ((nrm_re (h2_re H hh) d).mul (H.wf d)).sub (ht d)
  · exact IsRe.zero
theorem ctw_re (d : Fin 1024) : IsRe (A.ct h t ok d * A.wf d) := ((df_re H hh ht ok d).mul (by rw [lit_inv]; exact ⟨_, rfl⟩)).mul (H.wf d)
theorem dh2_re (d : Fin 1024) : IsRe (A.dh2 h t ok d) :=
  have hn := nbk_re (h2_re H hh) (ctw_re H hh ht ok)
  (((ctw_re H hh ht ok d).mul (rs_re (h2_re H hh))).add ((h2_re H hh d).mul hn)).add (hn.mul (h2_re H hh d))
theorem da_re (f : Fin 2816) : IsRe (A.da h t ok f) := by
  unfold Par.da hid
  exact IsRe.sum _ _ fun d => (dh2_re H hh ht ok d).mul (H.WD f d)

/-- The reference's cotangent of the gate's product is the kernel's. -/
theorem dg_eq (f : Fin 2816) : A.da h t ok f * A.u h f * sg (A.g h f) + A.g h f * (A.da h t ok f * A.u h f) * (sg (A.g h f) * (1 - sg (A.g h f))) = A.dg h t ok f :=
  silu_back (g_re H hh f) ((da_re H hh ht ok f).mul (u_re H hh f))

end Par

/-- The loss, as the kernel adds it up point by point and as the reference adds up its rows. -/
theorem loss_eq (F : Fin 4224 → EReal) (hF : ∀ i, IsRe (F i)) (h0 : ∀ i : Fin 4224, i.val < 128 → F i = 0) :
    ∑ j ∈ Finset.range 11, Ideal.div (Ideal.ofBits .f32 0x3F000000#32 * cs F j) (Ideal.ofBits .f32 0x44800000#32)
      = Ideal.ofBits .f32 0x3F000000#32 * ∑ i : Fin 4096, Ideal.div (F ⟨128 + i.val, by omega⟩) (Ideal.ofBits .f32 0x44800000#32) := by
  have h1 : ∑ i, F i = ∑ i : Fin 4096, F ⟨128 + i.val, by omega⟩ := by
    refine (Fin.sum_univ_add (a := 128) (b := 4096) F).trans ?_
    rw [Finset.sum_eq_zero fun i _ => h0 _ i.isLt, zero_add]
    exact Finset.sum_congr rfl fun i _ => rfl
  choose q hq using hF
  have h2 : ∑ j ∈ Finset.range 11, cs F j = ∑ i, F i := cs_sum F
  have hcs : ∀ j, ∃ r : ℝ, cs F j = (r : EReal) := fun j => IsRe.sum _ _ fun r => ⟨_, hq _⟩
  choose p hp using hcs
  rw [h1] at h2
  simp only [div_1024, lit_half, hp, hq] at h2 ⊢
  simp only [← EReal.coe_mul, ← coeSum] at h2 ⊢
  have h3 := EReal.coe_injective h2
  rw [← Finset.sum_mul, ← Finset.mul_sum, h3, ← Finset.sum_mul, mul_assoc]

end Cert.Ffn

end
-- ==== Proof.FfnRef.lean ====
/- The reference's arrays read at an entry, as the same rows as the kernel's. -/
module

public import proofs.«01_k».proof.Proof.FfnReal
public import proofs.«01_k».proof.Proof.Gen.Reference2Ideal.Run
public import Idealize.ShloMosaic.Lib.Pointwise

@[expose] public section

set_option maxRecDepth 16384

noncomputable section

namespace Cert.Ffn

open Idealize.ShloMosaic Idealize.ShloMosaic.TcCoe
open Idealize.ShloMosaic.StableHlo
open Cert.Reference2Ideal Cert.Reference2Ideal.Gen Cert.Reference2Ideal.Value

variable (V : Valuation τ sig (Elt Ideal))

abbrev vX : Vec Ideal S4224x1024 .f32 := V (Proc.devRef .tc main_arg0)
abbrev vT : Vec Ideal S4096x1024 .f32 := V (Proc.devRef .tc main_arg1)
abbrev vV : Vec Ideal S1x1024 .f32 := V (Proc.devRef .tc main_arg2)
abbrev vW : Vec Ideal S1x1024 .f32 := V (Proc.devRef .tc main_arg3)
abbrev vG : Vec Ideal S2816x1024 .bf16 := V (Proc.devRef .tc main_arg4)
abbrev vU : Vec Ideal S2816x1024 .bf16 := V (Proc.devRef .tc main_arg5)
abbrev vD : Vec Ideal S2816x1024 .bf16 := V (Proc.devRef .tc main_arg6)

/-- The reference's weights, and its rows. -/
def vpar : Par := ⟨fun f d => vG V (ix2 f d), fun f d => vU V (ix2 f d), fun f d => vD V (ix2 f d), fun d => vV V (ix2 0 d), fun d => vW V (ix2 0 d)⟩
def vrow (i : Fin 4224) : Row := fun d => vX V (ix2 i d)

theorem assoc4 (a b c d : EReal) : a + b + c + d = a + (b + c + d) := by rw [add_assoc a b c, add_assoc a (b + c) d]

theorem v14_at (i : Fin 4224) : (res_main_v14 V : Vec Ideal S4224x1 .f32) (ix2 i 0) = ms (vrow V i) := by
  pointwise [res_main_v14, ms, vrow]
theorem v15_at (i : Fin 4224) : (res_main_v15 V : Vec Ideal S4224x1 .f32) (ix2 i 0) = rs (vrow V i) := by
  pointwise [res_main_v15, v14_at, rs]
theorem v20_at (i : Fin 4224) (d : Fin 1024) : (res_main_v20 V : Vec Ideal S4224x1024 .f32) (ix2 i d) = nrm (vrow V i) d := by
  pointwise [res_main_v20, v15_at, nrm, vrow]
theorem v22_at (i : Fin 4224) (d : Fin 1024) : (res_main_v22 V : Vec Ideal S4224x1024 .f32) (ix2 i d) = xnr (vrow V i) (vpar V).w2 d := by
  pointwise [res_main_v22, v20_at, xnr, vpar]
theorem v24_at (i : Fin 4224) (f : Fin 2816) : (res_main_v24 V : Vec Ideal S4224x2816 .f32) (ix2 i f) = (vpar V).g (vrow V i) f := by
  pointwise [res_main_v24, res_main_v4, v22_at, Par.g, hid, vpar]
theorem v27_at (i : Fin 4224) (f : Fin 2816) : (res_main_v27 V : Vec Ideal S4224x2816 .f32) (ix2 i f) = (vpar V).u (vrow V i) f := by
  pointwise [res_main_v27, res_main_v6, v22_at, Par.u, hid, vpar]
theorem v25_2_at (i : Fin 4224) (f : Fin 2816) : (res_main_v25_2 V : Vec Ideal S4224x2816 .f32) (ix2 i f) = sg ((vpar V).g (vrow V i) f) := by
  pointwise [res_main_v25_2, v24_at, sg, Ideal.logistic]
theorem v25_0_at (i : Fin 4224) (f : Fin 2816) : (res_main_v25_0 V : Vec Ideal S4224x2816 .f32) (ix2 i f) = (vpar V).g (vrow V i) f * sg ((vpar V).g (vrow V i) f) := by
  pointwise [res_main_v25_0, v24_at, v25_2_at]
theorem v28_at (i : Fin 4224) (f : Fin 2816) : (res_main_v28 V : Vec Ideal S4224x2816 .f32) (ix2 i f) = actv ((vpar V).g (vrow V i) f) ((vpar V).u (vrow V i) f) := by
  pointwise [res_main_v28, v25_0_at, v27_at, actv]
theorem v31_at (i : Fin 4224) (d : Fin 1024) : (res_main_v31 V : Vec Ideal S4224x1024 .f32) (ix2 i d) = (vpar V).h2 (vrow V i) d := by
  pointwise [res_main_v31, res_main_v7, v28_at, Par.h2, vrow, vpar]
theorem v38_at (i : Fin 4224) : (res_main_v38 V : Vec Ideal S4224x1 .f32) (ix2 i 0) = ms ((vpar V).h2 (vrow V i)) := by
  pointwise [res_main_v38, v31_at, ms]
theorem v39_at (i : Fin 4224) : (res_main_v39 V : Vec Ideal S4224x1 .f32) (ix2 i 0) = rs ((vpar V).h2 (vrow V i)) := by
  pointwise [res_main_v39, v38_at, rs]
theorem v14_df (i : Fin 4224) : (res_main_v14 V : Vec Ideal S4224x1 .f32) (ix2 i default) = ms (vrow V i) := v14_at V i
theorem v15_df (i : Fin 4224) : (res_main_v15 V : Vec Ideal S4224x1 .f32) (ix2 i default) = rs (vrow V i) := v15_at V i
theorem v38_df (i : Fin 4224) : (res_main_v38 V : Vec Ideal S4224x1 .f32) (ix2 i default) = ms ((vpar V).h2 (vrow V i)) := v38_at V i
theorem v39_df (i : Fin 4224) : (res_main_v39 V : Vec Ideal S4224x1 .f32) (ix2 i default) = rs ((vpar V).h2 (vrow V i)) := v39_at V i
theorem v44_at (i : Fin 4224) (d : Fin 1024) : (res_main_v44 V : Vec Ideal S4224x1024 .f32) (ix2 i d) = nrm ((vpar V).h2 (vrow V i)) d := by
  pointwise [res_main_v44, v31_at, v39_at, nrm]

theorem okb_lo {i : Fin 4224} (h : i.val < 128) : okb i = 0#1 := if_neg (by omega)
theorem okb_hi {i : Fin 4224} (h : ¬i.val < 128) : okb i = 1#1 := if_pos (by omega)

theorem df_lo (i : Fin 4224) (h : i.val < 128) (d : Fin 1024) : (vpar V).df (vrow V i) (trow (vT V) i) (okb i) d = 0 := by
  rw [okb_lo h]
  rfl
theorem df_hi (i : Fin 4224) (h : ¬i.val < 128) (d : Fin 1024) : (vpar V).df (vrow V i) (trow (vT V) i) (okb i) d
    = nrm ((vpar V).h2 (vrow V i)) d * (vpar V).wf d - vT V (ix2 ⟨i.val - 128, by omega⟩ d) := by
  rw [okb_hi h]
  unfold Par.df trow
  simp only [if_neg h]
  rfl

theorem v48_at (j : Fin 4096) (d : Fin 1024) : (res_main_v48 V : Vec Ideal S4096x1024 .f32) (ix2 j d) =
    (vpar V).df (vrow V ⟨128 + j.val, by omega⟩) (trow (vT V) ⟨128 + j.val, by omega⟩) (okb ⟨128 + j.val, by omega⟩) d := by
  rw [df_hi _ _ (by show ¬128 + j.val < 128; omega)]
  pointwise [res_main_v48, v44_at, vpar]
theorem v63_at (i : Fin 4224) (d : Fin 1024) : (res_main_v63 V : Vec Ideal S4224x1024 .f32) (ix2 i d) = (vpar V).ct (vrow V i) (trow (vT V) i) (okb i) d := by
  unfold Par.ct
  pointwise [res_main_v63]
  by_cases h : i.val < 128
  · rw [dif_neg (by omega), df_lo V i h]
    exact (zero_mul (_ : EReal)).symm
  · have hb : ∀ j : Fin 4096, 128 + j.val < 4224 := fun j => by have := j.isLt; omega
    obtain ⟨j, rfl⟩ : ∃ j : Fin 4096, i = ⟨128 + j.val, hb j⟩ := ⟨⟨i.val - 128, by omega⟩, Fin.ext (by show i.val = 128 + (i.val - 128); omega)⟩
    rw [dif_pos ⟨by show 128 ≤ 128 + j.val; omega, by show 128 + j.val - 128 < 4096; omega⟩]
    simp only [Nat.add_sub_cancel_left, v48_at]
    exact ct_scale _
theorem v68_at (i : Fin 4224) (d : Fin 1024) : (res_main_v68 V : Vec Ideal S4224x1024 .f32) (ix2 i d) = (vpar V).ct (vrow V i) (trow (vT V) i) (okb i) d * (vpar V).wf d := by
  pointwise [res_main_v68, v63_at, vpar]
theorem v78_at (i : Fin 4224) (d : Fin 1024) : (res_main_v78 V : Vec Ideal S4224x1024 .f32) (ix2 i d) =
    nbk ((vpar V).h2 (vrow V i)) (fun d => (vpar V).ct (vrow V i) (trow (vT V) i) (okb i) d * (vpar V).wf d) := by
  pointwise [res_main_v78, v31_at, v68_at, v39_df, v38_df, nbk, qq, Finset.univ_unique, Finset.sum_singleton]
theorem v82_at (i : Fin 4224) (d : Fin 1024) : (res_main_v82 V : Vec Ideal S4224x1024 .f32) (ix2 i d) = (vpar V).dh2 (vrow V i) (trow (vT V) i) (okb i) d := by
  pointwise [res_main_v82, v31_at, v68_at, v39_at, v78_at, Par.dh2]
theorem v83_at (i : Fin 4224) (f : Fin 2816) : (res_main_v83 V : Vec Ideal S4224x2816 .f32) (ix2 i f) = (vpar V).da (vrow V i) (trow (vT V) i) (okb i) f := by
  pointwise [res_main_v83, res_main_v7, v82_at, Par.da, hid, vpar]
theorem v84_at (i : Fin 4224) (f : Fin 2816) : (res_main_v84 V : Vec Ideal S4224x2816 .f32) (ix2 i f) = (vpar V).du (vrow V i) (trow (vT V) i) (okb i) f := by
  pointwise [res_main_v84, v83_at, v25_0_at, Par.du]
  exact mul_comm (_ : EReal) _
theorem v85_at (i : Fin 4224) (f : Fin 2816) : (res_main_v85 V : Vec Ideal S4224x2816 .f32) (ix2 i f) = (vpar V).da (vrow V i) (trow (vT V) i) (okb i) f * (vpar V).u (vrow V i) f := by
  pointwise [res_main_v85, v83_at, v27_at]

section
variable (H : (vpar V).Re) (hX : ∀ i d, IsRe (vrow V i d)) (hT : ∀ i d, IsRe (vT V (ix2 i d)))
include H hX hT

theorem v87_at (i : Fin 4224) (f : Fin 2816) : (res_main_v87 V : Vec Ideal S4224x2816 .f32) (ix2 i f) = (vpar V).dg (vrow V i) (trow (vT V) i) (okb i) f := by
  rw [← Par.dg_eq (t := trow (vT V) i) H (hX i) (fun d => hT _ d) (okb i) f]
  pointwise [res_main_v87, v85_at, v25_2_at, v24_at]
theorem v89_at (i : Fin 4224) (d : Fin 1024) : (res_main_v89 V : Vec Ideal S4224x1024 .f32) (ix2 i d) = (vpar V).dx (vrow V i) (trow (vT V) i) (okb i) d := by
  have e := fun i f => v87_at V H hX hT i f
  pointwise [res_main_v89, res_main_v4, res_main_v6, v84_at, e, Par.dx, vpar]
  exact add_comm (_ : EReal) _
theorem v94_at (i : Fin 4224) (d : Fin 1024) : (res_main_v94 V : Vec Ideal S4224x1024 .f32) (ix2 i d) = (vpar V).dx (vrow V i) (trow (vT V) i) (okb i) d * (vpar V).w2 d := by
  have e := fun i f => v89_at V H hX hT i f
  pointwise [res_main_v94, e, vpar]
theorem v105_at (i : Fin 4224) (d : Fin 1024) : (res_main_v105 V : Vec Ideal S4224x1024 .f32) (ix2 i d) =
    nbk (vrow V i) (fun d => (vpar V).dx (vrow V i) (trow (vT V) i) (okb i) d * (vpar V).w2 d) := by
  have e := fun i f => v94_at V H hX hT i f
  pointwise [res_main_v105, e, v15_df, v14_df, nbk, qq, vrow, Finset.univ_unique, Finset.sum_singleton]

theorem r109_at (i : Fin 4224) (d : Fin 1024) : (addf (addf (addf (res_main_v82 V) (mulf (res_main_v94 V) (broadcastInDim S4224x1024 ![0, 1] bcast_S4224x1_S4224x1024_0_1 (res_main_v15 V)))) (mulf (V (Proc.devRef .tc main_arg0)) (res_main_v105 V))) (mulf (res_main_v105 V) (V (Proc.devRef .tc main_arg0))) : Vec Ideal S4224x1024 .f32) (ix2 i d) = (vpar V).dh1 (vrow V i) (trow (vT V) i) (okb i) d := by
  have e := fun i f => v94_at V H hX hT i f
  have e' := fun i f => v105_at V H hX hT i f
  pointwise [v82_at, e, e', v15_at, Par.dh1, vrow]
  exact assoc4 _ _ _ _
theorem r112_at (k : Fin 8) (d : Fin 1024) : ((concatenate S8x1024 0 [⟨S1x1024, ((shapeCast _ (Host.reduceAdd (mulf (res_main_v20 V) (res_main_v89 V)) (constant (F := Ideal) S_ .f32 0x00000000#32) reducesTo_S4224x1024_S1024_d0 h_S_) shapeCasts_S1024_S1x1024) : (⟨S1x1024, .f32⟩ : BufTy).Contents (Elt Ideal))⟩, ⟨S1x1024, ((shapeCast _ (Host.reduceAdd (mulf (res_main_v44 V) (res_main_v63 V)) (constant (F := Ideal) S_ .f32 0x00000000#32) reducesTo_S4224x1024_S1024_d0 h_S_) shapeCasts_S1024_S1x1024) : (⟨S1x1024, .f32⟩ : BufTy).Contents (Elt Ideal))⟩, ⟨S1x1024, ((broadcastInDim S1x1024 ![] bcast_S_S1x1024 (mulf (constant (F := Ideal) S_ .f32 0x3F000000#32) (Host.reduceAdd (Host.divf (Host.reduceAdd (mulf (res_main_v48 V) (res_main_v48 V)) (constant (F := Ideal) S_ .f32 0x00000000#32) reducesTo_S4096x1024_S4096_d1 h_S_) (broadcastInDim S4096 ![] bcast_S_S4096 (constant (F := Ideal) S_ .f32 0x44800000#32))) (constant (F := Ideal) S_ .f32 0x00000000#32) reducesTo_S4096_S_d0 h_S_))) : (⟨S1x1024, .f32⟩ : BufTy).Contents (Elt Ideal))⟩, ⟨S5x1024, ((broadcastInDim S5x1024 ![] bcast_S_S5x1024 (constant (F := Ideal) S_ .f32 0x00000000#32)) : (⟨S5x1024, .f32⟩ : BufTy).Contents (Elt Ideal))⟩] concatenates_S1x1024_S1x1024_S1x1024_S5x1024_S8x1024_d0 : (⟨S8x1024, .f32⟩ : BufTy).Contents (Elt Ideal)) : Vec Ideal S8x1024 .f32) (ix2 k d) =
    if k.val = 0 then ∑ i, nrm (vrow V i) d * (vpar V).dx (vrow V i) (trow (vT V) i) (okb i) d
    else if k.val = 1 then ∑ i, nrm ((vpar V).h2 (vrow V i)) d * (vpar V).ct (vrow V i) (trow (vT V) i) (okb i) d
    else if k.val = 2 then Ideal.ofBits .f32 0x3F000000#32 * ∑ j : Fin 4096, Ideal.div (∑ d, (vpar V).df (vrow V ⟨128 + j.val, by omega⟩) (trow (vT V) ⟨128 + j.val, by omega⟩) (okb ⟨128 + j.val, by omega⟩) d
      * (vpar V).df (vrow V ⟨128 + j.val, by omega⟩) (trow (vT V) ⟨128 + j.val, by omega⟩) (okb ⟨128 + j.val, by omega⟩) d) (Ideal.ofBits .f32 0x44800000#32)
    else 0 := by
  have e := fun i f => v89_at V H hX hT i f
  pointwise [v20_at, e, v44_at, v63_at, v48_at]
  by_cases h0 : k.val = 0
  · rw [dif_pos (by omega), if_pos h0]
  by_cases h1 : k.val = 1
  · rw [dif_neg (by omega), dif_pos (by omega), if_neg h0, if_pos h1]
  by_cases h2 : k.val = 2
  · rw [dif_neg (by omega), dif_neg (by omega), dif_pos (by omega), if_neg h0, if_neg h1, if_pos h2]
  · rw [dif_neg (by omega), dif_neg (by omega), dif_neg (by omega), if_neg h0, if_neg h1, if_neg h2]

end

end Cert.Ffn

end
-- ==== Proof.FfnFinish.lean ====
/- The two programs' results agree: the same arguments give the same weights and rows, all of them finite, so the
   reference's arrays are the kernel's. -/
module

public import proofs.«01_k».proof.Defs
public import proofs.«01_k».proof.Proof.FfnRef
public import proofs.«01_k».proof.Proof.Finish

@[expose] public section

set_option maxRecDepth 16384

noncomputable section

namespace Cert.Ffn

open Idealize.ShloMosaic Idealize.ShloMosaic.TcCoe
open Idealize.ShloMosaic.StableHlo

/-! What the precondition says of each argument: every entry is a real number. -/

section
variable [Cert.Pre_finite2.Facts] (X0 : Vec Ideal Cert.Pre_finite2.S4224x1024 .f32) (X1 : Vec Ideal Cert.Pre_finite2.S4096x1024 .f32)
  (X2 X3 : Vec Ideal Cert.Pre_finite2.S1x1024 .f32) (X4 X5 X6 : Vec Ideal Cert.Pre_finite2.S2816x1024 .bf16)

theorem fin0 (h : (Cert.Pre_finite2.fn (F := Ideal) X0 X1 X2 X3 X4 X5 X6).1 = fun _ => 1#1) (r : Fin 4224) (d : Fin 1024) : IsRe (X0 (ix2 r d)) := by
  have h := congrFun h (ix2 r d)
  simp only [Cert.Pre_finite2.fn, Cert.Pre_finite2.fn_part1, Cert.Pre_finite2.fn_part2] at h
  pointwise at h
  exact ⟨_, Cert.ScanBwd.coe_of_tests h⟩

theorem fin1 (h : (Cert.Pre_finite2.fn (F := Ideal) X0 X1 X2 X3 X4 X5 X6).2.1 = fun _ => 1#1) (r : Fin 4096) (d : Fin 1024) : IsRe (X1 (ix2 r d)) := by
  have h := congrFun h (ix2 r d)
  simp only [Cert.Pre_finite2.fn, Cert.Pre_finite2.fn_part1, Cert.Pre_finite2.fn_part2] at h
  pointwise at h
  exact ⟨_, Cert.ScanBwd.coe_of_tests h⟩

theorem fin2 (h : (Cert.Pre_finite2.fn (F := Ideal) X0 X1 X2 X3 X4 X5 X6).2.2.1 = fun _ => 1#1) (d : Fin 1024) : IsRe (X2 (ix2 0 d)) := by
  have h := congrFun h (ix2 0 d)
  simp only [Cert.Pre_finite2.fn, Cert.Pre_finite2.fn_part1, Cert.Pre_finite2.fn_part2] at h
  pointwise at h
  exact ⟨_, Cert.ScanBwd.coe_of_tests h⟩

theorem fin3 (h : (Cert.Pre_finite2.fn (F := Ideal) X0 X1 X2 X3 X4 X5 X6).2.2.2.1 = fun _ => 1#1) (d : Fin 1024) : IsRe (X3 (ix2 0 d)) := by
  have h := congrFun h (ix2 0 d)
  simp only [Cert.Pre_finite2.fn, Cert.Pre_finite2.fn_part1, Cert.Pre_finite2.fn_part2] at h
  pointwise at h
  exact ⟨_, Cert.ScanBwd.coe_of_tests h⟩

theorem fin4 (h : (Cert.Pre_finite2.fn (F := Ideal) X0 X1 X2 X3 X4 X5 X6).2.2.2.2.1 = fun _ => 1#1) (r : Fin 2816) (d : Fin 1024) : IsRe (X4 (ix2 r d)) := by
  have h := congrFun h (ix2 r d)
  simp only [Cert.Pre_finite2.fn, Cert.Pre_finite2.fn_part1, Cert.Pre_finite2.fn_part2] at h
  pointwise at h
  exact ⟨_, Cert.ScanBwd.coe_of_tests h⟩

theorem fin5 (h : (Cert.Pre_finite2.fn (F := Ideal) X0 X1 X2 X3 X4 X5 X6).2.2.2.2.2.1 = fun _ => 1#1) (r : Fin 2816) (d : Fin 1024) : IsRe (X5 (ix2 r d)) := by
  have h := congrFun h (ix2 r d)
  simp only [Cert.Pre_finite2.fn, Cert.Pre_finite2.fn_part1, Cert.Pre_finite2.fn_part2] at h
  pointwise at h
  exact ⟨_, Cert.ScanBwd.coe_of_tests h⟩

theorem fin6 (h : (Cert.Pre_finite2.fn (F := Ideal) X0 X1 X2 X3 X4 X5 X6).2.2.2.2.2.2 = fun _ => 1#1) (r : Fin 2816) (d : Fin 1024) : IsRe (X6 (ix2 r d)) := by
  have h := congrFun h (ix2 r d)
  simp only [Cert.Pre_finite2.fn, Cert.Pre_finite2.fn_part1, Cert.Pre_finite2.fn_part2] at h
  pointwise at h
  exact ⟨_, Cert.ScanBwd.coe_of_tests h⟩

end

section
open Cert.Kernel2Ideal Cert.Kernel2Ideal.Gen
variable (m : (ℓ : Loc nD τ sig) → Buf (Elt Ideal) ℓ) (c : Dev nD)

/-- The arguments of a device are real. -/
structure AllRe : Prop where
  X : ∀ i d, IsRe (hrow m c i d)
  T : ∀ i d, IsRe (aT m c (ix2 i d))
  P : (par m c).Re

theorem allRe [Cert.Pre_finite2.Facts] (hp : Cert.Pre_Kernel2Ideal_finite2 m) : AllRe m c := by
  obtain ⟨p0, p1, p2, p3, p4, p5, p6⟩ := hp c
  exact ⟨fun i d => fin0 _ _ _ _ _ _ _ p0 i d, fun i d => fin1 _ _ _ _ _ _ _ p1 i d,
    ⟨fun f d => fin4 _ _ _ _ _ _ _ p4 f d, fun f d => fin5 _ _ _ _ _ _ _ p5 f d, fun f d => fin6 _ _ _ _ _ _ _ p6 f d,
      fun d => fin2 _ _ _ _ _ _ _ p2 d, fun d => fin3 _ _ _ _ _ _ _ p3 d⟩⟩

theorem s2_re (H : AllRe m c) (i : Fin 4224) : IsRe (s2 m c i) :=
  IsRe.sum _ _ fun d => (Par.df_re H.P (H.X i) (fun d => H.T _ d) _ d).mul (Par.df_re H.P (H.X i) (fun d => H.T _ d) _ d)

theorem s2_lo (i : Fin 4224) (h : i.val < 128) : s2 m c i = 0 := by
  unfold s2 Par.df
  rw [okb_lo h]
  exact Finset.sum_eq_zero fun d _ => zero_mul (0 : EReal)

/-- The sums in closed form. -/
theorem row12_eq (H : AllRe m c) (k : Fin 8) (d : Fin 1024) : row12 m c k d =
    if k.val = 0 then ∑ i, s0 m c d i else if k.val = 1 then ∑ i, s1 m c d i
    else if k.val = 2 then Ideal.ofBits .f32 0x3F000000#32 * ∑ j : Fin 4096, Ideal.div (s2 m c ⟨128 + j.val, by omega⟩) (Ideal.ofBits .f32 0x44800000#32)
    else 0 := by
  unfold row12 add12
  by_cases h0 : k.val = 0
  · simp only [if_pos h0]
    exact cs_sum _
  simp only [if_neg h0]
  by_cases h1 : k.val = 1
  · simp only [if_pos h1]
    exact cs_sum _
  simp only [if_neg h1]
  by_cases h2 : k.val = 2
  · simp only [if_pos h2]
    exact loss_eq (s2 m c) (s2_re m c H) (s2_lo m c)
  simp only [if_neg h2]
  exact Finset.sum_const_zero

end

section
open Cert.Reference2Ideal Cert.Reference2Ideal.Gen Cert.Reference2Ideal.Value
variable (m : (ℓ : Loc Cert.Kernel2Ideal.nD Cert.Kernel2Ideal.τ Cert.Kernel2Ideal.sig) → Buf (Elt Ideal) ℓ) (c : Dev Cert.Kernel2Ideal.nD)
variable (V : Valuation τ sig (Elt Ideal))

/-- The reference runs on the kernel's arguments. -/
structure Same : Prop where
  P : vpar V = par m c
  X : vrow V = hrow m c
  T : vT V = aT m c

variable {m c V} (E : Same m c V) (H : AllRe m c)
include E

theorem eq7 : (truncf (F := Ideal) .bf16 (res_main_v22 V) bitsLt_bf16_f32 : FVec Ideal S4224x1024 .bf16) = arr7 m c := by
  funext y
  rw [eq_ix2 (n0 := 4224) (n1 := 1024) y]
  refine (v22_at V (y 0) (y 1)).trans ?_
  rw [E.P, E.X]
  rfl
theorem eq9 : (truncf (F := Ideal) .bf16 (res_main_v84 V) bitsLt_bf16_f32 : FVec Ideal S4224x2816 .bf16) = arr9 m c := by
  funext y
  rw [eq_ix2 (n0 := 4224) (n1 := 2816) y]
  refine (v84_at V (y 0) (y 1)).trans ?_
  rw [E.P, E.X, E.T]
  rfl
theorem eq10 : (truncf (F := Ideal) .bf16 (res_main_v28 V) bitsLt_bf16_f32 : FVec Ideal S4224x2816 .bf16) = arr10 m c := by
  funext y
  rw [eq_ix2 (n0 := 4224) (n1 := 2816) y]
  refine (v28_at V (y 0) (y 1)).trans ?_
  rw [E.P, E.X]
  rfl
theorem eq11 : (truncf (F := Ideal) .bf16 (res_main_v82 V) bitsLt_bf16_f32 : FVec Ideal S4224x1024 .bf16) = arr11 m c := by
  funext y
  rw [eq_ix2 (n0 := 4224) (n1 := 1024) y]
  refine (v82_at V (y 0) (y 1)).trans ?_
  rw [E.P, E.X, E.T]
  rfl

include H
theorem same_P : (vpar V).Re := by
  rw [E.P]
  exact H.P
theorem same_X : ∀ i d, IsRe (vrow V i d) := by
  rw [E.X]
  exact H.X
theorem same_T : ∀ i d, IsRe (vT V (ix2 i d)) := by
  rw [E.T]
  exact H.T

theorem eq8 : (truncf (F := Ideal) .bf16 (res_main_v87 V) bitsLt_bf16_f32 : FVec Ideal S4224x2816 .bf16) = arr8 m c := by
  funext y
  rw [eq_ix2 (n0 := 4224) (n1 := 2816) y]
  refine (v87_at V (same_P E H) (same_X E H) (same_T E H) (y 0) (y 1)).trans ?_
  rw [E.P, E.X, E.T]
  rfl
theorem eq6 : (addf (addf (addf (res_main_v82 V) (mulf (res_main_v94 V) (broadcastInDim S4224x1024 ![0, 1] bcast_S4224x1_S4224x1024_0_1 (res_main_v15 V)))) (mulf (V (Proc.devRef .tc main_arg0)) (res_main_v105 V))) (mulf (res_main_v105 V) (V (Proc.devRef .tc main_arg0))) : Vec Ideal S4224x1024 .f32) = arr6 m c := by
  funext y
  rw [eq_ix2 (n0 := 4224) (n1 := 1024) y]
  refine (r109_at V (same_P E H) (same_X E H) (same_T E H) (y 0) (y 1)).trans ?_
  rw [E.P, E.X, E.T]
  rfl
theorem eq12 : ((concatenate S8x1024 0 [⟨S1x1024, ((shapeCast _ (Host.reduceAdd (mulf (res_main_v20 V) (res_main_v89 V)) (constant (F := Ideal) S_ .f32 0x00000000#32) reducesTo_S4224x1024_S1024_d0 h_S_) shapeCasts_S1024_S1x1024) : (⟨S1x1024, .f32⟩ : BufTy).Contents (Elt Ideal))⟩, ⟨S1x1024, ((shapeCast _ (Host.reduceAdd (mulf (res_main_v44 V) (res_main_v63 V)) (constant (F := Ideal) S_ .f32 0x00000000#32) reducesTo_S4224x1024_S1024_d0 h_S_) shapeCasts_S1024_S1x1024) : (⟨S1x1024, .f32⟩ : BufTy).Contents (Elt Ideal))⟩, ⟨S1x1024, ((broadcastInDim S1x1024 ![] bcast_S_S1x1024 (mulf (constant (F := Ideal) S_ .f32 0x3F000000#32) (Host.reduceAdd (Host.divf (Host.reduceAdd (mulf (res_main_v48 V) (res_main_v48 V)) (constant (F := Ideal) S_ .f32 0x00000000#32) reducesTo_S4096x1024_S4096_d1 h_S_) (broadcastInDim S4096 ![] bcast_S_S4096 (constant (F := Ideal) S_ .f32 0x44800000#32))) (constant (F := Ideal) S_ .f32 0x00000000#32) reducesTo_S4096_S_d0 h_S_))) : (⟨S1x1024, .f32⟩ : BufTy).Contents (Elt Ideal))⟩, ⟨S5x1024, ((broadcastInDim S5x1024 ![] bcast_S_S5x1024 (constant (F := Ideal) S_ .f32 0x00000000#32)) : (⟨S5x1024, .f32⟩ : BufTy).Contents (Elt Ideal))⟩] concatenates_S1x1024_S1x1024_S1x1024_S5x1024_S8x1024_d0 : (⟨S8x1024, .f32⟩ : BufTy).Contents (Elt Ideal)) : Vec Ideal S8x1024 .f32) = arr12 m c := by
  funext y
  rw [eq_ix2 (n0 := 8) (n1 := 1024) y]
  refine (r112_at V (same_P E H) (same_X E H) (same_T E H) (y 0) (y 1)).trans (Eq.trans ?_ (row12_eq m c H (y 0) (y 1)).symm)
  rw [E.P, E.X, E.T]
  rfl

end

end Cert.Ffn

end
-- ==== Proof.Dw3.lean ====
/- The weight gradient of one product, `dyᵀ x`: the kernel computes it by blocks of 1408 rows, the reference at once. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Dw3

open Idealize.ShloMosaic Idealize.ShloMosaic.TcCoe Idealize.ShloMosaic.ValueKit

/-- Entry `(i, j)` of `aᵀ b`. -/
def tn {R C : ℕ} (a : FVec Ideal ⟨2, ![4224, R]⟩ .bf16) (b : FVec Ideal ⟨2, ![4224, C]⟩ .bf16) (i : Fin R) (j : Fin C) : EReal :=
  ∑ l : Fin 4224, a (ix2 l i) * b (ix2 l j)

section
open Cert.Kernel3Ideal Cert.Kernel3Ideal.Gen
variable (m : (ℓ : Loc nD τ sig) → Buf (Elt Ideal) ℓ) (c : Dev nD)

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- One block of the kernel. -/
theorem block (x0 : Vec Ideal S4224x1408 .bf16) (x1 : Vec Ideal S4224x1024 .bf16) (i : Fin 1408) (j : Fin 1024) :
    out0_2 x0 x1 (ix2 i j) = tn x0 x1 i j := by
  frame_out
  pointwise [k0_pay1, tn]

/-- The array of all entries. -/
def arr (a : Vec Ideal S4224x2816 .bf16) (b : Vec Ideal S4224x1024 .bf16) : Vec Ideal S2816x1024 .bf16 :=
  fun y => tn a b (y 0) (y 1)

theorem final : (dats m 0 c).arrAt 2 cfg0.N = arr (m ((c : Thread nD τ).loc main_arg0)) (m ((c : Thread nD τ).loc main_arg1)) := by
  refine (dats m 0 c).arrAt_eq_of_covers 2 _ (by decide +kernel) fun t hf y => ?_
  blk_simp
  rw [after0_2]
  refine ((congrArg _ (eq_ix2 (n0 := 1408) (n1 := 1024) y)).trans (block _ _ (y 0) (y 1))).trans ?_
  unfold arr tn
  refine Finset.sum_congr rfl fun l _ => congr (congrArg HMul.hMul ?_) ?_
  · blk_ext! [iblk, V, idx0 t, idx2 t]
  · blk_ext! [iblk, V, idx1 t, idx2 t]
end

section
open Cert.Reference3Ideal Cert.Reference3Ideal.Gen
theorem ref (a : Vec Ideal S4224x2816 .bf16) (b : Vec Ideal S4224x1024 .bf16) :
    truncf (F := Ideal) .bf16 (transpose S2816x1024 [1, 0] (transpose S1024x2816 [1, 0] (Host.dotGeneral dot_S4224x2816_S4224x1024_S2816x1024_0_0_1_1_n_n none (extf .f32 a bitsLt_bf16_f32) (extf .f32 b bitsLt_bf16_f32)) transposes_S2816x1024_S1024x2816_1_0) transposes_S1024x2816_S2816x1024_1_0) bitsLt_bf16_f32 = arr a b := by
  funext y
  obtain ⟨i, j, rfl⟩ : ∃ (i : Fin 2816) (j : Fin 1024), y = ix2 i j := ⟨y 0, y 1, eq_ix2 y⟩
  pointwise [arr, tn]
end

end Cert.Dw3

end
-- ==== Proof.Dw4.lean ====
/- The weight gradient of one product, `dyᵀ x`: the kernel computes it by blocks of 1152 rows, the reference at once. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Dw4

open Idealize.ShloMosaic Idealize.ShloMosaic.TcCoe Idealize.ShloMosaic.ValueKit

/-- Entry `(i, j)` of `aᵀ b`. -/
def tn {R C : ℕ} (a : FVec Ideal ⟨2, ![4224, R]⟩ .bf16) (b : FVec Ideal ⟨2, ![4224, C]⟩ .bf16) (i : Fin R) (j : Fin C) : EReal :=
  ∑ l : Fin 4224, a (ix2 l i) * b (ix2 l j)

section
open Cert.Kernel4Ideal Cert.Kernel4Ideal.Gen
variable (m : (ℓ : Loc nD τ sig) → Buf (Elt Ideal) ℓ) (c : Dev nD)

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- One block of the kernel. -/
theorem block (x0 : Vec Ideal S4224x1152 .bf16) (x1 : Vec Ideal S4224x1024 .bf16) (i : Fin 1152) (j : Fin 1024) :
    out0_2 x0 x1 (ix2 i j) = tn x0 x1 i j := by
  frame_out
  pointwise [k0_pay1, tn]

/-- The array of all entries. -/
def arr (a : Vec Ideal S4224x2304 .bf16) (b : Vec Ideal S4224x1024 .bf16) : Vec Ideal S2304x1024 .bf16 :=
  fun y => tn a b (y 0) (y 1)

theorem final : (dats m 0 c).arrAt 2 cfg0.N = arr (m ((c : Thread nD τ).loc main_arg0)) (m ((c : Thread nD τ).loc main_arg1)) := by
  refine (dats m 0 c).arrAt_eq_of_covers 2 _ (by decide +kernel) fun t hf y => ?_
  blk_simp
  rw [after0_2]
  refine ((congrArg _ (eq_ix2 (n0 := 1152) (n1 := 1024) y)).trans (block _ _ (y 0) (y 1))).trans ?_
  unfold arr tn
  refine Finset.sum_congr rfl fun l _ => congr (congrArg HMul.hMul ?_) ?_
  · blk_ext! [iblk, V, idx0 t, idx2 t]
  · blk_ext! [iblk, V, idx1 t, idx2 t]
end

section
open Cert.Reference4Ideal Cert.Reference4Ideal.Gen
theorem ref (a : Vec Ideal S4224x2304 .bf16) (b : Vec Ideal S4224x1024 .bf16) :
    truncf (F := Ideal) .bf16 (transpose S2304x1024 [1, 0] (transpose S1024x2304 [1, 0] (Host.dotGeneral dot_S4224x2304_S4224x1024_S2304x1024_0_0_1_1_n_n none (extf .f32 a bitsLt_bf16_f32) (extf .f32 b bitsLt_bf16_f32)) transposes_S2304x1024_S1024x2304_1_0) transposes_S1024x2304_S2304x1024_1_0) bitsLt_bf16_f32 = arr a b := by
  funext y
  obtain ⟨i, j, rfl⟩ : ∃ (i : Fin 2304) (j : Fin 1024), y = ix2 i j := ⟨y 0, y 1, eq_ix2 y⟩
  pointwise [arr, tn]
end

end Cert.Dw4

end
-- ==== Proof.Dw5.lean ====
/- The weight gradient of one product, `dyᵀ x`: the kernel computes it by blocks of 896 rows, the reference at once. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Dw5

open Idealize.ShloMosaic Idealize.ShloMosaic.TcCoe Idealize.ShloMosaic.ValueKit

/-- Entry `(i, j)` of `aᵀ b`. -/
def tn {R C : ℕ} (a : FVec Ideal ⟨2, ![4224, R]⟩ .bf16) (b : FVec Ideal ⟨2, ![4224, C]⟩ .bf16) (i : Fin R) (j : Fin C) : EReal :=
  ∑ l : Fin 4224, a (ix2 l i) * b (ix2 l j)

section
open Cert.Kernel5Ideal Cert.Kernel5Ideal.Gen
variable (m : (ℓ : Loc nD τ sig) → Buf (Elt Ideal) ℓ) (c : Dev nD)

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- One block of the kernel. -/
theorem block (x0 : Vec Ideal S4224x896 .bf16) (x1 : Vec Ideal S4224x1024 .bf16) (i : Fin 896) (j : Fin 1024) :
    out0_2 x0 x1 (ix2 i j) = tn x0 x1 i j := by
  frame_out
  pointwise [k0_pay1, tn]

/-- The array of all entries. -/
def arr (a : Vec Ideal S4224x1792 .bf16) (b : Vec Ideal S4224x1024 .bf16) : Vec Ideal S1792x1024 .bf16 :=
  fun y => tn a b (y 0) (y 1)

theorem final : (dats m 0 c).arrAt 2 cfg0.N = arr (m ((c : Thread nD τ).loc main_arg0)) (m ((c : Thread nD τ).loc main_arg1)) := by
  refine (dats m 0 c).arrAt_eq_of_covers 2 _ (by decide +kernel) fun t hf y => ?_
  blk_simp
  rw [after0_2]
  refine ((congrArg _ (eq_ix2 (n0 := 896) (n1 := 1024) y)).trans (block _ _ (y 0) (y 1))).trans ?_
  unfold arr tn
  refine Finset.sum_congr rfl fun l _ => congr (congrArg HMul.hMul ?_) ?_
  · blk_ext! [iblk, V, idx0 t, idx2 t]
  · blk_ext! [iblk, V, idx1 t, idx2 t]
end

section
open Cert.Reference5Ideal Cert.Reference5Ideal.Gen
theorem ref (a : Vec Ideal S4224x1792 .bf16) (b : Vec Ideal S4224x1024 .bf16) :
    truncf (F := Ideal) .bf16 (transpose S1792x1024 [1, 0] (transpose S1024x1792 [1, 0] (Host.dotGeneral dot_S4224x1792_S4224x1024_S1792x1024_0_0_1_1_n_n none (extf .f32 a bitsLt_bf16_f32) (extf .f32 b bitsLt_bf16_f32)) transposes_S1792x1024_S1024x1792_1_0) transposes_S1024x1792_S1792x1024_1_0) bitsLt_bf16_f32 = arr a b := by
  funext y
  obtain ⟨i, j, rfl⟩ : ∃ (i : Fin 1792) (j : Fin 1024), y = ix2 i j := ⟨y 0, y 1, eq_ix2 y⟩
  pointwise [arr, tn]
end

end Cert.Dw5

end
-- ==== Proof.Dw6.lean ====
/- The weight gradient of one product, `dyᵀ x`: the kernel computes it by blocks of 1280 rows, the reference at once. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Dw6

open Idealize.ShloMosaic Idealize.ShloMosaic.TcCoe Idealize.ShloMosaic.ValueKit

/-- Entry `(i, j)` of `aᵀ b`. -/
def tn {R C : ℕ} (a : FVec Ideal ⟨2, ![4224, R]⟩ .bf16) (b : FVec Ideal ⟨2, ![4224, C]⟩ .bf16) (i : Fin R) (j : Fin C) : EReal :=
  ∑ l : Fin 4224, a (ix2 l i) * b (ix2 l j)

section
open Cert.Kernel6Ideal Cert.Kernel6Ideal.Gen
variable (m : (ℓ : Loc nD τ sig) → Buf (Elt Ideal) ℓ) (c : Dev nD)

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- One block of the kernel. -/
theorem block (x0 : Vec Ideal S4224x1280 .bf16) (x1 : Vec Ideal S4224x1024 .bf16) (i : Fin 1280) (j : Fin 1024) :
    out0_2 x0 x1 (ix2 i j) = tn x0 x1 i j := by
  frame_out
  pointwise [k0_pay1, tn]

/-- The array of all entries. -/
def arr (a : Vec Ideal S4224x2560 .bf16) (b : Vec Ideal S4224x1024 .bf16) : Vec Ideal S2560x1024 .bf16 :=
  fun y => tn a b (y 0) (y 1)

theorem final : (dats m 0 c).arrAt 2 cfg0.N = arr (m ((c : Thread nD τ).loc main_arg0)) (m ((c : Thread nD τ).loc main_arg1)) := by
  refine (dats m 0 c).arrAt_eq_of_covers 2 _ (by decide +kernel) fun t hf y => ?_
  blk_simp
  rw [after0_2]
  refine ((congrArg _ (eq_ix2 (n0 := 1280) (n1 := 1024) y)).trans (block _ _ (y 0) (y 1))).trans ?_
  unfold arr tn
  refine Finset.sum_congr rfl fun l _ => congr (congrArg HMul.hMul ?_) ?_
  · blk_ext! [iblk, V, idx0 t, idx2 t]
  · blk_ext! [iblk, V, idx1 t, idx2 t]
end

section
open Cert.Reference6Ideal Cert.Reference6Ideal.Gen
theorem ref (a : Vec Ideal S4224x2560 .bf16) (b : Vec Ideal S4224x1024 .bf16) :
    truncf (F := Ideal) .bf16 (transpose S2560x1024 [1, 0] (transpose S1024x2560 [1, 0] (Host.dotGeneral dot_S4224x2560_S4224x1024_S2560x1024_0_0_1_1_n_n none (extf .f32 a bitsLt_bf16_f32) (extf .f32 b bitsLt_bf16_f32)) transposes_S2560x1024_S1024x2560_1_0) transposes_S1024x2560_S2560x1024_1_0) bitsLt_bf16_f32 = arr a b := by
  funext y
  obtain ⟨i, j, rfl⟩ : ∃ (i : Fin 2560) (j : Fin 1024), y = ix2 i j := ⟨y 0, y 1, eq_ix2 y⟩
  pointwise [arr, tn]
end

end Cert.Dw6

end
-- ==== Proof.Dw7.lean ====
/- The weight gradient of one product, `dyᵀ x`: the kernel computes it by blocks of 1024 rows, the reference at once. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Dw7

open Idealize.ShloMosaic Idealize.ShloMosaic.TcCoe Idealize.ShloMosaic.ValueKit

/-- Entry `(i, j)` of `aᵀ b`. -/
def tn {R C : ℕ} (a : FVec Ideal ⟨2, ![4224, R]⟩ .bf16) (b : FVec Ideal ⟨2, ![4224, C]⟩ .bf16) (i : Fin R) (j : Fin C) : EReal :=
  ∑ l : Fin 4224, a (ix2 l i) * b (ix2 l j)

section
open Cert.Kernel7Ideal Cert.Kernel7Ideal.Gen
variable (m : (ℓ : Loc nD τ sig) → Buf (Elt Ideal) ℓ) (c : Dev nD)

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- One block of the kernel. -/
theorem block (x0 : Vec Ideal S4224x1024 .bf16) (x1 : Vec Ideal S4224x1024 .bf16) (i : Fin 1024) (j : Fin 1024) :
    out0_2 x0 x1 (ix2 i j) = tn x0 x1 i j := by
  frame_out
  pointwise [k0_pay1, tn]

/-- The array of all entries. -/
def arr (a : Vec Ideal S4224x1024 .bf16) (b : Vec Ideal S4224x1024 .bf16) : Vec Ideal S1024x1024 .bf16 :=
  fun y => tn a b (y 0) (y 1)

theorem final : (dats m 0 c).arrAt 2 cfg0.N = arr (m ((c : Thread nD τ).loc main_arg0)) (m ((c : Thread nD τ).loc main_arg1)) := by
  refine (dats m 0 c).arrAt_eq_of_covers 2 _ (by decide +kernel) fun t hf y => ?_
  blk_simp
  rw [after0_2]
  refine ((congrArg _ (eq_ix2 (n0 := 1024) (n1 := 1024) y)).trans (block _ _ (y 0) (y 1))).trans ?_
  unfold arr tn
  refine Finset.sum_congr rfl fun l _ => congr (congrArg HMul.hMul ?_) ?_
  · blk_ext! [iblk, V, idx0 t, idx2 t]
  · blk_ext! [iblk, V, idx1 t, idx2 t]
end

section
open Cert.Reference7Ideal Cert.Reference7Ideal.Gen
theorem ref (a : Vec Ideal S4224x1024 .bf16) (b : Vec Ideal S4224x1024 .bf16) :
    truncf (F := Ideal) .bf16 (transpose S1024x1024 [1, 0] (transpose S1024x1024 [1, 0] (Host.dotGeneral dot_S4224x1024_S4224x1024_S1024x1024_0_0_1_1_n_n none (extf .f32 a bitsLt_bf16_f32) (extf .f32 b bitsLt_bf16_f32)) transposes_S1024x1024_S1024x1024_1_0) transposes_S1024x1024_S1024x1024_1_0) bitsLt_bf16_f32 = arr a b := by
  funext y
  obtain ⟨i, j, rfl⟩ : ∃ (i : Fin 1024) (j : Fin 1024), y = ix2 i j := ⟨y 0, y 1, eq_ix2 y⟩
  pointwise [arr, tn]
end

end Cert.Dw7

end
-- ==== Proof.Dw8.lean ====
/- The weight gradient of one product, `dyᵀ x`: the kernel computes it by blocks of 512 rows, the reference at once. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

set_option maxRecDepth 16384

noncomputable section

namespace Cert.Dw8

open Idealize.ShloMosaic Idealize.ShloMosaic.TcCoe Idealize.ShloMosaic.ValueKit

/-- Entry `(i, j)` of `aᵀ b`. -/
def tn {R C : ℕ} (a : FVec Ideal ⟨2, ![4224, R]⟩ .bf16) (b : FVec Ideal ⟨2, ![4224, C]⟩ .bf16) (i : Fin R) (j : Fin C) : EReal :=
  ∑ l : Fin 4224, a (ix2 l i) * b (ix2 l j)

section
open Cert.Kernel8Ideal Cert.Kernel8Ideal.Gen
variable (m : (ℓ : Loc nD τ sig) → Buf (Elt Ideal) ℓ) (c : Dev nD)

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- One block of the kernel. -/
theorem block (x0 : Vec Ideal S4224x512 .bf16) (x1 : Vec Ideal S4224x1024 .bf16) (i : Fin 512) (j : Fin 1024) :
    out0_2 x0 x1 (ix2 i j) = tn x0 x1 i j := by
  frame_out
  pointwise [k0_pay1, tn]

/-- The array of all entries. -/
def arr (a : Vec Ideal S4224x512 .bf16) (b : Vec Ideal S4224x1024 .bf16) : Vec Ideal S512x1024 .bf16 :=
  fun y => tn a b (y 0) (y 1)

theorem final : (dats m 0 c).arrAt 2 cfg0.N = arr (m ((c : Thread nD τ).loc main_arg0)) (m ((c : Thread nD τ).loc main_arg1)) := by
  refine (dats m 0 c).arrAt_eq_of_covers 2 _ (by decide +kernel) fun t hf y => ?_
  blk_simp
  rw [after0_2]
  refine ((congrArg _ (eq_ix2 (n0 := 512) (n1 := 1024) y)).trans (block _ _ (y 0) (y 1))).trans ?_
  unfold arr tn
  refine Finset.sum_congr rfl fun l _ => congr (congrArg HMul.hMul ?_) ?_
  · blk_ext! [iblk, V, idx0 t, idx2 t]
  · blk_ext! [iblk, V, idx1 t, idx2 t]
end

section
open Cert.Reference8Ideal Cert.Reference8Ideal.Gen
theorem ref (a : Vec Ideal S4224x512 .bf16) (b : Vec Ideal S4224x1024 .bf16) :
    truncf (F := Ideal) .bf16 (transpose S512x1024 [1, 0] (transpose S1024x512 [1, 0] (Host.dotGeneral dot_S4224x512_S4224x1024_S512x1024_0_0_1_1_n_n none (extf .f32 a bitsLt_bf16_f32) (extf .f32 b bitsLt_bf16_f32)) transposes_S512x1024_S1024x512_1_0) transposes_S1024x512_S512x1024_1_0) bitsLt_bf16_f32 = arr a b := by
  funext y
  obtain ⟨i, j, rfl⟩ : ∃ (i : Fin 512) (j : Fin 1024), y = ix2 i j := ⟨y 0, y 1, eq_ix2 y⟩
  pointwise [arr, tn]
end

end Cert.Dw8

end
-- ==== Proof.MixRows.lean ====
/- One row of the mixer over the extended reals: the two gated branches, the second behind its normalisation by heads. -/
module

public import Idealize.ShloMosaic.Lib.Pipeline.ValueKit
public import Idealize.ShloMosaic.Lib.Pointwise

@[expose] public section

set_option maxRecDepth 16384

noncomputable section

namespace Cert.Mix

open Idealize.ShloMosaic

/-- A row of 1024 entries; a row of four heads; the weight of one head. -/
abbrev Row := Fin 1024 → EReal
abbrev Hrow := Fin 512 → EReal
abbrev Lane := Fin 128 → EReal

/-- Lane `k` of head `g`; the head and the lane of a column. -/
def hi (g : Fin 4) (k : Fin 128) : Fin 512 := ⟨128 * g.val + k.val, by omega⟩
abbrev hd (d : Fin 512) : Fin 4 := ⟨d.val / 128, by omega⟩
abbrev ln (d : Fin 512) : Fin 128 := ⟨d.val % 128, by omega⟩

theorem hi_hd (d : Fin 512) : hi (hd d) (ln d) = d := Fin.ext (Nat.div_add_mod d.val 128)
theorem hd_hi (g : Fin 4) (k : Fin 128) : hd (hi g k) = g := Fin.ext (by show (128 * g.val + k.val) / 128 = g.val; omega)
theorem ln_hi (g : Fin 4) (k : Fin 128) : ln (hi g k) = k := Fin.ext (by show (128 * g.val + k.val) % 128 = k.val; omega)

theorem hi0 (k : Fin 128) : hi 0 k = ⟨k.val, by omega⟩ := Fin.ext (by show 128 * 0 + k.val = k.val; omega)
theorem hi1 (k : Fin 128) : hi 1 k = ⟨128 + k.val, by omega⟩ := Fin.ext (by show 128 * 1 + k.val = 128 + k.val; omega)
theorem hi2 (k : Fin 128) : hi 2 k = ⟨256 + k.val, by omega⟩ := Fin.ext (by show 128 * 2 + k.val = 256 + k.val; omega)
theorem hi3 (k : Fin 128) : hi 3 k = ⟨384 + k.val, by omega⟩ := Fin.ext (by show 128 * 3 + k.val = 384 + k.val; omega)

theorem hih (d : Fin 512) (k : Fin 128) : hi (hd d) k = ⟨d.val / 128 * 128 + k.val, by omega⟩ :=
  Fin.ext (congrArg (· + k.val) (Nat.mul_comm 128 (d.val / 128)))

/-- A row read at a column of each of the four heads. -/
theorem by_four (P Q : Hrow) (h0 : ∀ k, P (hi 0 k) = Q (hi 0 k)) (h1 : ∀ k, P (hi 1 k) = Q (hi 1 k))
    (h2 : ∀ k, P (hi 2 k) = Q (hi 2 k)) (h3 : ∀ k, P (hi 3 k) = Q (hi 3 k)) : P = Q := by
  funext d
  rw [← hi_hd d]
  match hd d with
  | 0 => exact h0 _
  | 1 => exact h1 _
  | 2 => exact h2 _
  | 3 => exact h3 _

def sg (g : EReal) : EReal := Ideal.logistic g
/-- One head of a row; the mean of a head's squares with the small summand, and its inverse root. -/
def hrow (o : Hrow) (g : Fin 4) : Lane := fun k => o (hi g k)
def hms (o : Lane) : EReal := Ideal.div (∑ k, o k * o k) (Ideal.ofBits .f32 0x43000000#32) + Ideal.ofBits .f32 0x358637BD#32
def hrs (o : Lane) : EReal := Ideal.rsqrt (hms o)
/-- A head normalised, weighted and gated. -/
def hog (o z w : Lane) : Lane := fun k => o k * hrs o * w k * (z k * sg (z k))
def og (o z : Hrow) (w : Lane) : Hrow := fun d => hog (hrow o (hd d)) (hrow z (hd d)) w (ln d)

/-- A row times a weight matrix. -/
def lin {n : ℕ} (x : Fin n → EReal) (W : Fin n → Row) : Row := fun d => ∑ j, x j * W j d

/-- The mixed row before the last product: the gated branches. -/
def yr (p1 p2 a b : Row) : Row := fun d => sg (a d) * p1 d + sg (b d) * p2 d

theorem og_hi (o z : Hrow) (w : Lane) (g : Fin 4) (k : Fin 128) : og o z w (hi g k) = hog (hrow o g) (hrow z g) w k := by
  unfold og
  rw [hd_hi, ln_hi]

/-- The mixer's row: the residual and the mixed row's product. -/
def fwd (f : Row) (o z : Hrow) (a b h : Row) (w : Lane) (Wf : Fin 1024 → Row) (Wd : Fin 512 → Row) (Wo : Fin 1024 → Row) : Row :=
  fun d => h d + lin (yr (lin f Wf) (lin (og o z w) Wd) a b) Wo d

end Cert.Mix
-- ==== Proof.MixBwdRows.lean ====
/- One row of the mixer's backward pass over the extended reals. -/
module

public import proofs.«01_k».proof.Proof.MixRows

@[expose] public section

set_option maxRecDepth 16384

noncomputable section

namespace Cert.Mix.Bwd

open Idealize.ShloMosaic

def c1 : EReal := Ideal.ofBits .f32 0x3F800000#32
def c128 : EReal := Ideal.ofBits .f32 0x43000000#32
def chalf : EReal := Ideal.ofBits .f32 0xBF000000#32

/-- The derivative of the logistic function, from its value. -/
def sd (g : EReal) : EReal := sg g * (c1 - sg g)

/-- One head: the normalised entries, the cotangents of the gate's argument and of the weighted entries. -/
def hn (o : Lane) : Lane := fun k => o k * hrs o
def hdz (o z w c : Lane) : Lane := fun k => hn o k * w k * c k * sg (z k) + z k * (hn o k * w k * c k) * sd (z k)
def hb (z c : Lane) : Lane := fun k => c k * (z k * sg (z k))
def he (z w c : Lane) : Lane := fun k => hb z c k * w k
/-- The share of the mean of squares in a head's cotangent, and the cotangent of a head. -/
def hq (o z w c : Lane) : EReal := Ideal.div ((∑ k, o k * he z w c k) * (chalf * Ideal.div (hrs o) (hms o))) c128
def hdo (o z w c : Lane) : Lane := fun k => he z w c k * hrs o + o k * hq o z w c + hq o z w c * o k
/-- A head's summand of the weight's cotangent. -/
def hdw (o z c : Lane) : Lane := fun k => hn o k * hb z c k

/-- A row of heads: the two cotangents, and the summand of the weight's cotangent. -/
def rdz (o z : Hrow) (w : Lane) (c : Hrow) : Hrow := fun d => hdz (hrow o (hd d)) (hrow z (hd d)) w (hrow c (hd d)) (ln d)
def rdo (o z : Hrow) (w : Lane) (c : Hrow) : Hrow := fun d => hdo (hrow o (hd d)) (hrow z (hd d)) w (hrow c (hd d)) (ln d)

theorem rdz_hi (o z : Hrow) (w : Lane) (c : Hrow) (g : Fin 4) (k : Fin 128) : rdz o z w c (hi g k) = hdz (hrow o g) (hrow z g) w (hrow c g) k := by
  unfold rdz
  rw [hd_hi, ln_hi]
theorem rdo_hi (o z : Hrow) (w : Lane) (c : Hrow) (g : Fin 4) (k : Fin 128) : rdo o z w c (hi g k) = hdo (hrow o g) (hrow z g) w (hrow c g) k := by
  unfold rdo
  rw [hd_hi, ln_hi]

/-- A row times a transposed weight matrix. -/
def linT {n : ℕ} (x : Row) (W : Fin n → Row) : Fin n → EReal := fun d => ∑ j, x j * W d j

/-- The cotangent of the mixed row, and those of the two branches. -/
def dy (h : Row) (Wo : Fin 1024 → Row) : Row := linT h Wo
def dp (y a : Row) : Row := fun d => y d * sg (a d)
/-- The cotangent of a gate's argument. -/
def dg (y p a : Row) : Row := fun d => y d * p d * sg (a d) * (c1 - sg (a d))

/-- Lane `k` of head `g` of a row of eight heads. -/
def hj (g : Fin 8) (k : Fin 128) : Fin 1024 := ⟨128 * g.val + k.val, by omega⟩
/-- A head's product with its output over the first 64 lanes. -/
def delta (a b : Lane) : EReal := ∑ k : Fin 128, if k.val < 64 then a k * b k else 0
/-- A head's cotangent with that product subtracted in lane 65. -/
def cor (a b : Lane) : Lane := fun k => a k - (if k.val = 65 then delta a b else 0)

end Cert.Mix.Bwd
-- ==== Proof.MixBwdVec.lean ====
/- The parts of the mixer's backward kernel, entry by entry. -/
module

public import proofs.«01_k».proof.Proof.MixBwdRows
public import proofs.«01_k».proof.Proof.Gen.Kernel9Ideal.Skeleton
public import Idealize.ShloMosaic.Lib.Pointwise

@[expose] public section

set_option maxRecDepth 16384

noncomputable section

namespace Cert.Mix.Bwd

open Idealize.ShloMosaic Idealize.ShloMosaic.TcCoe Idealize.ShloMosaic.ValueKit
open Cert.Kernel9Ideal Cert.Kernel9Ideal.Gen

section
variable (O Z C : FVec Ideal S384x128 .f32) (w : FVec Ideal S1x128 .f32)

def onesV : FVec Ideal S384x128 .f32 := broadcast S384x128 (Scalar.ofBits .f32 0x3F800000#32)
def msV : FVec Ideal S384x1 .f32 :=
  addf (divf (shapeCast S384x1 (multiReduction .add [1] S384 (mulf O O) 0x00000000#32 reduces_S384x128_S384 (.inl rfl) rfl) shapeCasts_S384_S384x1)
    (broadcast S384x1 (Scalar.ofBits .f32 0x43000000#32))) (broadcast S384x1 (Scalar.ofBits .f32 0x358637BD#32))
def rsV : FVec Ideal S384x1 .f32 := rsqrt (msV O)
def r1V : FVec Ideal S384x128 .f32 := mulf O (broadcastTo S384x128 (rsV O) broadcasts_S384x1_S384x128)
def r2V : FVec Ideal S384x128 .f32 := mulf (r1V O) (broadcastTo S384x128 w broadcasts_S1x128_S384x128)
def zsV : FVec Ideal S384x128 .f32 := mulf Z (logistic Z)
def ogV : FVec Ideal S384x128 .f32 := mulf (r2V O w) (zsV Z)
def uV : FVec Ideal S384x128 .f32 := mulf (r2V O w) C
def dzV : FVec Ideal S384x128 .f32 :=
  addf (mulf (uV O C w) (logistic Z)) (mulf (mulf Z (uV O C w)) (mulf (logistic Z) (subf onesV (logistic Z))))
def bV : FVec Ideal S384x128 .f32 := mulf C (zsV Z)
def eV : FVec Ideal S384x128 .f32 := mulf (bV Z C) (broadcastTo S384x128 w broadcasts_S1x128_S384x128)
def kV : FVec Ideal S384x1 .f32 := mulf (broadcast S384x1 (Scalar.ofBits .f32 0xBF000000#32)) (divf (rsV O) (msV O))
def qV : FVec Ideal S384x128 .f32 :=
  broadcastTo S384x128 (shapeCast S384x1 (multiReduction .add [1] S384 (divf (mulf (shapeCast S384x1 (multiReduction .add [1] S384 (mulf O (eV Z C w)) 0x00000000#32 reduces_S384x128_S384 (.inl rfl) rfl) shapeCasts_S384_S384x1) (kV O))
    (broadcast S384x1 (Scalar.ofBits .f32 0x43000000#32))) 0x00000000#32 reduces_S384x1_S384 (.inl rfl) rfl) shapeCasts_S384_S384x1) broadcasts_S384x1_S384x128
def doV : FVec Ideal S384x128 .f32 :=
  addf (addf (mulf (eV Z C w) (broadcastTo S384x128 (rsV O) broadcasts_S384x1_S384x128)) (mulf O (qV O Z C w))) (mulf (qV O Z C w) O)
def dwV : FVec Ideal S1x128 .f32 :=
  shapeCast S1x128 (multiReduction .add [0] S128 (mulf (r1V O) (bV Z C)) 0x00000000#32 reduces_S384x128_S128 (.inl rfl) rfl) shapeCasts_S128_S1x128

abbrev rl (o : FVec Ideal S384x128 .f32) (r : Fin 384) : Lane := fun k => o (ix2 r k)
abbrev wl (w : FVec Ideal S1x128 .f32) : Lane := fun k => w (ix2 0 k)

theorem msV_at (r : Fin 384) : msV O (ix2 r 0) = hms (rl O r) := by pointwise [msV, hms, rl]
theorem rsV_at (r : Fin 384) : rsV O (ix2 r 0) = hrs (rl O r) := by pointwise [rsV, hrs, msV_at]
theorem r1V_at (r : Fin 384) (k : Fin 128) : r1V O (ix2 r k) = hn (rl O r) k := by pointwise [r1V, hn, rsV_at, rl]
theorem r2V_at (r : Fin 384) (k : Fin 128) : r2V O w (ix2 r k) = hn (rl O r) k * wl w k := by pointwise [r2V, r1V_at, wl]
theorem ogV_at (r : Fin 384) (k : Fin 128) : ogV O Z w (ix2 r k) = hog (rl O r) (rl Z r) (wl w) k := by
  pointwise [ogV, zsV, r2V_at, hog, hn, sg, rl, wl]
theorem uV_at (r : Fin 384) (k : Fin 128) : uV O C w (ix2 r k) = hn (rl O r) k * wl w k * rl C r k := by pointwise [uV, r2V_at, rl]
theorem dzV_at (r : Fin 384) (k : Fin 128) : dzV O Z C w (ix2 r k) = hdz (rl O r) (rl Z r) (wl w) (rl C r) k := by
  pointwise [dzV, uV_at, hdz, sd, sg, c1, onesV, rl, wl]
theorem bV_at (r : Fin 384) (k : Fin 128) : bV Z C (ix2 r k) = hb (rl Z r) (rl C r) k := by pointwise [bV, zsV, hb, sg, rl]
theorem eV_at (r : Fin 384) (k : Fin 128) : eV Z C w (ix2 r k) = he (rl Z r) (wl w) (rl C r) k := by pointwise [eV, bV_at, he, wl]
theorem kV_at (r : Fin 384) : kV O (ix2 r 0) = chalf * Ideal.div (hrs (rl O r)) (hms (rl O r)) := by pointwise [kV, rsV_at, msV_at, chalf]
theorem kV_df (r : Fin 384) : kV O (ix2 r default) = chalf * Ideal.div (hrs (rl O r)) (hms (rl O r)) := kV_at O r
theorem qV_at (r : Fin 384) (k : Fin 128) : qV O Z C w (ix2 r k) = hq (rl O r) (rl Z r) (wl w) (rl C r) := by
  pointwise [qV, kV_df, eV_at, hq, c128, rl, Finset.univ_unique, Finset.sum_singleton]
theorem doV_at (r : Fin 384) (k : Fin 128) : doV O Z C w (ix2 r k) = hdo (rl O r) (rl Z r) (wl w) (rl C r) k := by
  pointwise [doV, eV_at, qV_at, rsV_at, hdo, rl]
theorem dwV_at (k : Fin 128) : dwV O Z C (ix2 0 k) = ∑ r : Fin 384, hdw (rl O r) (rl Z r) (rl C r) k := by
  pointwise [dwV, bV_at, r1V_at, hdw]

/-- Four heads one after the other, by concatenation and by adding them padded with zeros. -/
def catV (a b c e : FVec Ideal S384x128 .f32) : FVec Ideal S384x512 .f32 :=
  concatenate S384x512 1 [⟨S384x128, a⟩, ⟨S384x128, b⟩, ⟨S384x128, c⟩, ⟨S384x128, e⟩] concatenates_S384x128_S384x128_S384x128_S384x128_S384x512_d1
def pad3 (a : FVec Ideal S384x128 .f32) : FVec Ideal S384x512 .f32 :=
  concatenate S384x512 1 [⟨S384x384, (broadcast S384x384 (Scalar.ofBits (F := Ideal) .f32 0x00000000#32) : FVec Ideal S384x384 .f32)⟩, ⟨S384x128, a⟩] concatenates_S384x384_S384x128_S384x512_d1
def pad2 (a : FVec Ideal S384x128 .f32) : FVec Ideal S384x512 .f32 :=
  concatenate S384x512 1 [⟨S384x384, (concatenate S384x384 1 [⟨S384x256, (broadcast S384x256 (Scalar.ofBits (F := Ideal) .f32 0x00000000#32) : FVec Ideal S384x256 .f32)⟩, ⟨S384x128, a⟩] concatenates_S384x256_S384x128_S384x384_d1 : FVec Ideal S384x384 .f32)⟩, ⟨S384x128, (broadcast S384x128 (Scalar.ofBits (F := Ideal) .f32 0x00000000#32) : FVec Ideal S384x128 .f32)⟩] concatenates_S384x384_S384x128_S384x512_d1
def pad1 (a : FVec Ideal S384x128 .f32) : FVec Ideal S384x512 .f32 :=
  concatenate S384x512 1 [⟨S384x256, (concatenate S384x256 1 [⟨S384x128, (broadcast S384x128 (Scalar.ofBits (F := Ideal) .f32 0x00000000#32) : FVec Ideal S384x128 .f32)⟩, ⟨S384x128, a⟩] concatenates_S384x128_S384x128_S384x256_d1 : FVec Ideal S384x256 .f32)⟩, ⟨S384x256, (broadcast S384x256 (Scalar.ofBits (F := Ideal) .f32 0x00000000#32) : FVec Ideal S384x256 .f32)⟩] concatenates_S384x256_S384x256_S384x512_d1
def pad0 (a : FVec Ideal S384x128 .f32) : FVec Ideal S384x512 .f32 :=
  concatenate S384x512 1 [⟨S384x128, a⟩, ⟨S384x384, (broadcast S384x384 (Scalar.ofBits (F := Ideal) .f32 0x00000000#32) : FVec Ideal S384x384 .f32)⟩] concatenates_S384x128_S384x384_S384x512_d1
def asm (a b c e : FVec Ideal S384x128 .f32) : FVec Ideal S384x512 .f32 := addf (addf (addf (pad3 e) (pad2 c)) (pad1 b)) (pad0 a)

theorem catV_at (a b c e : FVec Ideal S384x128 .f32) (r : Fin 384) (d : Fin 512) : catV a b c e (ix2 r d) =
      if h0 : d.val < 128 then a (ix2 r ⟨d.val, h0⟩) else if h1 : d.val - 128 < 128 then b (ix2 r ⟨d.val - 128, h1⟩)
        else if h2 : d.val - 128 - 128 < 128 then c (ix2 r ⟨d.val - 128 - 128, h2⟩) else e (ix2 r ⟨d.val - 128 - 128 - 128, by omega⟩) := by
  pointwise [catV]

theorem key (a : FVec Ideal S384x128 .f32) (r : Fin 384) (n : ℕ) (hn : n < 128) (k : Fin 128) (h : n = k.val) : a (ix2 r ⟨n, hn⟩) = a (ix2 r k) := by
  subst h; rfl

theorem asm_at (a b c e : FVec Ideal S384x128 .f32) (r : Fin 384) (d : Fin 512) : asm a b c e (ix2 r d) =
      if h0 : d.val < 128 then a (ix2 r ⟨d.val, h0⟩) else if h1 : d.val - 128 < 128 then b (ix2 r ⟨d.val - 128, h1⟩)
        else if h2 : d.val - 128 - 128 < 128 then c (ix2 r ⟨d.val - 128 - 128, h2⟩) else e (ix2 r ⟨d.val - 128 - 128 - 128, by omega⟩) := by
  have hd := d.isLt
  pointwise [asm, pad0, pad1, pad2, pad3]
  have hc : d.val < 128 ∨ (128 ≤ d.val ∧ d.val < 256) ∨ (256 ≤ d.val ∧ d.val < 384) ∨ 384 ≤ d.val := by omega
  rcases hc with h | h | h | h <;> simp (disch := omega) only [dif_pos, dif_neg, zero_add, add_zero, Nat.sub_sub, Nat.reduceAdd]

/-- What is put together from the four heads of a row is that row. -/
theorem four (f : FVec Ideal S384x512 .f32) (a b c e : FVec Ideal S384x128 .f32) (r : Fin 384) (Q : Hrow)
    (hf : ∀ d : Fin 512, f (ix2 r d) = if h0 : d.val < 128 then a (ix2 r ⟨d.val, h0⟩) else if h1 : d.val - 128 < 128 then b (ix2 r ⟨d.val - 128, h1⟩)
        else if h2 : d.val - 128 - 128 < 128 then c (ix2 r ⟨d.val - 128 - 128, h2⟩) else e (ix2 r ⟨d.val - 128 - 128 - 128, by omega⟩))
    (h0 : ∀ k, a (ix2 r k) = Q (hi 0 k)) (h1 : ∀ k, b (ix2 r k) = Q (hi 1 k)) (h2 : ∀ k, c (ix2 r k) = Q (hi 2 k)) (h3 : ∀ k, e (ix2 r k) = Q (hi 3 k)) :
    (fun d : Fin 512 => f (ix2 r d)) = Q := by
  refine by_four _ _ (fun k => ?_) (fun k => ?_) (fun k => ?_) (fun k => ?_) <;> have hk := k.isLt <;> refine (hf _).trans ?_
  · rw [← h0, hi0, dif_pos (show k.val < 128 by omega)]
  · rw [← h1, hi1, dif_neg (show ¬128 + k.val < 128 by omega), dif_pos (show 128 + k.val - 128 < 128 by omega)]
    exact key b r _ _ _ (by show 128 + k.val - 128 = k.val; omega)
  · rw [← h2, hi2, dif_neg (show ¬256 + k.val < 128 by omega), dif_neg (show ¬256 + k.val - 128 < 128 by omega), dif_pos (show 256 + k.val - 128 - 128 < 128 by omega)]
    exact key c r _ _ _ (by show 256 + k.val - 128 - 128 = k.val; omega)
  · rw [← h3, hi3, dif_neg (show ¬384 + k.val < 128 by omega), dif_neg (show ¬384 + k.val - 128 < 128 by omega), dif_neg (show ¬384 + k.val - 128 - 128 < 128 by omega)]
    exact key e r _ _ _ (by show 384 + k.val - 128 - 128 - 128 = k.val; omega)

/-- The correction of a head's cotangent: the product over the first 64 lanes, split into three summands of which the last two are differences of equal numbers. -/
def laneV : IVec S384x128 32 := iota .tc S384x128 32 [1] iota_S384x128_d1_w32
def delV (A B : FVec Ideal S384x128 .f32) : FVec Ideal S384x128 .f32 :=
  broadcastTo S384x128 (shapeCast S384x1 (shapeCast S384x1 (multiReduction .add [1] S384 (select (cmpi .slt laneV (broadcast S384x128 64#32)) (mulf A B) (broadcast S384x128 (Scalar.ofBits (F := Ideal) .f32 0x00000000#32))) 0x00000000#32 reduces_S384x128_S384 (.inl rfl) rfl) shapeCasts_S384_S384x1) shapeCasts_S384x1_S384x1) broadcasts_S384x1_S384x128
def partV (A : FVec Ideal S384x128 .f32) : FVec Ideal S384x128 .f32 := extf .f32 (truncf .bf16 A bitsLt_bf16_f32) bitsLt_bf16_f32
def atV (n : BitVec 32) (A : FVec Ideal S384x128 .f32) : FVec Ideal S384x128 .f32 :=
  select (cmpi .eq laneV (broadcast S384x128 n)) A (broadcast S384x128 (Scalar.ofBits (F := Ideal) .f32 0x00000000#32))
def corV (A B : FVec Ideal S384x128 .f32) : FVec Ideal S384x128 .bf16 :=
  truncf .bf16 (subf A (addf (addf (atV 65#32 (partV (delV A B))) (atV 66#32 (partV (subf (delV A B) (partV (delV A B))))))
    (atV 67#32 (partV (subf (subf (delV A B) (partV (delV A B))) (partV (subf (delV A B) (partV (delV A B)))))))) ) bitsLt_bf16_f32

theorem lt64 : ∀ k : Fin 128, IntOp.cmpi .slt (BitVec.ofNat 32 k.val) 64#32 = if k.val < 64 then 1#1 else 0#1 := by decide +kernel
theorem eqn : ∀ k : Fin 128, (IntOp.cmpi .eq (BitVec.ofNat 32 k.val) 65#32 = if k.val = 65 then 1#1 else 0#1) ∧ (IntOp.cmpi .eq (BitVec.ofNat 32 k.val) 66#32 = if k.val = 66 then 1#1 else 0#1) ∧
    (IntOp.cmpi .eq (BitVec.ofNat 32 k.val) 67#32 = if k.val = 67 then 1#1 else 0#1) := by decide +kernel

theorem delV_at (A B : FVec Ideal S384x128 .f32) (r : Fin 384) (k : Fin 128) : delV A B (ix2 r k) = delta (rl A r) (rl B r) := by
  unfold delta
  generalize hR : (∑ k : Fin 128, if k.val < 64 then rl A r k * rl B r k else 0) = R
  pointwise [delV, laneV]
  rw [← hR]
  refine Finset.sum_congr rfl fun x _ => ?_
  rw [lt64]
  by_cases h : x.val < 64
  · rw [if_pos h, if_pos h]; rfl
  · rw [if_neg h, if_neg h]; rfl

theorem partV_at (A : FVec Ideal S384x128 .f32) (r : Fin 384) (k : Fin 128) : partV A (ix2 r k) = A (ix2 r k) := by pointwise [partV]
theorem atV_at (n : BitVec 32) (A : FVec Ideal S384x128 .f32) (r : Fin 384) (k : Fin 128) : atV n A (ix2 r k) = Scalar.select (IntOp.cmpi .eq (BitVec.ofNat 32 k.val) n) (A (ix2 r k)) 0 := by
  pointwise [atV, laneV]

/-- A finite number minus itself is zero. -/
theorem sub_self' {x : EReal} (h1 : x ≠ ⊤) (h2 : x ≠ ⊥) : x - x = 0 := EReal.sub_self h1 h2

theorem corV_at (A B : FVec Ideal S384x128 .f32) (r : Fin 384) (k : Fin 128) (h1 : delta (rl A r) (rl B r) ≠ ⊤) (h2 : delta (rl A r) (rl B r) ≠ ⊥) :
    corV A B (ix2 r k) = cor (rl A r) (rl B r) k := by
  pointwise [corV, partV_at, atV_at, delV_at, cor]
  rw [(eqn k).1, (eqn k).2.1, (eqn k).2.2, sub_self' h1 h2]
  have h3 : (0 : EReal) - 0 = 0 := by simp
  have hz : ∀ p : Prop, ∀ [Decidable p], Scalar.select (α := EReal) (if p then 1#1 else 0#1) (0 : EReal) (0 : EReal) = 0 := by
    intro p _; by_cases h : p
    · rw [if_pos h]; rfl
    · rw [if_neg h]; rfl
  rw [h3, hz, hz, add_zero, add_zero]
  by_cases h : k.val = 65
  · rw [if_pos h, if_pos h]; rfl
  · rw [if_neg h, if_neg h]; rfl

end

end Cert.Mix.Bwd
-- ==== Proof.MixBwdFlow.lean ====
/- The values of the mixer's backward kernel's body, in terms of the blocks it reads. -/
module

public import proofs.«01_k».proof.Proof.MixBwdVec

@[expose] public section

set_option maxRecDepth 16384

noncomputable section

namespace Cert.Mix.Bwd

open Idealize.ShloMosaic Idealize.ShloMosaic.TcCoe Idealize.ShloMosaic.ValueKit
open Cert.Kernel9Ideal Cert.Kernel9Ideal.Gen

/-- The blocks a grid point reads. -/
structure Ins where
  (x0 x1 : Vec Ideal S384x1024 .f32)
  (x2 x3 : Vec Ideal S384x512 .f32)
  (x4 x5 : Vec Ideal S384x1024 .f32)
  (x6 : Vec Ideal S1x128 .f32)
  (x7 : Vec Ideal S1024x1024 .bf16)
  (x8 : Vec Ideal S512x1024 .bf16)
  (x9 : Vec Ideal S1024x1024 .bf16)

def v4 (X : Ins) : FVec Ideal S384x1024 .bf16 :=
  k0_pay3 (F := Ideal) X.x1
def v8 (X : Ins) : FVec Ideal S384x128 .f32 :=
  k0_pay4 (F := Ideal) X.x3
def v9 (X : Ins) : FVec Ideal S384x128 .f32 :=
  k0_pay5 (F := Ideal) X.x2
def v17 (X : Ins) : FVec Ideal S384x1 .f32 :=
  k0_pay7 (F := Ideal) X.x2
def v20 (X : Ins) : FVec Ideal S384x1 .f32 :=
  k0_pay8 (F := Ideal) X.x2
def v22 (X : Ins) : FVec Ideal S384x128 .f32 :=
  k0_pay9 (F := Ideal) X.x2
def v24 (X : Ins) : FVec Ideal S384x128 .f32 :=
  k0_pay10 (F := Ideal) X.x2 X.x6
def v25 (X : Ins) : FVec Ideal S384x128 .f32 :=
  k0_pay11 (F := Ideal) X.x3
def v28 (X : Ins) : FVec Ideal S384x128 .f32 :=
  k0_pay12 (F := Ideal) X.x3
def v29 (X : Ins) : FVec Ideal S384x128 .f32 :=
  k0_pay13 (F := Ideal) X.x3
def v30 (X : Ins) : FVec Ideal S384x128 .f32 :=
  k0_pay14 (F := Ideal) X.x2 X.x3 X.x6
def v31 (X : Ins) : FVec Ideal S384x128 .f32 :=
  k0_pay15 (F := Ideal) X.x3
def v32 (X : Ins) : FVec Ideal S384x128 .f32 :=
  k0_pay16 (F := Ideal) X.x2
def v39 (X : Ins) : FVec Ideal S384x1 .f32 :=
  k0_pay17 (F := Ideal) X.x2
def v40 (X : Ins) : FVec Ideal S384x1 .f32 :=
  k0_pay18 (F := Ideal) (v39 X)
def v43 (X : Ins) : FVec Ideal S384x1 .f32 :=
  k0_pay19 (F := Ideal) (v39 X)
def v45 (X : Ins) : FVec Ideal S384x128 .f32 :=
  k0_pay20 (F := Ideal) (v32 X) (v39 X)
def v47 (X : Ins) : FVec Ideal S384x128 .f32 :=
  k0_pay21 (F := Ideal) X.x6 (v32 X) (v39 X)
def v48 (X : Ins) : FVec Ideal S384x128 .f32 :=
  k0_pay22 (F := Ideal) (v31 X)
def v51 (X : Ins) : FVec Ideal S384x128 .f32 :=
  k0_pay23 (F := Ideal) (v31 X)
def v52 (X : Ins) : FVec Ideal S384x128 .f32 :=
  k0_pay24 (F := Ideal) (v31 X)
def v53 (X : Ins) : FVec Ideal S384x128 .f32 :=
  k0_pay25 (F := Ideal) X.x6 (v31 X) (v32 X) (v39 X)
def v54 (X : Ins) : FVec Ideal S384x128 .f32 :=
  k0_pay26 (F := Ideal) X.x3
def v55 (X : Ins) : FVec Ideal S384x128 .f32 :=
  k0_pay27 (F := Ideal) X.x2
def v63 (X : Ins) : FVec Ideal S384x1 .f32 :=
  k0_pay29 (F := Ideal) X.x2
def v66 (X : Ins) : FVec Ideal S384x1 .f32 :=
  k0_pay30 (F := Ideal) X.x2
def v68 (X : Ins) : FVec Ideal S384x128 .f32 :=
  k0_pay31 (F := Ideal) X.x2
def v70 (X : Ins) : FVec Ideal S384x128 .f32 :=
  k0_pay32 (F := Ideal) X.x2 X.x6
def v71 (X : Ins) : FVec Ideal S384x128 .f32 :=
  k0_pay33 (F := Ideal) X.x3
def v74 (X : Ins) : FVec Ideal S384x128 .f32 :=
  k0_pay34 (F := Ideal) X.x3
def v75 (X : Ins) : FVec Ideal S384x128 .f32 :=
  k0_pay35 (F := Ideal) X.x3
def v76 (X : Ins) : FVec Ideal S384x128 .f32 :=
  k0_pay36 (F := Ideal) X.x2 X.x3 X.x6
def v77 (X : Ins) : FVec Ideal S384x128 .f32 :=
  k0_pay37 (F := Ideal) X.x3
def v78 (X : Ins) : FVec Ideal S384x128 .f32 :=
  k0_pay38 (F := Ideal) X.x2
def v86 (X : Ins) : FVec Ideal S384x1 .f32 :=
  k0_pay40 (F := Ideal) X.x2
def v87 (X : Ins) : FVec Ideal S384x1 .f32 :=
  k0_pay41 (F := Ideal) X.x2
def v88 (X : Ins) : FVec Ideal S384x1 .f32 :=
  k0_pay42 (F := Ideal)
def v89 (X : Ins) : FVec Ideal S384x1 .f32 :=
  k0_pay43 (F := Ideal) (v87 X) (v88 X)
def v91 (X : Ins) : FVec Ideal S384x128 .f32 :=
  k0_pay44 (F := Ideal) (v78 X) (v86 X)
def v101 (X : Ins) : FVec Ideal S384x512 .bf16 :=
  k0_pay48 (F := Ideal) X.x6 (v30 X) (v53 X) (v76 X) (v77 X) (v78 X) (v86 X)
def v103 (X : Ins) : FVec Ideal S384x1024 .f32 :=
  k0_pay49 (F := Ideal) (v4 X) X.x7
def v105 (X : Ins) : FVec Ideal S384x1024 .f32 :=
  k0_pay50 (F := Ideal) X.x6 (v30 X) (v53 X) (v76 X) (v77 X) (v78 X) (v86 X) X.x8
def v107 (X : Ins) : FVec Ideal S384x1024 .f32 :=
  k0_pay51 (F := Ideal) X.x4
def v109 (X : Ins) : FVec Ideal S384x1024 .f32 :=
  k0_pay52 (F := Ideal) X.x5
def v111 (X : Ins) : FVec Ideal S384x1024 .bf16 :=
  k0_pay53 (F := Ideal) X.x0
def v113 (X : Ins) : FVec Ideal S384x1024 .f32 :=
  k0_pay54 (F := Ideal) X.x0 X.x9
def v115 (X : Ins) : FVec Ideal S384x1024 .bf16 :=
  k0_pay55 (F := Ideal) X.x4 X.x0 X.x9
def v117 (X : Ins) : FVec Ideal S384x1024 .bf16 :=
  k0_pay56 (F := Ideal) X.x5 X.x0 X.x9
def v120 (X : Ins) : FVec Ideal S384x128 .f32 :=
  k0_pay58 (F := Ideal) X.x5 X.x0 X.x9 X.x8
def v121 (X : Ins) : FVec Ideal S384x128 .f32 :=
  k0_pay59 (F := Ideal) X.x5 X.x0 X.x9 X.x8
def v122 (X : Ins) : FVec Ideal S384x128 .f32 :=
  k0_pay60 (F := Ideal) X.x5 X.x0 X.x9 X.x8
def v125 (X : Ins) : FVec Ideal S384x128 .f32 :=
  k0_pay62 (F := Ideal) (v77 X) X.x5 X.x0 X.x9 X.x8
def v129 (X : Ins) : FVec Ideal S384x128 .f32 :=
  k0_pay63 (F := Ideal) X.x6 (v77 X) (v78 X) (v86 X) X.x5 X.x0 X.x9 X.x8
def v151 (X : Ins) : FVec Ideal S384x512 .f32 :=
  k0_pay64 (F := Ideal) X.x6 (v78 X) (v86 X) (v89 X) (v125 X)
def v153 (X : Ins) : FVec Ideal S384x512 .f32 :=
  k0_pay65 (F := Ideal) (v129 X)
def v159 (X : Ins) : FVec Ideal S384x128 .f32 :=
  k0_pay67 (F := Ideal) (v54 X) (v70 X) (v71 X) (v74 X) (v122 X)
def v163 (X : Ins) : FVec Ideal S1x128 .f32 :=
  k0_pay68 (F := Ideal) (v68 X) (v75 X) (v91 X) (v122 X) (v125 X)
def v178 (X : Ins) : FVec Ideal S384x128 .f32 :=
  k0_pay71 (F := Ideal) X.x6 (v55 X) (v63 X) (v66 X) (v75 X) (v122 X)
def v179 (X : Ins) : FVec Ideal S384x128 .f32 :=
  k0_pay72 (F := Ideal) X.x6 (v55 X) (v66 X) (v75 X) (v122 X)
def v200 (X : Ins) : FVec Ideal S1x128 .f32 :=
  k0_pay74 (F := Ideal) (v45 X) (v52 X) (v121 X) (v163 X)
def v222 (X : Ins) : FVec Ideal S384x512 .f32 :=
  k0_pay75 (F := Ideal) X.x6 (v32 X) (v40 X) (v43 X) (v52 X) (v121 X) (v151 X) (v178 X) (v179 X)
def v227 (X : Ins) : FVec Ideal S384x512 .f32 :=
  k0_pay76 (F := Ideal) (v31 X) (v47 X) (v48 X) (v51 X) (v121 X) (v153 X) (v159 X)
def v229 (X : Ins) : FVec Ideal S384x128 .f32 :=
  k0_pay78 (F := Ideal) (v29 X) (v120 X)
def v230 (X : Ins) : FVec Ideal S384x128 .f32 :=
  k0_pay79 (F := Ideal) (v8 X) (v24 X) (v120 X)
def v231 (X : Ins) : FVec Ideal S384x128 .f32 :=
  k0_pay80 (F := Ideal) (v24 X) (v25 X) (v120 X)
def v237 (X : Ins) : FVec Ideal S1x128 .f32 :=
  k0_pay81 (F := Ideal) (v22 X) (v200 X) (v229 X)
def v257 (X : Ins) : FVec Ideal S384x512 .f32 :=
  k0_pay82 (F := Ideal) X.x6 (v9 X) (v17 X) (v20 X) (v222 X) (v229 X)
def v260 (X : Ins) : FVec Ideal S384x512 .f32 :=
  k0_pay83 (F := Ideal) (v28 X) (v227 X) (v230 X) (v231 X)
def v262 (X : Ins) : FVec Ideal S384x1024 .f32 :=
  k0_pay84 (F := Ideal) (v115 X) X.x7
def v273 (X : Ins) : FVec Ideal S384x128 .f32 :=
  k0_pay85 (F := Ideal) (v115 X) X.x7
def v275 (X : Ins) : FVec Ideal S384x128 .f32 :=
  k0_pay86 (F := Ideal) X.x1 (v115 X) X.x7
def v277 (X : Ins) : FVec Ideal S384x128 .f32 :=
  k0_pay87 (F := Ideal) X.x1 (v115 X) X.x7
def v279 (X : Ins) : FVec Ideal S384x128 .bf16 :=
  k0_pay88 (F := Ideal) X.x1 (v115 X) X.x7
def v311 (X : Ins) : FVec Ideal S384x128 .f32 :=
  k0_pay90 (F := Ideal) (v262 X)
def v315 (X : Ins) : FVec Ideal S384x128 .f32 :=
  k0_pay92 (F := Ideal) X.x1 (v262 X) laneV
def v318 (X : Ins) : FVec Ideal S384x128 .f32 :=
  k0_pay93 (F := Ideal) X.x1 (v262 X) laneV
def v322 (X : Ins) : FVec Ideal S384x128 .f32 :=
  k0_pay94 (F := Ideal) X.x1 (v262 X) laneV
def v324 (X : Ins) : IVec S384x128 1 :=
  k0_pay95 laneV
def v325 (X : Ins) : FVec Ideal S384x128 .f32 :=
  k0_pay96 (F := Ideal)
def v349 (X : Ins) : FVec Ideal S384x128 .f32 :=
  k0_pay98 (F := Ideal) (v262 X)
def v360 (X : Ins) : FVec Ideal S384x128 .f32 :=
  k0_pay102 (F := Ideal) X.x1 (v262 X) laneV
def v369 (X : Ins) : FVec Ideal S384x128 .f32 :=
  k0_pay103 (F := Ideal) X.x1 (v262 X) laneV
def v370 (X : Ins) : IVec S384x128 32 :=
  k0_pay104
def v501 (X : Ins) : FVec Ideal S384x128 .f32 :=
  k0_pay110 (F := Ideal) (v262 X)
def v503 (X : Ins) : FVec Ideal S384x128 .f32 :=
  k0_pay111 (F := Ideal) X.x1 (v262 X) laneV
def v505 (X : Ins) : FVec Ideal S384x128 .f32 :=
  k0_pay112 (F := Ideal) X.x1 (v262 X) laneV
def v507 (X : Ins) : FVec Ideal S384x128 .bf16 :=
  k0_pay113 (F := Ideal) X.x1 (v262 X) laneV
def v539 (X : Ins) : FVec Ideal S384x128 .f32 :=
  k0_pay115 (F := Ideal) (v262 X)
def v543 (X : Ins) : FVec Ideal S384x128 .f32 :=
  k0_pay117 (F := Ideal) X.x1 (v262 X) laneV
def v546 (X : Ins) : FVec Ideal S384x128 .f32 :=
  k0_pay118 (F := Ideal) X.x1 (v262 X) laneV
def v550 (X : Ins) : FVec Ideal S384x128 .f32 :=
  k0_pay119 (F := Ideal) X.x1 (v262 X) laneV
def v552 (X : Ins) : IVec S384x128 1 :=
  k0_pay120 laneV
def v553 (X : Ins) : FVec Ideal S384x128 .f32 :=
  k0_pay121 (F := Ideal)
def v414 (X : Ins) : FVec Ideal S384x128 .bf16 :=
  k0_pay106 (F := Ideal) X.x1 (v262 X) laneV
def v460 (X : Ins) : FVec Ideal S384x128 .f32 :=
  k0_pay108 (F := Ideal) X.x1 (v262 X) laneV
def v588 (X : Ins) : FVec Ideal S384x1024 .bf16 :=
  k0_pay126 (F := Ideal) (v103 X) (v105 X) (v107 X) (v109 X)

theorem v257_eq (X : Ins) : v257 X = asm (doV (k0_pay5 (F := Ideal) X.x2) (k0_pay4 (F := Ideal) X.x3) (k0_pay58 (F := Ideal) X.x5 X.x0 X.x9 X.x8) X.x6) (doV (k0_pay16 (F := Ideal) X.x2) (k0_pay15 (F := Ideal) X.x3) (k0_pay59 (F := Ideal) X.x5 X.x0 X.x9 X.x8) X.x6) (doV (k0_pay27 (F := Ideal) X.x2) (k0_pay26 (F := Ideal) X.x3) (k0_pay60 (F := Ideal) X.x5 X.x0 X.x9 X.x8) X.x6) (doV (k0_pay38 (F := Ideal) X.x2) (k0_pay37 (F := Ideal) X.x3) (k0_pay61 (F := Ideal) X.x5 X.x0 X.x9 X.x8) X.x6) := rfl
theorem v260_eq (X : Ins) : v260 X = asm (dzV (k0_pay5 (F := Ideal) X.x2) (k0_pay4 (F := Ideal) X.x3) (k0_pay58 (F := Ideal) X.x5 X.x0 X.x9 X.x8) X.x6) (dzV (k0_pay16 (F := Ideal) X.x2) (k0_pay15 (F := Ideal) X.x3) (k0_pay59 (F := Ideal) X.x5 X.x0 X.x9 X.x8) X.x6) (dzV (k0_pay27 (F := Ideal) X.x2) (k0_pay26 (F := Ideal) X.x3) (k0_pay60 (F := Ideal) X.x5 X.x0 X.x9 X.x8) X.x6) (dzV (k0_pay38 (F := Ideal) X.x2) (k0_pay37 (F := Ideal) X.x3) (k0_pay61 (F := Ideal) X.x5 X.x0 X.x9 X.x8) X.x6) := rfl
theorem v101_eq (X : Ins) : v101 X = truncf .bf16 (catV (ogV (k0_pay5 (F := Ideal) X.x2) (k0_pay4 (F := Ideal) X.x3) X.x6) (ogV (k0_pay16 (F := Ideal) X.x2) (k0_pay15 (F := Ideal) X.x3) X.x6) (ogV (k0_pay27 (F := Ideal) X.x2) (k0_pay26 (F := Ideal) X.x3) X.x6) (ogV (k0_pay38 (F := Ideal) X.x2) (k0_pay37 (F := Ideal) X.x3) X.x6)) bitsLt_bf16_f32 := rfl
theorem v237_eq (X : Ins) : v237 X = addf (addf (addf (dwV (k0_pay38 (F := Ideal) X.x2) (k0_pay37 (F := Ideal) X.x3) (k0_pay61 (F := Ideal) X.x5 X.x0 X.x9 X.x8)) (dwV (k0_pay27 (F := Ideal) X.x2) (k0_pay26 (F := Ideal) X.x3) (k0_pay60 (F := Ideal) X.x5 X.x0 X.x9 X.x8))) (dwV (k0_pay16 (F := Ideal) X.x2) (k0_pay15 (F := Ideal) X.x3) (k0_pay59 (F := Ideal) X.x5 X.x0 X.x9 X.x8))) (dwV (k0_pay5 (F := Ideal) X.x2) (k0_pay4 (F := Ideal) X.x3) (k0_pay58 (F := Ideal) X.x5 X.x0 X.x9 X.x8)) := rfl
def h0 (X : Ins) : FVec Ideal S384x128 .bf16 := k0_pay89 (F := Ideal) laneV (v273 X) (v275 X) (v277 X) (v279 X)
theorem h0_eq (X : Ins) : h0 X = corV (extractStridedSlice S384x128 ![0, 0] (v262 X : FVec Ideal S384x1024 .f32) slices_S384x1024_o0_0_S384x128) (extractStridedSlice S384x128 ![0, 0] (X.x1 : FVec Ideal S384x1024 .f32) slices_S384x1024_o0_0_S384x128) := rfl
def h1 (X : Ins) : FVec Ideal S384x128 .bf16 := k0_pay97 (F := Ideal) laneV (v311 X) (v315 X) (v318 X) (v322 X) (v324 X) (v325 X)
theorem h1_eq (X : Ins) : h1 X = corV (extractStridedSlice S384x128 ![0, 128] (v262 X : FVec Ideal S384x1024 .f32) slices_S384x1024_o0_128_S384x128) (extractStridedSlice S384x128 ![0, 128] (X.x1 : FVec Ideal S384x1024 .f32) slices_S384x1024_o0_128_S384x128) := rfl
def h2 (X : Ins) : FVec Ideal S384x128 .bf16 := k0_pay105 (F := Ideal) laneV (v349 X) (v360 X) (v369 X) (v370 X)
theorem h2_eq (X : Ins) : h2 X = corV (extractStridedSlice S384x128 ![0, 256] (v262 X : FVec Ideal S384x1024 .f32) slices_S384x1024_o0_256_S384x128) (extractStridedSlice S384x128 ![0, 256] (X.x1 : FVec Ideal S384x1024 .f32) slices_S384x1024_o0_256_S384x128) := rfl
def h3 (X : Ins) : FVec Ideal S384x128 .bf16 := (v414 X)
theorem h3_eq (X : Ins) : h3 X = corV (extractStridedSlice S384x128 ![0, 384] (v262 X : FVec Ideal S384x1024 .f32) slices_S384x1024_o0_384_S384x128) (extractStridedSlice S384x128 ![0, 384] (X.x1 : FVec Ideal S384x1024 .f32) slices_S384x1024_o0_384_S384x128) := rfl
def h4 (X : Ins) : FVec Ideal S384x128 .bf16 := k0_pay107 (F := Ideal) X.x1 (v262 X) laneV
theorem h4_eq (X : Ins) : h4 X = corV (extractStridedSlice S384x128 ![0, 512] (v262 X : FVec Ideal S384x1024 .f32) slices_S384x1024_o0_512_S384x128) (extractStridedSlice S384x128 ![0, 512] (X.x1 : FVec Ideal S384x1024 .f32) slices_S384x1024_o0_512_S384x128) := rfl
def h5 (X : Ins) : FVec Ideal S384x128 .bf16 := k0_pay109 (F := Ideal) (v262 X) laneV (v460 X)
theorem h5_eq (X : Ins) : h5 X = corV (extractStridedSlice S384x128 ![0, 640] (v262 X : FVec Ideal S384x1024 .f32) slices_S384x1024_o0_640_S384x128) (extractStridedSlice S384x128 ![0, 640] (X.x1 : FVec Ideal S384x1024 .f32) slices_S384x1024_o0_640_S384x128) := rfl
def h6 (X : Ins) : FVec Ideal S384x128 .bf16 := k0_pay114 (F := Ideal) laneV (v501 X) (v503 X) (v505 X) (v507 X)
theorem h6_eq (X : Ins) : h6 X = corV (extractStridedSlice S384x128 ![0, 768] (v262 X : FVec Ideal S384x1024 .f32) slices_S384x1024_o0_768_S384x128) (extractStridedSlice S384x128 ![0, 768] (X.x1 : FVec Ideal S384x1024 .f32) slices_S384x1024_o0_768_S384x128) := rfl
def h7 (X : Ins) : FVec Ideal S384x128 .bf16 := k0_pay122 (F := Ideal) laneV (v539 X) (v543 X) (v546 X) (v550 X) (v552 X) (v553 X)
theorem h7_eq (X : Ins) : h7 X = corV (extractStridedSlice S384x128 ![0, 896] (v262 X : FVec Ideal S384x1024 .f32) slices_S384x1024_o0_896_S384x128) (extractStridedSlice S384x128 ![0, 896] (X.x1 : FVec Ideal S384x1024 .f32) slices_S384x1024_o0_896_S384x128) := rfl

end Cert.Mix.Bwd
-- ==== Proof.MixBwdPack.lean ====
/- Whole loads and stores of the mixer's backward kernel, the pieces of its outputs, and its block of sums. -/
module

public import proofs.«01_k».proof.Proof.MixBwdFlow
public import proofs.«01_k».proof.Proof.Gen.Kernel9Ideal.Value

@[expose] public section

set_option maxRecDepth 16384

noncomputable section

namespace Cert.Mix.Bwd

open Idealize.ShloMosaic Idealize.ShloMosaic.TcCoe Idealize.ShloMosaic.ValueKit
open Cert.Kernel9Ideal Cert.Kernel9Ideal.Gen

variable {F : FTy → Type} [FloatOps F] {e : EltTy}

theorem hz2 : (![0, 0] : Fin 2 → ℕ) = fun _ => 0 := funext fun a => by fin_cases a <;> rfl

theorem ldX (X : S384x1024.Idx → Elt F e) (inb : ∀ a, (![0, 0] : Fin 2 → ℕ) a + S384x1024.size a ≤ S384x1024.size a) :
    View.ld X (Rect.unit (s := S384x1024) ![0, 0] S384x1024.size inb) = X := View.ld_unit_zero hz2 inb X
theorem ldY (X : S384x512.Idx → Elt F e) (inb : ∀ a, (![0, 0] : Fin 2 → ℕ) a + S384x512.size a ≤ S384x512.size a) :
    View.ld X (Rect.unit (s := S384x512) ![0, 0] S384x512.size inb) = X := View.ld_unit_zero hz2 inb X
theorem ldV (X : S1x128.Idx → Elt F e) (inb : ∀ a, (![0, 0] : Fin 2 → ℕ) a + S1x128.size a ≤ S1x128.size a) :
    View.ld X (Rect.unit (s := S1x128) ![0, 0] S1x128.size inb) = X := View.ld_unit_zero hz2 inb X
theorem ldW (X : S1024x1024.Idx → Elt F e) (inb : ∀ a, (![0, 0] : Fin 2 → ℕ) a + S1024x1024.size a ≤ S1024x1024.size a) :
    View.ld X (Rect.unit (s := S1024x1024) ![0, 0] S1024x1024.size inb) = X := View.ld_unit_zero hz2 inb X
theorem ldU (X : S512x1024.Idx → Elt F e) (inb : ∀ a, (![0, 0] : Fin 2 → ℕ) a + S512x1024.size a ≤ S512x1024.size a) :
    View.ld X (Rect.unit (s := S512x1024) ![0, 0] S512x1024.size inb) = X := View.ld_unit_zero hz2 inb X

theorem ldX' (X : S384x1024.Idx → Elt F e) (inb : ∀ a, (![0, 0] : Fin 2 → ℕ) a + (![384, 1024] : Fin 2 → ℕ) a ≤ S384x1024.size a) :
    View.ld X (Rect.unit (s := S384x1024) ![0, 0] ![384, 1024] inb) = X := View.ld_unit_zero (S := S384x1024) hz2 inb X
theorem ldY' (X : S384x512.Idx → Elt F e) (inb : ∀ a, (![0, 0] : Fin 2 → ℕ) a + (![384, 512] : Fin 2 → ℕ) a ≤ S384x512.size a) :
    View.ld X (Rect.unit (s := S384x512) ![0, 0] ![384, 512] inb) = X := View.ld_unit_zero (S := S384x512) hz2 inb X
theorem ldV' (X : S1x128.Idx → Elt F e) (inb : ∀ a, (![0, 0] : Fin 2 → ℕ) a + (![1, 128] : Fin 2 → ℕ) a ≤ S1x128.size a) :
    View.ld X (Rect.unit (s := S1x128) ![0, 0] ![1, 128] inb) = X := View.ld_unit_zero (S := S1x128) hz2 inb X
theorem ldW' (X : S1024x1024.Idx → Elt F e) (inb : ∀ a, (![0, 0] : Fin 2 → ℕ) a + (![1024, 1024] : Fin 2 → ℕ) a ≤ S1024x1024.size a) :
    View.ld X (Rect.unit (s := S1024x1024) ![0, 0] ![1024, 1024] inb) = X := View.ld_unit_zero (S := S1024x1024) hz2 inb X
theorem ldU' (X : S512x1024.Idx → Elt F e) (inb : ∀ a, (![0, 0] : Fin 2 → ℕ) a + (![512, 1024] : Fin 2 → ℕ) a ≤ S512x1024.size a) :
    View.ld X (Rect.unit (s := S512x1024) ![0, 0] ![512, 1024] inb) = X := View.ld_unit_zero (S := S512x1024) hz2 inb X

/-- The first row of the block of sums. -/
abbrev rA : Rect S8x128 := Rect.unit (s := S8x128) ![0, 0] ![1, 128] inb_S8x128_S1x128_0_0

theorem rdA_whole {sp : Space} (v : View sig .tc sp S8x128 e) (inb : ∀ a, (![0, 0] : Fin 2 → ℕ) a + S8x128.size a ≤ S8x128.size a) (Z : S8x128.Idx → Elt F e) :
    v.readCov [(⟨Rect.unit (s := S8x128) ![0, 0] S8x128.size inb, Z⟩ : View.Piece (Elt F) S8x128 e)] rA.toLoadRect = View.ld Z rA := by
  rw [View.readCov_eq_canon_ld _ _ _ (fun y => ⟨_, List.mem_singleton_self _, View.mem_set_unit_zero hz2 inb y⟩)]
  rw [View.canon_unit_zero hz2]

/-- The block of sums with its first row replaced. -/
def accV (Z : Vec F S8x128 .f32) (p : FVec F S1x128 .f32) : Vec F S8x128 .f32 := fun y =>
  if (y 0).val = 0 then p (ix2 0 (y 1)) else Z y

theorem acc_writes {sp : Space} (v : View sig .tc sp S8x128 .f32) (f : v.ty.Contents (Elt F)) (L : List (View.Piece (Elt F) S8x128 .f32))
    (Z : Vec F S8x128 .f32) (hZ : v.read (Elt F) (v.writes (Elt F) f L) = Z) (p : FVec F S1x128 .f32) :
    v.read (Elt F) (v.writes (Elt F) f ((⟨rA, p⟩ : View.Piece (Elt F) S8x128 .f32) :: L)) = accV Z p := by
  funext y
  unfold accV
  split_ifs with h
  · exact View.read_writes_cons_hit_of_coords v f rA p L (ix2 0 (y 1)) y (fun a => by
      match a with
      | ⟨0, _⟩ => show (y 0).val = 0 + 1 * 0; omega
      | ⟨1, _⟩ => show (y 1).val = 0 + 1 * (y 1).val; omega)
  · exact (View.read_writes_cons_miss_of_axis v f ⟨rA, p⟩ L y 0 0 1 rfl rfl rfl (by omega)).trans (congrFun hZ y)

/-- The columns of one attention head. -/
abbrev rH (g : Fin 8) : Rect S384x1024 := Rect.unit (s := S384x1024) ![0, 128 * g.val] ![384, 128]
  (fun a => by
    have hg := g.isLt
    match a with
    | ⟨0, _⟩ => show 0 + 384 ≤ 384; omega
    | ⟨1, _⟩ => show 128 * g.val + 128 ≤ 1024; omega)

def tiles (f : Fin 8 → S384x128.Idx → Elt F e) : List (View.Piece (Elt F) S384x1024 e) :=
  [⟨rH 7, f 7⟩, ⟨rH 6, f 6⟩, ⟨rH 5, f 5⟩, ⟨rH 4, f 4⟩, ⟨rH 3, f 3⟩, ⟨rH 2, f 2⟩, ⟨rH 1, f 1⟩, ⟨rH 0, f 0⟩]

/-- The eight heads, read at an entry. -/
theorem tiles_at (f : Fin 8 → S384x128.Idx → Elt Ideal e) (r : Fin 384) (j : Fin 1024) :
    View.canon (tiles f) (ix2 r j) = f ⟨j.val / 128, by omega⟩ (ix2 r ⟨j.val % 128, Nat.mod_lt _ (by decide)⟩) := by
  have hj := j.isLt
  have hm : tiles f = [7, 6, 5, 4, 3, 2, 1, 0].map fun n : Fin 8 => (⟨rH n, f n⟩ : View.Piece (Elt Ideal) S384x1024 e) := rfl
  refine View.canon_apply_of_pieces (fun y : S384x1024.Idx => f ⟨(y 1).val / 128, by have := (y 1).isLt; have h : (y 1).val < 1024 := this; omega⟩ (ix2 (⟨(y 0).val, (y 0).isLt⟩ : Fin 384) ⟨(y 1).val % 128, Nat.mod_lt _ (by decide)⟩)) _ ?_ _ ?_
  · intro p hp x
    rw [hm] at hp
    obtain ⟨n, -, rfl⟩ := List.mem_map.mp hp
    have h1 : (x 1).val < 128 := (x 1).isLt
    have e1 : ((rH n).emb x 1).val = 128 * n.val + 1 * (x 1).val := rfl
    have e0 : ((rH n).emb x 0).val = 0 + 1 * (x 0).val := rfl
    have a1 : n = ⟨((rH n).emb x 1).val / 128, by rw [e1]; have := n.isLt; omega⟩ := Fin.ext (by show n.val = ((rH n).emb x 1).val / 128; rw [e1]; omega)
    have a2 : x = ix2 (⟨((rH n).emb x 0).val, by rw [e0]; have h0 : (x 0).val < 384 := (x 0).isLt; omega⟩ : Fin 384) (⟨((rH n).emb x 1).val % 128, Nat.mod_lt _ (by decide)⟩ : Fin 128) :=
      funext fun a => Fin.ext (by
        match a with
        | ⟨0, _⟩ => show (x 0).val = ((rH n).emb x 0).val; omega
        | ⟨1, _⟩ => show (x 1).val = ((rH n).emb x 1).val % 128; omega)
    exact congr (congrArg f a1) a2
  · refine ⟨⟨rH ⟨j.val / 128, by omega⟩, f ⟨j.val / 128, by omega⟩⟩, ?_, ?_⟩
    · rw [hm]
      refine List.mem_map.mpr ⟨⟨j.val / 128, by omega⟩, ?_, rfl⟩
      generalize (⟨j.val / 128, by omega⟩ : Fin 8) = n
      revert n
      decide
    · rw [Rect.mem_set_unit]
      intro a
      match a with
      | ⟨0, _⟩ => exact ⟨Nat.zero_le _, by show r.val < 0 + 384; omega⟩
      | ⟨1, _⟩ => exact ⟨by show 128 * (j.val / 128) ≤ j.val; omega, by show j.val < 128 * (j.val / 128) + 128; omega⟩

/-- The three parts of the projection's cotangent, side by side. -/
def three (a : S384x512.Idx → Elt F e) (b c : S384x1024.Idx → Elt F e) : List (View.Piece (Elt F) S384x2560 e) :=
  [⟨Rect.unit (s := S384x2560) ![0, 1536] ![384, 1024] inb_S384x2560_S384x1024_0_1536, c⟩,
    ⟨Rect.unit (s := S384x2560) ![0, 512] ![384, 1024] inb_S384x2560_S384x1024_0_512, b⟩,
    ⟨Rect.unit (s := S384x2560) ![0, 0] ![384, 512] inb_S384x2560_S384x512_0_0, a⟩]

theorem three_lo (a : S384x512.Idx → Elt Ideal e) (b c : S384x1024.Idx → Elt Ideal e) (r : Fin 384) (j : Fin 2560) (h : j.val < 512) :
    View.canon (three a b c) (ix2 r j) = a (ix2 r ⟨j.val, h⟩) := by
  refine (View.canon_cons_of_not_mem _ _ (fun hm => ?_)).trans ((View.canon_cons_of_not_mem _ _ (fun hm => ?_)).trans ?_)
  · have h3 : ix2 r j ∈ (Rect.unit (s := S384x2560) ![0, 1536] ![384, 1024] inb_S384x2560_S384x1024_0_1536).set := hm
    rw [Rect.mem_set_unit] at h3
    have h2 : 1536 ≤ j.val := (h3 1).1
    omega
  · have h3 : ix2 r j ∈ (Rect.unit (s := S384x2560) ![0, 512] ![384, 1024] inb_S384x2560_S384x1024_0_512).set := hm
    rw [Rect.mem_set_unit] at h3
    have h2 : 512 ≤ j.val := (h3 1).1
    omega
  · have hy : (ix2 r j : S384x2560.Idx) = (Rect.unit (s := S384x2560) ![0, 0] ![384, 512] inb_S384x2560_S384x512_0_0).emb (ix2 r ⟨j.val, h⟩) :=
      funext fun a => Fin.ext (by
        match a with
        | ⟨0, _⟩ => show r.val = 0 + 1 * r.val; omega
        | ⟨1, _⟩ => show j.val = 0 + 1 * j.val; omega)
    rw [hy]
    exact View.canon_cons_emb _ _ _ _

theorem three_mid (a : S384x512.Idx → Elt Ideal e) (b c : S384x1024.Idx → Elt Ideal e) (r : Fin 384) (j : Fin 2560) (h : 512 ≤ j.val) (h' : j.val < 1536) :
    View.canon (three a b c) (ix2 r j) = b (ix2 r ⟨j.val - 512, by omega⟩) := by
  refine (View.canon_cons_of_not_mem _ _ (fun hm => ?_)).trans ?_
  · have h3 : ix2 r j ∈ (Rect.unit (s := S384x2560) ![0, 1536] ![384, 1024] inb_S384x2560_S384x1024_0_1536).set := hm
    rw [Rect.mem_set_unit] at h3
    have h2 : 1536 ≤ j.val := (h3 1).1
    omega
  · have hy : (ix2 r j : S384x2560.Idx) = (Rect.unit (s := S384x2560) ![0, 512] ![384, 1024] inb_S384x2560_S384x1024_0_512).emb (ix2 r ⟨j.val - 512, by omega⟩) :=
      funext fun a => Fin.ext (by
        match a with
        | ⟨0, _⟩ => show r.val = 0 + 1 * r.val; omega
        | ⟨1, _⟩ => show j.val = 512 + 1 * (j.val - 512); omega)
    rw [hy]
    exact View.canon_cons_emb _ _ _ _

theorem three_hi (a : S384x512.Idx → Elt Ideal e) (b c : S384x1024.Idx → Elt Ideal e) (r : Fin 384) (j : Fin 2560) (h : 1536 ≤ j.val) :
    View.canon (three a b c) (ix2 r j) = c (ix2 r ⟨j.val - 1536, by omega⟩) := by
  have hy : (ix2 r j : S384x2560.Idx) = (Rect.unit (s := S384x2560) ![0, 1536] ![384, 1024] inb_S384x2560_S384x1024_0_1536).emb (ix2 r ⟨j.val - 1536, by omega⟩) :=
    funext fun a => Fin.ext (by
      match a with
      | ⟨0, _⟩ => show r.val = 0 + 1 * r.val; omega
      | ⟨1, _⟩ => show j.val = 1536 + 1 * (j.val - 1536); omega)
  rw [hy]
  exact View.canon_cons_emb _ _ _ _

end Cert.Mix.Bwd

end
-- ==== Proof.MixBwdOutA.lean ====
/- The words and the outputs of the mixer's backward kernel at the first grid point, in terms of the blocks it reads. -/
module

public import proofs.«01_k».proof.Proof.MixBwdPack
public import Idealize.ShloMosaic.Lib.VecWindow

@[expose] public section

set_option maxRecDepth 65536
set_option maxHeartbeats 1000000

noncomputable section

namespace Cert.Mix.Bwd

open Idealize.ShloMosaic Idealize.ShloMosaic.TcCoe
open Cert.Kernel9Ideal Cert.Kernel9Ideal.Gen

variable (c : Dev nD) (i : grid0.Coords) (arg1 : Memref sig .tc .vmem S384x1024 .f32) (harg1 : arg1.IsWhole) (arg2 : Memref sig .tc .vmem S384x1024 .f32) (harg2 : arg2.IsWhole) (arg3 : Memref sig .tc .vmem S384x512 .f32) (harg3 : arg3.IsWhole) (arg4 : Memref sig .tc .vmem S384x512 .f32) (harg4 : arg4.IsWhole) (arg5 : Memref sig .tc .vmem S384x1024 .f32) (harg5 : arg5.IsWhole) (arg6 : Memref sig .tc .vmem S384x1024 .f32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S384x1024 .bf16) (harg11 : arg11.IsWhole) (arg12 : Memref sig .tc .vmem S384x512 .f32) (harg12 : arg12.IsWhole) (arg13 : Memref sig .tc .vmem S384x2560 .bf16) (harg13 : arg13.IsWhole) (arg14 : Memref sig .tc .vmem S384x1024 .bf16) (harg14 : arg14.IsWhole) (arg15 : Memref sig .tc .vmem S384x512 .bf16) (harg15 : arg15.IsWhole) (arg16 : Memref sig .tc .vmem S384x1024 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S384x1024 .bf16) (harg19 : arg19.IsWhole) (arg20 : Memref sig .tc .vmem S8x128 .f32) (harg20 : arg20.IsWhole) (hc0 : cond0_0 i) (X : Ins)

theorem a_r : kernelRun0_A.sl.r (F := Ideal) c arg2 harg2 X.x1 = X.x1 := by
  unfold kernelRun0_A.sl.r
  simp only [View.readAt_eq_ld, ldX, ldY, ldV, ldW, ldU, ldX', ldY', ldV', ldW', ldU', harg2.read_unread] <;> rfl

theorem a_r_1 : kernelRun0_A.sl.r_1 (F := Ideal) c arg2 harg2 X.x1 = v4 X := by
  unfold kernelRun0_A.sl.r_1
  simp only [View.readAt_eq_ld, ldX, ldY, ldV, ldW, ldU, ldX', ldY', ldV', ldW', ldU', harg2.read_unread] <;> rfl

theorem a_r_2 : kernelRun0_A.sl.r_2 (F := Ideal) c arg3 harg3 X.x2 = X.x2 := by
  unfold kernelRun0_A.sl.r_2
  simp only [View.readAt_eq_ld, ldX, ldY, ldV, ldW, ldU, ldX', ldY', ldV', ldW', ldU', harg3.read_unread] <;> rfl

theorem a_r_3 : kernelRun0_A.sl.r_3 (F := Ideal) c arg4 harg4 X.x3 = X.x3 := by
  unfold kernelRun0_A.sl.r_3
  simp only [View.readAt_eq_ld, ldX, ldY, ldV, ldW, ldU, ldX', ldY', ldV', ldW', ldU', harg4.read_unread] <;> rfl

theorem a_r_4 : kernelRun0_A.sl.r_4 (F := Ideal) c arg7 harg7 X.x6 = X.x6 := by
  unfold kernelRun0_A.sl.r_4
  simp only [View.readAt_eq_ld, ldX, ldY, ldV, ldW, ldU, ldX', ldY', ldV', ldW', ldU', harg7.read_unread] <;> rfl

theorem a_r_5 : kernelRun0_A.sl.r_5 (F := Ideal) c arg4 harg4 X.x3 = v8 X := by
  unfold kernelRun0_A.sl.r_5
  simp only [View.readAt_eq_ld, ldX, ldY, ldV, ldW, ldU, ldX', ldY', ldV', ldW', ldU', harg4.read_unread] <;> rfl

theorem a_r_6 : kernelRun0_A.sl.r_6 (F := Ideal) c arg3 harg3 X.x2 = v9 X := by
  unfold kernelRun0_A.sl.r_6
  simp only [View.readAt_eq_ld, ldX, ldY, ldV, ldW, ldU, ldX', ldY', ldV', ldW', ldU', harg3.read_unread] <;> rfl

theorem a_r_7 : kernelRun0_A.sl.r_7 (F := Ideal) c arg3 harg3 X.x2 = v17 X := by
  unfold kernelRun0_A.sl.r_7
  simp only [View.readAt_eq_ld, ldX, ldY, ldV, ldW, ldU, ldX', ldY', ldV', ldW', ldU', harg3.read_unread] <;> rfl

theorem a_r_8 : kernelRun0_A.sl.r_8 (F := Ideal) c arg3 harg3 X.x2 = v20 X := by
  unfold kernelRun0_A.sl.r_8
  simp only [View.readAt_eq_ld, ldX, ldY, ldV, ldW, ldU, ldX', ldY', ldV', ldW', ldU', harg3.read_unread] <;> rfl

theorem a_r_9 : kernelRun0_A.sl.r_9 (F := Ideal) c arg3 harg3 X.x2 = v22 X := by
  unfold kernelRun0_A.sl.r_9
  simp only [View.readAt_eq_ld, ldX, ldY, ldV, ldW, ldU, ldX', ldY', ldV', ldW', ldU', harg3.read_unread] <;> rfl

theorem a_r_10 : kernelRun0_A.sl.r_10 (F := Ideal) c arg3 harg3 arg7 harg7 X.x2 X.x6 = v24 X := by
  unfold kernelRun0_A.sl.r_10
  simp only [View.readAt_eq_ld, ldX, ldY, ldV, ldW, ldU, ldX', ldY', ldV', ldW', ldU', harg3.read_unread, harg7.read_unread] <;> rfl

theorem a_r_11 : kernelRun0_A.sl.r_11 (F := Ideal) c arg4 harg4 X.x3 = v25 X := by
  unfold kernelRun0_A.sl.r_11
  simp only [View.readAt_eq_ld, ldX, ldY, ldV, ldW, ldU, ldX', ldY', ldV', ldW', ldU', harg4.read_unread] <;> rfl

theorem a_r_12 : kernelRun0_A.sl.r_12 (F := Ideal) c arg4 harg4 X.x3 = v28 X := by
  unfold kernelRun0_A.sl.r_12
  simp only [View.readAt_eq_ld, ldX, ldY, ldV, ldW, ldU, ldX', ldY', ldV', ldW', ldU', harg4.read_unread] <;> rfl

theorem a_r_13 : kernelRun0_A.sl.r_13 (F := Ideal) c arg4 harg4 X.x3 = v29 X := by
  unfold kernelRun0_A.sl.r_13
  simp only [View.readAt_eq_ld, ldX, ldY, ldV, ldW, ldU, ldX', ldY', ldV', ldW', ldU', harg4.read_unread] <;> rfl

theorem a_r_14 : kernelRun0_A.sl.r_14 (F := Ideal) c arg3 harg3 arg4 harg4 arg7 harg7 X.x2 X.x3 X.x6 = v30 X := by
  unfold kernelRun0_A.sl.r_14
  simp only [View.readAt_eq_ld, ldX, ldY, ldV, ldW, ldU, ldX', ldY', ldV', ldW', ldU', harg3.read_unread, harg4.read_unread, harg7.read_unread] <;> rfl

theorem a_r_15 : kernelRun0_A.sl.r_15 (F := Ideal) c arg4 harg4 X.x3 = v31 X := by
  unfold kernelRun0_A.sl.r_15
  simp only [View.readAt_eq_ld, ldX, ldY, ldV, ldW, ldU, ldX', ldY', ldV', ldW', ldU', harg4.read_unread] <;> rfl

theorem a_r_16 : kernelRun0_A.sl.r_16 (F := Ideal) c arg3 harg3 X.x2 = v32 X := by
  unfold kernelRun0_A.sl.r_16
  simp only [View.readAt_eq_ld, ldX, ldY, ldV, ldW, ldU, ldX', ldY', ldV', ldW', ldU', harg3.read_unread] <;> rfl

theorem a_r_17 : kernelRun0_A.sl.r_17 (F := Ideal) c arg3 harg3 X.x2 = v39 X := by
  unfold kernelRun0_A.sl.r_17
  simp only [View.readAt_eq_ld, ldX, ldY, ldV, ldW, ldU, ldX', ldY', ldV', ldW', ldU', harg3.read_unread] <;> rfl

theorem a_r_18 : kernelRun0_A.sl.r_18 (F := Ideal) c arg3 harg3 X.x2 = v40 X := by
  unfold kernelRun0_A.sl.r_18
  simp only [a_r_17 (X := X)] <;> rfl

theorem a_r_19 : kernelRun0_A.sl.r_19 (F := Ideal) c arg3 harg3 X.x2 = v43 X := by
  unfold kernelRun0_A.sl.r_19
  simp only [a_r_17 (X := X)] <;> rfl

theorem a_r_20 : kernelRun0_A.sl.r_20 (F := Ideal) c arg3 harg3 X.x2 = v45 X := by
  unfold kernelRun0_A.sl.r_20
  simp only [a_r_16 (X := X), a_r_17 (X := X)] <;> rfl

theorem a_r_21 : kernelRun0_A.sl.r_21 (F := Ideal) c arg3 harg3 arg7 harg7 X.x2 X.x6 = v47 X := by
  unfold kernelRun0_A.sl.r_21
  simp only [a_r_4, a_r_16 (X := X), a_r_17 (X := X)] <;> rfl

theorem a_r_22 : kernelRun0_A.sl.r_22 (F := Ideal) c arg4 harg4 X.x3 = v48 X := by
  unfold kernelRun0_A.sl.r_22
  simp only [a_r_15 (X := X)] <;> rfl

theorem a_r_23 : kernelRun0_A.sl.r_23 (F := Ideal) c arg4 harg4 X.x3 = v51 X := by
  unfold kernelRun0_A.sl.r_23
  simp only [a_r_15 (X := X)] <;> rfl

theorem a_r_24 : kernelRun0_A.sl.r_24 (F := Ideal) c arg4 harg4 X.x3 = v52 X := by
  unfold kernelRun0_A.sl.r_24
  simp only [a_r_15 (X := X)] <;> rfl

theorem a_r_25 : kernelRun0_A.sl.r_25 (F := Ideal) c arg3 harg3 arg4 harg4 arg7 harg7 X.x2 X.x3 X.x6 = v53 X := by
  unfold kernelRun0_A.sl.r_25
  simp only [a_r_4, a_r_15 (X := X), a_r_16 (X := X), a_r_17 (X := X)] <;> rfl

theorem a_r_26 : kernelRun0_A.sl.r_26 (F := Ideal) c arg4 harg4 X.x3 = v54 X := by
  unfold kernelRun0_A.sl.r_26
  simp only [a_r_3] <;> rfl

theorem a_r_27 : kernelRun0_A.sl.r_27 (F := Ideal) c arg3 harg3 X.x2 = v55 X := by
  unfold kernelRun0_A.sl.r_27
  simp only [a_r_2] <;> rfl

theorem a_r_28 : kernelRun0_A.sl.r_28 (F := Ideal) c arg3 harg3 X.x2 = v63 X := by
  unfold kernelRun0_A.sl.r_28
  simp only [a_r_2] <;> rfl

theorem a_r_29 : kernelRun0_A.sl.r_29 (F := Ideal) c arg3 harg3 X.x2 = v66 X := by
  unfold kernelRun0_A.sl.r_29
  simp only [a_r_2] <;> rfl

theorem a_r_30 : kernelRun0_A.sl.r_30 (F := Ideal) c arg3 harg3 X.x2 = v68 X := by
  unfold kernelRun0_A.sl.r_30
  simp only [a_r_2] <;> rfl

theorem a_r_31 : kernelRun0_A.sl.r_31 (F := Ideal) c arg3 harg3 arg7 harg7 X.x2 X.x6 = v70 X := by
  unfold kernelRun0_A.sl.r_31
  simp only [a_r_2, a_r_4] <;> rfl

theorem a_r_32 : kernelRun0_A.sl.r_32 (F := Ideal) c arg4 harg4 X.x3 = v71 X := by
  unfold kernelRun0_A.sl.r_32
  simp only [a_r_3] <;> rfl

theorem a_r_33 : kernelRun0_A.sl.r_33 (F := Ideal) c arg4 harg4 X.x3 = v74 X := by
  unfold kernelRun0_A.sl.r_33
  simp only [a_r_3] <;> rfl

theorem a_r_34 : kernelRun0_A.sl.r_34 (F := Ideal) c arg4 harg4 X.x3 = v75 X := by
  unfold kernelRun0_A.sl.r_34
  simp only [a_r_3] <;> rfl

theorem a_r_35 : kernelRun0_A.sl.r_35 (F := Ideal) c arg3 harg3 arg4 harg4 arg7 harg7 X.x2 X.x3 X.x6 = v76 X := by
  unfold kernelRun0_A.sl.r_35
  simp only [a_r_2, a_r_3, a_r_4] <;> rfl

theorem a_r_36 : kernelRun0_A.sl.r_36 (F := Ideal) c arg4 harg4 X.x3 = v77 X := by
  unfold kernelRun0_A.sl.r_36
  simp only [a_r_3] <;> rfl

theorem a_r_37 : kernelRun0_A.sl.r_37 (F := Ideal) c arg3 harg3 X.x2 = v78 X := by
  unfold kernelRun0_A.sl.r_37
  simp only [a_r_2] <;> rfl

theorem a_r_38 : kernelRun0_A.sl.r_38 (F := Ideal) c arg3 harg3 X.x2 = v86 X := by
  unfold kernelRun0_A.sl.r_38
  simp only [a_r_2] <;> rfl

theorem a_r_39 : kernelRun0_A.sl.r_39 (F := Ideal) c arg3 harg3 X.x2 = v87 X := by
  unfold kernelRun0_A.sl.r_39
  simp only [a_r_2] <;> rfl

theorem a_r_40 : kernelRun0_A.sl.r_40 (F := Ideal) c arg3 harg3 X.x2 = v89 X := by
  unfold kernelRun0_A.sl.r_40
  simp only [a_r_39 (X := X)] <;> rfl

theorem a_r_41 : kernelRun0_A.sl.r_41 (F := Ideal) c arg3 harg3 X.x2 = v91 X := by
  unfold kernelRun0_A.sl.r_41
  simp only [a_r_37 (X := X), a_r_38 (X := X)] <;> rfl

theorem a_r_42 : kernelRun0_A.sl.r_42 (F := Ideal) c arg3 harg3 arg4 harg4 arg7 harg7 X.x2 X.x3 X.x6 = v101 X := by
  unfold kernelRun0_A.sl.r_42
  simp only [a_r_4, a_r_14 (X := X), a_r_25 (X := X), a_r_35 (X := X), a_r_36 (X := X), a_r_37 (X := X), a_r_38 (X := X)] <;> rfl

theorem a_r_43 : kernelRun0_A.sl.r_43 (F := Ideal) c arg2 harg2 arg8 harg8 X.x1 X.x7 = v103 X := by
  unfold kernelRun0_A.sl.r_43
  simp only [a_r_1 (X := X), View.readAt_eq_ld, ldX, ldY, ldV, ldW, ldU, ldX', ldY', ldV', ldW', ldU', harg2.read_unread, harg8.read_unread] <;> rfl

theorem a_r_44 : kernelRun0_A.sl.r_44 (F := Ideal) c arg3 harg3 arg4 harg4 arg7 harg7 arg9 harg9 X.x2 X.x3 X.x6 X.x8 = v105 X := by
  unfold kernelRun0_A.sl.r_44
  simp only [a_r_4, a_r_14 (X := X), a_r_25 (X := X), a_r_35 (X := X), a_r_36 (X := X), a_r_37 (X := X), a_r_38 (X := X), View.readAt_eq_ld, ldX, ldY, ldV, ldW, ldU, ldX', ldY', ldV', ldW', ldU', harg3.read_unread, harg4.read_unread, harg7.read_unread, harg9.read_unread] <;> rfl

theorem a_r_45 : kernelRun0_A.sl.r_45 (F := Ideal) c arg5 harg5 X.x4 = v107 X := by
  unfold kernelRun0_A.sl.r_45
  simp only [View.readAt_eq_ld, ldX, ldY, ldV, ldW, ldU, ldX', ldY', ldV', ldW', ldU', harg5.read_unread] <;> rfl

theorem a_r_46 : kernelRun0_A.sl.r_46 (F := Ideal) c arg6 harg6 X.x5 = v109 X := by
  unfold kernelRun0_A.sl.r_46
  simp only [View.readAt_eq_ld, ldX, ldY, ldV, ldW, ldU, ldX', ldY', ldV', ldW', ldU', harg6.read_unread] <;> rfl

theorem a_r_47 : kernelRun0_A.sl.r_47 (F := Ideal) c arg1 harg1 X.x0 = v111 X := by
  unfold kernelRun0_A.sl.r_47
  simp only [View.readAt_eq_ld, ldX, ldY, ldV, ldW, ldU, ldX', ldY', ldV', ldW', ldU', harg1.read_unread] <;> rfl

theorem a_r_48 : kernelRun0_A.sl.r_48 (F := Ideal) c arg1 harg1 arg10 harg10 X.x0 X.x9 = v113 X := by
  unfold kernelRun0_A.sl.r_48
  simp only [View.readAt_eq_ld, ldX, ldY, ldV, ldW, ldU, ldX', ldY', ldV', ldW', ldU', harg1.read_unread, harg10.read_unread] <;> rfl

theorem a_r_49 : kernelRun0_A.sl.r_49 (F := Ideal) c arg1 harg1 arg5 harg5 arg10 harg10 X.x0 X.x4 X.x9 = v115 X := by
  unfold kernelRun0_A.sl.r_49
  simp only [View.readAt_eq_ld, ldX, ldY, ldV, ldW, ldU, ldX', ldY', ldV', ldW', ldU', harg1.read_unread, harg5.read_unread, harg10.read_unread] <;> rfl

theorem a_r_50 : kernelRun0_A.sl.r_50 (F := Ideal) c arg1 harg1 arg6 harg6 arg10 harg10 X.x0 X.x5 X.x9 = v117 X := by
  unfold kernelRun0_A.sl.r_50
  simp only [View.readAt_eq_ld, ldX, ldY, ldV, ldW, ldU, ldX', ldY', ldV', ldW', ldU', harg1.read_unread, harg6.read_unread, harg10.read_unread] <;> rfl

theorem a_r_51 : kernelRun0_A.sl.r_51 (F := Ideal) c arg1 harg1 arg6 harg6 arg9 harg9 arg10 harg10 X.x0 X.x5 X.x8 X.x9 = v120 X := by
  unfold kernelRun0_A.sl.r_51
  simp only [View.readAt_eq_ld, ldX, ldY, ldV, ldW, ldU, ldX', ldY', ldV', ldW', ldU', harg1.read_unread, harg6.read_unread, harg9.read_unread, harg10.read_unread] <;> rfl

theorem a_r_52 : kernelRun0_A.sl.r_52 (F := Ideal) c arg1 harg1 arg6 harg6 arg9 harg9 arg10 harg10 X.x0 X.x5 X.x8 X.x9 = v121 X := by
  unfold kernelRun0_A.sl.r_52
  simp only [View.readAt_eq_ld, ldX, ldY, ldV, ldW, ldU, ldX', ldY', ldV', ldW', ldU', harg1.read_unread, harg6.read_unread, harg9.read_unread, harg10.read_unread] <;> rfl

theorem a_r_53 : kernelRun0_A.sl.r_53 (F := Ideal) c arg1 harg1 arg6 harg6 arg9 harg9 arg10 harg10 X.x0 X.x5 X.x8 X.x9 = v122 X := by
  unfold kernelRun0_A.sl.r_53
  simp only [View.readAt_eq_ld, ldX, ldY, ldV, ldW, ldU, ldX', ldY', ldV', ldW', ldU', harg1.read_unread, harg6.read_unread, harg9.read_unread, harg10.read_unread] <;> rfl

theorem a_r_54 : kernelRun0_A.sl.r_54 (F := Ideal) c arg1 harg1 arg4 harg4 arg6 harg6 arg9 harg9 arg10 harg10 X.x0 X.x3 X.x5 X.x8 X.x9 = v125 X := by
  unfold kernelRun0_A.sl.r_54
  simp only [a_r_36 (X := X), View.readAt_eq_ld, ldX, ldY, ldV, ldW, ldU, ldX', ldY', ldV', ldW', ldU', harg1.read_unread, harg4.read_unread, harg6.read_unread, harg9.read_unread, harg10.read_unread] <;> rfl

theorem a_r_55 : kernelRun0_A.sl.r_55 (F := Ideal) c arg1 harg1 arg3 harg3 arg4 harg4 arg6 harg6 arg7 harg7 arg9 harg9 arg10 harg10 X.x0 X.x2 X.x3 X.x5 X.x6 X.x8 X.x9 = v129 X := by
  unfold kernelRun0_A.sl.r_55
  simp only [a_r_4, a_r_36 (X := X), a_r_37 (X := X), a_r_38 (X := X), View.readAt_eq_ld, ldX, ldY, ldV, ldW, ldU, ldX', ldY', ldV', ldW', ldU', harg1.read_unread, harg3.read_unread, harg4.read_unread, harg6.read_unread, harg7.read_unread, harg9.read_unread, harg10.read_unread] <;> rfl

theorem a_r_56 : kernelRun0_A.sl.r_56 (F := Ideal) c arg1 harg1 arg3 harg3 arg4 harg4 arg6 harg6 arg7 harg7 arg9 harg9 arg10 harg10 X.x0 X.x2 X.x3 X.x5 X.x6 X.x8 X.x9 = v151 X := by
  unfold kernelRun0_A.sl.r_56
  simp only [a_r_4, a_r_37 (X := X), a_r_38 (X := X), a_r_40 (X := X), a_r_54 (X := X)] <;> rfl

theorem a_r_57 : kernelRun0_A.sl.r_57 (F := Ideal) c arg1 harg1 arg3 harg3 arg4 harg4 arg6 harg6 arg7 harg7 arg9 harg9 arg10 harg10 X.x0 X.x2 X.x3 X.x5 X.x6 X.x8 X.x9 = v153 X := by
  unfold kernelRun0_A.sl.r_57
  simp only [a_r_55 (X := X)] <;> rfl

theorem a_r_58 : kernelRun0_A.sl.r_58 (F := Ideal) c arg1 harg1 arg3 harg3 arg4 harg4 arg6 harg6 arg7 harg7 arg9 harg9 arg10 harg10 X.x0 X.x2 X.x3 X.x5 X.x6 X.x8 X.x9 = v159 X := by
  unfold kernelRun0_A.sl.r_58
  simp only [a_r_26 (X := X), a_r_31 (X := X), a_r_32 (X := X), a_r_33 (X := X), a_r_53 (X := X)] <;> rfl

theorem a_r_59 : kernelRun0_A.sl.r_59 (F := Ideal) c arg1 harg1 arg3 harg3 arg4 harg4 arg6 harg6 arg9 harg9 arg10 harg10 X.x0 X.x2 X.x3 X.x5 X.x8 X.x9 = v163 X := by
  unfold kernelRun0_A.sl.r_59
  simp only [a_r_30 (X := X), a_r_34 (X := X), a_r_41 (X := X), a_r_53 (X := X), a_r_54 (X := X)] <;> rfl

theorem a_r_60 : kernelRun0_A.sl.r_60 (F := Ideal) c arg1 harg1 arg3 harg3 arg4 harg4 arg6 harg6 arg7 harg7 arg9 harg9 arg10 harg10 X.x0 X.x2 X.x3 X.x5 X.x6 X.x8 X.x9 = v178 X := by
  unfold kernelRun0_A.sl.r_60
  simp only [a_r_4, a_r_27 (X := X), a_r_28 (X := X), a_r_29 (X := X), a_r_34 (X := X), a_r_53 (X := X)] <;> rfl

theorem a_r_61 : kernelRun0_A.sl.r_61 (F := Ideal) c arg1 harg1 arg3 harg3 arg4 harg4 arg6 harg6 arg7 harg7 arg9 harg9 arg10 harg10 X.x0 X.x2 X.x3 X.x5 X.x6 X.x8 X.x9 = v179 X := by
  unfold kernelRun0_A.sl.r_61
  simp only [a_r_4, a_r_27 (X := X), a_r_29 (X := X), a_r_34 (X := X), a_r_53 (X := X)] <;> rfl

theorem a_r_62 : kernelRun0_A.sl.r_62 (F := Ideal) c arg1 harg1 arg3 harg3 arg4 harg4 arg6 harg6 arg9 harg9 arg10 harg10 X.x0 X.x2 X.x3 X.x5 X.x8 X.x9 = v200 X := by
  unfold kernelRun0_A.sl.r_62
  simp only [a_r_20 (X := X), a_r_24 (X := X), a_r_52 (X := X), a_r_59 (X := X)] <;> rfl

theorem a_r_63 : kernelRun0_A.sl.r_63 (F := Ideal) c arg1 harg1 arg3 harg3 arg4 harg4 arg6 harg6 arg7 harg7 arg9 harg9 arg10 harg10 X.x0 X.x2 X.x3 X.x5 X.x6 X.x8 X.x9 = v222 X := by
  unfold kernelRun0_A.sl.r_63
  simp only [a_r_4, a_r_16 (X := X), a_r_18 (X := X), a_r_19 (X := X), a_r_24 (X := X), a_r_52 (X := X), a_r_56 (X := X), a_r_60 (X := X), a_r_61 (X := X)] <;> rfl

theorem a_r_64 : kernelRun0_A.sl.r_64 (F := Ideal) c arg1 harg1 arg3 harg3 arg4 harg4 arg6 harg6 arg7 harg7 arg9 harg9 arg10 harg10 X.x0 X.x2 X.x3 X.x5 X.x6 X.x8 X.x9 = v227 X := by
  unfold kernelRun0_A.sl.r_64
  simp only [a_r_15 (X := X), a_r_21 (X := X), a_r_22 (X := X), a_r_23 (X := X), a_r_52 (X := X), a_r_57 (X := X), a_r_58 (X := X)] <;> rfl

theorem a_r_65 : kernelRun0_A.sl.r_65 (F := Ideal) c arg1 harg1 arg4 harg4 arg6 harg6 arg9 harg9 arg10 harg10 X.x0 X.x3 X.x5 X.x8 X.x9 = v229 X := by
  unfold kernelRun0_A.sl.r_65
  simp only [a_r_13 (X := X), a_r_51 (X := X)] <;> rfl

theorem a_r_66 : kernelRun0_A.sl.r_66 (F := Ideal) c arg1 harg1 arg3 harg3 arg4 harg4 arg6 harg6 arg7 harg7 arg9 harg9 arg10 harg10 X.x0 X.x2 X.x3 X.x5 X.x6 X.x8 X.x9 = v230 X := by
  unfold kernelRun0_A.sl.r_66
  simp only [a_r_5 (X := X), a_r_10 (X := X), a_r_51 (X := X)] <;> rfl

theorem a_r_67 : kernelRun0_A.sl.r_67 (F := Ideal) c arg1 harg1 arg3 harg3 arg4 harg4 arg6 harg6 arg7 harg7 arg9 harg9 arg10 harg10 X.x0 X.x2 X.x3 X.x5 X.x6 X.x8 X.x9 = v231 X := by
  unfold kernelRun0_A.sl.r_67
  simp only [a_r_10 (X := X), a_r_11 (X := X), a_r_51 (X := X)] <;> rfl

theorem a_r_68 : kernelRun0_A.sl.r_68 (F := Ideal) c arg1 harg1 arg3 harg3 arg4 harg4 arg6 harg6 arg9 harg9 arg10 harg10 X.x0 X.x2 X.x3 X.x5 X.x8 X.x9 = v237 X := by
  unfold kernelRun0_A.sl.r_68
  simp only [a_r_9 (X := X), a_r_62 (X := X), a_r_65 (X := X)] <;> rfl

theorem a_r_69 : kernelRun0_A.sl.r_69 (F := Ideal) c arg1 harg1 arg3 harg3 arg4 harg4 arg6 harg6 arg7 harg7 arg9 harg9 arg10 harg10 X.x0 X.x2 X.x3 X.x5 X.x6 X.x8 X.x9 = v257 X := by
  unfold kernelRun0_A.sl.r_69
  simp only [a_r_4, a_r_6 (X := X), a_r_7 (X := X), a_r_8 (X := X), a_r_63 (X := X), a_r_65 (X := X)] <;> rfl

theorem a_r_70 : kernelRun0_A.sl.r_70 (F := Ideal) c arg1 harg1 arg3 harg3 arg4 harg4 arg6 harg6 arg7 harg7 arg9 harg9 arg10 harg10 X.x0 X.x2 X.x3 X.x5 X.x6 X.x8 X.x9 = v260 X := by
  unfold kernelRun0_A.sl.r_70
  simp only [a_r_12 (X := X), a_r_64 (X := X), a_r_66 (X := X), a_r_67 (X := X)] <;> rfl

theorem a_r_71 : kernelRun0_A.sl.r_71 (F := Ideal) c arg1 harg1 arg5 harg5 arg8 harg8 arg10 harg10 X.x0 X.x4 X.x7 X.x9 = v262 X := by
  unfold kernelRun0_A.sl.r_71
  simp only [a_r_49 (X := X), View.readAt_eq_ld, ldX, ldY, ldV, ldW, ldU, ldX', ldY', ldV', ldW', ldU', harg1.read_unread, harg5.read_unread, harg8.read_unread, harg10.read_unread] <;> rfl

theorem a_r_72 : kernelRun0_A.sl.r_72 (F := Ideal) c arg1 harg1 arg5 harg5 arg8 harg8 arg10 harg10 X.x0 X.x4 X.x7 X.x9 = v273 X := by
  unfold kernelRun0_A.sl.r_72
  simp only [a_r_49 (X := X), View.readAt_eq_ld, ldX, ldY, ldV, ldW, ldU, ldX', ldY', ldV', ldW', ldU', harg1.read_unread, harg5.read_unread, harg8.read_unread, harg10.read_unread] <;> rfl

theorem a_r_73 : kernelRun0_A.sl.r_73 (F := Ideal) c arg1 harg1 arg2 harg2 arg5 harg5 arg8 harg8 arg10 harg10 X.x0 X.x1 X.x4 X.x7 X.x9 = v275 X := by
  unfold kernelRun0_A.sl.r_73
  simp only [a_r, a_r_49 (X := X), View.readAt_eq_ld, ldX, ldY, ldV, ldW, ldU, ldX', ldY', ldV', ldW', ldU', harg1.read_unread, harg2.read_unread, harg5.read_unread, harg8.read_unread, harg10.read_unread] <;> rfl

theorem a_r_74 : kernelRun0_A.sl.r_74 (F := Ideal) c arg1 harg1 arg2 harg2 arg5 harg5 arg8 harg8 arg10 harg10 X.x0 X.x1 X.x4 X.x7 X.x9 = v277 X := by
  unfold kernelRun0_A.sl.r_74
  simp only [a_r, a_r_49 (X := X), View.readAt_eq_ld, ldX, ldY, ldV, ldW, ldU, ldX', ldY', ldV', ldW', ldU', harg1.read_unread, harg2.read_unread, harg5.read_unread, harg8.read_unread, harg10.read_unread] <;> rfl

theorem a_r_75 : kernelRun0_A.sl.r_75 (F := Ideal) c arg1 harg1 arg2 harg2 arg5 harg5 arg8 harg8 arg10 harg10 X.x0 X.x1 X.x4 X.x7 X.x9 = v279 X := by
  unfold kernelRun0_A.sl.r_75
  simp only [a_r, a_r_49 (X := X), View.readAt_eq_ld, ldX, ldY, ldV, ldW, ldU, ldX', ldY', ldV', ldW', ldU', harg1.read_unread, harg2.read_unread, harg5.read_unread, harg8.read_unread, harg10.read_unread] <;> rfl

theorem a_r_76 : kernelRun0_A.sl.r_76 (F := Ideal) c arg1 harg1 arg5 harg5 arg8 harg8 arg10 harg10 X.x0 X.x4 X.x7 X.x9 = v311 X := by
  unfold kernelRun0_A.sl.r_76
  simp only [a_r_71 (X := X)] <;> rfl

theorem a_r_77 : kernelRun0_A.sl.r_77 (F := Ideal) c arg1 harg1 arg2 harg2 arg5 harg5 arg8 harg8 arg10 harg10 X.x0 X.x1 X.x4 X.x7 X.x9 = v315 X := by
  unfold kernelRun0_A.sl.r_77
  simp only [a_r, a_r_71 (X := X)] <;> rfl

theorem a_r_78 : kernelRun0_A.sl.r_78 (F := Ideal) c arg1 harg1 arg2 harg2 arg5 harg5 arg8 harg8 arg10 harg10 X.x0 X.x1 X.x4 X.x7 X.x9 = v318 X := by
  unfold kernelRun0_A.sl.r_78
  simp only [a_r, a_r_71 (X := X)] <;> rfl

theorem a_r_79 : kernelRun0_A.sl.r_79 (F := Ideal) c arg1 harg1 arg2 harg2 arg5 harg5 arg8 harg8 arg10 harg10 X.x0 X.x1 X.x4 X.x7 X.x9 = v322 X := by
  unfold kernelRun0_A.sl.r_79
  simp only [a_r, a_r_71 (X := X)] <;> rfl

theorem a_r_80 : kernelRun0_A.sl.r_80 (F := Ideal) c arg1 harg1 arg5 harg5 arg8 harg8 arg10 harg10 X.x0 X.x4 X.x7 X.x9 = v349 X := by
  unfold kernelRun0_A.sl.r_80
  simp only [a_r_71 (X := X)] <;> rfl

theorem a_r_81 : kernelRun0_A.sl.r_81 (F := Ideal) c arg1 harg1 arg2 harg2 arg5 harg5 arg8 harg8 arg10 harg10 X.x0 X.x1 X.x4 X.x7 X.x9 = v360 X := by
  unfold kernelRun0_A.sl.r_81
  simp only [a_r, a_r_71 (X := X)] <;> rfl

theorem a_r_82 : kernelRun0_A.sl.r_82 (F := Ideal) c arg1 harg1 arg2 harg2 arg5 harg5 arg8 harg8 arg10 harg10 X.x0 X.x1 X.x4 X.x7 X.x9 = v369 X := by
  unfold kernelRun0_A.sl.r_82
  simp only [a_r, a_r_71 (X := X)] <;> rfl

theorem a_r_83 : kernelRun0_A.sl.r_83 (F := Ideal) c arg1 harg1 arg2 harg2 arg5 harg5 arg8 harg8 arg10 harg10 X.x0 X.x1 X.x4 X.x7 X.x9 = v414 X := by
  unfold kernelRun0_A.sl.r_83
  simp only [a_r, a_r_71 (X := X)] <;> rfl

theorem a_r_84 : kernelRun0_A.sl.r_84 (F := Ideal) c arg1 harg1 arg2 harg2 arg5 harg5 arg8 harg8 arg10 harg10 X.x0 X.x1 X.x4 X.x7 X.x9 = v460 X := by
  unfold kernelRun0_A.sl.r_84
  simp only [a_r, a_r_71 (X := X)] <;> rfl

theorem a_r_85 : kernelRun0_A.sl.r_85 (F := Ideal) c arg1 harg1 arg5 harg5 arg8 harg8 arg10 harg10 X.x0 X.x4 X.x7 X.x9 = v501 X := by
  unfold kernelRun0_A.sl.r_85
  simp only [a_r_71 (X := X)] <;> rfl

theorem a_r_86 : kernelRun0_A.sl.r_86 (F := Ideal) c arg1 harg1 arg2 harg2 arg5 harg5 arg8 harg8 arg10 harg10 X.x0 X.x1 X.x4 X.x7 X.x9 = v503 X := by
  unfold kernelRun0_A.sl.r_86
  simp only [a_r, a_r_71 (X := X)] <;> rfl

theorem a_r_87 : kernelRun0_A.sl.r_87 (F := Ideal) c arg1 harg1 arg2 harg2 arg5 harg5 arg8 harg8 arg10 harg10 X.x0 X.x1 X.x4 X.x7 X.x9 = v505 X := by
  unfold kernelRun0_A.sl.r_87
  simp only [a_r, a_r_71 (X := X)] <;> rfl

theorem a_r_88 : kernelRun0_A.sl.r_88 (F := Ideal) c arg1 harg1 arg2 harg2 arg5 harg5 arg8 harg8 arg10 harg10 X.x0 X.x1 X.x4 X.x7 X.x9 = v507 X := by
  unfold kernelRun0_A.sl.r_88
  simp only [a_r, a_r_71 (X := X)] <;> rfl

theorem a_r_89 : kernelRun0_A.sl.r_89 (F := Ideal) c arg1 harg1 arg5 harg5 arg8 harg8 arg10 harg10 X.x0 X.x4 X.x7 X.x9 = v539 X := by
  unfold kernelRun0_A.sl.r_89
  simp only [a_r_71 (X := X)] <;> rfl

theorem a_r_90 : kernelRun0_A.sl.r_90 (F := Ideal) c arg1 harg1 arg2 harg2 arg5 harg5 arg8 harg8 arg10 harg10 X.x0 X.x1 X.x4 X.x7 X.x9 = v543 X := by
  unfold kernelRun0_A.sl.r_90
  simp only [a_r, a_r_71 (X := X)] <;> rfl

theorem a_r_91 : kernelRun0_A.sl.r_91 (F := Ideal) c arg1 harg1 arg2 harg2 arg5 harg5 arg8 harg8 arg10 harg10 X.x0 X.x1 X.x4 X.x7 X.x9 = v546 X := by
  unfold kernelRun0_A.sl.r_91
  simp only [a_r, a_r_71 (X := X)] <;> rfl

theorem a_r_92 : kernelRun0_A.sl.r_92 (F := Ideal) c arg1 harg1 arg2 harg2 arg5 harg5 arg8 harg8 arg10 harg10 X.x0 X.x1 X.x4 X.x7 X.x9 = v550 X := by
  unfold kernelRun0_A.sl.r_92
  simp only [a_r, a_r_71 (X := X)] <;> rfl

theorem a_r_93 : kernelRun0_A.sl.r_93 (F := Ideal) c arg2 harg2 arg3 harg3 arg4 harg4 arg5 harg5 arg6 harg6 arg7 harg7 arg8 harg8 arg9 harg9 X.x1 X.x2 X.x3 X.x4 X.x5 X.x6 X.x7 X.x8 = v588 X := by
  unfold kernelRun0_A.sl.r_93
  simp only [a_r_43 (X := X), a_r_44 (X := X), a_r_45 (X := X), a_r_46 (X := X)] <;> rfl

theorem out_a_11 : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = v257 X := by
  unfold out0_A_11
  rw [View.read_writes_junk_eq_canon]
  unfold kernelRun0_A
  dsimp only
  simp only [a_r_69 (X := X)]
  exact View.canon_unit_zero hz2 _ _

theorem out_a_13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = v4 X := by
  unfold out0_A_13
  rw [View.read_writes_junk_eq_canon]
  unfold kernelRun0_A
  dsimp only
  simp only [a_r_1 (X := X)]
  exact View.canon_unit_zero hz2 _ _

theorem out_a_14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = v101 X := by
  unfold out0_A_14
  rw [View.read_writes_junk_eq_canon]
  unfold kernelRun0_A
  dsimp only
  simp only [a_r_42 (X := X)]
  exact View.canon_unit_zero hz2 _ _

theorem out_a_15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = v115 X := by
  unfold out0_A_15
  rw [View.read_writes_junk_eq_canon]
  unfold kernelRun0_A
  dsimp only
  simp only [a_r_49 (X := X)]
  exact View.canon_unit_zero hz2 _ _

theorem out_a_16 : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = v117 X := by
  unfold out0_A_16
  rw [View.read_writes_junk_eq_canon]
  unfold kernelRun0_A
  dsimp only
  simp only [a_r_50 (X := X)]
  exact View.canon_unit_zero hz2 _ _

theorem out_a_17 : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = v588 X := by
  unfold out0_A_17
  rw [View.read_writes_junk_eq_canon]
  unfold kernelRun0_A
  dsimp only
  simp only [a_r_93 (X := X)]
  exact View.canon_unit_zero hz2 _ _

theorem out_a_18 : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = v111 X := by
  unfold out0_A_18
  rw [View.read_writes_junk_eq_canon]
  unfold kernelRun0_A
  dsimp only
  simp only [a_r_47 (X := X)]
  exact View.canon_unit_zero hz2 _ _

theorem out_a_10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = View.canon (tiles ![h0 X, h1 X, h2 X, h3 X, h4 X, h5 X, h6 X, h7 X]) := by
  unfold out0_A_10
  rw [View.read_writes_junk_eq_canon]
  unfold kernelRun0_A
  dsimp only
  simp only [a_r_89 (X := X), a_r_90 (X := X), a_r_91 (X := X), a_r_92 (X := X), a_r_85 (X := X), a_r_86 (X := X), a_r_87 (X := X), a_r_88 (X := X), a_r_71 (X := X), a_r_84 (X := X), a_r, a_r_83 (X := X), a_r_80 (X := X), a_r_81 (X := X), a_r_82 (X := X), a_r_76 (X := X), a_r_77 (X := X), a_r_78 (X := X), a_r_79 (X := X), a_r_72 (X := X), a_r_73 (X := X), a_r_74 (X := X), a_r_75 (X := X)]
  rfl

theorem out_a_12 : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = View.canon (three (k0_pay123 (v260 X)) (k0_pay124 (v103 X) (v107 X) (v113 X)) (k0_pay125 (v105 X) (v109 X) (v113 X))) := by
  unfold out0_A_12
  rw [View.read_writes_junk_eq_canon]
  unfold kernelRun0_A
  dsimp only
  simp only [a_r_44 (X := X), a_r_46 (X := X), a_r_48 (X := X), a_r_43 (X := X), a_r_45 (X := X), a_r_70 (X := X)]
  rfl

theorem out_a_19 : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 = accV (k0_pay2 (F := Ideal)) (k0_pay1 (v237 X) (View.ld (k0_pay2 (F := Ideal)) rA)) := by
  unfold out0_A_19
  unfold kernelRun0_A
  dsimp only
  unfold kernelRun0_A.sl.v595 kernelRun0_A.sl.H19_1
  simp only [a_r_68 (X := X), rdA_whole (F := Ideal)]
  exact acc_writes (F := Ideal) _ _ _ _ (View.read_writes_full _ _ _ _ _) _

end Cert.Mix.Bwd

end
-- ==== Proof.MixBwdOutB.lean ====
/- The words and the outputs of the mixer's backward kernel at the later grid points, in terms of the blocks it reads. -/
module

public import proofs.«01_k».proof.Proof.MixBwdOutA
public import Idealize.ShloMosaic.Lib.VecWindow

@[expose] public section

set_option maxRecDepth 65536
set_option maxHeartbeats 1000000

noncomputable section

namespace Cert.Mix.Bwd

open Idealize.ShloMosaic Idealize.ShloMosaic.TcCoe
open Cert.Kernel9Ideal Cert.Kernel9Ideal.Gen

variable (c : Dev nD) (i : grid0.Coords) (arg1 : Memref sig .tc .vmem S384x1024 .f32) (harg1 : arg1.IsWhole) (arg2 : Memref sig .tc .vmem S384x1024 .f32) (harg2 : arg2.IsWhole) (arg3 : Memref sig .tc .vmem S384x512 .f32) (harg3 : arg3.IsWhole) (arg4 : Memref sig .tc .vmem S384x512 .f32) (harg4 : arg4.IsWhole) (arg5 : Memref sig .tc .vmem S384x1024 .f32) (harg5 : arg5.IsWhole) (arg6 : Memref sig .tc .vmem S384x1024 .f32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S384x1024 .bf16) (harg11 : arg11.IsWhole) (arg12 : Memref sig .tc .vmem S384x512 .f32) (harg12 : arg12.IsWhole) (arg13 : Memref sig .tc .vmem S384x2560 .bf16) (harg13 : arg13.IsWhole) (arg14 : Memref sig .tc .vmem S384x1024 .bf16) (harg14 : arg14.IsWhole) (arg15 : Memref sig .tc .vmem S384x512 .bf16) (harg15 : arg15.IsWhole) (arg16 : Memref sig .tc .vmem S384x1024 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S384x1024 .bf16) (harg19 : arg19.IsWhole) (arg20 : Memref sig .tc .vmem S8x128 .f32) (harg20 : arg20.IsWhole) (hc0 : ¬cond0_0 i) (X : Ins) (xo19 : Vec Ideal S8x128 .f32)

theorem b_r : kernelRun0_B.sl.r (F := Ideal) c arg2 harg2 X.x1 = X.x1 := a_r c arg2 harg2 X
theorem b_r_1 : kernelRun0_B.sl.r_1 (F := Ideal) c arg2 harg2 X.x1 = v4 X := a_r_1 c arg2 harg2 X
theorem b_r_2 : kernelRun0_B.sl.r_2 (F := Ideal) c arg3 harg3 X.x2 = X.x2 := a_r_2 c arg3 harg3 X
theorem b_r_3 : kernelRun0_B.sl.r_3 (F := Ideal) c arg4 harg4 X.x3 = X.x3 := a_r_3 c arg4 harg4 X
theorem b_r_4 : kernelRun0_B.sl.r_4 (F := Ideal) c arg7 harg7 X.x6 = X.x6 := a_r_4 c arg7 harg7 X
theorem b_r_5 : kernelRun0_B.sl.r_5 (F := Ideal) c arg4 harg4 X.x3 = v8 X := a_r_5 c arg4 harg4 X
theorem b_r_6 : kernelRun0_B.sl.r_6 (F := Ideal) c arg3 harg3 X.x2 = v9 X := a_r_6 c arg3 harg3 X
theorem b_r_7 : kernelRun0_B.sl.r_7 (F := Ideal) c arg3 harg3 X.x2 = v17 X := a_r_7 c arg3 harg3 X
theorem b_r_8 : kernelRun0_B.sl.r_8 (F := Ideal) c arg3 harg3 X.x2 = v20 X := a_r_8 c arg3 harg3 X
theorem b_r_9 : kernelRun0_B.sl.r_9 (F := Ideal) c arg3 harg3 X.x2 = v22 X := a_r_9 c arg3 harg3 X
theorem b_r_10 : kernelRun0_B.sl.r_10 (F := Ideal) c arg3 harg3 arg7 harg7 X.x2 X.x6 = v24 X := a_r_10 c arg3 harg3 arg7 harg7 X
theorem b_r_11 : kernelRun0_B.sl.r_11 (F := Ideal) c arg4 harg4 X.x3 = v25 X := a_r_11 c arg4 harg4 X
theorem b_r_12 : kernelRun0_B.sl.r_12 (F := Ideal) c arg4 harg4 X.x3 = v28 X := a_r_12 c arg4 harg4 X
theorem b_r_13 : kernelRun0_B.sl.r_13 (F := Ideal) c arg4 harg4 X.x3 = v29 X := a_r_13 c arg4 harg4 X
theorem b_r_14 : kernelRun0_B.sl.r_14 (F := Ideal) c arg3 harg3 arg4 harg4 arg7 harg7 X.x2 X.x3 X.x6 = v30 X := a_r_14 c arg3 harg3 arg4 harg4 arg7 harg7 X
theorem b_r_15 : kernelRun0_B.sl.r_15 (F := Ideal) c arg4 harg4 X.x3 = v31 X := a_r_15 c arg4 harg4 X
theorem b_r_16 : kernelRun0_B.sl.r_16 (F := Ideal) c arg3 harg3 X.x2 = v32 X := a_r_16 c arg3 harg3 X
theorem b_r_17 : kernelRun0_B.sl.r_17 (F := Ideal) c arg3 harg3 X.x2 = v39 X := a_r_17 c arg3 harg3 X
theorem b_r_18 : kernelRun0_B.sl.r_18 (F := Ideal) c arg3 harg3 X.x2 = v40 X := a_r_18 c arg3 harg3 X
theorem b_r_19 : kernelRun0_B.sl.r_19 (F := Ideal) c arg3 harg3 X.x2 = v43 X := a_r_19 c arg3 harg3 X
theorem b_r_20 : kernelRun0_B.sl.r_20 (F := Ideal) c arg3 harg3 X.x2 = v45 X := a_r_20 c arg3 harg3 X
theorem b_r_21 : kernelRun0_B.sl.r_21 (F := Ideal) c arg3 harg3 arg7 harg7 X.x2 X.x6 = v47 X := a_r_21 c arg3 harg3 arg7 harg7 X
theorem b_r_22 : kernelRun0_B.sl.r_22 (F := Ideal) c arg4 harg4 X.x3 = v48 X := a_r_22 c arg4 harg4 X
theorem b_r_23 : kernelRun0_B.sl.r_23 (F := Ideal) c arg4 harg4 X.x3 = v51 X := a_r_23 c arg4 harg4 X
theorem b_r_24 : kernelRun0_B.sl.r_24 (F := Ideal) c arg4 harg4 X.x3 = v52 X := a_r_24 c arg4 harg4 X
theorem b_r_25 : kernelRun0_B.sl.r_25 (F := Ideal) c arg3 harg3 arg4 harg4 arg7 harg7 X.x2 X.x3 X.x6 = v53 X := a_r_25 c arg3 harg3 arg4 harg4 arg7 harg7 X
theorem b_r_26 : kernelRun0_B.sl.r_26 (F := Ideal) c arg4 harg4 X.x3 = v54 X := a_r_26 c arg4 harg4 X
theorem b_r_27 : kernelRun0_B.sl.r_27 (F := Ideal) c arg3 harg3 X.x2 = v55 X := a_r_27 c arg3 harg3 X
theorem b_r_28 : kernelRun0_B.sl.r_28 (F := Ideal) c arg3 harg3 X.x2 = v63 X := a_r_28 c arg3 harg3 X
theorem b_r_29 : kernelRun0_B.sl.r_29 (F := Ideal) c arg3 harg3 X.x2 = v66 X := a_r_29 c arg3 harg3 X
theorem b_r_30 : kernelRun0_B.sl.r_30 (F := Ideal) c arg3 harg3 X.x2 = v68 X := a_r_30 c arg3 harg3 X
theorem b_r_31 : kernelRun0_B.sl.r_31 (F := Ideal) c arg3 harg3 arg7 harg7 X.x2 X.x6 = v70 X := a_r_31 c arg3 harg3 arg7 harg7 X
theorem b_r_32 : kernelRun0_B.sl.r_32 (F := Ideal) c arg4 harg4 X.x3 = v71 X := a_r_32 c arg4 harg4 X
theorem b_r_33 : kernelRun0_B.sl.r_33 (F := Ideal) c arg4 harg4 X.x3 = v74 X := a_r_33 c arg4 harg4 X
theorem b_r_34 : kernelRun0_B.sl.r_34 (F := Ideal) c arg4 harg4 X.x3 = v75 X := a_r_34 c arg4 harg4 X
theorem b_r_35 : kernelRun0_B.sl.r_35 (F := Ideal) c arg3 harg3 arg4 harg4 arg7 harg7 X.x2 X.x3 X.x6 = v76 X := a_r_35 c arg3 harg3 arg4 harg4 arg7 harg7 X
theorem b_r_36 : kernelRun0_B.sl.r_36 (F := Ideal) c arg4 harg4 X.x3 = v77 X := a_r_36 c arg4 harg4 X
theorem b_r_37 : kernelRun0_B.sl.r_37 (F := Ideal) c arg3 harg3 X.x2 = v78 X := a_r_37 c arg3 harg3 X
theorem b_r_38 : kernelRun0_B.sl.r_38 (F := Ideal) c arg3 harg3 X.x2 = v86 X := a_r_38 c arg3 harg3 X
theorem b_r_39 : kernelRun0_B.sl.r_39 (F := Ideal) c arg3 harg3 X.x2 = v87 X := a_r_39 c arg3 harg3 X
theorem b_r_40 : kernelRun0_B.sl.r_40 (F := Ideal) c arg3 harg3 X.x2 = v89 X := a_r_40 c arg3 harg3 X
theorem b_r_41 : kernelRun0_B.sl.r_41 (F := Ideal) c arg3 harg3 X.x2 = v91 X := a_r_41 c arg3 harg3 X
theorem b_r_42 : kernelRun0_B.sl.r_42 (F := Ideal) c arg3 harg3 arg4 harg4 arg7 harg7 X.x2 X.x3 X.x6 = v101 X := a_r_42 c arg3 harg3 arg4 harg4 arg7 harg7 X
theorem b_r_43 : kernelRun0_B.sl.r_43 (F := Ideal) c arg2 harg2 arg8 harg8 X.x1 X.x7 = v103 X := a_r_43 c arg2 harg2 arg8 harg8 X
theorem b_r_44 : kernelRun0_B.sl.r_44 (F := Ideal) c arg3 harg3 arg4 harg4 arg7 harg7 arg9 harg9 X.x2 X.x3 X.x6 X.x8 = v105 X := a_r_44 c arg3 harg3 arg4 harg4 arg7 harg7 arg9 harg9 X
theorem b_r_45 : kernelRun0_B.sl.r_45 (F := Ideal) c arg5 harg5 X.x4 = v107 X := a_r_45 c arg5 harg5 X
theorem b_r_46 : kernelRun0_B.sl.r_46 (F := Ideal) c arg6 harg6 X.x5 = v109 X := a_r_46 c arg6 harg6 X
theorem b_r_47 : kernelRun0_B.sl.r_47 (F := Ideal) c arg1 harg1 X.x0 = v111 X := a_r_47 c arg1 harg1 X
theorem b_r_48 : kernelRun0_B.sl.r_48 (F := Ideal) c arg1 harg1 arg10 harg10 X.x0 X.x9 = v113 X := a_r_48 c arg1 harg1 arg10 harg10 X
theorem b_r_49 : kernelRun0_B.sl.r_49 (F := Ideal) c arg1 harg1 arg5 harg5 arg10 harg10 X.x0 X.x4 X.x9 = v115 X := a_r_49 c arg1 harg1 arg5 harg5 arg10 harg10 X
theorem b_r_50 : kernelRun0_B.sl.r_50 (F := Ideal) c arg1 harg1 arg6 harg6 arg10 harg10 X.x0 X.x5 X.x9 = v117 X := a_r_50 c arg1 harg1 arg6 harg6 arg10 harg10 X
theorem b_r_51 : kernelRun0_B.sl.r_51 (F := Ideal) c arg1 harg1 arg6 harg6 arg9 harg9 arg10 harg10 X.x0 X.x5 X.x8 X.x9 = v120 X := a_r_51 c arg1 harg1 arg6 harg6 arg9 harg9 arg10 harg10 X
theorem b_r_52 : kernelRun0_B.sl.r_52 (F := Ideal) c arg1 harg1 arg6 harg6 arg9 harg9 arg10 harg10 X.x0 X.x5 X.x8 X.x9 = v121 X := a_r_52 c arg1 harg1 arg6 harg6 arg9 harg9 arg10 harg10 X
theorem b_r_53 : kernelRun0_B.sl.r_53 (F := Ideal) c arg1 harg1 arg6 harg6 arg9 harg9 arg10 harg10 X.x0 X.x5 X.x8 X.x9 = v122 X := a_r_53 c arg1 harg1 arg6 harg6 arg9 harg9 arg10 harg10 X
theorem b_r_54 : kernelRun0_B.sl.r_54 (F := Ideal) c arg1 harg1 arg4 harg4 arg6 harg6 arg9 harg9 arg10 harg10 X.x0 X.x3 X.x5 X.x8 X.x9 = v125 X := a_r_54 c arg1 harg1 arg4 harg4 arg6 harg6 arg9 harg9 arg10 harg10 X
theorem b_r_55 : kernelRun0_B.sl.r_55 (F := Ideal) c arg1 harg1 arg3 harg3 arg4 harg4 arg6 harg6 arg7 harg7 arg9 harg9 arg10 harg10 X.x0 X.x2 X.x3 X.x5 X.x6 X.x8 X.x9 = v129 X := a_r_55 c arg1 harg1 arg3 harg3 arg4 harg4 arg6 harg6 arg7 harg7 arg9 harg9 arg10 harg10 X
theorem b_r_56 : kernelRun0_B.sl.r_56 (F := Ideal) c arg1 harg1 arg3 harg3 arg4 harg4 arg6 harg6 arg7 harg7 arg9 harg9 arg10 harg10 X.x0 X.x2 X.x3 X.x5 X.x6 X.x8 X.x9 = v151 X := a_r_56 c arg1 harg1 arg3 harg3 arg4 harg4 arg6 harg6 arg7 harg7 arg9 harg9 arg10 harg10 X
theorem b_r_57 : kernelRun0_B.sl.r_57 (F := Ideal) c arg1 harg1 arg3 harg3 arg4 harg4 arg6 harg6 arg7 harg7 arg9 harg9 arg10 harg10 X.x0 X.x2 X.x3 X.x5 X.x6 X.x8 X.x9 = v153 X := a_r_57 c arg1 harg1 arg3 harg3 arg4 harg4 arg6 harg6 arg7 harg7 arg9 harg9 arg10 harg10 X
theorem b_r_58 : kernelRun0_B.sl.r_58 (F := Ideal) c arg1 harg1 arg3 harg3 arg4 harg4 arg6 harg6 arg7 harg7 arg9 harg9 arg10 harg10 X.x0 X.x2 X.x3 X.x5 X.x6 X.x8 X.x9 = v159 X := a_r_58 c arg1 harg1 arg3 harg3 arg4 harg4 arg6 harg6 arg7 harg7 arg9 harg9 arg10 harg10 X
theorem b_r_59 : kernelRun0_B.sl.r_59 (F := Ideal) c arg1 harg1 arg3 harg3 arg4 harg4 arg6 harg6 arg9 harg9 arg10 harg10 X.x0 X.x2 X.x3 X.x5 X.x8 X.x9 = v163 X := a_r_59 c arg1 harg1 arg3 harg3 arg4 harg4 arg6 harg6 arg9 harg9 arg10 harg10 X
theorem b_r_60 : kernelRun0_B.sl.r_60 (F := Ideal) c arg1 harg1 arg3 harg3 arg4 harg4 arg6 harg6 arg7 harg7 arg9 harg9 arg10 harg10 X.x0 X.x2 X.x3 X.x5 X.x6 X.x8 X.x9 = v178 X := a_r_60 c arg1 harg1 arg3 harg3 arg4 harg4 arg6 harg6 arg7 harg7 arg9 harg9 arg10 harg10 X
theorem b_r_61 : kernelRun0_B.sl.r_61 (F := Ideal) c arg1 harg1 arg3 harg3 arg4 harg4 arg6 harg6 arg7 harg7 arg9 harg9 arg10 harg10 X.x0 X.x2 X.x3 X.x5 X.x6 X.x8 X.x9 = v179 X := a_r_61 c arg1 harg1 arg3 harg3 arg4 harg4 arg6 harg6 arg7 harg7 arg9 harg9 arg10 harg10 X
theorem b_r_62 : kernelRun0_B.sl.r_62 (F := Ideal) c arg1 harg1 arg3 harg3 arg4 harg4 arg6 harg6 arg9 harg9 arg10 harg10 X.x0 X.x2 X.x3 X.x5 X.x8 X.x9 = v200 X := a_r_62 c arg1 harg1 arg3 harg3 arg4 harg4 arg6 harg6 arg9 harg9 arg10 harg10 X
theorem b_r_63 : kernelRun0_B.sl.r_63 (F := Ideal) c arg1 harg1 arg3 harg3 arg4 harg4 arg6 harg6 arg7 harg7 arg9 harg9 arg10 harg10 X.x0 X.x2 X.x3 X.x5 X.x6 X.x8 X.x9 = v222 X := a_r_63 c arg1 harg1 arg3 harg3 arg4 harg4 arg6 harg6 arg7 harg7 arg9 harg9 arg10 harg10 X
theorem b_r_64 : kernelRun0_B.sl.r_64 (F := Ideal) c arg1 harg1 arg3 harg3 arg4 harg4 arg6 harg6 arg7 harg7 arg9 harg9 arg10 harg10 X.x0 X.x2 X.x3 X.x5 X.x6 X.x8 X.x9 = v227 X := a_r_64 c arg1 harg1 arg3 harg3 arg4 harg4 arg6 harg6 arg7 harg7 arg9 harg9 arg10 harg10 X
theorem b_r_65 : kernelRun0_B.sl.r_65 (F := Ideal) c arg1 harg1 arg4 harg4 arg6 harg6 arg9 harg9 arg10 harg10 X.x0 X.x3 X.x5 X.x8 X.x9 = v229 X := a_r_65 c arg1 harg1 arg4 harg4 arg6 harg6 arg9 harg9 arg10 harg10 X
theorem b_r_66 : kernelRun0_B.sl.r_66 (F := Ideal) c arg1 harg1 arg3 harg3 arg4 harg4 arg6 harg6 arg7 harg7 arg9 harg9 arg10 harg10 X.x0 X.x2 X.x3 X.x5 X.x6 X.x8 X.x9 = v230 X := a_r_66 c arg1 harg1 arg3 harg3 arg4 harg4 arg6 harg6 arg7 harg7 arg9 harg9 arg10 harg10 X
theorem b_r_67 : kernelRun0_B.sl.r_67 (F := Ideal) c arg1 harg1 arg3 harg3 arg4 harg4 arg6 harg6 arg7 harg7 arg9 harg9 arg10 harg10 X.x0 X.x2 X.x3 X.x5 X.x6 X.x8 X.x9 = v231 X := a_r_67 c arg1 harg1 arg3 harg3 arg4 harg4 arg6 harg6 arg7 harg7 arg9 harg9 arg10 harg10 X
theorem b_r_68 : kernelRun0_B.sl.r_68 (F := Ideal) c arg1 harg1 arg3 harg3 arg4 harg4 arg6 harg6 arg9 harg9 arg10 harg10 X.x0 X.x2 X.x3 X.x5 X.x8 X.x9 = v237 X := a_r_68 c arg1 harg1 arg3 harg3 arg4 harg4 arg6 harg6 arg9 harg9 arg10 harg10 X
theorem b_r_69 : kernelRun0_B.sl.r_69 (F := Ideal) c arg1 harg1 arg3 harg3 arg4 harg4 arg6 harg6 arg7 harg7 arg9 harg9 arg10 harg10 X.x0 X.x2 X.x3 X.x5 X.x6 X.x8 X.x9 = v257 X := a_r_69 c arg1 harg1 arg3 harg3 arg4 harg4 arg6 harg6 arg7 harg7 arg9 harg9 arg10 harg10 X
theorem b_r_70 : kernelRun0_B.sl.r_70 (F := Ideal) c arg1 harg1 arg3 harg3 arg4 harg4 arg6 harg6 arg7 harg7 arg9 harg9 arg10 harg10 X.x0 X.x2 X.x3 X.x5 X.x6 X.x8 X.x9 = v260 X := a_r_70 c arg1 harg1 arg3 harg3 arg4 harg4 arg6 harg6 arg7 harg7 arg9 harg9 arg10 harg10 X
theorem b_r_71 : kernelRun0_B.sl.r_71 (F := Ideal) c arg1 harg1 arg5 harg5 arg8 harg8 arg10 harg10 X.x0 X.x4 X.x7 X.x9 = v262 X := a_r_71 c arg1 harg1 arg5 harg5 arg8 harg8 arg10 harg10 X
theorem b_r_72 : kernelRun0_B.sl.r_72 (F := Ideal) c arg1 harg1 arg5 harg5 arg8 harg8 arg10 harg10 X.x0 X.x4 X.x7 X.x9 = v273 X := a_r_72 c arg1 harg1 arg5 harg5 arg8 harg8 arg10 harg10 X
theorem b_r_73 : kernelRun0_B.sl.r_73 (F := Ideal) c arg1 harg1 arg2 harg2 arg5 harg5 arg8 harg8 arg10 harg10 X.x0 X.x1 X.x4 X.x7 X.x9 = v275 X := a_r_73 c arg1 harg1 arg2 harg2 arg5 harg5 arg8 harg8 arg10 harg10 X
theorem b_r_74 : kernelRun0_B.sl.r_74 (F := Ideal) c arg1 harg1 arg2 harg2 arg5 harg5 arg8 harg8 arg10 harg10 X.x0 X.x1 X.x4 X.x7 X.x9 = v277 X := a_r_74 c arg1 harg1 arg2 harg2 arg5 harg5 arg8 harg8 arg10 harg10 X
theorem b_r_75 : kernelRun0_B.sl.r_75 (F := Ideal) c arg1 harg1 arg2 harg2 arg5 harg5 arg8 harg8 arg10 harg10 X.x0 X.x1 X.x4 X.x7 X.x9 = v279 X := a_r_75 c arg1 harg1 arg2 harg2 arg5 harg5 arg8 harg8 arg10 harg10 X
theorem b_r_76 : kernelRun0_B.sl.r_76 (F := Ideal) c arg1 harg1 arg5 harg5 arg8 harg8 arg10 harg10 X.x0 X.x4 X.x7 X.x9 = v311 X := a_r_76 c arg1 harg1 arg5 harg5 arg8 harg8 arg10 harg10 X
theorem b_r_77 : kernelRun0_B.sl.r_77 (F := Ideal) c arg1 harg1 arg2 harg2 arg5 harg5 arg8 harg8 arg10 harg10 X.x0 X.x1 X.x4 X.x7 X.x9 = v315 X := a_r_77 c arg1 harg1 arg2 harg2 arg5 harg5 arg8 harg8 arg10 harg10 X
theorem b_r_78 : kernelRun0_B.sl.r_78 (F := Ideal) c arg1 harg1 arg2 harg2 arg5 harg5 arg8 harg8 arg10 harg10 X.x0 X.x1 X.x4 X.x7 X.x9 = v318 X := a_r_78 c arg1 harg1 arg2 harg2 arg5 harg5 arg8 harg8 arg10 harg10 X
theorem b_r_79 : kernelRun0_B.sl.r_79 (F := Ideal) c arg1 harg1 arg2 harg2 arg5 harg5 arg8 harg8 arg10 harg10 X.x0 X.x1 X.x4 X.x7 X.x9 = v322 X := a_r_79 c arg1 harg1 arg2 harg2 arg5 harg5 arg8 harg8 arg10 harg10 X
theorem b_r_80 : kernelRun0_B.sl.r_80 (F := Ideal) c arg1 harg1 arg5 harg5 arg8 harg8 arg10 harg10 X.x0 X.x4 X.x7 X.x9 = v349 X := a_r_80 c arg1 harg1 arg5 harg5 arg8 harg8 arg10 harg10 X
theorem b_r_81 : kernelRun0_B.sl.r_81 (F := Ideal) c arg1 harg1 arg2 harg2 arg5 harg5 arg8 harg8 arg10 harg10 X.x0 X.x1 X.x4 X.x7 X.x9 = v360 X := a_r_81 c arg1 harg1 arg2 harg2 arg5 harg5 arg8 harg8 arg10 harg10 X
theorem b_r_82 : kernelRun0_B.sl.r_82 (F := Ideal) c arg1 harg1 arg2 harg2 arg5 harg5 arg8 harg8 arg10 harg10 X.x0 X.x1 X.x4 X.x7 X.x9 = v369 X := a_r_82 c arg1 harg1 arg2 harg2 arg5 harg5 arg8 harg8 arg10 harg10 X
theorem b_r_83 : kernelRun0_B.sl.r_83 (F := Ideal) c arg1 harg1 arg2 harg2 arg5 harg5 arg8 harg8 arg10 harg10 X.x0 X.x1 X.x4 X.x7 X.x9 = v414 X := a_r_83 c arg1 harg1 arg2 harg2 arg5 harg5 arg8 harg8 arg10 harg10 X
theorem b_r_84 : kernelRun0_B.sl.r_84 (F := Ideal) c arg1 harg1 arg2 harg2 arg5 harg5 arg8 harg8 arg10 harg10 X.x0 X.x1 X.x4 X.x7 X.x9 = v460 X := a_r_84 c arg1 harg1 arg2 harg2 arg5 harg5 arg8 harg8 arg10 harg10 X
theorem b_r_85 : kernelRun0_B.sl.r_85 (F := Ideal) c arg1 harg1 arg5 harg5 arg8 harg8 arg10 harg10 X.x0 X.x4 X.x7 X.x9 = v501 X := a_r_85 c arg1 harg1 arg5 harg5 arg8 harg8 arg10 harg10 X
theorem b_r_86 : kernelRun0_B.sl.r_86 (F := Ideal) c arg1 harg1 arg2 harg2 arg5 harg5 arg8 harg8 arg10 harg10 X.x0 X.x1 X.x4 X.x7 X.x9 = v503 X := a_r_86 c arg1 harg1 arg2 harg2 arg5 harg5 arg8 harg8 arg10 harg10 X
theorem b_r_87 : kernelRun0_B.sl.r_87 (F := Ideal) c arg1 harg1 arg2 harg2 arg5 harg5 arg8 harg8 arg10 harg10 X.x0 X.x1 X.x4 X.x7 X.x9 = v505 X := a_r_87 c arg1 harg1 arg2 harg2 arg5 harg5 arg8 harg8 arg10 harg10 X
theorem b_r_88 : kernelRun0_B.sl.r_88 (F := Ideal) c arg1 harg1 arg2 harg2 arg5 harg5 arg8 harg8 arg10 harg10 X.x0 X.x1 X.x4 X.x7 X.x9 = v507 X := a_r_88 c arg1 harg1 arg2 harg2 arg5 harg5 arg8 harg8 arg10 harg10 X
theorem b_r_89 : kernelRun0_B.sl.r_89 (F := Ideal) c arg1 harg1 arg5 harg5 arg8 harg8 arg10 harg10 X.x0 X.x4 X.x7 X.x9 = v539 X := a_r_89 c arg1 harg1 arg5 harg5 arg8 harg8 arg10 harg10 X
theorem b_r_90 : kernelRun0_B.sl.r_90 (F := Ideal) c arg1 harg1 arg2 harg2 arg5 harg5 arg8 harg8 arg10 harg10 X.x0 X.x1 X.x4 X.x7 X.x9 = v543 X := a_r_90 c arg1 harg1 arg2 harg2 arg5 harg5 arg8 harg8 arg10 harg10 X
theorem b_r_91 : kernelRun0_B.sl.r_91 (F := Ideal) c arg1 harg1 arg2 harg2 arg5 harg5 arg8 harg8 arg10 harg10 X.x0 X.x1 X.x4 X.x7 X.x9 = v546 X := a_r_91 c arg1 harg1 arg2 harg2 arg5 harg5 arg8 harg8 arg10 harg10 X
theorem b_r_92 : kernelRun0_B.sl.r_92 (F := Ideal) c arg1 harg1 arg2 harg2 arg5 harg5 arg8 harg8 arg10 harg10 X.x0 X.x1 X.x4 X.x7 X.x9 = v550 X := a_r_92 c arg1 harg1 arg2 harg2 arg5 harg5 arg8 harg8 arg10 harg10 X
theorem b_r_93 : kernelRun0_B.sl.r_93 (F := Ideal) c arg2 harg2 arg3 harg3 arg4 harg4 arg5 harg5 arg6 harg6 arg7 harg7 arg8 harg8 arg9 harg9 X.x1 X.x2 X.x3 X.x4 X.x5 X.x6 X.x7 X.x8 = v588 X := a_r_93 c arg2 harg2 arg3 harg3 arg4 harg4 arg5 harg5 arg6 harg6 arg7 harg7 arg8 harg8 arg9 harg9 X
theorem out_b_11 : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = v257 X := by
  unfold out0_B_11
  rw [View.read_writes_junk_eq_canon]
  unfold kernelRun0_B
  dsimp only
  simp only [b_r_69 (X := X)]
  exact View.canon_unit_zero hz2 _ _

theorem out_b_13 : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = v4 X := by
  unfold out0_B_13
  rw [View.read_writes_junk_eq_canon]
  unfold kernelRun0_B
  dsimp only
  simp only [b_r_1 (X := X)]
  exact View.canon_unit_zero hz2 _ _

theorem out_b_14 : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = v101 X := by
  unfold out0_B_14
  rw [View.read_writes_junk_eq_canon]
  unfold kernelRun0_B
  dsimp only
  simp only [b_r_42 (X := X)]
  exact View.canon_unit_zero hz2 _ _

theorem out_b_15 : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = v115 X := by
  unfold out0_B_15
  rw [View.read_writes_junk_eq_canon]
  unfold kernelRun0_B
  dsimp only
  simp only [b_r_49 (X := X)]
  exact View.canon_unit_zero hz2 _ _

theorem out_b_16 : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = v117 X := by
  unfold out0_B_16
  rw [View.read_writes_junk_eq_canon]
  unfold kernelRun0_B
  dsimp only
  simp only [b_r_50 (X := X)]
  exact View.canon_unit_zero hz2 _ _

theorem out_b_17 : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = v588 X := by
  unfold out0_B_17
  rw [View.read_writes_junk_eq_canon]
  unfold kernelRun0_B
  dsimp only
  simp only [b_r_93 (X := X)]
  exact View.canon_unit_zero hz2 _ _

theorem out_b_18 : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = v111 X := by
  unfold out0_B_18
  rw [View.read_writes_junk_eq_canon]
  unfold kernelRun0_B
  dsimp only
  simp only [b_r_47 (X := X)]
  exact View.canon_unit_zero hz2 _ _

theorem out_b_10 : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = View.canon (tiles ![h0 X, h1 X, h2 X, h3 X, h4 X, h5 X, h6 X, h7 X]) := by
  unfold out0_B_10
  rw [View.read_writes_junk_eq_canon]
  unfold kernelRun0_B
  dsimp only
  simp only [b_r_89 (X := X), b_r_90 (X := X), b_r_91 (X := X), b_r_92 (X := X), b_r_85 (X := X), b_r_86 (X := X), b_r_87 (X := X), b_r_88 (X := X), b_r_71 (X := X), b_r_84 (X := X), b_r, b_r_83 (X := X), b_r_80 (X := X), b_r_81 (X := X), b_r_82 (X := X), b_r_76 (X := X), b_r_77 (X := X), b_r_78 (X := X), b_r_79 (X := X), b_r_72 (X := X), b_r_73 (X := X), b_r_74 (X := X), b_r_75 (X := X)]
  rfl

theorem out_b_12 : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = View.canon (three (k0_pay123 (v260 X)) (k0_pay124 (v103 X) (v107 X) (v113 X)) (k0_pay125 (v105 X) (v109 X) (v113 X))) := by
  unfold out0_B_12
  rw [View.read_writes_junk_eq_canon]
  unfold kernelRun0_B
  dsimp only
  simp only [b_r_44 (X := X), b_r_46 (X := X), b_r_48 (X := X), b_r_43 (X := X), b_r_45 (X := X), b_r_70 (X := X)]
  rfl

theorem out_b_19 : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 X.x0 X.x1 X.x2 X.x3 X.x4 X.x5 X.x6 X.x7 X.x8 X.x9 xo19 = accV xo19 (k0_pay1 (v237 X) (View.ld xo19 rA)) := by
  unfold out0_B_19
  unfold kernelRun0_B
  dsimp only
  simp only [b_r_68 (X := X), View.readAt_eq_ld, harg20.read_unread]
  exact acc_writes (F := Ideal) _ _ _ _ (harg20.read_unread xo19) _

end Cert.Mix.Bwd

end
-- ==== Proof.MixBwdSweep.lean ====
/- What the mixer's backward kernel leaves in each output at a grid point. -/
module

public import proofs.«01_k».proof.Proof.MixBwdOutA
public import proofs.«01_k».proof.Proof.MixBwdOutB

@[expose] public section

set_option maxRecDepth 16384

noncomputable section

namespace Cert.Mix.Bwd

open Idealize.ShloMosaic Idealize.ShloMosaic.TcCoe
open Cert.Kernel9Ideal Cert.Kernel9Ideal.Gen

theorem pr1 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.1 = a1 := by rw [h]
theorem pr2 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.1 = a2 := by rw [h]
theorem pr3 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.1 = a3 := by rw [h]
theorem pr4 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.1 = a4 := by rw [h]
theorem pr5 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.1 = a5 := by rw [h]
theorem pr6 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.1 = a6 := by rw [h]
theorem pr7 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.2.1 = a7 := by rw [h]
theorem pr8 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.2.2.1 = a8 := by rw [h]
theorem pr9 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.2.2.2.1 = a9 := by rw [h]
theorem pr10 {α1 α2 α3 α4 α5 α6 α7 α8 α9 α10 : Type} {p : α1 × α2 × α3 × α4 × α5 × α6 × α7 × α8 × α9 × α10} {a1 : α1} {a2 : α2} {a3 : α3} {a4 : α4} {a5 : α5} {a6 : α6} {a7 : α7} {a8 : α8} {a9 : α9} {a10 : α10} (h : p = (a1, a2, a3, a4, a5, a6, a7, a8, a9, a10)) : p.2.2.2.2.2.2.2.2.2 = a10 := by rw [h]

variable (m : (ℓ : Loc nD τ sig) → Buf (Elt Ideal) ℓ) (c : Dev nD)

/-- The blocks of point `t`. -/
abbrev ins (t : Fin cfg0.N) : Ins := ⟨iblk m c 0 t, iblk m c 1 t, iblk m c 2 t, iblk m c 3 t, iblk m c 4 t, iblk m c 5 t, iblk m c 6 t, iblk m c 7 t, iblk m c 8 t, iblk m c 9 t⟩

theorem pt10 (t : Fin cfg0.N) : (outsAt0 m c t.val t.isLt).1 = View.canon (tiles ![h0 (ins m c t), h1 (ins m c t), h2 (ins m c t), h3 (ins m c t), h4 (ins m c t), h5 (ins m c t), h6 (ins m c t), h7 (ins m c t)]) := by
  by_cases h0 : t.val % 11 = 0
  · exact (pr1 (outsAt0_A m c t h0)).trans (out_a_10 (X := ins m c t) ..)
  · exact (pr1 (outsAt0_B m c t h0)).trans (out_b_10 (X := ins m c t) ..)

theorem pt11 (t : Fin cfg0.N) : (outsAt0 m c t.val t.isLt).2.1 = v257 (ins m c t) := by
  by_cases h0 : t.val % 11 = 0
  · exact (pr2 (outsAt0_A m c t h0)).trans (out_a_11 (X := ins m c t) ..)
  · exact (pr2 (outsAt0_B m c t h0)).trans (out_b_11 (X := ins m c t) ..)

theorem pt12 (t : Fin cfg0.N) : (outsAt0 m c t.val t.isLt).2.2.1 = View.canon (three (k0_pay123 (v260 (ins m c t))) (k0_pay124 (v103 (ins m c t)) (v107 (ins m c t)) (v113 (ins m c t))) (k0_pay125 (v105 (ins m c t)) (v109 (ins m c t)) (v113 (ins m c t)))) := by
  by_cases h0 : t.val % 11 = 0
  · exact (pr3 (outsAt0_A m c t h0)).trans (out_a_12 (X := ins m c t) ..)
  · exact (pr3 (outsAt0_B m c t h0)).trans (out_b_12 (X := ins m c t) ..)

theorem pt13 (t : Fin cfg0.N) : (outsAt0 m c t.val t.isLt).2.2.2.1 = v4 (ins m c t) := by
  by_cases h0 : t.val % 11 = 0
  · exact (pr4 (outsAt0_A m c t h0)).trans (out_a_13 (X := ins m c t) ..)
  · exact (pr4 (outsAt0_B m c t h0)).trans (out_b_13 (X := ins m c t) ..)

theorem pt14 (t : Fin cfg0.N) : (outsAt0 m c t.val t.isLt).2.2.2.2.1 = v101 (ins m c t) := by
  by_cases h0 : t.val % 11 = 0
  · exact (pr5 (outsAt0_A m c t h0)).trans (out_a_14 (X := ins m c t) ..)
  · exact (pr5 (outsAt0_B m c t h0)).trans (out_b_14 (X := ins m c t) ..)

theorem pt15 (t : Fin cfg0.N) : (outsAt0 m c t.val t.isLt).2.2.2.2.2.1 = v115 (ins m c t) := by
  by_cases h0 : t.val % 11 = 0
  · exact (pr6 (outsAt0_A m c t h0)).trans (out_a_15 (X := ins m c t) ..)
  · exact (pr6 (outsAt0_B m c t h0)).trans (out_b_15 (X := ins m c t) ..)

theorem pt16 (t : Fin cfg0.N) : (outsAt0 m c t.val t.isLt).2.2.2.2.2.2.1 = v117 (ins m c t) := by
  by_cases h0 : t.val % 11 = 0
  · exact (pr7 (outsAt0_A m c t h0)).trans (out_a_16 (X := ins m c t) ..)
  · exact (pr7 (outsAt0_B m c t h0)).trans (out_b_16 (X := ins m c t) ..)

theorem pt17 (t : Fin cfg0.N) : (outsAt0 m c t.val t.isLt).2.2.2.2.2.2.2.1 = v588 (ins m c t) := by
  by_cases h0 : t.val % 11 = 0
  · exact (pr8 (outsAt0_A m c t h0)).trans (out_a_17 (X := ins m c t) ..)
  · exact (pr8 (outsAt0_B m c t h0)).trans (out_b_17 (X := ins m c t) ..)

theorem pt18 (t : Fin cfg0.N) : (outsAt0 m c t.val t.isLt).2.2.2.2.2.2.2.2.1 = v111 (ins m c t) := by
  by_cases h0 : t.val % 11 = 0
  · exact (pr9 (outsAt0_A m c t h0)).trans (out_a_18 (X := ins m c t) ..)
  · exact (pr9 (outsAt0_B m c t h0)).trans (out_b_18 (X := ins m c t) ..)

theorem pt19_first (hn : 0 < cfg0.N) (t : Fin cfg0.N) (ht : t = ⟨0, hn⟩) : (outsAt0 m c 0 hn).2.2.2.2.2.2.2.2.2 = accV (k0_pay2 (F := Ideal)) (k0_pay1 (v237 (ins m c t)) (View.ld (k0_pay2 (F := Ideal)) rA)) := by
  subst ht
  exact (pr10 (outsAt0_A m c ⟨0, hn⟩ (Nat.zero_mod _))).trans (out_a_19 (X := ins m c ⟨0, hn⟩) ..)

theorem pt19_next (n : ℕ) (hn : n + 1 < cfg0.N) (t : Fin cfg0.N) (ht : t = ⟨n + 1, hn⟩) :
    (outsAt0 m c (n + 1) hn).2.2.2.2.2.2.2.2.2 = accV ((outsAt0 m c n (Nat.lt_of_succ_lt hn)).2.2.2.2.2.2.2.2.2) (k0_pay1 (v237 (ins m c t)) (View.ld ((outsAt0 m c n (Nat.lt_of_succ_lt hn)).2.2.2.2.2.2.2.2.2) rA)) := by
  subst ht
  have h11 : n + 1 < 11 := lt_of_lt_of_eq hn N_0
  have h0 : ¬(n + 1) % 11 = 0 := by omega
  exact (pr10 (outsAt0_B m c ⟨n + 1, hn⟩ h0)).trans (out_b_19 (X := ins m c ⟨n + 1, hn⟩) ..)

end Cert.Mix.Bwd

end
-- ==== Proof.MixBwdArr.lean ====
/- The results of the mixer's backward pass, entry by entry, in terms of the ten arrays. -/
module

public import proofs.«01_k».proof.Proof.MixBwdRows

@[expose] public section

set_option maxRecDepth 16384

noncomputable section

namespace Cert.Mix.Bwd

open Idealize.ShloMosaic Idealize.ShloMosaic.ValueKit

/-- The rows of an array, the row of the heads' weight, and a weight array's entries. -/
abbrev rwn {N C : ℕ} (x : Vec Ideal ⟨2, ![N, C]⟩ .f32) (i : Fin N) (d : Fin C) : EReal := x (ix2 i d)
abbrev mat {N C : ℕ} (x : Vec Ideal ⟨2, ![N, C]⟩ .bf16) (i : Fin N) (d : Fin C) : EReal := x (ix2 i d)
abbrev wr (x : Vec Ideal ⟨2, ![1, 128]⟩ .f32) : Lane := fun k => x (ix2 0 k)

/-- Head `g` of a row of eight. -/
def jrow (x : Row) (g : Fin 8) : Lane := fun k => x (hj g k)
/-- A row's summand of the weight's cotangent: its four heads. -/
def wd (o z c : Hrow) : Lane := fun k => hdw (hrow o 3) (hrow z 3) (hrow c 3) k + hdw (hrow o 2) (hrow z 2) (hrow c 2) k + hdw (hrow o 1) (hrow z 1) (hrow c 1) k + hdw (hrow o 0) (hrow z 0) (hrow c 0) k

/-- The cotangents of the heads of the two branches. -/
def cA (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) : Hrow := linT (dp (dy (rwn X0 i) (mat X9)) (rwn X5 i)) (mat X8)
def pA (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) : Row := linT (dp (dy (rwn X0 i) (mat X9)) (rwn X4 i)) (mat X7)

/-- The ten results. -/
def r10 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 1024) : EReal := cor (jrow (pA X0 X1 X2 X3 X4 X5 X6 X7 X8 X9 i) ⟨d.val / 128, by omega⟩) (jrow (rwn X1 i) ⟨d.val / 128, by omega⟩) ⟨d.val % 128, Nat.mod_lt _ (by decide)⟩
def r11 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 512) : EReal := rdo (rwn X2 i) (rwn X3 i) (wr X6) (cA X0 X1 X2 X3 X4 X5 X6 X7 X8 X9 i) d
def r12 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 2560) : EReal := if h : d.val < 512 then rdz (rwn X2 i) (rwn X3 i) (wr X6) (cA X0 X1 X2 X3 X4 X5 X6 X7 X8 X9 i) ⟨d.val, h⟩ else if h1 : d.val - 512 < 1024 then dg (dy (rwn X0 i) (mat X9)) (lin (rwn X1 i) (mat X7)) (rwn X4 i) ⟨d.val - 512, h1⟩ else dg (dy (rwn X0 i) (mat X9)) (lin (og (rwn X2 i) (rwn X3 i) (wr X6)) (mat X8)) (rwn X5 i) ⟨d.val - 512 - 1024, by omega⟩
def r13 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 1024) : EReal := rwn X1 i d
def r14 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 512) : EReal := (og (rwn X2 i) (rwn X3 i) (wr X6)) d
def r15 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 1024) : EReal := dp (dy (rwn X0 i) (mat X9)) (rwn X4 i) d
def r16 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 1024) : EReal := dp (dy (rwn X0 i) (mat X9)) (rwn X5 i) d
def r17 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 1024) : EReal := yr (lin (rwn X1 i) (mat X7)) (lin (og (rwn X2 i) (rwn X3 i) (wr X6)) (mat X8)) (rwn X4 i) (rwn X5 i) d
def r18 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (i : Fin 4224) (d : Fin 1024) : EReal := rwn X0 i d
def r19 (X0 : Vec Ideal ⟨2, ![4224, 1024]⟩ .f32) (X1 : Vec Ideal ⟨2, ![4224, 1024]⟩ .f32) (X2 : Vec Ideal ⟨2, ![4224, 512]⟩ .f32) (X3 : Vec Ideal ⟨2, ![4224, 512]⟩ .f32) (X4 : Vec Ideal ⟨2, ![4224, 1024]⟩ .f32) (X5 : Vec Ideal ⟨2, ![4224, 1024]⟩ .f32) (X6 : Vec Ideal ⟨2, ![1, 128]⟩ .f32) (X7 : Vec Ideal ⟨2, ![1024, 1024]⟩ .bf16) (X8 : Vec Ideal ⟨2, ![512, 1024]⟩ .bf16) (X9 : Vec Ideal ⟨2, ![1024, 1024]⟩ .bf16) (k : Fin 8) (l : Fin 128) : EReal := if k.val = 0 then ∑ i, wd (rwn X2 i) (rwn X3 i) (cA X0 X1 X2 X3 X4 X5 X6 X7 X8 X9 i) l else 0

end Cert.Mix.Bwd

end
-- ==== Proof.MixBwdBlock.lean ====
/- The values of the mixer's backward kernel, entry by entry, as the rows' functions. -/
module

public import proofs.«01_k».proof.Proof.MixBwdFlow
public import proofs.«01_k».proof.Proof.MixBwdArr
public import Idealize.ShloMosaic.Lib.Pointwise

@[expose] public section

set_option maxRecDepth 16384

noncomputable section

namespace Cert.Mix.Bwd

open Idealize.ShloMosaic Idealize.ShloMosaic.TcCoe Idealize.ShloMosaic.ValueKit
open Cert.Kernel9Ideal Cert.Kernel9Ideal.Gen

variable (x0 x1 : FVec Ideal S384x1024 .f32) (x2 x3 : FVec Ideal S384x512 .f32) (x4 x5 : FVec Ideal S384x1024 .f32) (x6 : FVec Ideal S1x128 .f32) (x7 : FVec Ideal S1024x1024 .bf16) (x8 : FVec Ideal S512x1024 .bf16) (x9 : FVec Ideal S1024x1024 .bf16)

/-- The cotangent of the mixed row, of the two branches, and of the heads of the two. -/
abbrev yB (r : Fin 384) : Row := dy (rwn x0 r) (mat x9)
abbrev cB (r : Fin 384) : Hrow := linT (dp (yB x0 x9 r) (rwn x5 r)) (mat x8)
abbrev pB (r : Fin 384) : Row := linT (dp (yB x0 x9 r) (rwn x4 r)) (mat x7)

theorem pay54_at (r : Fin 384) (d : Fin 1024) : k0_pay54 (F := Ideal) x0 x9 (ix2 r d) = yB x0 x9 r d := by
  pointwise [k0_pay54, k0_pay53, dy, linT, rwn, mat]
theorem pay51_at (r : Fin 384) (d : Fin 1024) : k0_pay51 (F := Ideal) x4 (ix2 r d) = sg (rwn x4 r d) := by
  pointwise [k0_pay51, sg, rwn]
theorem pay52_at (r : Fin 384) (d : Fin 1024) : k0_pay52 (F := Ideal) x5 (ix2 r d) = sg (rwn x5 r d) := by
  pointwise [k0_pay52, sg, rwn]
theorem pay55_at (r : Fin 384) (d : Fin 1024) : k0_pay55 (F := Ideal) x4 x0 x9 (ix2 r d) = dp (yB x0 x9 r) (rwn x4 r) d := by
  pointwise [k0_pay55, pay54_at, pay51_at, dp]
theorem pay56_at (r : Fin 384) (d : Fin 1024) : k0_pay56 (F := Ideal) x5 x0 x9 (ix2 r d) = dp (yB x0 x9 r) (rwn x5 r) d := by
  pointwise [k0_pay56, pay54_at, pay52_at, dp]
theorem pay57_at (r : Fin 384) (d : Fin 512) : k0_pay57 (F := Ideal) x5 x0 x9 x8 (ix2 r d) = cB x0 x5 x8 x9 r d := by
  pointwise [k0_pay57, pay56_at, linT, mat]

theorem o_0 (r : Fin 384) : rl (k0_pay5 (F := Ideal) x2) r = hrow (rwn x2 r) 0 := by
  funext k; show k0_pay5 (F := Ideal) x2 (ix2 r k) = _; pointwise [k0_pay5, hrow, hi0, rwn]
theorem z_0 (r : Fin 384) : rl (k0_pay4 (F := Ideal) x3) r = hrow (rwn x3 r) 0 := by
  funext k; show k0_pay4 (F := Ideal) x3 (ix2 r k) = _; pointwise [k0_pay4, hrow, hi0, rwn]
theorem c_0 (r : Fin 384) : rl (k0_pay58 (F := Ideal) x5 x0 x9 x8) r = hrow (cB x0 x5 x8 x9 r) 0 := by
  funext k; show k0_pay58 (F := Ideal) x5 x0 x9 x8 (ix2 r k) = _; pointwise [k0_pay58, pay57_at, hrow, hi0]
theorem o_1 (r : Fin 384) : rl (k0_pay16 (F := Ideal) x2) r = hrow (rwn x2 r) 1 := by
  funext k; show k0_pay16 (F := Ideal) x2 (ix2 r k) = _; pointwise [k0_pay16, hrow, hi1, rwn]
theorem z_1 (r : Fin 384) : rl (k0_pay15 (F := Ideal) x3) r = hrow (rwn x3 r) 1 := by
  funext k; show k0_pay15 (F := Ideal) x3 (ix2 r k) = _; pointwise [k0_pay15, hrow, hi1, rwn]
theorem c_1 (r : Fin 384) : rl (k0_pay59 (F := Ideal) x5 x0 x9 x8) r = hrow (cB x0 x5 x8 x9 r) 1 := by
  funext k; show k0_pay59 (F := Ideal) x5 x0 x9 x8 (ix2 r k) = _; pointwise [k0_pay59, pay57_at, hrow, hi1]
theorem o_2 (r : Fin 384) : rl (k0_pay27 (F := Ideal) x2) r = hrow (rwn x2 r) 2 := by
  funext k; show k0_pay27 (F := Ideal) x2 (ix2 r k) = _; pointwise [k0_pay27, hrow, hi2, rwn]
theorem z_2 (r : Fin 384) : rl (k0_pay26 (F := Ideal) x3) r = hrow (rwn x3 r) 2 := by
  funext k; show k0_pay26 (F := Ideal) x3 (ix2 r k) = _; pointwise [k0_pay26, hrow, hi2, rwn]
theorem c_2 (r : Fin 384) : rl (k0_pay60 (F := Ideal) x5 x0 x9 x8) r = hrow (cB x0 x5 x8 x9 r) 2 := by
  funext k; show k0_pay60 (F := Ideal) x5 x0 x9 x8 (ix2 r k) = _; pointwise [k0_pay60, pay57_at, hrow, hi2]
theorem o_3 (r : Fin 384) : rl (k0_pay38 (F := Ideal) x2) r = hrow (rwn x2 r) 3 := by
  funext k; show k0_pay38 (F := Ideal) x2 (ix2 r k) = _; pointwise [k0_pay38, hrow, hi3, rwn]
theorem z_3 (r : Fin 384) : rl (k0_pay37 (F := Ideal) x3) r = hrow (rwn x3 r) 3 := by
  funext k; show k0_pay37 (F := Ideal) x3 (ix2 r k) = _; pointwise [k0_pay37, hrow, hi3, rwn]
theorem c_3 (r : Fin 384) : rl (k0_pay61 (F := Ideal) x5 x0 x9 x8) r = hrow (cB x0 x5 x8 x9 r) 3 := by
  funext k; show k0_pay61 (F := Ideal) x5 x0 x9 x8 (ix2 r k) = _; pointwise [k0_pay61, pay57_at, hrow, hi3]

abbrev wB : Lane := wr x6

theorem v257_row (r : Fin 384) : (fun d : Fin 512 => v257 ⟨x0, x1, x2, x3, x4, x5, x6, x7, x8, x9⟩ (ix2 r d)) = rdo (rwn x2 r) (rwn x3 r) (wB x6) (cB x0 x5 x8 x9 r) := by
  rw [v257_eq]
  refine four _ _ _ _ _ r _ (asm_at _ _ _ _ r) ?_ ?_ ?_ ?_
  · intro k; rw [doV_at, o_0, z_0, c_0, rdo_hi]
  · intro k; rw [doV_at, o_1, z_1, c_1, rdo_hi]
  · intro k; rw [doV_at, o_2, z_2, c_2, rdo_hi]
  · intro k; rw [doV_at, o_3, z_3, c_3, rdo_hi]

theorem v260_row (r : Fin 384) : (fun d : Fin 512 => v260 ⟨x0, x1, x2, x3, x4, x5, x6, x7, x8, x9⟩ (ix2 r d)) = rdz (rwn x2 r) (rwn x3 r) (wB x6) (cB x0 x5 x8 x9 r) := by
  rw [v260_eq]
  refine four _ _ _ _ _ r _ (asm_at _ _ _ _ r) ?_ ?_ ?_ ?_
  · intro k; rw [dzV_at, o_0, z_0, c_0, rdz_hi]
  · intro k; rw [dzV_at, o_1, z_1, c_1, rdz_hi]
  · intro k; rw [dzV_at, o_2, z_2, c_2, rdz_hi]
  · intro k; rw [dzV_at, o_3, z_3, c_3, rdz_hi]

theorem v101_row (r : Fin 384) : (fun d : Fin 512 => v101 ⟨x0, x1, x2, x3, x4, x5, x6, x7, x8, x9⟩ (ix2 r d)) = og (rwn x2 r) (rwn x3 r) (wB x6) := by
  rw [v101_eq]
  refine four (catV _ _ _ _) _ _ _ _ r _ (catV_at _ _ _ _ r) ?_ ?_ ?_ ?_
  · intro k; rw [ogV_at, o_0, z_0, og_hi]
  · intro k; rw [ogV_at, o_1, z_1, og_hi]
  · intro k; rw [ogV_at, o_2, z_2, og_hi]
  · intro k; rw [ogV_at, o_3, z_3, og_hi]

theorem v237_at (k : Fin 128) : v237 ⟨x0, x1, x2, x3, x4, x5, x6, x7, x8, x9⟩ (ix2 0 k) = ∑ r : Fin 384, wd (rwn x2 r) (rwn x3 r) (cB x0 x5 x8 x9 r) k := by
  rw [v237_eq]
  show dwV _ _ _ (ix2 0 k) + dwV _ _ _ (ix2 0 k) + dwV _ _ _ (ix2 0 k) + dwV _ _ _ (ix2 0 k) = _
  rw [dwV_at, dwV_at, dwV_at, dwV_at, ← Finset.sum_add_distrib, ← Finset.sum_add_distrib, ← Finset.sum_add_distrib]
  refine Finset.sum_congr rfl fun r _ => ?_
  rw [o_0, o_1, o_2, o_3, z_0, z_1, z_2, z_3, c_0, c_1, c_2, c_3]
  rfl

theorem v113_at (r : Fin 384) (d : Fin 1024) : v113 ⟨x0, x1, x2, x3, x4, x5, x6, x7, x8, x9⟩ (ix2 r d) = yB x0 x9 r d := by
  exact pay54_at x0 x9 r d

theorem v115_at (r : Fin 384) (d : Fin 1024) : v115 ⟨x0, x1, x2, x3, x4, x5, x6, x7, x8, x9⟩ (ix2 r d) = dp (yB x0 x9 r) (rwn x4 r) d := by
  exact pay55_at x0 x4 x9 r d

theorem v117_at (r : Fin 384) (d : Fin 1024) : v117 ⟨x0, x1, x2, x3, x4, x5, x6, x7, x8, x9⟩ (ix2 r d) = dp (yB x0 x9 r) (rwn x5 r) d := by
  exact pay56_at x0 x5 x9 r d

theorem v107_at (r : Fin 384) (d : Fin 1024) : v107 ⟨x0, x1, x2, x3, x4, x5, x6, x7, x8, x9⟩ (ix2 r d) = sg (rwn x4 r d) := by
  exact pay51_at x4 r d

theorem v109_at (r : Fin 384) (d : Fin 1024) : v109 ⟨x0, x1, x2, x3, x4, x5, x6, x7, x8, x9⟩ (ix2 r d) = sg (rwn x5 r d) := by
  exact pay52_at x5 r d

theorem v4_at (r : Fin 384) (d : Fin 1024) : v4 ⟨x0, x1, x2, x3, x4, x5, x6, x7, x8, x9⟩ (ix2 r d) = rwn x1 r d := by
  show k0_pay3 (F := Ideal) x1 (ix2 r d) = _
  pointwise [k0_pay3, rwn]

theorem v111_at (r : Fin 384) (d : Fin 1024) : v111 ⟨x0, x1, x2, x3, x4, x5, x6, x7, x8, x9⟩ (ix2 r d) = rwn x0 r d := by
  show k0_pay53 (F := Ideal) x0 (ix2 r d) = _
  pointwise [k0_pay53, rwn]

theorem v103_at (r : Fin 384) (d : Fin 1024) : v103 ⟨x0, x1, x2, x3, x4, x5, x6, x7, x8, x9⟩ (ix2 r d) = lin (rwn x1 r) (mat x7) d := by
  show k0_pay49 (F := Ideal) (v4 ⟨x0, x1, x2, x3, x4, x5, x6, x7, x8, x9⟩) x7 (ix2 r d) = _
  pointwise [k0_pay49, v4_at, lin, mat]

theorem mm (A : FVec Ideal S384x512 .bf16) (W : FVec Ideal S512x1024 .bf16) (r : Fin 384) (d : Fin 1024) :
    matmul dot_S384x512_S512x1024_S384x1024_1_0_0_1_n_n none A W (constant (F := Ideal) S384x1024 .f32 0x00000000#32) (ix2 r d) = ∑ j : Fin 512, A (ix2 r j) * W (ix2 j d) := by
  pointwise []

theorem v105_at (r : Fin 384) (d : Fin 1024) : v105 ⟨x0, x1, x2, x3, x4, x5, x6, x7, x8, x9⟩ (ix2 r d) = lin (og (rwn x2 r) (rwn x3 r) (wB x6)) (mat x8) d := by
  have e : v105 ⟨x0, x1, x2, x3, x4, x5, x6, x7, x8, x9⟩ = matmul dot_S384x512_S512x1024_S384x1024_1_0_0_1_n_n none (v101 ⟨x0, x1, x2, x3, x4, x5, x6, x7, x8, x9⟩) x8 (constant (F := Ideal) S384x1024 .f32 0x00000000#32) := rfl
  rw [e, mm]
  exact Finset.sum_congr rfl fun j _ => congrArg (· * _) (congrFun (v101_row x0 x1 x2 x3 x4 x5 x6 x7 x8 x9 r) j)

theorem v588_at (r : Fin 384) (d : Fin 1024) : v588 ⟨x0, x1, x2, x3, x4, x5, x6, x7, x8, x9⟩ (ix2 r d) = yr (lin (rwn x1 r) (mat x7)) (lin (og (rwn x2 r) (rwn x3 r) (wB x6)) (mat x8)) (rwn x4 r) (rwn x5 r) d := by
  have e : v588 ⟨x0, x1, x2, x3, x4, x5, x6, x7, x8, x9⟩ (ix2 r d) = v107 ⟨x0, x1, x2, x3, x4, x5, x6, x7, x8, x9⟩ (ix2 r d) * v103 ⟨x0, x1, x2, x3, x4, x5, x6, x7, x8, x9⟩ (ix2 r d) + v109 ⟨x0, x1, x2, x3, x4, x5, x6, x7, x8, x9⟩ (ix2 r d) * v105 ⟨x0, x1, x2, x3, x4, x5, x6, x7, x8, x9⟩ (ix2 r d) := rfl
  rw [e, v107_at, v103_at, v109_at, v105_at]
  rfl

theorem v262_at (r : Fin 384) (d : Fin 1024) : v262 ⟨x0, x1, x2, x3, x4, x5, x6, x7, x8, x9⟩ (ix2 r d) = pB x0 x4 x7 x9 r d := by
  show k0_pay84 (F := Ideal) (v115 ⟨x0, x1, x2, x3, x4, x5, x6, x7, x8, x9⟩) x7 (ix2 r d) = _
  pointwise [k0_pay84, v115_at, linT, mat]

theorem p123_row (r : Fin 384) (d : Fin 512) : k0_pay123 (F := Ideal) (v260 ⟨x0, x1, x2, x3, x4, x5, x6, x7, x8, x9⟩) (ix2 r d) = rdz (rwn x2 r) (rwn x3 r) (wB x6) (cB x0 x5 x8 x9 r) d := by
  exact congrFun (v260_row x0 x1 x2 x3 x4 x5 x6 x7 x8 x9 r) d
theorem p124_at (r : Fin 384) (d : Fin 1024) : k0_pay124 (F := Ideal) (v103 ⟨x0, x1, x2, x3, x4, x5, x6, x7, x8, x9⟩) (v107 ⟨x0, x1, x2, x3, x4, x5, x6, x7, x8, x9⟩) (v113 ⟨x0, x1, x2, x3, x4, x5, x6, x7, x8, x9⟩) (ix2 r d) = dg (yB x0 x9 r) (lin (rwn x1 r) (mat x7)) (rwn x4 r) d := by
  pointwise [k0_pay124, v103_at, v107_at, v113_at, dg, c1]
theorem p125_at (r : Fin 384) (d : Fin 1024) : k0_pay125 (F := Ideal) (v105 ⟨x0, x1, x2, x3, x4, x5, x6, x7, x8, x9⟩) (v109 ⟨x0, x1, x2, x3, x4, x5, x6, x7, x8, x9⟩) (v113 ⟨x0, x1, x2, x3, x4, x5, x6, x7, x8, x9⟩) (ix2 r d) = dg (yB x0 x9 r) (lin (og (rwn x2 r) (rwn x3 r) (wB x6)) (mat x8)) (rwn x5 r) d := by
  pointwise [k0_pay125, v105_at, v109_at, v113_at, dg, c1]

theorem h0_at (r : Fin 384) (k : Fin 128) (n1 : delta (jrow (pB x0 x4 x7 x9 r) 0) (jrow (rwn x1 r) 0) ≠ ⊤) (n2 : delta (jrow (pB x0 x4 x7 x9 r) 0) (jrow (rwn x1 r) 0) ≠ ⊥) :
    h0 ⟨x0, x1, x2, x3, x4, x5, x6, x7, x8, x9⟩ (ix2 r k) = cor (jrow (pB x0 x4 x7 x9 r) 0) (jrow (rwn x1 r) 0) k := by
  have ea : rl (extractStridedSlice S384x128 ![0, 0] (v262 ⟨x0, x1, x2, x3, x4, x5, x6, x7, x8, x9⟩ : FVec Ideal S384x1024 .f32) slices_S384x1024_o0_0_S384x128) r = jrow (pB x0 x4 x7 x9 r) 0 := by
    funext k
    show extractStridedSlice S384x128 _ _ _ (ix2 r k) = _
    pointwise [v262_at, jrow, hj]
  have eb : rl (extractStridedSlice S384x128 ![0, 0] (x1 : FVec Ideal S384x1024 .f32) slices_S384x1024_o0_0_S384x128) r = jrow (rwn x1 r) 0 := by
    funext k
    show extractStridedSlice S384x128 _ _ _ (ix2 r k) = _
    pointwise [jrow, hj, rwn]
  rw [h0_eq, corV_at _ _ r k (by rw [ea, eb]; exact n1) (by rw [ea, eb]; exact n2), ea, eb]

theorem h1_at (r : Fin 384) (k : Fin 128) (n1 : delta (jrow (pB x0 x4 x7 x9 r) 1) (jrow (rwn x1 r) 1) ≠ ⊤) (n2 : delta (jrow (pB x0 x4 x7 x9 r) 1) (jrow (rwn x1 r) 1) ≠ ⊥) :
    h1 ⟨x0, x1, x2, x3, x4, x5, x6, x7, x8, x9⟩ (ix2 r k) = cor (jrow (pB x0 x4 x7 x9 r) 1) (jrow (rwn x1 r) 1) k := by
  have ea : rl (extractStridedSlice S384x128 ![0, 128] (v262 ⟨x0, x1, x2, x3, x4, x5, x6, x7, x8, x9⟩ : FVec Ideal S384x1024 .f32) slices_S384x1024_o0_128_S384x128) r = jrow (pB x0 x4 x7 x9 r) 1 := by
    funext k
    show extractStridedSlice S384x128 _ _ _ (ix2 r k) = _
    pointwise [v262_at, jrow, hj]
  have eb : rl (extractStridedSlice S384x128 ![0, 128] (x1 : FVec Ideal S384x1024 .f32) slices_S384x1024_o0_128_S384x128) r = jrow (rwn x1 r) 1 := by
    funext k
    show extractStridedSlice S384x128 _ _ _ (ix2 r k) = _
    pointwise [jrow, hj, rwn]
  rw [h1_eq, corV_at _ _ r k (by rw [ea, eb]; exact n1) (by rw [ea, eb]; exact n2), ea, eb]

theorem h2_at (r : Fin 384) (k : Fin 128) (n1 : delta (jrow (pB x0 x4 x7 x9 r) 2) (jrow (rwn x1 r) 2) ≠ ⊤) (n2 : delta (jrow (pB x0 x4 x7 x9 r) 2) (jrow (rwn x1 r) 2) ≠ ⊥) :
    h2 ⟨x0, x1, x2, x3, x4, x5, x6, x7, x8, x9⟩ (ix2 r k) = cor (jrow (pB x0 x4 x7 x9 r) 2) (jrow (rwn x1 r) 2) k := by
  have ea : rl (extractStridedSlice S384x128 ![0, 256] (v262 ⟨x0, x1, x2, x3, x4, x5, x6, x7, x8, x9⟩ : FVec Ideal S384x1024 .f32) slices_S384x1024_o0_256_S384x128) r = jrow (pB x0 x4 x7 x9 r) 2 := by
    funext k
    show extractStridedSlice S384x128 _ _ _ (ix2 r k) = _
    pointwise [v262_at, jrow, hj]
  have eb : rl (extractStridedSlice S384x128 ![0, 256] (x1 : FVec Ideal S384x1024 .f32) slices_S384x1024_o0_256_S384x128) r = jrow (rwn x1 r) 2 := by
    funext k
    show extractStridedSlice S384x128 _ _ _ (ix2 r k) = _
    pointwise [jrow, hj, rwn]
  rw [h2_eq, corV_at _ _ r k (by rw [ea, eb]; exact n1) (by rw [ea, eb]; exact n2), ea, eb]

theorem h3_at (r : Fin 384) (k : Fin 128) (n1 : delta (jrow (pB x0 x4 x7 x9 r) 3) (jrow (rwn x1 r) 3) ≠ ⊤) (n2 : delta (jrow (pB x0 x4 x7 x9 r) 3) (jrow (rwn x1 r) 3) ≠ ⊥) :
    h3 ⟨x0, x1, x2, x3, x4, x5, x6, x7, x8, x9⟩ (ix2 r k) = cor (jrow (pB x0 x4 x7 x9 r) 3) (jrow (rwn x1 r) 3) k := by
  have ea : rl (extractStridedSlice S384x128 ![0, 384] (v262 ⟨x0, x1, x2, x3, x4, x5, x6, x7, x8, x9⟩ : FVec Ideal S384x1024 .f32) slices_S384x1024_o0_384_S384x128) r = jrow (pB x0 x4 x7 x9 r) 3 := by
    funext k
    show extractStridedSlice S384x128 _ _ _ (ix2 r k) = _
    pointwise [v262_at, jrow, hj]
  have eb : rl (extractStridedSlice S384x128 ![0, 384] (x1 : FVec Ideal S384x1024 .f32) slices_S384x1024_o0_384_S384x128) r = jrow (rwn x1 r) 3 := by
    funext k
    show extractStridedSlice S384x128 _ _ _ (ix2 r k) = _
    pointwise [jrow, hj, rwn]
  rw [h3_eq, corV_at _ _ r k (by rw [ea, eb]; exact n1) (by rw [ea, eb]; exact n2), ea, eb]

theorem h4_at (r : Fin 384) (k : Fin 128) (n1 : delta (jrow (pB x0 x4 x7 x9 r) 4) (jrow (rwn x1 r) 4) ≠ ⊤) (n2 : delta (jrow (pB x0 x4 x7 x9 r) 4) (jrow (rwn x1 r) 4) ≠ ⊥) :
    h4 ⟨x0, x1, x2, x3, x4, x5, x6, x7, x8, x9⟩ (ix2 r k) = cor (jrow (pB x0 x4 x7 x9 r) 4) (jrow (rwn x1 r) 4) k := by
  have ea : rl (extractStridedSlice S384x128 ![0, 512] (v262 ⟨x0, x1, x2, x3, x4, x5, x6, x7, x8, x9⟩ : FVec Ideal S384x1024 .f32) slices_S384x1024_o0_512_S384x128) r = jrow (pB x0 x4 x7 x9 r) 4 := by
    funext k
    show extractStridedSlice S384x128 _ _ _ (ix2 r k) = _
    pointwise [v262_at, jrow, hj]
  have eb : rl (extractStridedSlice S384x128 ![0, 512] (x1 : FVec Ideal S384x1024 .f32) slices_S384x1024_o0_512_S384x128) r = jrow (rwn x1 r) 4 := by
    funext k
    show extractStridedSlice S384x128 _ _ _ (ix2 r k) = _
    pointwise [jrow, hj, rwn]
  rw [h4_eq, corV_at _ _ r k (by rw [ea, eb]; exact n1) (by rw [ea, eb]; exact n2), ea, eb]

theorem h5_at (r : Fin 384) (k : Fin 128) (n1 : delta (jrow (pB x0 x4 x7 x9 r) 5) (jrow (rwn x1 r) 5) ≠ ⊤) (n2 : delta (jrow (pB x0 x4 x7 x9 r) 5) (jrow (rwn x1 r) 5) ≠ ⊥) :
    h5 ⟨x0, x1, x2, x3, x4, x5, x6, x7, x8, x9⟩ (ix2 r k) = cor (jrow (pB x0 x4 x7 x9 r) 5) (jrow (rwn x1 r) 5) k := by
  have ea : rl (extractStridedSlice S384x128 ![0, 640] (v262 ⟨x0, x1, x2, x3, x4, x5, x6, x7, x8, x9⟩ : FVec Ideal S384x1024 .f32) slices_S384x1024_o0_640_S384x128) r = jrow (pB x0 x4 x7 x9 r) 5 := by
    funext k
    show extractStridedSlice S384x128 _ _ _ (ix2 r k) = _
    pointwise [v262_at, jrow, hj]
  have eb : rl (extractStridedSlice S384x128 ![0, 640] (x1 : FVec Ideal S384x1024 .f32) slices_S384x1024_o0_640_S384x128) r = jrow (rwn x1 r) 5 := by
    funext k
    show extractStridedSlice S384x128 _ _ _ (ix2 r k) = _
    pointwise [jrow, hj, rwn]
  rw [h5_eq, corV_at _ _ r k (by rw [ea, eb]; exact n1) (by rw [ea, eb]; exact n2), ea, eb]

theorem h6_at (r : Fin 384) (k : Fin 128) (n1 : delta (jrow (pB x0 x4 x7 x9 r) 6) (jrow (rwn x1 r) 6) ≠ ⊤) (n2 : delta (jrow (pB x0 x4 x7 x9 r) 6) (jrow (rwn x1 r) 6) ≠ ⊥) :
    h6 ⟨x0, x1, x2, x3, x4, x5, x6, x7, x8, x9⟩ (ix2 r k) = cor (jrow (pB x0 x4 x7 x9 r) 6) (jrow (rwn x1 r) 6) k := by
  have ea : rl (extractStridedSlice S384x128 ![0, 768] (v262 ⟨x0, x1, x2, x3, x4, x5, x6, x7, x8, x9⟩ : FVec Ideal S384x1024 .f32) slices_S384x1024_o0_768_S384x128) r = jrow (pB x0 x4 x7 x9 r) 6 := by
    funext k
    show extractStridedSlice S384x128 _ _ _ (ix2 r k) = _
    pointwise [v262_at, jrow, hj]
  have eb : rl (extractStridedSlice S384x128 ![0, 768] (x1 : FVec Ideal S384x1024 .f32) slices_S384x1024_o0_768_S384x128) r = jrow (rwn x1 r) 6 := by
    funext k
    show extractStridedSlice S384x128 _ _ _ (ix2 r k) = _
    pointwise [jrow, hj, rwn]
  rw [h6_eq, corV_at _ _ r k (by rw [ea, eb]; exact n1) (by rw [ea, eb]; exact n2), ea, eb]

theorem h7_at (r : Fin 384) (k : Fin 128) (n1 : delta (jrow (pB x0 x4 x7 x9 r) 7) (jrow (rwn x1 r) 7) ≠ ⊤) (n2 : delta (jrow (pB x0 x4 x7 x9 r) 7) (jrow (rwn x1 r) 7) ≠ ⊥) :
    h7 ⟨x0, x1, x2, x3, x4, x5, x6, x7, x8, x9⟩ (ix2 r k) = cor (jrow (pB x0 x4 x7 x9 r) 7) (jrow (rwn x1 r) 7) k := by
  have ea : rl (extractStridedSlice S384x128 ![0, 896] (v262 ⟨x0, x1, x2, x3, x4, x5, x6, x7, x8, x9⟩ : FVec Ideal S384x1024 .f32) slices_S384x1024_o0_896_S384x128) r = jrow (pB x0 x4 x7 x9 r) 7 := by
    funext k
    show extractStridedSlice S384x128 _ _ _ (ix2 r k) = _
    pointwise [v262_at, jrow, hj]
  have eb : rl (extractStridedSlice S384x128 ![0, 896] (x1 : FVec Ideal S384x1024 .f32) slices_S384x1024_o0_896_S384x128) r = jrow (rwn x1 r) 7 := by
    funext k
    show extractStridedSlice S384x128 _ _ _ (ix2 r k) = _
    pointwise [jrow, hj, rwn]
  rw [h7_eq, corV_at _ _ r k (by rw [ea, eb]; exact n1) (by rw [ea, eb]; exact n2), ea, eb]

end Cert.Mix.Bwd

end
-- ==== Proof.MixBwd.lean ====
/- The mixer's backward kernel: what each of its outputs holds at the end. -/
module

public import proofs.«01_k».proof.Proof.MixBwdSweep
public import proofs.«01_k».proof.Proof.MixBwdBlock
public import Idealize.ShloMosaic.Lib.Pointwise

@[expose] public section

set_option maxRecDepth 16384

noncomputable section

namespace Cert.Mix.Bwd

open Idealize.ShloMosaic Idealize.ShloMosaic.TcCoe Idealize.ShloMosaic.ValueKit
open Cert.Kernel9Ideal Cert.Kernel9Ideal.Gen

variable (m : (ℓ : Loc nD τ sig) → Buf (Elt Ideal) ℓ) (c : Dev nD)

abbrev A0 : Vec Ideal S4224x1024 .f32 := m ((c : Thread nD τ).loc main_arg0)
abbrev A1 : Vec Ideal S4224x1024 .f32 := m ((c : Thread nD τ).loc main_arg1)
abbrev A2 : Vec Ideal S4224x512 .f32 := m ((c : Thread nD τ).loc main_arg2)
abbrev A3 : Vec Ideal S4224x512 .f32 := m ((c : Thread nD τ).loc main_arg3)
abbrev A4 : Vec Ideal S4224x1024 .f32 := m ((c : Thread nD τ).loc main_arg4)
abbrev A5 : Vec Ideal S4224x1024 .f32 := m ((c : Thread nD τ).loc main_arg5)
abbrev A6 : Vec Ideal S1x128 .f32 := m ((c : Thread nD τ).loc main_arg6)
abbrev A7 : Vec Ideal S1024x1024 .bf16 := m ((c : Thread nD τ).loc main_arg7)
abbrev A8 : Vec Ideal S512x1024 .bf16 := m ((c : Thread nD τ).loc main_arg8)
abbrev A9 : Vec Ideal S1024x1024 .bf16 := m ((c : Thread nD τ).loc main_arg9)
/-- The cotangents of the heads of the two branches. -/
abbrev ca := cA (A0 m c) (A1 m c) (A2 m c) (A3 m c) (A4 m c) (A5 m c) (A6 m c) (A7 m c) (A8 m c) (A9 m c)
abbrev pa := pA (A0 m c) (A1 m c) (A2 m c) (A3 m c) (A4 m c) (A5 m c) (A6 m c) (A7 m c) (A8 m c) (A9 m c)
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![t.val, 0] := (by decide +kernel : ∀ t : Fin grid0.N, win0_15.index t = ![t.val, 0])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0] := (by decide +kernel : ∀ t : Fin grid0.N, win0_17.index t = ![t.val, 0])
theorem idx18 : ∀ t : Fin cfg0.N, win0_18.index t = ![t.val, 0] := (by decide +kernel : ∀ t : Fin grid0.N, win0_18.index t = ![t.val, 0])
theorem idx19 : ∀ t : Fin cfg0.N, win0_19.index t = ![0, 0] := (by decide +kernel : ∀ t : Fin grid0.N, win0_19.index t = ![0, 0])

/-- Row `r` of point `t`. -/
abbrev ri (t : Fin cfg0.N) (r : Fin 384) : Fin 4224 := ⟨384 * t.val + r.val, by have := lt_of_lt_of_eq t.isLt N_0; omega⟩

theorem x0_at (t : Fin cfg0.N) (r : Fin 384) : rwn (iblk m c 0 t : Vec Ideal S384x1024 .f32) r = rwn (A0 m c) (ri t r) := by
  funext d; show iblk m c 0 t (ix2 r d) = m ((c : Thread nD τ).loc main_arg0) (ix2 (ri t r) d); blk_ext! [iblk, V, idx0 t]
theorem x1_at (t : Fin cfg0.N) (r : Fin 384) : rwn (iblk m c 1 t : Vec Ideal S384x1024 .f32) r = rwn (A1 m c) (ri t r) := by
  funext d; show iblk m c 1 t (ix2 r d) = m ((c : Thread nD τ).loc main_arg1) (ix2 (ri t r) d); blk_ext! [iblk, V, idx1 t]
theorem x2_at (t : Fin cfg0.N) (r : Fin 384) : rwn (iblk m c 2 t : Vec Ideal S384x512 .f32) r = rwn (A2 m c) (ri t r) := by
  funext d; show iblk m c 2 t (ix2 r d) = m ((c : Thread nD τ).loc main_arg2) (ix2 (ri t r) d); blk_ext! [iblk, V, idx2 t]
theorem x3_at (t : Fin cfg0.N) (r : Fin 384) : rwn (iblk m c 3 t : Vec Ideal S384x512 .f32) r = rwn (A3 m c) (ri t r) := by
  funext d; show iblk m c 3 t (ix2 r d) = m ((c : Thread nD τ).loc main_arg3) (ix2 (ri t r) d); blk_ext! [iblk, V, idx3 t]
theorem x4_at (t : Fin cfg0.N) (r : Fin 384) : rwn (iblk m c 4 t : Vec Ideal S384x1024 .f32) r = rwn (A4 m c) (ri t r) := by
  funext d; show iblk m c 4 t (ix2 r d) = m ((c : Thread nD τ).loc main_arg4) (ix2 (ri t r) d); blk_ext! [iblk, V, idx4 t]
theorem x5_at (t : Fin cfg0.N) (r : Fin 384) : rwn (iblk m c 5 t : Vec Ideal S384x1024 .f32) r = rwn (A5 m c) (ri t r) := by
  funext d; show iblk m c 5 t (ix2 r d) = m ((c : Thread nD τ).loc main_arg5) (ix2 (ri t r) d); blk_ext! [iblk, V, idx5 t]
theorem x6_at (t : Fin cfg0.N) : wr (iblk m c 6 t : Vec Ideal S1x128 .f32) = wr (A6 m c) := by
  funext d; show iblk m c 6 t (ix2 0 d) = m ((c : Thread nD τ).loc main_arg6) (ix2 0 d); blk_ext! [iblk, V, idx6 t]
theorem x7_at (t : Fin cfg0.N) : mat (iblk m c 7 t : Vec Ideal S1024x1024 .bf16) = mat (A7 m c) := by
  funext i d; show iblk m c 7 t (ix2 i d) = m ((c : Thread nD τ).loc main_arg7) (ix2 i d); blk_ext! [iblk, V, idx7 t]
theorem x8_at (t : Fin cfg0.N) : mat (iblk m c 8 t : Vec Ideal S512x1024 .bf16) = mat (A8 m c) := by
  funext i d; show iblk m c 8 t (ix2 i d) = m ((c : Thread nD τ).loc main_arg8) (ix2 i d); blk_ext! [iblk, V, idx8 t]
theorem x9_at (t : Fin cfg0.N) : mat (iblk m c 9 t : Vec Ideal S1024x1024 .bf16) = mat (A9 m c) := by
  funext i d; show iblk m c 9 t (ix2 i d) = m ((c : Thread nD τ).loc main_arg9) (ix2 i d); blk_ext! [iblk, V, idx9 t]

theorem yB_eq (t : Fin cfg0.N) (r : Fin 384) : yB (iblk m c 0 t) (iblk m c 9 t) r = dy (rwn (A0 m c) (ri t r)) (mat (A9 m c)) := by
  show dy (rwn (iblk m c 0 t : Vec Ideal S384x1024 .f32) r) (mat (iblk m c 9 t : Vec Ideal S1024x1024 .bf16)) = _
  rw [x0_at, x9_at]
theorem cB_eq (t : Fin cfg0.N) (r : Fin 384) : cB (iblk m c 0 t) (iblk m c 5 t) (iblk m c 8 t) (iblk m c 9 t) r = ca m c (ri t r) := by
  show linT (dp (yB (iblk m c 0 t) (iblk m c 9 t) r) (rwn (iblk m c 5 t : Vec Ideal S384x1024 .f32) r)) (mat (iblk m c 8 t : Vec Ideal S512x1024 .bf16)) = _
  rw [yB_eq, x5_at, x8_at]
  rfl
theorem pB_eq (t : Fin cfg0.N) (r : Fin 384) : pB (iblk m c 0 t) (iblk m c 4 t) (iblk m c 7 t) (iblk m c 9 t) r = pa m c (ri t r) := by
  show linT (dp (yB (iblk m c 0 t) (iblk m c 9 t) r) (rwn (iblk m c 4 t : Vec Ideal S384x1024 .f32) r)) (mat (iblk m c 7 t : Vec Ideal S1024x1024 .bf16)) = _
  rw [yB_eq, x4_at, x7_at]
  rfl

theorem hk0 (t : Fin cfg0.N) (r : Fin 384) (k : Fin 128) (fin : ∀ (i : Fin 4224) (g : Fin 8), delta (jrow (pa m c i) g) (jrow (rwn (A1 m c) i) g) ≠ ⊤ ∧ delta (jrow (pa m c i) g) (jrow (rwn (A1 m c) i) g) ≠ ⊥) :
    h0 (ins m c t) (ix2 r k) = cor (jrow (pa m c (ri t r)) 0) (jrow (rwn (A1 m c) (ri t r)) 0) k := by
  refine (h0_at _ _ _ _ _ _ _ _ _ _ r k ?_ ?_).trans ?_ <;> rw [pB_eq, x1_at]
  · exact (fin _ 0).1
  · exact (fin _ 0).2

theorem hk1 (t : Fin cfg0.N) (r : Fin 384) (k : Fin 128) (fin : ∀ (i : Fin 4224) (g : Fin 8), delta (jrow (pa m c i) g) (jrow (rwn (A1 m c) i) g) ≠ ⊤ ∧ delta (jrow (pa m c i) g) (jrow (rwn (A1 m c) i) g) ≠ ⊥) :
    h1 (ins m c t) (ix2 r k) = cor (jrow (pa m c (ri t r)) 1) (jrow (rwn (A1 m c) (ri t r)) 1) k := by
  refine (h1_at _ _ _ _ _ _ _ _ _ _ r k ?_ ?_).trans ?_ <;> rw [pB_eq, x1_at]
  · exact (fin _ 1).1
  · exact (fin _ 1).2

theorem hk2 (t : Fin cfg0.N) (r : Fin 384) (k : Fin 128) (fin : ∀ (i : Fin 4224) (g : Fin 8), delta (jrow (pa m c i) g) (jrow (rwn (A1 m c) i) g) ≠ ⊤ ∧ delta (jrow (pa m c i) g) (jrow (rwn (A1 m c) i) g) ≠ ⊥) :
    h2 (ins m c t) (ix2 r k) = cor (jrow (pa m c (ri t r)) 2) (jrow (rwn (A1 m c) (ri t r)) 2) k := by
  refine (h2_at _ _ _ _ _ _ _ _ _ _ r k ?_ ?_).trans ?_ <;> rw [pB_eq, x1_at]
  · exact (fin _ 2).1
  · exact (fin _ 2).2

theorem hk3 (t : Fin cfg0.N) (r : Fin 384) (k : Fin 128) (fin : ∀ (i : Fin 4224) (g : Fin 8), delta (jrow (pa m c i) g) (jrow (rwn (A1 m c) i) g) ≠ ⊤ ∧ delta (jrow (pa m c i) g) (jrow (rwn (A1 m c) i) g) ≠ ⊥) :
    h3 (ins m c t) (ix2 r k) = cor (jrow (pa m c (ri t r)) 3) (jrow (rwn (A1 m c) (ri t r)) 3) k := by
  refine (h3_at _ _ _ _ _ _ _ _ _ _ r k ?_ ?_).trans ?_ <;> rw [pB_eq, x1_at]
  · exact (fin _ 3).1
  · exact (fin _ 3).2

theorem hk4 (t : Fin cfg0.N) (r : Fin 384) (k : Fin 128) (fin : ∀ (i : Fin 4224) (g : Fin 8), delta (jrow (pa m c i) g) (jrow (rwn (A1 m c) i) g) ≠ ⊤ ∧ delta (jrow (pa m c i) g) (jrow (rwn (A1 m c) i) g) ≠ ⊥) :
    h4 (ins m c t) (ix2 r k) = cor (jrow (pa m c (ri t r)) 4) (jrow (rwn (A1 m c) (ri t r)) 4) k := by
  refine (h4_at _ _ _ _ _ _ _ _ _ _ r k ?_ ?_).trans ?_ <;> rw [pB_eq, x1_at]
  · exact (fin _ 4).1
  · exact (fin _ 4).2

theorem hk5 (t : Fin cfg0.N) (r : Fin 384) (k : Fin 128) (fin : ∀ (i : Fin 4224) (g : Fin 8), delta (jrow (pa m c i) g) (jrow (rwn (A1 m c) i) g) ≠ ⊤ ∧ delta (jrow (pa m c i) g) (jrow (rwn (A1 m c) i) g) ≠ ⊥) :
    h5 (ins m c t) (ix2 r k) = cor (jrow (pa m c (ri t r)) 5) (jrow (rwn (A1 m c) (ri t r)) 5) k := by
  refine (h5_at _ _ _ _ _ _ _ _ _ _ r k ?_ ?_).trans ?_ <;> rw [pB_eq, x1_at]
  · exact (fin _ 5).1
  · exact (fin _ 5).2

theorem hk6 (t : Fin cfg0.N) (r : Fin 384) (k : Fin 128) (fin : ∀ (i : Fin 4224) (g : Fin 8), delta (jrow (pa m c i) g) (jrow (rwn (A1 m c) i) g) ≠ ⊤ ∧ delta (jrow (pa m c i) g) (jrow (rwn (A1 m c) i) g) ≠ ⊥) :
    h6 (ins m c t) (ix2 r k) = cor (jrow (pa m c (ri t r)) 6) (jrow (rwn (A1 m c) (ri t r)) 6) k := by
  refine (h6_at _ _ _ _ _ _ _ _ _ _ r k ?_ ?_).trans ?_ <;> rw [pB_eq, x1_at]
  · exact (fin _ 6).1
  · exact (fin _ 6).2

theorem hk7 (t : Fin cfg0.N) (r : Fin 384) (k : Fin 128) (fin : ∀ (i : Fin 4224) (g : Fin 8), delta (jrow (pa m c i) g) (jrow (rwn (A1 m c) i) g) ≠ ⊤ ∧ delta (jrow (pa m c i) g) (jrow (rwn (A1 m c) i) g) ≠ ⊥) :
    h7 (ins m c t) (ix2 r k) = cor (jrow (pa m c (ri t r)) 7) (jrow (rwn (A1 m c) (ri t r)) 7) k := by
  refine (h7_at _ _ _ _ _ _ _ _ _ _ r k ?_ ?_).trans ?_ <;> rw [pB_eq, x1_at]
  · exact (fin _ 7).1
  · exact (fin _ 7).2

theorem at10 (fin : ∀ (i : Fin 4224) (g : Fin 8), delta (jrow (pa m c i) g) (jrow (rwn (A1 m c) i) g) ≠ ⊤ ∧ delta (jrow (pa m c i) g) (jrow (rwn (A1 m c) i) g) ≠ ⊥) (t : Fin cfg0.N) (r : Fin 384) (d : Fin 1024) : (outsAt0 m c t.val t.isLt).1 (ix2 r d) = r10 (A0 m c) (A1 m c) (A2 m c) (A3 m c) (A4 m c) (A5 m c) (A6 m c) (A7 m c) (A8 m c) (A9 m c) (ri t r) d := by
  rw [pt10, tiles_at]
  show _ = cor (jrow (pa m c (ri t r)) ⟨d.val / 128, by omega⟩) (jrow (rwn (A1 m c) (ri t r)) ⟨d.val / 128, by omega⟩) ⟨d.val % 128, Nat.mod_lt _ (by decide)⟩
  generalize (⟨d.val / 128, _⟩ : Fin 8) = g
  generalize (⟨d.val % 128, _⟩ : Fin 128) = k
  match g with
  | 0 => exact hk0 m c t r k fin
  | 1 => exact hk1 m c t r k fin
  | 2 => exact hk2 m c t r k fin
  | 3 => exact hk3 m c t r k fin
  | 4 => exact hk4 m c t r k fin
  | 5 => exact hk5 m c t r k fin
  | 6 => exact hk6 m c t r k fin
  | 7 => exact hk7 m c t r k fin

theorem at11 (t : Fin cfg0.N) (r : Fin 384) (d : Fin 512) : (outsAt0 m c t.val t.isLt).2.1 (ix2 r d) = r11 (A0 m c) (A1 m c) (A2 m c) (A3 m c) (A4 m c) (A5 m c) (A6 m c) (A7 m c) (A8 m c) (A9 m c) (ri t r) d := by
  rw [pt11]
  refine (congrFun (v257_row _ _ _ _ _ _ _ _ _ _ r) d).trans ?_
  rw [x2_at, x3_at, cB_eq]
  show rdo _ _ (wr (iblk m c 6 t : Vec Ideal S1x128 .f32)) _ _ = _
  rw [x6_at]
  rfl

theorem at12 (t : Fin cfg0.N) (r : Fin 384) (d : Fin 2560) : (outsAt0 m c t.val t.isLt).2.2.1 (ix2 r d) = r12 (A0 m c) (A1 m c) (A2 m c) (A3 m c) (A4 m c) (A5 m c) (A6 m c) (A7 m c) (A8 m c) (A9 m c) (ri t r) d := by
  rw [pt12]
  unfold r12
  split_ifs with h h1
  · rw [three_lo _ _ _ _ _ h]
    refine (p123_row _ _ _ _ _ _ _ _ _ _ r ⟨d.val, h⟩).trans ?_
    rw [x2_at, x3_at, cB_eq]
    show rdz _ _ (wr (iblk m c 6 t : Vec Ideal S1x128 .f32)) _ _ = _
    rw [x6_at]
  · rw [three_mid _ _ _ _ _ (by omega) (by omega)]
    refine (p124_at _ _ _ _ _ _ _ _ _ _ r ⟨d.val - 512, h1⟩).trans ?_
    rw [yB_eq, x1_at, x4_at, x7_at]
  · rw [three_hi _ _ _ _ _ (by omega)]
    refine (p125_at _ _ _ _ _ _ _ _ _ _ r _).trans ?_
    rw [yB_eq, x2_at, x3_at, x5_at, x8_at]
    show dg _ (lin (og _ _ (wr (iblk m c 6 t : Vec Ideal S1x128 .f32))) _) _ _ = _
    rw [x6_at]
    exact congrArg (dg _ _ _) (Fin.ext (by show d.val - 1536 = d.val - 512 - 1024; omega))

theorem at13 (t : Fin cfg0.N) (r : Fin 384) (d : Fin 1024) : (outsAt0 m c t.val t.isLt).2.2.2.1 (ix2 r d) = r13 (A0 m c) (A1 m c) (A2 m c) (A3 m c) (A4 m c) (A5 m c) (A6 m c) (A7 m c) (A8 m c) (A9 m c) (ri t r) d := by
  rw [pt13]
  refine (v4_at _ _ _ _ _ _ _ _ _ _ r d).trans ?_
  rw [x1_at]
  rfl

theorem at14 (t : Fin cfg0.N) (r : Fin 384) (d : Fin 512) : (outsAt0 m c t.val t.isLt).2.2.2.2.1 (ix2 r d) = r14 (A0 m c) (A1 m c) (A2 m c) (A3 m c) (A4 m c) (A5 m c) (A6 m c) (A7 m c) (A8 m c) (A9 m c) (ri t r) d := by
  rw [pt14]
  refine (congrFun (v101_row _ _ _ _ _ _ _ _ _ _ r) d).trans ?_
  rw [x2_at, x3_at]
  show og _ _ (wr (iblk m c 6 t : Vec Ideal S1x128 .f32)) _ = _
  rw [x6_at]
  rfl

theorem at15 (t : Fin cfg0.N) (r : Fin 384) (d : Fin 1024) : (outsAt0 m c t.val t.isLt).2.2.2.2.2.1 (ix2 r d) = r15 (A0 m c) (A1 m c) (A2 m c) (A3 m c) (A4 m c) (A5 m c) (A6 m c) (A7 m c) (A8 m c) (A9 m c) (ri t r) d := by
  rw [pt15]
  refine (v115_at _ _ _ _ _ _ _ _ _ _ r d).trans ?_
  rw [yB_eq, x4_at]
  rfl

theorem at16 (t : Fin cfg0.N) (r : Fin 384) (d : Fin 1024) : (outsAt0 m c t.val t.isLt).2.2.2.2.2.2.1 (ix2 r d) = r16 (A0 m c) (A1 m c) (A2 m c) (A3 m c) (A4 m c) (A5 m c) (A6 m c) (A7 m c) (A8 m c) (A9 m c) (ri t r) d := by
  rw [pt16]
  refine (v117_at _ _ _ _ _ _ _ _ _ _ r d).trans ?_
  rw [yB_eq, x5_at]
  rfl

theorem at17 (t : Fin cfg0.N) (r : Fin 384) (d : Fin 1024) : (outsAt0 m c t.val t.isLt).2.2.2.2.2.2.2.1 (ix2 r d) = r17 (A0 m c) (A1 m c) (A2 m c) (A3 m c) (A4 m c) (A5 m c) (A6 m c) (A7 m c) (A8 m c) (A9 m c) (ri t r) d := by
  rw [pt17]
  refine (v588_at _ _ _ _ _ _ _ _ _ _ r d).trans ?_
  rw [x1_at, x2_at, x3_at, x4_at, x5_at, x7_at, x8_at]
  show yr _ (lin (og _ _ (wr (iblk m c 6 t : Vec Ideal S1x128 .f32))) _) _ _ _ = _
  rw [x6_at]
  rfl

theorem at18 (t : Fin cfg0.N) (r : Fin 384) (d : Fin 1024) : (outsAt0 m c t.val t.isLt).2.2.2.2.2.2.2.2.1 (ix2 r d) = r18 (A0 m c) (A1 m c) (A2 m c) (A3 m c) (A4 m c) (A5 m c) (A6 m c) (A7 m c) (A8 m c) (A9 m c) (ri t r) d := by
  rw [pt18]
  refine (v111_at _ _ _ _ _ _ _ _ _ _ r d).trans ?_
  rw [x0_at]
  rfl

def arr10 : Vec Ideal S4224x1024 .bf16 := fun y => r10 (A0 m c) (A1 m c) (A2 m c) (A3 m c) (A4 m c) (A5 m c) (A6 m c) (A7 m c) (A8 m c) (A9 m c) (y 0) (y 1)
theorem final10 (fin : ∀ (i : Fin 4224) (g : Fin 8), delta (jrow (pa m c i) g) (jrow (rwn (A1 m c) i) g) ≠ ⊤ ∧ delta (jrow (pa m c i) g) (jrow (rwn (A1 m c) i) g) ≠ ⊥) : (dats m 0 c).arrAt 10 cfg0.N = arr10 m c := by
  refine (dats m 0 c).arrAt_eq_of_covers 10 _ (by decide +kernel) fun t hf y => ?_
  rw [after0_10]
  refine ((congrArg _ (eq_ix2 (n0 := 384) (n1 := 1024) y)).trans (at10 m c fin t (y 0) (y 1))).trans ?_
  refine congrArg₂ (r10 (A0 m c) (A1 m c) (A2 m c) (A3 m c) (A4 m c) (A5 m c) (A6 m c) (A7 m c) (A8 m c) (A9 m c)) (Fin.ext ?_) (Fin.ext ?_)
  · blk_simp [idx10 t]
    exact congrArg (· + (y 0).val) (Nat.mul_comm 384 t.val)
  · blk_simp [idx10 t]

def arr11 : Vec Ideal S4224x512 .f32 := fun y => r11 (A0 m c) (A1 m c) (A2 m c) (A3 m c) (A4 m c) (A5 m c) (A6 m c) (A7 m c) (A8 m c) (A9 m c) (y 0) (y 1)
theorem final11 : (dats m 0 c).arrAt 11 cfg0.N = arr11 m c := by
  refine (dats m 0 c).arrAt_eq_of_covers 11 _ (by decide +kernel) fun t hf y => ?_
  rw [after0_11]
  refine ((congrArg _ (eq_ix2 (n0 := 384) (n1 := 512) y)).trans (at11 m c t (y 0) (y 1))).trans ?_
  refine congrArg₂ (r11 (A0 m c) (A1 m c) (A2 m c) (A3 m c) (A4 m c) (A5 m c) (A6 m c) (A7 m c) (A8 m c) (A9 m c)) (Fin.ext ?_) (Fin.ext ?_)
  · blk_simp [idx11 t]
    exact congrArg (· + (y 0).val) (Nat.mul_comm 384 t.val)
  · blk_simp [idx11 t]

def arr12 : Vec Ideal S4224x2560 .bf16 := fun y => r12 (A0 m c) (A1 m c) (A2 m c) (A3 m c) (A4 m c) (A5 m c) (A6 m c) (A7 m c) (A8 m c) (A9 m c) (y 0) (y 1)
theorem final12 : (dats m 0 c).arrAt 12 cfg0.N = arr12 m c := by
  refine (dats m 0 c).arrAt_eq_of_covers 12 _ (by decide +kernel) fun t hf y => ?_
  rw [after0_12]
  refine ((congrArg _ (eq_ix2 (n0 := 384) (n1 := 2560) y)).trans (at12 m c t (y 0) (y 1))).trans ?_
  refine congrArg₂ (r12 (A0 m c) (A1 m c) (A2 m c) (A3 m c) (A4 m c) (A5 m c) (A6 m c) (A7 m c) (A8 m c) (A9 m c)) (Fin.ext ?_) (Fin.ext ?_)
  · blk_simp [idx12 t]
    exact congrArg (· + (y 0).val) (Nat.mul_comm 384 t.val)
  · blk_simp [idx12 t]

def arr13 : Vec Ideal S4224x1024 .bf16 := fun y => r13 (A0 m c) (A1 m c) (A2 m c) (A3 m c) (A4 m c) (A5 m c) (A6 m c) (A7 m c) (A8 m c) (A9 m c) (y 0) (y 1)
theorem final13 : (dats m 0 c).arrAt 13 cfg0.N = arr13 m c := by
  refine (dats m 0 c).arrAt_eq_of_covers 13 _ (by decide +kernel) fun t hf y => ?_
  rw [after0_13]
  refine ((congrArg _ (eq_ix2 (n0 := 384) (n1 := 1024) y)).trans (at13 m c t (y 0) (y 1))).trans ?_
  refine congrArg₂ (r13 (A0 m c) (A1 m c) (A2 m c) (A3 m c) (A4 m c) (A5 m c) (A6 m c) (A7 m c) (A8 m c) (A9 m c)) (Fin.ext ?_) (Fin.ext ?_)
  · blk_simp [idx13 t]
    exact congrArg (· + (y 0).val) (Nat.mul_comm 384 t.val)
  · blk_simp [idx13 t]

def arr14 : Vec Ideal S4224x512 .bf16 := fun y => r14 (A0 m c) (A1 m c) (A2 m c) (A3 m c) (A4 m c) (A5 m c) (A6 m c) (A7 m c) (A8 m c) (A9 m c) (y 0) (y 1)
theorem final14 : (dats m 0 c).arrAt 14 cfg0.N = arr14 m c := by
  refine (dats m 0 c).arrAt_eq_of_covers 14 _ (by decide +kernel) fun t hf y => ?_
  rw [after0_14]
  refine ((congrArg _ (eq_ix2 (n0 := 384) (n1 := 512) y)).trans (at14 m c t (y 0) (y 1))).trans ?_
  refine congrArg₂ (r14 (A0 m c) (A1 m c) (A2 m c) (A3 m c) (A4 m c) (A5 m c) (A6 m c) (A7 m c) (A8 m c) (A9 m c)) (Fin.ext ?_) (Fin.ext ?_)
  · blk_simp [idx14 t]
    exact congrArg (· + (y 0).val) (Nat.mul_comm 384 t.val)
  · blk_simp [idx14 t]

def arr15 : Vec Ideal S4224x1024 .bf16 := fun y => r15 (A0 m c) (A1 m c) (A2 m c) (A3 m c) (A4 m c) (A5 m c) (A6 m c) (A7 m c) (A8 m c) (A9 m c) (y 0) (y 1)
theorem final15 : (dats m 0 c).arrAt 15 cfg0.N = arr15 m c := by
  refine (dats m 0 c).arrAt_eq_of_covers 15 _ (by decide +kernel) fun t hf y => ?_
  rw [after0_15]
  refine ((congrArg _ (eq_ix2 (n0 := 384) (n1 := 1024) y)).trans (at15 m c t (y 0) (y 1))).trans ?_
  refine congrArg₂ (r15 (A0 m c) (A1 m c) (A2 m c) (A3 m c) (A4 m c) (A5 m c) (A6 m c) (A7 m c) (A8 m c) (A9 m c)) (Fin.ext ?_) (Fin.ext ?_)
  · blk_simp [idx15 t]
    exact congrArg (· + (y 0).val) (Nat.mul_comm 384 t.val)
  · blk_simp [idx15 t]

def arr16 : Vec Ideal S4224x1024 .bf16 := fun y => r16 (A0 m c) (A1 m c) (A2 m c) (A3 m c) (A4 m c) (A5 m c) (A6 m c) (A7 m c) (A8 m c) (A9 m c) (y 0) (y 1)
theorem final16 : (dats m 0 c).arrAt 16 cfg0.N = arr16 m c := by
  refine (dats m 0 c).arrAt_eq_of_covers 16 _ (by decide +kernel) fun t hf y => ?_
  rw [after0_16]
  refine ((congrArg _ (eq_ix2 (n0 := 384) (n1 := 1024) y)).trans (at16 m c t (y 0) (y 1))).trans ?_
  refine congrArg₂ (r16 (A0 m c) (A1 m c) (A2 m c) (A3 m c) (A4 m c) (A5 m c) (A6 m c) (A7 m c) (A8 m c) (A9 m c)) (Fin.ext ?_) (Fin.ext ?_)
  · blk_simp [idx16 t]
    exact congrArg (· + (y 0).val) (Nat.mul_comm 384 t.val)
  · blk_simp [idx16 t]

def arr17 : Vec Ideal S4224x1024 .bf16 := fun y => r17 (A0 m c) (A1 m c) (A2 m c) (A3 m c) (A4 m c) (A5 m c) (A6 m c) (A7 m c) (A8 m c) (A9 m c) (y 0) (y 1)
theorem final17 : (dats m 0 c).arrAt 17 cfg0.N = arr17 m c := by
  refine (dats m 0 c).arrAt_eq_of_covers 17 _ (by decide +kernel) fun t hf y => ?_
  rw [after0_17]
  refine ((congrArg _ (eq_ix2 (n0 := 384) (n1 := 1024) y)).trans (at17 m c t (y 0) (y 1))).trans ?_
  refine congrArg₂ (r17 (A0 m c) (A1 m c) (A2 m c) (A3 m c) (A4 m c) (A5 m c) (A6 m c) (A7 m c) (A8 m c) (A9 m c)) (Fin.ext ?_) (Fin.ext ?_)
  · blk_simp [idx17 t]
    exact congrArg (· + (y 0).val) (Nat.mul_comm 384 t.val)
  · blk_simp [idx17 t]

def arr18 : Vec Ideal S4224x1024 .bf16 := fun y => r18 (A0 m c) (A1 m c) (A2 m c) (A3 m c) (A4 m c) (A5 m c) (A6 m c) (A7 m c) (A8 m c) (A9 m c) (y 0) (y 1)
theorem final18 : (dats m 0 c).arrAt 18 cfg0.N = arr18 m c := by
  refine (dats m 0 c).arrAt_eq_of_covers 18 _ (by decide +kernel) fun t hf y => ?_
  rw [after0_18]
  refine ((congrArg _ (eq_ix2 (n0 := 384) (n1 := 1024) y)).trans (at18 m c t (y 0) (y 1))).trans ?_
  refine congrArg₂ (r18 (A0 m c) (A1 m c) (A2 m c) (A3 m c) (A4 m c) (A5 m c) (A6 m c) (A7 m c) (A8 m c) (A9 m c)) (Fin.ext ?_) (Fin.ext ?_)
  · blk_simp [idx18 t]
    exact congrArg (· + (y 0).val) (Nat.mul_comm 384 t.val)
  · blk_simp [idx18 t]

/-- The part of a sum over all rows that point `n` adds. -/
def cs (F : Fin 4224 → EReal) (n : ℕ) : EReal := ∑ r : Fin 384, F ⟨384 * (n % 11) + r.val, by have := Nat.mod_lt n (show 0 < 11 by decide); omega⟩

theorem cs_ri (F : Fin 4224 → EReal) (t : Fin cfg0.N) : ∑ r : Fin 384, F (ri t r) = cs F t.val :=
  Finset.sum_congr rfl fun r _ => congrArg F (Fin.ext (by
    show 384 * t.val + r.val = 384 * (t.val % 11) + r.val
    rw [Nat.mod_eq_of_lt (lt_of_lt_of_eq t.isLt N_0)]))

theorem cs_sum (F : Fin 4224 → EReal) : ∑ j ∈ Finset.range 11, cs F j = ∑ i, F i := by
  unfold cs
  rw [Finset.sum_range, ← Fintype.sum_prod_type']
  refine Fintype.sum_equiv (finProdFinEquiv (m := 11) (n := 384)) _ _ fun p => congrArg F (Fin.ext ?_)
  show 384 * (p.1.val % 11) + p.2.val = p.2.val + 384 * p.1.val
  rw [Nat.mod_eq_of_lt p.1.isLt, Nat.add_comm]

theorem pay1_at (w z : FVec Ideal S1x128 .f32) (d : Fin 128) : k0_pay1 (F := Ideal) w z (ix2 0 d) = z (ix2 0 d) + w (ix2 0 d) := by
  pointwise [k0_pay1]
theorem pay2_at (k : Fin 8) (d : Fin 128) : k0_pay2 (F := Ideal) (ix2 k d) = 0 := by
  pointwise [k0_pay2]
theorem ldA_at (Z : Vec Ideal S8x128 .f32) (d : Fin 128) : View.ld Z rA (ix2 0 d) = Z (ix2 0 d) := by
  show Z (rA.emb (ix2 0 d)) = _
  refine congrArg Z (funext fun a => Fin.ext ?_)
  match a with
  | ⟨0, _⟩ => rfl
  | ⟨1, _⟩ => show 0 + 1 * d.val = d.val; omega

/-- What point `n` adds to row `k` of the sums. -/
def add19 (k : Fin 8) (d : Fin 128) (n : ℕ) : EReal := if k.val = 0 then cs (fun i => wd (rwn (A2 m c) i) (rwn (A3 m c) i) (ca m c i) d) n else 0

theorem step19 (t : Fin cfg0.N) (Z : Vec Ideal S8x128 .f32) (k : Fin 8) (d : Fin 128) :
    accV Z (k0_pay1 (v237 (ins m c t)) (View.ld Z rA)) (ix2 k d) = Z (ix2 k d) + add19 m c k d t.val := by
  unfold add19
  by_cases h0 : k.val = 0
  · obtain rfl : k = 0 := Fin.ext h0
    rw [if_pos h0, ← cs_ri]
    show k0_pay1 (F := Ideal) (v237 (ins m c t)) (View.ld Z rA) (ix2 0 d) = _
    rw [pay1_at, ldA_at, v237_at]
    refine congrArg (_ + ·) (Finset.sum_congr rfl fun r _ => ?_)
    rw [x2_at, x3_at, cB_eq]
  · rw [if_neg h0, add_zero]
    exact if_neg h0

theorem acc19 (k : Fin 8) (d : Fin 128) : ∀ (n : ℕ) (hn : n < cfg0.N), (outsAt0 m c n hn).2.2.2.2.2.2.2.2.2 (ix2 k d) = ∑ j ∈ Finset.range (n + 1), add19 m c k d j
  | 0, hn => by
    rw [pt19_first m c hn ⟨0, hn⟩ rfl, step19, pay2_at, zero_add, Finset.sum_range_one]
  | n + 1, hn => by
    rw [pt19_next m c n hn ⟨n + 1, hn⟩ rfl, step19, acc19 k d n (Nat.lt_of_succ_lt hn), Finset.sum_range_succ _ (n + 1)]

theorem at19 (t : Fin cfg0.N) (ht : t.val = 10) (k : Fin 8) (d : Fin 128) : (outsAt0 m c t.val t.isLt).2.2.2.2.2.2.2.2.2 (ix2 k d) = r19 (A0 m c) (A1 m c) (A2 m c) (A3 m c) (A4 m c) (A5 m c) (A6 m c) (A7 m c) (A8 m c) (A9 m c) k d := by
  rw [acc19, ht]
  unfold add19 r19
  by_cases h0 : k.val = 0
  · simp only [if_pos h0]
    exact cs_sum _
  · simp only [if_neg h0]
    exact Finset.sum_const_zero

def arr19 : Vec Ideal S8x128 .f32 := fun y => r19 (A0 m c) (A1 m c) (A2 m c) (A3 m c) (A4 m c) (A5 m c) (A6 m c) (A7 m c) (A8 m c) (A9 m c) (y 0) (y 1)
theorem final19 : (dats m 0 c).arrAt 19 cfg0.N = arr19 m c := by
  refine (dats m 0 c).arrAt_eq_of_covers 19 _ (by decide +kernel) fun t hf y => ?_
  have h10 : t.val = 10 := (by decide +kernel : ∀ t : Fin cfg0.grid.N, (cfg0.win 19).flush t = true → t.val = 10) t hf
  rw [after0_19]
  refine ((congrArg _ (eq_ix2 (n0 := 8) (n1 := 128) y)).trans (at19 m c t h10 (y 0) (y 1))).trans ?_
  refine congrArg₂ (r19 (A0 m c) (A1 m c) (A2 m c) (A3 m c) (A4 m c) (A5 m c) (A6 m c) (A7 m c) (A8 m c) (A9 m c)) (Fin.ext ?_) (Fin.ext ?_)
  · blk_simp [idx19 t]
  · blk_simp [idx19 t]

end Cert.Mix.Bwd

end
-- ==== Proof.MixBwdRef.lean ====
/- The mixer's backward reference, entry by entry. -/
module

public import proofs.«01_k».proof.Proof.MixBwdArr
public import proofs.«01_k».proof.Proof.Gen.Reference9Ideal.Run
public import Idealize.ShloMosaic.Lib.Pointwise

@[expose] public section

set_option maxRecDepth 16384

noncomputable section

namespace Cert.Mix.Bwd

open Idealize.ShloMosaic Idealize.ShloMosaic.TcCoe Idealize.ShloMosaic.ValueKit
open Cert.Reference9Ideal Cert.Reference9Ideal.Gen

variable (X0 X1 : FVec Ideal S4224x1024 .f32) (X2 X3 : FVec Ideal S4224x512 .f32) (X4 X5 : FVec Ideal S4224x1024 .f32) (X6 : FVec Ideal S1x128 .f32)
  (X7 : FVec Ideal S1024x1024 .bf16) (X8 : FVec Ideal S512x1024 .bf16) (X9 : FVec Ideal S1024x1024 .bf16)

/-- The logistic of a gate, the cotangent of the mixed row, and those of the branches. -/
def SG (a : FVec Ideal S4224x1024 .f32) : FVec Ideal S4224x1024 .f32 :=
  Host.divf (broadcastInDim S4224x1024 ![] bcast_S_S4224x1024 (constant S_ .f32 0x3F800000#32)) (addf (broadcastInDim S4224x1024 ![] bcast_S_S4224x1024 (constant S_ .f32 0x3F800000#32)) (Host.exp (Host.negf a)))
def YY : FVec Ideal S4224x1024 .f32 := Host.dotGeneral dot_S4224x1024_S1024x1024_S4224x1024_1_1_0_0_n_n none X0 (extf .f32 X9 bitsLt_bf16_f32)
def DP (a : FVec Ideal S4224x1024 .f32) : FVec Ideal S4224x1024 .f32 := mulf (SG a) (YY X0 X9)
def CT : FVec Ideal S4224x512 .f32 := Host.dotGeneral dot_S4224x1024_S512x1024_S4224x512_1_1_0_0_n_n none (DP X0 X9 X5) (extf .f32 X8 bitsLt_bf16_f32)
def PT : FVec Ideal S4224x1024 .f32 := Host.dotGeneral dot_S4224x1024_S1024x1024_S4224x1024_1_1_0_0_n_n none (DP X0 X9 X4) (extf .f32 X7 bitsLt_bf16_f32)

theorem SG_at (a : FVec Ideal S4224x1024 .f32) (i : Fin 4224) (d : Fin 1024) : SG a (ix2 i d) = sg (rwn a i d) := by
  pointwise [SG, sg, Ideal.logistic, rwn]
theorem YY_at (i : Fin 4224) (d : Fin 1024) : YY X0 X9 (ix2 i d) = dy (rwn X0 i) (mat X9) d := by
  pointwise [YY, dy, linT, rwn, mat]
theorem DP_at (a : FVec Ideal S4224x1024 .f32) (i : Fin 4224) (d : Fin 1024) : DP X0 X9 a (ix2 i d) = dp (dy (rwn X0 i) (mat X9)) (rwn a i) d := by
  pointwise [DP, SG_at, YY_at, dp]
  exact mul_comm _ _
theorem CT_at (i : Fin 4224) (d : Fin 512) : CT X0 X5 X8 X9 (ix2 i d) = cA X0 X1 X2 X3 X4 X5 X6 X7 X8 X9 i d := by
  pointwise [CT, DP_at, cA, linT, mat]
theorem PT_at (i : Fin 4224) (d : Fin 1024) : PT X0 X4 X7 X9 (ix2 i d) = pA X0 X1 X2 X3 X4 X5 X6 X7 X8 X9 i d := by
  pointwise [PT, DP_at, pA, linT, mat]

/-- The four heads of a row, as a third axis. -/
def TT (a : FVec Ideal S4224x512 .f32) : FVec Ideal S4224x4x128 .f32 := shapeCast _ a shapeCasts_S4224x512_S4224x4x128
theorem hix (g : Fin 4) (k : Fin 128) : hi g k = ⟨g.val * 128 + k.val, by omega⟩ := Fin.ext (congrArg (· + k.val) (Nat.mul_comm 128 g.val))
theorem TT_at (a : FVec Ideal S4224x512 .f32) (i : Fin 4224) (g : Fin 4) (k : Fin 128) : TT a (ix3 i g k) = hrow (rwn a i) g k := by
  pointwise [TT, hrow, rwn, hix]
def SZ : FVec Ideal S4224x4x128 .f32 :=
  Host.divf (broadcastInDim S4224x4x128 ![] bcast_S_S4224x4x128 (constant S_ .f32 0x3F800000#32)) (addf (broadcastInDim S4224x4x128 ![] bcast_S_S4224x4x128 (constant S_ .f32 0x3F800000#32)) (Host.exp (Host.negf (TT X3))))
def MS : FVec Ideal S4224x4x1 .f32 :=
  addf (Host.divf (broadcastInDim S4224x4x1 ![0, 1] bcast_S4224x4_S4224x4x1_0_1 (Host.reduceAdd (mulf (TT X2) (TT X2)) (constant S_ .f32 0x00000000#32) reducesTo_S4224x4x128_S4224x4_d2 h_S_)) (broadcastInDim S4224x4x1 ![] bcast_S_S4224x4x1 (constant S_ .f32 0x43000000#32))) (broadcastInDim S4224x4x1 ![] bcast_S_S4224x4x1 (constant S_ .f32 0x358637BD#32))
def RS : FVec Ideal S4224x4x128 .f32 := broadcastInDim S4224x4x128 ![0, 1, 2] bcast_S4224x4x1_S4224x4x128_0_1_2 (Host.rsqrt (MS X2))
def HN : FVec Ideal S4224x4x128 .f32 := mulf (TT X2) (RS X2)
def WR : FVec Ideal S4224x4x128 .f32 := broadcastInDim S4224x4x128 ![0, 1, 2] bcast_S1x1x128_S4224x4x128_0_1_2 (broadcastInDim S1x1x128 ![2] bcast_S128_S1x1x128_2 (shapeCast _ X6 shapeCasts_S1x128_S128))
def OG : FVec Ideal S4224x512 .f32 := shapeCast _ (mulf (mulf (HN X2) (WR X6)) (mulf (TT X3) (SZ X3))) shapeCasts_S4224x4x128_S4224x512
def UU (C : FVec Ideal S4224x512 .f32) : FVec Ideal S4224x4x128 .f32 := mulf (mulf (HN X2) (WR X6)) (TT C)
def DZ (C : FVec Ideal S4224x512 .f32) : FVec Ideal S4224x4x128 .f32 :=
  addf (mulf (UU X2 X6 C) (SZ X3)) (mulf (mulf (TT X3) (UU X2 X6 C)) (mulf (SZ X3) (subf (broadcastInDim S4224x4x128 ![] bcast_S_S4224x4x128 (constant S_ .f32 0x3F800000#32)) (SZ X3))))
def BB (C : FVec Ideal S4224x512 .f32) : FVec Ideal S4224x4x128 .f32 := mulf (TT C) (mulf (TT X3) (SZ X3))
def EE (C : FVec Ideal S4224x512 .f32) : FVec Ideal S4224x4x128 .f32 := mulf (BB X3 C) (WR X6)
def QQ (C : FVec Ideal S4224x512 .f32) : FVec Ideal S4224x4x128 .f32 :=
  broadcastInDim S4224x4x128 ![0, 1] bcast_S4224x4_S4224x4x128_0_1 (Host.reduceAdd (Host.divf (mulf (shapeCast _ (Host.reduceAdd (mulf (TT X2) (EE X3 X6 C)) (constant S_ .f32 0x00000000#32) reducesTo_S4224x4x128_S4224x4_d2 h_S_) shapeCasts_S4224x4_S4224x4x1) (mulf (broadcastInDim S4224x4x1 ![] bcast_S_S4224x4x1 (constant S_ .f32 0xBF000000#32)) (Host.divf (Host.rsqrt (MS X2)) (MS X2)))) (broadcastInDim S4224x4x1 ![] bcast_S_S4224x4x1 (constant S_ .f32 0x43000000#32))) (constant S_ .f32 0x00000000#32) reducesTo_S4224x4x1_S4224x4_d2 h_S_)
def DO (C : FVec Ideal S4224x512 .f32) : FVec Ideal S4224x4x128 .f32 :=
  addf (addf (mulf (EE X3 X6 C) (RS X2)) (mulf (TT X2) (QQ X2 X3 X6 C))) (mulf (QQ X2 X3 X6 C) (TT X2))
def DW (C : FVec Ideal S4224x512 .f32) : FVec Ideal S8x128 .f32 :=
  concatenate S8x128 0 [⟨S1x128, (broadcastInDim S1x128 ![1] bcast_S128_S1x128_1 (Host.reduceAdd (shapeCast _ (Host.reduceAdd (mulf (HN X2) (BB X3 C)) (constant S_ .f32 0x00000000#32) reducesTo_S4224x4x128_S128_d0_1 h_S_) shapeCasts_S128_S1x1x128) (constant S_ .f32 0x00000000#32) reducesTo_S1x1x128_S128_d0_1 h_S_))⟩, ⟨S7x128, (broadcastInDim S7x128 ![] bcast_S_S7x128 (constant S_ .f32 0x00000000#32))⟩] concatenates_S1x128_S7x128_S8x128_d0

section
variable (C : FVec Ideal S4224x512 .f32) (i : Fin 4224) (g : Fin 4) (k : Fin 128)

theorem SZ_at : SZ X3 (ix3 i g k) = sg (hrow (rwn X3 i) g k) := by pointwise [SZ, TT_at, sg, Ideal.logistic]
theorem MS_at : MS X2 (ix3 i g 0) = hms (hrow (rwn X2 i) g) := by pointwise [MS, TT_at, hms]
theorem MS_df : MS X2 (ix3 i g default) = hms (hrow (rwn X2 i) g) := MS_at X2 i g
theorem RS_at : RS X2 (ix3 i g k) = hrs (hrow (rwn X2 i) g) := by pointwise [RS, MS_at, hrs]
theorem HN_at : HN X2 (ix3 i g k) = hn (hrow (rwn X2 i) g) k := by pointwise [HN, TT_at, RS_at, hn]
theorem WR_at : WR X6 (ix3 i g k) = wr X6 k := by pointwise [WR, wr]
theorem OG_at (d : Fin 512) : OG X2 X3 X6 (ix2 i d) = og (rwn X2 i) (rwn X3 i) (wr X6) d := by
  pointwise [OG, HN_at, WR_at, TT_at, SZ_at, og, hog, hn]
theorem UU_at : UU X2 X6 C (ix3 i g k) = hn (hrow (rwn X2 i) g) k * wr X6 k * hrow (rwn C i) g k := by pointwise [UU, HN_at, WR_at, TT_at]
theorem DZ_at : DZ X2 X3 X6 C (ix3 i g k) = hdz (hrow (rwn X2 i) g) (hrow (rwn X3 i) g) (wr X6) (hrow (rwn C i) g) k := by
  pointwise [DZ, UU_at, SZ_at, TT_at, hdz, sd, c1]
theorem BB_at : BB X3 C (ix3 i g k) = hb (hrow (rwn X3 i) g) (hrow (rwn C i) g) k := by pointwise [BB, TT_at, SZ_at, hb]
theorem EE_at : EE X3 X6 C (ix3 i g k) = he (hrow (rwn X3 i) g) (wr X6) (hrow (rwn C i) g) k := by pointwise [EE, BB_at, WR_at, he]
theorem QQ_at : QQ X2 X3 X6 C (ix3 i g k) = hq (hrow (rwn X2 i) g) (hrow (rwn X3 i) g) (wr X6) (hrow (rwn C i) g) := by
  pointwise [QQ, TT_at, EE_at, MS_at, MS_df, hq, hrs, chalf, c128, Finset.univ_unique, Finset.sum_singleton]
theorem DO_at : DO X2 X3 X6 C (ix3 i g k) = hdo (hrow (rwn X2 i) g) (hrow (rwn X3 i) g) (wr X6) (hrow (rwn C i) g) k := by
  pointwise [DO, EE_at, RS_at, TT_at, QQ_at, hdo]
end

end Cert.Mix.Bwd

end
-- ==== Proof.MixBwdRefArr.lean ====
/- The mixer's backward reference: its ten arrays. -/
module

public import proofs.«01_k».proof.Proof.MixBwdRef

@[expose] public section

set_option maxRecDepth 16384

noncomputable section

namespace Cert.Mix.Bwd

open Idealize.ShloMosaic Idealize.ShloMosaic.TcCoe Idealize.ShloMosaic.ValueKit
open Cert.Reference9Ideal Cert.Reference9Ideal.Gen

variable (X0 X1 : FVec Ideal S4224x1024 .f32) (X2 X3 : FVec Ideal S4224x512 .f32) (X4 X5 : FVec Ideal S4224x1024 .f32) (X6 : FVec Ideal S1x128 .f32)
  (X7 : FVec Ideal S1024x1024 .bf16) (X8 : FVec Ideal S512x1024 .bf16) (X9 : FVec Ideal S1024x1024 .bf16)

/-- The sum over the rows and heads, as the weight's cotangent takes it. -/
theorem wd_sum (o z c : Fin 4224 → Hrow) (k : Fin 128) : ∑ i, wd (o i) (z i) (c i) k = ∑ i, ∑ g : Fin 4, hdw (hrow (o i) g) (hrow (z i) g) (hrow (c i) g) k := by
  refine Finset.sum_congr rfl fun i _ => ?_
  rw [Fin.sum_univ_four]
  unfold wd
  ac_rfl

/-- A flat row index is the head and the lane. -/
theorem hi_split (d : Fin 512) : ∃ g k, d = hi g k := ⟨hd d, ln d, Fin.ext (Nat.div_add_mod _ _).symm⟩
theorem hj_split (d : Fin 1024) : ∃ g k, d = hj g k := ⟨⟨d.val / 128, by omega⟩, ⟨d.val % 128, Nat.mod_lt _ (by decide)⟩, Fin.ext (Nat.div_add_mod _ _).symm⟩

/-- A sum over the first two of three axes. -/
theorem sum01 {n0 n1 : ℕ} (h : (⟨3, ![n0, n1, 128]⟩ : Shape).ReducesTo [0, 1] ⟨1, ![128]⟩) (v : (⟨3, ![n0, n1, 128]⟩ : Shape).Idx → EReal) (init : EReal) (k : Fin 128) :
    Ideal.hostReduceAdd h v init (ix1 k) = init + ∑ i, ∑ g, v (ix3 i g k) := by
  refine congrArg (init + ·) ((Finset.sum_filter_eq_sum_of_fiber _ (fun p : Fin n0 × Fin n1 => ix3 p.1 p.2 k)
    (fun _ _ e => Prod.ext (congrFun e 0) (congrFun e 1)) (fun i => ?_) v).trans ?_)
  · constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  · simp only [Fintype.sum_prod_type]

/-- The weight's cotangent: the sum over the rows and heads, then over two axes of length one. -/
def D0 (C : FVec Ideal S4224x512 .f32) : FVec Ideal S128 .f32 := Host.reduceAdd (mulf (HN X2) (BB X3 C)) (constant S_ .f32 0x00000000#32) reducesTo_S4224x4x128_S128_d0_1 h_S_
theorem D0_at (C : FVec Ideal S4224x512 .f32) (k : Fin 128) : D0 X2 X3 C (ix1 k) = ∑ i, ∑ g : Fin 4, hdw (hrow (rwn X2 i) g) (hrow (rwn X3 i) g) (hrow (rwn C i) g) k := by
  change Ideal.hostReduceAdd reducesTo_S4224x4x128_S128_d0_1 (mulf (HN X2) (BB X3 C)) ((constant (F := Ideal) S_ .f32 0x00000000#32) (Shape.Idx.first h_S_)) (ix1 k) = _
  rw [sum01]
  pointwise [HN_at, BB_at, hdw]

def DS (C : FVec Ideal S4224x512 .f32) : FVec Ideal S128 .f32 := Host.reduceAdd (shapeCast _ (D0 X2 X3 C) shapeCasts_S128_S1x1x128) (constant S_ .f32 0x00000000#32) reducesTo_S1x1x128_S128_d0_1 h_S_
theorem dwT (C : FVec Ideal S4224x512 .f32) (k : Fin 128) : DS X2 X3 C (ix1 k) = D0 X2 X3 C (ix1 k) := by
  change Ideal.hostReduceAdd reducesTo_S1x1x128_S128_d0_1 (shapeCast S1x1x128 (D0 X2 X3 C) shapeCasts_S128_S1x1x128) ((constant (F := Ideal) S_ .f32 0x00000000#32) (Shape.Idx.first h_S_)) (ix1 k) = _
  rw [sum01]
  pointwise [Finset.univ_unique, Finset.sum_singleton]

theorem DWE (C : FVec Ideal S4224x512 .f32) : DW X2 X3 C = concatenate S8x128 0 [⟨S1x128, (broadcastInDim S1x128 ![1] bcast_S128_S1x128_1 (DS X2 X3 C))⟩, ⟨S7x128, (broadcastInDim S7x128 ![] bcast_S_S7x128 (constant S_ .f32 0x00000000#32))⟩] concatenates_S1x128_S7x128_S8x128_d0 := rfl

def P3 (x : FVec Ideal S4224x1024 .f32) : FVec Ideal S4224x8x128 .f32 := shapeCast _ x shapeCasts_S4224x1024_S4224x8x128
theorem hjx (g : Fin 8) (k : Fin 128) : hj g k = ⟨g.val * 128 + k.val, by omega⟩ := Fin.ext (congrArg (· + k.val) (Nat.mul_comm 128 g.val))
theorem P3_at (x : FVec Ideal S4224x1024 .f32) (i : Fin 4224) (g : Fin 8) (k : Fin 128) : P3 x (ix3 i g k) = x (ix2 i (hj g k)) := by
  pointwise [P3, hjx]

/-- The cotangents of the heads' products, and a head's product with its output over 64 lanes. -/
def DL (p x : FVec Ideal S4224x1024 .f32) : FVec Ideal S4224x8 .f32 :=
  Host.reduceAdd (select (broadcastInDim S4224x8x128 ![2] bcast_S128_S4224x8x128_2 (cmpi .slt (iotaInDim S128 32 0) (broadcastInDim S128 ![] bcast_S_S128 (constantI S_ 32 64#32)))) (P3 (mulf p x)) (broadcastInDim S4224x8x128 ![] bcast_S_S4224x8x128 (id (constant S_ .f32 0x00000000#32)))) (constant S_ .f32 0x00000000#32) reducesTo_S4224x8x128_S4224x8_d2 h_S_
def CR (p x : FVec Ideal S4224x1024 .f32) : FVec Ideal S4224x8x128 .f32 :=
  subf (P3 p) (select (broadcastInDim S4224x8x128 ![2] bcast_S128_S4224x8x128_2 (cmpi .eq (iotaInDim S128 32 0) (broadcastInDim S128 ![] bcast_S_S128 (constantI S_ 32 65#32)))) (broadcastInDim S4224x8x128 ![0, 1, 2] bcast_S4224x8x1_S4224x8x128_0_1_2 (broadcastInDim S4224x8x1 ![0, 1] bcast_S4224x8_S4224x8x1_0_1 (DL p x))) (broadcastInDim S4224x8x128 ![] bcast_S_S4224x8x128 (id (constant S_ .f32 0x00000000#32))))

theorem slt64 (k : Fin 128) (a b : EReal) : Scalar.select (IntOp.cmpi CmpIPredicate.slt (BitVec.ofNat 32 k.val) 64#32) a b = if k.val < 64 then a else b := by
  have h : IntOp.cmpi CmpIPredicate.slt (BitVec.ofNat 32 k.val) 64#32 = if k.val < 64 then 1#1 else 0#1 := by revert k; decide
  rw [h]
  split <;> rfl
theorem eq65 (k : Fin 128) (a b : EReal) : Scalar.select (IntOp.cmpi CmpIPredicate.eq (BitVec.ofNat 32 k.val) 65#32) a b = if k.val = 65 then a else b := by
  have h : IntOp.cmpi CmpIPredicate.eq (BitVec.ofNat 32 k.val) 65#32 = if k.val = 65 then 1#1 else 0#1 := by revert k; decide
  rw [h]
  split <;> rfl
theorem zid : id (constant (F := Ideal) S_ .f32 0x00000000#32) ix0 = 0 := by
  change (constant (F := Ideal) S_ .f32 0x00000000#32) ix0 = 0
  pointwise

theorem DL_at (p x : FVec Ideal S4224x1024 .f32) (i : Fin 4224) (g : Fin 8) : DL p x (ix2 i g) = delta (jrow (rwn p i) g) (jrow (rwn x i) g) := by
  pointwise [DL, P3_at]
  simp only [slt64, zid]
  rfl
theorem CR_at (p x : FVec Ideal S4224x1024 .f32) (i : Fin 4224) (g : Fin 8) (k : Fin 128) : CR p x (ix3 i g k) = cor (jrow (rwn p i) g) (jrow (rwn x i) g) k := by
  pointwise [CR, P3_at, DL_at]
  simp only [eq65, zid]
  rfl

def LF : FVec Ideal S4224x1024 .f32 := addf (Host.dotGeneral dot_S4224x1024_S1024x1024_S4224x1024_1_0_0_1_n_n none X1 (extf .f32 X7 bitsLt_bf16_f32)) (broadcastInDim S4224x1024 ![] bcast_S_S4224x1024 (constant S_ .f32 0x00000000#32))
def LG : FVec Ideal S4224x1024 .f32 := addf (Host.dotGeneral dot_S4224x512_S512x1024_S4224x1024_1_0_0_1_n_n none (OG X2 X3 X6) (extf .f32 X8 bitsLt_bf16_f32)) (broadcastInDim S4224x1024 ![] bcast_S_S4224x1024 (constant S_ .f32 0x00000000#32))
theorem LF_at (i : Fin 4224) (d : Fin 1024) : LF X1 X7 (ix2 i d) = lin (rwn X1 i) (mat X7) d := by
  pointwise [LF, lin, rwn, mat, add_zero]
theorem LG_at (i : Fin 4224) (d : Fin 1024) : LG X2 X3 X6 X8 (ix2 i d) = lin (og (rwn X2 i) (rwn X3 i) (wr X6)) (mat X8) d := by
  pointwise [LG, OG_at, lin, mat, add_zero]
/-- The cotangent of a gate's argument. -/
def DG (p a : FVec Ideal S4224x1024 .f32) : FVec Ideal S4224x1024 .f32 := mulf (mulf (YY X0 X9) p) (mulf (SG a) (subf (broadcastInDim S4224x1024 ![] bcast_S_S4224x1024 (constant S_ .f32 0x3F800000#32)) (SG a)))
theorem DG_at (p a : FVec Ideal S4224x1024 .f32) (i : Fin 4224) (d : Fin 1024) : DG X0 X9 p a (ix2 i d) = dg (dy (rwn X0 i) (mat X9)) (rwn p i) (rwn a i) d := by
  pointwise [DG, YY_at, SG_at, dg, c1, mul_assoc]
theorem cT (i : Fin 4224) : rwn (CT X0 X5 X8 X9) i = cA X0 X1 X2 X3 X4 X5 X6 X7 X8 X9 i := by
  funext d
  exact CT_at X0 X1 X2 X3 X4 X5 X6 X7 X8 X9 i d
theorem pT (i : Fin 4224) : rwn (PT X0 X4 X7 X9) i = pA X0 X1 X2 X3 X4 X5 X6 X7 X8 X9 i := by
  funext d
  exact PT_at X0 X1 X2 X3 X4 X5 X6 X7 X8 X9 i d
theorem fT (i : Fin 4224) : rwn (LF X1 X7) i = lin (rwn X1 i) (mat X7) := by
  funext d
  exact LF_at X1 X7 i d
theorem gT (i : Fin 4224) : rwn (LG X2 X3 X6 X8) i = lin (og (rwn X2 i) (rwn X3 i) (wr X6)) (mat X8) := by
  funext d
  exact LG_at X2 X3 X6 X8 i d
def DZF : FVec Ideal S4224x512 .f32 := shapeCast _ (DZ X2 X3 X6 (CT X0 X5 X8 X9)) shapeCasts_S4224x4x128_S4224x512
theorem DZF_at (i : Fin 4224) (d : Fin 512) : DZF X0 X2 X3 X5 X6 X8 X9 (ix2 i d) = rdz (rwn X2 i) (rwn X3 i) (wr X6) (cA X0 X1 X2 X3 X4 X5 X6 X7 X8 X9 i) d := by
  pointwise [DZF, DZ_at, CT_at X0 X1 X2 X3 X4 X5 X6 X7 X8 X9, rdz]
  rw [cT X0 X1 X2 X3 X4 X5 X6 X7 X8 X9 i]

theorem w10 : (truncf .bf16 (shapeCast _ (CR (PT X0 X4 X7 X9) X1) shapeCasts_S4224x8x128_S4224x1024) bitsLt_bf16_f32 : FVec Ideal S4224x1024 .bf16) = fun y => r10 X0 X1 X2 X3 X4 X5 X6 X7 X8 X9 (y 0) (y 1) := by
  funext y
  obtain ⟨i, j, rfl⟩ : ∃ i j, y = ix2 i j := ⟨y 0, y 1, eq_ix2 y⟩
  change _ = r10 X0 X1 X2 X3 X4 X5 X6 X7 X8 X9 i j
  pointwise [r10, CR_at]
  rw [pT X0 X1 X2 X3 X4 X5 X6 X7 X8 X9 i]

theorem w11 : (shapeCast _ (DO X2 X3 X6 (CT X0 X5 X8 X9)) shapeCasts_S4224x4x128_S4224x512 : FVec Ideal S4224x512 .f32) = fun y => r11 X0 X1 X2 X3 X4 X5 X6 X7 X8 X9 (y 0) (y 1) := by
  funext y
  obtain ⟨i, j, rfl⟩ : ∃ i j, y = ix2 i j := ⟨y 0, y 1, eq_ix2 y⟩
  change _ = r11 X0 X1 X2 X3 X4 X5 X6 X7 X8 X9 i j
  pointwise [r11, DO_at, rdo]
  rw [cT X0 X1 X2 X3 X4 X5 X6 X7 X8 X9 i]

theorem w12 : (truncf .bf16 (concatenate S4224x2560 1 [⟨S4224x512, (DZF X0 X2 X3 X5 X6 X8 X9)⟩, ⟨S4224x1024, (DG X0 X9 (LF X1 X7) X4)⟩, ⟨S4224x1024, (DG X0 X9 (LG X2 X3 X6 X8) X5)⟩] concatenates_S4224x512_S4224x1024_S4224x1024_S4224x2560_d1) bitsLt_bf16_f32 : FVec Ideal S4224x2560 .bf16) = fun y => r12 X0 X1 X2 X3 X4 X5 X6 X7 X8 X9 (y 0) (y 1) := by
  funext y
  obtain ⟨i, j, rfl⟩ : ∃ i j, y = ix2 i j := ⟨y 0, y 1, eq_ix2 y⟩
  change _ = r12 X0 X1 X2 X3 X4 X5 X6 X7 X8 X9 i j
  pointwise [r12, DG_at]
  simp only [DZF_at X0 X1 X2 X3 X4 X5 X6 X7 X8 X9, fT, gT]

theorem w13 : (truncf .bf16 X1 bitsLt_bf16_f32 : FVec Ideal S4224x1024 .bf16) = fun y => r13 X0 X1 X2 X3 X4 X5 X6 X7 X8 X9 (y 0) (y 1) := by
  funext y
  obtain ⟨i, j, rfl⟩ : ∃ i j, y = ix2 i j := ⟨y 0, y 1, eq_ix2 y⟩
  change _ = r13 X0 X1 X2 X3 X4 X5 X6 X7 X8 X9 i j
  pointwise [r13]

theorem w14 : (truncf .bf16 (OG X2 X3 X6) bitsLt_bf16_f32 : FVec Ideal S4224x512 .bf16) = fun y => r14 X0 X1 X2 X3 X4 X5 X6 X7 X8 X9 (y 0) (y 1) := by
  funext y
  obtain ⟨i, j, rfl⟩ : ∃ i j, y = ix2 i j := ⟨y 0, y 1, eq_ix2 y⟩
  change _ = r14 X0 X1 X2 X3 X4 X5 X6 X7 X8 X9 i j
  pointwise [r14, OG_at]

theorem w15 : (truncf .bf16 (DP X0 X9 X4) bitsLt_bf16_f32 : FVec Ideal S4224x1024 .bf16) = fun y => r15 X0 X1 X2 X3 X4 X5 X6 X7 X8 X9 (y 0) (y 1) := by
  funext y
  obtain ⟨i, j, rfl⟩ : ∃ i j, y = ix2 i j := ⟨y 0, y 1, eq_ix2 y⟩
  change _ = r15 X0 X1 X2 X3 X4 X5 X6 X7 X8 X9 i j
  pointwise [r15, DP_at]

theorem w16 : (truncf .bf16 (DP X0 X9 X5) bitsLt_bf16_f32 : FVec Ideal S4224x1024 .bf16) = fun y => r16 X0 X1 X2 X3 X4 X5 X6 X7 X8 X9 (y 0) (y 1) := by
  funext y
  obtain ⟨i, j, rfl⟩ : ∃ i j, y = ix2 i j := ⟨y 0, y 1, eq_ix2 y⟩
  change _ = r16 X0 X1 X2 X3 X4 X5 X6 X7 X8 X9 i j
  pointwise [r16, DP_at]

theorem w17 : (truncf .bf16 (addf (mulf (SG X4) (LF X1 X7)) (mulf (SG X5) (LG X2 X3 X6 X8))) bitsLt_bf16_f32 : FVec Ideal S4224x1024 .bf16) = fun y => r17 X0 X1 X2 X3 X4 X5 X6 X7 X8 X9 (y 0) (y 1) := by
  funext y
  obtain ⟨i, j, rfl⟩ : ∃ i j, y = ix2 i j := ⟨y 0, y 1, eq_ix2 y⟩
  change _ = r17 X0 X1 X2 X3 X4 X5 X6 X7 X8 X9 i j
  pointwise [r17, SG_at, LF_at, LG_at, yr]

theorem w18 : (truncf .bf16 X0 bitsLt_bf16_f32 : FVec Ideal S4224x1024 .bf16) = fun y => r18 X0 X1 X2 X3 X4 X5 X6 X7 X8 X9 (y 0) (y 1) := by
  funext y
  obtain ⟨i, j, rfl⟩ : ∃ i j, y = ix2 i j := ⟨y 0, y 1, eq_ix2 y⟩
  change _ = r18 X0 X1 X2 X3 X4 X5 X6 X7 X8 X9 i j
  pointwise [r18]

theorem w19 : (DW X2 X3 (CT X0 X5 X8 X9) : FVec Ideal S8x128 .f32) = fun y => r19 X0 X1 X2 X3 X4 X5 X6 X7 X8 X9 (y 0) (y 1) := by
  funext y
  obtain ⟨i, j, rfl⟩ : ∃ i j, y = ix2 i j := ⟨y 0, y 1, eq_ix2 y⟩
  change _ = r19 X0 X1 X2 X3 X4 X5 X6 X7 X8 X9 i j
  rw [DWE]
  pointwise [r19]
  simp only [dwT, D0_at, wd_sum, cT X0 X1 X2 X3 X4 X5 X6 X7 X8 X9]
  refine if_congr ?_ rfl rfl
  omega

end Cert.Mix.Bwd

end
-- ==== Proof.MixBwdFinish.lean ====
/- The mixer's backward pass: the precondition makes the subtracted sums real, and the two programs' results agree. -/
module

public import proofs.«01_k».proof.Defs
public import proofs.«01_k».proof.Proof.MixBwd
public import proofs.«01_k».proof.Proof.MixBwdRefArr
public import proofs.«01_k».proof.Proof.FfnReal
public import proofs.«01_k».proof.Proof.Finish

@[expose] public section

set_option maxRecDepth 16384

noncomputable section

namespace Cert.Mix.Bwd

open Idealize.ShloMosaic Idealize.ShloMosaic.TcCoe Idealize.ShloMosaic.ValueKit
open Cert.Ffn (IsRe)

section
variable [Cert.Pre_finite9.Facts] (X0 : Vec Ideal Cert.Pre_finite9.S4224x1024 .f32) (X1 : Vec Ideal Cert.Pre_finite9.S4224x1024 .f32) (X2 : Vec Ideal Cert.Pre_finite9.S4224x512 .f32) (X3 : Vec Ideal Cert.Pre_finite9.S4224x512 .f32) (X4 : Vec Ideal Cert.Pre_finite9.S4224x1024 .f32) (X5 : Vec Ideal Cert.Pre_finite9.S4224x1024 .f32) (X6 : Vec Ideal Cert.Pre_finite9.S1x128 .f32) (X7 : Vec Ideal Cert.Pre_finite9.S1024x1024 .bf16) (X8 : Vec Ideal Cert.Pre_finite9.S512x1024 .bf16) (X9 : Vec Ideal Cert.Pre_finite9.S1024x1024 .bf16)

theorem fin0 (h : (Cert.Pre_finite9.fn (F := Ideal) X0 X1 X2 X3 X4 X5 X6 X7 X8 X9).1 = fun _ => 1#1) (r : Fin 4224) (d : Fin 1024) : IsRe (X0 (ix2 r d)) := by
  have h := congrFun h (ix2 r d)
  simp only [Cert.Pre_finite9.fn, Cert.Pre_finite9.fn_part1] at h
  pointwise at h
  exact ⟨_, Cert.ScanBwd.coe_of_tests h⟩

theorem fin1 (h : (Cert.Pre_finite9.fn (F := Ideal) X0 X1 X2 X3 X4 X5 X6 X7 X8 X9).2.1 = fun _ => 1#1) (r : Fin 4224) (d : Fin 1024) : IsRe (X1 (ix2 r d)) := by
  have h := congrFun h (ix2 r d)
  simp only [Cert.Pre_finite9.fn, Cert.Pre_finite9.fn_part1] at h
  pointwise at h
  exact ⟨_, Cert.ScanBwd.coe_of_tests h⟩

theorem fin7 (h : (Cert.Pre_finite9.fn (F := Ideal) X0 X1 X2 X3 X4 X5 X6 X7 X8 X9).2.2.1 = fun _ => 1#1) (r : Fin 1024) (d : Fin 1024) : IsRe (X7 (ix2 r d)) := by
  have h := congrFun h (ix2 r d)
  simp only [Cert.Pre_finite9.fn, Cert.Pre_finite9.fn_part1] at h
  pointwise at h
  exact ⟨_, Cert.ScanBwd.coe_of_tests h⟩

theorem fin9 (h : (Cert.Pre_finite9.fn (F := Ideal) X0 X1 X2 X3 X4 X5 X6 X7 X8 X9).2.2.2 = fun _ => 1#1) (r : Fin 1024) (d : Fin 1024) : IsRe (X9 (ix2 r d)) := by
  have h := congrFun h (ix2 r d)
  simp only [Cert.Pre_finite9.fn, Cert.Pre_finite9.fn_part1] at h
  pointwise at h
  exact ⟨_, Cert.ScanBwd.coe_of_tests h⟩

end

/-- The logistic is real everywhere. -/
theorem sg_re (g : EReal) : IsRe (sg g) := by
  unfold sg
  induction g using EReal.rec with
  | bot => exact ⟨0, by simp [Ideal.logistic, Ideal.div, show (1 : EReal) + ⊤ = ⊤ from EReal.coe_add_top 1]⟩
  | coe a => exact ⟨(1 + Real.exp (-a))⁻¹, Ideal.logistic_coe a⟩
  | top => exact ⟨1, by simp [Ideal.logistic, Ideal.div]⟩

theorem IsRe.ne {x : EReal} (h : IsRe x) : x ≠ ⊤ ∧ x ≠ ⊥ := by
  obtain ⟨a, rfl⟩ := h
  exact ⟨EReal.coe_ne_top a, EReal.coe_ne_bot a⟩

/-- The subtracted sums are real: the logistic is, and the remaining factors are by the precondition. -/
theorem delta_re (X0 : FVec Ideal Cert.Kernel9Ideal.S4224x1024 .f32) (X1 : FVec Ideal Cert.Kernel9Ideal.S4224x1024 .f32) (X2 : FVec Ideal Cert.Kernel9Ideal.S4224x512 .f32) (X3 : FVec Ideal Cert.Kernel9Ideal.S4224x512 .f32) (X4 : FVec Ideal Cert.Kernel9Ideal.S4224x1024 .f32) (X5 : FVec Ideal Cert.Kernel9Ideal.S4224x1024 .f32) (X6 : FVec Ideal Cert.Kernel9Ideal.S1x128 .f32) (X7 : FVec Ideal Cert.Kernel9Ideal.S1024x1024 .bf16) (X8 : FVec Ideal Cert.Kernel9Ideal.S512x1024 .bf16) (X9 : FVec Ideal Cert.Kernel9Ideal.S1024x1024 .bf16)
    (h0 : ∀ i d, IsRe (X0 (ix2 i d))) (h1 : ∀ i d, IsRe (X1 (ix2 i d))) (h7 : ∀ i d, IsRe (X7 (ix2 i d))) (h9 : ∀ i d, IsRe (X9 (ix2 i d)))
    (i : Fin 4224) (g : Fin 8) : IsRe (delta (jrow (pA X0 X1 X2 X3 X4 X5 X6 X7 X8 X9 i) g) (jrow (rwn X1 i) g)) := by
  refine IsRe.sum _ _ fun k => ?_
  split
  · refine IsRe.mul ?_ (h1 _ _)
    change IsRe (∑ j, (∑ l, X0 (ix2 i l) * X9 (ix2 j l)) * sg (X4 (ix2 i j)) * X7 (ix2 (hj g k) j))
    exact IsRe.sum _ _ fun j => IsRe.mul (IsRe.mul (IsRe.sum _ _ fun l => IsRe.mul (h0 _ _) (h9 _ _)) (sg_re _)) (h7 _ _)
  · exact IsRe.zero

/-- Equal arguments give equal arrays. -/
theorem args {β : Type} (f : FVec Ideal Cert.Kernel9Ideal.S4224x1024 .f32 → FVec Ideal Cert.Kernel9Ideal.S4224x1024 .f32 → FVec Ideal Cert.Kernel9Ideal.S4224x512 .f32 → FVec Ideal Cert.Kernel9Ideal.S4224x512 .f32 → FVec Ideal Cert.Kernel9Ideal.S4224x1024 .f32 → FVec Ideal Cert.Kernel9Ideal.S4224x1024 .f32 → FVec Ideal Cert.Kernel9Ideal.S1x128 .f32 → FVec Ideal Cert.Kernel9Ideal.S1024x1024 .bf16 → FVec Ideal Cert.Kernel9Ideal.S512x1024 .bf16 → FVec Ideal Cert.Kernel9Ideal.S1024x1024 .bf16 → β)
    {X0 Y0 : FVec Ideal Cert.Kernel9Ideal.S4224x1024 .f32} {X1 Y1 : FVec Ideal Cert.Kernel9Ideal.S4224x1024 .f32} {X2 Y2 : FVec Ideal Cert.Kernel9Ideal.S4224x512 .f32} {X3 Y3 : FVec Ideal Cert.Kernel9Ideal.S4224x512 .f32} {X4 Y4 : FVec Ideal Cert.Kernel9Ideal.S4224x1024 .f32} {X5 Y5 : FVec Ideal Cert.Kernel9Ideal.S4224x1024 .f32} {X6 Y6 : FVec Ideal Cert.Kernel9Ideal.S1x128 .f32} {X7 Y7 : FVec Ideal Cert.Kernel9Ideal.S1024x1024 .bf16} {X8 Y8 : FVec Ideal Cert.Kernel9Ideal.S512x1024 .bf16} {X9 Y9 : FVec Ideal Cert.Kernel9Ideal.S1024x1024 .bf16} (e0 : Y0 = X0) (e1 : Y1 = X1) (e2 : Y2 = X2) (e3 : Y3 = X3) (e4 : Y4 = X4) (e5 : Y5 = X5) (e6 : Y6 = X6) (e7 : Y7 = X7) (e8 : Y8 = X8) (e9 : Y9 = X9) : f Y0 Y1 Y2 Y3 Y4 Y5 Y6 Y7 Y8 Y9 = f X0 X1 X2 X3 X4 X5 X6 X7 X8 X9 := by
  rw [e0, e1, e2, e3, e4, e5, e6, e7, e8, e9]

end Cert.Mix.Bwd

end
-- ==== Proof.MixFwd.lean ====
/- The mixer's forward kernel, row by row. -/
module

public import proofs.«01_k».proof.Proof.MixRows
public import proofs.«01_k».proof.Proof.Gen.Kernel10Ideal.Value
public import Idealize.ShloMosaic.Lib.Pointwise

@[expose] public section

set_option maxRecDepth 16384

noncomputable section

namespace Cert.Mix.Fwd

open Idealize.ShloMosaic Idealize.ShloMosaic.TcCoe Idealize.ShloMosaic.ValueKit
open Cert.Kernel10Ideal Cert.Kernel10Ideal.Gen

variable (o z : FVec Ideal S384x512 .f32) (w : FVec Ideal S1x128 .f32)

abbrev rw5 (o : Vec Ideal S384x512 .f32) (r : Fin 384) : Hrow := fun d => o (ix2 r d)
abbrev rwL (w : Vec Ideal S1x128 .f32) : Lane := fun k => w (ix2 0 k)

theorem pay3_at (r : Fin 384) (k : Fin 128) : k0_pay3 (F := Ideal) o z w (ix2 r k) = hog (hrow (rw5 o r) 0) (hrow (rw5 z r) 0) (rwL w) k := by
  pointwise [k0_pay3, hog, hrs, hms, hrow, sg, hi0, rw5, rwL]
theorem pay4_at (r : Fin 384) (k : Fin 128) : k0_pay4 (F := Ideal) o z w (ix2 r k) = hog (hrow (rw5 o r) 1) (hrow (rw5 z r) 1) (rwL w) k := by
  pointwise [k0_pay4, hog, hrs, hms, hrow, sg, hi1, rw5, rwL]

/-- The third and the fourth head, and the four one after the other. -/
def third : FVec Ideal S384x128 .f32 :=
  mulf (mulf (mulf (extractStridedSlice S384x128 ![0, 256] o slices_S384x512_o0_256_S384x128)
    (broadcastTo S384x128 (rsqrt (addf (divf (shapeCast S384x1 (multiReduction .add [1] S384 (mulf (extractStridedSlice S384x128 ![0, 256] o slices_S384x512_o0_256_S384x128) (extractStridedSlice S384x128 ![0, 256] o slices_S384x512_o0_256_S384x128)) 0x00000000#32 reduces_S384x128_S384 (.inl rfl) rfl) shapeCasts_S384_S384x1)
      (broadcast S384x1 (Scalar.ofBits .f32 0x43000000#32))) (broadcast S384x1 (Scalar.ofBits .f32 0x358637BD#32)))) broadcasts_S384x1_S384x128))
    (broadcastTo S384x128 w broadcasts_S1x128_S384x128)) (mulf (k0_pay5 (F := Ideal) z) (logistic (k0_pay5 (F := Ideal) z)))
def fourth : FVec Ideal S384x128 .f32 :=
  mulf (mulf (mulf (extractStridedSlice S384x128 ![0, 384] o slices_S384x512_o0_384_S384x128)
    (broadcastTo S384x128 (rsqrt (addf (divf (shapeCast S384x1 (multiReduction .add [1] S384 (mulf (extractStridedSlice S384x128 ![0, 384] o slices_S384x512_o0_384_S384x128) (extractStridedSlice S384x128 ![0, 384] o slices_S384x512_o0_384_S384x128)) 0x00000000#32 reduces_S384x128_S384 (.inl rfl) rfl) shapeCasts_S384_S384x1)
      (broadcast S384x1 (Scalar.ofBits .f32 0x43000000#32))) (broadcast S384x1 (Scalar.ofBits .f32 0x358637BD#32)))) broadcasts_S384x1_S384x128))
    (broadcastTo S384x128 w broadcasts_S1x128_S384x128)) (mulf (extractStridedSlice S384x128 ![0, 384] z slices_S384x512_o0_384_S384x128) (logistic (extractStridedSlice S384x128 ![0, 384] z slices_S384x512_o0_384_S384x128)))
def oV : Vec Ideal S384x512 .f32 :=
  concatenate S384x512 1 [⟨S384x128, k0_pay3 (F := Ideal) o z w⟩, ⟨S384x128, k0_pay4 (F := Ideal) o z w⟩, ⟨S384x128, third o z w⟩, ⟨S384x128, fourth o z w⟩] concatenates_S384x128_S384x128_S384x128_S384x128_S384x512_d1

theorem third_at (r : Fin 384) (k : Fin 128) : third o z w (ix2 r k) = hog (hrow (rw5 o r) 2) (hrow (rw5 z r) 2) (rwL w) k := by
  pointwise [third, k0_pay5, hog, hrs, hms, hrow, sg, hi2, rw5, rwL]
theorem fourth_at (r : Fin 384) (k : Fin 128) : fourth o z w (ix2 r k) = hog (hrow (rw5 o r) 3) (hrow (rw5 z r) 3) (rwL w) k := by
  pointwise [fourth, hog, hrs, hms, hrow, sg, hi3, rw5, rwL]

theorem cat4 (a b c e : Vec Ideal S384x128 .f32) (r : Fin 384) (d : Fin 512) :
    concatenate S384x512 1 [⟨S384x128, a⟩, ⟨S384x128, b⟩, ⟨S384x128, c⟩, ⟨S384x128, e⟩] concatenates_S384x128_S384x128_S384x128_S384x128_S384x512_d1 (ix2 r d) =
      if h0 : d.val < 128 then a (ix2 r ⟨d.val, h0⟩) else if h1 : d.val - 128 < 128 then b (ix2 r ⟨d.val - 128, h1⟩)
        else if h2 : d.val - 128 - 128 < 128 then c (ix2 r ⟨d.val - 128 - 128, h2⟩) else e (ix2 r ⟨d.val - 128 - 128 - 128, by omega⟩) := by
  pointwise []

theorem oV_at (r : Fin 384) : (fun d : Fin 512 => oV o z w (ix2 r d)) = og (rw5 o r) (rw5 z r) (rwL w) := by
  refine by_four _ _ (fun k => ?_) (fun k => ?_) (fun k => ?_) (fun k => ?_) <;> have hk := k.isLt <;> rw [og_hi] <;> show concatenate _ _ _ _ (ix2 r _) = _ <;> rw [cat4]
  · rw [← pay3_at, hi0, dif_pos (show k.val < 128 by omega)]
  · rw [← pay4_at, hi1, dif_neg (show ¬128 + k.val < 128 by omega), dif_pos (show 128 + k.val - 128 < 128 by omega)]
    exact congrArg (fun j => k0_pay4 (F := Ideal) o z w (ix2 r j)) (Fin.ext (by show 128 + k.val - 128 = k.val; omega))
  · rw [← third_at, hi2, dif_neg (show ¬256 + k.val < 128 by omega), dif_neg (show ¬256 + k.val - 128 < 128 by omega), dif_pos (show 256 + k.val - 128 - 128 < 128 by omega)]
    exact congrArg (fun j => third o z w (ix2 r j)) (Fin.ext (by show 256 + k.val - 128 - 128 = k.val; omega))
  · rw [← fourth_at, hi3, dif_neg (show ¬384 + k.val < 128 by omega), dif_neg (show ¬384 + k.val - 128 < 128 by omega), dif_neg (show ¬384 + k.val - 128 - 128 < 128 by omega)]
    exact congrArg (fun j => fourth o z w (ix2 r j)) (Fin.ext (by show 384 + k.val - 128 - 128 - 128 = k.val; omega))

theorem pay2_at (a : Vec Ideal S384x1024 .f32) (b : Vec Ideal S1024x1024 .bf16) (r : Fin 384) (d : Fin 1024) :
    k0_pay2 (F := Ideal) a b (ix2 r d) = ∑ j : Fin 1024, a (ix2 r j) * b (ix2 j d) := by
  pointwise [k0_pay2]
theorem pay1_at (y h : Vec Ideal S384x1024 .f32) (b : Vec Ideal S1024x1024 .bf16) (r : Fin 384) (d : Fin 1024) :
    k0_pay1 (F := Ideal) y h b (ix2 r d) = h (ix2 r d) + ∑ j : Fin 1024, y (ix2 r j) * b (ix2 j d) := by
  pointwise [k0_pay1]

theorem pay6_eq (p : FVec Ideal S384x1024 .f32) (wd : FVec Ideal S512x1024 .bf16) (a b : FVec Ideal S384x1024 .f32) :
    k0_pay6 (F := Ideal) p o z w (k0_pay3 (F := Ideal) o z w) (k0_pay4 (F := Ideal) o z w) (k0_pay5 (F := Ideal) z) wd a b =
      addf (mulf (logistic a) p) (mulf (logistic b) (matmul dot_S384x512_S512x1024_S384x1024_1_0_0_1_n_n none (truncf .bf16 (oV o z w : FVec Ideal S384x512 .f32) bitsLt_bf16_f32) wd (constant S384x1024 .f32 0x00000000#32))) := by
  unfold k0_pay6; rfl

theorem pay6_at (p : FVec Ideal S384x1024 .f32) (wd : FVec Ideal S512x1024 .bf16) (a b : FVec Ideal S384x1024 .f32) (r : Fin 384) (d : Fin 1024) :
    k0_pay6 (F := Ideal) p o z w (k0_pay3 (F := Ideal) o z w) (k0_pay4 (F := Ideal) o z w) (k0_pay5 (F := Ideal) z) wd a b (ix2 r d) =
      sg (a (ix2 r d)) * p (ix2 r d) + sg (b (ix2 r d)) * ∑ j : Fin 512, oV o z w (ix2 r j) * wd (ix2 j d) := by
  rw [pay6_eq]
  pointwise [sg]

/-- The rows of an array, and a weight array's entries. -/
abbrev rwn {N C : ℕ} (x : Vec Ideal ⟨2, ![N, C]⟩ .f32) (i : Fin N) (d : Fin C) : EReal := x (ix2 i d)
abbrev mat {N C : ℕ} (x : Vec Ideal ⟨2, ![N, C]⟩ .bf16) (i : Fin N) (d : Fin C) : EReal := x (ix2 i d)

/-- One block of the kernel. -/
theorem block (x0 : Vec Ideal S384x1024 .f32) (x1 x2 : Vec Ideal S384x512 .f32) (x3 x4 x5 : Vec Ideal S384x1024 .f32) (x6 : Vec Ideal S1x128 .f32)
    (x7 : Vec Ideal S1024x1024 .bf16) (x8 : Vec Ideal S512x1024 .bf16) (x9 : Vec Ideal S1024x1024 .bf16) (r : Fin 384) (d : Fin 1024) :
    out0_10 x0 x1 x2 x3 x4 x5 x6 x7 x8 x9 (ix2 r d) =
      fwd (rwn x0 r) (rwn x1 r) (rwn x2 r) (rwn x3 r) (rwn x4 r) (rwn x5 r) (rwn x6 0) (mat x7) (mat x8) (mat x9) d := by
  frame_out
  rw [pay1_at]
  unfold fwd lin yr
  refine congrArg (_ + ·) (Finset.sum_congr rfl fun j _ => congrArg (· * _) ?_)
  rw [pay6_at, pay2_at]
  refine congrArg (_ + ·) (congrArg (_ * ·) (Finset.sum_congr rfl fun l _ => congrArg (· * _) ?_))
  exact congrFun (oV_at x1 x2 x6 r) l

section
variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![t.val, 0] := (by decide +kernel : ∀ t : Fin grid0.N, win0_10.index t = ![t.val, 0])

/-- Row `r` of point `t`. -/
abbrev ri (t : Fin cfg0.N) (r : Fin 384) : Fin 4224 := ⟨384 * t.val + r.val, by have := lt_of_lt_of_eq t.isLt N_0; omega⟩

theorem x0_at (t : Fin cfg0.N) (r : Fin 384) : rwn (iblk m c 0 t : Vec Ideal S384x1024 .f32) r = rwn (m ((c : Thread nD τ).loc main_arg0) : Vec Ideal S4224x1024 .f32) (ri t r) := by
  funext d; show iblk m c 0 t (ix2 r d) = m ((c : Thread nD τ).loc main_arg0) (ix2 (ri t r) d); blk_ext! [iblk, V, idx0 t]
theorem x1_at (t : Fin cfg0.N) (r : Fin 384) : rwn (iblk m c 1 t : Vec Ideal S384x512 .f32) r = rwn (m ((c : Thread nD τ).loc main_arg1) : Vec Ideal S4224x512 .f32) (ri t r) := by
  funext d; show iblk m c 1 t (ix2 r d) = m ((c : Thread nD τ).loc main_arg1) (ix2 (ri t r) d); blk_ext! [iblk, V, idx1 t]
theorem x2_at (t : Fin cfg0.N) (r : Fin 384) : rwn (iblk m c 2 t : Vec Ideal S384x512 .f32) r = rwn (m ((c : Thread nD τ).loc main_arg2) : Vec Ideal S4224x512 .f32) (ri t r) := by
  funext d; show iblk m c 2 t (ix2 r d) = m ((c : Thread nD τ).loc main_arg2) (ix2 (ri t r) d); blk_ext! [iblk, V, idx2 t]
theorem x3_at (t : Fin cfg0.N) (r : Fin 384) : rwn (iblk m c 3 t : Vec Ideal S384x1024 .f32) r = rwn (m ((c : Thread nD τ).loc main_arg3) : Vec Ideal S4224x1024 .f32) (ri t r) := by
  funext d; show iblk m c 3 t (ix2 r d) = m ((c : Thread nD τ).loc main_arg3) (ix2 (ri t r) d); blk_ext! [iblk, V, idx3 t]
theorem x4_at (t : Fin cfg0.N) (r : Fin 384) : rwn (iblk m c 4 t : Vec Ideal S384x1024 .f32) r = rwn (m ((c : Thread nD τ).loc main_arg4) : Vec Ideal S4224x1024 .f32) (ri t r) := by
  funext d; show iblk m c 4 t (ix2 r d) = m ((c : Thread nD τ).loc main_arg4) (ix2 (ri t r) d); blk_ext! [iblk, V, idx4 t]
theorem x5_at (t : Fin cfg0.N) (r : Fin 384) : rwn (iblk m c 5 t : Vec Ideal S384x1024 .f32) r = rwn (m ((c : Thread nD τ).loc main_arg5) : Vec Ideal S4224x1024 .f32) (ri t r) := by
  funext d; show iblk m c 5 t (ix2 r d) = m ((c : Thread nD τ).loc main_arg5) (ix2 (ri t r) d); blk_ext! [iblk, V, idx5 t]
theorem x6_at (t : Fin cfg0.N) : rwn (iblk m c 6 t : Vec Ideal S1x128 .f32) 0 = rwn (m ((c : Thread nD τ).loc main_arg6) : Vec Ideal S1x128 .f32) 0 := by
  funext d; show iblk m c 6 t (ix2 0 d) = m ((c : Thread nD τ).loc main_arg6) (ix2 0 d); blk_ext! [iblk, V, idx6 t]
theorem x7_at (t : Fin cfg0.N) : mat (iblk m c 7 t : Vec Ideal S1024x1024 .bf16) = mat (m ((c : Thread nD τ).loc main_arg7) : Vec Ideal S1024x1024 .bf16) := by
  funext i d; show iblk m c 7 t (ix2 i d) = m ((c : Thread nD τ).loc main_arg7) (ix2 i d); blk_ext! [iblk, V, idx7 t]
theorem x8_at (t : Fin cfg0.N) : mat (iblk m c 8 t : Vec Ideal S512x1024 .bf16) = mat (m ((c : Thread nD τ).loc main_arg8) : Vec Ideal S512x1024 .bf16) := by
  funext i d; show iblk m c 8 t (ix2 i d) = m ((c : Thread nD τ).loc main_arg8) (ix2 i d); blk_ext! [iblk, V, idx8 t]
theorem x9_at (t : Fin cfg0.N) : mat (iblk m c 9 t : Vec Ideal S1024x1024 .bf16) = mat (m ((c : Thread nD τ).loc main_arg9) : Vec Ideal S1024x1024 .bf16) := by
  funext i d; show iblk m c 9 t (ix2 i d) = m ((c : Thread nD τ).loc main_arg9) (ix2 i d); blk_ext! [iblk, V, idx9 t]
end

/-- The row of the arguments' rows, and the array of all rows. -/
def row (x0 : Vec Ideal S4224x1024 .f32) (x1 x2 : Vec Ideal S4224x512 .f32) (x3 x4 x5 : Vec Ideal S4224x1024 .f32) (x6 : Vec Ideal S1x128 .f32)
    (x7 : Vec Ideal S1024x1024 .bf16) (x8 : Vec Ideal S512x1024 .bf16) (x9 : Vec Ideal S1024x1024 .bf16) (i : Fin 4224) (d : Fin 1024) : EReal :=
  fwd (rwn x0 i) (rwn x1 i) (rwn x2 i) (rwn x3 i) (rwn x4 i) (rwn x5 i) (rwn x6 0) (mat x7) (mat x8) (mat x9) d

section
variable (m : (ℓ : Loc nD τ sig) → Buf (Elt Ideal) ℓ) (c : Dev nD)

def rowK (i : Fin 4224) (d : Fin 1024) : EReal := row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) i d
def arrK : Vec Ideal S4224x1024 .f32 := fun y => rowK m c (y 0) (y 1)

theorem at10 (t : Fin cfg0.N) (r : Fin 384) (d : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r d) = rowK m c (ri t r) d := by
  refine (block _ _ _ _ _ _ _ _ _ _ r d).trans ?_
  rw [x0_at, x1_at, x2_at, x3_at, x4_at, x5_at, x6_at, x7_at, x8_at, x9_at]
  rfl

theorem final : (dats m 0 c).arrAt 10 cfg0.N = arrK m c := by
  refine (dats m 0 c).arrAt_eq_of_covers 10 _ (by decide +kernel) fun t hf y => ?_
  rw [after0_10]
  have h := at10 m c t (y 0) (y 1)
  generalize out0_10 (iblk m c 0 t) (iblk m c 1 t) (iblk m c 2 t) (iblk m c 3 t) (iblk m c 4 t) (iblk m c 5 t) (iblk m c 6 t) (iblk m c 7 t) (iblk m c 8 t) (iblk m c 9 t) = O at h ⊢
  refine ((congrArg O (eq_ix2 (n0 := 384) (n1 := 1024) y)).trans h).trans ?_
  refine congrArg₂ (rowK m c) (Fin.ext ?_) (Fin.ext ?_)
  · blk_simp [idx10 t]
    exact congrArg (· + (y 0).val) (Nat.mul_comm 384 t.val)
  · blk_simp [idx10 t]
end

end Cert.Mix.Fwd
-- ==== Proof.MixFwdRef.lean ====
/- The mixer's reference, row by row. -/
module

public import proofs.«01_k».proof.Proof.MixFwd
public import proofs.«01_k».proof.Proof.Gen.Reference10Ideal.Run
public import Idealize.ShloMosaic.Lib.Pointwise

@[expose] public section

set_option maxRecDepth 16384

noncomputable section

namespace Cert.Mix.Fwd

open Idealize.ShloMosaic Idealize.ShloMosaic.TcCoe
open Cert.Reference10Ideal Cert.Reference10Ideal.Gen

/-- The reference's gated heads. -/
def refO (x1 x2 : FVec Ideal S4224x512 .f32) (x6 : FVec Ideal S1x128 .f32) : FVec Ideal S4224x512 .f32 :=
  shapeCast _ (mulf (mulf (mulf (shapeCast _ x1 shapeCasts_S4224x512_S4224x4x128) (broadcastInDim S4224x4x128 ![0, 1, 2] bcast_S4224x4x1_S4224x4x128_0_1_2 (Host.rsqrt (addf (Host.divf (broadcastInDim S4224x4x1 ![0, 1] bcast_S4224x4_S4224x4x1_0_1 (Host.reduceAdd (mulf (shapeCast _ x1 shapeCasts_S4224x512_S4224x4x128) (shapeCast _ x1 shapeCasts_S4224x512_S4224x4x128)) (constant S_ .f32 0x00000000#32) reducesTo_S4224x4x128_S4224x4_d2 h_S_)) (broadcastInDim S4224x4x1 ![] bcast_S_S4224x4x1 (constant S_ .f32 0x43000000#32))) (broadcastInDim S4224x4x1 ![] bcast_S_S4224x4x1 (constant S_ .f32 0x358637BD#32)))))) (broadcastInDim S4224x4x128 ![0, 1, 2] bcast_S1x1x128_S4224x4x128_0_1_2 (broadcastInDim S1x1x128 ![2] bcast_S128_S1x1x128_2 (shapeCast _ x6 shapeCasts_S1x128_S128)))) (mulf (shapeCast _ x2 shapeCasts_S4224x512_S4224x4x128) (Host.divf (broadcastInDim S4224x4x128 ![] bcast_S_S4224x4x128 (constant S_ .f32 0x3F800000#32)) (addf (broadcastInDim S4224x4x128 ![] bcast_S_S4224x4x128 (constant S_ .f32 0x3F800000#32)) (Host.exp (Host.negf (shapeCast _ x2 shapeCasts_S4224x512_S4224x4x128))))))) shapeCasts_S4224x4x128_S4224x512

theorem refO_at (x1 x2 : FVec Ideal S4224x512 .f32) (x6 : FVec Ideal S1x128 .f32) (i : Fin 4224) (d : Fin 512) :
    refO x1 x2 x6 (ix2 i d) = og (rwn x1 i) (rwn x2 i) (rwn x6 0) d := by
  pointwise [refO, og, hog, hrs, hms, hrow, sg, Ideal.logistic]
  simp only [hi_hd]
  simp only [hih]

/-- The reference's array is the array of all rows. -/
theorem ref (x0 : FVec Ideal S4224x1024 .f32) (x1 x2 : FVec Ideal S4224x512 .f32) (x3 x4 x5 : FVec Ideal S4224x1024 .f32) (x6 : FVec Ideal S1x128 .f32)
    (x7 : FVec Ideal S1024x1024 .bf16) (x8 : FVec Ideal S512x1024 .bf16) (x9 : FVec Ideal S1024x1024 .bf16) :
    addf x5 (Host.dotGeneral dot_S4224x1024_S1024x1024_S4224x1024_1_0_0_1_n_n none (addf (mulf (Host.divf (broadcastInDim S4224x1024 ![] bcast_S_S4224x1024 (constant S_ .f32 0x3F800000#32)) (addf (broadcastInDim S4224x1024 ![] bcast_S_S4224x1024 (constant S_ .f32 0x3F800000#32)) (Host.exp (Host.negf x3)))) (addf (Host.dotGeneral dot_S4224x1024_S1024x1024_S4224x1024_1_0_0_1_n_n none x0 (extf .f32 x7 bitsLt_bf16_f32)) (broadcastInDim S4224x1024 ![] bcast_S_S4224x1024 (constant S_ .f32 0x00000000#32)))) (mulf (Host.divf (broadcastInDim S4224x1024 ![] bcast_S_S4224x1024 (constant S_ .f32 0x3F800000#32)) (addf (broadcastInDim S4224x1024 ![] bcast_S_S4224x1024 (constant S_ .f32 0x3F800000#32)) (Host.exp (Host.negf x4)))) (addf (Host.dotGeneral dot_S4224x512_S512x1024_S4224x1024_1_0_0_1_n_n none (refO x1 x2 x6) (extf .f32 x8 bitsLt_bf16_f32)) (broadcastInDim S4224x1024 ![] bcast_S_S4224x1024 (constant S_ .f32 0x00000000#32))))) (extf .f32 x9 bitsLt_bf16_f32)) =
      fun y => row x0 x1 x2 x3 x4 x5 x6 x7 x8 x9 (y 0) (y 1) := by
  funext y
  obtain ⟨i, j, rfl⟩ : ∃ (i : Fin 4224) (j : Fin 1024), y = ix2 i j := ⟨y 0, y 1, eq_ix2 y⟩
  pointwise [row, fwd, lin, yr, refO_at, sg, Ideal.logistic, add_zero]

end Cert.Mix.Fwd
-- ==== Proof.lean ====
/- The certificate's proof. The frames of the kernels are the generated ones, the same for `Kernel…` and `Kernel…Ideal`; a
   reference's is its generated run, and it declares no semaphore. The value claims pair the kernels' result arrays
   (`Proof/Sweep.lean`, `Proof/Dw*.lean`, `Proof/FfnKernel.lean`, `Proof/MixBwd.lean`, `Proof/MixFwd.lean`) with the references' (`Proof/Ref.lean` and `Proof/Finish.lean`,
   `Proof/Dw*.lean`, `Proof/FfnRef.lean`, `Proof/MixBwdRefArr.lean` and `Proof/MixBwdFinish.lean`, `Proof/MixFwdRef.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Finish
public import proofs.«01_k».proof.Proof.FfnFinish
public import proofs.«01_k».proof.Proof.Dw3
public import proofs.«01_k».proof.Proof.Dw4
public import proofs.«01_k».proof.Proof.Dw5
public import proofs.«01_k».proof.Proof.Dw6
public import proofs.«01_k».proof.Proof.Dw7
public import proofs.«01_k».proof.Proof.Dw8
public import proofs.«01_k».proof.Proof.MixBwdFinish
public import proofs.«01_k».proof.Proof.MixFwdRef
public import Idealize.ShloMosaic.Adequacy
public import Idealize.ShloMosaic.Init

@[expose] public section

noncomputable section

namespace Cert.Proof

open Idealize.ShloMosaic Idealize.SL.Sem

/-- The side conditions the first precondition's test states. -/
theorem pre_facts : Cert.Pre_finite.Facts where
  bcast_S_S4224x512 := by decide
  bitsLt_bf16_f32 := by decide
  bcast_S_S4224x256 := by decide
  bcast_S_S66x1x128 := by decide

/-- The side conditions the second precondition's test states. -/
theorem pre_facts2 : Cert.Pre_finite2.Facts where
  bcast_S_S4224x1024 := by decide
  bcast_S_S4096x1024 := by decide
  bcast_S_S1x1024 := by decide
  bitsLt_bf16_f32 := by decide
  bcast_S_S2816x1024 := by decide

theorem frame_ref : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run (F := Ideal) m ρ)

theorem frame_ref2 : Cert.quiescent_Reference2Ideal (hReference2Ideal := Cert.Reference2Ideal.Gen.facts) := fun m ρ _ =>
  (θ_run Cert.Reference2Ideal.defs _ _).mono
    (fun r h => ⟨fun c => (h c).2.2.2.2.2.2.2, sem_eq_zero_of_no_sems (by decide) r.2⟩) (Cert.Reference2Ideal.Value.run (F := Ideal) m ρ)

theorem frame_ref3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run (F := Ideal) m ρ)

theorem frame_ref4 : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run (F := Ideal) m ρ)

theorem frame_ref5 : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run (F := Ideal) m ρ)

theorem frame_ref6 : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run (F := Ideal) m ρ)

theorem frame_ref7 : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run (F := Ideal) m ρ)

theorem frame_ref8 : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩) (Cert.Reference8Ideal.Value.run (F := Ideal) m ρ)

theorem frame_ref9 : Cert.quiescent_Reference9Ideal (hReference9Ideal := Cert.Reference9Ideal.Gen.facts) := fun m ρ _ =>
  (θ_run Cert.Reference9Ideal.defs _ _).mono
    (fun r h => ⟨fun c => (h c).2.2.2.2.2.2.2.2.2.2, sem_eq_zero_of_no_sems (by decide) r.2⟩) (Cert.Reference9Ideal.Value.run (F := Ideal) m ρ)

theorem frame_ref10 : Cert.quiescent_Reference10Ideal (hReference10Ideal := Cert.Reference10Ideal.Gen.facts) := fun m ρ _ =>
  (θ_run Cert.Reference10Ideal.defs _ _).mono
    (fun r h => ⟨fun c => (h c).2, sem_eq_zero_of_no_sems (by decide) r.2⟩) (Cert.Reference10Ideal.Value.run (F := Ideal) m ρ)

theorem values : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' hp hm
  haveI := pre_facts
  refine ⟨fun c => Cert.ScanBwd.dvnArr (Cert.ScanBwd.argsAt m c), fun c => Cert.ScanBwd.dsArr (Cert.ScanBwd.argsAt m c), ?_, ?_⟩
  · exact (θ_run Cert.KernelIdeal.defs _ _).mono (fun r h c =>
      ⟨(h c).1.trans (Cert.ScanBwd.final6 m c (Cert.ScanBwd.kernel_real m c hp)),
        (h c).2.1.trans (Cert.ScanBwd.final7 m c (Cert.ScanBwd.kernel_real m c hp)), (h c).2.2⟩)
      (Cert.KernelIdeal.Value.run_blocks (F := Ideal) m ρ)
  · exact (θ_run Cert.ReferenceIdeal.defs _ _).mono (fun r h c =>
      ⟨(h c).1.trans (Cert.ScanBwd.ref_dvn m' c (Cert.ScanBwd.ref_real m c m' hp (hm c))),
        (h c).2.1.trans (Cert.ScanBwd.ref_ds m' c (Cert.ScanBwd.ref_real m c m' hp (hm c))), (h c).2.2⟩)
      (Cert.ReferenceIdeal.Value.run (F := Ideal) m' ρ')

theorem same2 (m : (ℓ : Loc Cert.Kernel2Ideal.nD Cert.Kernel2Ideal.τ Cert.Kernel2Ideal.sig) → Buf (Elt Ideal) ℓ) (c : Dev Cert.Kernel2Ideal.nD)
    (m' : (ℓ : Loc Cert.Reference2Ideal.nD Cert.Reference2Ideal.τ Cert.Reference2Ideal.sig) → Buf (Elt Ideal) ℓ)
    (hm : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Ffn.Same m c (StableHlo.launchContents m' c) := by
  obtain ⟨e0, e1, e2, e3, e4, e5, e6⟩ := hm
  refine ⟨?_, ?_, e1⟩
  · have h : Cert.Ffn.vpar (StableHlo.launchContents m' c) = Cert.Ffn.bpar (Cert.Ffn.vV (StableHlo.launchContents m' c)) (Cert.Ffn.vW (StableHlo.launchContents m' c))
        (Cert.Ffn.vG (StableHlo.launchContents m' c)) (Cert.Ffn.vU (StableHlo.launchContents m' c)) (Cert.Ffn.vD (StableHlo.launchContents m' c)) := rfl
    exact h.trans (congr (congr (congr (congrArg₂ Cert.Ffn.bpar e2 e3) e4) e5) e6)
  · funext i d
    exact congrFun e0 _

theorem values2 : Cert.algebraic_Kernel2Ideal_Reference2Ideal_pre_finite2 (hKernel2Ideal := Cert.Kernel2Ideal.Gen.facts)
    (hReference2Ideal := Cert.Reference2Ideal.Gen.facts) (hPre_finite2 := pre_facts2) := by
  intro m ρ m' ρ' hp hm
  haveI := pre_facts2
  refine ⟨fun c => Cert.Ffn.arr6 m c, fun c => Cert.Ffn.arr7 m c, fun c => Cert.Ffn.arr8 m c, fun c => Cert.Ffn.arr9 m c,
    fun c => Cert.Ffn.arr10 m c, fun c => Cert.Ffn.arr11 m c, fun c => Cert.Ffn.arr12 m c, ?_, ?_⟩
  · refine (θ_run Cert.Kernel2Ideal.defs _ _).mono (fun r h c => ?_) (Cert.Kernel2Ideal.Value.run_blocks (F := Ideal) m ρ)
    obtain ⟨h6, h7, h8, h9, h10, h11, h12, hk⟩ := h c
    exact ⟨h6.trans (Cert.Ffn.final6 m c), h7.trans (Cert.Ffn.final7 m c), h8.trans (Cert.Ffn.final8 m c), h9.trans (Cert.Ffn.final9 m c),
      h10.trans (Cert.Ffn.final10 m c), h11.trans (Cert.Ffn.final11 m c), h12.trans (Cert.Ffn.final12 m c), hk⟩
  · refine (θ_run Cert.Reference2Ideal.defs _ _).mono (fun r h c => ?_) (Cert.Reference2Ideal.Value.run (F := Ideal) m' ρ')
    obtain ⟨h6, h7, h8, h9, h10, h11, h12, hk⟩ := h c
    have E := same2 m c m' (hm c)
    have H := Cert.Ffn.allRe m c hp
    exact ⟨h6.trans (Cert.Ffn.eq6 E H), h7.trans (Cert.Ffn.eq7 E), h8.trans (Cert.Ffn.eq8 E H), h9.trans (Cert.Ffn.eq9 E),
      h10.trans (Cert.Ffn.eq10 E), h11.trans (Cert.Ffn.eq11 E), h12.trans (Cert.Ffn.eq12 E H), hk⟩

theorem values3 : Cert.algebraic_Kernel3Ideal_Reference3Ideal (hKernel3Ideal := Cert.Kernel3Ideal.Gen.facts)
    (hReference3Ideal := Cert.Reference3Ideal.Gen.facts) := by
  intro m ρ m' ρ' hp hm
  refine ⟨fun c => Cert.Dw3.arr (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run Cert.Kernel3Ideal.defs _ _).mono (fun r h c =>
      ⟨(h c).1.trans (Cert.Dw3.final m c), (h c).2⟩) (Cert.Kernel3Ideal.Value.run_blocks (F := Ideal) m ρ)
  · refine (θ_run Cert.Reference3Ideal.defs _ _).mono (fun r h c => ⟨?_, (h c).2⟩)
      (Cert.Reference3Ideal.Value.run (F := Ideal) m' ρ')
    refine (h c).1.trans ((Cert.Dw3.ref _ _).trans ?_)
    rw [(hm c).1, (hm c).2]

theorem values4 : Cert.algebraic_Kernel4Ideal_Reference4Ideal (hKernel4Ideal := Cert.Kernel4Ideal.Gen.facts)
    (hReference4Ideal := Cert.Reference4Ideal.Gen.facts) := by
  intro m ρ m' ρ' hp hm
  refine ⟨fun c => Cert.Dw4.arr (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact (θ_run Cert.Kernel4Ideal.defs _ _).mono (fun r h c =>
      ⟨(h c).1.trans (Cert.Dw4.final m c), (h c).2⟩) (Cert.Kernel4Ideal.Value.run_blocks (F := Ideal) m ρ)
  · refine (θ_run Cert.Reference4Ideal.defs _ _).mono (fun r h c => ⟨?_, (h c).2⟩)
      (Cert.Reference4Ideal.Value.run (F := Ideal) m' ρ')
    refine (h c).1.trans ((Cert.Dw4.ref _ _).trans ?_)
    rw [(hm c).1, (hm c).2]

theorem values5 : Cert.algebraic_Kernel5Ideal_Reference5Ideal (hKernel5Ideal := Cert.Kernel5Ideal.Gen.facts)
    (hReference5Ideal := Cert.Reference5Ideal.Gen.facts) := by
  intro m ρ m' ρ' hp hm
  refine ⟨fun c => Cert.Dw5.arr (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run Cert.Kernel5Ideal.defs _ _).mono (fun r h c =>
      ⟨(h c).1.trans (Cert.Dw5.final m c), (h c).2⟩) (Cert.Kernel5Ideal.Value.run_blocks (F := Ideal) m ρ)
  · refine (θ_run Cert.Reference5Ideal.defs _ _).mono (fun r h c => ⟨?_, (h c).2⟩)
      (Cert.Reference5Ideal.Value.run (F := Ideal) m' ρ')
    refine (h c).1.trans ((Cert.Dw5.ref _ _).trans ?_)
    rw [(hm c).1, (hm c).2]

theorem values6 : Cert.algebraic_Kernel6Ideal_Reference6Ideal (hKernel6Ideal := Cert.Kernel6Ideal.Gen.facts)
    (hReference6Ideal := Cert.Reference6Ideal.Gen.facts) := by
  intro m ρ m' ρ' hp hm
  refine ⟨fun c => Cert.Dw6.arr (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · exact (θ_run Cert.Kernel6Ideal.defs _ _).mono (fun r h c =>
      ⟨(h c).1.trans (Cert.Dw6.final m c), (h c).2⟩) (Cert.Kernel6Ideal.Value.run_blocks (F := Ideal) m ρ)
  · refine (θ_run Cert.Reference6Ideal.defs _ _).mono (fun r h c => ⟨?_, (h c).2⟩)
      (Cert.Reference6Ideal.Value.run (F := Ideal) m' ρ')
    refine (h c).1.trans ((Cert.Dw6.ref _ _).trans ?_)
    rw [(hm c).1, (hm c).2]

theorem values7 : Cert.algebraic_Kernel7Ideal_Reference7Ideal (hKernel7Ideal := Cert.Kernel7Ideal.Gen.facts)
    (hReference7Ideal := Cert.Reference7Ideal.Gen.facts) := by
  intro m ρ m' ρ' hp hm
  refine ⟨fun c => Cert.Dw7.arr (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · exact (θ_run Cert.Kernel7Ideal.defs _ _).mono (fun r h c =>
      ⟨(h c).1.trans (Cert.Dw7.final m c), (h c).2⟩) (Cert.Kernel7Ideal.Value.run_blocks (F := Ideal) m ρ)
  · refine (θ_run Cert.Reference7Ideal.defs _ _).mono (fun r h c => ⟨?_, (h c).2⟩)
      (Cert.Reference7Ideal.Value.run (F := Ideal) m' ρ')
    refine (h c).1.trans ((Cert.Dw7.ref _ _).trans ?_)
    rw [(hm c).1, (hm c).2]

theorem values8 : Cert.algebraic_Kernel8Ideal_Reference8Ideal (hKernel8Ideal := Cert.Kernel8Ideal.Gen.facts)
    (hReference8Ideal := Cert.Reference8Ideal.Gen.facts) := by
  intro m ρ m' ρ' hp hm
  refine ⟨fun c => Cert.Dw8.arr (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), ?_, ?_⟩
  · exact (θ_run Cert.Kernel8Ideal.defs _ _).mono (fun r h c =>
      ⟨(h c).1.trans (Cert.Dw8.final m c), (h c).2⟩) (Cert.Kernel8Ideal.Value.run_blocks (F := Ideal) m ρ)
  · refine (θ_run Cert.Reference8Ideal.defs _ _).mono (fun r h c => ⟨?_, (h c).2⟩)
      (Cert.Reference8Ideal.Value.run (F := Ideal) m' ρ')
    refine (h c).1.trans ((Cert.Dw8.ref _ _).trans ?_)
    rw [(hm c).1, (hm c).2]

theorem values10 : Cert.algebraic_Kernel10Ideal_Reference10Ideal (hKernel10Ideal := Cert.Kernel10Ideal.Gen.facts)
    (hReference10Ideal := Cert.Reference10Ideal.Gen.facts) := by
  intro m ρ m' ρ' hp hm
  refine ⟨fun c => Cert.Mix.Fwd.arrK m c, ?_, ?_⟩
  · exact (θ_run Cert.Kernel10Ideal.defs _ _).mono (fun r h c =>
      ⟨(h c).1.trans (Cert.Mix.Fwd.final m c), (h c).2⟩) (Cert.Kernel10Ideal.Value.run_blocks (F := Ideal) m ρ)
  · refine (θ_run Cert.Reference10Ideal.defs _ _).mono (fun r h c => ⟨?_, (h c).2⟩)
      (Cert.Reference10Ideal.Value.run (F := Ideal) m' ρ')
    refine (h c).1.trans ((Cert.Mix.Fwd.ref _ _ _ _ _ _ _ _ _ _).trans ?_)
    obtain ⟨h0, h1, h2, h3, h4, h5, h6, h7, h8, h9⟩ := hm c
    rw [h0, h1, h2, h3, h4, h5, h6, h7, h8, h9]
    rfl

/-- The side conditions the mixer's precondition's test states. -/
theorem pre_facts9 : Cert.Pre_finite9.Facts where
  bcast_S_S4224x1024 := by decide
  bitsLt_bf16_f32 := by decide
  bcast_S_S1024x1024 := by decide

theorem values9 : Cert.algebraic_Kernel9Ideal_Reference9Ideal_pre_finite9 (hKernel9Ideal := Cert.Kernel9Ideal.Gen.facts)
    (hReference9Ideal := Cert.Reference9Ideal.Gen.facts) (hPre_finite9 := pre_facts9) := by
  intro m ρ m' ρ' hp hm
  haveI := pre_facts9
  refine ⟨fun c => Cert.Mix.Bwd.arr10 m c, fun c => Cert.Mix.Bwd.arr11 m c, fun c => Cert.Mix.Bwd.arr12 m c, fun c => Cert.Mix.Bwd.arr13 m c, fun c => Cert.Mix.Bwd.arr14 m c, fun c => Cert.Mix.Bwd.arr15 m c, fun c => Cert.Mix.Bwd.arr16 m c, fun c => Cert.Mix.Bwd.arr17 m c, fun c => Cert.Mix.Bwd.arr18 m c, fun c => Cert.Mix.Bwd.arr19 m c, ?_, ?_⟩
  · refine (θ_run Cert.Kernel9Ideal.defs _ _).mono (fun r h c => ?_) (Cert.Kernel9Ideal.Value.run_blocks (F := Ideal) m ρ)
    obtain ⟨h10, h11, h12, h13, h14, h15, h16, h17, h18, h19, hk⟩ := h c
    obtain ⟨p0, p1, p7, p9⟩ := hp c
    have fin := fun i g => Cert.Mix.Bwd.IsRe.ne (Cert.Mix.Bwd.delta_re _ _ (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) _ (m ((c.tc : Thread Cert.Kernel9Ideal.nD Cert.Kernel9Ideal.τ).loc Cert.Kernel9Ideal.main_arg8)) _
      (Cert.Mix.Bwd.fin0 _ _ _ _ _ _ _ _ _ _ p0) (Cert.Mix.Bwd.fin1 _ _ _ _ _ _ _ _ _ _ p1) (Cert.Mix.Bwd.fin7 _ _ _ _ _ _ _ _ _ _ p7) (Cert.Mix.Bwd.fin9 _ _ _ _ _ _ _ _ _ _ p9) i g)
    exact ⟨h10.trans (Cert.Mix.Bwd.final10 m c fin), h11.trans (Cert.Mix.Bwd.final11 m c), h12.trans (Cert.Mix.Bwd.final12 m c), h13.trans (Cert.Mix.Bwd.final13 m c), h14.trans (Cert.Mix.Bwd.final14 m c), h15.trans (Cert.Mix.Bwd.final15 m c), h16.trans (Cert.Mix.Bwd.final16 m c), h17.trans (Cert.Mix.Bwd.final17 m c), h18.trans (Cert.Mix.Bwd.final18 m c), h19.trans (Cert.Mix.Bwd.final19 m c), hk⟩
  · refine (θ_run Cert.Reference9Ideal.defs _ _).mono (fun r h c => ?_) (Cert.Reference9Ideal.Value.run (F := Ideal) m' ρ')
    obtain ⟨h10, h11, h12, h13, h14, h15, h16, h17, h18, h19, hk⟩ := h c
    obtain ⟨e0, e1, e2, e3, e4, e5, e6, e7, e8, e9⟩ := hm c
    refine ⟨h10.trans ((Cert.Mix.Bwd.w10 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h11.trans ((Cert.Mix.Bwd.w11 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h12.trans ((Cert.Mix.Bwd.w12 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h13.trans ((Cert.Mix.Bwd.w13 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h14.trans ((Cert.Mix.Bwd.w14 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h15.trans ((Cert.Mix.Bwd.w15 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h16.trans ((Cert.Mix.Bwd.w16 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h17.trans ((Cert.Mix.Bwd.w17 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h18.trans ((Cert.Mix.Bwd.w18 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_),
      h19.trans ((Cert.Mix.Bwd.w19 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9))).trans ?_), hk⟩
    all_goals
      rw [e0, e1, e2, e3, e4, e5, e6, e7, e8, e9]
      rfl

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  pre_facts,
  pre_facts2,
  pre_facts9,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel2.Gen.frame m ρ,
  fun m ρ _ => Cert.Kernel2Ideal.Gen.frame m ρ,
  fun m ρ _ => Cert.Kernel2Ideal.Gen.frame m ρ,
  frame_ref2,
  fun m ρ _ => frame_ref2 m ρ trivial,
  fun m ρ _ => Cert.Kernel3.Gen.frame m ρ,
  fun m ρ _ => Cert.Kernel3Ideal.Gen.frame m ρ,
  frame_ref3,
  fun m ρ _ => Cert.Kernel4.Gen.frame m ρ,
  fun m ρ _ => Cert.Kernel4Ideal.Gen.frame m ρ,
  frame_ref4,
  fun m ρ _ => Cert.Kernel5.Gen.frame m ρ,
  fun m ρ _ => Cert.Kernel5Ideal.Gen.frame m ρ,
  frame_ref5,
  fun m ρ _ => Cert.Kernel6.Gen.frame m ρ,
  fun m ρ _ => Cert.Kernel6Ideal.Gen.frame m ρ,
  frame_ref6,
  fun m ρ _ => Cert.Kernel7.Gen.frame m ρ,
  fun m ρ _ => Cert.Kernel7Ideal.Gen.frame m ρ,
  frame_ref7,
  fun m ρ _ => Cert.Kernel8.Gen.frame m ρ,
  fun m ρ _ => Cert.Kernel8Ideal.Gen.frame m ρ,
  frame_ref8,
  fun m ρ _ => Cert.Kernel9.Gen.frame m ρ,
  fun m ρ _ => Cert.Kernel9Ideal.Gen.frame m ρ,
  fun m ρ _ => Cert.Kernel9Ideal.Gen.frame m ρ,
  frame_ref9,
  fun m ρ _ => frame_ref9 m ρ trivial,
  fun m ρ _ => Cert.Kernel10.Gen.frame m ρ,
  fun m ρ _ => Cert.Kernel10Ideal.Gen.frame m ρ,
  frame_ref10,
  trivial,
  values,
  trivial,
  values2,
  trivial,
  values3,
  trivial,
  values4,
  trivial,
  values5,
  trivial,
  values6,
  trivial,
  values7,
  trivial,
  values8,
  trivial,
  values9,
  trivial,
  values10⟩

end Cert.Proof

end
